-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v72_0)) (v1 : (c : Dev Cert.KernelIdeal.nD) → Buf (Elt Ideal) ((c.tc : Thread Cert.KernelIdeal.nD Cert.KernelIdeal.τ).loc Cert.KernelIdeal.main_v72_1)) (v2 : (c : Dev Cert.KernelIdeal.nD) → Buf (Elt Ideal) ((c.tc : Thread Cert.KernelIdeal.nD Cert.KernelIdeal.τ).loc Cert.KernelIdeal.main_v72_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72_0) = v0 c
          ∧ r.2.mem ((c.tc : Thread Cert.KernelIdeal.nD Cert.KernelIdeal.τ).loc Cert.KernelIdeal.main_v72_1) = v1 c
          ∧ r.2.mem ((c.tc : Thread Cert.KernelIdeal.nD Cert.KernelIdeal.τ).loc Cert.KernelIdeal.main_v72_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_v147) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v27_0)) (v1 : (c : Dev Cert.Kernel2Ideal.nD) → Buf (Elt Ideal) ((c.tc : Thread Cert.Kernel2Ideal.nD Cert.Kernel2Ideal.τ).loc Cert.Kernel2Ideal.main_v27_1)) (v2 : (c : Dev Cert.Kernel2Ideal.nD) → Buf (Elt Ideal) ((c.tc : Thread Cert.Kernel2Ideal.nD Cert.Kernel2Ideal.τ).loc Cert.Kernel2Ideal.main_v27_2)) (v3 : (c : Dev Cert.Kernel2Ideal.nD) → Buf (Elt Ideal) ((c.tc : Thread Cert.Kernel2Ideal.nD Cert.Kernel2Ideal.τ).loc Cert.Kernel2Ideal.main_v27_3)) (v4 : (c : Dev Cert.Kernel2Ideal.nD) → Buf (Elt Ideal) ((c.tc : Thread Cert.Kernel2Ideal.nD Cert.Kernel2Ideal.τ).loc Cert.Kernel2Ideal.main_v27_4)) (v5 : (c : Dev Cert.Kernel2Ideal.nD) → Buf (Elt Ideal) ((c.tc : Thread Cert.Kernel2Ideal.nD Cert.Kernel2Ideal.τ).loc Cert.Kernel2Ideal.main_v27_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v27_0) = v0 c
          ∧ r.2.mem ((c.tc : Thread Cert.Kernel2Ideal.nD Cert.Kernel2Ideal.τ).loc Cert.Kernel2Ideal.main_v27_1) = v1 c
          ∧ r.2.mem ((c.tc : Thread Cert.Kernel2Ideal.nD Cert.Kernel2Ideal.τ).loc Cert.Kernel2Ideal.main_v27_2) = v2 c
          ∧ r.2.mem ((c.tc : Thread Cert.Kernel2Ideal.nD Cert.Kernel2Ideal.τ).loc Cert.Kernel2Ideal.main_v27_3) = v3 c
          ∧ r.2.mem ((c.tc : Thread Cert.Kernel2Ideal.nD Cert.Kernel2Ideal.τ).loc Cert.Kernel2Ideal.main_v27_4) = v4 c
          ∧ r.2.mem ((c.tc : Thread Cert.Kernel2Ideal.nD Cert.Kernel2Ideal.τ).loc Cert.Kernel2Ideal.main_v27_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v95) = v0 c
          ∧ r.2.mem ((c.tc : Thread Cert.Reference2Ideal.nD Cert.Reference2Ideal.τ).loc Cert.Reference2Ideal.main_v96) = v1 c
          ∧ r.2.mem ((c.tc : Thread Cert.Reference2Ideal.nD Cert.Reference2Ideal.τ).loc Cert.Reference2Ideal.main_v97) = v2 c
          ∧ r.2.mem ((c.tc : Thread Cert.Reference2Ideal.nD Cert.Reference2Ideal.τ).loc Cert.Reference2Ideal.main_v98) = v3 c
          ∧ r.2.mem ((c.tc : Thread Cert.Reference2Ideal.nD Cert.Reference2Ideal.τ).loc Cert.Reference2Ideal.main_v99) = v4 c
          ∧ r.2.mem ((c.tc : Thread Cert.Reference2Ideal.nD Cert.Reference2Ideal.τ).loc Cert.Reference2Ideal.main_v100) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)) (v2 : (c : Dev Cert.Kernel3Ideal.nD) → Buf (Elt Ideal) ((c.tc : Thread Cert.Kernel3Ideal.nD Cert.Kernel3Ideal.τ).loc Cert.Kernel3Ideal.main_v7_2)) (v3 : (c : Dev Cert.Kernel3Ideal.nD) → Buf (Elt Ideal) ((c.tc : Thread Cert.Kernel3Ideal.nD Cert.Kernel3Ideal.τ).loc Cert.Kernel3Ideal.main_v7_3)) (v4 : (c : Dev Cert.Kernel3Ideal.nD) → Buf (Elt Ideal) ((c.tc : Thread Cert.Kernel3Ideal.nD Cert.Kernel3Ideal.τ).loc Cert.Kernel3Ideal.main_v7_4)) (v5 : (c : Dev Cert.Kernel3Ideal.nD) → Buf (Elt Ideal) ((c.tc : Thread Cert.Kernel3Ideal.nD Cert.Kernel3Ideal.τ).loc Cert.Kernel3Ideal.main_v7_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_v7_2) = v2 c
          ∧ r.2.mem ((c.tc : Thread Cert.Kernel3Ideal.nD Cert.Kernel3Ideal.τ).loc Cert.Kernel3Ideal.main_v7_3) = v3 c
          ∧ r.2.mem ((c.tc : Thread Cert.Kernel3Ideal.nD Cert.Kernel3Ideal.τ).loc Cert.Kernel3Ideal.main_v7_4) = v4 c
          ∧ r.2.mem ((c.tc : Thread Cert.Kernel3Ideal.nD Cert.Kernel3Ideal.τ).loc Cert.Kernel3Ideal.main_v7_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v37) = v0 c
          ∧ r.2.mem ((c.tc : Thread Cert.Reference3Ideal.nD Cert.Reference3Ideal.τ).loc Cert.Reference3Ideal.main_v38) = v1 c
          ∧ r.2.mem ((c.tc : Thread Cert.Reference3Ideal.nD Cert.Reference3Ideal.τ).loc Cert.Reference3Ideal.main_v39) = v2 c
          ∧ r.2.mem ((c.tc : Thread Cert.Reference3Ideal.nD Cert.Reference3Ideal.τ).loc Cert.Reference3Ideal.main_v40) = v3 c
          ∧ r.2.mem ((c.tc : Thread Cert.Reference3Ideal.nD Cert.Reference3Ideal.τ).loc Cert.Reference3Ideal.main_v41) = v4 c
          ∧ r.2.mem ((c.tc : Thread Cert.Reference3Ideal.nD Cert.Reference3Ideal.τ).loc Cert.Reference3Ideal.main_v21) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v43) = v0 c
          ∧ r.2.mem ((c.tc : Thread Cert.Reference7Ideal.nD Cert.Reference7Ideal.τ).loc Cert.Reference7Ideal.main_v44) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v7_0)) (v1 : (c : Dev Cert.Kernel8Ideal.nD) → Buf (Elt Ideal) ((c.tc : Thread Cert.Kernel8Ideal.nD Cert.Kernel8Ideal.τ).loc Cert.Kernel8Ideal.main_v7_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v7_0) = v0 c
          ∧ r.2.mem ((c.tc : Thread Cert.Kernel8Ideal.nD Cert.Kernel8Ideal.τ).loc Cert.Kernel8Ideal.main_v7_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v49) = v0 c
          ∧ r.2.mem ((c.tc : Thread Cert.Reference8Ideal.nD Cert.Reference8Ideal.τ).loc Cert.Reference8Ideal.main_v50) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v3_0)) (v1 : (c : Dev Cert.Kernel14Ideal.nD) → Buf (Elt Ideal) ((c.tc : Thread Cert.Kernel14Ideal.nD Cert.Kernel14Ideal.τ).loc Cert.Kernel14Ideal.main_v3_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3_0) = v0 c
          ∧ r.2.mem ((c.tc : Thread Cert.Kernel14Ideal.nD Cert.Kernel14Ideal.τ).loc Cert.Kernel14Ideal.main_v3_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v13) = v0 c
          ∧ r.2.mem ((c.tc : Thread Cert.Reference14Ideal.nD Cert.Reference14Ideal.τ).loc Cert.Reference14Ideal.main_v15) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v3) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v3) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v12) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)) →
    ∃ (v0 : (c : Dev Cert.Kernel18Ideal.nD) → Buf (Elt Ideal) ((c.tc : Thread Cert.Kernel18Ideal.nD Cert.Kernel18Ideal.τ).loc Cert.Kernel18Ideal.main_v5)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v5) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v16) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)) →
    ∃ (v0 : (c : Dev Cert.Kernel12Ideal.nD) → Buf (Elt Ideal) ((c.tc : Thread Cert.Kernel12Ideal.nD Cert.Kernel12Ideal.τ).loc Cert.Kernel12Ideal.main_v7_0)) (v1 : (c : Dev Cert.Kernel12Ideal.nD) → Buf (Elt Ideal) ((c.tc : Thread Cert.Kernel12Ideal.nD Cert.Kernel12Ideal.τ).loc Cert.Kernel12Ideal.main_v7_1)) (v2 : (c : Dev Cert.Kernel12Ideal.nD) → Buf (Elt Ideal) ((c.tc : Thread Cert.Kernel12Ideal.nD Cert.Kernel12Ideal.τ).loc Cert.Kernel12Ideal.main_v7_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v7_0) = v0 c
          ∧ r.2.mem ((c.tc : Thread Cert.Kernel12Ideal.nD Cert.Kernel12Ideal.τ).loc Cert.Kernel12Ideal.main_v7_1) = v1 c
          ∧ r.2.mem ((c.tc : Thread Cert.Kernel12Ideal.nD Cert.Kernel12Ideal.τ).loc Cert.Kernel12Ideal.main_v7_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v40) = v0 c
          ∧ r.2.mem ((c.tc : Thread Cert.Reference12Ideal.nD Cert.Reference12Ideal.τ).loc Cert.Reference12Ideal.main_v41) = v1 c
          ∧ r.2.mem ((c.tc : Thread Cert.Reference12Ideal.nD Cert.Reference12Ideal.τ).loc Cert.Reference12Ideal.main_v26) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)) →
    ∃ (v0 : (c : Dev Cert.Kernel13Ideal.nD) → Buf (Elt Ideal) ((c.tc : Thread Cert.Kernel13Ideal.nD Cert.Kernel13Ideal.τ).loc Cert.Kernel13Ideal.main_v7_0)) (v1 : (c : Dev Cert.Kernel13Ideal.nD) → Buf (Elt Ideal) ((c.tc : Thread Cert.Kernel13Ideal.nD Cert.Kernel13Ideal.τ).loc Cert.Kernel13Ideal.main_v7_1)) (v2 : (c : Dev Cert.Kernel13Ideal.nD) → Buf (Elt Ideal) ((c.tc : Thread Cert.Kernel13Ideal.nD Cert.Kernel13Ideal.τ).loc Cert.Kernel13Ideal.main_v7_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v7_0) = v0 c
          ∧ r.2.mem ((c.tc : Thread Cert.Kernel13Ideal.nD Cert.Kernel13Ideal.τ).loc Cert.Kernel13Ideal.main_v7_1) = v1 c
          ∧ r.2.mem ((c.tc : Thread Cert.Kernel13Ideal.nD Cert.Kernel13Ideal.τ).loc Cert.Kernel13Ideal.main_v7_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v39) = v0 c
          ∧ r.2.mem ((c.tc : Thread Cert.Reference13Ideal.nD Cert.Reference13Ideal.τ).loc Cert.Reference13Ideal.main_v40) = v1 c
          ∧ r.2.mem ((c.tc : Thread Cert.Reference13Ideal.nD Cert.Reference13Ideal.τ).loc Cert.Reference13Ideal.main_v25) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v17_0)) (v1 : (c : Dev Cert.Kernel11Ideal.nD) → Buf (Elt Ideal) ((c.tc : Thread Cert.Kernel11Ideal.nD Cert.Kernel11Ideal.τ).loc Cert.Kernel11Ideal.main_v17_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v17_0) = v0 c
          ∧ r.2.mem ((c.tc : Thread Cert.Kernel11Ideal.nD Cert.Kernel11Ideal.τ).loc Cert.Kernel11Ideal.main_v17_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v27) = v0 c
          ∧ r.2.mem ((c.tc : Thread Cert.Reference11Ideal.nD Cert.Reference11Ideal.τ).loc Cert.Reference11Ideal.main_v28) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v3_0)) (v1 : (c : Dev Cert.Kernel15Ideal.nD) → Buf (Elt Ideal) ((c.tc : Thread Cert.Kernel15Ideal.nD Cert.Kernel15Ideal.τ).loc Cert.Kernel15Ideal.main_v3_1)) (v2 : (c : Dev Cert.Kernel15Ideal.nD) → Buf (Elt Ideal) ((c.tc : Thread Cert.Kernel15Ideal.nD Cert.Kernel15Ideal.τ).loc Cert.Kernel15Ideal.main_v3_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v3_0) = v0 c
          ∧ r.2.mem ((c.tc : Thread Cert.Kernel15Ideal.nD Cert.Kernel15Ideal.τ).loc Cert.Kernel15Ideal.main_v3_1) = v1 c
          ∧ r.2.mem ((c.tc : Thread Cert.Kernel15Ideal.nD Cert.Kernel15Ideal.τ).loc Cert.Kernel15Ideal.main_v3_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v14) = v0 c
          ∧ r.2.mem ((c.tc : Thread Cert.Reference15Ideal.nD Cert.Reference15Ideal.τ).loc Cert.Reference15Ideal.main_v16) = v1 c
          ∧ r.2.mem ((c.tc : Thread Cert.Reference15Ideal.nD Cert.Reference15Ideal.τ).loc Cert.Reference15Ideal.main_v18) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel14 : Cert.Kernel14.Facts) (hKernel14Ideal : Cert.Kernel14Ideal.Facts) (hReference14Ideal : Cert.Reference14Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel11 : Cert.Kernel11.Facts) (hKernel11Ideal : Cert.Kernel11Ideal.Facts) (hReference11Ideal : Cert.Reference11Ideal.Facts) (hKernel15 : Cert.Kernel15.Facts) (hKernel15Ideal : Cert.Kernel15Ideal.Facts) (hReference15Ideal : Cert.Reference15Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel14_Kernel14Ideal
    ∧ algebraic_Kernel14Ideal_Reference14Ideal (hKernel14Ideal := hKernel14Ideal) (hReference14Ideal := hReference14Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel11_Kernel11Ideal
    ∧ algebraic_Kernel11Ideal_Reference11Ideal (hKernel11Ideal := hKernel11Ideal) (hReference11Ideal := hReference11Ideal)
    ∧ preserves_Kernel15_Kernel15Ideal
    ∧ algebraic_Kernel15Ideal_Reference15Ideal (hKernel15Ideal := hKernel15Ideal) (hReference15Ideal := hReference15Ideal)
-- ==== Pre_finite.lean ====
abbrev S1x8192x512 : Shape := ⟨3, ![1, 8192, 512]⟩
abbrev S4x128x128 : Shape := ⟨3, ![4, 128, 128]⟩
abbrev S512 : Shape := ⟨1, ![512]⟩
abbrev S_ : Shape := ⟨0, ![]⟩

class Facts : Prop where
  bcast_S_S4x128x128 : S_.BroadcastsInDim S4x128x128 (![] : Fin 0 → Fin S4x128x128.rank)
  reducesTo_S4x128x128_S_d0_1_2 : S4x128x128.ReducesTo [0, 1, 2] S_
  h_S_ : 0 < S_.numel
  bcast_S_S512 : S_.BroadcastsInDim S512 (![] : Fin 0 → Fin S512.rank)
  reducesTo_S512_S_d0 : S512.ReducesTo [0] S_
  bcast_S_S1x8192x512 : S_.BroadcastsInDim S1x8192x512 (![] : Fin 0 → Fin S1x8192x512.rank)
  reducesTo_S1x8192x512_S_d0_1_2 : S1x8192x512.ReducesTo [0, 1, 2] S_

variable [Facts]

def fn {F : FTy → Type} [FloatOps F] (main_arg0 : FVec F S1x8192x512 .f32) (main_arg1 : FVec F S4x128x128 .f32) (main_arg2 : FVec F S512 .f32) (main_arg3 : FVec F S1x8192x512 .f32) : IVec S_ 1 :=
  let main_v0 : FVec F S4x128x128 .f32 := Host.absf main_arg1
  let main_cst : FVec F S_ .f32 := constant S_ .f32 0x7F800000#32
  let main_v1 : FVec F S4x128x128 .f32 := broadcastInDim S4x128x128 ![] bcast_S_S4x128x128 main_cst
  let main_v2 : IVec S4x128x128 1 := cmpf .olt main_v0 main_v1
  let main_c : IVec S_ 1 := constantI S_ 1 1#1
  let main_v3 : IVec S_ 1 := (fun x v => Host.reduce IntOp.andi x v reducesTo_S4x128x128_S_d0_1_2 h_S_) main_v2 main_c
  let main_v4 : FVec F S512 .f32 := Host.absf main_arg2
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S1x8192x512 .f32 := Host.absf main_arg3
  let main_cst_2 : FVec F S_ .f32 := constant S_ .f32 0x7F800000#32
  let main_v10 : FVec F S1x8192x512 .f32 := broadcastInDim S1x8192x512 ![] bcast_S_S1x8192x512 main_cst_2
  let main_v11 : IVec S1x8192x512 1 := cmpf .olt main_v9 main_v10
  let main_c_3 : IVec S_ 1 := constantI S_ 1 1#1
  let main_v12 : IVec S_ 1 := (fun x v => Host.reduce IntOp.andi x v reducesTo_S1x8192x512_S_d0_1_2 h_S_) main_v11 main_c_3
  let main_v13 : IVec S_ 1 := andi main_v8 main_v12
  main_v13
-- ==== Pre_finite2.lean ====
abbrev S8192x1024 : Shape := ⟨2, ![8192, 1024]⟩
abbrev S1024 : Shape := ⟨1, ![1024]⟩
abbrev S1024x2048 : Shape := ⟨2, ![1024, 2048]⟩
abbrev S2048x1024 : Shape := ⟨2, ![2048, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2048 : S_.BroadcastsInDim S1024x2048 (![] : Fin 0 → Fin S1024x2048.rank)
  reducesTo_S1024x2048_S_d0_1 : S1024x2048.ReducesTo [0, 1] S_
  bcast_S_S2048x1024 : S_.BroadcastsInDim S2048x1024 (![] : Fin 0 → Fin S2048x1024.rank)
  reducesTo_S2048x1024_S_d0_1 : S2048x1024.ReducesTo [0, 1] S_

variable [Facts]

def fn_part1 {F : FTy → Type} [FloatOps F] (main_arg4 : FVec F S1024x2048 .f32) (main_arg5 : FVec F S2048x1024 .f32) (main_arg6 : FVec F S8192x1024 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S1024x2048 .f32 := Host.absf main_arg4
  let main_cst_6 : FVec F S_ .f32 := constant S_ .f32 0x7F800000#32
  let main_v20 : FVec F S1024x2048 .f32 := broadcastInDim S1024x2048 ![] bcast_S_S1024x2048 main_cst_6
  let main_v21 : IVec S1024x2048 1 := cmpf .olt main_v19 main_v20
  let main_c_7 : IVec S_ 1 := constantI S_ 1 1#1
  let main_v22 : IVec S_ 1 := (fun x v => Host.reduce IntOp.andi x v reducesTo_S1024x2048_S_d0_1 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S8192x1024 .f32 := Host.absf main_arg6
  let main_cst_10 : FVec F S_ .f32 := constant S_ .f32 0x7F800000#32
  let main_v30 : FVec F S8192x1024 .f32 := broadcastInDim S8192x1024 ![] bcast_S_S8192x1024 main_cst_10
  let main_v31 : IVec S8192x1024 1 := cmpf .olt main_v29 main_v30
  let main_c_11 : IVec S_ 1 := constantI S_ 1 1#1
  let main_v32 : IVec S_ 1 := (fun x v => Host.reduce IntOp.andi x v reducesTo_S8192x1024_S_d0_1 h_S_) main_v31 main_c_11
  let main_v33 : IVec S_ 1 := andi main_v28 main_v32
  main_v33

def fn {F : FTy → Type} [FloatOps F] (main_arg0 : FVec F S8192x1024 .f32) (main_arg1 : FVec F S1024 .f32) (main_arg2 : FVec F S1024 .f32) (main_arg3 : FVec F S1024x2048 .f32) (main_arg4 : FVec F S1024x2048 .f32) (main_arg5 : FVec F S2048x1024 .f32) (main_arg6 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_arg5 main_arg6 main_v13 main_v16
-- ==== Kernel.lean ====
abbrev S1x8192x512 : Shape := ⟨3, ![1, 8192, 512]⟩
abbrev S4x128x128 : Shape := ⟨3, ![4, 128, 128]⟩
abbrev S512 : Shape := ⟨1, ![512]⟩
abbrev S_ : Shape := ⟨0, ![]⟩
abbrev S8192 : Shape := ⟨1, ![8192]⟩
abbrev S1x8192x128 : Shape := ⟨3, ![1, 8192, 128]⟩
abbrev S1x2x128 : Shape := ⟨3, ![1, 2, 128]⟩
abbrev S1x8190x128 : Shape := ⟨3, ![1, 8190, 128]⟩
abbrev S1x8192x1 : Shape := ⟨3, ![1, 8192, 1]⟩
abbrev S1x4x128 : Shape := ⟨3, ![1, 4, 128]⟩
abbrev S1x8188x128 : Shape := ⟨3, ![1, 8188, 128]⟩
abbrev S1x8x128 : Shape := ⟨3, ![1, 8, 128]⟩
abbrev S1x8184x128 : Shape := ⟨3, ![1, 8184, 128]⟩
abbrev S1x16x128 : Shape := ⟨3, ![1, 16, 128]⟩
abbrev S1x8176x128 : Shape := ⟨3, ![1, 8176, 128]⟩
abbrev S1x8192x1x128 : Shape := ⟨4, ![1, 8192, 1, 128]⟩
abbrev S1x8192x4x128 : Shape := ⟨4, ![1, 8192, 4, 128]⟩
abbrev S8192x512 : Shape := ⟨2, ![8192, 512]⟩
abbrev S1x512 : Shape := ⟨2, ![1, 512]⟩
abbrev S512x512 : Shape := ⟨2, ![512, 512]⟩
abbrev S528x512 : Shape := ⟨2, ![528, 512]⟩
abbrev S512x1 : Shape := ⟨2, ![512, 1]⟩
abbrev S16x512 : Shape := ⟨2, ![16, 512]⟩
abbrev S512x128 : Shape := ⟨2, ![512, 128]⟩
abbrev S1x128x128 : Shape := ⟨3, ![1, 128, 128]⟩
abbrev S128x128 : Shape := ⟨2, ![128, 128]⟩
abbrev S128 : Shape := ⟨1, ![128]⟩
abbrev S1x128 : Shape := ⟨2, ![1, 128]⟩

abbrev nBuf : Space → Nat
  | .hbm => 93
  | .vmem => 11
  | .smem => 0
  | _ => 0

abbrev bufTy : (tb : Table) → Fin (tcTables nBuf tb) → BufTy
  | .hbm, ⟨0, _⟩ => ⟨S1x8192x512, .f32⟩
  | .hbm, ⟨1, _⟩ => ⟨S4x128x128, .f32⟩
  | .hbm, ⟨2, _⟩ => ⟨S512, .f32⟩
  | .hbm, ⟨3, _⟩ => ⟨S1x8192x512, .f32⟩
  | .hbm, ⟨4, _⟩ => ⟨S_, .f32⟩
  | .hbm, ⟨5, _⟩ => ⟨S_, .f32⟩
  | .hbm, ⟨6, _⟩ => ⟨S1x8192x512, .f32⟩
  | .hbm, ⟨7, _⟩ => ⟨S8192, .i32⟩
  | .hbm, ⟨8, _⟩ => ⟨S1x8192x128, .f32⟩
  | .hbm, ⟨9, _⟩ => ⟨S_, .f32⟩
  | .hbm, ⟨10, _⟩ => ⟨S1x2x128, .f32⟩
  | .hbm, ⟨11, _⟩ => ⟨S1x8190x128, .f32⟩
  | .hbm, ⟨12, _⟩ => ⟨S1x8192x128, .f32⟩
  | .hbm, ⟨13, _⟩ => ⟨S_, .i32⟩
  | .hbm, ⟨14, _⟩ => ⟨S8192, .i32⟩
  | .hbm, ⟨15, _⟩ => ⟨S8192, .i32⟩
  | .hbm, ⟨16, _⟩ => ⟨S_, .i32⟩
  | .hbm, ⟨17, _⟩ => ⟨S8192, .i32⟩
  | .hbm, ⟨18, _⟩ => ⟨S8192, .i32⟩
  | .hbm, ⟨19, _⟩ => ⟨S8192, .f32⟩
  | .hbm, ⟨20, _⟩ => ⟨S1x8192x1, .f32⟩
  | .hbm, ⟨21, _⟩ => ⟨S1x8192x128, .f32⟩
  | .hbm, ⟨22, _⟩ => ⟨S1x8192x128, .f32⟩
  | .hbm, ⟨23, _⟩ => ⟨S1x8192x128, .f32⟩
  | .hbm, ⟨24, _⟩ => ⟨S1x8192x128, .f32⟩
  | .hbm, ⟨25, _⟩ => ⟨S1x8192x128, .f32⟩
  | .hbm, ⟨26, _⟩ => ⟨S1x8192x128, .f32⟩
  | .hbm, ⟨27, _⟩ => ⟨S_, .f32⟩
  | .hbm, ⟨28, _⟩ => ⟨S1x4x128, .f32⟩
  | .hbm, ⟨29, _⟩ => ⟨S1x8188x128, .f32⟩
  | .hbm, ⟨30, _⟩ => ⟨S1x8192x128, .f32⟩
  | .hbm, ⟨31, _⟩ => ⟨S_, .i32⟩
  | .hbm, ⟨32, _⟩ => ⟨S8192, .i32⟩
  | .hbm, ⟨33, _⟩ => ⟨S8192, .i32⟩
  | .hbm, ⟨34, _⟩ => ⟨S_, .i32⟩
  | .hbm, ⟨35, _⟩ => ⟨S8192, .i32⟩
  | .hbm, ⟨36, _⟩ => ⟨S8192, .i32⟩
  | .hbm, ⟨37, _⟩ => ⟨S8192, .f32⟩
  | .hbm, ⟨38, _⟩ => ⟨S1x8192x1, .f32⟩
  | .hbm, ⟨39, _⟩ => ⟨S1x8192x128, .f32⟩
  | .hbm, ⟨40, _⟩ => ⟨S1x8192x128, .f32⟩
  | .hbm, ⟨41, _⟩ => ⟨S1x8192x128, .f32⟩
  | .hbm, ⟨42, _⟩ => ⟨S1x8192x128, .f32⟩
  | .hbm, ⟨43, _⟩ => ⟨S1x8192x128, .f32⟩
  | .hbm, ⟨44, _⟩ => ⟨S1x8192x128, .f32⟩
  | .hbm, ⟨45, _⟩ => ⟨S_, .f32⟩
  | .hbm, ⟨46, _⟩ => ⟨S1x8x128, .f32⟩
  | .hbm, ⟨47, _⟩ => ⟨S1x8184x128, .f32⟩
  | .hbm, ⟨48, _⟩ => ⟨S1x8192x128, .f32⟩
  | .hbm, ⟨49, _⟩ => ⟨S_, .i32⟩
  | .hbm, ⟨50, _⟩ => ⟨S8192, .i32⟩
  | .hbm, ⟨51, _⟩ => ⟨S8192, .i32⟩
  | .hbm, ⟨52, _⟩ => ⟨S_, .i32⟩
  | .hbm, ⟨53, _⟩ => ⟨S8192, .i32⟩
  | .hbm, ⟨54, _⟩ => ⟨S8192, .i32⟩
  | .hbm, ⟨55, _⟩ => ⟨S8192, .f32⟩
  | .hbm, ⟨56, _⟩ => ⟨S1x8192x1, .f32⟩
  | .hbm, ⟨57, _⟩ => ⟨S1x8192x128, .f32⟩
  | .hbm, ⟨58, _⟩ => ⟨S1x8192x128, .f32⟩
  | .hbm, ⟨59, _⟩ => ⟨S1x8192x128, .f32⟩
  | .hbm, ⟨60, _⟩ => ⟨S1x8192x128, .f32⟩
  | .hbm, ⟨61, _⟩ => ⟨S1x8192x128, .f32⟩
  | .hbm, ⟨62, _⟩ => ⟨S1x8192x128, .f32⟩
  | .hbm, ⟨63, _⟩ => ⟨S_, .f32⟩
  | .hbm, ⟨64, _⟩ => ⟨S1x16x128, .f32⟩
  | .hbm, ⟨65, _⟩ => ⟨S1x8176x128, .f32⟩
  | .hbm, ⟨66, _⟩ => ⟨S1x8192x128, .f32⟩
  | .hbm, ⟨67, _⟩ => ⟨S_, .i32⟩
  | .hbm, ⟨68, _⟩ => ⟨S8192, .i32⟩
  | .hbm, ⟨69, _⟩ => ⟨S8192, .i32⟩
  | .hbm, ⟨70, _⟩ => ⟨S_, .i32⟩
  | .hbm, ⟨71, _⟩ => ⟨S8192, .i32⟩
  | .hbm, ⟨72, _⟩ => ⟨S8192, .i32⟩
  | .hbm, ⟨73, _⟩ => ⟨S8192, .f32⟩
  | .hbm, ⟨74, _⟩ => ⟨S1x8192x1, .f32⟩
  | .hbm, ⟨75, _⟩ => ⟨S1x8192x128, .f32⟩
  | .hbm, ⟨76, _⟩ => ⟨S1x8192x128, .f32⟩
  | .hbm, ⟨77, _⟩ => ⟨S1x8192x128, .f32⟩
  | .hbm, ⟨78, _⟩ => ⟨S1x8192x128, .f32⟩
  | .hbm, ⟨79, _⟩ => ⟨S1x8192x128, .f32⟩
  | .hbm, ⟨80, _⟩ => ⟨S1x8192x1x128, .f32⟩
  | .hbm, ⟨81, _⟩ => ⟨S1x8192x1x128, .f32⟩
  | .hbm, ⟨82, _⟩ => ⟨S1x8192x1x128, .f32⟩
  | .hbm, ⟨83, _⟩ => ⟨S1x8192x1x128, .f32⟩
  | .hbm, ⟨84, _⟩ => ⟨S1x8192x4x128, .f32⟩
  | .hbm, ⟨85, _⟩ => ⟨S8192x512, .f32⟩
  | .hbm, ⟨86, _⟩ => ⟨S8192x512, .f32⟩
  | .hbm, ⟨87, _⟩ => ⟨S8192x512, .bf16⟩
  | .hbm, ⟨88, _⟩ => ⟨S8192x512, .bf16⟩
  | .hbm, ⟨89, _⟩ => ⟨S1x512, .f32⟩
  | .hbm, ⟨90, _⟩ => ⟨S8192x512, .bf16⟩
  | .hbm, ⟨91, _⟩ => ⟨S4x128x128, .f32⟩
  | .hbm, ⟨92, _⟩ => ⟨S1x512, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S4x128x128, .f32⟩
  | .local _ .vmem, ⟨5, _⟩ => ⟨S1x512, .f32⟩
  | .local _ .vmem, ⟨6, _⟩ => ⟨S512x512, .bf16⟩
  | .local _ .vmem, ⟨7, _⟩ => ⟨S512x512, .bf16⟩
  | .local _ .vmem, ⟨8, _⟩ => ⟨S4x128x128, .f32⟩
  | .local _ .vmem, ⟨9, _⟩ => ⟨S1x512, .f32⟩
  | .local _ .vmem, ⟨10, _⟩ => ⟨S528x512, .f32⟩
  | _, _ => ⟨S1x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_cst : Ref sig .tc := ⟨.hbm, 4, rfl⟩
abbrev main_call0_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_2 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_5 : Ref sig .tc := ⟨.hbm, 49, rfl⟩
abbrev main_v36 : Ref sig .tc := ⟨.hbm, 50, rfl⟩
abbrev main_v37 : Ref sig .tc := ⟨.hbm, 51, rfl⟩
abbrev main_c_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_7 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_c_8 : Ref sig .tc := ⟨.hbm, 67, rfl⟩
abbrev main_v51 : Ref sig .tc := ⟨.hbm, 68, rfl⟩
abbrev main_v52 : Ref sig .tc := ⟨.hbm, 69, rfl⟩
abbrev main_c_9 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72_0 : Ref sig .tc := ⟨.hbm, 90, rfl⟩
abbrev main_v72_1 : Ref sig .tc := ⟨.hbm, 91, rfl⟩
abbrev main_v72_2 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v26 : BitVec 32 := Scalar.extui v0
  let c0_i32_12 : BitVec 32 := 0#32
  let v27 : BitVec 1 := Scalar.cmpi .ne v26 c0_i32_12
  v27

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v28 : BitVec 1 := Scalar.xori v0 v_true
  let v29 : BitVec 32 := Scalar.extui v28
  let c0_i32_14 : BitVec 32 := 0#32
  let v30 : BitVec 1 := Scalar.cmpi .ne v29 c0_i32_14
  v30

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let v66 : BitVec 32 := Scalar.extui v0
  let c0_i32_35 : BitVec 32 := 0#32
  let v67 : BitVec 1 := Scalar.cmpi .ne v66 c0_i32_35
  v67

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let true_36 : BitVec 1 := 1#1
  let v68 : BitVec 1 := Scalar.xori v0 true_36
  let v69 : BitVec 32 := Scalar.extui v68
  let c0_i32_38 : BitVec 32 := 0#32
  let v70 : BitVec 1 := Scalar.cmpi .ne v69 c0_i32_38
  v70

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let v110 : BitVec 32 := Scalar.extui v0
  let c0_i32_63 : BitVec 32 := 0#32
  let v111 : BitVec 1 := Scalar.cmpi .ne v110 c0_i32_63
  v111

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let true_64 : BitVec 1 := 1#1
  let v112 : BitVec 1 := Scalar.xori v0 true_64
  let v113 : BitVec 32 := Scalar.extui v112
  let c0_i32_66 : BitVec 32 := 0#32
  let v114 : BitVec 1 := Scalar.cmpi .ne v113 c0_i32_66
  v114

def k0_cond8 (i : grid0.Coords) : BitVec 1 :=
  let arg0 : BitVec 32 := BitVec.ofNat 32 (i 0).val
  let c0_i32 : BitVec 32 := 0#32
  let v0 : BitVec 1 := Scalar.cmpi .eq arg0 c0_i32
  let v162 : BitVec 32 := Scalar.extui v0
  let c0_i32_96 : BitVec 32 := 0#32
  let v163 : BitVec 1 := Scalar.cmpi .ne v162 c0_i32_96
  v163

def k0_cond9 (i : grid0.Coords) : BitVec 1 :=
  let arg0 : BitVec 32 := BitVec.ofNat 32 (i 0).val
  let c0_i32 : BitVec 32 := 0#32
  let v0 : BitVec 1 := Scalar.cmpi .eq arg0 c0_i32
  let true_97 : BitVec 1 := 1#1
  let v164 : BitVec 1 := Scalar.xori v0 true_97
  let v165 : BitVec 32 := Scalar.extui v164
  let c0_i32_99 : BitVec 32 := 0#32
  let v166 : BitVec 1 := Scalar.cmpi .ne v165 c0_i32_99
  v166

def k0_cond10 (i : grid0.Coords) : BitVec 1 :=
  let arg0 : BitVec 32 := BitVec.ofNat 32 (i 0).val
  let c0_i32 : BitVec 32 := 0#32
  let v0 : BitVec 1 := Scalar.cmpi .eq arg0 c0_i32
  let v213 : BitVec 32 := Scalar.extui v0
  let c0_i32_130 : BitVec 32 := 0#32
  let v214 : BitVec 1 := Scalar.cmpi .ne v213 c0_i32_130
  v214

def k0_cond11 (i : grid0.Coords) : BitVec 1 :=
  let arg0 : BitVec 32 := BitVec.ofNat 32 (i 0).val
  let c0_i32 : BitVec 32 := 0#32
  let v0 : BitVec 1 := Scalar.cmpi .eq arg0 c0_i32
  let true_131 : BitVec 1 := 1#1
  let v215 : BitVec 1 := Scalar.xori v0 true_131
  let v216 : BitVec 32 := Scalar.extui v215
  let c0_i32_132 : BitVec 32 := 0#32
  let v217 : BitVec 1 := Scalar.cmpi .ne v216 c0_i32_132
  v217

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S1x8192x512 : Shape := ⟨3, ![1, 8192, 512]⟩
abbrev S4x128x128 : Shape := ⟨3, ![4, 128, 128]⟩
abbrev S512 : Shape := ⟨1, ![512]⟩
abbrev S_ : Shape := ⟨0, ![]⟩
abbrev S8192 : Shape := ⟨1, ![8192]⟩
abbrev S1x8192x128 : Shape := ⟨3, ![1, 8192, 128]⟩
abbrev S1x2x128 : Shape := ⟨3, ![1, 2, 128]⟩
abbrev S1x8190x128 : Shape := ⟨3, ![1, 8190, 128]⟩
abbrev S1x8192x1 : Shape := ⟨3, ![1, 8192, 1]⟩
abbrev S1x4x128 : Shape := ⟨3, ![1, 4, 128]⟩
abbrev S1x8188x128 : Shape := ⟨3, ![1, 8188, 128]⟩
abbrev S1x8x128 : Shape := ⟨3, ![1, 8, 128]⟩
abbrev S1x8184x128 : Shape := ⟨3, ![1, 8184, 128]⟩
abbrev S1x16x128 : Shape := ⟨3, ![1, 16, 128]⟩
abbrev S1x8176x128 : Shape := ⟨3, ![1, 8176, 128]⟩
abbrev S1x8192x1x128 : Shape := ⟨4, ![1, 8192, 1, 128]⟩
abbrev S1x8192x4x128 : Shape := ⟨4, ![1, 8192, 4, 128]⟩
abbrev S4x128x1x8192 : Shape := ⟨4, ![4, 128, 1, 8192]⟩
abbrev S1x1x512 : Shape := ⟨3, ![1, 1, 512]⟩
abbrev S1x512 : Shape := ⟨2, ![1, 512]⟩
abbrev S4x1x8192x128 : Shape := ⟨4, ![4, 1, 8192, 128]⟩
abbrev S8192x512 : Shape := ⟨2, ![8192, 512]⟩

abbrev nBuf : Space → Nat
  | .hbm => 186
  | .vmem => 0
  | .smem => 0
  | _ => 0

abbrev hbmTy0_0 (i : Nat) : BufTy := match i % 128 with
  | 0 => ⟨S1x8192x512, .f32⟩
  | 1 => ⟨S4x128x128, .f32⟩
  | 2 => ⟨S512, .f32⟩
  | 3 => ⟨S1x8192x512, .f32⟩
  | 4 => ⟨S_, .f32⟩
  | 5 => ⟨S_, .f32⟩
  | 6 => ⟨S1x8192x512, .f32⟩
  | 7 => ⟨S8192, .i32⟩
  | 8 => ⟨S1x8192x128, .f32⟩
  | 9 => ⟨S_, .f32⟩
  | 10 => ⟨S1x2x128, .f32⟩
  | 11 => ⟨S1x8190x128, .f32⟩
  | 12 => ⟨S1x8192x128, .f32⟩
  | 13 => ⟨S_, .f32⟩
  | 14 => ⟨S1x2x128, .f32⟩
  | 15 => ⟨S_, .i32⟩
  | 16 => ⟨S8192, .i32⟩
  | 17 => ⟨S8192, .i32⟩
  | 18 => ⟨S_, .i32⟩
  | 19 => ⟨S8192, .i32⟩
  | 20 => ⟨S8192, .i32⟩
  | 21 => ⟨S8192, .f32⟩
  | 22 => ⟨S1x8192x1, .f32⟩
  | 23 => ⟨S1x8192x128, .f32⟩
  | 24 => ⟨S1x8192x128, .f32⟩
  | 25 => ⟨S1x8192x128, .f32⟩
  | 26 => ⟨S1x8192x128, .f32⟩
  | 27 => ⟨S1x8192x128, .f32⟩
  | 28 => ⟨S1x8192x128, .f32⟩
  | 29 => ⟨S_, .f32⟩
  | 30 => ⟨S1x4x128, .f32⟩
  | 31 => ⟨S1x8188x128, .f32⟩
  | 32 => ⟨S1x8192x128, .f32⟩
  | 33 => ⟨S_, .f32⟩
  | 34 => ⟨S1x4x128, .f32⟩
  | 35 => ⟨S_, .i32⟩
  | 36 => ⟨S8192, .i32⟩
  | 37 => ⟨S8192, .i32⟩
  | 38 => ⟨S_, .i32⟩
  | 39 => ⟨S8192, .i32⟩
  | 40 => ⟨S8192, .i32⟩
  | 41 => ⟨S8192, .f32⟩
  | 42 => ⟨S1x8192x1, .f32⟩
  | 43 => ⟨S1x8192x128, .f32⟩
  | 44 => ⟨S1x8192x128, .f32⟩
  | 45 => ⟨S1x8192x128, .f32⟩
  | 46 => ⟨S1x8192x128, .f32⟩
  | 47 => ⟨S1x8192x128, .f32⟩
  | 48 => ⟨S1x8192x128, .f32⟩
  | 49 => ⟨S_, .f32⟩
  | 50 => ⟨S1x8x128, .f32⟩
  | 51 => ⟨S1x8184x128, .f32⟩
  | 52 => ⟨S1x8192x128, .f32⟩
  | 53 => ⟨S_, .f32⟩
  | 54 => ⟨S1x8x128, .f32⟩
  | 55 => ⟨S_, .i32⟩
  | 56 => ⟨S8192, .i32⟩
  | 57 => ⟨S8192, .i32⟩
  | 58 => ⟨S_, .i32⟩
  | 59 => ⟨S8192, .i32⟩
  | 60 => ⟨S8192, .i32⟩
  | 61 => ⟨S8192, .f32⟩
  | 62 => ⟨S1x8192x1, .f32⟩
  | 63 => ⟨S1x8192x128, .f32⟩
  | 64 => ⟨S1x8192x128, .f32⟩
  | 65 => ⟨S1x8192x128, .f32⟩
  | 66 => ⟨S1x8192x128, .f32⟩
  | 67 => ⟨S1x8192x128, .f32⟩
  | 68 => ⟨S1x8192x128, .f32⟩
  | 69 => ⟨S_, .f32⟩
  | 70 => ⟨S1x16x128, .f32⟩
  | 71 => ⟨S1x8176x128, .f32⟩
  | 72 => ⟨S1x8192x128, .f32⟩
  | 73 => ⟨S_, .f32⟩
  | 74 => ⟨S1x16x128, .f32⟩
  | 75 => ⟨S_, .i32⟩
  | 76 => ⟨S8192, .i32⟩
  | 77 => ⟨S8192, .i32⟩
  | 78 => ⟨S_, .i32⟩
  | 79 => ⟨S8192, .i32⟩
  | 80 => ⟨S8192, .i32⟩
  | 81 => ⟨S8192, .f32⟩
  | 82 => ⟨S1x8192x1, .f32⟩
  | 83 => ⟨S1x8192x128, .f32⟩
  | 84 => ⟨S1x8192x128, .f32⟩
  | 85 => ⟨S1x8192x128, .f32⟩
  | 86 => ⟨S1x8192x128, .f32⟩
  | 87 => ⟨S1x8192x128, .f32⟩
  | 88 => ⟨S1x8192x1x128, .f32⟩
  | 89 => ⟨S1x8192x1x128, .f32⟩
  | 90 => ⟨S1x8192x1x128, .f32⟩
  | 91 => ⟨S1x8192x1x128, .f32⟩
  | 92 => ⟨S1x8192x4x128, .f32⟩
  | 93 => ⟨S4x128x1x8192, .f32⟩
  | 94 => ⟨S1x8192x4x128, .f32⟩
  | 95 => ⟨S1x8192x512, .f32⟩
  | 96 => ⟨S1x1x512, .f32⟩
  | 97 => ⟨S1x8192x512, .f32⟩
  | 98 => ⟨S1x8192x512, .f32⟩
  | 99 => ⟨S1x8192x512, .f32⟩
  | 100 => ⟨S_, .f32⟩
  | 101 => ⟨S1x512, .f32⟩
  | 102 => ⟨S1x1x512, .f32⟩
  | 103 => ⟨S1x8192x512, .f32⟩
  | 104 => ⟨S1x8192x512, .f32⟩
  | 105 => ⟨S_, .f32⟩
  | 106 => ⟨S512, .f32⟩
  | 107 => ⟨S1x8192x4x128, .f32⟩
  | 108 => ⟨S4x128x1x8192, .f32⟩
  | 109 => ⟨S4x1x8192x128, .f32⟩
  | 110 => ⟨S1x8192x4x128, .f32⟩
  | 111 => ⟨S4x128x128, .f32⟩
  | 112 => ⟨S4x128x128, .f32⟩
  | 113 => ⟨S1x8192x1x128, .f32⟩
  | 114 => ⟨S1x8192x128, .f32⟩
  | 115 => ⟨S1x8192x1x128, .f32⟩
  | 116 => ⟨S1x8192x128, .f32⟩
  | 117 => ⟨S1x8192x1x128, .f32⟩
  | 118 => ⟨S1x8192x128, .f32⟩
  | 119 => ⟨S1x8192x1x128, .f32⟩
  | 120 => ⟨S1x8192x128, .f32⟩
  | 121 => ⟨S1x8192x128, .f32⟩
  | 122 => ⟨S_, .f32⟩
  | 123 => ⟨S1x8192x512, .f32⟩
  | 124 => ⟨S1x8192x128, .f32⟩
  | 125 => ⟨S1x8192x128, .f32⟩
  | 126 => ⟨S1x8192x128, .f32⟩
  | 127 => ⟨S1x16x128, .f32⟩
  | _ => ⟨S1x8192x512, .f32⟩

abbrev hbmTy0_1 (i : Nat) : BufTy := match i % 128 with
  | 0 => ⟨S1x8176x128, .f32⟩
  | 1 => ⟨S_, .f32⟩
  | 2 => ⟨S1x8192x128, .f32⟩
  | 3 => ⟨S1x8192x128, .f32⟩
  | 4 => ⟨S_, .f32⟩
  | 5 => ⟨S1x8192x512, .f32⟩
  | 6 => ⟨S1x8192x128, .f32⟩
  | 7 => ⟨S_, .f32⟩
  | 8 => ⟨S1x8192x512, .f32⟩
  | 9 => ⟨S1x8192x512, .f32⟩
  | 10 => ⟨S1x8192x128, .f32⟩
  | 11 => ⟨S1x8192x128, .f32⟩
  | 12 => ⟨S1x8192x128, .f32⟩
  | 13 => ⟨S1x8x128, .f32⟩
  | 14 => ⟨S1x8184x128, .f32⟩
  | 15 => ⟨S_, .f32⟩
  | 16 => ⟨S1x8192x128, .f32⟩
  | 17 => ⟨S1x8192x128, .f32⟩
  | 18 => ⟨S_, .f32⟩
  | 19 => ⟨S1x8192x512, .f32⟩
  | 20 => ⟨S1x8192x512, .f32⟩
  | 21 => ⟨S1x8192x128, .f32⟩
  | 22 => ⟨S_, .f32⟩
  | 23 => ⟨S1x8192x512, .f32⟩
  | 24 => ⟨S1x8192x512, .f32⟩
  | 25 => ⟨S1x8192x128, .f32⟩
  | 26 => ⟨S1x8192x128, .f32⟩
  | 27 => ⟨S1x8192x128, .f32⟩
  | 28 => ⟨S1x4x128, .f32⟩
  | 29 => ⟨S1x8188x128, .f32⟩
  | 30 => ⟨S_, .f32⟩
  | 31 => ⟨S1x8192x128, .f32⟩
  | 32 => ⟨S1x8192x128, .f32⟩
  | 33 => ⟨S_, .f32⟩
  | 34 => ⟨S1x8192x512, .f32⟩
  | 35 => ⟨S1x8192x512, .f32⟩
  | 36 => ⟨S1x8192x128, .f32⟩
  | 37 => ⟨S_, .f32⟩
  | 38 => ⟨S1x8192x512, .f32⟩
  | 39 => ⟨S1x8192x512, .f32⟩
  | 40 => ⟨S1x8192x128, .f32⟩
  | 41 => ⟨S1x8192x128, .f32⟩
  | 42 => ⟨S1x8192x128, .f32⟩
  | 43 => ⟨S1x2x128, .f32⟩
  | 44 => ⟨S1x8190x128, .f32⟩
  | 45 => ⟨S_, .f32⟩
  | 46 => ⟨S1x8192x128, .f32⟩
  | 47 => ⟨S1x8192x128, .f32⟩
  | 48 => ⟨S_, .f32⟩
  | 49 => ⟨S1x8192x512, .f32⟩
  | 50 => ⟨S1x8192x512, .f32⟩
  | 51 => ⟨S_, .f32⟩
  | 52 => ⟨S_, .f32⟩
  | 53 => ⟨S1x8192x512, .f32⟩
  | 54 => ⟨S1x8192x512, .f32⟩
  | 55 => ⟨S8192x512, .f32⟩
  | 56 => ⟨S8192x512, .bf16⟩
  | 57 => ⟨S1x512, .f32⟩
  | _ => ⟨S1x8192x512, .f32⟩

abbrev hbmTy (i : Nat) : BufTy := match i / 128 with
  | 0 => hbmTy0_0 i
  | 1 => hbmTy0_1 i
  | _ => ⟨S1x8192x512, .f32⟩

abbrev bufTy : (tb : Table) → Fin (tcTables nBuf tb) → BufTy
  | .hbm, ⟨i, _⟩ => hbmTy i
  | _, _ => ⟨S1x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_cst : Ref sig .tc := ⟨.hbm, 4, rfl⟩
abbrev main_call0_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_c_8 : Ref sig .tc := ⟨.hbm, 55, rfl⟩
abbrev main_v39 : Ref sig .tc := ⟨.hbm, 56, rfl⟩
abbrev main_v40 : Ref sig .tc := ⟨.hbm, 57, rfl⟩
abbrev main_c_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_10 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_11 : Ref sig .tc := ⟨.hbm, 73, rfl⟩
abbrev main_v54 : Ref sig .tc := ⟨.hbm, 74, rfl⟩
abbrev main_c_12 : Ref sig .tc := ⟨.hbm, 75, rfl⟩
abbrev main_v55 : Ref sig .tc := ⟨.hbm, 76, rfl⟩
abbrev main_v56 : Ref sig .tc := ⟨.hbm, 77, rfl⟩
abbrev main_c_13 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_14 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_cst_15 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_cst_16 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_cst_17 : Ref sig .tc := ⟨.hbm, 129, rfl⟩
abbrev main_v104 : Ref sig .tc := ⟨.hbm, 130, rfl⟩
abbrev main_v105 : Ref sig .tc := ⟨.hbm, 131, rfl⟩
abbrev main_cst_18 : Ref sig .tc := ⟨.hbm, 132, rfl⟩
abbrev main_v106 : Ref sig .tc := ⟨.hbm, 133, rfl⟩
abbrev main_v107 : Ref sig .tc := ⟨.hbm, 134, rfl⟩
abbrev main_cst_19 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_cst_20 : Ref sig .tc := ⟨.hbm, 143, rfl⟩
abbrev main_v115 : Ref sig .tc := ⟨.hbm, 144, rfl⟩
abbrev main_v116 : Ref sig .tc := ⟨.hbm, 145, rfl⟩
abbrev main_cst_21 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_cst_22 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_cst_23 : Ref sig .tc := ⟨.hbm, 158, rfl⟩
abbrev main_v127 : Ref sig .tc := ⟨.hbm, 159, rfl⟩
abbrev main_v128 : Ref sig .tc := ⟨.hbm, 160, rfl⟩
abbrev main_cst_24 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_cst_25 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_cst_26 : Ref sig .tc := ⟨.hbm, 173, rfl⟩
abbrev main_v139 : Ref sig .tc := ⟨.hbm, 174, rfl⟩
abbrev main_v140 : Ref sig .tc := ⟨.hbm, 175, rfl⟩
abbrev main_cst_27 : Ref sig .tc := ⟨.hbm, 176, rfl⟩
abbrev main_v141 : Ref sig .tc := ⟨.hbm, 177, rfl⟩
abbrev main_v142 : Ref sig .tc := ⟨.hbm, 178, rfl⟩
abbrev main_call1_call0_cst : Ref sig .tc := ⟨.hbm, 179, rfl⟩
abbrev main_call1_call0_v0 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩

abbrev nD : Nat := 1
abbrev τ : Topo := Topo.v7x

variable {F : FTy → Type} [FloatOps F]
-- ==== Kernel2.lean ====
abbrev S8192x1024 : Shape := ⟨2, ![8192, 1024]⟩
abbrev S1024 : Shape := ⟨1, ![1024]⟩
abbrev S1024x2048 : Shape := ⟨2, ![1024, 2048]⟩
abbrev S2048x1024 : Shape := ⟨2, ![2048, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2048 : Shape := ⟨2, ![8192, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩

abbrev nBuf : Space → Nat
  | .hbm => 51
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x2048, .f32⟩
  | .hbm, ⟨4, _⟩ => ⟨S1024x2048, .f32⟩
  | .hbm, ⟨5, _⟩ => ⟨S2048x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x1024, .f32⟩
  | .hbm, ⟨36, _⟩ => ⟨S8192x2048, .bf16⟩
  | .hbm, ⟨37, _⟩ => ⟨S8192x2048, .bf16⟩
  | .hbm, ⟨38, _⟩ => ⟨S1x1024, .f32⟩
  | .hbm, ⟨39, _⟩ => ⟨S1x1024, .f32⟩
  | .hbm, ⟨40, _⟩ => ⟨S2048x1024, .f32⟩
  | .hbm, ⟨41, _⟩ => ⟨S2048x1024, .bf16⟩
  | .hbm, ⟨42, _⟩ => ⟨S2048x1024, .f32⟩
  | .hbm, ⟨43, _⟩ => ⟨S2048x1024, .bf16⟩
  | .hbm, ⟨44, _⟩ => ⟨S2048x1024, .bf16⟩
  | .hbm, ⟨45, _⟩ => ⟨S8192x1024, .f32⟩
  | .hbm, ⟨46, _⟩ => ⟨S8192x1024, .bf16⟩
  | .hbm, ⟨47, _⟩ => ⟨S8192x2048, .bf16⟩
  | .hbm, ⟨48, _⟩ => ⟨S8192x2048, .bf16⟩
  | .hbm, ⟨49, _⟩ => ⟨S1x1024, .f32⟩
  | .hbm, ⟨50, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S1x1024, .f32⟩
  | .local _ .vmem, ⟨11, _⟩ => ⟨S1x1024, .f32⟩
  | .local _ .vmem, ⟨12, _⟩ => ⟨S2048x1024, .bf16⟩
  | .local _ .vmem, ⟨13, _⟩ => ⟨S2048x1024, .bf16⟩
  | .local _ .vmem, ⟨14, _⟩ => ⟨S2048x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S512x2048, .bf16⟩
  | .local _ .vmem, ⟨20, _⟩ => ⟨S512x2048, .bf16⟩
  | .local _ .vmem, ⟨21, _⟩ => ⟨S512x2048, .bf16⟩
  | .local _ .vmem, ⟨22, _⟩ => ⟨S512x2048, .bf16⟩
  | .local _ .vmem, ⟨23, _⟩ => ⟨S1x1024, .f32⟩
  | .local _ .vmem, ⟨24, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27_0 : Ref sig .tc := ⟨.hbm, 45, rfl⟩
abbrev main_v27_1 : Ref sig .tc := ⟨.hbm, 46, rfl⟩
abbrev main_v27_2 : Ref sig .tc := ⟨.hbm, 47, rfl⟩
abbrev main_v27_3 : Ref sig .tc := ⟨.hbm, 48, rfl⟩
abbrev main_v27_4 : Ref sig .tc := ⟨.hbm, 49, rfl⟩
abbrev main_v27_5 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg15_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem15_0 : DmaSem sig := 24

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v268 : BitVec 32 := Scalar.extui v0
  let c0_i32_132 : BitVec 32 := 0#32
  let v269 : BitVec 1 := Scalar.cmpi .ne v268 c0_i32_132
  v269

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v270 : BitVec 1 := Scalar.xori v0 v_true
  let v271 : BitVec 32 := Scalar.extui v270
  let c0_i32_133 : BitVec 32 := 0#32
  let v272 : BitVec 1 := Scalar.cmpi .ne v271 c0_i32_133
  v272

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v273 : BitVec 32 := Scalar.extui v0
  let c0_i32_134 : BitVec 32 := 0#32
  let v274 : BitVec 1 := Scalar.cmpi .ne v273 c0_i32_134
  v274

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_135 : BitVec 1 := 1#1
  let v275 : BitVec 1 := Scalar.xori v0 true_135
  let v276 : BitVec 32 := Scalar.extui v275
  let c0_i32_136 : BitVec 32 := 0#32
  let v277 : BitVec 1 := Scalar.cmpi .ne v276 c0_i32_136
  v277

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference2Ideal.lean ====
abbrev S8192x1024 : Shape := ⟨2, ![8192, 1024]⟩
abbrev S1024 : Shape := ⟨1, ![1024]⟩
abbrev S1024x2048 : Shape := ⟨2, ![1024, 2048]⟩
abbrev S2048x1024 : Shape := ⟨2, ![2048, 1024]⟩
abbrev S_ : Shape := ⟨0, ![]⟩
abbrev S8192x2048 : Shape := ⟨2, ![8192, 2048]⟩
abbrev S8192 : Shape := ⟨1, ![8192]⟩
abbrev S8192x1 : Shape := ⟨2, ![8192, 1]⟩
abbrev S1x1024 : Shape := ⟨2, ![1, 1024]⟩

abbrev nBuf : Space → Nat
  | .hbm => 145
  | .vmem => 0
  | .smem => 0
  | _ => 0

abbrev hbmTy0_0 (i : Nat) : BufTy := match i % 128 with
  | 0 => ⟨S8192x1024, .f32⟩
  | 1 => ⟨S1024, .f32⟩
  | 2 => ⟨S1024, .f32⟩
  | 3 => ⟨S1024x2048, .f32⟩
  | 4 => ⟨S1024x2048, .f32⟩
  | 5 => ⟨S2048x1024, .f32⟩
  | 6 => ⟨S8192x1024, .f32⟩
  | 7 => ⟨S_, .f32⟩
  | 8 => ⟨S8192x2048, .f32⟩
  | 9 => ⟨S_, .f32⟩
  | 10 => ⟨S8192x1024, .f32⟩
  | 11 => ⟨S8192x1024, .f32⟩
  | 12 => ⟨S_, .f32⟩
  | 13 => ⟨S8192, .f32⟩
  | 14 => ⟨S8192x1, .f32⟩
  | 15 => ⟨S_, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x1, .f32⟩
  | 22 => ⟨S8192x1, .f32⟩
  | 23 => ⟨S_, .f32⟩
  | 24 => ⟨S8192x1, .f32⟩
  | 25 => ⟨S8192x1, .f32⟩
  | 26 => ⟨S8192x1024, .f32⟩
  | 27 => ⟨S8192x1024, .f32⟩
  | 28 => ⟨S1x1024, .f32⟩
  | 29 => ⟨S8192x1024, .f32⟩
  | 30 => ⟨S8192x1024, .f32⟩
  | 31 => ⟨S8192x2048, .f32⟩
  | 32 => ⟨S8192x2048, .f32⟩
  | 33 => ⟨S8192x2048, .f32⟩
  | 34 => ⟨S8192x2048, .f32⟩
  | 35 => ⟨S_, .f32⟩
  | 36 => ⟨S8192x2048, .f32⟩
  | 37 => ⟨S8192x2048, .f32⟩
  | 38 => ⟨S_, .f32⟩
  | 39 => ⟨S8192x2048, .f32⟩
  | 40 => ⟨S8192x2048, .f32⟩
  | 41 => ⟨S_, .f32⟩
  | 42 => ⟨S8192x2048, .f32⟩
  | 43 => ⟨S8192x2048, .f32⟩
  | 44 => ⟨S8192x2048, .f32⟩
  | 45 => ⟨S8192x2048, .f32⟩
  | 46 => ⟨S8192x2048, .f32⟩
  | 47 => ⟨S8192x2048, .f32⟩
  | 48 => ⟨S8192x2048, .f32⟩
  | 49 => ⟨S8192x1024, .f32⟩
  | 50 => ⟨S8192x1024, .f32⟩
  | 51 => ⟨S8192x1024, .f32⟩
  | 52 => ⟨S_, .f32⟩
  | 53 => ⟨S8192, .f32⟩
  | 54 => ⟨S8192x1, .f32⟩
  | 55 => ⟨S_, .f32⟩
  | 56 => ⟨S8192x1, .f32⟩
  | 57 => ⟨S8192x1, .f32⟩
  | 58 => ⟨S_, .f32⟩
  | 59 => ⟨S8192x1, .f32⟩
  | 60 => ⟨S8192x1, .f32⟩
  | 61 => ⟨S8192x1, .f32⟩
  | 62 => ⟨S8192x1, .f32⟩
  | 63 => ⟨S_, .f32⟩
  | 64 => ⟨S8192x1, .f32⟩
  | 65 => ⟨S8192x1, .f32⟩
  | 66 => ⟨S8192x1024, .f32⟩
  | 67 => ⟨S8192x1024, .f32⟩
  | 68 => ⟨S1x1024, .f32⟩
  | 69 => ⟨S8192x1024, .f32⟩
  | 70 => ⟨S8192x1024, .f32⟩
  | 71 => ⟨S_, .f32⟩
  | 72 => ⟨S8192x1024, .f32⟩
  | 73 => ⟨S8192x1024, .f32⟩
  | 74 => ⟨S8192x1024, .f32⟩
  | 75 => ⟨S8192x1024, .f32⟩
  | 76 => ⟨S_, .f32⟩
  | 77 => ⟨S8192x1024, .f32⟩
  | 78 => ⟨S8192x1024, .f32⟩
  | 79 => ⟨S8192x1024, .f32⟩
  | 80 => ⟨S_, .f32⟩
  | 81 => ⟨S1024, .f32⟩
  | 82 => ⟨S1x1024, .f32⟩
  | 83 => ⟨S8192x1024, .f32⟩
  | 84 => ⟨S8192x1024, .f32⟩
  | 85 => ⟨S_, .f32⟩
  | 86 => ⟨S1024, .f32⟩
  | 87 => ⟨S8192x1024, .f32⟩
  | 88 => ⟨S_, .f32⟩
  | 89 => ⟨S8192, .f32⟩
  | 90 => ⟨S8192x1, .f32⟩
  | 91 => ⟨S8192x1024, .f32⟩
  | 92 => ⟨S8192x1024, .f32⟩
  | 93 => ⟨S8192x1, .f32⟩
  | 94 => ⟨S_, .f32⟩
  | 95 => ⟨S8192x1, .f32⟩
  | 96 => ⟨S8192x1, .f32⟩
  | 97 => ⟨S_, .f32⟩
  | 98 => ⟨S8192, .f32⟩
  | 99 => ⟨S8192x1024, .f32⟩
  | 100 => ⟨S8192x1024, .f32⟩
  | 101 => ⟨S8192x1024, .f32⟩
  | 102 => ⟨S8192x1024, .f32⟩
  | 103 => ⟨S8192x1024, .f32⟩
  | 104 => ⟨S8192x2048, .f32⟩
  | 105 => ⟨S8192x2048, .f32⟩
  | 106 => ⟨S8192x2048, .f32⟩
  | 107 => ⟨S8192x1024, .f32⟩
  | 108 => ⟨S8192x2048, .f32⟩
  | 109 => ⟨S8192x2048, .f32⟩
  | 110 => ⟨S8192x2048, .f32⟩
  | 111 => ⟨S8192x2048, .f32⟩
  | 112 => ⟨S8192x1024, .f32⟩
  | 113 => ⟨S8192x1024, .f32⟩
  | 114 => ⟨S8192x1024, .f32⟩
  | 115 => ⟨S_, .f32⟩
  | 116 => ⟨S1024, .f32⟩
  | 117 => ⟨S1x1024, .f32⟩
  | 118 => ⟨S8192x1024, .f32⟩
  | 119 => ⟨S8192x1024, .f32⟩
  | 120 => ⟨S_, .f32⟩
  | 121 => ⟨S1024, .f32⟩
  | 122 => ⟨S8192x1024, .f32⟩
  | 123 => ⟨S_, .f32⟩
  | 124 => ⟨S8192, .f32⟩
  | 125 => ⟨S8192x1, .f32⟩
  | 126 => ⟨S8192x1024, .f32⟩
  | 127 => ⟨S8192x1024, .f32⟩
  | _ => ⟨S8192x1024, .f32⟩

abbrev hbmTy0_1 (i : Nat) : BufTy := match i % 128 with
  | 0 => ⟨S8192x1024, .f32⟩
  | 1 => ⟨S8192x1, .f32⟩
  | 2 => ⟨S_, .f32⟩
  | 3 => ⟨S8192x1, .f32⟩
  | 4 => ⟨S8192x1, .f32⟩
  | 5 => ⟨S_, .f32⟩
  | 6 => ⟨S8192, .f32⟩
  | 7 => ⟨S8192x1024, .f32⟩
  | 8 => ⟨S8192x1024, .f32⟩
  | 9 => ⟨S8192x1024, .f32⟩
  | 10 => ⟨S8192x1024, .f32⟩
  | 11 => ⟨S8192x1024, .f32⟩
  | 12 => ⟨S8192x1024, .bf16⟩
  | 13 => ⟨S8192x2048, .bf16⟩
  | 14 => ⟨S8192x2048, .bf16⟩
  | 15 => ⟨S1x1024, .f32⟩
  | 16 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_cst_3 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v20_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v20_1 : Ref sig .tc := ⟨.hbm, 44, rfl⟩
abbrev main_v20_0 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_5 : Ref sig .tc := ⟨.hbm, 52, rfl⟩
abbrev main_v27 : Ref sig .tc := ⟨.hbm, 53, rfl⟩
abbrev main_v28 : Ref sig .tc := ⟨.hbm, 54, rfl⟩
abbrev main_cst_6 : Ref sig .tc := ⟨.hbm, 55, rfl⟩
abbrev main_v29 : Ref sig .tc := ⟨.hbm, 56, rfl⟩
abbrev main_v30 : Ref sig .tc := ⟨.hbm, 57, rfl⟩
abbrev main_cst_7 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_8 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_9 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_10 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_11 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_12 : Ref sig .tc := ⟨.hbm, 85, rfl⟩
abbrev main_v53 : Ref sig .tc := ⟨.hbm, 86, rfl⟩
abbrev main_v54 : Ref sig .tc := ⟨.hbm, 87, rfl⟩
abbrev main_cst_13 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_14 : Ref sig .tc := ⟨.hbm, 94, rfl⟩
abbrev main_v60 : Ref sig .tc := ⟨.hbm, 95, rfl⟩
abbrev main_v61 : Ref sig .tc := ⟨.hbm, 96, rfl⟩
abbrev main_cst_15 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_call1_v0 : Ref sig .tc := ⟨.hbm, 108, rfl⟩
abbrev main_call1_v1 : Ref sig .tc := ⟨.hbm, 109, rfl⟩
abbrev main_call1_v2 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_cst_16 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_cst_17 : Ref sig .tc := ⟨.hbm, 120, rfl⟩
abbrev main_v80 : Ref sig .tc := ⟨.hbm, 121, rfl⟩
abbrev main_v81 : Ref sig .tc := ⟨.hbm, 122, rfl⟩
abbrev main_cst_18 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_cst_19 : Ref sig .tc := ⟨.hbm, 130, rfl⟩
abbrev main_v88 : Ref sig .tc := ⟨.hbm, 131, rfl⟩
abbrev main_v89 : Ref sig .tc := ⟨.hbm, 132, rfl⟩
abbrev main_cst_20 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩

abbrev nD : Nat := 1
abbrev τ : Topo := Topo.v7x

variable {F : FTy → Type} [FloatOps F]
-- ==== Kernel3.lean ====
abbrev S8192x1024 : Shape := ⟨2, ![8192, 1024]⟩
abbrev S1024 : Shape := ⟨1, ![1024]⟩
abbrev S1024x2048 : Shape := ⟨2, ![1024, 2048]⟩
abbrev S2048x1024 : Shape := ⟨2, ![2048, 1024]⟩
abbrev S1x1024 : Shape := ⟨2, ![1, 1024]⟩
abbrev S8192x2048 : Shape := ⟨2, ![8192, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩

abbrev nBuf : Space → Nat
  | .hbm => 19
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x2048, .f32⟩
  | .hbm, ⟨4, _⟩ => ⟨S1024x2048, .f32⟩
  | .hbm, ⟨5, _⟩ => ⟨S2048x1024, .f32⟩
  | .hbm, ⟨6, _⟩ => ⟨S1x1024, .f32⟩
  | .hbm, ⟨7, _⟩ => ⟨S1x1024, .f32⟩
  | .hbm, ⟨8, _⟩ => ⟨S2048x1024, .f32⟩
  | .hbm, ⟨9, _⟩ => ⟨S2048x1024, .bf16⟩
  | .hbm, ⟨10, _⟩ => ⟨S2048x1024, .f32⟩
  | .hbm, ⟨11, _⟩ => ⟨S2048x1024, .bf16⟩
  | .hbm, ⟨12, _⟩ => ⟨S2048x1024, .bf16⟩
  | .hbm, ⟨13, _⟩ => ⟨S8192x1024, .f32⟩
  | .hbm, ⟨14, _⟩ => ⟨S8192x1024, .bf16⟩
  | .hbm, ⟨15, _⟩ => ⟨S8192x2048, .bf16⟩
  | .hbm, ⟨16, _⟩ => ⟨S8192x2048, .bf16⟩
  | .hbm, ⟨17, _⟩ => ⟨S8192x2048, .bf16⟩
  | .hbm, ⟨18, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x2048, .bf16⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | .local _ .vmem, ⟨15, _⟩ => ⟨S512x2048, .bf16⟩
  | .local _ .vmem, ⟨16, _⟩ => ⟨S512x2048, .bf16⟩
  | .local _ .vmem, ⟨17, _⟩ => ⟨S512x1024, .f32⟩
  | .local _ .vmem, ⟨18, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev main_v7_4 : Ref sig .tc := ⟨.hbm, 17, rfl⟩
abbrev main_v7_5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S8192x1024 : Shape := ⟨2, ![8192, 1024]⟩
abbrev S1024 : Shape := ⟨1, ![1024]⟩
abbrev S1024x2048 : Shape := ⟨2, ![1024, 2048]⟩
abbrev S2048x1024 : Shape := ⟨2, ![2048, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2048 : Shape := ⟨2, ![8192, 2048]⟩

abbrev nBuf : Space → Nat
  | .hbm => 71
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x2048, .f32⟩
  | .hbm, ⟨4, _⟩ => ⟨S1024x2048, .f32⟩
  | .hbm, ⟨5, _⟩ => ⟨S2048x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S8192x2048, .f32⟩
  | .hbm, ⟨39, _⟩ => ⟨S8192x2048, .f32⟩
  | .hbm, ⟨40, _⟩ => ⟨S_, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S1x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .bf16⟩
  | .hbm, ⟨68, _⟩ => ⟨S8192x2048, .bf16⟩
  | .hbm, ⟨69, _⟩ => ⟨S8192x2048, .bf16⟩
  | .hbm, ⟨70, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_call1_v0 : Ref sig .tc := ⟨.hbm, 35, rfl⟩
abbrev main_call1_v1 : Ref sig .tc := ⟨.hbm, 36, rfl⟩
abbrev main_call1_cst : Ref sig .tc := ⟨.hbm, 37, rfl⟩
abbrev main_call1_v2 : Ref sig .tc := ⟨.hbm, 38, rfl⟩
abbrev main_call1_v3 : Ref sig .tc := ⟨.hbm, 39, rfl⟩
abbrev main_call1_cst_0 : Ref sig .tc := ⟨.hbm, 40, rfl⟩
abbrev main_call1_v4 : Ref sig .tc := ⟨.hbm, 41, rfl⟩
abbrev main_call1_v5 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_2 : Ref sig .tc := ⟨.hbm, 48, rfl⟩
abbrev main_v23 : Ref sig .tc := ⟨.hbm, 49, rfl⟩
abbrev main_v24 : Ref sig .tc := ⟨.hbm, 50, rfl⟩
abbrev main_cst_3 : Ref sig .tc := ⟨.hbm, 51, rfl⟩
abbrev main_v25 : Ref sig .tc := ⟨.hbm, 52, rfl⟩
abbrev main_v26 : Ref sig .tc := ⟨.hbm, 53, rfl⟩
abbrev main_cst_4 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_5 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩

abbrev nD : Nat := 1
abbrev τ : Topo := Topo.v7x

variable {F : FTy → Type} [FloatOps F]
-- ==== Kernel4.lean ====
abbrev S8192x1024 : Shape := ⟨2, ![8192, 1024]⟩
abbrev S1024x2048 : Shape := ⟨2, ![1024, 2048]⟩
abbrev S8192x2048 : Shape := ⟨2, ![8192, 2048]⟩
abbrev S8x1024x256 : Shape := ⟨3, ![8, 1024, 256]⟩
abbrev S512x1024 : Shape := ⟨2, ![512, 1024]⟩
abbrev S512x2048 : Shape := ⟨2, ![512, 2048]⟩
abbrev S1024x256 : Shape := ⟨2, ![1024, 256]⟩
abbrev S1x1024x256 : Shape := ⟨3, ![1, 1024, 256]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | .hbm, ⟨3, _⟩ => ⟨S8192x1024, .bf16⟩
  | .hbm, ⟨4, _⟩ => ⟨S8192x2048, .bf16⟩
  | .hbm, ⟨5, _⟩ => ⟨S8x1024x256, .bf16⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S8x1024x256, .bf16⟩
  | .local _ .vmem, ⟨5, _⟩ => ⟨S1024x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v13 : BitVec 1 := Scalar.cmpi .eq arg0 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference4Ideal.lean ====
abbrev S8192x1024 : Shape := ⟨2, ![8192, 1024]⟩
abbrev S1024x2048 : Shape := ⟨2, ![1024, 2048]⟩
abbrev S8192x2048 : Shape := ⟨2, ![8192, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | .hbm, ⟨3, _⟩ => ⟨S8192x2048, .f32⟩
  | .hbm, ⟨4, _⟩ => ⟨S2048x1024, .f32⟩
  | .hbm, ⟨5, _⟩ => ⟨S1024x2048, .f32⟩
  | .hbm, ⟨6, _⟩ => ⟨S1024x8x256, .f32⟩
  | .hbm, ⟨7, _⟩ => ⟨S8x1024x256, .f32⟩
  | .hbm, ⟨8, _⟩ => ⟨S8x1024x256, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S8192x2048 : Shape := ⟨2, ![8192, 2048]⟩
abbrev S2048x1024 : Shape := ⟨2, ![2048, 1024]⟩
abbrev S8192x1024 : Shape := ⟨2, ![8192, 1024]⟩
abbrev S8x256x1024 : Shape := ⟨3, ![8, 256, 1024]⟩
abbrev S512x2048 : Shape := ⟨2, ![512, 2048]⟩
abbrev S512x1024 : Shape := ⟨2, ![512, 1024]⟩
abbrev S256x1024 : Shape := ⟨2, ![256, 1024]⟩
abbrev S1x256x1024 : Shape := ⟨3, ![1, 256, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x1024, .f32⟩
  | .hbm, ⟨2, _⟩ => ⟨S8192x1024, .f32⟩
  | .hbm, ⟨3, _⟩ => ⟨S8192x2048, .bf16⟩
  | .hbm, ⟨4, _⟩ => ⟨S8192x1024, .bf16⟩
  | .hbm, ⟨5, _⟩ => ⟨S8x256x1024, .bf16⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S8x256x1024, .bf16⟩
  | .local _ .vmem, ⟨5, _⟩ => ⟨S2048x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v13 : BitVec 1 := Scalar.cmpi .eq arg0 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference5Ideal.lean ====
abbrev S8192x2048 : Shape := ⟨2, ![8192, 2048]⟩
abbrev S2048x1024 : Shape := ⟨2, ![2048, 1024]⟩
abbrev S8192x1024 : Shape := ⟨2, ![8192, 1024]⟩
abbrev S1024x2048 : Shape := ⟨2, ![1024, 2048]⟩
abbrev S8x256x1024 : Shape := ⟨3, ![8, 256, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x1024, .f32⟩
  | .hbm, ⟨2, _⟩ => ⟨S8192x1024, .f32⟩
  | .hbm, ⟨3, _⟩ => ⟨S8192x1024, .f32⟩
  | .hbm, ⟨4, _⟩ => ⟨S1024x2048, .f32⟩
  | .hbm, ⟨5, _⟩ => ⟨S2048x1024, .f32⟩
  | .hbm, ⟨6, _⟩ => ⟨S8x256x1024, .f32⟩
  | .hbm, ⟨7, _⟩ => ⟨S8x256x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S8192x1024 : Shape := ⟨2, ![8192, 1024]⟩
abbrev S1024 : Shape := ⟨1, ![1024]⟩
abbrev S1024x768 : Shape := ⟨2, ![1024, 768]⟩
abbrev S8192x512 : Shape := ⟨2, ![8192, 512]⟩
abbrev S8192x256 : Shape := ⟨2, ![8192, 256]⟩
abbrev S1x1024 : Shape := ⟨2, ![1, 1024]⟩
abbrev S512x1024 : Shape := ⟨2, ![512, 1024]⟩
abbrev S512x512 : Shape := ⟨2, ![512, 512]⟩
abbrev S512x256 : Shape := ⟨2, ![512, 256]⟩
abbrev S512x768 : Shape := ⟨2, ![512, 768]⟩
abbrev S512 : Shape := ⟨1, ![512]⟩
abbrev S512x1 : Shape := ⟨2, ![512, 1]⟩

abbrev nBuf : Space → Nat
  | .hbm => 12
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x768, .f32⟩
  | .hbm, ⟨3, _⟩ => ⟨S8192x512, .f32⟩
  | .hbm, ⟨4, _⟩ => ⟨S8192x256, .f32⟩
  | .hbm, ⟨5, _⟩ => ⟨S8192x1024, .f32⟩
  | .hbm, ⟨6, _⟩ => ⟨S1x1024, .f32⟩
  | .hbm, ⟨7, _⟩ => ⟨S8192x512, .bf16⟩
  | .hbm, ⟨8, _⟩ => ⟨S8192x256, .bf16⟩
  | .hbm, ⟨9, _⟩ => ⟨S1024x768, .bf16⟩
  | .hbm, ⟨10, _⟩ => ⟨S8192x1024, .f32⟩
  | .hbm, ⟨11, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x512, .bf16⟩
  | .local _ .vmem, ⟨6, _⟩ => ⟨S512x512, .bf16⟩
  | .local _ .vmem, ⟨7, _⟩ => ⟨S512x256, .bf16⟩
  | .local _ .vmem, ⟨8, _⟩ => ⟨S512x256, .bf16⟩
  | .local _ .vmem, ⟨9, _⟩ => ⟨S1024x768, .bf16⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v40 : BitVec 32 := Scalar.extui v0
  let c0_i32_19 : BitVec 32 := 0#32
  let v41 : BitVec 1 := Scalar.cmpi .ne v40 c0_i32_19
  v41

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v42 : BitVec 1 := Scalar.xori v0 v_true
  let v43 : BitVec 32 := Scalar.extui v42
  let c0_i32_20 : BitVec 32 := 0#32
  let v44 : BitVec 1 := Scalar.cmpi .ne v43 c0_i32_20
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference7Ideal.lean ====
abbrev S8192x1024 : Shape := ⟨2, ![8192, 1024]⟩
abbrev S1024 : Shape := ⟨1, ![1024]⟩
abbrev S1024x768 : Shape := ⟨2, ![1024, 768]⟩
abbrev S8192x512 : Shape := ⟨2, ![8192, 512]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x768 : Shape := ⟨2, ![8192, 768]⟩

abbrev nBuf : Space → Nat
  | .hbm => 62
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x768, .f32⟩
  | .hbm, ⟨3, _⟩ => ⟨S8192x512, .f32⟩
  | .hbm, ⟨4, _⟩ => ⟨S8192x256, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x768, .f32⟩
  | .hbm, ⟨27, _⟩ => ⟨S8192x512, .f32⟩
  | .hbm, ⟨28, _⟩ => ⟨S8192x256, .f32⟩
  | .hbm, ⟨29, _⟩ => ⟨S_, .f32⟩
  | .hbm, ⟨30, _⟩ => ⟨S8192x768, .f32⟩
  | .hbm, ⟨31, _⟩ => ⟨S_, .f32⟩
  | .hbm, ⟨32, _⟩ => ⟨S8192x768, .f32⟩
  | .hbm, ⟨33, _⟩ => ⟨S8192x768, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S1024, .f32⟩
  | .hbm, ⟨43, _⟩ => ⟨S8192x1024, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩

abbrev nD : Nat := 1
abbrev τ : Topo := Topo.v7x

variable {F : FTy → Type} [FloatOps F]
-- ==== Kernel8.lean ====
abbrev S8192x1024 : Shape := ⟨2, ![8192, 1024]⟩
abbrev S1024 : Shape := ⟨1, ![1024]⟩
abbrev S1024x1792 : Shape := ⟨2, ![1024, 1792]⟩
abbrev S8192x512 : Shape := ⟨2, ![8192, 512]⟩
abbrev S8192x256 : Shape := ⟨2, ![8192, 256]⟩
abbrev S1x1024 : Shape := ⟨2, ![1, 1024]⟩
abbrev S1792x1024 : Shape := ⟨2, ![1792, 1024]⟩
abbrev S512x1024 : Shape := ⟨2, ![512, 1024]⟩
abbrev S512x512 : Shape := ⟨2, ![512, 512]⟩
abbrev S512x256 : Shape := ⟨2, ![512, 256]⟩
abbrev S512x1792 : Shape := ⟨2, ![512, 1792]⟩
abbrev S512 : Shape := ⟨1, ![512]⟩
abbrev S512x1 : Shape := ⟨2, ![512, 1]⟩

abbrev nBuf : Space → Nat
  | .hbm => 17
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1792, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x256, .f32⟩
  | .hbm, ⟨7, _⟩ => ⟨S8192x1024, .f32⟩
  | .hbm, ⟨8, _⟩ => ⟨S1x1024, .f32⟩
  | .hbm, ⟨9, _⟩ => ⟨S8192x512, .bf16⟩
  | .hbm, ⟨10, _⟩ => ⟨S8192x512, .bf16⟩
  | .hbm, ⟨11, _⟩ => ⟨S8192x512, .bf16⟩
  | .hbm, ⟨12, _⟩ => ⟨S8192x256, .bf16⟩
  | .hbm, ⟨13, _⟩ => ⟨S1792x1024, .f32⟩
  | .hbm, ⟨14, _⟩ => ⟨S1792x1024, .bf16⟩
  | .hbm, ⟨15, _⟩ => ⟨S8192x1024, .f32⟩
  | .hbm, ⟨16, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x256, .bf16⟩
  | .local _ .vmem, ⟨12, _⟩ => ⟨S512x256, .bf16⟩
  | .local _ .vmem, ⟨13, _⟩ => ⟨S1792x1024, .bf16⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v44 : BitVec 32 := Scalar.extui v0
  let c0_i32_23 : BitVec 32 := 0#32
  let v45 : BitVec 1 := Scalar.cmpi .ne v44 c0_i32_23
  v45

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v46 : BitVec 1 := Scalar.xori v0 v_true
  let v47 : BitVec 32 := Scalar.extui v46
  let c0_i32_24 : BitVec 32 := 0#32
  let v48 : BitVec 1 := Scalar.cmpi .ne v47 c0_i32_24
  v48

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1792x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference8Ideal.lean ====
abbrev S8192x1024 : Shape := ⟨2, ![8192, 1024]⟩
abbrev S1024 : Shape := ⟨1, ![1024]⟩
abbrev S1024x1792 : Shape := ⟨2, ![1024, 1792]⟩
abbrev S8192x512 : Shape := ⟨2, ![8192, 512]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x1792 : Shape := ⟨2, ![8192, 1792]⟩

abbrev nBuf : Space → Nat
  | .hbm => 72
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1792, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x256, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1792, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S8192x256, .f32⟩
  | .hbm, ⟨33, _⟩ => ⟨S_, .f32⟩
  | .hbm, ⟨34, _⟩ => ⟨S8192x1792, .f32⟩
  | .hbm, ⟨35, _⟩ => ⟨S_, .f32⟩
  | .hbm, ⟨36, _⟩ => ⟨S8192x1792, .f32⟩
  | .hbm, ⟨37, _⟩ => ⟨S8192x1792, .f32⟩
  | .hbm, ⟨38, _⟩ => ⟨S_, .f32⟩
  | .hbm, ⟨39, _⟩ => ⟨S8192x1792, .f32⟩
  | .hbm, ⟨40, _⟩ => ⟨S8192x1792, .f32⟩
  | .hbm, ⟨41, _⟩ => ⟨S_, .f32⟩
  | .hbm, ⟨42, _⟩ => ⟨S8192x1792, .f32⟩
  | .hbm, ⟨43, _⟩ => ⟨S8192x1792, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S1024, .f32⟩
  | .hbm, ⟨53, _⟩ => ⟨S8192x1024, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_8 : Ref sig .tc := ⟨.hbm, 51, rfl⟩
abbrev main_v34 : Ref sig .tc := ⟨.hbm, 52, rfl⟩
abbrev main_v35 : Ref sig .tc := ⟨.hbm, 53, rfl⟩
abbrev main_cst_9 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_10 : Ref sig .tc := ⟨.hbm, 61, rfl⟩
abbrev main_v42 : Ref sig .tc := ⟨.hbm, 62, rfl⟩
abbrev main_v43 : Ref sig .tc := ⟨.hbm, 63, rfl⟩
abbrev main_cst_11 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩

abbrev nD : Nat := 1
abbrev τ : Topo := Topo.v7x

variable {F : FTy → Type} [FloatOps F]
-- ==== Kernel14.lean ====
abbrev S8192x1024 : Shape := ⟨2, ![8192, 1024]⟩
abbrev S1024 : Shape := ⟨1, ![1024]⟩
abbrev S1024x1792 : Shape := ⟨2, ![1024, 1792]⟩
abbrev S1x1024 : Shape := ⟨2, ![1, 1024]⟩
abbrev S1792x1024 : Shape := ⟨2, ![1792, 1024]⟩
abbrev S8192x1792 : Shape := ⟨2, ![8192, 1792]⟩
abbrev S512x1024 : Shape := ⟨2, ![512, 1024]⟩
abbrev S512x1792 : Shape := ⟨2, ![512, 1792]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩

abbrev nBuf : Space → Nat
  | .hbm => 8
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1792, .f32⟩
  | .hbm, ⟨3, _⟩ => ⟨S1x1024, .f32⟩
  | .hbm, ⟨4, _⟩ => ⟨S1792x1024, .f32⟩
  | .hbm, ⟨5, _⟩ => ⟨S1792x1024, .bf16⟩
  | .hbm, ⟨6, _⟩ => ⟨S8192x1024, .bf16⟩
  | .hbm, ⟨7, _⟩ => ⟨S8192x1792, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1792x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1792, .bf16⟩
  | .local _ .vmem, ⟨7, _⟩ => ⟨S512x1792, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1792x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1792 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference14Ideal.lean ====
abbrev S8192x1024 : Shape := ⟨2, ![8192, 1024]⟩
abbrev S1024 : Shape := ⟨1, ![1024]⟩
abbrev S1024x1792 : Shape := ⟨2, ![1024, 1792]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x1792 : Shape := ⟨2, ![8192, 1792]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1792, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S8192x1792, .f32⟩
  | .hbm, ⟨21, _⟩ => ⟨S8192x1792, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel16.lean ====
abbrev S8192x512 : Shape := ⟨2, ![8192, 512]⟩
abbrev S8192x256 : Shape := ⟨2, ![8192, 256]⟩
abbrev S768x1024 : Shape := ⟨2, ![768, 1024]⟩
abbrev S8192x1024 : Shape := ⟨2, ![8192, 1024]⟩
abbrev S8x768x128 : Shape := ⟨3, ![8, 768, 128]⟩
abbrev S512x512 : Shape := ⟨2, ![512, 512]⟩
abbrev S512x256 : Shape := ⟨2, ![512, 256]⟩
abbrev S512x1024 : Shape := ⟨2, ![512, 1024]⟩
abbrev S256x1024 : Shape := ⟨2, ![256, 1024]⟩
abbrev S768x128 : Shape := ⟨2, ![768, 128]⟩
abbrev S1x768x128 : Shape := ⟨3, ![1, 768, 128]⟩

abbrev nBuf : Space → Nat
  | .hbm => 8
  | .vmem => 8
  | .smem => 0
  | _ => 0

abbrev bufTy : (tb : Table) → Fin (tcTables nBuf tb) → BufTy
  | .hbm, ⟨0, _⟩ => ⟨S8192x512, .f32⟩
  | .hbm, ⟨1, _⟩ => ⟨S8192x256, .f32⟩
  | .hbm, ⟨2, _⟩ => ⟨S768x1024, .f32⟩
  | .hbm, ⟨3, _⟩ => ⟨S8192x1024, .f32⟩
  | .hbm, ⟨4, _⟩ => ⟨S8192x512, .bf16⟩
  | .hbm, ⟨5, _⟩ => ⟨S8192x256, .bf16⟩
  | .hbm, ⟨6, _⟩ => ⟨S8192x1024, .bf16⟩
  | .hbm, ⟨7, _⟩ => ⟨S8x768x128, .bf16⟩
  | .local _ .vmem, ⟨0, _⟩ => ⟨S512x512, .bf16⟩
  | .local _ .vmem, ⟨1, _⟩ => ⟨S512x512, .bf16⟩
  | .local _ .vmem, ⟨2, _⟩ => ⟨S512x256, .bf16⟩
  | .local _ .vmem, ⟨3, _⟩ => ⟨S512x256, .bf16⟩
  | .local _ .vmem, ⟨4, _⟩ => ⟨S512x1024, .bf16⟩
  | .local _ .vmem, ⟨5, _⟩ => ⟨S512x1024, .bf16⟩
  | .local _ .vmem, ⟨6, _⟩ => ⟨S8x768x128, .bf16⟩
  | .local _ .vmem, ⟨7, _⟩ => ⟨S768x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v23 : BitVec 1 := Scalar.cmpi .eq arg0 c15_i32
  let v24 : BitVec 32 := Scalar.extui v23
  let c0_i32_16 : BitVec 32 := 0#32
  let v25 : BitVec 1 := Scalar.cmpi .ne v24 c0_i32_16
  v25

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x768x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference16Ideal.lean ====
abbrev S8192x512 : Shape := ⟨2, ![8192, 512]⟩
abbrev S8192x256 : Shape := ⟨2, ![8192, 256]⟩
abbrev S768x1024 : Shape := ⟨2, ![768, 1024]⟩
abbrev S8192x1024 : Shape := ⟨2, ![8192, 1024]⟩
abbrev S8192x768 : Shape := ⟨2, ![8192, 768]⟩
abbrev S1024x768 : Shape := ⟨2, ![1024, 768]⟩
abbrev S768x8x128 : Shape := ⟨3, ![768, 8, 128]⟩
abbrev S8x768x128 : Shape := ⟨3, ![8, 768, 128]⟩

abbrev nBuf : Space → Nat
  | .hbm => 11
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x256, .f32⟩
  | .hbm, ⟨2, _⟩ => ⟨S768x1024, .f32⟩
  | .hbm, ⟨3, _⟩ => ⟨S8192x1024, .f32⟩
  | .hbm, ⟨4, _⟩ => ⟨S8192x768, .f32⟩
  | .hbm, ⟨5, _⟩ => ⟨S8192x1024, .f32⟩
  | .hbm, ⟨6, _⟩ => ⟨S1024x768, .f32⟩
  | .hbm, ⟨7, _⟩ => ⟨S768x1024, .f32⟩
  | .hbm, ⟨8, _⟩ => ⟨S768x8x128, .f32⟩
  | .hbm, ⟨9, _⟩ => ⟨S8x768x128, .f32⟩
  | .hbm, ⟨10, _⟩ => ⟨S8x768x128, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel17.lean ====
abbrev S8192x1024 : Shape := ⟨2, ![8192, 1024]⟩
abbrev S1024x768 : Shape := ⟨2, ![1024, 768]⟩
abbrev S8192x512 : Shape := ⟨2, ![8192, 512]⟩
abbrev S8192x256 : Shape := ⟨2, ![8192, 256]⟩
abbrev S8x128x768 : Shape := ⟨3, ![8, 128, 768]⟩
abbrev S512x1024 : Shape := ⟨2, ![512, 1024]⟩
abbrev S512x512 : Shape := ⟨2, ![512, 512]⟩
abbrev S512x256 : Shape := ⟨2, ![512, 256]⟩
abbrev S1024x512 : Shape := ⟨2, ![1024, 512]⟩
abbrev S1024x256 : Shape := ⟨2, ![1024, 256]⟩
abbrev S128x768 : Shape := ⟨2, ![128, 768]⟩
abbrev S1x128x768 : Shape := ⟨3, ![1, 128, 768]⟩

abbrev nBuf : Space → Nat
  | .hbm => 8
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024x768, .f32⟩
  | .hbm, ⟨2, _⟩ => ⟨S8192x512, .f32⟩
  | .hbm, ⟨3, _⟩ => ⟨S8192x256, .f32⟩
  | .hbm, ⟨4, _⟩ => ⟨S8192x1024, .bf16⟩
  | .hbm, ⟨5, _⟩ => ⟨S8192x512, .bf16⟩
  | .hbm, ⟨6, _⟩ => ⟨S8192x256, .bf16⟩
  | .hbm, ⟨7, _⟩ => ⟨S8x128x768, .bf16⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x256, .bf16⟩
  | .local _ .vmem, ⟨5, _⟩ => ⟨S512x256, .bf16⟩
  | .local _ .vmem, ⟨6, _⟩ => ⟨S8x128x768, .bf16⟩
  | .local _ .vmem, ⟨7, _⟩ => ⟨S1024x768, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v21 : BitVec 1 := Scalar.cmpi .eq arg0 c15_i32
  let v22 : BitVec 32 := Scalar.extui v21
  let c0_i32_14 : BitVec 32 := 0#32
  let v23 : BitVec 1 := Scalar.cmpi .ne v22 c0_i32_14
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference17Ideal.lean ====
abbrev S8192x1024 : Shape := ⟨2, ![8192, 1024]⟩
abbrev S1024x768 : Shape := ⟨2, ![1024, 768]⟩
abbrev S8192x512 : Shape := ⟨2, ![8192, 512]⟩
abbrev S8192x256 : Shape := ⟨2, ![8192, 256]⟩
abbrev S8192x768 : Shape := ⟨2, ![8192, 768]⟩
abbrev S_ : Shape := ⟨0, ![]⟩
abbrev S768x1024 : Shape := ⟨2, ![768, 1024]⟩
abbrev S8x128x768 : Shape := ⟨3, ![8, 128, 768]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x768, .f32⟩
  | .hbm, ⟨2, _⟩ => ⟨S8192x512, .f32⟩
  | .hbm, ⟨3, _⟩ => ⟨S8192x256, .f32⟩
  | .hbm, ⟨4, _⟩ => ⟨S8192x768, .f32⟩
  | .hbm, ⟨5, _⟩ => ⟨S8192x512, .f32⟩
  | .hbm, ⟨6, _⟩ => ⟨S8192x768, .f32⟩
  | .hbm, ⟨7, _⟩ => ⟨S8192x256, .f32⟩
  | .hbm, ⟨8, _⟩ => ⟨S_, .f32⟩
  | .hbm, ⟨9, _⟩ => ⟨S8192x768, .f32⟩
  | .hbm, ⟨10, _⟩ => ⟨S768x1024, .f32⟩
  | .hbm, ⟨11, _⟩ => ⟨S1024x768, .f32⟩
  | .hbm, ⟨12, _⟩ => ⟨S_, .f32⟩
  | .hbm, ⟨13, _⟩ => ⟨S8192x768, .f32⟩
  | .hbm, ⟨14, _⟩ => ⟨S768x1024, .f32⟩
  | .hbm, ⟨15, _⟩ => ⟨S1024x768, .f32⟩
  | .hbm, ⟨16, _⟩ => ⟨S1024x768, .f32⟩
  | .hbm, ⟨17, _⟩ => ⟨S8x128x768, .f32⟩
  | .hbm, ⟨18, _⟩ => ⟨S8x128x768, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Kernel18.lean ====
abbrev S8192x1024 : Shape := ⟨2, ![8192, 1024]⟩
abbrev S1024x1792 : Shape := ⟨2, ![1024, 1792]⟩
abbrev S8192x512 : Shape := ⟨2, ![8192, 512]⟩
abbrev S8192x256 : Shape := ⟨2, ![8192, 256]⟩
abbrev S8x224x1024 : Shape := ⟨3, ![8, 224, 1024]⟩
abbrev S512x512 : Shape := ⟨2, ![512, 512]⟩
abbrev S512x256 : Shape := ⟨2, ![512, 256]⟩
abbrev S512x1024 : Shape := ⟨2, ![512, 1024]⟩
abbrev S1792x1024 : Shape := ⟨2, ![1792, 1024]⟩
abbrev S256x1024 : Shape := ⟨2, ![256, 1024]⟩
abbrev S224x1024 : Shape := ⟨2, ![224, 1024]⟩
abbrev S1x224x1024 : Shape := ⟨3, ![1, 224, 1024]⟩

abbrev nBuf : Space → Nat
  | .hbm => 12
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024x1792, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x256, .f32⟩
  | .hbm, ⟨6, _⟩ => ⟨S8192x512, .bf16⟩
  | .hbm, ⟨7, _⟩ => ⟨S8192x512, .bf16⟩
  | .hbm, ⟨8, _⟩ => ⟨S8192x512, .bf16⟩
  | .hbm, ⟨9, _⟩ => ⟨S8192x256, .bf16⟩
  | .hbm, ⟨10, _⟩ => ⟨S8192x1024, .bf16⟩
  | .hbm, ⟨11, _⟩ => ⟨S8x224x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x256, .bf16⟩
  | .local _ .vmem, ⟨7, _⟩ => ⟨S512x256, .bf16⟩
  | .local _ .vmem, ⟨8, _⟩ => ⟨S512x1024, .bf16⟩
  | .local _ .vmem, ⟨9, _⟩ => ⟨S512x1024, .bf16⟩
  | .local _ .vmem, ⟨10, _⟩ => ⟨S8x224x1024, .bf16⟩
  | .local _ .vmem, ⟨11, _⟩ => ⟨S1792x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v43 : BitVec 1 := Scalar.cmpi .eq arg0 c15_i32
  let v44 : BitVec 32 := Scalar.extui v43
  let c0_i32_32 : BitVec 32 := 0#32
  let v45 : BitVec 1 := Scalar.cmpi .ne v44 c0_i32_32
  v45

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x224x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference18Ideal.lean ====
abbrev S8192x1024 : Shape := ⟨2, ![8192, 1024]⟩
abbrev S1024x1792 : Shape := ⟨2, ![1024, 1792]⟩
abbrev S8192x512 : Shape := ⟨2, ![8192, 512]⟩
abbrev S8192x256 : Shape := ⟨2, ![8192, 256]⟩
abbrev S8192x1792 : Shape := ⟨2, ![8192, 1792]⟩
abbrev S_ : Shape := ⟨0, ![]⟩
abbrev S1792x1024 : Shape := ⟨2, ![1792, 1024]⟩
abbrev S8x224x1024 : Shape := ⟨3, ![8, 224, 1024]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1792, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x256, .f32⟩
  | .hbm, ⟨6, _⟩ => ⟨S8192x1792, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x256, .f32⟩
  | .hbm, ⟨11, _⟩ => ⟨S_, .f32⟩
  | .hbm, ⟨12, _⟩ => ⟨S8192x1792, .f32⟩
  | .hbm, ⟨13, _⟩ => ⟨S_, .f32⟩
  | .hbm, ⟨14, _⟩ => ⟨S8192x1792, .f32⟩
  | .hbm, ⟨15, _⟩ => ⟨S8192x1792, .f32⟩
  | .hbm, ⟨16, _⟩ => ⟨S_, .f32⟩
  | .hbm, ⟨17, _⟩ => ⟨S8192x1792, .f32⟩
  | .hbm, ⟨18, _⟩ => ⟨S8192x1792, .f32⟩
  | .hbm, ⟨19, _⟩ => ⟨S_, .f32⟩
  | .hbm, ⟨20, _⟩ => ⟨S8192x1792, .f32⟩
  | .hbm, ⟨21, _⟩ => ⟨S8192x1792, .f32⟩
  | .hbm, ⟨22, _⟩ => ⟨S1792x1024, .f32⟩
  | .hbm, ⟨23, _⟩ => ⟨S1024x1792, .f32⟩
  | .hbm, ⟨24, _⟩ => ⟨S1792x1024, .f32⟩
  | .hbm, ⟨25, _⟩ => ⟨S8x224x1024, .f32⟩
  | .hbm, ⟨26, _⟩ => ⟨S8x224x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Kernel12.lean ====
abbrev S8192x1024 : Shape := ⟨2, ![8192, 1024]⟩
abbrev S8192x512 : Shape := ⟨2, ![8192, 512]⟩
abbrev S8192x1792 : Shape := ⟨2, ![8192, 1792]⟩
abbrev S256x256 : Shape := ⟨2, ![256, 256]⟩
abbrev S768x1024 : Shape := ⟨2, ![768, 1024]⟩
abbrev S1024 : Shape := ⟨1, ![1024]⟩
abbrev S1024x768 : Shape := ⟨2, ![1024, 768]⟩
abbrev S1x1024 : Shape := ⟨2, ![1, 1024]⟩
abbrev S8192x256 : Shape := ⟨2, ![8192, 256]⟩
abbrev S512x1024 : Shape := ⟨2, ![512, 1024]⟩
abbrev S512x512 : Shape := ⟨2, ![512, 512]⟩
abbrev S512x256 : Shape := ⟨2, ![512, 256]⟩
abbrev S2048x256 : Shape := ⟨2, ![2048, 256]⟩
abbrev S2048 : Shape := ⟨1, ![2048]⟩
abbrev S2048x1 : Shape := ⟨2, ![2048, 1]⟩
abbrev S512x768 : Shape := ⟨2, ![512, 768]⟩
abbrev S512 : Shape := ⟨1, ![512]⟩
abbrev S512x1 : Shape := ⟨2, ![512, 1]⟩

abbrev nBuf : Space → Nat
  | .hbm => 17
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x1792, .f32⟩
  | .hbm, ⟨3, _⟩ => ⟨S256x256, .f32⟩
  | .hbm, ⟨4, _⟩ => ⟨S256x256, .f32⟩
  | .hbm, ⟨5, _⟩ => ⟨S768x1024, .f32⟩
  | .hbm, ⟨6, _⟩ => ⟨S1024, .f32⟩
  | .hbm, ⟨7, _⟩ => ⟨S8192x512, .bf16⟩
  | .hbm, ⟨8, _⟩ => ⟨S8192x1792, .bf16⟩
  | .hbm, ⟨9, _⟩ => ⟨S256x256, .bf16⟩
  | .hbm, ⟨10, _⟩ => ⟨S256x256, .bf16⟩
  | .hbm, ⟨11, _⟩ => ⟨S1024x768, .f32⟩
  | .hbm, ⟨12, _⟩ => ⟨S1024x768, .bf16⟩
  | .hbm, ⟨13, _⟩ => ⟨S1x1024, .f32⟩
  | .hbm, ⟨14, _⟩ => ⟨S8192x1024, .f32⟩
  | .hbm, ⟨15, _⟩ => ⟨S8192x256, .bf16⟩
  | .hbm, ⟨16, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x256, .bf16⟩
  | .local _ .vmem, ⟨5, _⟩ => ⟨S512x256, .bf16⟩
  | .local _ .vmem, ⟨6, _⟩ => ⟨S256x256, .bf16⟩
  | .local _ .vmem, ⟨7, _⟩ => ⟨S256x256, .bf16⟩
  | .local _ .vmem, ⟨8, _⟩ => ⟨S1024x768, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x256, .bf16⟩
  | .local _ .vmem, ⟨13, _⟩ => ⟨S512x256, .bf16⟩
  | .local _ .vmem, ⟨14, _⟩ => ⟨S512x1024, .f32⟩
  | .local _ .vmem, ⟨15, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference12Ideal.lean ====
abbrev S8192x1024 : Shape := ⟨2, ![8192, 1024]⟩
abbrev S8192x512 : Shape := ⟨2, ![8192, 512]⟩
abbrev S8192x1792 : Shape := ⟨2, ![8192, 1792]⟩
abbrev S256x256 : Shape := ⟨2, ![256, 256]⟩
abbrev S768x1024 : Shape := ⟨2, ![768, 1024]⟩
abbrev S1024 : Shape := ⟨1, ![1024]⟩
abbrev S8192x256 : Shape := ⟨2, ![8192, 256]⟩
abbrev S1x8192x256 : Shape := ⟨3, ![1, 8192, 256]⟩
abbrev S1x256x256 : Shape := ⟨3, ![1, 256, 256]⟩
abbrev S1x256x4x64 : Shape := ⟨4, ![1, 256, 4, 64]⟩
abbrev S1x8192x4x64 : Shape := ⟨4, ![1, 8192, 4, 64]⟩
abbrev S1x4x8192x256 : Shape := ⟨4, ![1, 4, 8192, 256]⟩
abbrev S_ : Shape := ⟨0, ![]⟩
abbrev S1x4x8192 : Shape := ⟨3, ![1, 4, 8192]⟩
abbrev S1x4x8192x1 : Shape := ⟨4, ![1, 4, 8192, 1]⟩
abbrev S1x4x64x8192 : Shape := ⟨4, ![1, 4, 64, 8192]⟩
abbrev S8192x768 : Shape := ⟨2, ![8192, 768]⟩
abbrev S8192 : Shape := ⟨1, ![8192]⟩
abbrev S8192x1 : Shape := ⟨2, ![8192, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x1792, .f32⟩
  | .hbm, ⟨3, _⟩ => ⟨S256x256, .f32⟩
  | .hbm, ⟨4, _⟩ => ⟨S256x256, .f32⟩
  | .hbm, ⟨5, _⟩ => ⟨S768x1024, .f32⟩
  | .hbm, ⟨6, _⟩ => ⟨S1024, .f32⟩
  | .hbm, ⟨7, _⟩ => ⟨S8192x256, .f32⟩
  | .hbm, ⟨8, _⟩ => ⟨S1x8192x256, .f32⟩
  | .hbm, ⟨9, _⟩ => ⟨S1x256x256, .f32⟩
  | .hbm, ⟨10, _⟩ => ⟨S1x256x256, .f32⟩
  | .hbm, ⟨11, _⟩ => ⟨S1x256x4x64, .f32⟩
  | .hbm, ⟨12, _⟩ => ⟨S1x256x4x64, .f32⟩
  | .hbm, ⟨13, _⟩ => ⟨S1x8192x4x64, .f32⟩
  | .hbm, ⟨14, _⟩ => ⟨S1x4x8192x256, .f32⟩
  | .hbm, ⟨15, _⟩ => ⟨S_, .f32⟩
  | .hbm, ⟨16, _⟩ => ⟨S1x4x8192x256, .f32⟩
  | .hbm, ⟨17, _⟩ => ⟨S1x4x8192x256, .f32⟩
  | .hbm, ⟨18, _⟩ => ⟨S_, .f32⟩
  | .hbm, ⟨19, _⟩ => ⟨S1x4x8192, .f32⟩
  | .hbm, ⟨20, _⟩ => ⟨S_, .f32⟩
  | .hbm, ⟨21, _⟩ => ⟨S1x4x8192, .f32⟩
  | .hbm, ⟨22, _⟩ => ⟨S1x4x8192, .f32⟩
  | .hbm, ⟨23, _⟩ => ⟨S1x4x8192x1, .f32⟩
  | .hbm, ⟨24, _⟩ => ⟨S1x4x8192x256, .f32⟩
  | .hbm, ⟨25, _⟩ => ⟨S1x4x8192x256, .f32⟩
  | .hbm, ⟨26, _⟩ => ⟨S1x4x8192x256, .f32⟩
  | .hbm, ⟨27, _⟩ => ⟨S_, .f32⟩
  | .hbm, ⟨28, _⟩ => ⟨S1x4x8192, .f32⟩
  | .hbm, ⟨29, _⟩ => ⟨S1x4x8192x1, .f32⟩
  | .hbm, ⟨30, _⟩ => ⟨S1x4x8192x256, .f32⟩
  | .hbm, ⟨31, _⟩ => ⟨S1x4x8192x256, .f32⟩
  | .hbm, ⟨32, _⟩ => ⟨S1x4x64x8192, .f32⟩
  | .hbm, ⟨33, _⟩ => ⟨S1x8192x4x64, .f32⟩
  | .hbm, ⟨34, _⟩ => ⟨S1x8192x256, .f32⟩
  | .hbm, ⟨35, _⟩ => ⟨S8192x256, .f32⟩
  | .hbm, ⟨36, _⟩ => ⟨S8192x768, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S8192x1, .f32⟩
  | .hbm, ⟨49, _⟩ => ⟨S8192x1024, .f32⟩
  | .hbm, ⟨50, _⟩ => ⟨S8192x1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x256, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel13.lean ====
abbrev S8192x1024 : Shape := ⟨2, ![8192, 1024]⟩
abbrev S8192x512 : Shape := ⟨2, ![8192, 512]⟩
abbrev S8192x256 : Shape := ⟨2, ![8192, 256]⟩
abbrev S256x256 : Shape := ⟨2, ![256, 256]⟩
abbrev S768x1024 : Shape := ⟨2, ![768, 1024]⟩
abbrev S1024 : Shape := ⟨1, ![1024]⟩
abbrev S1024x768 : Shape := ⟨2, ![1024, 768]⟩
abbrev S1x1024 : Shape := ⟨2, ![1, 1024]⟩
abbrev S512x1024 : Shape := ⟨2, ![512, 1024]⟩
abbrev S512x512 : Shape := ⟨2, ![512, 512]⟩
abbrev S512x256 : Shape := ⟨2, ![512, 256]⟩
abbrev S2048x256 : Shape := ⟨2, ![2048, 256]⟩
abbrev S2048 : Shape := ⟨1, ![2048]⟩
abbrev S2048x1 : Shape := ⟨2, ![2048, 1]⟩
abbrev S512x768 : Shape := ⟨2, ![512, 768]⟩
abbrev S512 : Shape := ⟨1, ![512]⟩
abbrev S512x1 : Shape := ⟨2, ![512, 1]⟩

abbrev nBuf : Space → Nat
  | .hbm => 17
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x256, .f32⟩
  | .hbm, ⟨3, _⟩ => ⟨S256x256, .f32⟩
  | .hbm, ⟨4, _⟩ => ⟨S256x256, .f32⟩
  | .hbm, ⟨5, _⟩ => ⟨S768x1024, .f32⟩
  | .hbm, ⟨6, _⟩ => ⟨S1024, .f32⟩
  | .hbm, ⟨7, _⟩ => ⟨S8192x512, .bf16⟩
  | .hbm, ⟨8, _⟩ => ⟨S8192x256, .bf16⟩
  | .hbm, ⟨9, _⟩ => ⟨S256x256, .bf16⟩
  | .hbm, ⟨10, _⟩ => ⟨S256x256, .bf16⟩
  | .hbm, ⟨11, _⟩ => ⟨S1024x768, .f32⟩
  | .hbm, ⟨12, _⟩ => ⟨S1024x768, .bf16⟩
  | .hbm, ⟨13, _⟩ => ⟨S1x1024, .f32⟩
  | .hbm, ⟨14, _⟩ => ⟨S8192x1024, .f32⟩
  | .hbm, ⟨15, _⟩ => ⟨S8192x256, .bf16⟩
  | .hbm, ⟨16, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x256, .bf16⟩
  | .local _ .vmem, ⟨5, _⟩ => ⟨S512x256, .bf16⟩
  | .local _ .vmem, ⟨6, _⟩ => ⟨S256x256, .bf16⟩
  | .local _ .vmem, ⟨7, _⟩ => ⟨S256x256, .bf16⟩
  | .local _ .vmem, ⟨8, _⟩ => ⟨S1024x768, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x256, .bf16⟩
  | .local _ .vmem, ⟨13, _⟩ => ⟨S512x256, .bf16⟩
  | .local _ .vmem, ⟨14, _⟩ => ⟨S512x1024, .f32⟩
  | .local _ .vmem, ⟨15, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference13Ideal.lean ====
abbrev S8192x1024 : Shape := ⟨2, ![8192, 1024]⟩
abbrev S8192x512 : Shape := ⟨2, ![8192, 512]⟩
abbrev S8192x256 : Shape := ⟨2, ![8192, 256]⟩
abbrev S256x256 : Shape := ⟨2, ![256, 256]⟩
abbrev S768x1024 : Shape := ⟨2, ![768, 1024]⟩
abbrev S1024 : Shape := ⟨1, ![1024]⟩
abbrev S1x8192x256 : Shape := ⟨3, ![1, 8192, 256]⟩
abbrev S1x256x256 : Shape := ⟨3, ![1, 256, 256]⟩
abbrev S1x256x4x64 : Shape := ⟨4, ![1, 256, 4, 64]⟩
abbrev S1x8192x4x64 : Shape := ⟨4, ![1, 8192, 4, 64]⟩
abbrev S1x4x8192x256 : Shape := ⟨4, ![1, 4, 8192, 256]⟩
abbrev S_ : Shape := ⟨0, ![]⟩
abbrev S1x4x8192 : Shape := ⟨3, ![1, 4, 8192]⟩
abbrev S1x4x8192x1 : Shape := ⟨4, ![1, 4, 8192, 1]⟩
abbrev S1x4x64x8192 : Shape := ⟨4, ![1, 4, 64, 8192]⟩
abbrev S8192x768 : Shape := ⟨2, ![8192, 768]⟩
abbrev S8192 : Shape := ⟨1, ![8192]⟩
abbrev S8192x1 : Shape := ⟨2, ![8192, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x256, .f32⟩
  | .hbm, ⟨3, _⟩ => ⟨S256x256, .f32⟩
  | .hbm, ⟨4, _⟩ => ⟨S256x256, .f32⟩
  | .hbm, ⟨5, _⟩ => ⟨S768x1024, .f32⟩
  | .hbm, ⟨6, _⟩ => ⟨S1024, .f32⟩
  | .hbm, ⟨7, _⟩ => ⟨S1x8192x256, .f32⟩
  | .hbm, ⟨8, _⟩ => ⟨S1x256x256, .f32⟩
  | .hbm, ⟨9, _⟩ => ⟨S1x256x256, .f32⟩
  | .hbm, ⟨10, _⟩ => ⟨S1x256x4x64, .f32⟩
  | .hbm, ⟨11, _⟩ => ⟨S1x256x4x64, .f32⟩
  | .hbm, ⟨12, _⟩ => ⟨S1x8192x4x64, .f32⟩
  | .hbm, ⟨13, _⟩ => ⟨S1x4x8192x256, .f32⟩
  | .hbm, ⟨14, _⟩ => ⟨S_, .f32⟩
  | .hbm, ⟨15, _⟩ => ⟨S1x4x8192x256, .f32⟩
  | .hbm, ⟨16, _⟩ => ⟨S1x4x8192x256, .f32⟩
  | .hbm, ⟨17, _⟩ => ⟨S_, .f32⟩
  | .hbm, ⟨18, _⟩ => ⟨S1x4x8192, .f32⟩
  | .hbm, ⟨19, _⟩ => ⟨S_, .f32⟩
  | .hbm, ⟨20, _⟩ => ⟨S1x4x8192, .f32⟩
  | .hbm, ⟨21, _⟩ => ⟨S1x4x8192, .f32⟩
  | .hbm, ⟨22, _⟩ => ⟨S1x4x8192x1, .f32⟩
  | .hbm, ⟨23, _⟩ => ⟨S1x4x8192x256, .f32⟩
  | .hbm, ⟨24, _⟩ => ⟨S1x4x8192x256, .f32⟩
  | .hbm, ⟨25, _⟩ => ⟨S1x4x8192x256, .f32⟩
  | .hbm, ⟨26, _⟩ => ⟨S_, .f32⟩
  | .hbm, ⟨27, _⟩ => ⟨S1x4x8192, .f32⟩
  | .hbm, ⟨28, _⟩ => ⟨S1x4x8192x1, .f32⟩
  | .hbm, ⟨29, _⟩ => ⟨S1x4x8192x256, .f32⟩
  | .hbm, ⟨30, _⟩ => ⟨S1x4x8192x256, .f32⟩
  | .hbm, ⟨31, _⟩ => ⟨S1x4x64x8192, .f32⟩
  | .hbm, ⟨32, _⟩ => ⟨S1x8192x4x64, .f32⟩
  | .hbm, ⟨33, _⟩ => ⟨S1x8192x256, .f32⟩
  | .hbm, ⟨34, _⟩ => ⟨S8192x256, .f32⟩
  | .hbm, ⟨35, _⟩ => ⟨S8192x768, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x1, .f32⟩
  | .hbm, ⟨48, _⟩ => ⟨S8192x1024, .f32⟩
  | .hbm, ⟨49, _⟩ => ⟨S8192x1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x256, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel11.lean ====
abbrev S256x1024 : Shape := ⟨2, ![256, 1024]⟩
abbrev S1024 : Shape := ⟨1, ![1024]⟩
abbrev S1024x512 : Shape := ⟨2, ![1024, 512]⟩
abbrev S256x256 : Shape := ⟨2, ![256, 256]⟩
abbrev S1x1024 : Shape := ⟨2, ![1, 1024]⟩
abbrev S_ : Shape := ⟨0, ![]⟩
abbrev S256 : Shape := ⟨1, ![256]⟩
abbrev S256x1 : Shape := ⟨2, ![256, 1]⟩
abbrev S8x128x512 : Shape := ⟨3, ![8, 128, 512]⟩
abbrev S256x512 : Shape := ⟨2, ![256, 512]⟩
abbrev S128x512 : Shape := ⟨2, ![128, 512]⟩
abbrev S1x128x512 : Shape := ⟨3, ![1, 128, 512]⟩
abbrev S256x128 : Shape := ⟨2, ![256, 128]⟩

abbrev nBuf : Space → Nat
  | .hbm => 27
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x512, .f32⟩
  | .hbm, ⟨3, _⟩ => ⟨S256x256, .f32⟩
  | .hbm, ⟨4, _⟩ => ⟨S256x256, .f32⟩
  | .hbm, ⟨5, _⟩ => ⟨S1x1024, .f32⟩
  | .hbm, ⟨6, _⟩ => ⟨S256x1024, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x1024, .f32⟩
  | .hbm, ⟨18, _⟩ => ⟨S256x1024, .f32⟩
  | .hbm, ⟨19, _⟩ => ⟨S1x1024, .f32⟩
  | .hbm, ⟨20, _⟩ => ⟨S256x1024, .f32⟩
  | .hbm, ⟨21, _⟩ => ⟨S256x1024, .f32⟩
  | .hbm, ⟨22, _⟩ => ⟨S256x1024, .bf16⟩
  | .hbm, ⟨23, _⟩ => ⟨S8x128x512, .f32⟩
  | .hbm, ⟨24, _⟩ => ⟨S8x128x512, .bf16⟩
  | .hbm, ⟨25, _⟩ => ⟨S8x128x512, .bf16⟩
  | .hbm, ⟨26, _⟩ => ⟨S1x1024, .f32⟩
  | .local _ .vmem, ⟨0, _⟩ => ⟨S256x256, .f32⟩
  | .local _ .vmem, ⟨1, _⟩ => ⟨S256x256, .f32⟩
  | .local _ .vmem, ⟨2, _⟩ => ⟨S256x1024, .f32⟩
  | .local _ .vmem, ⟨3, _⟩ => ⟨S1x1024, .f32⟩
  | .local _ .vmem, ⟨4, _⟩ => ⟨S256x1024, .bf16⟩
  | .local _ .vmem, ⟨5, _⟩ => ⟨S8x128x512, .bf16⟩
  | .local _ .vmem, ⟨6, _⟩ => ⟨S8x128x512, .bf16⟩
  | .local _ .vmem, ⟨7, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17_0 : Ref sig .tc := ⟨.hbm, 25, rfl⟩
abbrev main_v17_1 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference11Ideal.lean ====
abbrev S256x1024 : Shape := ⟨2, ![256, 1024]⟩
abbrev S1024 : Shape := ⟨1, ![1024]⟩
abbrev S1024x512 : Shape := ⟨2, ![1024, 512]⟩
abbrev S256x256 : Shape := ⟨2, ![256, 256]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S256x512 : Shape := ⟨2, ![256, 512]⟩
abbrev S512x1024 : Shape := ⟨2, ![512, 1024]⟩
abbrev S8x128x512 : Shape := ⟨3, ![8, 128, 512]⟩

abbrev nBuf : Space → Nat
  | .hbm => 41
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x512, .f32⟩
  | .hbm, ⟨3, _⟩ => ⟨S256x256, .f32⟩
  | .hbm, ⟨4, _⟩ => ⟨S256x256, .f32⟩
  | .hbm, ⟨5, _⟩ => ⟨S256x1024, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S256x1024, .f32⟩
  | .hbm, ⟨17, _⟩ => ⟨S256x1024, .f32⟩
  | .hbm, ⟨18, _⟩ => ⟨S1x1024, .f32⟩
  | .hbm, ⟨19, _⟩ => ⟨S256x1024, .f32⟩
  | .hbm, ⟨20, _⟩ => ⟨S256x1024, .f32⟩
  | .hbm, ⟨21, _⟩ => ⟨S256x512, .f32⟩
  | .hbm, ⟨22, _⟩ => ⟨S256x256, .f32⟩
  | .hbm, ⟨23, _⟩ => ⟨S256x256, .f32⟩
  | .hbm, ⟨24, _⟩ => ⟨S_, .f32⟩
  | .hbm, ⟨25, _⟩ => ⟨S256x512, .f32⟩
  | .hbm, ⟨26, _⟩ => ⟨S_, .f32⟩
  | .hbm, ⟨27, _⟩ => ⟨S256x512, .f32⟩
  | .hbm, ⟨28, _⟩ => ⟨S256x512, .f32⟩
  | .hbm, ⟨29, _⟩ => ⟨S512x1024, .f32⟩
  | .hbm, ⟨30, _⟩ => ⟨S1024x512, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S_, .f32⟩
  | .hbm, ⟨37, _⟩ => ⟨S1024, .f32⟩
  | .hbm, ⟨38, _⟩ => ⟨S8x128x512, .f32⟩
  | .hbm, ⟨39, _⟩ => ⟨S8x128x512, .bf16⟩
  | .hbm, ⟨40, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Kernel15.lean ====
abbrev S256x1024 : Shape := ⟨2, ![256, 1024]⟩
abbrev S1024 : Shape := ⟨1, ![1024]⟩
abbrev S1024x512 : Shape := ⟨2, ![1024, 512]⟩
abbrev S1x1024 : Shape := ⟨2, ![1, 1024]⟩
abbrev S8x128x512 : Shape := ⟨3, ![8, 128, 512]⟩
abbrev S256x256 : Shape := ⟨2, ![256, 256]⟩
abbrev S256 : Shape := ⟨1, ![256]⟩
abbrev S256x1 : Shape := ⟨2, ![256, 1]⟩
abbrev S256x512 : Shape := ⟨2, ![256, 512]⟩
abbrev S256x128 : Shape := ⟨2, ![256, 128]⟩
abbrev S1x128x512 : Shape := ⟨3, ![1, 128, 512]⟩
abbrev S128x512 : Shape := ⟨2, ![128, 512]⟩

abbrev nBuf : Space → Nat
  | .hbm => 9
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x512, .f32⟩
  | .hbm, ⟨3, _⟩ => ⟨S1x1024, .f32⟩
  | .hbm, ⟨4, _⟩ => ⟨S8x128x512, .f32⟩
  | .hbm, ⟨5, _⟩ => ⟨S8x128x512, .bf16⟩
  | .hbm, ⟨6, _⟩ => ⟨S256x1024, .bf16⟩
  | .hbm, ⟨7, _⟩ => ⟨S256x256, .bf16⟩
  | .hbm, ⟨8, _⟩ => ⟨S256x256, .bf16⟩
  | .local _ .vmem, ⟨0, _⟩ => ⟨S256x1024, .f32⟩
  | .local _ .vmem, ⟨1, _⟩ => ⟨S1x1024, .f32⟩
  | .local _ .vmem, ⟨2, _⟩ => ⟨S8x128x512, .bf16⟩
  | .local _ .vmem, ⟨3, _⟩ => ⟨S256x1024, .bf16⟩
  | .local _ .vmem, ⟨4, _⟩ => ⟨S256x256, .bf16⟩
  | .local _ .vmem, ⟨5, _⟩ => ⟨S256x256, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference15Ideal.lean ====
abbrev S256x1024 : Shape := ⟨2, ![256, 1024]⟩
abbrev S1024 : Shape := ⟨1, ![1024]⟩
abbrev S1024x512 : Shape := ⟨2, ![1024, 512]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S256x512 : Shape := ⟨2, ![256, 512]⟩
abbrev S256x256 : Shape := ⟨2, ![256, 256]⟩

abbrev nBuf : Space → Nat
  | .hbm => 25
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x512, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S1x1024, .f32⟩
  | .hbm, ⟨17, _⟩ => ⟨S256x1024, .f32⟩
  | .hbm, ⟨18, _⟩ => ⟨S256x1024, .f32⟩
  | .hbm, ⟨19, _⟩ => ⟨S256x512, .f32⟩
  | .hbm, ⟨20, _⟩ => ⟨S256x1024, .bf16⟩
  | .hbm, ⟨21, _⟩ => ⟨S256x256, .f32⟩
  | .hbm, ⟨22, _⟩ => ⟨S256x256, .bf16⟩
  | .hbm, ⟨23, _⟩ => ⟨S256x256, .f32⟩
  | .hbm, ⟨24, _⟩ => ⟨S256x256, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Proof.PoolSpec.lean ====
/- The gradient of the pooling mixer as sums over the whole arrays. -/
module

public import proofs.«01_k».proof.Proof.Gen.KernelIdeal.Value
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PoolSpec

/-- The lane `k` of group `g`. -/
def col (g : Fin 4) (k : Fin 128) : Fin 512 := ⟨128 * g.val + k.val, by omega⟩

theorem col_val (g : Fin 4) (k : Fin 128) : (col g k).val = 128 * g.val + k.val := rfl

theorem exists_col (j : Fin 512) : ∃ g k, j = col g k :=
  ⟨⟨j.val / 128, by omega⟩, ⟨j.val % 128, by omega⟩, Fin.ext (by simp only [col]; omega)⟩

/-- The length of group `g`'s trailing window. -/
def win : Fin 4 → ℕ := ![2, 4, 8, 16]

variable (ct : (⟨3, ![1, 8192, 512]⟩ : Shape).Idx → EReal) (W : (⟨3, ![4, 128, 128]⟩ : Shape).Idx → EReal)
  (sc : (⟨1, ![512]⟩ : Shape).Idx → EReal)

/-- The gradient of the differences: the cotangent scaled, times the group's weights transposed. -/
def dd (r : Fin 8192) (g : Fin 4) (e : Fin 128) : EReal :=
  ∑ k : Fin 128, ct (ix3 0 r (col g k)) * sc (ix1 (col g k)) * W (ix3 g e k)

/-- How many rows the trailing window holds at row `r`, as a word. -/
def cnt (r : ℕ) (g : Fin 4) : EReal :=
  FloatOps.sitofp (F := Ideal) .f32 (IntOp.minsi (BitVec.ofNat 32 (r + 1)) (BitVec.ofNat 32 (win g)))

/-- The gradient of the window sums; zero past the last row. -/
def q (r : ℕ) (g : Fin 4) (e : Fin 128) : EReal :=
  if h : r < 8192 then Ideal.div (dd ct W sc ⟨r, h⟩ g e) (cnt r g) else 0

/-- The gradient of the input: the window sums of `q` forward, less the gradient of the differences. -/
def dx (r : Fin 8192) (g : Fin 4) (e : Fin 128) : EReal :=
  (∑ k ∈ Finset.range (win g), q ct W sc (r.val + k) g e) - dd ct W sc r g e

end Cert.PoolSpec

end

end
-- ==== Proof.PoolRef.lean ====
/- What the reference computes at an element: the weight and scale gradients, and the quotients that its input gradient sums. -/
module

public import proofs.«01_k».proof.Proof.PoolSpec
public import proofs.«01_k».proof.Proof.Gen.ReferenceIdeal.Read

@[expose] public section

set_option maxRecDepth 16384

noncomputable section

open Idealize.ShloMosaic Idealize.ShloMosaic.TcCoe Idealize.SL.Sem
open Idealize.ShloMosaic.Pipeline (Dat)

namespace Cert.PoolRef
open Cert.ReferenceIdeal Cert.ReferenceIdeal.Gen Cert.ReferenceIdeal.Read Cert.PoolSpec
variable (u : S1x8192x512.Idx → EReal) (W : S4x128x128.Idx → EReal) (sc : S512.Idx → EReal) (ct : S1x8192x512.Idx → EReal)

theorem colOf (g : Fin 4) (k : Fin 128) (h : g.val * 128 + k.val < 512) : (⟨g.val * 128 + k.val, h⟩ : Fin 512) = col g k :=
  Fin.ext (by show g.val * 128 + k.val = 128 * g.val + k.val; omega)

theorem dw (g : Fin 4) (a b : Fin 128) : val_main_v88 (F := Ideal) u sc ct (ix3 g a b) = ∑ R : Fin 8192, val_main_v70 (F := Ideal) u (ix4 0 R g a) * (ct (ix3 0 R (col g b)) * sc (ix1 (col g b))) := by
  pointwise [val_main_v88, val_main_v87, val_main_v84, val_main_v83, val_main_v81, val_main_v80, val_main_v74]
  rw [Fin.sum_univ_one]
  refine Finset.sum_congr rfl fun R _ => ?_
  rw [mul_comm, colOf]
theorem drop01 (i : S1x1x512.Idx) : reducesTo_S1x1x512_S512_d0_1.drop i = ix1 (i 2) := by
  funext b
  match b with
  | ⟨0, _⟩ => rfl
theorem ds_rows (g : Fin 4) (e : Fin 128) : val_main_v79 (F := Ideal) u W ct (ix3 0 0 (col g e)) = ∑ R : Fin 8192, ct (ix3 0 R (col g e)) * ∑ k : Fin 128, val_main_v70 (F := Ideal) u (ix4 0 R g k) * W (ix3 g k e) := by
  pointwise [val_main_v79, val_main_v78, val_main_cst_14, val_main_v77, val_main_v73, val_main_v72, val_main_v71]
  have h1 : ∀ h, (⟨(col g e).val / 128, h⟩ : Fin 4) = g := fun h => Fin.ext (by show (128 * g.val + e.val) / 128 = g.val; omega)
  have h2 : ∀ h, (⟨(col g e).val % 128, h⟩ : Fin 128) = e := fun h => Fin.ext (by show (128 * g.val + e.val) % 128 = e.val; omega)
  refine Finset.sum_congr rfl fun R _ => ?_
  rw [mul_comm]
  congr 1
  refine Finset.sum_congr rfl fun k _ => ?_
  rw [mul_comm, h1, h2]
theorem ds (g : Fin 4) (e : Fin 128) : val_main_v147 (F := Ideal) u W ct (ix2 0 (col g e)) = ∑ R : Fin 8192, ct (ix3 0 R (col g e)) * ∑ k : Fin 128, val_main_v70 (F := Ideal) u (ix4 0 R g k) * W (ix3 g k e) := by
  rw [← ds_rows]
  pointwise [val_main_v147, val_main_v82]
  unfold Ideal.hostReduceAdd
  rw [Finset.sum_eq_single (ix3 0 0 (col g e))]
  · pointwise [val_main_cst_15]
  · intro i hi hne
    exfalso
    rw [Finset.mem_filter, drop01] at hi
    refine hne (funext fun a => ?_)
    match a with
    | ⟨0, _⟩ => exact Subsingleton.elim (α := Fin 1) _ _
    | ⟨1, _⟩ => exact Subsingleton.elim (α := Fin 1) _ _
    | ⟨2, _⟩ => exact congrFun hi.2 0
  · intro h
    exfalso
    rw [Finset.mem_filter, drop01] at h
    exact h ⟨Finset.mem_univ _, rfl⟩
theorem rdd (r : Fin 8192) (g : Fin 4) (e : Fin 128) : val_main_v86 (F := Ideal) W sc ct (ix4 0 r g e) = dd ct W sc r g e := by
  unfold dd
  pointwise [val_main_v86, val_main_v85, val_main_v84, val_main_v83, val_main_v81, val_main_v80, val_main_v74]
  refine Finset.sum_congr rfl fun k _ => ?_
  rw [colOf]
theorem rd0 (r : Fin 8192) (e : Fin 128) : val_main_v90 (F := Ideal) W sc ct (ix3 0 r e) = dd ct W sc r 0 e := by
  rw [← rdd]
  pointwise [val_main_v90, val_main_v89]
theorem rd1 (r : Fin 8192) (e : Fin 128) : val_main_v92 (F := Ideal) W sc ct (ix3 0 r e) = dd ct W sc r 1 e := by
  rw [← rdd]
  pointwise [val_main_v92, val_main_v91]
theorem rd2 (r : Fin 8192) (e : Fin 128) : val_main_v94 (F := Ideal) W sc ct (ix3 0 r e) = dd ct W sc r 2 e := by
  rw [← rdd]
  pointwise [val_main_v94, val_main_v93]
theorem rd3 (r : Fin 8192) (e : Fin 128) : val_main_v96 (F := Ideal) W sc ct (ix3 0 r e) = dd ct W sc r 3 e := by
  rw [← rdd]
  pointwise [val_main_v96, val_main_v95]
theorem addOne (r : ℕ) : IntOp.addi (BitVec.ofNat 32 r) 1#32 = BitVec.ofNat 32 (r + 1) := by
  rw [BitVec.ofNat_add]
  rfl
theorem q0 (r : Fin 8192) (e : Fin 128) : val_main_v135 (F := Ideal) W sc ct (ix3 0 r e) = q ct W sc r.val 0 e := by
  unfold q cnt
  rw [dif_pos r.isLt, ← rd0]
  pointwise [val_main_v135, val_main_v134, val_main_v12, val_main_v11, val_main_v10, val_main_v9, val_main_v8, val_main_v7, val_main_c_1, val_main_c, val_main_c_4, val_main_c_5, val_main_c_8, val_main_c_9, val_main_c_12, val_main_c_13, val_main_v1]
  rw [addOne]
  rfl
theorem q1 (r : Fin 8192) (e : Fin 128) : val_main_v123 (F := Ideal) W sc ct (ix3 0 r e) = q ct W sc r.val 1 e := by
  unfold q cnt
  rw [dif_pos r.isLt, ← rd1]
  pointwise [val_main_v123, val_main_v122, val_main_v28, val_main_v27, val_main_v26, val_main_v25, val_main_v24, val_main_v23, val_main_c_1, val_main_c, val_main_c_4, val_main_c_5, val_main_c_8, val_main_c_9, val_main_c_12, val_main_c_13, val_main_v1]
  rw [addOne]
  rfl
theorem q2 (r : Fin 8192) (e : Fin 128) : val_main_v111 (F := Ideal) W sc ct (ix3 0 r e) = q ct W sc r.val 2 e := by
  unfold q cnt
  rw [dif_pos r.isLt, ← rd2]
  pointwise [val_main_v111, val_main_v110, val_main_v44, val_main_v43, val_main_v42, val_main_v41, val_main_v40, val_main_v39, val_main_c_1, val_main_c, val_main_c_4, val_main_c_5, val_main_c_8, val_main_c_9, val_main_c_12, val_main_c_13, val_main_v1]
  rw [addOne]
  rfl
theorem q3 (r : Fin 8192) (e : Fin 128) : val_main_v100 (F := Ideal) W sc ct (ix3 0 r e) = q ct W sc r.val 3 e := by
  unfold q cnt
  rw [dif_pos r.isLt, ← rd3]
  pointwise [val_main_v100, val_main_v99, val_main_v98, val_main_v97, val_main_v60, val_main_v59, val_main_v58, val_main_v57, val_main_v56, val_main_v55, val_main_c_1, val_main_c, val_main_c_4, val_main_c_5, val_main_c_8, val_main_c_9, val_main_c_12, val_main_c_13, val_main_v1]
  rw [addOne]
  rfl
end Cert.PoolRef

end

end
-- ==== Proof.PoolTail.lean ====
/- The input gradient of the reference at an element: the sum of the differences of quotients from that row on, less the gradient of the group. -/
module

public import proofs.«01_k».proof.Proof.PoolRef

@[expose] public section

set_option maxRecDepth 16384

noncomputable section

open Idealize.ShloMosaic Idealize.ShloMosaic.TcCoe Idealize.SL.Sem
open Idealize.ShloMosaic.Pipeline (Dat)

namespace Cert.PoolRef
open Cert.ReferenceIdeal Cert.ReferenceIdeal.Gen Cert.ReferenceIdeal.Read Cert.PoolSpec
variable (u : S1x8192x512.Idx → EReal) (W : S4x128x128.Idx → EReal) (sc : S512.Idx → EReal) (ct : S1x8192x512.Idx → EReal)

theorem fold_add {n : ℕ} (l : List (Fin n)) (g : Fin n → EReal) (v : EReal) : l.foldl (fun r k => r + g k) v = v + (l.map g).sum := by
  induction l generalizing v with
  | nil => rw [List.foldl_nil, List.map_nil, List.sum_nil, add_zero]
  | cons a l ih => rw [List.foldl_cons, ih, List.map_cons, List.sum_cons, add_assoc]

theorem window_sum {s t : Shape} (window strides lo hi : Fin s.rank → ℕ) (h : s.ReduceWindows window strides lo hi t) (x : s.Idx → EReal) (j : t.Idx) :
    Ideal.hostReduceWindowAdd window strides lo hi h x 0 j = ∑ i : (⟨s.rank, window⟩ : Shape).Idx,
      if hin : ∀ a, lo a ≤ (j (a.cast h.1.symm)).val * strides a + (i a).val ∧ (j (a.cast h.1.symm)).val * strides a + (i a).val - lo a < s.size a then x (fun a => ⟨(j (a.cast h.1.symm)).val * strides a + (i a).val - lo a, (hin a).2⟩) else 0 := by
  unfold Ideal.hostReduceWindowAdd Host.reduceWindow
  dsimp only
  refine (fold_add _ _ _).trans ?_
  rw [zero_add, ← Fin.sum_univ_def]
  exact Fintype.sum_equiv (Shape.rowMajor (s := ⟨s.rank, window⟩)).symm _ _ fun n => by congr

theorem tail_sum (x : S1x8192x512.Idx → EReal) (r : Fin 8192) (c : Fin 512) :
    Host.reduceWindowAdd (F := Ideal) (φ := .f32) ![1, 8192, 1] ![1, 1, 1] ![0, 0, 0] ![0, 8191, 0] x (val_main_call1_call0_v0 (F := Ideal)) reduceWindows_S1x8192x512_S1x8192x512_w1s1p0_0_w8192s1p0_8191_w1s1p0_0 h_S_ (ix3 0 r c)
      = ∑ n : Fin 8192, if h : r.val + n.val < 8192 then x (ix3 0 ⟨r.val + n.val, h⟩ c) else 0 := by
  have hz : val_main_call1_call0_v0 (F := Ideal) (Shape.Idx.first h_S_) = (0 : EReal) := by
    pointwise [val_main_call1_call0_v0, val_main_call1_call0_cst]
  unfold Host.reduceWindowAdd
  rw [hz, Ideal.hostReduceWindowAdd_def, window_sum]
  refine (Idealize.ShloMosaic.sum_idx3 (n0 := 1) (n1 := 8192) (n2 := 1) _).trans ?_
  rw [Fin.sum_univ_one]
  refine Finset.sum_congr rfl fun n _ => ?_
  rw [Fin.sum_univ_one]
  by_cases h : r.val + n.val < 8192
  · rw [dif_pos h]
    refine (dif_pos (fun a => ?_)).trans (congrArg x (funext fun a => ?_))
    · match a with
      | ⟨0, _⟩ => exact ⟨Nat.zero_le _, Nat.one_pos⟩
      | ⟨1, _⟩ => exact ⟨Nat.zero_le _, by show r.val * 1 + n.val - 0 < 8192; omega⟩
      | ⟨2, _⟩ => exact ⟨Nat.zero_le _, by show c.val * 1 + 0 - 0 < 512; have := c.isLt; omega⟩
    · match a with
      | ⟨0, _⟩ => exact Fin.ext rfl
      | ⟨1, _⟩ => exact Fin.ext (by show r.val * 1 + n.val - 0 = r.val + n.val; omega)
      | ⟨2, _⟩ => exact Fin.ext (by show c.val * 1 + 0 - 0 = c.val; omega)
  · rw [dif_neg h]
    refine dif_neg fun hin => h ?_
    have := (hin 1).2
    have h' : r.val * 1 + n.val - 0 < 8192 := this
    omega

theorem diff0 (r : Fin 8192) (e : Fin 128) : val_main_v142 (F := Ideal) W sc ct (ix3 0 r (col 0 e)) = q ct W sc r.val 0 e + -q ct W sc (r.val + 2) 0 e := by
  pointwise [val_main_v142, val_main_v141, val_main_v130, val_main_v129, val_main_v118, val_main_v117, val_main_v106, val_main_v140, val_main_v139, val_main_v138, val_main_v137, val_main_v136, val_main_v128, val_main_v127, val_main_v126, val_main_v125, val_main_v124, val_main_v116, val_main_v115, val_main_v114, val_main_v113, val_main_v112, val_main_v105, val_main_v104, val_main_v103, val_main_v102, val_main_v101, val_main_cst_17, val_main_cst_18, val_main_cst_20, val_main_cst_21, val_main_cst_23, val_main_cst_24, val_main_cst_26, val_main_cst_27]
  have hc : (col 0 e).val = 128 * 0 + e.val := rfl
  have he := e.isLt
  have h1 : ∀ h, (⟨(col 0 e).val, h⟩ : Fin 128) = e := fun h => Fin.ext (by show (col 0 e).val = e.val; omega)
  by_cases hr : r.val + 2 < 8192
  · have h2 : ∀ h, (⟨2 + r.val, h⟩ : Fin 8192) = ⟨r.val + 2, hr⟩ := fun h => Fin.ext (Nat.add_comm _ _)
    split_ifs <;> first | (exfalso; omega) | skip
    simp only [h1, h2, q0, add_zero, zero_add]
  · have hq : q ct W sc (r.val + 2) 0 e = 0 := by
      unfold q
      rw [dif_neg hr]
    split_ifs <;> first | (exfalso; omega) | skip
    simp only [h1, q0, hq, neg_zero, add_zero, zero_add]
theorem neg0 (r : Fin 8192) (e : Fin 128) : val_main_v133 (F := Ideal) W sc ct (ix3 0 r (col 0 e)) = - dd ct W sc r 0 e := by
  pointwise [val_main_v133, val_main_v132, val_main_v131, val_main_v121, val_main_v120, val_main_v119, val_main_v109, val_main_v108, val_main_v107, val_main_v98, val_main_v97, val_main_cst_16, val_main_cst_19, val_main_cst_22, val_main_cst_25]
  have hc : (col 0 e).val = 128 * 0 + e.val := rfl
  have he := e.isLt
  have h1 : ∀ h, (⟨(col 0 e).val, h⟩ : Fin 128) = e := fun h => Fin.ext (by show (col 0 e).val = e.val; omega)
  split_ifs <;> first | (exfalso; omega) | skip
  simp only [h1, rd0, add_zero, zero_add]
theorem diff1 (r : Fin 8192) (e : Fin 128) : val_main_v142 (F := Ideal) W sc ct (ix3 0 r (col 1 e)) = q ct W sc r.val 1 e + -q ct W sc (r.val + 4) 1 e := by
  pointwise [val_main_v142, val_main_v141, val_main_v130, val_main_v129, val_main_v118, val_main_v117, val_main_v106, val_main_v140, val_main_v139, val_main_v138, val_main_v137, val_main_v136, val_main_v128, val_main_v127, val_main_v126, val_main_v125, val_main_v124, val_main_v116, val_main_v115, val_main_v114, val_main_v113, val_main_v112, val_main_v105, val_main_v104, val_main_v103, val_main_v102, val_main_v101, val_main_cst_17, val_main_cst_18, val_main_cst_20, val_main_cst_21, val_main_cst_23, val_main_cst_24, val_main_cst_26, val_main_cst_27]
  have hc : (col 1 e).val = 128 * 1 + e.val := rfl
  have he := e.isLt
  have h1 : ∀ h, (⟨(col 1 e).val - 128, h⟩ : Fin 128) = e := fun h => Fin.ext (by show (col 1 e).val - 128 = e.val; omega)
  by_cases hr : r.val + 4 < 8192
  · have h2 : ∀ h, (⟨4 + r.val, h⟩ : Fin 8192) = ⟨r.val + 4, hr⟩ := fun h => Fin.ext (Nat.add_comm _ _)
    split_ifs <;> first | (exfalso; omega) | skip
    simp only [h1, h2, q1, add_zero, zero_add]
  · have hq : q ct W sc (r.val + 4) 1 e = 0 := by
      unfold q
      rw [dif_neg hr]
    split_ifs <;> first | (exfalso; omega) | skip
    simp only [h1, q1, hq, neg_zero, add_zero, zero_add]
theorem neg1 (r : Fin 8192) (e : Fin 128) : val_main_v133 (F := Ideal) W sc ct (ix3 0 r (col 1 e)) = - dd ct W sc r 1 e := by
  pointwise [val_main_v133, val_main_v132, val_main_v131, val_main_v121, val_main_v120, val_main_v119, val_main_v109, val_main_v108, val_main_v107, val_main_v98, val_main_v97, val_main_cst_16, val_main_cst_19, val_main_cst_22, val_main_cst_25]
  have hc : (col 1 e).val = 128 * 1 + e.val := rfl
  have he := e.isLt
  have h1 : ∀ h, (⟨(col 1 e).val - 128, h⟩ : Fin 128) = e := fun h => Fin.ext (by show (col 1 e).val - 128 = e.val; omega)
  split_ifs <;> first | (exfalso; omega) | skip
  simp only [h1, rd1, add_zero, zero_add]
theorem diff2 (r : Fin 8192) (e : Fin 128) : val_main_v142 (F := Ideal) W sc ct (ix3 0 r (col 2 e)) = q ct W sc r.val 2 e + -q ct W sc (r.val + 8) 2 e := by
  pointwise [val_main_v142, val_main_v141, val_main_v130, val_main_v129, val_main_v118, val_main_v117, val_main_v106, val_main_v140, val_main_v139, val_main_v138, val_main_v137, val_main_v136, val_main_v128, val_main_v127, val_main_v126, val_main_v125, val_main_v124, val_main_v116, val_main_v115, val_main_v114, val_main_v113, val_main_v112, val_main_v105, val_main_v104, val_main_v103, val_main_v102, val_main_v101, val_main_cst_17, val_main_cst_18, val_main_cst_20, val_main_cst_21, val_main_cst_23, val_main_cst_24, val_main_cst_26, val_main_cst_27]
  have hc : (col 2 e).val = 128 * 2 + e.val := rfl
  have he := e.isLt
  have h1 : ∀ h, (⟨(col 2 e).val - 256, h⟩ : Fin 128) = e := fun h => Fin.ext (by show (col 2 e).val - 256 = e.val; omega)
  by_cases hr : r.val + 8 < 8192
  · have h2 : ∀ h, (⟨8 + r.val, h⟩ : Fin 8192) = ⟨r.val + 8, hr⟩ := fun h => Fin.ext (Nat.add_comm _ _)
    split_ifs <;> first | (exfalso; omega) | skip
    simp only [h1, h2, q2, add_zero, zero_add]
  · have hq : q ct W sc (r.val + 8) 2 e = 0 := by
      unfold q
      rw [dif_neg hr]
    split_ifs <;> first | (exfalso; omega) | skip
    simp only [h1, q2, hq, neg_zero, add_zero, zero_add]
theorem neg2 (r : Fin 8192) (e : Fin 128) : val_main_v133 (F := Ideal) W sc ct (ix3 0 r (col 2 e)) = - dd ct W sc r 2 e := by
  pointwise [val_main_v133, val_main_v132, val_main_v131, val_main_v121, val_main_v120, val_main_v119, val_main_v109, val_main_v108, val_main_v107, val_main_v98, val_main_v97, val_main_cst_16, val_main_cst_19, val_main_cst_22, val_main_cst_25]
  have hc : (col 2 e).val = 128 * 2 + e.val := rfl
  have he := e.isLt
  have h1 : ∀ h, (⟨(col 2 e).val - 256, h⟩ : Fin 128) = e := fun h => Fin.ext (by show (col 2 e).val - 256 = e.val; omega)
  split_ifs <;> first | (exfalso; omega) | skip
  simp only [h1, rd2, add_zero, zero_add]
theorem diff3 (r : Fin 8192) (e : Fin 128) : val_main_v142 (F := Ideal) W sc ct (ix3 0 r (col 3 e)) = q ct W sc r.val 3 e + -q ct W sc (r.val + 16) 3 e := by
  pointwise [val_main_v142, val_main_v141, val_main_v130, val_main_v129, val_main_v118, val_main_v117, val_main_v106, val_main_v140, val_main_v139, val_main_v138, val_main_v137, val_main_v136, val_main_v128, val_main_v127, val_main_v126, val_main_v125, val_main_v124, val_main_v116, val_main_v115, val_main_v114, val_main_v113, val_main_v112, val_main_v105, val_main_v104, val_main_v103, val_main_v102, val_main_v101, val_main_cst_17, val_main_cst_18, val_main_cst_20, val_main_cst_21, val_main_cst_23, val_main_cst_24, val_main_cst_26, val_main_cst_27]
  have hc : (col 3 e).val = 128 * 3 + e.val := rfl
  have he := e.isLt
  have h1 : ∀ h, (⟨(col 3 e).val - 384, h⟩ : Fin 128) = e := fun h => Fin.ext (by show (col 3 e).val - 384 = e.val; omega)
  by_cases hr : r.val + 16 < 8192
  · have h2 : ∀ h, (⟨16 + r.val, h⟩ : Fin 8192) = ⟨r.val + 16, hr⟩ := fun h => Fin.ext (Nat.add_comm _ _)
    split_ifs <;> first | (exfalso; omega) | skip
    simp only [h1, h2, q3, add_zero, zero_add]
  · have hq : q ct W sc (r.val + 16) 3 e = 0 := by
      unfold q
      rw [dif_neg hr]
    split_ifs <;> first | (exfalso; omega) | skip
    simp only [h1, q3, hq, neg_zero, add_zero, zero_add]
theorem neg3 (r : Fin 8192) (e : Fin 128) : val_main_v133 (F := Ideal) W sc ct (ix3 0 r (col 3 e)) = - dd ct W sc r 3 e := by
  pointwise [val_main_v133, val_main_v132, val_main_v131, val_main_v121, val_main_v120, val_main_v119, val_main_v109, val_main_v108, val_main_v107, val_main_v98, val_main_v97, val_main_cst_16, val_main_cst_19, val_main_cst_22, val_main_cst_25]
  have hc : (col 3 e).val = 128 * 3 + e.val := rfl
  have he := e.isLt
  have h1 : ∀ h, (⟨(col 3 e).val - 384, h⟩ : Fin 128) = e := fun h => Fin.ext (by show (col 3 e).val - 384 = e.val; omega)
  split_ifs <;> first | (exfalso; omega) | skip
  simp only [h1, rd3, add_zero, zero_add]
end Cert.PoolRef

end

end
-- ==== Proof.PoolFin.lean ====
/- Over finite weights, scales and cotangents the differences of quotients telescope: the tail sum of the reference is the window sum of the kernel. -/
module

public import proofs.«01_k».proof.Proof.PoolTail

@[expose] public section

set_option maxRecDepth 16384

noncomputable section

open Idealize.ShloMosaic Idealize.ShloMosaic.TcCoe Idealize.SL.Sem
open Idealize.ShloMosaic.Pipeline (Dat)

namespace Cert.PoolRef
open Cert.ReferenceIdeal Cert.ReferenceIdeal.Gen Cert.ReferenceIdeal.Read Cert.PoolSpec
variable (W : S4x128x128.Idx → EReal) (sc : S512.Idx → EReal) (ct : S1x8192x512.Idx → EReal)

def Real' (x : EReal) : Prop := ∃ y : ℝ, x = (y : EReal)

theorem real_mul {x y : EReal} : Real' x → Real' y → Real' (x * y) := by
  rintro ⟨a, rfl⟩ ⟨b, rfl⟩
  exact ⟨a * b, (EReal.coe_mul a b).symm⟩
theorem real_add {x y : EReal} : Real' x → Real' y → Real' (x + y) := by
  rintro ⟨a, rfl⟩ ⟨b, rfl⟩
  exact ⟨a + b, (EReal.coe_add a b).symm⟩
theorem real_of_abs {x : EReal} (h : max x (-x) < ⊤) : Real' x := by
  induction x with
  | bot => exact absurd h (by simp)
  | top => exact absurd h (by simp)
  | coe y => exact ⟨y, rfl⟩

theorem real_dd (hW : ∀ i, Real' (W i)) (hs : ∀ i, Real' (sc i)) (hc : ∀ i, Real' (ct i)) (r : Fin 8192) (g : Fin 4) (e : Fin 128) : Real' (dd ct W sc r g e) := by
  unfold dd
  exact Finset.sum_induction _ Real' (fun _ _ => real_add) ⟨0, rfl⟩ fun k _ => real_mul (real_mul (hc _) (hs _)) (hW _)

theorem toInt_small (n : ℕ) (h : n < 2147483648) : (BitVec.ofNat 32 n).toInt = n := by
  rw [BitVec.toInt_eq_toNat_of_lt (by rw [BitVec.toNat_ofNat]; omega), BitVec.toNat_ofNat, Nat.mod_eq_of_lt (by omega)]

theorem real_q (hW : ∀ i, Real' (W i)) (hs : ∀ i, Real' (sc i)) (hc : ∀ i, Real' (ct i)) (r : ℕ) (g : Fin 4) (e : Fin 128) : Real' (q ct W sc r g e) := by
  unfold q
  split
  · rename_i h
    obtain ⟨a, ha⟩ := real_dd W sc ct hW hs hc ⟨r, h⟩ g e
    rw [ha]
    have hw : 0 < win g ∧ win g < 100 := by
      fin_cases g <;> decide
    have hne : (((IntOp.minsi (BitVec.ofNat 32 (r + 1)) (BitVec.ofNat 32 (win g))).toInt : ℝ)) ≠ 0 := by
      unfold IntOp.minsi
      split
      · rw [toInt_small _ (by omega)]
        norm_cast
      · rw [toInt_small _ (by omega)]
        have := hw.1
        exact_mod_cast (by omega : win g ≠ 0)
    refine ⟨a * (1 / ((IntOp.minsi (BitVec.ofNat 32 (r + 1)) (BitVec.ofNat 32 (win g))).toInt : ℝ)), ?_⟩
    rw [EReal.coe_mul]
    exact Ideal.div_coe hne _
  · exact ⟨0, rfl⟩

theorem telescope (f : ℕ → ℝ) (N w : ℕ) (hf : ∀ n, N ≤ n → f n = 0) : ∑ n ∈ Finset.range N, (f n - f (n + w)) = ∑ k ∈ Finset.range w, f k := by
  have h1 := Finset.sum_range_add f N w
  have h2 := Finset.sum_range_add f w N
  rw [Nat.add_comm w N, h1] at h2
  have h3 : ∑ x ∈ Finset.range w, f (N + x) = 0 := Finset.sum_eq_zero fun x _ => hf _ (Nat.le_add_right _ _)
  rw [h3, add_zero] at h2
  rw [Finset.sum_sub_distrib, h2]
  have h4 : ∑ n ∈ Finset.range N, f (w + n) = ∑ n ∈ Finset.range N, f (n + w) := Finset.sum_congr rfl fun n _ => by rw [Nat.add_comm]
  rw [h4]
  ring

theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

theorem tail_q (hW : ∀ i, Real' (W i)) (hs : ∀ i, Real' (sc i)) (hc : ∀ i, Real' (ct i)) (r : Fin 8192) (g : Fin 4) (e : Fin 128) :
    (∑ n : Fin 8192, if _h : r.val + n.val < 8192 then q ct W sc (r.val + n.val) g e + -q ct W sc (r.val + n.val + win g) g e else 0)
      = ∑ k ∈ Finset.range (win g), q ct W sc (r.val + k) g e := by
  choose f hf using fun n => real_q W sc ct hW hs hc n g e
  have hz : ∀ n, 8192 ≤ n → f n = 0 := by
    intro n hn
    have h := hf n
    unfold q at h
    rw [dif_neg (by omega)] at h
    exact_mod_cast h.symm
  have hl : ∀ n : Fin 8192, (if _h : r.val + n.val < 8192 then q ct W sc (r.val + n.val) g e + -q ct W sc (r.val + n.val + win g) g e else 0)
      = ((f (r.val + n.val) - f (r.val + (n.val + win g)) : ℝ) : EReal) := by
    intro n
    split
    · rw [hf, hf, ← Nat.add_assoc, sub_eq_add_neg, EReal.coe_add, EReal.coe_neg]
    · rw [hz _ (by omega), hz _ (by omega), sub_zero]
      rfl
  have hr : ∀ k ∈ Finset.range (win g), q ct W sc (r.val + k) g e = ((f (r.val + k) : ℝ) : EReal) := fun k _ => hf _
  rw [Finset.sum_congr rfl fun n _ => hl n, Finset.sum_congr rfl hr]
  refine Eq.trans ?_ (coe_sum _ _)
  rw [← telescope (fun n => f (r.val + n)) 8192 (win g) (fun n hn => hz _ (by omega)), ← Fin.sum_univ_eq_sum_range (fun n => f (r.val + n) - f (r.val + (n + win g))) 8192]
  exact (coe_sum _ _).symm

theorem neg_at (r : Fin 8192) (g : Fin 4) (e : Fin 128) : val_main_v133 (F := Ideal) W sc ct (ix3 0 r (col g e)) = -dd ct W sc r g e := by
  match g with
  | 0 => exact neg0 W sc ct r e
  | 1 => exact neg1 W sc ct r e
  | 2 => exact neg2 W sc ct r e
  | 3 => exact neg3 W sc ct r e
theorem diff_at (r : Fin 8192) (g : Fin 4) (e : Fin 128) : val_main_v142 (F := Ideal) W sc ct (ix3 0 r (col g e)) = q ct W sc r.val g e + -q ct W sc (r.val + win g) g e := by
  match g with
  | 0 => exact diff0 W sc ct r e
  | 1 => exact diff1 W sc ct r e
  | 2 => exact diff2 W sc ct r e
  | 3 => exact diff3 W sc ct r e

theorem dx_at (hW : ∀ i, Real' (W i)) (hs : ∀ i, Real' (sc i)) (hc : ∀ i, Real' (ct i)) (r : Fin 8192) (g : Fin 4) (e : Fin 128) :
    val_main_v146 (F := Ideal) W sc ct (ix2 r (col g e)) = dx ct W sc r g e := by
  have h : val_main_v146 (F := Ideal) W sc ct (ix2 r (col g e)) = val_main_v133 (F := Ideal) W sc ct (ix3 0 r (col g e)) + val_main_v143 (F := Ideal) W sc ct (ix3 0 r (col g e)) := by
    pointwise [val_main_v146, val_main_v145, val_main_v144]
  rw [h, neg_at]
  unfold val_main_v143 dx
  rw [tail_sum, ← tail_q W sc ct hW hs hc, add_comm, ← sub_eq_add_neg]
  congr 1
  refine Finset.sum_congr rfl fun n _ => ?_
  split
  · rw [diff_at]
  · rfl
end Cert.PoolRef

end

end
-- ==== Proof.PoolPay.lean ====
/- The vector operations of the pooling gradient kernel, read at an index. -/
module

public import proofs.«01_k».proof.Proof.Gen.KernelIdeal.Value
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.KernelIdeal.PoolBwd
open Cert.KernelIdeal Cert.KernelIdeal.Gen

/-- One group's gradient of the differences, over the group's loads: the scaled cotangent times the transposed weights. -/
def ddL (w : S1x128x128.Idx → EReal) (d : S512x128.Idx → EReal) (s : S1x128.Idx → EReal) : S512x128.Idx → EReal :=
  fun j => ∑ k : Fin 128, d (ix2 (j 0) k) * s (ix2 0 k) * w (ix3 0 (j 1) k)

/-- The same divided by the number of rows of the trailing window, the positions given as words. -/
def qL (v : IVec S512x1 32) (n : BitVec 32) (x : S512x128.Idx → EReal) : S512x128.Idx → EReal :=
  fun j => Ideal.div (x j) (FloatOps.sitofp (F := Ideal) .f32 (IntOp.minsi (IntOp.addi (v (ix2 (j 0) 0)) 1#32) n))

variable (v : IVec S512x1 32) (w : Vec Ideal S1x128x128 .f32) (d p : Vec Ideal S512x128 .bf16) (s : Vec Ideal S1x128 .f32)

theorem dd_pay0 : k0_pay15 w d s = ddL w d s := by
  funext j; idx_vars j; unfold ddL; pointwise [k0_pay15, k0_pay11, k0_pay9, k0_pay8]
theorem q_pay0 : k0_pay17 v (k0_pay15 w d s) k0_pay16 = qL v 2#32 (ddL w d s) := by
  rw [← dd_pay0]; funext j; idx_vars j; unfold qL; pointwise [k0_pay17, k0_pay16]

theorem dd_pay1 : k0_pay27 (k0_pay20 w) (k0_pay23 d s) = ddL w d s := by
  funext j; idx_vars j; unfold ddL; pointwise [k0_pay27, k0_pay20, k0_pay23, k0_pay21]
theorem q_pay1 : k0_pay28 v (k0_pay20 w) (k0_pay23 d s) = qL v 4#32 (ddL w d s) := by
  rw [← dd_pay1]; funext j; idx_vars j; unfold qL; pointwise [k0_pay28]

theorem dd_pay2 : k0_pay39 (k0_pay31 w) (k0_pay32 d) s = ddL w d s := by
  funext j; idx_vars j; unfold ddL; pointwise [k0_pay39, k0_pay31, k0_pay32, k0_pay35, k0_pay33]
theorem q_pay2 : k0_pay40 v (k0_pay31 w) (k0_pay32 d) s = qL v 8#32 (ddL w d s) := by
  rw [← dd_pay2]; funext j; idx_vars j; unfold qL; pointwise [k0_pay40]

theorem dd_pay3 : k0_pay51 (k0_pay44 w) (k0_pay47 d s) = ddL w d s := by
  funext j; idx_vars j; unfold ddL; pointwise [k0_pay51, k0_pay44, k0_pay47, k0_pay45]
theorem q_pay3 : k0_pay52 v (k0_pay44 w) (k0_pay47 d s) = qL v 16#32 (ddL w d s) := by
  rw [← dd_pay3]; funext j; idx_vars j; unfold qL; pointwise [k0_pay52]

/-- One group's part of the gradient of the scales, over the group's loads. -/
def sL (w : S1x128x128.Idx → EReal) (d p : S512x128.Idx → EReal) : S1x128.Idx → EReal :=
  fun j => ∑ r : Fin 512, d (ix2 r (j 1)) * ∑ k : Fin 128, p (ix2 r k) * w (ix3 0 k (j 1))

/-- One group's part of the gradient of the weights, over the group's loads. -/
def wL (d p : S512x128.Idx → EReal) (s : S1x128.Idx → EReal) : S1x128x128.Idx → EReal :=
  fun j => ∑ r : Fin 512, p (ix2 r (j 1)) * (d (ix2 r (j 2)) * s (ix2 0 (j 2)))

theorem s_pay0 : k0_pay10 p w d = sL w d p := by
  funext j; idx_vars j; unfold sL; pointwise [k0_pay10, k0_pay7, k0_pay8, k0_pay9]
theorem wa_pay0 : k0_pay13 p d s = wL d p s := by
  funext j; idx_vars j; unfold wL; pointwise [k0_pay13, k0_pay12, k0_pay7, k0_pay11, k0_pay9]
theorem wb_pay0 (a : Vec Ideal S1x128x128 .f32) : k0_pay14 p d s a = fun j => a j + wL d p s j := by
  funext j; idx_vars j; have h0 : j0 = 0 := Subsingleton.elim _ _; subst h0; unfold wL; pointwise [k0_pay14, k0_pay12, k0_pay7, k0_pay11, k0_pay9]

theorem s_pay1 : k0_pay22 p w d = sL w d p := by
  funext j; idx_vars j; unfold sL; pointwise [k0_pay22, k0_pay19, k0_pay20, k0_pay21]
theorem wa_pay1 : k0_pay25 (k0_pay24 p d s) = wL d p s := by
  funext j; idx_vars j; unfold wL; pointwise [k0_pay25, k0_pay24, k0_pay19, k0_pay23, k0_pay21]
theorem wb_pay1 (a : Vec Ideal S1x128x128 .f32) : k0_pay26 (k0_pay24 p d s) a = fun j => a j + wL d p s j := by
  funext j; idx_vars j; have h0 : j0 = 0 := Subsingleton.elim _ _; subst h0; unfold wL; pointwise [k0_pay26, k0_pay24, k0_pay19, k0_pay23, k0_pay21]

theorem s_pay2 : k0_pay34 (k0_pay30 p) (k0_pay31 w) (k0_pay32 d) = sL w d p := by
  funext j; idx_vars j; unfold sL; pointwise [k0_pay34, k0_pay30, k0_pay31, k0_pay32, k0_pay33]
theorem wa_pay2 : k0_pay37 (k0_pay30 p) (k0_pay32 d) s = wL d p s := by
  funext j; idx_vars j; unfold wL; pointwise [k0_pay37, k0_pay36, k0_pay30, k0_pay32, k0_pay35, k0_pay33]
theorem wb_pay2 (a : Vec Ideal S1x128x128 .f32) : k0_pay38 (k0_pay30 p) (k0_pay32 d) s a = fun j => a j + wL d p s j := by
  funext j; idx_vars j; have h0 : j0 = 0 := Subsingleton.elim _ _; subst h0; unfold wL; pointwise [k0_pay38, k0_pay36, k0_pay30, k0_pay32, k0_pay35, k0_pay33]

theorem s_pay3 : k0_pay46 p w d = sL w d p := by
  funext j; idx_vars j; unfold sL; pointwise [k0_pay46, k0_pay43, k0_pay44, k0_pay45]
theorem wa_pay3 : k0_pay49 p d s = wL d p s := by
  funext j; idx_vars j; unfold wL; pointwise [k0_pay49, k0_pay48, k0_pay43, k0_pay47, k0_pay45]
theorem wb_pay3 (a : Vec Ideal S1x128x128 .f32) : k0_pay50 (k0_pay48 p d s) a = fun j => a j + wL d p s j := by
  funext j; idx_vars j; have h0 : j0 = 0 := Subsingleton.elim _ _; subst h0; unfold wL; pointwise [k0_pay50, k0_pay48, k0_pay43, k0_pay47, k0_pay45]

/-- The positions of the rows of the point's tile, as words. -/
theorem pos_word (i : grid0.Coords) (r : Fin 512) :
    IntOp.addi (k0_pay5 i (ix2 r 0)) 1#32 = BitVec.ofNat 32 ((15 - (i 0).val) * 512 + r.val + 1) := by
  have hi : (i 0).val < 16 := (i 0).isLt
  pointwise [k0_pay5]
  apply BitVec.eq_of_toNat_eq
  simp [IntOp.addi, Scalar.muli, Scalar.subi, IntOp.muli, IntOp.subi]
  omega

end Cert.KernelIdeal.PoolBwd

end

end
-- ==== Proof.PoolBlk.lean ====
/- What the blocks of the pooling gradient kernel read. -/
module

public import proofs.«01_k».proof.Proof.PoolPay
public import proofs.«01_k».proof.Proof.PoolSpec

@[expose] public section

set_option maxRecDepth 16384

noncomputable section

open Idealize.ShloMosaic Idealize.ShloMosaic.TcCoe Idealize.SL.Sem
open Idealize.ShloMosaic.Pipeline (Dat)

namespace Cert.KernelIdeal.PoolBwd
open Cert.KernelIdeal Cert.KernelIdeal.Gen Cert.PoolSpec
variable (m : (ℓ : Loc nD τ sig) → Buf (Elt Ideal) ℓ)

theorem idx : ∀ t : Fin cfg0.N, win0_0.index t = ![15 - t.val, 0] ∧ win0_1.index t = ![15 - t.val, 0] ∧ win0_2.index t = ![0, 0, 0]
    ∧ win0_3.index t = ![0, 0] ∧ win0_4.index t = ![15 - t.val, 0] ∧ win0_5.index t = ![0, 0, 0] ∧ win0_6.index t = ![0, 0]
    ∧ (grid0.coords t 0).val = t.val ∧ t.val < 16 :=
  (by decide +kernel : ∀ t : Fin grid0.N, _)

theorem row_bound (t : Fin cfg0.N) (r : Fin 512) : (15 - t.val) * 512 + r.val < 8192 := by omega

/-- The row of the whole array that row `r` of the tile of point `t` is. -/
def grow (t : Fin cfg0.N) (r : Fin 512) : Fin 8192 := ⟨(15 - t.val) * 512 + r.val, row_bound t r⟩

theorem V_v69 (c : Dev nD) (r : Fin 8192) (k : Fin 512) : V m c main_v69 (ix2 r k) = m ((c : Thread nD τ).loc main_arg3) (ix3 0 r k) := by
  unfold V; simp only [hostOps0, hostOps0_1, List.flatten_cons, List.flatten_nil, List.cons_append, List.nil_append, List.append_nil]
  after_results
  pointwise
theorem blk2 (c : Dev nD) (t : Fin cfg0.N) (g : Fin 4) (e k : Fin 128) :
    iblk m c 2 t (ix3 g e k) = m ((c : Thread nD τ).loc main_arg1) (ix3 g e k) := by
  blk_ext [iblk, V, idx t]
theorem V_v71 (c : Dev nD) (k : Fin 512) : V m c main_v71 (ix2 0 k) = m ((c : Thread nD τ).loc main_arg2) (ix1 k) := by
  unfold V; simp only [hostOps0, hostOps0_1, List.flatten_cons, List.flatten_nil, List.cons_append, List.nil_append, List.append_nil]
  after_results
  pointwise

theorem blk0 (c : Dev nD) (t : Fin cfg0.N) (r k : Fin 512) :
    iblk m c 0 t (ix2 r k) = m ((c : Thread nD τ).loc main_arg3) (ix3 0 (grow t r) k) := by
  rw [← V_v69 m]; unfold grow; blk_ext [iblk, idx t]
theorem blk1 (c : Dev nD) (t : Fin cfg0.N) (r k : Fin 512) :
    iblk m c 1 t (ix2 r k) = V m c main_v70 (ix2 (grow t r) k) := by
  unfold grow; blk_ext [iblk, idx t]
theorem blk3 (c : Dev nD) (t : Fin cfg0.N) (k : Fin 512) :
    iblk m c 3 t (ix2 0 k) = m ((c : Thread nD τ).loc main_arg2) (ix1 k) := by
  rw [← V_v71 m]; blk_ext [iblk, idx t]

/-- The launch's cotangent, weights and scales. -/
abbrev CT (c : Dev nD) : S1x8192x512.Idx → EReal := m ((c : Thread nD τ).loc main_arg3)
abbrev WW (c : Dev nD) : S4x128x128.Idx → EReal := m ((c : Thread nD τ).loc main_arg1)
abbrev SS (c : Dev nD) : S512.Idx → EReal := m ((c : Thread nD τ).loc main_arg2)

theorem dd_blk0 (c : Dev nD) (t : Fin cfg0.N) (r : Fin 512) (e : Fin 128) :
    ddL (View.ld (iblk m c 2 t) (Rect.unit ![0, 0, 0] ![1, 128, 128] inb_S4x128x128_S1x128x128_0_0_0))
      (View.ld (iblk m c 0 t) (Rect.unit ![0, 0] ![512, 128] inb_S512x512_S512x128_0_0))
      (View.ld (iblk m c 3 t) (Rect.unit ![0, 0] ![1, 128] inb_S1x512_S1x128_0_0)) (ix2 r e)
      = dd (CT m c) (WW m c) (SS m c) (grow t r) 0 e := by
  unfold ddL dd
  refine Finset.sum_congr rfl fun k _ => ?_
  pointwise
  rw [blk0, blk2, blk3]
  have hc : (⟨k.val, by omega⟩ : Fin 512) = col 0 k := Fin.ext (by simp [col])
  rw [hc]

theorem q_blk0 (c : Dev nD) (t : Fin cfg0.N) (r : Fin 512) (e : Fin 128) :
    qL (k0_pay5 (grid0.coords t)) 2#32 (ddL (View.ld (iblk m c 2 t) (Rect.unit ![0, 0, 0] ![1, 128, 128] inb_S4x128x128_S1x128x128_0_0_0))
      (View.ld (iblk m c 0 t) (Rect.unit ![0, 0] ![512, 128] inb_S512x512_S512x128_0_0))
      (View.ld (iblk m c 3 t) (Rect.unit ![0, 0] ![1, 128] inb_S1x512_S1x128_0_0))) (ix2 r e)
      = q (CT m c) (WW m c) (SS m c) ((15 - t.val) * 512 + r.val) 0 e := by
  unfold qL q
  rw [dd_blk0, dif_pos (row_bound t r)]
  show Ideal.div _ (FloatOps.sitofp (F := Ideal) .f32 (IntOp.minsi (IntOp.addi (k0_pay5 (grid0.coords t) (ix2 r 0)) 1#32) _)) = _
  rw [pos_word, (idx t).2.2.2.2.2.2.2.1]
  rfl

theorem dd_blk1 (c : Dev nD) (t : Fin cfg0.N) (r : Fin 512) (e : Fin 128) :
    ddL (View.ld (iblk m c 2 t) (Rect.unit ![1, 0, 0] ![1, 128, 128] inb_S4x128x128_S1x128x128_1_0_0))
      (View.ld (iblk m c 0 t) (Rect.unit ![0, 128] ![512, 128] inb_S512x512_S512x128_0_128))
      (View.ld (iblk m c 3 t) (Rect.unit ![0, 128] ![1, 128] inb_S1x512_S1x128_0_128)) (ix2 r e)
      = dd (CT m c) (WW m c) (SS m c) (grow t r) 1 e := by
  unfold ddL dd
  refine Finset.sum_congr rfl fun k _ => ?_
  pointwise
  rw [blk0, blk2, blk3]
  rfl

theorem q_blk1 (c : Dev nD) (t : Fin cfg0.N) (r : Fin 512) (e : Fin 128) :
    qL (k0_pay5 (grid0.coords t)) 4#32 (ddL (View.ld (iblk m c 2 t) (Rect.unit ![1, 0, 0] ![1, 128, 128] inb_S4x128x128_S1x128x128_1_0_0))
      (View.ld (iblk m c 0 t) (Rect.unit ![0, 128] ![512, 128] inb_S512x512_S512x128_0_128))
      (View.ld (iblk m c 3 t) (Rect.unit ![0, 128] ![1, 128] inb_S1x512_S1x128_0_128))) (ix2 r e)
      = q (CT m c) (WW m c) (SS m c) ((15 - t.val) * 512 + r.val) 1 e := by
  unfold qL q
  rw [dd_blk1, dif_pos (row_bound t r)]
  show Ideal.div _ (FloatOps.sitofp (F := Ideal) .f32 (IntOp.minsi (IntOp.addi (k0_pay5 (grid0.coords t) (ix2 r 0)) 1#32) _)) = _
  rw [pos_word, (idx t).2.2.2.2.2.2.2.1]
  rfl

theorem dd_blk2 (c : Dev nD) (t : Fin cfg0.N) (r : Fin 512) (e : Fin 128) :
    ddL (View.ld (iblk m c 2 t) (Rect.unit ![2, 0, 0] ![1, 128, 128] inb_S4x128x128_S1x128x128_2_0_0))
      (View.ld (iblk m c 0 t) (Rect.unit ![0, 256] ![512, 128] inb_S512x512_S512x128_0_256))
      (View.ld (iblk m c 3 t) (Rect.unit ![0, 256] ![1, 128] inb_S1x512_S1x128_0_256)) (ix2 r e)
      = dd (CT m c) (WW m c) (SS m c) (grow t r) 2 e := by
  unfold ddL dd
  refine Finset.sum_congr rfl fun k _ => ?_
  pointwise
  rw [blk0, blk2, blk3]
  rfl

theorem q_blk2 (c : Dev nD) (t : Fin cfg0.N) (r : Fin 512) (e : Fin 128) :
    qL (k0_pay5 (grid0.coords t)) 8#32 (ddL (View.ld (iblk m c 2 t) (Rect.unit ![2, 0, 0] ![1, 128, 128] inb_S4x128x128_S1x128x128_2_0_0))
      (View.ld (iblk m c 0 t) (Rect.unit ![0, 256] ![512, 128] inb_S512x512_S512x128_0_256))
      (View.ld (iblk m c 3 t) (Rect.unit ![0, 256] ![1, 128] inb_S1x512_S1x128_0_256))) (ix2 r e)
      = q (CT m c) (WW m c) (SS m c) ((15 - t.val) * 512 + r.val) 2 e := by
  unfold qL q
  rw [dd_blk2, dif_pos (row_bound t r)]
  show Ideal.div _ (FloatOps.sitofp (F := Ideal) .f32 (IntOp.minsi (IntOp.addi (k0_pay5 (grid0.coords t) (ix2 r 0)) 1#32) _)) = _
  rw [pos_word, (idx t).2.2.2.2.2.2.2.1]
  rfl

theorem dd_blk3 (c : Dev nD) (t : Fin cfg0.N) (r : Fin 512) (e : Fin 128) :
    ddL (View.ld (iblk m c 2 t) (Rect.unit ![3, 0, 0] ![1, 128, 128] inb_S4x128x128_S1x128x128_3_0_0))
      (View.ld (iblk m c 0 t) (Rect.unit ![0, 384] ![512, 128] inb_S512x512_S512x128_0_384))
      (View.ld (iblk m c 3 t) (Rect.unit ![0, 384] ![1, 128] inb_S1x512_S1x128_0_384)) (ix2 r e)
      = dd (CT m c) (WW m c) (SS m c) (grow t r) 3 e := by
  unfold ddL dd
  refine Finset.sum_congr rfl fun k _ => ?_
  pointwise
  rw [blk0, blk2, blk3]
  rfl

theorem q_blk3 (c : Dev nD) (t : Fin cfg0.N) (r : Fin 512) (e : Fin 128) :
    qL (k0_pay5 (grid0.coords t)) 16#32 (ddL (View.ld (iblk m c 2 t) (Rect.unit ![3, 0, 0] ![1, 128, 128] inb_S4x128x128_S1x128x128_3_0_0))
      (View.ld (iblk m c 0 t) (Rect.unit ![0, 384] ![512, 128] inb_S512x512_S512x128_0_384))
      (View.ld (iblk m c 3 t) (Rect.unit ![0, 384] ![1, 128] inb_S1x512_S1x128_0_384))) (ix2 r e)
      = q (CT m c) (WW m c) (SS m c) ((15 - t.val) * 512 + r.val) 3 e := by
  unfold qL q
  rw [dd_blk3, dif_pos (row_bound t r)]
  show Ideal.div _ (FloatOps.sitofp (F := Ideal) .f32 (IntOp.minsi (IntOp.addi (k0_pay5 (grid0.coords t) (ix2 r 0)) 1#32) _)) = _
  rw [pos_word, (idx t).2.2.2.2.2.2.2.1]
  rfl

end Cert.KernelIdeal.PoolBwd

end

end
-- ==== Proof.PoolOut.lean ====
/- The scratch and the input gradient of the pooling gradient kernel, point by point. -/
module

public import proofs.«01_k».proof.Proof.PoolBlk

@[expose] public section

set_option maxRecDepth 16384

noncomputable section

open Idealize.ShloMosaic Idealize.ShloMosaic.TcCoe Idealize.SL.Sem
open Idealize.ShloMosaic.Pipeline (Dat)

namespace Cert.KernelIdeal.PoolBwd
open Cert.KernelIdeal Cert.KernelIdeal.Gen Cert.PoolSpec

variable (v : IVec S512x1 32) (w : Vec Ideal S1x128x128 .f32) (d p : Vec Ideal S512x128 .bf16) (s : Vec Ideal S1x128 .f32)
  (a0 a1 a2 a3 a4 a5 a6 a7 a8 a9 a10 a11 a12 a13 a14 a15 : Vec Ideal S512x128 .f32)

theorem dx_pay0 : k0_pay18 (k0_pay15 w d s) a0 a1 = fun j => a0 j + a1 j - ddL w d s j := by
  rw [dd_pay0]; funext j; idx_vars j; pointwise [k0_pay18]
theorem carry_pay (a : Vec Ideal S16x512 .f32) : k0_pay4 a = a := by
  funext j; idx_vars j; pointwise [k0_pay4]
theorem dx_pay1 : k0_pay29 (k0_pay20 w) (k0_pay23 d s) a0 a1 a2 a3 = fun j => a0 j + a1 j + a2 j + a3 j - ddL w d s j := by
  rw [← dd_pay1]; funext j; idx_vars j; pointwise [k0_pay29]
theorem dx_pay2 : k0_pay42 (k0_pay39 (k0_pay31 w) (k0_pay32 d) s) (k0_pay41 a0 a1 a2 a3) a4 a5 a6 a7
    = fun j => a0 j + a1 j + a2 j + a3 j + a4 j + a5 j + a6 j + a7 j - ddL w d s j := by
  rw [dd_pay2]; funext j; idx_vars j; pointwise [k0_pay42, k0_pay41]
theorem dx_pay3 : k0_pay1 (k0_pay51 (k0_pay44 w) (k0_pay47 d s)) (k0_pay53 a0 a1 a2 a3 a4 a5 a6 a7 a8 a9) a10 a11 a12 a13 a14 a15
    = fun j => a0 j + a1 j + a2 j + a3 j + a4 j + a5 j + a6 j + a7 j + a8 j + a9 j + a10 j + a11 j + a12 j + a13 j + a14 j + a15 j - ddL w d s j := by
  rw [dd_pay3]; funext j; idx_vars j; pointwise [k0_pay1, k0_pay53]

/-! ## The scratch read through its pieces -/

section rd
variable {κ : Kind} {sp : Space} (vw : View sig κ sp S528x512 .f32) (f : vw.ty.Contents (Elt Ideal))

theorem rd_low {o : ℕ} (inb : ∀ a, (![0, o] : Fin 2 → ℕ) a + (![512, 128] : Fin 2 → ℕ) a ≤ S528x512.size a) (P : S512x128.Idx → EReal)
    (L : List (View.Piece (Elt Ideal) S528x512 .f32)) (y : S528x512.Idx) (r : Fin 512) (e : Fin 128)
    (h0 : (y 0).val = r.val) (h1 : (y 1).val = o + e.val) :
    vw.read (Elt Ideal) (vw.writes (Elt Ideal) f (⟨Rect.unit (s := S528x512) ![0, o] ![512, 128] inb, P⟩ :: L)) y = P (ix2 r e) :=
by
  rw [View.read_writes_cons_unit_of_mem vw f inb P L y (ix2 r e) rfl (fun a => match a with
    | ⟨0, _⟩ => by show (y 0).val = 0 + r.val; omega
    | ⟨1, _⟩ => by show (y 1).val = o + e.val; omega)]

theorem rd_col {o : ℕ} (inb : ∀ a, (![0, o] : Fin 2 → ℕ) a + (![512, 128] : Fin 2 → ℕ) a ≤ S528x512.size a) (P : S512x128.Idx → EReal)
    (L : List (View.Piece (Elt Ideal) S528x512 .f32)) (y : S528x512.Idx) (h : (y 1).val < o ∨ o + 128 ≤ (y 1).val) :
    vw.read (Elt Ideal) (vw.writes (Elt Ideal) f (⟨Rect.unit (s := S528x512) ![0, o] ![512, 128] inb, P⟩ :: L)) y
      = vw.read (Elt Ideal) (vw.writes (Elt Ideal) f L) y :=
by
  rw [View.read_writes_cons_unit_of_not_mem vw f inb P L y rfl (1 : Fin 2) h]

theorem rd_high {o : ℕ} (inb : ∀ a, (![0, o] : Fin 2 → ℕ) a + (![512, 128] : Fin 2 → ℕ) a ≤ S528x512.size a) (P : S512x128.Idx → EReal)
    (L : List (View.Piece (Elt Ideal) S528x512 .f32)) (y : S528x512.Idx) (h : 512 ≤ (y 0).val) :
    vw.read (Elt Ideal) (vw.writes (Elt Ideal) f (⟨Rect.unit (s := S528x512) ![0, o] ![512, 128] inb, P⟩ :: L)) y
      = vw.read (Elt Ideal) (vw.writes (Elt Ideal) f L) y :=
by
  rw [View.read_writes_cons_unit_of_not_mem vw f inb P L y rfl (0 : Fin 2) (Or.inr (by show 0 + 512 ≤ (y 0).val; omega))]

theorem rd_fill (inb : ∀ a, (![512, 0] : Fin 2 → ℕ) a + (![16, 512] : Fin 2 → ℕ) a ≤ S528x512.size a)
    (L : List (View.Piece (Elt Ideal) S528x512 .f32)) (y : S528x512.Idx) (h : 512 ≤ (y 0).val) :
    vw.read (Elt Ideal) (vw.writes (Elt Ideal) f (⟨Rect.unit (s := S528x512) ![512, 0] ![16, 512] inb, k0_pay6 (F := Ideal)⟩ :: L)) y = (0 : EReal) := by
  have hy : (y 0).val < 528 := (y 0).isLt
  rw [View.read_writes_cons_unit_of_mem vw _ inb _ L y (ix2 ⟨(y 0).val - 512, by omega⟩ (y 1)) rfl (fun a => match a with
    | ⟨0, _⟩ => by show (y 0).val = 512 + ((y 0).val - 512); omega
    | ⟨1, _⟩ => by show (y 1).val = 0 + (y 1).val; omega)]
  pointwise [k0_pay6]

theorem rd_sel (inb0 inb1 inb2 inb3) (P0 P1 P2 P3 : S512x128.Idx → EReal)
    (L : List (View.Piece (Elt Ideal) S528x512 .f32)) (y : S528x512.Idx) (r : Fin 512) (e : Fin 128) (g : Fin 4) (Q : Fin 4 → EReal)
    (q0 : P0 (ix2 r e) = Q 0) (q1 : P1 (ix2 r e) = Q 1) (q2 : P2 (ix2 r e) = Q 2) (q3 : P3 (ix2 r e) = Q 3)
    (h0 : (y 0).val = r.val) (h1 : (y 1).val = 128 * g.val + e.val) :
    vw.read (Elt Ideal) (vw.writes (Elt Ideal) f (⟨Rect.unit (s := S528x512) ![0, 384] ![512, 128] inb3, P3⟩
      :: ⟨Rect.unit (s := S528x512) ![0, 256] ![512, 128] inb2, P2⟩ :: ⟨Rect.unit (s := S528x512) ![0, 128] ![512, 128] inb1, P1⟩
      :: ⟨Rect.unit (s := S528x512) ![0, 0] ![512, 128] inb0, P0⟩ :: L)) y = Q g := by
  match g with
  | ⟨3, _⟩ => exact (rd_low vw f inb3 P3 _ y r e h0 h1).trans q3
  | ⟨2, _⟩ =>
    have h2 : (y 1).val = 256 + e.val := h1
    exact (rd_col vw f inb3 P3 _ y (by omega)).trans ((rd_low vw f inb2 P2 _ y r e h0 h2).trans q2)
  | ⟨1, _⟩ =>
    have h2 : (y 1).val = 128 + e.val := h1
    exact (rd_col vw f inb3 P3 _ y (by omega)).trans ((rd_col vw f inb2 P2 _ y (by omega)).trans
      ((rd_low vw f inb1 P1 _ y r e h0 h2).trans q1))
  | ⟨0, _⟩ =>
    have h2 : (y 1).val = 0 + e.val := h1
    exact (rd_col vw f inb3 P3 _ y (by omega)).trans ((rd_col vw f inb2 P2 _ y (by omega)).trans
      ((rd_col vw f inb1 P1 _ y (by omega)).trans ((rd_low vw f inb0 P0 _ y r e h0 h2).trans q0)))

/-- A load of 512 rows from row `k` on of one column of groups: the group's own store below row 512, the earlier
    contents from there on. -/
theorem ld_rd {o k : ℕ} (hk : k ≤ 16) (ho : o + 128 ≤ 512)
    (inb : ∀ a, (![0, o] : Fin 2 → ℕ) a + (![512, 128] : Fin 2 → ℕ) a ≤ S528x512.size a)
    (inb' : ∀ a, (![k, o] : Fin 2 → ℕ) a + (![512, 128] : Fin 2 → ℕ) a ≤ S528x512.size a) (P : S512x128.Idx → EReal)
    (L : List (View.Piece (Elt Ideal) S528x512 .f32)) (r : Fin 512) (e : Fin 128) (Q : EReal)
    (hlo : ∀ h : k + r.val < 512, P (ix2 ⟨k + r.val, h⟩ e) = Q)
    (hhi : 512 ≤ k + r.val → vw.read (Elt Ideal) (vw.writes (Elt Ideal) f L) (ix2 ⟨k + r.val, by omega⟩ ⟨o + e.val, by omega⟩) = Q) :
    View.ld (vw.read (Elt Ideal) (vw.writes (Elt Ideal) f (⟨Rect.unit (s := S528x512) ![0, o] ![512, 128] inb, P⟩ :: L)))
      (Rect.unit (s := S528x512) ![k, o] ![512, 128] inb') (ix2 r e) = Q := by
  have hi : (Rect.unit (s := S528x512) ![k, o] ![512, 128] inb').idx (ix2 r e) = ix2 ⟨k + r.val, by omega⟩ ⟨o + e.val, by omega⟩ := by
    funext a
    match a with
    | ⟨0, _⟩ => exact Fin.ext (by show k + 1 * r.val = k + r.val; omega)
    | ⟨1, _⟩ => exact Fin.ext (by show o + 1 * e.val = o + e.val; omega)
  rw [View.ld_apply, hi]
  by_cases h : k + r.val < 512
  · rw [rd_low vw f inb P L _ ⟨k + r.val, h⟩ e rfl rfl]; exact hlo h
  · rw [rd_high vw f inb P L _ (by show 512 ≤ k + r.val; omega)]; exact hhi (by omega)

theorem cov_rd {o k : ℕ} (hk : k ≤ 16) (ho : o + 128 ≤ 512)
    (inb : ∀ a, (![0, o] : Fin 2 → ℕ) a + (![512, 128] : Fin 2 → ℕ) a ≤ S528x512.size a)
    (inb' : ∀ a, (![k, o] : Fin 2 → ℕ) a + (![512, 128] : Fin 2 → ℕ) a ≤ S528x512.size a) (P : S512x128.Idx → EReal)
    (L : List (View.Piece (Elt Ideal) S528x512 .f32)) (r : Fin 512) (e : Fin 128) (Q : EReal)
    (hlo : ∀ h : k + r.val < 512, P (ix2 ⟨k + r.val, h⟩ e) = Q)
    (hhi : 512 ≤ k + r.val → vw.read (Elt Ideal) (vw.writes (Elt Ideal) vw.junk L) (ix2 ⟨k + r.val, by omega⟩ ⟨o + e.val, by omega⟩) = Q) :
    vw.readCov (⟨Rect.unit (s := S528x512) ![0, o] ![512, 128] inb, P⟩ :: L) (Rect.unit (s := S528x512) ![k, o] ![512, 128] inb').toLoadRect (ix2 r e) = Q :=
  ld_rd vw vw.junk hk ho inb inb' P L r e Q hlo hhi
end rd

section cn
theorem cn_hit {o : ℕ} (inb : ∀ a, (![0, o] : Fin 2 → ℕ) a + (![512, 128] : Fin 2 → ℕ) a ≤ S512x512.size a) (P : S512x128.Idx → EReal)
    (L : List (View.Piece (Elt Ideal) S512x512 .bf16)) (r k : Fin 512) (e : Fin 128) (h : k.val = o + e.val) :
    View.canon (⟨Rect.unit (s := S512x512) ![0, o] ![512, 128] inb, P⟩ :: L) (ix2 r k) = P (ix2 r e) := by
  have hx : (ix2 r k : S512x512.Idx) = (Rect.unit (s := S512x512) ![0, o] ![512, 128] inb).emb (ix2 r e) := by
    funext a
    match a with
    | ⟨0, _⟩ => exact Fin.ext (by show r.val = 0 + 1 * r.val; omega)
    | ⟨1, _⟩ => exact Fin.ext (by show k.val = o + 1 * e.val; omega)
  rw [hx, View.canon_cons_emb]

theorem cn_miss {o : ℕ} (inb : ∀ a, (![0, o] : Fin 2 → ℕ) a + (![512, 128] : Fin 2 → ℕ) a ≤ S512x512.size a) (P : S512x128.Idx → EReal)
    (L : List (View.Piece (Elt Ideal) S512x512 .bf16)) (r k : Fin 512) (h : k.val < o ∨ o + 128 ≤ k.val) :
    View.canon (⟨Rect.unit (s := S512x512) ![0, o] ![512, 128] inb, P⟩ :: L) (ix2 r k) = View.canon L (ix2 r k) :=
  View.canon_cons_of_not_mem _ _ fun hm => by
    have h1 := (Rect.mem_set_unit (inb := inb)).mp hm (1 : Fin 2)
    have h2 : o ≤ k.val ∧ k.val < o + 128 := h1
    omega
end cn

variable (m : (ℓ : Loc nD τ sig) → Buf (Elt Ideal) ℓ)

/-- What the scratch carries past the point: the first sixteen rows of the tile. -/
theorem carry_A (c : Dev nD) (t : Fin cfg0.N) (h0 : t.val % 16 = 0) (h1 : t.val % 16 = 0) (h2 : ¬1 ≤ t.val) (h3 : t.val % 16 = 0) (h4 : ¬1 ≤ t.val) (h5 : t.val % 16 = 0) (h6 : ¬1 ≤ t.val) (h7 : t.val % 16 = 0) (h8 : ¬1 ≤ t.val) (h9 : t.val % 16 = 0) (h10 : ¬1 ≤ t.val) (i : Fin 16) (g : Fin 4) (e : Fin 128) (hi : 512 + i.val < 528) :
    (outsAt0 m c t.val t.isLt).2.2.2 (ix2 ⟨512 + i.val, hi⟩ (col g e)) = q (CT m c) (WW m c) (SS m c) ((15 - t.val) * 512 + i.val) g e := by
  rw [outsAt0_A m c t h0 h1 h2 h3 h4 h5 h6 h7 h8 h9 h10]
  frame_open
  simp (disch := decide) only [↓ View.readCov_skip, ↓ View.readCov_cons_toLoadRect, ↓ View.readCov_fill]
  frame_out
  simp only [q_pay0, q_pay1, q_pay2, q_pay3]
  have hx : (ix2 ⟨512 + i.val, hi⟩ (col g e) : S528x512.Idx) = (Rect.unit (s := S528x512) ![512, 0] ![16, 512] inb_S528x512_S16x512_512_0).emb (ix2 i (col g e)) := by
    funext a
    match a with
    | ⟨0, _⟩ => exact Fin.ext (by show 512 + i.val = 512 + 1 * i.val; omega)
    | ⟨1, _⟩ => exact Fin.ext (by show (col g e).val = 0 + 1 * (col g e).val; omega)
  rw [hx, View.canon_cons_emb, carry_pay]
  have hr : i.val < 512 := by omega
  unfold View.readCov
  rw [View.readAt_apply]
  exact rd_sel _ _ _ _ _ _ _ _ _ _ _ _ ⟨i.val, hr⟩ e g (fun g => q (CT m c) (WW m c) (SS m c) ((15 - t.val) * 512 + i.val) g e)
    (q_blk0 m c t _ e) (q_blk1 m c t _ e) (q_blk2 m c t _ e) (q_blk3 m c t _ e)
    (by show 0 + 1 * i.val = i.val; omega) (by show 0 + 1 * (128 * g.val + e.val) = 128 * g.val + e.val; omega)

/-- What the scratch carries past the point: the first sixteen rows of the tile. -/
theorem carry_B (c : Dev nD) (t : Fin cfg0.N) (h0 : ¬t.val % 16 = 0) (h1 : ¬t.val % 16 = 0) (h2 : 1 ≤ t.val) (h3 : ¬t.val % 16 = 0) (h4 : 1 ≤ t.val) (h5 : ¬t.val % 16 = 0) (h6 : 1 ≤ t.val) (h7 : ¬t.val % 16 = 0) (h8 : 1 ≤ t.val) (h9 : ¬t.val % 16 = 0) (h10 : 1 ≤ t.val) (i : Fin 16) (g : Fin 4) (e : Fin 128) (hi : 512 + i.val < 528) :
    (outsAt0 m c t.val t.isLt).2.2.2 (ix2 ⟨512 + i.val, hi⟩ (col g e)) = q (CT m c) (WW m c) (SS m c) ((15 - t.val) * 512 + i.val) g e := by
  rw [outsAt0_B m c t h0 h1 h2 h3 h4 h5 h6 h7 h8 h9 h10]
  frame_open
  simp (disch := decide) only [↓ View.readCov_skip, ↓ View.readCov_cons_toLoadRect, ↓ View.readCov_fill]
  frame_out
  simp only [q_pay0, q_pay1, q_pay2, q_pay3]
  have hx : (ix2 ⟨512 + i.val, hi⟩ (col g e) : S528x512.Idx) = (Rect.unit (s := S528x512) ![512, 0] ![16, 512] inb_S528x512_S16x512_512_0).emb (ix2 i (col g e)) := by
    funext a
    match a with
    | ⟨0, _⟩ => exact Fin.ext (by show 512 + i.val = 512 + 1 * i.val; omega)
    | ⟨1, _⟩ => exact Fin.ext (by show (col g e).val = 0 + 1 * (col g e).val; omega)
  rw [hx, View.canon_cons_emb, carry_pay]
  have hr : i.val < 512 := by omega
  unfold View.readCov
  rw [View.readAt_apply]
  exact rd_sel _ _ _ _ _ _ _ _ _ _ _ _ ⟨i.val, hr⟩ e g (fun g => q (CT m c) (WW m c) (SS m c) ((15 - t.val) * 512 + i.val) g e)
    (q_blk0 m c t _ e) (q_blk1 m c t _ e) (q_blk2 m c t _ e) (q_blk3 m c t _ e)
    (by show 0 + 1 * i.val = i.val; omega) (by show 0 + 1 * (128 * g.val + e.val) = 128 * g.val + e.val; omega)

end Cert.KernelIdeal.PoolBwd

end

end
-- ==== Proof.PoolDx.lean ====
/- The input gradient at a grid point: each group is the forward window sum of the scratch less the gradient of the differences. -/
module

public import proofs.«01_k».proof.Proof.PoolOut

@[expose] public section

set_option maxRecDepth 16384

noncomputable section

open Idealize.ShloMosaic Idealize.ShloMosaic.TcCoe Idealize.SL.Sem
open Idealize.ShloMosaic.Pipeline (Dat)

namespace Cert.KernelIdeal.PoolBwd
open Cert.KernelIdeal Cert.KernelIdeal.Gen Cert.PoolSpec
variable (m : (ℓ : Loc nD τ sig) → Buf (Elt Ideal) ℓ)

theorem q_past {ct : Vec Ideal S1x8192x512 .f32} {W : Vec Ideal S4x128x128 .f32} {sc : Vec Ideal S512 .f32} {n : ℕ} {g : Fin 4} {e : Fin 128}
    (h : 8192 ≤ n) : q ct W sc n g e = 0 := dif_neg (by omega)
/-- The scratch at the previous point carries the sixteen rows past this point's tile. -/
def Prev (c : Dev nD) (t : Fin cfg0.N) : Prop := ∀ (h : t.val - 1 < cfg0.N) (i : Fin 16) (g : Fin 4) (e : Fin 128) (hi : 512 + i.val < 528),
  (outsAt0 m c (t.val - 1) h).2.2.2 (ix2 ⟨512 + i.val, hi⟩ (col g e)) = q (CT m c) (WW m c) (SS m c) ((15 - t.val) * 512 + 512 + i.val) g e

theorem prev_rd (c : Dev nD) (t : Fin cfg0.N) (hp : Prev m c t) (r : Fin 512) (k : ℕ) (g : Fin 4) (e : Fin 128) (h : 512 ≤ k + r.val) (hk : k ≤ 16)
    {o : ℕ} (ho : o = 128 * g.val) (hn : t.val - 1 < cfg0.N) (hi : k + r.val < 528) (hj : o + e.val < 512) :
    (outsAt0 m c (t.val - 1) hn).2.2.2 (ix2 ⟨k + r.val, hi⟩ ⟨o + e.val, hj⟩) = q (CT m c) (WW m c) (SS m c) ((15 - t.val) * 512 + r.val + k) g e := by
  subst ho
  have h1 := hp hn ⟨k + r.val - 512, by omega⟩ g e (by show 512 + (k + r.val - 512) < 528; omega)
  have hx : (⟨k + r.val, hi⟩ : Fin 528) = ⟨512 + (k + r.val - 512), by omega⟩ := Fin.ext (by show k + r.val = 512 + (k + r.val - 512); omega)
  have hq : (15 - t.val) * 512 + r.val + k = (15 - t.val) * 512 + 512 + (k + r.val - 512) := by omega
  rw [hx, hq]; exact h1

theorem dx_A0 (c : Dev nD) (t : Fin cfg0.N) (h0 : t.val % 16 = 0) (h1 : t.val % 16 = 0) (h2 : ¬1 ≤ t.val) (h3 : t.val % 16 = 0) (h4 : ¬1 ≤ t.val) (h5 : t.val % 16 = 0) (h6 : ¬1 ≤ t.val) (h7 : t.val % 16 = 0) (h8 : ¬1 ≤ t.val) (h9 : t.val % 16 = 0) (h10 : ¬1 ≤ t.val) (r : Fin 512) (e : Fin 128) :
    (outsAt0 m c t.val t.isLt).1 (ix2 r (col 0 e)) = dx (CT m c) (WW m c) (SS m c) (grow t r) 0 e := by
  have ht := (idx t).2.2.2.2.2.2.2.2
  rw [outsAt0_A m c t h0 h1 h2 h3 h4 h5 h6 h7 h8 h9 h10]
  frame_open
  simp (disch := decide) only [↓ View.readCov_skip, ↓ View.readCov_cons_toLoadRect, ↓ View.readCov_fill]
  frame_out
  simp only [q_pay0, q_pay1, q_pay2, q_pay3]
  rw [cn_miss _ _ _ r (col 0 e) (Or.inl (by show 128 * 0 + e.val < 384; omega))]
  rw [cn_miss _ _ _ r (col 0 e) (Or.inl (by show 128 * 0 + e.val < 256; omega))]
  rw [cn_miss _ _ _ r (col 0 e) (Or.inl (by show 128 * 0 + e.val < 128; omega))]
  rw [cn_hit _ _ _ r (col 0 e) e (by show 128 * 0 + e.val = 0 + e.val; rfl), dx_pay0]
  unfold dx
  show _ = (∑ k ∈ Finset.range 2, q (CT m c) (WW m c) (SS m c) ((15 - t.val) * 512 + r.val + k) 0 e) - _
  simp only [Finset.sum_range_succ, Finset.sum_range_zero, zero_add]
  refine congrArg₂ (· - ·) (congrArg₂ (· + ·) ?_ ?_) ?_
  · exact q_blk0 m c t r e
  · refine cov_rd _ (k := 1) (o := 0) (by decide) (by decide) _ _ _ _ r e _ (fun h => ?_) (fun h => ?_)
    · exact (q_blk0 m c t ⟨1 + r.val, h⟩ e).trans (congrArg (fun n => q (CT m c) (WW m c) (SS m c) n 0 e) (by show (15 - t.val) * 512 + (1 + r.val) = (15 - t.val) * 512 + r.val + 1; omega))
    · rw [rd_fill _ _ _ _ _ h]; exact (q_past (by omega)).symm
  · exact dd_blk0 m c t r e

theorem dx_A1 (c : Dev nD) (t : Fin cfg0.N) (h0 : t.val % 16 = 0) (h1 : t.val % 16 = 0) (h2 : ¬1 ≤ t.val) (h3 : t.val % 16 = 0) (h4 : ¬1 ≤ t.val) (h5 : t.val % 16 = 0) (h6 : ¬1 ≤ t.val) (h7 : t.val % 16 = 0) (h8 : ¬1 ≤ t.val) (h9 : t.val % 16 = 0) (h10 : ¬1 ≤ t.val) (r : Fin 512) (e : Fin 128) :
    (outsAt0 m c t.val t.isLt).1 (ix2 r (col 1 e)) = dx (CT m c) (WW m c) (SS m c) (grow t r) 1 e := by
  have ht := (idx t).2.2.2.2.2.2.2.2
  rw [outsAt0_A m c t h0 h1 h2 h3 h4 h5 h6 h7 h8 h9 h10]
  frame_open
  simp (disch := decide) only [↓ View.readCov_skip, ↓ View.readCov_cons_toLoadRect, ↓ View.readCov_fill]
  frame_out
  simp only [q_pay0, q_pay1, q_pay2, q_pay3]
  rw [cn_miss _ _ _ r (col 1 e) (Or.inl (by show 128 * 1 + e.val < 384; omega))]
  rw [cn_miss _ _ _ r (col 1 e) (Or.inl (by show 128 * 1 + e.val < 256; omega))]
  rw [cn_hit _ _ _ r (col 1 e) e (by show 128 * 1 + e.val = 128 + e.val; rfl), dx_pay1]
  unfold dx
  show _ = (∑ k ∈ Finset.range 4, q (CT m c) (WW m c) (SS m c) ((15 - t.val) * 512 + r.val + k) 1 e) - _
  simp only [Finset.sum_range_succ, Finset.sum_range_zero, zero_add]
  refine congrArg₂ (· - ·) (congrArg₂ (· + ·) (congrArg₂ (· + ·) (congrArg₂ (· + ·) ?_ ?_) ?_) ?_) ?_
  · exact q_blk1 m c t r e
  · refine cov_rd _ (k := 1) (o := 128) (by decide) (by decide) _ _ _ _ r e _ (fun h => ?_) (fun h => ?_)
    · exact (q_blk1 m c t ⟨1 + r.val, h⟩ e).trans (congrArg (fun n => q (CT m c) (WW m c) (SS m c) n 1 e) (by show (15 - t.val) * 512 + (1 + r.val) = (15 - t.val) * 512 + r.val + 1; omega))
    · rw [rd_high _ _ _ _ _ _ h]; rw [rd_fill _ _ _ _ _ h]; exact (q_past (by omega)).symm
  · refine cov_rd _ (k := 2) (o := 128) (by decide) (by decide) _ _ _ _ r e _ (fun h => ?_) (fun h => ?_)
    · exact (q_blk1 m c t ⟨2 + r.val, h⟩ e).trans (congrArg (fun n => q (CT m c) (WW m c) (SS m c) n 1 e) (by show (15 - t.val) * 512 + (2 + r.val) = (15 - t.val) * 512 + r.val + 2; omega))
    · rw [rd_high _ _ _ _ _ _ h]; rw [rd_fill _ _ _ _ _ h]; exact (q_past (by omega)).symm
  · refine cov_rd _ (k := 3) (o := 128) (by decide) (by decide) _ _ _ _ r e _ (fun h => ?_) (fun h => ?_)
    · exact (q_blk1 m c t ⟨3 + r.val, h⟩ e).trans (congrArg (fun n => q (CT m c) (WW m c) (SS m c) n 1 e) (by show (15 - t.val) * 512 + (3 + r.val) = (15 - t.val) * 512 + r.val + 3; omega))
    · rw [rd_high _ _ _ _ _ _ h]; rw [rd_fill _ _ _ _ _ h]; exact (q_past (by omega)).symm
  · exact dd_blk1 m c t r e

theorem dx_A2 (c : Dev nD) (t : Fin cfg0.N) (h0 : t.val % 16 = 0) (h1 : t.val % 16 = 0) (h2 : ¬1 ≤ t.val) (h3 : t.val % 16 = 0) (h4 : ¬1 ≤ t.val) (h5 : t.val % 16 = 0) (h6 : ¬1 ≤ t.val) (h7 : t.val % 16 = 0) (h8 : ¬1 ≤ t.val) (h9 : t.val % 16 = 0) (h10 : ¬1 ≤ t.val) (r : Fin 512) (e : Fin 128) :
    (outsAt0 m c t.val t.isLt).1 (ix2 r (col 2 e)) = dx (CT m c) (WW m c) (SS m c) (grow t r) 2 e := by
  have ht := (idx t).2.2.2.2.2.2.2.2
  rw [outsAt0_A m c t h0 h1 h2 h3 h4 h5 h6 h7 h8 h9 h10]
  frame_open
  simp (disch := decide) only [↓ View.readCov_skip, ↓ View.readCov_cons_toLoadRect, ↓ View.readCov_fill]
  frame_out
  simp only [q_pay0, q_pay1, q_pay2, q_pay3]
  rw [cn_miss _ _ _ r (col 2 e) (Or.inl (by show 128 * 2 + e.val < 384; omega))]
  rw [cn_hit _ _ _ r (col 2 e) e (by show 128 * 2 + e.val = 256 + e.val; rfl), dx_pay2]
  unfold dx
  show _ = (∑ k ∈ Finset.range 8, q (CT m c) (WW m c) (SS m c) ((15 - t.val) * 512 + r.val + k) 2 e) - _
  simp only [Finset.sum_range_succ, Finset.sum_range_zero, zero_add]
  refine congrArg₂ (· - ·) (congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_) ?_
  · exact q_blk2 m c t r e
  · refine cov_rd _ (k := 1) (o := 256) (by decide) (by decide) _ _ _ _ r e _ (fun h => ?_) (fun h => ?_)
    · exact (q_blk2 m c t ⟨1 + r.val, h⟩ e).trans (congrArg (fun n => q (CT m c) (WW m c) (SS m c) n 2 e) (by show (15 - t.val) * 512 + (1 + r.val) = (15 - t.val) * 512 + r.val + 1; omega))
    · rw [rd_high _ _ _ _ _ _ h]; rw [rd_high _ _ _ _ _ _ h]; rw [rd_fill _ _ _ _ _ h]; exact (q_past (by omega)).symm
  · refine cov_rd _ (k := 2) (o := 256) (by decide) (by decide) _ _ _ _ r e _ (fun h => ?_) (fun h => ?_)
    · exact (q_blk2 m c t ⟨2 + r.val, h⟩ e).trans (congrArg (fun n => q (CT m c) (WW m c) (SS m c) n 2 e) (by show (15 - t.val) * 512 + (2 + r.val) = (15 - t.val) * 512 + r.val + 2; omega))
    · rw [rd_high _ _ _ _ _ _ h]; rw [rd_high _ _ _ _ _ _ h]; rw [rd_fill _ _ _ _ _ h]; exact (q_past (by omega)).symm
  · refine cov_rd _ (k := 3) (o := 256) (by decide) (by decide) _ _ _ _ r e _ (fun h => ?_) (fun h => ?_)
    · exact (q_blk2 m c t ⟨3 + r.val, h⟩ e).trans (congrArg (fun n => q (CT m c) (WW m c) (SS m c) n 2 e) (by show (15 - t.val) * 512 + (3 + r.val) = (15 - t.val) * 512 + r.val + 3; omega))
    · rw [rd_high _ _ _ _ _ _ h]; rw [rd_high _ _ _ _ _ _ h]; rw [rd_fill _ _ _ _ _ h]; exact (q_past (by omega)).symm
  · refine cov_rd _ (k := 4) (o := 256) (by decide) (by decide) _ _ _ _ r e _ (fun h => ?_) (fun h => ?_)
    · exact (q_blk2 m c t ⟨4 + r.val, h⟩ e).trans (congrArg (fun n => q (CT m c) (WW m c) (SS m c) n 2 e) (by show (15 - t.val) * 512 + (4 + r.val) = (15 - t.val) * 512 + r.val + 4; omega))
    · rw [rd_high _ _ _ _ _ _ h]; rw [rd_high _ _ _ _ _ _ h]; rw [rd_fill _ _ _ _ _ h]; exact (q_past (by omega)).symm
  · refine cov_rd _ (k := 5) (o := 256) (by decide) (by decide) _ _ _ _ r e _ (fun h => ?_) (fun h => ?_)
    · exact (q_blk2 m c t ⟨5 + r.val, h⟩ e).trans (congrArg (fun n => q (CT m c) (WW m c) (SS m c) n 2 e) (by show (15 - t.val) * 512 + (5 + r.val) = (15 - t.val) * 512 + r.val + 5; omega))
    · rw [rd_high _ _ _ _ _ _ h]; rw [rd_high _ _ _ _ _ _ h]; rw [rd_fill _ _ _ _ _ h]; exact (q_past (by omega)).symm
  · refine cov_rd _ (k := 6) (o := 256) (by decide) (by decide) _ _ _ _ r e _ (fun h => ?_) (fun h => ?_)
    · exact (q_blk2 m c t ⟨6 + r.val, h⟩ e).trans (congrArg (fun n => q (CT m c) (WW m c) (SS m c) n 2 e) (by show (15 - t.val) * 512 + (6 + r.val) = (15 - t.val) * 512 + r.val + 6; omega))
    · rw [rd_high _ _ _ _ _ _ h]; rw [rd_high _ _ _ _ _ _ h]; rw [rd_fill _ _ _ _ _ h]; exact (q_past (by omega)).symm
  · refine cov_rd _ (k := 7) (o := 256) (by decide) (by decide) _ _ _ _ r e _ (fun h => ?_) (fun h => ?_)
    · exact (q_blk2 m c t ⟨7 + r.val, h⟩ e).trans (congrArg (fun n => q (CT m c) (WW m c) (SS m c) n 2 e) (by show (15 - t.val) * 512 + (7 + r.val) = (15 - t.val) * 512 + r.val + 7; omega))
    · rw [rd_high _ _ _ _ _ _ h]; rw [rd_high _ _ _ _ _ _ h]; rw [rd_fill _ _ _ _ _ h]; exact (q_past (by omega)).symm
  · exact dd_blk2 m c t r e

theorem dx_A3 (c : Dev nD) (t : Fin cfg0.N) (h0 : t.val % 16 = 0) (h1 : t.val % 16 = 0) (h2 : ¬1 ≤ t.val) (h3 : t.val % 16 = 0) (h4 : ¬1 ≤ t.val) (h5 : t.val % 16 = 0) (h6 : ¬1 ≤ t.val) (h7 : t.val % 16 = 0) (h8 : ¬1 ≤ t.val) (h9 : t.val % 16 = 0) (h10 : ¬1 ≤ t.val) (r : Fin 512) (e : Fin 128) :
    (outsAt0 m c t.val t.isLt).1 (ix2 r (col 3 e)) = dx (CT m c) (WW m c) (SS m c) (grow t r) 3 e := by
  have ht := (idx t).2.2.2.2.2.2.2.2
  rw [outsAt0_A m c t h0 h1 h2 h3 h4 h5 h6 h7 h8 h9 h10]
  frame_open
  simp (disch := decide) only [↓ View.readCov_skip, ↓ View.readCov_cons_toLoadRect, ↓ View.readCov_fill]
  frame_out
  simp only [q_pay0, q_pay1, q_pay2, q_pay3]
  rw [cn_hit _ _ _ r (col 3 e) e (by show 128 * 3 + e.val = 384 + e.val; rfl), dx_pay3]
  unfold dx
  show _ = (∑ k ∈ Finset.range 16, q (CT m c) (WW m c) (SS m c) ((15 - t.val) * 512 + r.val + k) 3 e) - _
  simp only [Finset.sum_range_succ, Finset.sum_range_zero, zero_add]
  refine congrArg₂ (· - ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_) ?_) ?_) ?_) ?_) ?_) ?_) ?_) ?_) ?_
  · exact q_blk3 m c t r e
  · refine cov_rd _ (k := 1) (o := 384) (by decide) (by decide) _ _ _ _ r e _ (fun h => ?_) (fun h => ?_)
    · exact (q_blk3 m c t ⟨1 + r.val, h⟩ e).trans (congrArg (fun n => q (CT m c) (WW m c) (SS m c) n 3 e) (by show (15 - t.val) * 512 + (1 + r.val) = (15 - t.val) * 512 + r.val + 1; omega))
    · rw [rd_high _ _ _ _ _ _ h]; rw [rd_high _ _ _ _ _ _ h]; rw [rd_high _ _ _ _ _ _ h]; rw [rd_fill _ _ _ _ _ h]; exact (q_past (by omega)).symm
  · refine cov_rd _ (k := 2) (o := 384) (by decide) (by decide) _ _ _ _ r e _ (fun h => ?_) (fun h => ?_)
    · exact (q_blk3 m c t ⟨2 + r.val, h⟩ e).trans (congrArg (fun n => q (CT m c) (WW m c) (SS m c) n 3 e) (by show (15 - t.val) * 512 + (2 + r.val) = (15 - t.val) * 512 + r.val + 2; omega))
    · rw [rd_high _ _ _ _ _ _ h]; rw [rd_high _ _ _ _ _ _ h]; rw [rd_high _ _ _ _ _ _ h]; rw [rd_fill _ _ _ _ _ h]; exact (q_past (by omega)).symm
  · refine cov_rd _ (k := 3) (o := 384) (by decide) (by decide) _ _ _ _ r e _ (fun h => ?_) (fun h => ?_)
    · exact (q_blk3 m c t ⟨3 + r.val, h⟩ e).trans (congrArg (fun n => q (CT m c) (WW m c) (SS m c) n 3 e) (by show (15 - t.val) * 512 + (3 + r.val) = (15 - t.val) * 512 + r.val + 3; omega))
    · rw [rd_high _ _ _ _ _ _ h]; rw [rd_high _ _ _ _ _ _ h]; rw [rd_high _ _ _ _ _ _ h]; rw [rd_fill _ _ _ _ _ h]; exact (q_past (by omega)).symm
  · refine cov_rd _ (k := 4) (o := 384) (by decide) (by decide) _ _ _ _ r e _ (fun h => ?_) (fun h => ?_)
    · exact (q_blk3 m c t ⟨4 + r.val, h⟩ e).trans (congrArg (fun n => q (CT m c) (WW m c) (SS m c) n 3 e) (by show (15 - t.val) * 512 + (4 + r.val) = (15 - t.val) * 512 + r.val + 4; omega))
    · rw [rd_high _ _ _ _ _ _ h]; rw [rd_high _ _ _ _ _ _ h]; rw [rd_high _ _ _ _ _ _ h]; rw [rd_fill _ _ _ _ _ h]; exact (q_past (by omega)).symm
  · refine cov_rd _ (k := 5) (o := 384) (by decide) (by decide) _ _ _ _ r e _ (fun h => ?_) (fun h => ?_)
    · exact (q_blk3 m c t ⟨5 + r.val, h⟩ e).trans (congrArg (fun n => q (CT m c) (WW m c) (SS m c) n 3 e) (by show (15 - t.val) * 512 + (5 + r.val) = (15 - t.val) * 512 + r.val + 5; omega))
    · rw [rd_high _ _ _ _ _ _ h]; rw [rd_high _ _ _ _ _ _ h]; rw [rd_high _ _ _ _ _ _ h]; rw [rd_fill _ _ _ _ _ h]; exact (q_past (by omega)).symm
  · refine cov_rd _ (k := 6) (o := 384) (by decide) (by decide) _ _ _ _ r e _ (fun h => ?_) (fun h => ?_)
    · exact (q_blk3 m c t ⟨6 + r.val, h⟩ e).trans (congrArg (fun n => q (CT m c) (WW m c) (SS m c) n 3 e) (by show (15 - t.val) * 512 + (6 + r.val) = (15 - t.val) * 512 + r.val + 6; omega))
    · rw [rd_high _ _ _ _ _ _ h]; rw [rd_high _ _ _ _ _ _ h]; rw [rd_high _ _ _ _ _ _ h]; rw [rd_fill _ _ _ _ _ h]; exact (q_past (by omega)).symm
  · refine cov_rd _ (k := 7) (o := 384) (by decide) (by decide) _ _ _ _ r e _ (fun h => ?_) (fun h => ?_)
    · exact (q_blk3 m c t ⟨7 + r.val, h⟩ e).trans (congrArg (fun n => q (CT m c) (WW m c) (SS m c) n 3 e) (by show (15 - t.val) * 512 + (7 + r.val) = (15 - t.val) * 512 + r.val + 7; omega))
    · rw [rd_high _ _ _ _ _ _ h]; rw [rd_high _ _ _ _ _ _ h]; rw [rd_high _ _ _ _ _ _ h]; rw [rd_fill _ _ _ _ _ h]; exact (q_past (by omega)).symm
  · refine cov_rd _ (k := 8) (o := 384) (by decide) (by decide) _ _ _ _ r e _ (fun h => ?_) (fun h => ?_)
    · exact (q_blk3 m c t ⟨8 + r.val, h⟩ e).trans (congrArg (fun n => q (CT m c) (WW m c) (SS m c) n 3 e) (by show (15 - t.val) * 512 + (8 + r.val) = (15 - t.val) * 512 + r.val + 8; omega))
    · rw [rd_high _ _ _ _ _ _ h]; rw [rd_high _ _ _ _ _ _ h]; rw [rd_high _ _ _ _ _ _ h]; rw [rd_fill _ _ _ _ _ h]; exact (q_past (by omega)).symm
  · refine cov_rd _ (k := 9) (o := 384) (by decide) (by decide) _ _ _ _ r e _ (fun h => ?_) (fun h => ?_)
    · exact (q_blk3 m c t ⟨9 + r.val, h⟩ e).trans (congrArg (fun n => q (CT m c) (WW m c) (SS m c) n 3 e) (by show (15 - t.val) * 512 + (9 + r.val) = (15 - t.val) * 512 + r.val + 9; omega))
    · rw [rd_high _ _ _ _ _ _ h]; rw [rd_high _ _ _ _ _ _ h]; rw [rd_high _ _ _ _ _ _ h]; rw [rd_fill _ _ _ _ _ h]; exact (q_past (by omega)).symm
  · refine cov_rd _ (k := 10) (o := 384) (by decide) (by decide) _ _ _ _ r e _ (fun h => ?_) (fun h => ?_)
    · exact (q_blk3 m c t ⟨10 + r.val, h⟩ e).trans (congrArg (fun n => q (CT m c) (WW m c) (SS m c) n 3 e) (by show (15 - t.val) * 512 + (10 + r.val) = (15 - t.val) * 512 + r.val + 10; omega))
    · rw [rd_high _ _ _ _ _ _ h]; rw [rd_high _ _ _ _ _ _ h]; rw [rd_high _ _ _ _ _ _ h]; rw [rd_fill _ _ _ _ _ h]; exact (q_past (by omega)).symm
  · refine cov_rd _ (k := 11) (o := 384) (by decide) (by decide) _ _ _ _ r e _ (fun h => ?_) (fun h => ?_)
    · exact (q_blk3 m c t ⟨11 + r.val, h⟩ e).trans (congrArg (fun n => q (CT m c) (WW m c) (SS m c) n 3 e) (by show (15 - t.val) * 512 + (11 + r.val) = (15 - t.val) * 512 + r.val + 11; omega))
    · rw [rd_high _ _ _ _ _ _ h]; rw [rd_high _ _ _ _ _ _ h]; rw [rd_high _ _ _ _ _ _ h]; rw [rd_fill _ _ _ _ _ h]; exact (q_past (by omega)).symm
  · refine cov_rd _ (k := 12) (o := 384) (by decide) (by decide) _ _ _ _ r e _ (fun h => ?_) (fun h => ?_)
    · exact (q_blk3 m c t ⟨12 + r.val, h⟩ e).trans (congrArg (fun n => q (CT m c) (WW m c) (SS m c) n 3 e) (by show (15 - t.val) * 512 + (12 + r.val) = (15 - t.val) * 512 + r.val + 12; omega))
    · rw [rd_high _ _ _ _ _ _ h]; rw [rd_high _ _ _ _ _ _ h]; rw [rd_high _ _ _ _ _ _ h]; rw [rd_fill _ _ _ _ _ h]; exact (q_past (by omega)).symm
  · refine cov_rd _ (k := 13) (o := 384) (by decide) (by decide) _ _ _ _ r e _ (fun h => ?_) (fun h => ?_)
    · exact (q_blk3 m c t ⟨13 + r.val, h⟩ e).trans (congrArg (fun n => q (CT m c) (WW m c) (SS m c) n 3 e) (by show (15 - t.val) * 512 + (13 + r.val) = (15 - t.val) * 512 + r.val + 13; omega))
    · rw [rd_high _ _ _ _ _ _ h]; rw [rd_high _ _ _ _ _ _ h]; rw [rd_high _ _ _ _ _ _ h]; rw [rd_fill _ _ _ _ _ h]; exact (q_past (by omega)).symm
  · refine cov_rd _ (k := 14) (o := 384) (by decide) (by decide) _ _ _ _ r e _ (fun h => ?_) (fun h => ?_)
    · exact (q_blk3 m c t ⟨14 + r.val, h⟩ e).trans (congrArg (fun n => q (CT m c) (WW m c) (SS m c) n 3 e) (by show (15 - t.val) * 512 + (14 + r.val) = (15 - t.val) * 512 + r.val + 14; omega))
    · rw [rd_high _ _ _ _ _ _ h]; rw [rd_high _ _ _ _ _ _ h]; rw [rd_high _ _ _ _ _ _ h]; rw [rd_fill _ _ _ _ _ h]; exact (q_past (by omega)).symm
  · refine cov_rd _ (k := 15) (o := 384) (by decide) (by decide) _ _ _ _ r e _ (fun h => ?_) (fun h => ?_)
    · exact (q_blk3 m c t ⟨15 + r.val, h⟩ e).trans (congrArg (fun n => q (CT m c) (WW m c) (SS m c) n 3 e) (by show (15 - t.val) * 512 + (15 + r.val) = (15 - t.val) * 512 + r.val + 15; omega))
    · rw [rd_high _ _ _ _ _ _ h]; rw [rd_high _ _ _ _ _ _ h]; rw [rd_high _ _ _ _ _ _ h]; rw [rd_fill _ _ _ _ _ h]; exact (q_past (by omega)).symm
  · exact dd_blk3 m c t r e

theorem dx_B0 (c : Dev nD) (t : Fin cfg0.N) (h0 : ¬t.val % 16 = 0) (h1 : ¬t.val % 16 = 0) (h2 : 1 ≤ t.val) (h3 : ¬t.val % 16 = 0) (h4 : 1 ≤ t.val) (h5 : ¬t.val % 16 = 0) (h6 : 1 ≤ t.val) (h7 : ¬t.val % 16 = 0) (h8 : 1 ≤ t.val) (h9 : ¬t.val % 16 = 0) (h10 : 1 ≤ t.val) (hp : Prev m c t)(r : Fin 512) (e : Fin 128) :
    (outsAt0 m c t.val t.isLt).1 (ix2 r (col 0 e)) = dx (CT m c) (WW m c) (SS m c) (grow t r) 0 e := by
  have ht := (idx t).2.2.2.2.2.2.2.2
  rw [outsAt0_B m c t h0 h1 h2 h3 h4 h5 h6 h7 h8 h9 h10]
  frame_open
  simp (disch := decide) only [↓ View.readCov_skip, ↓ View.readCov_cons_toLoadRect, ↓ View.readCov_fill]
  frame_out
  simp only [q_pay0, q_pay1, q_pay2, q_pay3]
  rw [cn_miss _ _ _ r (col 0 e) (Or.inl (by show 128 * 0 + e.val < 384; omega))]
  rw [cn_miss _ _ _ r (col 0 e) (Or.inl (by show 128 * 0 + e.val < 256; omega))]
  rw [cn_miss _ _ _ r (col 0 e) (Or.inl (by show 128 * 0 + e.val < 128; omega))]
  rw [cn_hit _ _ _ r (col 0 e) e (by show 128 * 0 + e.val = 0 + e.val; rfl), dx_pay0]
  unfold dx
  show _ = (∑ k ∈ Finset.range 2, q (CT m c) (WW m c) (SS m c) ((15 - t.val) * 512 + r.val + k) 0 e) - _
  simp only [Finset.sum_range_succ, Finset.sum_range_zero, zero_add]
  refine congrArg₂ (· - ·) (congrArg₂ (· + ·) ?_ ?_) ?_
  · exact q_blk0 m c t r e
  · refine ld_rd _ _ (k := 1) (o := 0) (by decide) (by decide) _ _ _ _ r e _ (fun h => ?_) (fun h => ?_)
    · exact (q_blk0 m c t ⟨1 + r.val, h⟩ e).trans (congrArg (fun n => q (CT m c) (WW m c) (SS m c) n 0 e) (by show (15 - t.val) * 512 + (1 + r.val) = (15 - t.val) * 512 + r.val + 1; omega))
    · rw [View.writes_nil, read_unread_whole]; exact prev_rd m c t hp r 1 0 e h (by decide) (by decide) _ _ _
  · exact dd_blk0 m c t r e

theorem dx_B1 (c : Dev nD) (t : Fin cfg0.N) (h0 : ¬t.val % 16 = 0) (h1 : ¬t.val % 16 = 0) (h2 : 1 ≤ t.val) (h3 : ¬t.val % 16 = 0) (h4 : 1 ≤ t.val) (h5 : ¬t.val % 16 = 0) (h6 : 1 ≤ t.val) (h7 : ¬t.val % 16 = 0) (h8 : 1 ≤ t.val) (h9 : ¬t.val % 16 = 0) (h10 : 1 ≤ t.val) (hp : Prev m c t)(r : Fin 512) (e : Fin 128) :
    (outsAt0 m c t.val t.isLt).1 (ix2 r (col 1 e)) = dx (CT m c) (WW m c) (SS m c) (grow t r) 1 e := by
  have ht := (idx t).2.2.2.2.2.2.2.2
  rw [outsAt0_B m c t h0 h1 h2 h3 h4 h5 h6 h7 h8 h9 h10]
  frame_open
  simp (disch := decide) only [↓ View.readCov_skip, ↓ View.readCov_cons_toLoadRect, ↓ View.readCov_fill]
  frame_out
  simp only [q_pay0, q_pay1, q_pay2, q_pay3]
  rw [cn_miss _ _ _ r (col 1 e) (Or.inl (by show 128 * 1 + e.val < 384; omega))]
  rw [cn_miss _ _ _ r (col 1 e) (Or.inl (by show 128 * 1 + e.val < 256; omega))]
  rw [cn_hit _ _ _ r (col 1 e) e (by show 128 * 1 + e.val = 128 + e.val; rfl), dx_pay1]
  unfold dx
  show _ = (∑ k ∈ Finset.range 4, q (CT m c) (WW m c) (SS m c) ((15 - t.val) * 512 + r.val + k) 1 e) - _
  simp only [Finset.sum_range_succ, Finset.sum_range_zero, zero_add]
  refine congrArg₂ (· - ·) (congrArg₂ (· + ·) (congrArg₂ (· + ·) (congrArg₂ (· + ·) ?_ ?_) ?_) ?_) ?_
  · exact q_blk1 m c t r e
  · refine ld_rd _ _ (k := 1) (o := 128) (by decide) (by decide) _ _ _ _ r e _ (fun h => ?_) (fun h => ?_)
    · exact (q_blk1 m c t ⟨1 + r.val, h⟩ e).trans (congrArg (fun n => q (CT m c) (WW m c) (SS m c) n 1 e) (by show (15 - t.val) * 512 + (1 + r.val) = (15 - t.val) * 512 + r.val + 1; omega))
    · rw [rd_high _ _ _ _ _ _ h]; rw [View.writes_nil, read_unread_whole]; exact prev_rd m c t hp r 1 1 e h (by decide) (by decide) _ _ _
  · refine ld_rd _ _ (k := 2) (o := 128) (by decide) (by decide) _ _ _ _ r e _ (fun h => ?_) (fun h => ?_)
    · exact (q_blk1 m c t ⟨2 + r.val, h⟩ e).trans (congrArg (fun n => q (CT m c) (WW m c) (SS m c) n 1 e) (by show (15 - t.val) * 512 + (2 + r.val) = (15 - t.val) * 512 + r.val + 2; omega))
    · rw [rd_high _ _ _ _ _ _ h]; rw [View.writes_nil, read_unread_whole]; exact prev_rd m c t hp r 2 1 e h (by decide) (by decide) _ _ _
  · refine ld_rd _ _ (k := 3) (o := 128) (by decide) (by decide) _ _ _ _ r e _ (fun h => ?_) (fun h => ?_)
    · exact (q_blk1 m c t ⟨3 + r.val, h⟩ e).trans (congrArg (fun n => q (CT m c) (WW m c) (SS m c) n 1 e) (by show (15 - t.val) * 512 + (3 + r.val) = (15 - t.val) * 512 + r.val + 3; omega))
    · rw [rd_high _ _ _ _ _ _ h]; rw [View.writes_nil, read_unread_whole]; exact prev_rd m c t hp r 3 1 e h (by decide) (by decide) _ _ _
  · exact dd_blk1 m c t r e

theorem dx_B2 (c : Dev nD) (t : Fin cfg0.N) (h0 : ¬t.val % 16 = 0) (h1 : ¬t.val % 16 = 0) (h2 : 1 ≤ t.val) (h3 : ¬t.val % 16 = 0) (h4 : 1 ≤ t.val) (h5 : ¬t.val % 16 = 0) (h6 : 1 ≤ t.val) (h7 : ¬t.val % 16 = 0) (h8 : 1 ≤ t.val) (h9 : ¬t.val % 16 = 0) (h10 : 1 ≤ t.val) (hp : Prev m c t)(r : Fin 512) (e : Fin 128) :
    (outsAt0 m c t.val t.isLt).1 (ix2 r (col 2 e)) = dx (CT m c) (WW m c) (SS m c) (grow t r) 2 e := by
  have ht := (idx t).2.2.2.2.2.2.2.2
  rw [outsAt0_B m c t h0 h1 h2 h3 h4 h5 h6 h7 h8 h9 h10]
  frame_open
  simp (disch := decide) only [↓ View.readCov_skip, ↓ View.readCov_cons_toLoadRect, ↓ View.readCov_fill]
  frame_out
  simp only [q_pay0, q_pay1, q_pay2, q_pay3]
  rw [cn_miss _ _ _ r (col 2 e) (Or.inl (by show 128 * 2 + e.val < 384; omega))]
  rw [cn_hit _ _ _ r (col 2 e) e (by show 128 * 2 + e.val = 256 + e.val; rfl), dx_pay2]
  unfold dx
  show _ = (∑ k ∈ Finset.range 8, q (CT m c) (WW m c) (SS m c) ((15 - t.val) * 512 + r.val + k) 2 e) - _
  simp only [Finset.sum_range_succ, Finset.sum_range_zero, zero_add]
  refine congrArg₂ (· - ·) (congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_) ?_
  · exact q_blk2 m c t r e
  · refine ld_rd _ _ (k := 1) (o := 256) (by decide) (by decide) _ _ _ _ r e _ (fun h => ?_) (fun h => ?_)
    · exact (q_blk2 m c t ⟨1 + r.val, h⟩ e).trans (congrArg (fun n => q (CT m c) (WW m c) (SS m c) n 2 e) (by show (15 - t.val) * 512 + (1 + r.val) = (15 - t.val) * 512 + r.val + 1; omega))
    · rw [rd_high _ _ _ _ _ _ h]; rw [rd_high _ _ _ _ _ _ h]; rw [View.writes_nil, read_unread_whole]; exact prev_rd m c t hp r 1 2 e h (by decide) (by decide) _ _ _
  · refine ld_rd _ _ (k := 2) (o := 256) (by decide) (by decide) _ _ _ _ r e _ (fun h => ?_) (fun h => ?_)
    · exact (q_blk2 m c t ⟨2 + r.val, h⟩ e).trans (congrArg (fun n => q (CT m c) (WW m c) (SS m c) n 2 e) (by show (15 - t.val) * 512 + (2 + r.val) = (15 - t.val) * 512 + r.val + 2; omega))
    · rw [rd_high _ _ _ _ _ _ h]; rw [rd_high _ _ _ _ _ _ h]; rw [View.writes_nil, read_unread_whole]; exact prev_rd m c t hp r 2 2 e h (by decide) (by decide) _ _ _
  · refine ld_rd _ _ (k := 3) (o := 256) (by decide) (by decide) _ _ _ _ r e _ (fun h => ?_) (fun h => ?_)
    · exact (q_blk2 m c t ⟨3 + r.val, h⟩ e).trans (congrArg (fun n => q (CT m c) (WW m c) (SS m c) n 2 e) (by show (15 - t.val) * 512 + (3 + r.val) = (15 - t.val) * 512 + r.val + 3; omega))
    · rw [rd_high _ _ _ _ _ _ h]; rw [rd_high _ _ _ _ _ _ h]; rw [View.writes_nil, read_unread_whole]; exact prev_rd m c t hp r 3 2 e h (by decide) (by decide) _ _ _
  · refine ld_rd _ _ (k := 4) (o := 256) (by decide) (by decide) _ _ _ _ r e _ (fun h => ?_) (fun h => ?_)
    · exact (q_blk2 m c t ⟨4 + r.val, h⟩ e).trans (congrArg (fun n => q (CT m c) (WW m c) (SS m c) n 2 e) (by show (15 - t.val) * 512 + (4 + r.val) = (15 - t.val) * 512 + r.val + 4; omega))
    · rw [rd_high _ _ _ _ _ _ h]; rw [rd_high _ _ _ _ _ _ h]; rw [View.writes_nil, read_unread_whole]; exact prev_rd m c t hp r 4 2 e h (by decide) (by decide) _ _ _
  · refine ld_rd _ _ (k := 5) (o := 256) (by decide) (by decide) _ _ _ _ r e _ (fun h => ?_) (fun h => ?_)
    · exact (q_blk2 m c t ⟨5 + r.val, h⟩ e).trans (congrArg (fun n => q (CT m c) (WW m c) (SS m c) n 2 e) (by show (15 - t.val) * 512 + (5 + r.val) = (15 - t.val) * 512 + r.val + 5; omega))
    · rw [rd_high _ _ _ _ _ _ h]; rw [rd_high _ _ _ _ _ _ h]; rw [View.writes_nil, read_unread_whole]; exact prev_rd m c t hp r 5 2 e h (by decide) (by decide) _ _ _
  · refine ld_rd _ _ (k := 6) (o := 256) (by decide) (by decide) _ _ _ _ r e _ (fun h => ?_) (fun h => ?_)
    · exact (q_blk2 m c t ⟨6 + r.val, h⟩ e).trans (congrArg (fun n => q (CT m c) (WW m c) (SS m c) n 2 e) (by show (15 - t.val) * 512 + (6 + r.val) = (15 - t.val) * 512 + r.val + 6; omega))
    · rw [rd_high _ _ _ _ _ _ h]; rw [rd_high _ _ _ _ _ _ h]; rw [View.writes_nil, read_unread_whole]; exact prev_rd m c t hp r 6 2 e h (by decide) (by decide) _ _ _
  · refine ld_rd _ _ (k := 7) (o := 256) (by decide) (by decide) _ _ _ _ r e _ (fun h => ?_) (fun h => ?_)
    · exact (q_blk2 m c t ⟨7 + r.val, h⟩ e).trans (congrArg (fun n => q (CT m c) (WW m c) (SS m c) n 2 e) (by show (15 - t.val) * 512 + (7 + r.val) = (15 - t.val) * 512 + r.val + 7; omega))
    · rw [rd_high _ _ _ _ _ _ h]; rw [rd_high _ _ _ _ _ _ h]; rw [View.writes_nil, read_unread_whole]; exact prev_rd m c t hp r 7 2 e h (by decide) (by decide) _ _ _
  · exact dd_blk2 m c t r e

theorem dx_B3 (c : Dev nD) (t : Fin cfg0.N) (h0 : ¬t.val % 16 = 0) (h1 : ¬t.val % 16 = 0) (h2 : 1 ≤ t.val) (h3 : ¬t.val % 16 = 0) (h4 : 1 ≤ t.val) (h5 : ¬t.val % 16 = 0) (h6 : 1 ≤ t.val) (h7 : ¬t.val % 16 = 0) (h8 : 1 ≤ t.val) (h9 : ¬t.val % 16 = 0) (h10 : 1 ≤ t.val) (hp : Prev m c t)(r : Fin 512) (e : Fin 128) :
    (outsAt0 m c t.val t.isLt).1 (ix2 r (col 3 e)) = dx (CT m c) (WW m c) (SS m c) (grow t r) 3 e := by
  have ht := (idx t).2.2.2.2.2.2.2.2
  rw [outsAt0_B m c t h0 h1 h2 h3 h4 h5 h6 h7 h8 h9 h10]
  frame_open
  simp (disch := decide) only [↓ View.readCov_skip, ↓ View.readCov_cons_toLoadRect, ↓ View.readCov_fill]
  frame_out
  simp only [q_pay0, q_pay1, q_pay2, q_pay3]
  rw [cn_hit _ _ _ r (col 3 e) e (by show 128 * 3 + e.val = 384 + e.val; rfl), dx_pay3]
  unfold dx
  show _ = (∑ k ∈ Finset.range 16, q (CT m c) (WW m c) (SS m c) ((15 - t.val) * 512 + r.val + k) 3 e) - _
  simp only [Finset.sum_range_succ, Finset.sum_range_zero, zero_add]
  refine congrArg₂ (· - ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_) ?_) ?_) ?_) ?_) ?_) ?_) ?_) ?_) ?_
  · exact q_blk3 m c t r e
  · refine ld_rd _ _ (k := 1) (o := 384) (by decide) (by decide) _ _ _ _ r e _ (fun h => ?_) (fun h => ?_)
    · exact (q_blk3 m c t ⟨1 + r.val, h⟩ e).trans (congrArg (fun n => q (CT m c) (WW m c) (SS m c) n 3 e) (by show (15 - t.val) * 512 + (1 + r.val) = (15 - t.val) * 512 + r.val + 1; omega))
    · rw [rd_high _ _ _ _ _ _ h]; rw [rd_high _ _ _ _ _ _ h]; rw [rd_high _ _ _ _ _ _ h]; rw [View.writes_nil, read_unread_whole]; exact prev_rd m c t hp r 1 3 e h (by decide) (by decide) _ _ _
  · refine ld_rd _ _ (k := 2) (o := 384) (by decide) (by decide) _ _ _ _ r e _ (fun h => ?_) (fun h => ?_)
    · exact (q_blk3 m c t ⟨2 + r.val, h⟩ e).trans (congrArg (fun n => q (CT m c) (WW m c) (SS m c) n 3 e) (by show (15 - t.val) * 512 + (2 + r.val) = (15 - t.val) * 512 + r.val + 2; omega))
    · rw [rd_high _ _ _ _ _ _ h]; rw [rd_high _ _ _ _ _ _ h]; rw [rd_high _ _ _ _ _ _ h]; rw [View.writes_nil, read_unread_whole]; exact prev_rd m c t hp r 2 3 e h (by decide) (by decide) _ _ _
  · refine ld_rd _ _ (k := 3) (o := 384) (by decide) (by decide) _ _ _ _ r e _ (fun h => ?_) (fun h => ?_)
    · exact (q_blk3 m c t ⟨3 + r.val, h⟩ e).trans (congrArg (fun n => q (CT m c) (WW m c) (SS m c) n 3 e) (by show (15 - t.val) * 512 + (3 + r.val) = (15 - t.val) * 512 + r.val + 3; omega))
    · rw [rd_high _ _ _ _ _ _ h]; rw [rd_high _ _ _ _ _ _ h]; rw [rd_high _ _ _ _ _ _ h]; rw [View.writes_nil, read_unread_whole]; exact prev_rd m c t hp r 3 3 e h (by decide) (by decide) _ _ _
  · refine ld_rd _ _ (k := 4) (o := 384) (by decide) (by decide) _ _ _ _ r e _ (fun h => ?_) (fun h => ?_)
    · exact (q_blk3 m c t ⟨4 + r.val, h⟩ e).trans (congrArg (fun n => q (CT m c) (WW m c) (SS m c) n 3 e) (by show (15 - t.val) * 512 + (4 + r.val) = (15 - t.val) * 512 + r.val + 4; omega))
    · rw [rd_high _ _ _ _ _ _ h]; rw [rd_high _ _ _ _ _ _ h]; rw [rd_high _ _ _ _ _ _ h]; rw [View.writes_nil, read_unread_whole]; exact prev_rd m c t hp r 4 3 e h (by decide) (by decide) _ _ _
  · refine ld_rd _ _ (k := 5) (o := 384) (by decide) (by decide) _ _ _ _ r e _ (fun h => ?_) (fun h => ?_)
    · exact (q_blk3 m c t ⟨5 + r.val, h⟩ e).trans (congrArg (fun n => q (CT m c) (WW m c) (SS m c) n 3 e) (by show (15 - t.val) * 512 + (5 + r.val) = (15 - t.val) * 512 + r.val + 5; omega))
    · rw [rd_high _ _ _ _ _ _ h]; rw [rd_high _ _ _ _ _ _ h]; rw [rd_high _ _ _ _ _ _ h]; rw [View.writes_nil, read_unread_whole]; exact prev_rd m c t hp r 5 3 e h (by decide) (by decide) _ _ _
  · refine ld_rd _ _ (k := 6) (o := 384) (by decide) (by decide) _ _ _ _ r e _ (fun h => ?_) (fun h => ?_)
    · exact (q_blk3 m c t ⟨6 + r.val, h⟩ e).trans (congrArg (fun n => q (CT m c) (WW m c) (SS m c) n 3 e) (by show (15 - t.val) * 512 + (6 + r.val) = (15 - t.val) * 512 + r.val + 6; omega))
    · rw [rd_high _ _ _ _ _ _ h]; rw [rd_high _ _ _ _ _ _ h]; rw [rd_high _ _ _ _ _ _ h]; rw [View.writes_nil, read_unread_whole]; exact prev_rd m c t hp r 6 3 e h (by decide) (by decide) _ _ _
  · refine ld_rd _ _ (k := 7) (o := 384) (by decide) (by decide) _ _ _ _ r e _ (fun h => ?_) (fun h => ?_)
    · exact (q_blk3 m c t ⟨7 + r.val, h⟩ e).trans (congrArg (fun n => q (CT m c) (WW m c) (SS m c) n 3 e) (by show (15 - t.val) * 512 + (7 + r.val) = (15 - t.val) * 512 + r.val + 7; omega))
    · rw [rd_high _ _ _ _ _ _ h]; rw [rd_high _ _ _ _ _ _ h]; rw [rd_high _ _ _ _ _ _ h]; rw [View.writes_nil, read_unread_whole]; exact prev_rd m c t hp r 7 3 e h (by decide) (by decide) _ _ _
  · refine ld_rd _ _ (k := 8) (o := 384) (by decide) (by decide) _ _ _ _ r e _ (fun h => ?_) (fun h => ?_)
    · exact (q_blk3 m c t ⟨8 + r.val, h⟩ e).trans (congrArg (fun n => q (CT m c) (WW m c) (SS m c) n 3 e) (by show (15 - t.val) * 512 + (8 + r.val) = (15 - t.val) * 512 + r.val + 8; omega))
    · rw [rd_high _ _ _ _ _ _ h]; rw [rd_high _ _ _ _ _ _ h]; rw [rd_high _ _ _ _ _ _ h]; rw [View.writes_nil, read_unread_whole]; exact prev_rd m c t hp r 8 3 e h (by decide) (by decide) _ _ _
  · refine ld_rd _ _ (k := 9) (o := 384) (by decide) (by decide) _ _ _ _ r e _ (fun h => ?_) (fun h => ?_)
    · exact (q_blk3 m c t ⟨9 + r.val, h⟩ e).trans (congrArg (fun n => q (CT m c) (WW m c) (SS m c) n 3 e) (by show (15 - t.val) * 512 + (9 + r.val) = (15 - t.val) * 512 + r.val + 9; omega))
    · rw [rd_high _ _ _ _ _ _ h]; rw [rd_high _ _ _ _ _ _ h]; rw [rd_high _ _ _ _ _ _ h]; rw [View.writes_nil, read_unread_whole]; exact prev_rd m c t hp r 9 3 e h (by decide) (by decide) _ _ _
  · refine ld_rd _ _ (k := 10) (o := 384) (by decide) (by decide) _ _ _ _ r e _ (fun h => ?_) (fun h => ?_)
    · exact (q_blk3 m c t ⟨10 + r.val, h⟩ e).trans (congrArg (fun n => q (CT m c) (WW m c) (SS m c) n 3 e) (by show (15 - t.val) * 512 + (10 + r.val) = (15 - t.val) * 512 + r.val + 10; omega))
    · rw [rd_high _ _ _ _ _ _ h]; rw [rd_high _ _ _ _ _ _ h]; rw [rd_high _ _ _ _ _ _ h]; rw [View.writes_nil, read_unread_whole]; exact prev_rd m c t hp r 10 3 e h (by decide) (by decide) _ _ _
  · refine ld_rd _ _ (k := 11) (o := 384) (by decide) (by decide) _ _ _ _ r e _ (fun h => ?_) (fun h => ?_)
    · exact (q_blk3 m c t ⟨11 + r.val, h⟩ e).trans (congrArg (fun n => q (CT m c) (WW m c) (SS m c) n 3 e) (by show (15 - t.val) * 512 + (11 + r.val) = (15 - t.val) * 512 + r.val + 11; omega))
    · rw [rd_high _ _ _ _ _ _ h]; rw [rd_high _ _ _ _ _ _ h]; rw [rd_high _ _ _ _ _ _ h]; rw [View.writes_nil, read_unread_whole]; exact prev_rd m c t hp r 11 3 e h (by decide) (by decide) _ _ _
  · refine ld_rd _ _ (k := 12) (o := 384) (by decide) (by decide) _ _ _ _ r e _ (fun h => ?_) (fun h => ?_)
    · exact (q_blk3 m c t ⟨12 + r.val, h⟩ e).trans (congrArg (fun n => q (CT m c) (WW m c) (SS m c) n 3 e) (by show (15 - t.val) * 512 + (12 + r.val) = (15 - t.val) * 512 + r.val + 12; omega))
    · rw [rd_high _ _ _ _ _ _ h]; rw [rd_high _ _ _ _ _ _ h]; rw [rd_high _ _ _ _ _ _ h]; rw [View.writes_nil, read_unread_whole]; exact prev_rd m c t hp r 12 3 e h (by decide) (by decide) _ _ _
  · refine ld_rd _ _ (k := 13) (o := 384) (by decide) (by decide) _ _ _ _ r e _ (fun h => ?_) (fun h => ?_)
    · exact (q_blk3 m c t ⟨13 + r.val, h⟩ e).trans (congrArg (fun n => q (CT m c) (WW m c) (SS m c) n 3 e) (by show (15 - t.val) * 512 + (13 + r.val) = (15 - t.val) * 512 + r.val + 13; omega))
    · rw [rd_high _ _ _ _ _ _ h]; rw [rd_high _ _ _ _ _ _ h]; rw [rd_high _ _ _ _ _ _ h]; rw [View.writes_nil, read_unread_whole]; exact prev_rd m c t hp r 13 3 e h (by decide) (by decide) _ _ _
  · refine ld_rd _ _ (k := 14) (o := 384) (by decide) (by decide) _ _ _ _ r e _ (fun h => ?_) (fun h => ?_)
    · exact (q_blk3 m c t ⟨14 + r.val, h⟩ e).trans (congrArg (fun n => q (CT m c) (WW m c) (SS m c) n 3 e) (by show (15 - t.val) * 512 + (14 + r.val) = (15 - t.val) * 512 + r.val + 14; omega))
    · rw [rd_high _ _ _ _ _ _ h]; rw [rd_high _ _ _ _ _ _ h]; rw [rd_high _ _ _ _ _ _ h]; rw [View.writes_nil, read_unread_whole]; exact prev_rd m c t hp r 14 3 e h (by decide) (by decide) _ _ _
  · refine ld_rd _ _ (k := 15) (o := 384) (by decide) (by decide) _ _ _ _ r e _ (fun h => ?_) (fun h => ?_)
    · exact (q_blk3 m c t ⟨15 + r.val, h⟩ e).trans (congrArg (fun n => q (CT m c) (WW m c) (SS m c) n 3 e) (by show (15 - t.val) * 512 + (15 + r.val) = (15 - t.val) * 512 + r.val + 15; omega))
    · rw [rd_high _ _ _ _ _ _ h]; rw [rd_high _ _ _ _ _ _ h]; rw [rd_high _ _ _ _ _ _ h]; rw [View.writes_nil, read_unread_whole]; exact prev_rd m c t hp r 15 3 e h (by decide) (by decide) _ _ _
  · exact dd_blk3 m c t r e

end Cert.KernelIdeal.PoolBwd

end

end
-- ==== Proof.PoolArr.lean ====
/- The arrays the launch leaves. -/
module

public import proofs.«01_k».proof.Proof.PoolDx

@[expose] public section

set_option maxRecDepth 16384

noncomputable section

open Idealize.ShloMosaic Idealize.ShloMosaic.TcCoe Idealize.SL.Sem
open Idealize.ShloMosaic.Pipeline (Dat)

namespace Cert.KernelIdeal.PoolBwd
open Cert.KernelIdeal Cert.KernelIdeal.Gen Cert.PoolSpec
variable (m : (ℓ : Loc nD τ sig) → Buf (Elt Ideal) ℓ)

theorem carry (c : Dev nD) (t : Fin cfg0.N) (i : Fin 16) (g : Fin 4) (e : Fin 128) (hi : 512 + i.val < 528) :
    (outsAt0 m c t.val t.isLt).2.2.2 (ix2 ⟨512 + i.val, hi⟩ (col g e)) = q (CT m c) (WW m c) (SS m c) ((15 - t.val) * 512 + i.val) g e := by
  have ht := (idx t).2.2.2.2.2.2.2.2
  by_cases h : t.val = 0
  · have h0 : t.val % 16 = 0 := by omega
    have h1 : ¬1 ≤ t.val := by omega
    exact carry_A m c t h0 h0 h1 h0 h1 h0 h1 h0 h1 h0 h1 i g e hi
  · have h0 : ¬t.val % 16 = 0 := by omega
    have h1 : 1 ≤ t.val := by omega
    exact carry_B m c t h0 h0 h1 h0 h1 h0 h1 h0 h1 h0 h1 i g e hi

theorem prev (c : Dev nD) (t : Fin cfg0.N) (h1 : 1 ≤ t.val) : Prev m c t := fun h i g e hi => by
  have ht := (idx t).2.2.2.2.2.2.2.2
  have hq : (15 - t.val) * 512 + 512 + i.val = (15 - (t.val - 1)) * 512 + i.val := by omega
  rw [hq]; exact carry m c ⟨t.val - 1, h⟩ i g e hi

theorem dx_at (c : Dev nD) (t : Fin cfg0.N) (r : Fin 512) (g : Fin 4) (e : Fin 128) :
    (outsAt0 m c t.val t.isLt).1 (ix2 r (col g e)) = dx (CT m c) (WW m c) (SS m c) (grow t r) g e := by
  have ht := (idx t).2.2.2.2.2.2.2.2
  by_cases h : t.val = 0
  · have h0 : t.val % 16 = 0 := by omega
    have h1 : ¬1 ≤ t.val := by omega
    match g with
    | ⟨0, _⟩ => exact dx_A0 m c t h0 h0 h1 h0 h1 h0 h1 h0 h1 h0 h1 r e
    | ⟨1, _⟩ => exact dx_A1 m c t h0 h0 h1 h0 h1 h0 h1 h0 h1 h0 h1 r e
    | ⟨2, _⟩ => exact dx_A2 m c t h0 h0 h1 h0 h1 h0 h1 h0 h1 h0 h1 r e
    | ⟨3, _⟩ => exact dx_A3 m c t h0 h0 h1 h0 h1 h0 h1 h0 h1 h0 h1 r e
  · have h0 : ¬t.val % 16 = 0 := by omega
    have h1 : 1 ≤ t.val := by omega
    have hp := prev m c t h1
    match g with
    | ⟨0, _⟩ => exact dx_B0 m c t h0 h0 h1 h0 h1 h0 h1 h0 h1 h0 h1 hp r e
    | ⟨1, _⟩ => exact dx_B1 m c t h0 h0 h1 h0 h1 h0 h1 h0 h1 h0 h1 hp r e
    | ⟨2, _⟩ => exact dx_B2 m c t h0 h0 h1 h0 h1 h0 h1 h0 h1 h0 h1 hp r e
    | ⟨3, _⟩ => exact dx_B3 m c t h0 h0 h1 h0 h1 h0 h1 h0 h1 h0 h1 hp r e

/-- The input gradient as an array. -/
def dxArr (c : Dev nD) : S8192x512.Idx → EReal := fun j =>
  dx (CT m c) (WW m c) (SS m c) (j 0) ⟨(j 1).val / 128, by have := (j 1).isLt; show _ < 4; have h : (j 1).val < 512 := this; omega⟩ ⟨(j 1).val % 128, by omega⟩

theorem dxArr_col (c : Dev nD) (r : Fin 8192) (g : Fin 4) (e : Fin 128) :
    dxArr m c (ix2 r (col g e)) = dx (CT m c) (WW m c) (SS m c) r g e := by
  have hg : (⟨(col g e).val / 128, by have := (col g e).isLt; omega⟩ : Fin 4) = g := Fin.ext (by simp only [col]; omega)
  have he : (⟨(col g e).val % 128, by omega⟩ : Fin 128) = e := Fin.ext (by simp only [col]; omega)
  show dx _ _ _ r ⟨(col g e).val / 128, _⟩ ⟨(col g e).val % 128, _⟩ = _
  rw [hg, he]

theorem arr4 (c : Dev nD) : (dats m 0 c).arrAt 4 cfg0.N = dxArr m c := by
  refine (dats m 0 c).arrAt_eq_of_covers 4 _ (by decide +kernel) fun t hf y => ?_
  blk_simp
  rw [after0_4]
  idx_vars y
  obtain ⟨g, e, rfl⟩ := exists_col y1
  have he : ((View.whole main_v72_0).slice (win0_4.rect t)).emb (ix2 y0 (col g e)) = ix2 (grow t y0) (col g e) := by
    funext a
    match a with
    | ⟨0, _⟩ => exact Fin.ext (by show win0_4.index t 0 * 512 + 1 * y0.val = (15 - t.val) * 512 + y0.val; rw [(idx t).2.2.2.2.1]; show (15 - t.val) * 512 + 1 * y0.val = _; omega)
    | ⟨1, _⟩ => exact Fin.ext (by show win0_4.index t 1 * 512 + 1 * (col g e).val = (col g e).val; rw [(idx t).2.2.2.2.1]; show 0 * 512 + 1 * (col g e).val = _; omega)
  rw [he, dxArr_col]
  exact dx_at m c t y0 g e

end Cert.KernelIdeal.PoolBwd

end

end
-- ==== Proof.PoolAcc.lean ====
/- The gradients of the weights and of the scales at a grid point: what came before plus the sum over the rows of the tile. -/
module

public import proofs.«01_k».proof.Proof.PoolArr

@[expose] public section

set_option maxRecDepth 16384

noncomputable section

open Idealize.ShloMosaic Idealize.ShloMosaic.TcCoe Idealize.SL.Sem
open Idealize.ShloMosaic.Pipeline (Dat)

namespace Cert.KernelIdeal.PoolBwd
open Cert.KernelIdeal Cert.KernelIdeal.Gen Cert.PoolSpec
variable (m : (ℓ : Loc nD τ sig) → Buf (Elt Ideal) ℓ)

/-- The differences as the launch reads them. -/
abbrev DP (c : Dev nD) : S8192x512.Idx → EReal := V m c main_v70

/-- Row `R`'s term of the gradient of the weights. -/
def wT (c : Dev nD) (g : Fin 4) (a b : Fin 128) (R : Fin 8192) : EReal :=
  DP m c (ix2 R (col g a)) * (CT m c (ix3 0 R (col g b)) * SS m c (ix1 (col g b)))

/-- Row `R`'s term of the gradient of the scales. -/
def sT (c : Dev nD) (g : Fin 4) (e : Fin 128) (R : Fin 8192) : EReal :=
  CT m c (ix3 0 R (col g e)) * ∑ k : Fin 128, DP m c (ix2 R (col g k)) * WW m c (ix3 g k e)

theorem ck_hit (h : ℕ) (inb : ∀ a, (![h, 0, 0] : Fin 3 → ℕ) a + (![1, 128, 128] : Fin 3 → ℕ) a ≤ S4x128x128.size a) (P : S1x128x128.Idx → EReal)
    (L : List (View.Piece (Elt Ideal) S4x128x128 .f32)) (g : Fin 4) (a b : Fin 128) (hg : g.val = h) :
    View.canon (⟨Rect.unit (s := S4x128x128) ![h, 0, 0] ![1, 128, 128] inb, P⟩ :: L) (ix3 g a b) = P (ix3 0 a b) := by
  have hx : (ix3 g a b : S4x128x128.Idx) = (Rect.unit (s := S4x128x128) ![h, 0, 0] ![1, 128, 128] inb).emb (ix3 0 a b) := by
    funext i
    match i with
    | ⟨0, _⟩ => exact Fin.ext (by show g.val = h + 1 * 0; omega)
    | ⟨1, _⟩ => exact Fin.ext (by show a.val = 0 + 1 * a.val; omega)
    | ⟨2, _⟩ => exact Fin.ext (by show b.val = 0 + 1 * b.val; omega)
  rw [hx, View.canon_cons_emb]

theorem ck_miss (h : ℕ) (inb : ∀ a, (![h, 0, 0] : Fin 3 → ℕ) a + (![1, 128, 128] : Fin 3 → ℕ) a ≤ S4x128x128.size a) (P : S1x128x128.Idx → EReal)
    (L : List (View.Piece (Elt Ideal) S4x128x128 .f32)) (g : Fin 4) (a b : Fin 128) (hg : g.val < h) :
    View.canon (⟨Rect.unit (s := S4x128x128) ![h, 0, 0] ![1, 128, 128] inb, P⟩ :: L) (ix3 g a b) = View.canon L (ix3 g a b) :=
  View.canon_cons_of_not_mem _ _ fun hm => by
    have h1 := (Rect.mem_set_unit (inb := inb)).mp hm (0 : Fin 3)
    have h2 : h ≤ g.val ∧ g.val < h + 1 := h1
    omega

theorem s_cat (s0 s1 s2 s3 : S1x128.Idx → EReal) (g : Fin 4) (e : Fin 128) :
    k0_pay2 (F := Ideal) s0 s1 s2 s3 (ix2 0 (col g e)) = (![s0, s1, s2, s3] : Fin 4 → S1x128.Idx → EReal) g (ix2 0 e) := by
  match g with
  | ⟨0, _⟩ =>
    have h : (col 0 e).val = 0 + e.val := rfl
    pointwise [k0_pay2]
    rw [dif_pos (by omega)]
    exact congrArg (fun k => s0 (ix2 0 k)) (Fin.ext (by show (col 0 e).val = e.val; omega))
  | ⟨1, _⟩ =>
    have h : (col 1 e).val = 128 + e.val := rfl
    pointwise [k0_pay2]
    rw [dif_neg (by omega), dif_pos (by omega)]
    exact congrArg (fun k => s1 (ix2 0 k)) (Fin.ext (by show (col 1 e).val - 128 = e.val; omega))
  | ⟨2, _⟩ =>
    have h : (col 2 e).val = 256 + e.val := rfl
    pointwise [k0_pay2]
    rw [dif_neg (by omega), dif_neg (by omega), dif_pos (by omega)]
    exact congrArg (fun k => s2 (ix2 0 k)) (Fin.ext (by show (col 2 e).val - 128 - 128 = e.val; omega))
  | ⟨3, _⟩ =>
    have h : (col 3 e).val = 384 + e.val := rfl
    pointwise [k0_pay2]
    rw [dif_neg (by omega), dif_neg (by omega), dif_neg (by omega)]
    exact congrArg (fun k => s3 (ix2 0 k)) (Fin.ext (by show (col 3 e).val - 128 - 128 - 128 = e.val; omega))

theorem s_cat3 (s0 s1 s2 s3 : S1x128.Idx → EReal) (x : Vec Ideal S1x512 .f32) (g : Fin 4) (e : Fin 128) :
    k0_pay3 s0 s1 s2 s3 x (ix2 0 (col g e)) = x (ix2 0 (col g e)) + (![s0, s1, s2, s3] : Fin 4 → S1x128.Idx → EReal) g (ix2 0 e) := by
  rw [← s_cat]
  pointwise [k0_pay3]

theorem w_blk0 (c : Dev nD) (t : Fin cfg0.N) (a b : Fin 128) :
    wL (View.ld (iblk m c 0 t) (Rect.unit ![0, 0] ![512, 128] inb_S512x512_S512x128_0_0)) (View.ld (iblk m c 1 t) (Rect.unit ![0, 0] ![512, 128] inb_S512x512_S512x128_0_0)) (View.ld (iblk m c 3 t) (Rect.unit ![0, 0] ![1, 128] inb_S1x512_S1x128_0_0)) (ix3 0 a b) = ∑ r : Fin 512, wT m c 0 a b (grow t r) := by
  unfold wL wT
  refine Finset.sum_congr rfl fun k _ => ?_
  pointwise
  rw [blk0, blk1, blk3]
  have hc : ∀ k : Fin 128, (⟨k.val, by omega⟩ : Fin 512) = col 0 k := fun k => Fin.ext (by simp [col])
  simp only [hc]

theorem s_blk0 (c : Dev nD) (t : Fin cfg0.N) (e : Fin 128) :
    sL (View.ld (iblk m c 2 t) (Rect.unit ![0, 0, 0] ![1, 128, 128] inb_S4x128x128_S1x128x128_0_0_0)) (View.ld (iblk m c 0 t) (Rect.unit ![0, 0] ![512, 128] inb_S512x512_S512x128_0_0)) (View.ld (iblk m c 1 t) (Rect.unit ![0, 0] ![512, 128] inb_S512x512_S512x128_0_0)) (ix2 0 e) = ∑ r : Fin 512, sT m c 0 e (grow t r) := by
  unfold sL sT
  refine Finset.sum_congr rfl fun k _ => ?_
  pointwise
  simp only [blk0, blk1, blk2]
  have hc : ∀ k : Fin 128, (⟨k.val, by omega⟩ : Fin 512) = col 0 k := fun k => Fin.ext (by simp [col])
  simp only [hc]

theorem w_blk1 (c : Dev nD) (t : Fin cfg0.N) (a b : Fin 128) :
    wL (View.ld (iblk m c 0 t) (Rect.unit ![0, 128] ![512, 128] inb_S512x512_S512x128_0_128)) (View.ld (iblk m c 1 t) (Rect.unit ![0, 128] ![512, 128] inb_S512x512_S512x128_0_128)) (View.ld (iblk m c 3 t) (Rect.unit ![0, 128] ![1, 128] inb_S1x512_S1x128_0_128)) (ix3 0 a b) = ∑ r : Fin 512, wT m c 1 a b (grow t r) := by
  unfold wL wT
  refine Finset.sum_congr rfl fun k _ => ?_
  pointwise
  rw [blk0, blk1, blk3]
  rfl

theorem s_blk1 (c : Dev nD) (t : Fin cfg0.N) (e : Fin 128) :
    sL (View.ld (iblk m c 2 t) (Rect.unit ![1, 0, 0] ![1, 128, 128] inb_S4x128x128_S1x128x128_1_0_0)) (View.ld (iblk m c 0 t) (Rect.unit ![0, 128] ![512, 128] inb_S512x512_S512x128_0_128)) (View.ld (iblk m c 1 t) (Rect.unit ![0, 128] ![512, 128] inb_S512x512_S512x128_0_128)) (ix2 0 e) = ∑ r : Fin 512, sT m c 1 e (grow t r) := by
  unfold sL sT
  refine Finset.sum_congr rfl fun k _ => ?_
  pointwise
  simp only [blk0, blk1, blk2]
  rfl

theorem w_blk2 (c : Dev nD) (t : Fin cfg0.N) (a b : Fin 128) :
    wL (View.ld (iblk m c 0 t) (Rect.unit ![0, 256] ![512, 128] inb_S512x512_S512x128_0_256)) (View.ld (iblk m c 1 t) (Rect.unit ![0, 256] ![512, 128] inb_S512x512_S512x128_0_256)) (View.ld (iblk m c 3 t) (Rect.unit ![0, 256] ![1, 128] inb_S1x512_S1x128_0_256)) (ix3 0 a b) = ∑ r : Fin 512, wT m c 2 a b (grow t r) := by
  unfold wL wT
  refine Finset.sum_congr rfl fun k _ => ?_
  pointwise
  rw [blk0, blk1, blk3]
  rfl

theorem s_blk2 (c : Dev nD) (t : Fin cfg0.N) (e : Fin 128) :
    sL (View.ld (iblk m c 2 t) (Rect.unit ![2, 0, 0] ![1, 128, 128] inb_S4x128x128_S1x128x128_2_0_0)) (View.ld (iblk m c 0 t) (Rect.unit ![0, 256] ![512, 128] inb_S512x512_S512x128_0_256)) (View.ld (iblk m c 1 t) (Rect.unit ![0, 256] ![512, 128] inb_S512x512_S512x128_0_256)) (ix2 0 e) = ∑ r : Fin 512, sT m c 2 e (grow t r) := by
  unfold sL sT
  refine Finset.sum_congr rfl fun k _ => ?_
  pointwise
  simp only [blk0, blk1, blk2]
  rfl

theorem w_blk3 (c : Dev nD) (t : Fin cfg0.N) (a b : Fin 128) :
    wL (View.ld (iblk m c 0 t) (Rect.unit ![0, 384] ![512, 128] inb_S512x512_S512x128_0_384)) (View.ld (iblk m c 1 t) (Rect.unit ![0, 384] ![512, 128] inb_S512x512_S512x128_0_384)) (View.ld (iblk m c 3 t) (Rect.unit ![0, 384] ![1, 128] inb_S1x512_S1x128_0_384)) (ix3 0 a b) = ∑ r : Fin 512, wT m c 3 a b (grow t r) := by
  unfold wL wT
  refine Finset.sum_congr rfl fun k _ => ?_
  pointwise
  rw [blk0, blk1, blk3]
  rfl

theorem s_blk3 (c : Dev nD) (t : Fin cfg0.N) (e : Fin 128) :
    sL (View.ld (iblk m c 2 t) (Rect.unit ![3, 0, 0] ![1, 128, 128] inb_S4x128x128_S1x128x128_3_0_0)) (View.ld (iblk m c 0 t) (Rect.unit ![0, 384] ![512, 128] inb_S512x512_S512x128_0_384)) (View.ld (iblk m c 1 t) (Rect.unit ![0, 384] ![512, 128] inb_S512x512_S512x128_0_384)) (ix2 0 e) = ∑ r : Fin 512, sT m c 3 e (grow t r) := by
  unfold sL sT
  refine Finset.sum_congr rfl fun k _ => ?_
  pointwise
  simp only [blk0, blk1, blk2]
  rfl

theorem w_A0 (c : Dev nD) (t : Fin cfg0.N) (h0 : t.val % 16 = 0) (h1 : ¬1 ≤ t.val) (a b : Fin 128) :
    (outsAt0 m c t.val t.isLt).2.1 (ix3 0 a b) = 0 + ∑ r : Fin 512, wT m c 0 a b (grow t r) := by
  rw [outsAt0_A m c t h0 h0 h1 h0 h1 h0 h1 h0 h1 h0 h1]
  frame_open
  simp (disch := decide) only [↓ View.readCov_skip, ↓ View.readCov_cons_toLoadRect, ↓ View.readCov_fill]
  frame_out
  rw [ck_miss 3 _ _ _ 0 a b (by decide)]
  rw [ck_miss 2 _ _ _ 0 a b (by decide)]
  rw [ck_miss 1 _ _ _ 0 a b (by decide)]
  rw [ck_hit 0 _ _ _ 0 a b (by decide), wa_pay0]
  rw [zero_add]; exact w_blk0 m c t a b

theorem w_A1 (c : Dev nD) (t : Fin cfg0.N) (h0 : t.val % 16 = 0) (h1 : ¬1 ≤ t.val) (a b : Fin 128) :
    (outsAt0 m c t.val t.isLt).2.1 (ix3 1 a b) = 0 + ∑ r : Fin 512, wT m c 1 a b (grow t r) := by
  rw [outsAt0_A m c t h0 h0 h1 h0 h1 h0 h1 h0 h1 h0 h1]
  frame_open
  simp (disch := decide) only [↓ View.readCov_skip, ↓ View.readCov_cons_toLoadRect, ↓ View.readCov_fill]
  frame_out
  rw [ck_miss 3 _ _ _ 1 a b (by decide)]
  rw [ck_miss 2 _ _ _ 1 a b (by decide)]
  rw [ck_hit 1 _ _ _ 1 a b (by decide), wa_pay1]
  rw [zero_add]; exact w_blk1 m c t a b

theorem w_A2 (c : Dev nD) (t : Fin cfg0.N) (h0 : t.val % 16 = 0) (h1 : ¬1 ≤ t.val) (a b : Fin 128) :
    (outsAt0 m c t.val t.isLt).2.1 (ix3 2 a b) = 0 + ∑ r : Fin 512, wT m c 2 a b (grow t r) := by
  rw [outsAt0_A m c t h0 h0 h1 h0 h1 h0 h1 h0 h1 h0 h1]
  frame_open
  simp (disch := decide) only [↓ View.readCov_skip, ↓ View.readCov_cons_toLoadRect, ↓ View.readCov_fill]
  frame_out
  rw [ck_miss 3 _ _ _ 2 a b (by decide)]
  rw [ck_hit 2 _ _ _ 2 a b (by decide), wa_pay2]
  rw [zero_add]; exact w_blk2 m c t a b

theorem w_A3 (c : Dev nD) (t : Fin cfg0.N) (h0 : t.val % 16 = 0) (h1 : ¬1 ≤ t.val) (a b : Fin 128) :
    (outsAt0 m c t.val t.isLt).2.1 (ix3 3 a b) = 0 + ∑ r : Fin 512, wT m c 3 a b (grow t r) := by
  rw [outsAt0_A m c t h0 h0 h1 h0 h1 h0 h1 h0 h1 h0 h1]
  frame_open
  simp (disch := decide) only [↓ View.readCov_skip, ↓ View.readCov_cons_toLoadRect, ↓ View.readCov_fill]
  frame_out
  rw [ck_hit 3 _ _ _ 3 a b (by decide), wa_pay3]
  rw [zero_add]; exact w_blk3 m c t a b

theorem w_B0 (c : Dev nD) (t : Fin cfg0.N) (h0 : ¬t.val % 16 = 0) (h1 : 1 ≤ t.val) (a b : Fin 128) :
    (outsAt0 m c t.val t.isLt).2.1 (ix3 0 a b) = (outsAt0 m c (t.val - 1) (Nat.lt_of_le_of_lt (Nat.sub_le _ _) t.isLt)).2.1 (ix3 0 a b) + ∑ r : Fin 512, wT m c 0 a b (grow t r) := by
  rw [outsAt0_B m c t h0 h0 h1 h0 h1 h0 h1 h0 h1 h0 h1]
  frame_open
  simp (disch := decide) only [↓ View.readCov_skip, ↓ View.readCov_cons_toLoadRect, ↓ View.readCov_fill]
  frame_out
  rw [ck_miss 3 _ _ _ 0 a b (by decide)]
  rw [ck_miss 2 _ _ _ 0 a b (by decide)]
  rw [ck_miss 1 _ _ _ 0 a b (by decide)]
  rw [ck_hit 0 _ _ _ 0 a b (by decide), wb_pay0]
  refine congrArg₂ (· + ·) ?_ (w_blk0 m c t a b)
  pointwise

theorem w_B1 (c : Dev nD) (t : Fin cfg0.N) (h0 : ¬t.val % 16 = 0) (h1 : 1 ≤ t.val) (a b : Fin 128) :
    (outsAt0 m c t.val t.isLt).2.1 (ix3 1 a b) = (outsAt0 m c (t.val - 1) (Nat.lt_of_le_of_lt (Nat.sub_le _ _) t.isLt)).2.1 (ix3 1 a b) + ∑ r : Fin 512, wT m c 1 a b (grow t r) := by
  rw [outsAt0_B m c t h0 h0 h1 h0 h1 h0 h1 h0 h1 h0 h1]
  frame_open
  simp (disch := decide) only [↓ View.readCov_skip, ↓ View.readCov_cons_toLoadRect, ↓ View.readCov_fill]
  frame_out
  rw [ck_miss 3 _ _ _ 1 a b (by decide)]
  rw [ck_miss 2 _ _ _ 1 a b (by decide)]
  rw [ck_hit 1 _ _ _ 1 a b (by decide), wb_pay1]
  refine congrArg₂ (· + ·) ?_ (w_blk1 m c t a b)
  pointwise

theorem w_B2 (c : Dev nD) (t : Fin cfg0.N) (h0 : ¬t.val % 16 = 0) (h1 : 1 ≤ t.val) (a b : Fin 128) :
    (outsAt0 m c t.val t.isLt).2.1 (ix3 2 a b) = (outsAt0 m c (t.val - 1) (Nat.lt_of_le_of_lt (Nat.sub_le _ _) t.isLt)).2.1 (ix3 2 a b) + ∑ r : Fin 512, wT m c 2 a b (grow t r) := by
  rw [outsAt0_B m c t h0 h0 h1 h0 h1 h0 h1 h0 h1 h0 h1]
  frame_open
  simp (disch := decide) only [↓ View.readCov_skip, ↓ View.readCov_cons_toLoadRect, ↓ View.readCov_fill]
  frame_out
  rw [ck_miss 3 _ _ _ 2 a b (by decide)]
  rw [ck_hit 2 _ _ _ 2 a b (by decide), wb_pay2]
  refine congrArg₂ (· + ·) ?_ (w_blk2 m c t a b)
  pointwise

theorem w_B3 (c : Dev nD) (t : Fin cfg0.N) (h0 : ¬t.val % 16 = 0) (h1 : 1 ≤ t.val) (a b : Fin 128) :
    (outsAt0 m c t.val t.isLt).2.1 (ix3 3 a b) = (outsAt0 m c (t.val - 1) (Nat.lt_of_le_of_lt (Nat.sub_le _ _) t.isLt)).2.1 (ix3 3 a b) + ∑ r : Fin 512, wT m c 3 a b (grow t r) := by
  rw [outsAt0_B m c t h0 h0 h1 h0 h1 h0 h1 h0 h1 h0 h1]
  frame_open
  simp (disch := decide) only [↓ View.readCov_skip, ↓ View.readCov_cons_toLoadRect, ↓ View.readCov_fill]
  frame_out
  rw [ck_hit 3 _ _ _ 3 a b (by decide), wb_pay3]
  refine congrArg₂ (· + ·) ?_ (w_blk3 m c t a b)
  pointwise

theorem s_A (c : Dev nD) (t : Fin cfg0.N) (h0 : t.val % 16 = 0) (h1 : ¬1 ≤ t.val) (g : Fin 4) (e : Fin 128) :
    (outsAt0 m c t.val t.isLt).2.2.1 (ix2 0 (col g e)) = 0 + ∑ r : Fin 512, sT m c g e (grow t r) := by
  rw [outsAt0_A m c t h0 h0 h1 h0 h1 h0 h1 h0 h1 h0 h1]
  frame_open
  simp (disch := decide) only [↓ View.readCov_skip, ↓ View.readCov_cons_toLoadRect, ↓ View.readCov_fill]
  frame_out
  simp only [s_pay0, s_pay1, s_pay2, s_pay3]
  rw [s_cat]
  match g with
  | ⟨0, _⟩ => exact (s_blk0 m c t e).trans (zero_add _).symm
  | ⟨1, _⟩ => exact (s_blk1 m c t e).trans (zero_add _).symm
  | ⟨2, _⟩ => exact (s_blk2 m c t e).trans (zero_add _).symm
  | ⟨3, _⟩ => exact (s_blk3 m c t e).trans (zero_add _).symm

theorem s_B (c : Dev nD) (t : Fin cfg0.N) (h0 : ¬t.val % 16 = 0) (h1 : 1 ≤ t.val) (g : Fin 4) (e : Fin 128) :
    (outsAt0 m c t.val t.isLt).2.2.1 (ix2 0 (col g e)) = (outsAt0 m c (t.val - 1) (Nat.lt_of_le_of_lt (Nat.sub_le _ _) t.isLt)).2.2.1 (ix2 0 (col g e)) + ∑ r : Fin 512, sT m c g e (grow t r) := by
  rw [outsAt0_B m c t h0 h0 h1 h0 h1 h0 h1 h0 h1 h0 h1]
  frame_open
  simp (disch := decide) only [↓ View.readCov_skip, ↓ View.readCov_cons_toLoadRect, ↓ View.readCov_fill]
  frame_out
  simp only [s_pay0, s_pay1, s_pay2, s_pay3]
  rw [s_cat3]
  match g with
  | ⟨0, _⟩ => exact congrArg₂ (· + ·) rfl (s_blk0 m c t e)
  | ⟨1, _⟩ => exact congrArg₂ (· + ·) rfl (s_blk1 m c t e)
  | ⟨2, _⟩ => exact congrArg₂ (· + ·) rfl (s_blk2 m c t e)
  | ⟨3, _⟩ => exact congrArg₂ (· + ·) rfl (s_blk3 m c t e)

theorem sum_rows (f : Fin 8192 → EReal) : ∑ t : Fin cfg0.N, ∑ r : Fin 512, f (grow t r) = ∑ R : Fin 8192, f R := by
  rw [← Fintype.sum_prod_type' (fun (t : Fin cfg0.N) (r : Fin 512) => f (grow t r))]
  refine Fintype.sum_bijective (fun p : Fin cfg0.N × Fin 512 => grow p.1 p.2) ⟨fun p p' h => ?_, fun R => ?_⟩ _ _ fun _ => rfl
  · have h1 := (idx p.1).2.2.2.2.2.2.2.2
    have h2 := (idx p'.1).2.2.2.2.2.2.2.2
    have h3 : (15 - p.1.val) * 512 + p.2.val = (15 - p'.1.val) * 512 + p'.2.val := congrArg Fin.val h
    exact Prod.ext (Fin.ext (by omega)) (Fin.ext (by omega))
  · have hN : 15 - R.val / 512 < cfg0.N := by show 15 - R.val / 512 < 16; omega
    exact ⟨(⟨15 - R.val / 512, hN⟩, ⟨R.val % 512, by omega⟩), Fin.ext (by show (15 - (15 - R.val / 512)) * 512 + R.val % 512 = R.val; omega)⟩

/-- The gradient of the weights as an array. -/
def dwArr (c : Dev nD) : S4x128x128.Idx → EReal := fun j => ∑ R : Fin 8192, wT m c (j 0) (j 1) (j 2) R

theorem arr5 (c : Dev nD) : (dats m 0 c).arrAt 5 cfg0.N = dwArr m c := by
  have hrun := Pipeline.eq_sum_fin_of_reset_step_apply_last (fun n h (i : Fin 4 × Fin 128 × Fin 128) => (outsAt0 m c n h).2.1 (ix3 i.1 i.2.1 i.2.2)) 16
    (fun _ => (0 : EReal)) (fun t i => ∑ r : Fin 512, wT m c i.1 i.2.1 i.2.2 (grow t r))
    (fun t h0 i => by
      have ht := (idx t).2.2.2.2.2.2.2.2
      have h1 : ¬1 ≤ t.val := by omega
      match i with
      | (⟨0, _⟩, a, b) => exact w_A0 m c t h0 h1 a b
      | (⟨1, _⟩, a, b) => exact w_A1 m c t h0 h1 a b
      | (⟨2, _⟩, a, b) => exact w_A2 m c t h0 h1 a b
      | (⟨3, _⟩, a, b) => exact w_A3 m c t h0 h1 a b)
    (fun t h0 i => by
      have h1 : 1 ≤ t.val := by omega
      match i with
      | (⟨0, _⟩, a, b) => exact w_B0 m c t h0 h1 a b
      | (⟨1, _⟩, a, b) => exact w_B1 m c t h0 h1 a b
      | (⟨2, _⟩, a, b) => exact w_B2 m c t h0 h1 a b
      | (⟨3, _⟩, a, b) => exact w_B3 m c t h0 h1 a b)
    (by decide) t0_15 rfl
  refine (dats m 0 c).arrAt_eq_of_after_last 5 t0_15 (by decide +kernel) _ fun j => ?_
  blk_simp
  rw [after0_5]
  idx_vars j
  have h := hrun (j0, j1, j2)
  rw [zero_add, sum_rows] at h
  exact h

/-- The gradient of the scales as an array. -/
def dsArr (c : Dev nD) : S1x512.Idx → EReal := fun j =>
  ∑ R : Fin 8192, sT m c ⟨(j 1).val / 128, by have := (j 1).isLt; show _ < 4; have h : (j 1).val < 512 := this; omega⟩ ⟨(j 1).val % 128, by omega⟩ R

theorem dsArr_col (c : Dev nD) (g : Fin 4) (e : Fin 128) : dsArr m c (ix2 0 (col g e)) = ∑ R : Fin 8192, sT m c g e R := by
  have hg : (⟨(col g e).val / 128, by have := (col g e).isLt; omega⟩ : Fin 4) = g := Fin.ext (by simp only [col]; omega)
  have he : (⟨(col g e).val % 128, by omega⟩ : Fin 128) = e := Fin.ext (by simp only [col]; omega)
  show ∑ R : Fin 8192, sT m c ⟨(col g e).val / 128, _⟩ ⟨(col g e).val % 128, _⟩ R = _
  rw [hg, he]

theorem arr6 (c : Dev nD) : (dats m 0 c).arrAt 6 cfg0.N = dsArr m c := by
  have hrun := Pipeline.eq_sum_fin_of_reset_step_apply_last (fun n h (i : Fin 4 × Fin 128) => (outsAt0 m c n h).2.2.1 (ix2 0 (col i.1 i.2))) 16
    (fun _ => (0 : EReal)) (fun t i => ∑ r : Fin 512, sT m c i.1 i.2 (grow t r))
    (fun t h0 i => by
      have ht := (idx t).2.2.2.2.2.2.2.2
      have h1 : ¬1 ≤ t.val := by omega
      exact s_A m c t h0 h1 i.1 i.2)
    (fun t h0 i => by
      have h1 : 1 ≤ t.val := by omega
      exact s_B m c t h0 h1 i.1 i.2)
    (by decide) t0_15 rfl
  refine (dats m 0 c).arrAt_eq_of_after_last 6 t0_15 (by decide +kernel) _ fun j => ?_
  blk_simp
  rw [after0_6]
  idx_vars j
  have h0 : j0 = 0 := Subsingleton.elim _ _
  subst h0
  obtain ⟨g, e, rfl⟩ := exists_col j1
  have h := hrun (g, e)
  rw [zero_add, sum_rows] at h
  exact h.trans (dsArr_col m c g e).symm

end Cert.KernelIdeal.PoolBwd

end

end
-- ==== Proof.PoolHost.lean ====
/- The differences that the host prepares for the launch are the ones of the reference. -/
module

public import proofs.«01_k».proof.Proof.PoolAcc
public import Idealize.ShloMosaic.Lib.StableHlo.RunClose
public import proofs.«01_k».proof.Proof.Gen.ReferenceIdeal.Read

@[expose] public section

set_option maxRecDepth 16384

noncomputable section

open Idealize.ShloMosaic Idealize.ShloMosaic.TcCoe Idealize.SL.Sem
open Idealize.ShloMosaic.Pipeline (Dat)

namespace Cert.KernelIdeal.PoolBwd
open Cert.KernelIdeal Cert.KernelIdeal.Gen Cert.PoolSpec
variable (m : (ℓ : Loc nD τ sig) → Buf (Elt Ideal) ℓ)
/-- The window's leading zero rows before the running sum. -/
def cat2 (a : (⟨S1x2x128, .f32⟩ : BufTy).Contents (Elt Ideal)) (b : (⟨S1x8190x128, .f32⟩ : BufTy).Contents (Elt Ideal)) : (⟨S1x8192x128, .f32⟩ : BufTy).Contents (Elt Ideal) :=
  concatenate S1x8192x128 1 [⟨S1x2x128, a⟩, ⟨S1x8190x128, b⟩] concatenates_S1x2x128_S1x8190x128_S1x8192x128_d1

/-- The window's leading zero rows before the running sum. -/
def cat4 (a : (⟨S1x4x128, .f32⟩ : BufTy).Contents (Elt Ideal)) (b : (⟨S1x8188x128, .f32⟩ : BufTy).Contents (Elt Ideal)) : (⟨S1x8192x128, .f32⟩ : BufTy).Contents (Elt Ideal) :=
  concatenate S1x8192x128 1 [⟨S1x4x128, a⟩, ⟨S1x8188x128, b⟩] concatenates_S1x4x128_S1x8188x128_S1x8192x128_d1

/-- The window's leading zero rows before the running sum. -/
def cat8 (a : (⟨S1x8x128, .f32⟩ : BufTy).Contents (Elt Ideal)) (b : (⟨S1x8184x128, .f32⟩ : BufTy).Contents (Elt Ideal)) : (⟨S1x8192x128, .f32⟩ : BufTy).Contents (Elt Ideal) :=
  concatenate S1x8192x128 1 [⟨S1x8x128, a⟩, ⟨S1x8184x128, b⟩] concatenates_S1x8x128_S1x8184x128_S1x8192x128_d1

/-- The window's leading zero rows before the running sum. -/
def cat16 (a : (⟨S1x16x128, .f32⟩ : BufTy).Contents (Elt Ideal)) (b : (⟨S1x8176x128, .f32⟩ : BufTy).Contents (Elt Ideal)) : (⟨S1x8192x128, .f32⟩ : BufTy).Contents (Elt Ideal) :=
  concatenate S1x8192x128 1 [⟨S1x16x128, a⟩, ⟨S1x8176x128, b⟩] concatenates_S1x16x128_S1x8176x128_S1x8192x128_d1

/-- The four groups' differences side by side. -/
def cat4g (a b c d : (⟨S1x8192x1x128, .f32⟩ : BufTy).Contents (Elt Ideal)) : (⟨S1x8192x4x128, .f32⟩ : BufTy).Contents (Elt Ideal) :=
  concatenate S1x8192x4x128 2 [⟨S1x8192x1x128, a⟩, ⟨S1x8192x1x128, b⟩, ⟨S1x8192x1x128, c⟩, ⟨S1x8192x1x128, d⟩] concatenates_S1x8192x1x128_S1x8192x1x128_S1x8192x1x128_S1x8192x1x128_S1x8192x4x128_d2

theorem V_v70 (c : Dev nD) : V m c main_v70 = (truncf (F := Ideal) .bf16 (φ := .f32) (shapeCast S8192x512 (Cert.ReferenceIdeal.Read.val_main_v70 (F := Ideal) (m ((c : Thread nD τ).loc main_arg0))) shapeCasts_S1x8192x4x128_S8192x512) bitsLt_bf16_f32 : (⟨S8192x512, .bf16⟩ : BufTy).Contents (Elt Ideal)) := by
  unfold V; simp only [hostOps0, hostOps0_1, List.flatten_cons, List.flatten_nil, List.cons_append, List.nil_append, List.append_nil]
  rw [show (fun (a : (⟨S1x2x128, .f32⟩ : BufTy).Contents (Elt Ideal)) (b : (⟨S1x8190x128, .f32⟩ : BufTy).Contents (Elt Ideal)) =>
    (concatenate S1x8192x128 1 [⟨S1x2x128, a⟩, ⟨S1x8190x128, b⟩] concatenates_S1x2x128_S1x8190x128_S1x8192x128_d1 : (⟨S1x8192x128, .f32⟩ : BufTy).Contents (Elt Ideal))) = cat2 from rfl]
  rw [show (fun (a : (⟨S1x4x128, .f32⟩ : BufTy).Contents (Elt Ideal)) (b : (⟨S1x8188x128, .f32⟩ : BufTy).Contents (Elt Ideal)) =>
    (concatenate S1x8192x128 1 [⟨S1x4x128, a⟩, ⟨S1x8188x128, b⟩] concatenates_S1x4x128_S1x8188x128_S1x8192x128_d1 : (⟨S1x8192x128, .f32⟩ : BufTy).Contents (Elt Ideal))) = cat4 from rfl]
  rw [show (fun (a : (⟨S1x8x128, .f32⟩ : BufTy).Contents (Elt Ideal)) (b : (⟨S1x8184x128, .f32⟩ : BufTy).Contents (Elt Ideal)) =>
    (concatenate S1x8192x128 1 [⟨S1x8x128, a⟩, ⟨S1x8184x128, b⟩] concatenates_S1x8x128_S1x8184x128_S1x8192x128_d1 : (⟨S1x8192x128, .f32⟩ : BufTy).Contents (Elt Ideal))) = cat8 from rfl]
  rw [show (fun (a : (⟨S1x16x128, .f32⟩ : BufTy).Contents (Elt Ideal)) (b : (⟨S1x8176x128, .f32⟩ : BufTy).Contents (Elt Ideal)) =>
    (concatenate S1x8192x128 1 [⟨S1x16x128, a⟩, ⟨S1x8176x128, b⟩] concatenates_S1x16x128_S1x8176x128_S1x8192x128_d1 : (⟨S1x8192x128, .f32⟩ : BufTy).Contents (Elt Ideal))) = cat16 from rfl]
  rw [show (fun u : (k : Fin 4) → (![main_v62, main_v63, main_v64, main_v65] k : Ref sig .tc).ty.Contents (Elt Ideal) =>
    (concatenate S1x8192x4x128 2 [⟨S1x8192x1x128, (u 0 : (⟨S1x8192x1x128, .f32⟩ : BufTy).Contents (Elt Ideal))⟩, ⟨S1x8192x1x128, (u 1 : (⟨S1x8192x1x128, .f32⟩ : BufTy).Contents (Elt Ideal))⟩, ⟨S1x8192x1x128, (u 2 : (⟨S1x8192x1x128, .f32⟩ : BufTy).Contents (Elt Ideal))⟩, ⟨S1x8192x1x128, (u 3 : (⟨S1x8192x1x128, .f32⟩ : BufTy).Contents (Elt Ideal))⟩] concatenates_S1x8192x1x128_S1x8192x1x128_S1x8192x1x128_S1x8192x1x128_S1x8192x4x128_d2 : (⟨S1x8192x4x128, .f32⟩ : BufTy).Contents (Elt Ideal))) = (fun u => cat4g (u 0) (u 1) (u 2) (u 3)) from rfl]
  after_results_simp_entrywise
  dsimp only [Matrix.cons_val]
  after_results_simp_entrywise

  rfl
end Cert.KernelIdeal.PoolBwd

end

end
-- ==== Proof.PoolMeet.lean ====
/- The three results of the launch are the three results of the reference over finite weights, scales and cotangents. -/
module

public import proofs.«01_k».proof.Proof.PoolFin
public import proofs.«01_k».proof.Proof.PoolHost

@[expose] public section

set_option maxRecDepth 16384

noncomputable section

open Idealize.ShloMosaic Idealize.ShloMosaic.TcCoe Idealize.SL.Sem
open Idealize.ShloMosaic.Pipeline (Dat)

namespace Cert.PoolMeet
open Cert.KernelIdeal Cert.KernelIdeal.Gen Cert.KernelIdeal.PoolBwd Cert.PoolSpec Idealize.ShloMosaic.TcCoe
variable (m : (ℓ : Loc nD τ sig) → Buf (Elt Ideal) ℓ)
abbrev UU (c : Dev nD) : S1x8192x512.Idx → EReal := m ((c : Thread nD τ).loc main_arg0)

theorem dp_at (c : Dev nD) (r : Fin 8192) (g : Fin 4) (e : Fin 128) : DP m c (ix2 r (col g e)) = Cert.ReferenceIdeal.Read.val_main_v70 (F := Ideal) (UU m c) (ix4 0 r g e) := by
  have h1 : ∀ h, (⟨(col g e).val / 128, h⟩ : Fin 4) = g := fun h => Fin.ext (by show (128 * g.val + e.val) / 128 = g.val; omega)
  have h2 : ∀ h, (⟨(col g e).val % 128, h⟩ : Fin 128) = e := fun h => Fin.ext (by show (128 * g.val + e.val) % 128 = e.val; omega)
  unfold DP
  rw [V_v70]
  show shapeCast S8192x512 (Cert.ReferenceIdeal.Read.val_main_v70 (F := Ideal) (UU m c)) shapeCasts_S1x8192x4x128_S8192x512 (ix2 r (col g e)) = _
  pointwise
  rw [h1, h2]

theorem dw_eq (c : Dev nD) : dwArr m c = Cert.ReferenceIdeal.Read.val_main_v88 (F := Ideal) (UU m c) (SS m c) (CT m c) := by
  funext j
  obtain ⟨g, a, b, rfl⟩ : ∃ g a b, j = ix3 g a b := ⟨_, _, _, eq_ix3 j⟩
  rw [Cert.PoolRef.dw]
  refine Finset.sum_congr rfl fun R _ => ?_
  unfold wT
  rw [← dp_at]
  rfl
theorem ds_eq (c : Dev nD) : dsArr m c = Cert.ReferenceIdeal.Read.val_main_v147 (F := Ideal) (UU m c) (WW m c) (CT m c) := by
  funext j
  obtain ⟨z, q, rfl⟩ : ∃ z q, j = ix2 z q := ⟨_, _, eq_ix2 j⟩
  obtain ⟨g, e, rfl⟩ := exists_col q
  obtain rfl : z = 0 := Subsingleton.elim _ _
  refine (dsArr_col m c g e).trans (Eq.trans ?_ (Cert.PoolRef.ds (UU m c) (WW m c) (CT m c) g e).symm)
  refine Finset.sum_congr rfl fun R _ => ?_
  refine congrArg (CT m c (ix3 0 R (col g e)) * ·) (Finset.sum_congr rfl fun k _ => ?_)
  exact congrArg (· * WW m c (ix3 g k e)) (dp_at m c R g k)
theorem dx_eq (c : Dev nD) (hW : ∀ i, PoolRef.Real' (WW m c i)) (hs : ∀ i, PoolRef.Real' (SS m c i)) (hc : ∀ i, PoolRef.Real' (CT m c i)) :
    dxArr m c = Cert.ReferenceIdeal.Read.val_main_v146 (F := Ideal) (WW m c) (SS m c) (CT m c) := by
  funext j
  obtain ⟨r, q, rfl⟩ : ∃ r q, j = ix2 r q := ⟨_, _, eq_ix2 j⟩
  obtain ⟨g, e, rfl⟩ := exists_col q
  exact (dxArr_col m c r g e).trans (Cert.PoolRef.dx_at _ _ _ hW hs hc r g e).symm
end Cert.PoolMeet

end

end
-- ==== Proof.PoolClaim.lean ====
/- The claims of the pool mixer: over finite weights, scales and cotangents the launch returns what the reference returns. -/
module

public import proofs.«01_k».proof.Defs
public import proofs.«01_k».proof.Proof.Gen.Pre_finite
public import proofs.«01_k».proof.Proof.PoolMeet
public import Idealize.ShloMosaic.Lib.ReduceAll
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.PoolClaim
open Idealize.ShloMosaic Idealize.SL.Sem
section Finite
open Cert.Pre_finite Cert.Pre_finite.Facts

/-- The absolute value below infinity: the element is a real number. -/
theorem real_of_lt {x : EReal} (h : FloatOps.cmpf (F := Ideal) (φ := .f32) .olt (FloatOps.hostAbsf x) (FloatOps.ofBits .f32 0x7F800000#32) = 1#1) : PoolRef.Real' x := by
  refine PoolRef.real_of_abs ?_
  have ht : Ideal.ofBits .f32 0x7F800000#32 = ⊤ := by
    simp [Ideal.ofBits, Ideal.ieee]
  by_contra hn
  have h' : Ideal.cmp .olt (max x (-x)) (Ideal.ofBits .f32 0x7F800000#32) = 1#1 := h
  rw [ht] at h'
  unfold Ideal.cmp at h'
  simp [hn] at h'

/-- What the precondition says: the weights, the scales and the cotangent are real numbers. -/
theorem real_of_finite [Cert.Pre_finite.Facts] (u : FVec Ideal S1x8192x512 .f32) (w : FVec Ideal S4x128x128 .f32) (s : FVec Ideal S512 .f32) (ct : FVec Ideal S1x8192x512 .f32)
    (h : Cert.Pre_finite.fn (F := Ideal) u w s ct = fun _ => 1#1) : (∀ i, PoolRef.Real' (w i)) ∧ (∀ i, PoolRef.Real' (s i)) ∧ ∀ i, PoolRef.Real' (ct i) := by
  have hs : Subsingleton S_.Idx := ⟨fun a b => funext fun k => k.elim0⟩
  have e := congrFun h (fun k => k.elim0)
  obtain ⟨e1, e3⟩ := IntOp.andi_eq_one.1 e
  obtain ⟨e1, e2⟩ := IntOp.andi_eq_one.1 e1
  refine ⟨fun i => real_of_lt ?_, fun i => real_of_lt ?_, fun i => real_of_lt ?_⟩
  · exact Host.reduce_andi_all _ _ _ _ _ e1 i
  · exact Host.reduce_andi_all _ _ _ _ _ e2 i
  · exact Host.reduce_andi_all _ _ _ _ _ e3 i
end Finite

/-- The reference's run, its results named by the stages of its reading. -/
theorem runR (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v146) = Cert.ReferenceIdeal.Read.val_main_v146 (F := Ideal) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_v88) = Cert.ReferenceIdeal.Read.val_main_v88 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_v147) = Cert.ReferenceIdeal.Read.val_main_v147 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3) :=
  (θ_run Cert.ReferenceIdeal.defs _ _).mono (fun _ h c => ⟨(h c).1.trans (Cert.ReferenceIdeal.Read.val_main_v146_eq (StableHlo.launchContents m c)),
      (h c).2.1.trans (Cert.ReferenceIdeal.Read.val_main_v88_eq (StableHlo.launchContents m c)),
      (h c).2.2.1.trans (Cert.ReferenceIdeal.Read.val_main_v147_eq (StableHlo.launchContents m c)), (h c).2.2.2⟩)
    (Cert.ReferenceIdeal.Value.run (F := Ideal) m ρ)

/-- The launch and the reference, from memories that agree on the arguments. -/
theorem algebraic : Cert.algebraic_KernelIdeal_ReferenceIdeal_pre_finite (hKernelIdeal := Cert.KernelIdeal.Gen.facts) (hReferenceIdeal := Cert.ReferenceIdeal.Gen.facts) (hPre_finite := Cert.Pre_finite.Gen.facts) := by
  intro m g m' g' hpre hag
  refine ⟨fun c => (Cert.KernelIdeal.Gen.dats m 0 c).arrAt 4 Cert.KernelIdeal.cfg0.N, fun c => (Cert.KernelIdeal.Gen.dats m 0 c).arrAt 5 Cert.KernelIdeal.cfg0.N, fun c => (Cert.KernelIdeal.Gen.dats m 0 c).arrAt 6 Cert.KernelIdeal.cfg0.N,
    Cert.KernelIdeal.Value.run_blocks m g, (θ_run Cert.ReferenceIdeal.defs _ _).mono (fun r h c => ?_) (runR m' g')⟩
  obtain ⟨hW, hs, hc⟩ := real_of_finite _ _ _ _ (hpre c)
  obtain ⟨a0, a1, a2, a3⟩ := hag c
  obtain ⟨r0, r1, r2, rest⟩ := h c
  rw [a1, a2, a3] at r0
  rw [a0, a2, a3] at r1
  rw [a0, a1, a3] at r2
  exact ⟨r0.trans ((Cert.KernelIdeal.PoolBwd.arr4 m c).trans (Cert.PoolMeet.dx_eq m c hW hs hc)).symm,
    r1.trans ((Cert.KernelIdeal.PoolBwd.arr5 m c).trans (Cert.PoolMeet.dw_eq m c)).symm,
    r2.trans ((Cert.KernelIdeal.PoolBwd.arr6 m c).trans (Cert.PoolMeet.ds_eq m c)).symm, rest⟩

/-- The reference ends with its arguments unchanged and every counter at zero. -/
theorem frameR : Cert.quiescent_ReferenceIdeal (hReferenceIdeal := Cert.ReferenceIdeal.Gen.facts) := by
  intro m ρ _
  exact (θ_run Cert.ReferenceIdeal.defs _ _).mono (fun r h => ⟨fun c => (h c).2.2.2, sem_eq_zero_of_no_sems (by decide) r.2⟩) (Cert.ReferenceIdeal.Value.run (F := Ideal) m ρ)

end Cert.PoolClaim

end

end
-- ==== Proof.FfSpec.lean ====
/- The feed-forward sublayer and its gradient, row by row. -/
module

public import proofs.«01_k».proof.Proof.Gen.Kernel2Ideal.Value
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.WritesUnit
public import Idealize.ShloMosaic.Lib.StableHlo.RunClose

@[expose] public section

set_option maxRecDepth 16384

noncomputable section

open Idealize.ShloMosaic Idealize.ShloMosaic.TcCoe Idealize.SL.Sem
open Idealize.ShloMosaic.Pipeline (Dat)

namespace Cert.FfSpec

/-- The constant of a word of bits. -/
abbrev lit (b : BitVec 32) : EReal := Ideal.ofBits .f32 b

/-- The reciprocal root of a row's mean square. -/
def rinv (x : Fin 1024 → EReal) : EReal :=
  Ideal.rsqrt (Ideal.div (∑ k, x k * x k) (lit 0x44800000#32) + lit 0x358637BD#32)

/-- The normalised and scaled row. -/
def rms (x g : Fin 1024 → EReal) (k : Fin 1024) : EReal := x k * rinv x * g k

/-- The gradient of a normalised row in the row: what the launch computes. -/
def rmsB (x g dy : Fin 1024 → EReal) (k : Fin 1024) : EReal :=
  rinv x * (g k * dy k - x k * rinv x * Ideal.div (∑ i, g i * dy i * (x i * rinv x)) (lit 0x44800000#32))

/-- One element of a product with a matrix held transposed. -/
def dotT (x y : Fin 1024 → EReal) : EReal := ∑ k, x k * y k

/-- The gradient of the gate. -/
def gateB (da g u : EReal) : EReal :=
  da * u * (Ideal.logistic g * (lit 0x3F800000#32 + g * (lit 0x3F800000#32 - Ideal.logistic g)))

/-- The gradient of the other factor. -/
def upB (da g : EReal) : EReal := da * (g * Ideal.logistic g)

end Cert.FfSpec

end

end
-- ==== Proof.FbRow.lean ====
/- A row of the gradient of the feed-forward sublayer, as the launch computes it. -/
module

public import proofs.«01_k».proof.Proof.FfSpec

@[expose] public section

set_option maxRecDepth 16384

noncomputable section

open Idealize.ShloMosaic Idealize.ShloMosaic.TcCoe Idealize.SL.Sem
open Idealize.ShloMosaic.Pipeline (Dat)

namespace Cert.FfSpec
variable (ct h f gp gq : Fin 1024 → EReal) (WD WG WU : Fin 2048 → Fin 1024 → EReal) (g u : Fin 2048 → EReal)

/-- The gradient of the branch before its normalisation. -/
def dfR (k : Fin 1024) : EReal := rmsB f gq (fun i => lit 0x3F000000#32 * ct i) k

/-- The gradient of the gate. -/
def dgR (j : Fin 2048) : EReal := gateB (dotT (dfR ct f gq) (WD j)) (g j) (u j)

/-- The gradient of the other factor. -/
def duR (j : Fin 2048) : EReal := upB (dotT (dfR ct f gq) (WD j)) (g j)

/-- The gradient of the normalised row. -/
def dnR (k : Fin 1024) : EReal :=
  (∑ j, dgR ct f gq WD g u j * WG j k) + ∑ j, duR ct f gq WD g j * WU j k

/-- The gradient of the sublayer's input. -/
def dhR (k : Fin 1024) : EReal := ct k + rmsB h gp (dnR ct f gq WD WG WU g u) k

/-- The row's term of the gradient of the scale before the sublayer. -/
def dpR (k : Fin 1024) : EReal := dnR ct f gq WD WG WU g u k * (h k * rinv h)

/-- The row's term of the gradient of the scale after the sublayer. -/
def dqR (k : Fin 1024) : EReal := lit 0x3F000000#32 * ct k * (f k * rinv f)

end Cert.FfSpec

end

end
-- ==== Proof.FbReal.lean ====
/- The gradient of a normalised row and of the gated product at real numbers. -/
module

public import proofs.«01_k».proof.Proof.FbRow
public import proofs.«01_k».proof.Proof.PoolFin

@[expose] public section

set_option maxRecDepth 16384

noncomputable section

open Idealize.ShloMosaic Idealize.ShloMosaic.TcCoe Idealize.SL.Sem
open Idealize.ShloMosaic.Pipeline (Dat)

namespace Cert.FfSpec
open Cert.PoolRef (Real' real_mul real_add coe_sum)

theorem lit_n : lit 0x44800000#32 = ((1024 : ℝ) : EReal) := by
  simp [lit, Ideal.ofBits, Ideal.ieee]; rw [← EReal.coe_mul]; norm_num
theorem lit_one : lit 0x3F800000#32 = 1 := by
  simp [lit, Ideal.ofBits, Ideal.ieee]; rw [← EReal.coe_mul]; norm_num
theorem lit_half : ∃ h : ℝ, lit 0x3F000000#32 = (h : EReal) ∧ lit 0xBF000000#32 = ((-h : ℝ) : EReal) ∧ h = 1 / 2 := by
  refine ⟨1 / 2, ?_, ?_, rfl⟩
  · simp [lit, Ideal.ofBits, Ideal.ieee]; rw [← EReal.coe_mul]; norm_num
  · simp [lit, Ideal.ofBits, Ideal.ieee]; rw [← EReal.coe_mul]; norm_num
theorem lit_eps : ∃ e : ℝ, lit 0x358637BD#32 = (e : EReal) ∧ 0 < e := by
  refine ⟨8796093 * (1 / 8796093022208), ?_, by norm_num⟩
  rw [EReal.coe_mul]
  simp [lit, Ideal.ofBits, Ideal.ieee]
  norm_num

theorem real_sum {ι : Type} (s : Finset ι) (f : ι → EReal) (h : ∀ i, Real' (f i)) : Real' (∑ i ∈ s, f i) :=
  Finset.sum_induction _ Real' (fun _ _ => real_add) ⟨0, rfl⟩ fun k _ => h k
theorem real_neg {x : EReal} : Real' x → Real' (-x) := by
  rintro ⟨a, rfl⟩; exact ⟨-a, (EReal.coe_neg a).symm⟩
theorem real_sub {x y : EReal} (hx : Real' x) (hy : Real' y) : Real' (x - y) := by
  rw [sub_eq_add_neg]; exact real_add hx (real_neg hy)
theorem real_one : Real' (lit 0x3F800000#32) := ⟨1, lit_one⟩
theorem real_half : Real' (lit 0x3F000000#32) := by
  obtain ⟨h, h1, _⟩ := lit_half; exact ⟨h, h1⟩
theorem real_divn {x : EReal} (hx : Real' x) : Real' (Ideal.div x (lit 0x44800000#32)) := by
  rw [lit_n, Ideal.div_coe (by norm_num)]; exact real_mul hx ⟨_, rfl⟩
theorem real_logistic {x : EReal} : Real' x → Real' (Ideal.logistic x) := by
  rintro ⟨a, rfl⟩; exact ⟨_, Ideal.logistic_coe a⟩

/-- The mean square of a row and the offset. -/
def ms (x : Fin 1024 → EReal) : EReal := Ideal.div (∑ k, x k * x k) (lit 0x44800000#32) + lit 0x358637BD#32

theorem ms_real (x : Fin 1024 → EReal) (hx : ∀ k, Real' (x k)) : ∃ v : ℝ, ms x = (v : EReal) ∧ 0 < v := by
  choose a ha using hx
  obtain ⟨e, he, hp⟩ := lit_eps
  refine ⟨(∑ k, a k * a k) * (1 / 1024) + e, ?_, ?_⟩
  · unfold ms
    rw [lit_n, Ideal.div_coe (by norm_num), he, EReal.coe_add, EReal.coe_mul, coe_sum]
    simp only [ha, EReal.coe_mul]
  · have : 0 ≤ ∑ k, a k * a k := Finset.sum_nonneg fun k _ => mul_self_nonneg _
    positivity

theorem rinv_real (x : Fin 1024 → EReal) (hx : ∀ k, Real' (x k)) :
    ∃ v s : ℝ, ms x = (v : EReal) ∧ rinv x = (s : EReal) ∧ v ≠ 0 ∧ 1 / v = s * s := by
  obtain ⟨v, hv, hp⟩ := ms_real x hx
  refine ⟨v, (Real.sqrt v)⁻¹, hv, ?_, hp.ne', ?_⟩
  · show Ideal.rsqrt (ms x) = _
    rw [hv, Ideal.rsqrt_coe, if_neg (by linarith), if_neg hp.ne']
  · rw [← mul_inv, Real.mul_self_sqrt hp.le, one_div]

theorem real_rinv (x : Fin 1024 → EReal) (hx : ∀ k, Real' (x k)) : Real' (rinv x) := by
  obtain ⟨v, s, _, h, _⟩ := rinv_real x hx; exact ⟨s, h⟩

theorem real_rms (x g : Fin 1024 → EReal) (hx : ∀ k, Real' (x k)) (hg : ∀ k, Real' (g k)) (k : Fin 1024) : Real' (rms x g k) :=
  real_mul (real_mul (hx k) (real_rinv x hx)) (hg k)

theorem real_rmsB (x g dy : Fin 1024 → EReal) (hx : ∀ k, Real' (x k)) (hg : ∀ k, Real' (g k)) (hd : ∀ k, Real' (dy k)) (k : Fin 1024) :
    Real' (rmsB x g dy k) := by
  have hr := real_rinv x hx
  exact real_mul hr (real_sub (real_mul (hg k) (hd k)) (real_mul (real_mul (hx k) hr)
    (real_divn (real_sum _ _ fun i => real_mul (real_mul (hg i) (hd i)) (real_mul (hx i) hr)))))

/-- What a derivative of the reciprocal root hands back to the row, twice. -/
def rmsW (x g dy : Fin 1024 → EReal) : EReal :=
  Ideal.div ((∑ i, x i * (dy i * g i)) * (lit 0xBF000000#32 * Ideal.div (rinv x) (ms x))) (lit 0x44800000#32)

theorem rmsB_eq (x g dy : Fin 1024 → EReal) (hx : ∀ k, Real' (x k)) (hg : ∀ k, Real' (g k)) (hd : ∀ k, Real' (dy k)) (k : Fin 1024) :
    rmsB x g dy k = dy k * g k * rinv x + x k * rmsW x g dy + rmsW x g dy * x k := by
  obtain ⟨v, s, hv, hs, hn, hvs⟩ := rinv_real x hx
  choose a ha using hx
  choose b hb using hg
  choose d hd using hd
  obtain ⟨h, _, h2, hh⟩ := lit_half
  have e1 : (∑ i, g i * dy i * (x i * rinv x)) = ((∑ i, b i * d i * (a i * s) : ℝ) : EReal) := by
    rw [coe_sum]; simp only [ha, hb, hd, hs, EReal.coe_mul]
  have e2 : (∑ i, x i * (dy i * g i)) = ((∑ i, a i * (d i * b i) : ℝ) : EReal) := by
    rw [coe_sum]; simp only [ha, hb, hd, EReal.coe_mul]
  have hw : rmsW x g dy = (((∑ i, a i * (d i * b i)) * (-h * (s * (s * s))) * (1 / 1024) : ℝ) : EReal) := by
    unfold rmsW
    rw [e2, h2, hs, hv, lit_n, Ideal.div_coe hn, Ideal.div_coe (by norm_num), hvs]
    norm_cast
  rw [hw]
  unfold rmsB
  rw [e1, lit_n, Ideal.div_coe (by norm_num), hs, ha, hb, hd]
  norm_cast
  have e3 : (∑ i, b i * d i * (a i * s)) = s * ∑ i, a i * (d i * b i) := by
    rw [Finset.mul_sum]; exact Finset.sum_congr rfl fun i _ => by ring
  rw [e3, hh]
  ring

/-- The logistic function as the quotient the reference's lines form. -/
theorem sig_eq (g : EReal) : Ideal.div (lit 0x3F800000#32) (lit 0x3F800000#32 + Ideal.exp (-g)) = Ideal.logistic g := by
  rw [lit_one]; rfl

theorem gateB_eq (da g u : EReal) (hd : Real' da) (hg : Real' g) (hu : Real' u) :
    gateB da g u = da * u * Ideal.logistic g + g * (da * u) * (Ideal.logistic g * (lit 0x3F800000#32 - Ideal.logistic g)) := by
  obtain ⟨s, hs⟩ := real_logistic hg
  obtain ⟨a, rfl⟩ := hd
  obtain ⟨b, rfl⟩ := hg
  obtain ⟨c, rfl⟩ := hu
  unfold gateB
  rw [hs, lit_one]
  norm_cast
  ring

theorem real_gateB {da g u : EReal} (hd : Real' da) (hg : Real' g) (hu : Real' u) : Real' (gateB da g u) :=
  real_mul (real_mul hd hu) (real_mul (real_logistic hg) (real_add real_one (real_mul hg (real_sub real_one (real_logistic hg)))))
theorem real_upB {da g : EReal} (hd : Real' da) (hg : Real' g) : Real' (upB da g) :=
  real_mul hd (real_mul hg (real_logistic hg))

section Row
variable (ct h f gp gq : Fin 1024 → EReal) (WD WG WU : Fin 2048 → Fin 1024 → EReal) (g u : Fin 2048 → EReal)
variable (hc : ∀ k, Real' (ct k)) (hh : ∀ k, Real' (h k)) (hf : ∀ k, Real' (f k)) (hp : ∀ k, Real' (gp k)) (hq : ∀ k, Real' (gq k))
  (hD : ∀ j k, Real' (WD j k)) (hG : ∀ j k, Real' (WG j k)) (hU : ∀ j k, Real' (WU j k)) (hg : ∀ j, Real' (g j)) (hu : ∀ j, Real' (u j))
include hc hf hq

theorem real_df (k : Fin 1024) : Real' (dfR ct f gq k) :=
  real_rmsB _ _ _ hf hq (fun i => real_mul real_half (hc i)) k

include hD hg
theorem real_da (j : Fin 2048) : Real' (dotT (dfR ct f gq) (WD j)) :=
  real_sum _ _ fun k => real_mul (real_df ct f gq hc hf hq k) (hD j k)

include hu hG hU
theorem real_dn (k : Fin 1024) : Real' (dnR ct f gq WD WG WU g u k) :=
  real_add (real_sum _ _ fun j => real_mul (real_gateB (real_da ct f gq WD g hc hf hq hD hg j) (hg j) (hu j)) (hG j k))
    (real_sum _ _ fun j => real_mul (real_upB (real_da ct f gq WD g hc hf hq hD hg j) (hg j)) (hU j k))
end Row

end Cert.FfSpec

end

end
-- ==== Proof.FbRef.lean ====
/- The stages of the gradient of the feed-forward sublayer, row by row. -/
module

public import proofs.«01_k».proof.Proof.FbReal
public import proofs.«01_k».proof.Proof.Gen.Reference2Ideal.Read

@[expose] public section

set_option maxRecDepth 16384

noncomputable section

open Idealize.ShloMosaic Idealize.ShloMosaic.TcCoe Idealize.SL.Sem
open Idealize.ShloMosaic.Pipeline (Dat)

namespace Cert.FbRef
open Cert.Reference2Ideal Cert.Reference2Ideal.Gen Cert.Reference2Ideal.Read Cert.FfSpec
variable (h : S8192x1024.Idx → EReal) (gpre gpost : S1024.Idx → EReal) (wg wu : S1024x2048.Idx → EReal) (wd : S2048x1024.Idx → EReal) (ct : S8192x1024.Idx → EReal)

abbrev rw1 (x : S8192x1024.Idx → EReal) (R : Fin 8192) : Fin 1024 → EReal := fun k => x (ix2 R k)
abbrev vc (x : S1024.Idx → EReal) : Fin 1024 → EReal := fun k => x (ix1 k)

/-- The two factors of the product and the branch of a row. -/
def rG (R : Fin 8192) (j : Fin 2048) : EReal := ∑ k, rms (rw1 h R) (vc gpre) k * wg (ix2 k j)
def rF (R : Fin 8192) (k : Fin 1024) : EReal := ∑ j, rG h gpre wg R j * Ideal.logistic (rG h gpre wg R j) * rG h gpre wu R j * wd (ix2 j k)

theorem v8 (R : Fin 8192) : val_main_v8 (F := Ideal) h (ix2 R 0) = ms (rw1 h R) := by
  unfold ms
  pointwise [val_main_v8, val_main_v7, val_main_v6, val_main_v5, val_main_v4, val_main_v3, val_main_v2, val_main_cst_1, val_main_cst_2, val_main_cst_3]

theorem v9 (R : Fin 8192) : val_main_v9 (F := Ideal) h (ix2 R 0) = rinv (rw1 h R) := by
  show _ = Ideal.rsqrt (ms (rw1 h R))
  rw [← v8]
  pointwise [val_main_v9]

theorem v12 (R : Fin 8192) : val_main_v12 (F := Ideal) h (ix2 R 0) = lit 0xBF000000#32 * Ideal.div (rinv (rw1 h R)) (ms (rw1 h R)) := by
  rw [← v8, ← v9]
  pointwise [val_main_v12, val_main_v11, val_main_v10, val_main_cst_4]

theorem v14 (R : Fin 8192)(k : Fin 1024) : val_main_v14 (F := Ideal) h (ix2 R k) = h (ix2 R k) * rinv (rw1 h R) := by
  rw [← v9]
  pointwise [val_main_v14, val_main_v13]

theorem v17 (R : Fin 8192)(k : Fin 1024) : val_main_v17 (F := Ideal) h gpre (ix2 R k) = rms (rw1 h R) (vc gpre) k := by
  unfold rms
  pointwise [val_main_v17, val_main_v16, val_main_v15]
  rw [v14]

theorem v19 (R : Fin 8192)(j : Fin 2048) : val_main_v19 (F := Ideal) h gpre wg (ix2 R j) = rG h gpre wg R j := by
  unfold rG
  pointwise [val_main_v19, val_main_v18, val_main_v0, val_main_cst]
  simp only [v17]

theorem v22 (R : Fin 8192)(j : Fin 2048) : val_main_v22 (F := Ideal) h gpre wu (ix2 R j) = rG h gpre wu R j := by
  unfold rG
  pointwise [val_main_v22, val_main_v21, val_main_v0, val_main_cst]
  simp only [v17]

theorem s2 (R : Fin 8192)(j : Fin 2048) : val_main_v20_2 (F := Ideal) h gpre wg (ix2 R j) = Ideal.logistic (rG h gpre wg R j) := by
  rw [← sig_eq, ← v19]
  pointwise [val_main_v20_2, val_main_call0_v4, val_main_call0_cst_0, val_main_call0_v3, val_main_call0_v2, val_main_call0_cst, val_main_call0_v1, val_main_call0_v0]

theorem s1 (R : Fin 8192)(j : Fin 2048) : val_main_v20_1 (F := Ideal) h gpre wg (ix2 R j) = Ideal.logistic (rG h gpre wg R j) * (lit 0x3F800000#32 - Ideal.logistic (rG h gpre wg R j)) := by
  rw [← s2]
  pointwise [val_main_v20_1, val_main_call0_v7, val_main_call0_v6, val_main_call0_cst_1]

theorem s0 (R : Fin 8192)(j : Fin 2048) : val_main_v20_0 (F := Ideal) h gpre wg (ix2 R j) = rG h gpre wg R j * Ideal.logistic (rG h gpre wg R j) := by
  rw [← s2, ← v19]
  pointwise [val_main_v20_0]

theorem v25 (R : Fin 8192)(k : Fin 1024) : val_main_v25 (F := Ideal) h gpre wg wu wd (ix2 R k) = rF h gpre wg wu wd R k := by
  unfold rF
  pointwise [val_main_v25, val_main_v24, val_main_v23, val_main_v1, val_main_cst_0]
  simp only [s0, v22]

theorem v32 (R : Fin 8192) : val_main_v32 (F := Ideal) h gpre wg wu wd (ix2 R 0) = ms (rF h gpre wg wu wd R) := by
  unfold ms
  pointwise [val_main_v32, val_main_v31, val_main_v30, val_main_v29, val_main_v28, val_main_v27, val_main_v26, val_main_cst_5, val_main_cst_6, val_main_cst_7]
  simp only [v25]

theorem v33 (R : Fin 8192) : val_main_v33 (F := Ideal) h gpre wg wu wd (ix2 R 0) = rinv (rF h gpre wg wu wd R) := by
  show _ = Ideal.rsqrt (ms (rF h gpre wg wu wd R))
  rw [← v32]
  pointwise [val_main_v33]

theorem v36 (R : Fin 8192) : val_main_v36 (F := Ideal) h gpre wg wu wd (ix2 R 0) = lit 0xBF000000#32 * Ideal.div (rinv (rF h gpre wg wu wd R)) (ms (rF h gpre wg wu wd R)) := by
  rw [← v32, ← v33]
  pointwise [val_main_v36, val_main_v35, val_main_v34, val_main_cst_8]

theorem v38 (R : Fin 8192)(k : Fin 1024) : val_main_v38 (F := Ideal) h gpre wg wu wd (ix2 R k) = rF h gpre wg wu wd R k * rinv (rF h gpre wg wu wd R) := by
  rw [← v33, ← v25]
  pointwise [val_main_v38, val_main_v37]

theorem v47 (R : Fin 8192)(k : Fin 1024) : val_main_v47 (F := Ideal) ct (ix2 R k) = lit 0x3F000000#32 * ct (ix2 R k) := by
  pointwise [val_main_v47, val_main_v46, val_main_cst_10, val_main_v45]

theorem v52 (R : Fin 8192)(k : Fin 1024) : val_main_v52 (F := Ideal) gpost ct (ix2 R k) = lit 0x3F000000#32 * ct (ix2 R k) * gpost (ix1 k) := by
  rw [← v47]
  pointwise [val_main_v52, val_main_v51, val_main_v39]

theorem v63 (R : Fin 8192)(k : Fin 1024) : val_main_v63 (F := Ideal) h gpre gpost wg wu wd ct (ix2 R k) = rmsW (rF h gpre wg wu wd R) (vc gpost) (fun i => lit 0x3F000000#32 * ct (ix2 R i)) := by
  unfold rmsW
  pointwise [val_main_v63, val_main_v62, val_main_v61, val_main_v60, val_main_cst_14, val_main_v59, val_main_v56, val_main_v55, val_main_v54, val_main_cst_13, val_main_cst_15]
  simp only [v25, v52]
  rw [Fin.sum_univ_one, v36]

theorem v67 (R : Fin 8192)(k : Fin 1024) : val_main_v67 (F := Ideal) h gpre gpost wg wu wd ct (ix2 R k) = lit 0x3F000000#32 * ct (ix2 R k) * gpost (ix1 k) * rinv (rF h gpre wg wu wd R) + rF h gpre wg wu wd R k * rmsW (rF h gpre wg wu wd R) (vc gpost) (fun i => lit 0x3F000000#32 * ct (ix2 R i)) + rmsW (rF h gpre wg wu wd R) (vc gpost) (fun i => lit 0x3F000000#32 * ct (ix2 R i)) * rF h gpre wg wu wd R k := by
  rw [← v25, ← v33, ← v52, ← v63 h gpre gpost wg wu wd ct R k]
  pointwise [val_main_v67, val_main_v66, val_main_v65, val_main_v64, val_main_v58, val_main_v57]

/-- The row's gradients before and after the product with the last weights. -/
def rD (R : Fin 8192) (k : Fin 1024) : EReal :=
  lit 0x3F000000#32 * ct (ix2 R k) * gpost (ix1 k) * rinv (rF h gpre wg wu wd R)
    + rF h gpre wg wu wd R k * rmsW (rF h gpre wg wu wd R) (vc gpost) (fun i => lit 0x3F000000#32 * ct (ix2 R i))
    + rmsW (rF h gpre wg wu wd R) (vc gpost) (fun i => lit 0x3F000000#32 * ct (ix2 R i)) * rF h gpre wg wu wd R k
def rA (R : Fin 8192) (j : Fin 2048) : EReal := dotT (rD h gpre gpost wg wu wd ct R) (fun k => wd (ix2 j k))
def rDu (R : Fin 8192) (j : Fin 2048) : EReal := rG h gpre wg R j * Ideal.logistic (rG h gpre wg R j) * rA h gpre gpost wg wu wd ct R j
def rDg (R : Fin 8192) (j : Fin 2048) : EReal :=
  rA h gpre gpost wg wu wd ct R j * rG h gpre wu R j * Ideal.logistic (rG h gpre wg R j)
    + rG h gpre wg R j * (rA h gpre gpost wg wu wd ct R j * rG h gpre wu R j) * (Ideal.logistic (rG h gpre wg R j) * (lit 0x3F800000#32 - Ideal.logistic (rG h gpre wg R j)))
def rN (R : Fin 8192) (k : Fin 1024) : EReal :=
  (∑ j, rDu h gpre gpost wg wu wd ct R j * wu (ix2 k j)) + ∑ j, rDg h gpre gpost wg wu wd ct R j * wg (ix2 k j)

theorem v68 (R : Fin 8192)(j : Fin 2048) : val_main_v68 (F := Ideal) h gpre gpost wg wu wd ct (ix2 R j) = rA h gpre gpost wg wu wd ct R j := by
  unfold rA dotT rD
  pointwise [val_main_v68]
  simp only [v67]

theorem v69 (R : Fin 8192)(j : Fin 2048) : val_main_v69 (F := Ideal) h gpre gpost wg wu wd ct (ix2 R j) = rDu h gpre gpost wg wu wd ct R j := by
  unfold rDu
  rw [← v68, ← s0]
  pointwise [val_main_v69]

theorem v72 (R : Fin 8192)(j : Fin 2048) : val_main_v72 (F := Ideal) h gpre gpost wg wu wd ct (ix2 R j) = rDg h gpre gpost wg wu wd ct R j := by
  unfold rDg
  rw [← v68, ← s1, ← s2, ← v19 h gpre wg R j, ← v22 h gpre wu R j]
  pointwise [val_main_v72, val_main_call1_v0, val_main_call1_v1, val_main_call1_v2, val_main_v70]

theorem v74 (R : Fin 8192)(k : Fin 1024) : val_main_v74 (F := Ideal) h gpre gpost wg wu wd ct (ix2 R k) = rN h gpre gpost wg wu wd ct R k := by
  unfold rN
  pointwise [val_main_v74, val_main_v73, val_main_v71]
  simp only [v69, v72]

theorem v99 (k : Fin 1024) : val_main_v99 (F := Ideal) h gpre gpost wg wu wd ct (ix2 0 k) = ∑ R : Fin 8192, h (ix2 R k) * rinv (rw1 h R) * rN h gpre gpost wg wu wd ct R k := by
  pointwise [val_main_v99, val_main_v80, val_main_cst_17, val_main_v77, val_main_v76, val_main_cst_16, val_main_v75]
  simp only [v14, v74]
  exact Fin.sum_univ_one _

theorem v100 (k : Fin 1024) : val_main_v100 (F := Ideal) h gpre wg wu wd ct (ix2 0 k) = ∑ R : Fin 8192, rF h gpre wg wu wd R k * rinv (rF h gpre wg wu wd R) * (lit 0x3F000000#32 * ct (ix2 R k)) := by
  pointwise [val_main_v100, val_main_v53, val_main_cst_12, val_main_v50, val_main_v49, val_main_cst_11, val_main_v48]
  simp only [v38, v47]
  exact Fin.sum_univ_one _

theorem v79 (R : Fin 8192)(k : Fin 1024) : val_main_v79 (F := Ideal) h gpre gpost wg wu wd ct (ix2 R k) = rN h gpre gpost wg wu wd ct R k * gpre (ix1 k) := by
  rw [← v74]
  pointwise [val_main_v79, val_main_v78, val_main_v15]

theorem v91 (R : Fin 8192)(k : Fin 1024) : val_main_v91 (F := Ideal) h gpre gpost wg wu wd ct (ix2 R k) = rmsW (rw1 h R) (vc gpre) (rN h gpre gpost wg wu wd ct R) := by
  unfold rmsW
  pointwise [val_main_v91, val_main_v90, val_main_v89, val_main_v88, val_main_cst_19, val_main_v87, val_main_v83, val_main_v82, val_main_v81, val_main_cst_18, val_main_cst_20]
  simp only [v79]
  rw [Fin.sum_univ_one, v12]

theorem v95 (R : Fin 8192)(k : Fin 1024) : val_main_v95 (F := Ideal) h gpre gpost wg wu wd ct (ix2 R k) = ct (ix2 R k) + rN h gpre gpost wg wu wd ct R k * gpre (ix1 k) * rinv (rw1 h R) + h (ix2 R k) * rmsW (rw1 h R) (vc gpre) (rN h gpre gpost wg wu wd ct R) + rmsW (rw1 h R) (vc gpre) (rN h gpre gpost wg wu wd ct R) * h (ix2 R k) := by
  rw [← v79, ← v9, ← v91 h gpre gpost wg wu wd ct R k]
  pointwise [val_main_v95, val_main_v94, val_main_v93, val_main_v92, val_main_v86, val_main_v85, val_main_v84]

theorem v96 (R : Fin 8192)(k : Fin 1024) : val_main_v96 (F := Ideal) h gpre gpost wg wu wd ct (ix2 R k) = rD h gpre gpost wg wu wd ct R k := by
  unfold rD
  rw [← v67]
  pointwise [val_main_v96]

theorem v97 (R : Fin 8192)(j : Fin 2048) : val_main_v97 (F := Ideal) h gpre gpost wg wu wd ct (ix2 R j) = rDg h gpre gpost wg wu wd ct R j := by
  rw [← v72]
  pointwise [val_main_v97]

theorem v98 (R : Fin 8192)(j : Fin 2048) : val_main_v98 (F := Ideal) h gpre gpost wg wu wd ct (ix2 R j) = rDu h gpre gpost wg wu wd ct R j := by
  rw [← v69]
  pointwise [val_main_v98]

end Cert.FbRef

end

end
-- ==== Proof.FbPay.lean ====
/- The vector operations of the feed-forward gradient kernel, read at an index. -/
module

public import proofs.«01_k».proof.Proof.FfSpec

@[expose] public section

set_option maxRecDepth 16384

noncomputable section

open Idealize.ShloMosaic Idealize.ShloMosaic.TcCoe Idealize.SL.Sem
open Idealize.ShloMosaic.Pipeline (Dat)

namespace Cert.Kernel2Ideal.Fb
open Cert.Kernel2Ideal Cert.Kernel2Ideal.Gen Cert.FfSpec

variable (v1 v2 v3 : Vec Ideal S512x1024 .f32) (v4 : Vec Ideal S1x1024 .f32)

/-- Row `r` of a tile. -/
abbrev row {n : ℕ} (x : (⟨2, ![512, n]⟩ : Shape).Idx → EReal) (r : Fin 512) : Fin n → EReal := fun k => x (ix2 r k)

abbrev one (x : S1x1024.Idx → EReal) : Fin 1024 → EReal := fun k => x (ix2 0 k)

theorem pay7 (r : Fin 512) : k0_pay7 v2 (ix2 r 0) = rinv (row v2 r) := by
  unfold rinv row; pointwise [k0_pay7, k0_pay5]

theorem pay8 (r : Fin 512) (k : Fin 1024) : k0_pay8 v2 (ix2 r k) = v2 (ix2 r k) * rinv (row v2 r) := by
  rw [← pay7]; pointwise [k0_pay8, k0_pay5]

theorem pay6 (r : Fin 512) (k : Fin 1024) : k0_pay6 v1 (ix2 r k) = lit 0x3F000000#32 * v1 (ix2 r k) := by
  pointwise [k0_pay6]

theorem pay10 (r : Fin 512) (k : Fin 1024) :
    k0_pay10 v1 v2 v4 (ix2 r k) = rmsB (row v2 r) (one v4) (fun i => lit 0x3F000000#32 * v1 (ix2 r i)) k := by
  unfold rmsB
  pointwise [k0_pay10]
  simp only [pay7, pay8, pay6]

theorem pay9 (k : Fin 1024) :
    k0_pay9 v1 v2 (ix2 0 k) = ∑ r : Fin 512, lit 0x3F000000#32 * v1 (ix2 r k) * (v2 (ix2 r k) * rinv (row v2 r)) := by
  pointwise [k0_pay9]
  simp only [pay8, pay6]

end Cert.Kernel2Ideal.Fb

end

end
-- ==== Proof.FfTile.lean ====
/- A block stored in eight chunks of columns. -/
module

public import proofs.«01_k».proof.Proof.FfSpec

@[expose] public section

set_option maxRecDepth 16384

noncomputable section

open Idealize.ShloMosaic Idealize.ShloMosaic.TcCoe Idealize.SL.Sem
open Idealize.ShloMosaic.Pipeline (Dat)

namespace Cert.FfSpec

/-- Lane `e` of chunk `h`. -/
def col (h : Fin 8) (e : Fin 256) : Fin 2048 := ⟨256 * h.val + e.val, by omega⟩

theorem exists_col (j : Fin 2048) : ∃ h e, j = col h e :=
  ⟨⟨j.val / 256, by omega⟩, ⟨j.val % 256, by omega⟩, Fin.ext (by simp only [col]; omega)⟩

section cn
theorem cn_hit {o : ℕ} (inb : ∀ a, (![0, o] : Fin 2 → ℕ) a + (![512, 256] : Fin 2 → ℕ) a ≤ (⟨2, ![512, 2048]⟩ : Shape).size a) (P : (⟨2, ![512, 256]⟩ : Shape).Idx → EReal)
    (L : List (View.Piece (Elt Ideal) (⟨2, ![512, 2048]⟩ : Shape) .bf16)) (r : Fin 512) (k : Fin 2048) (e : Fin 256) (h : k.val = o + e.val) :
    View.canon (⟨Rect.unit (s := (⟨2, ![512, 2048]⟩ : Shape)) ![0, o] ![512, 256] inb, P⟩ :: L) (ix2 r k) = P (ix2 r e) := by
  have hx : (ix2 r k : (⟨2, ![512, 2048]⟩ : Shape).Idx) = (Rect.unit (s := (⟨2, ![512, 2048]⟩ : Shape)) ![0, o] ![512, 256] inb).emb (ix2 r e) := by
    funext a
    match a with
    | ⟨0, _⟩ => exact Fin.ext (by show r.val = 0 + 1 * r.val; omega)
    | ⟨1, _⟩ => exact Fin.ext (by show k.val = o + 1 * e.val; omega)
  rw [hx, View.canon_cons_emb]

theorem cn_miss {o : ℕ} (inb : ∀ a, (![0, o] : Fin 2 → ℕ) a + (![512, 256] : Fin 2 → ℕ) a ≤ (⟨2, ![512, 2048]⟩ : Shape).size a) (P : (⟨2, ![512, 256]⟩ : Shape).Idx → EReal)
    (L : List (View.Piece (Elt Ideal) (⟨2, ![512, 2048]⟩ : Shape) .bf16)) (r : Fin 512) (k : Fin 2048) (h : k.val < o ∨ o + 256 ≤ k.val) :
    View.canon (⟨Rect.unit (s := (⟨2, ![512, 2048]⟩ : Shape)) ![0, o] ![512, 256] inb, P⟩ :: L) (ix2 r k) = View.canon L (ix2 r k) :=
  View.canon_cons_of_not_mem _ _ fun hm => by
    have h1 := (Rect.mem_set_unit (inb := inb)).mp hm (1 : Fin 2)
    have h2 : o ≤ k.val ∧ k.val < o + 256 := h1
    omega
end cn

section rd
variable {nD : ℕ} {sig : RefSig} {κ : Kind} {sp : Space} (vw : View sig κ sp (⟨2, ![512, 2048]⟩ : Shape) .bf16) (f : vw.ty.Contents (Elt Ideal))

theorem rd_hit {o : ℕ} (inb : ∀ a, (![0, o] : Fin 2 → ℕ) a + (![512, 256] : Fin 2 → ℕ) a ≤ (⟨2, ![512, 2048]⟩ : Shape).size a) (P : (⟨2, ![512, 256]⟩ : Shape).Idx → EReal)
    (L : List (View.Piece (Elt Ideal) (⟨2, ![512, 2048]⟩ : Shape) .bf16)) (r : Fin 512) (k : Fin 2048) (e : Fin 256) (h : k.val = o + e.val) :
    vw.read (Elt Ideal) (vw.writes (Elt Ideal) f (⟨Rect.unit (s := (⟨2, ![512, 2048]⟩ : Shape)) ![0, o] ![512, 256] inb, P⟩ :: L)) (ix2 r k) = P (ix2 r e) := by
  rw [View.read_writes_cons_unit_of_mem vw f inb P L (ix2 r k) (ix2 r e) rfl (fun a => match a with
    | ⟨0, _⟩ => by show r.val = 0 + r.val; omega
    | ⟨1, _⟩ => by show k.val = o + e.val; omega)]

theorem rd_miss {o : ℕ} (inb : ∀ a, (![0, o] : Fin 2 → ℕ) a + (![512, 256] : Fin 2 → ℕ) a ≤ (⟨2, ![512, 2048]⟩ : Shape).size a) (P : (⟨2, ![512, 256]⟩ : Shape).Idx → EReal)
    (L : List (View.Piece (Elt Ideal) (⟨2, ![512, 2048]⟩ : Shape) .bf16)) (r : Fin 512) (k : Fin 2048) (h : k.val < o ∨ o + 256 ≤ k.val) :
    vw.read (Elt Ideal) (vw.writes (Elt Ideal) f (⟨Rect.unit (s := (⟨2, ![512, 2048]⟩ : Shape)) ![0, o] ![512, 256] inb, P⟩ :: L)) (ix2 r k)
      = vw.read (Elt Ideal) (vw.writes (Elt Ideal) f L) (ix2 r k) := by
  rw [View.read_writes_cons_unit_of_not_mem vw f inb P L (ix2 r k) rfl (1 : Fin 2) h]
end rd

/-- Eight stores, one a chunk, each of its part of one array: the block is that array. -/
theorem cn_all (i0 : ∀ a, (![0, 0] : Fin 2 → ℕ) a + (![512, 256] : Fin 2 → ℕ) a ≤ (⟨2, ![512, 2048]⟩ : Shape).size a) (i1 : ∀ a, (![0, 256] : Fin 2 → ℕ) a + (![512, 256] : Fin 2 → ℕ) a ≤ (⟨2, ![512, 2048]⟩ : Shape).size a) (i2 : ∀ a, (![0, 512] : Fin 2 → ℕ) a + (![512, 256] : Fin 2 → ℕ) a ≤ (⟨2, ![512, 2048]⟩ : Shape).size a) (i3 : ∀ a, (![0, 768] : Fin 2 → ℕ) a + (![512, 256] : Fin 2 → ℕ) a ≤ (⟨2, ![512, 2048]⟩ : Shape).size a) (i4 : ∀ a, (![0, 1024] : Fin 2 → ℕ) a + (![512, 256] : Fin 2 → ℕ) a ≤ (⟨2, ![512, 2048]⟩ : Shape).size a) (i5 : ∀ a, (![0, 1280] : Fin 2 → ℕ) a + (![512, 256] : Fin 2 → ℕ) a ≤ (⟨2, ![512, 2048]⟩ : Shape).size a) (i6 : ∀ a, (![0, 1536] : Fin 2 → ℕ) a + (![512, 256] : Fin 2 → ℕ) a ≤ (⟨2, ![512, 2048]⟩ : Shape).size a) (i7 : ∀ a, (![0, 1792] : Fin 2 → ℕ) a + (![512, 256] : Fin 2 → ℕ) a ≤ (⟨2, ![512, 2048]⟩ : Shape).size a)
    (P0 P1 P2 P3 P4 P5 P6 P7 : (⟨2, ![512, 256]⟩ : Shape).Idx → EReal) (f : (⟨2, ![512, 2048]⟩ : Shape).Idx → EReal)
    (q0 : ∀ r e, P0 (ix2 r e) = f (ix2 r (col 0 e))) (q1 : ∀ r e, P1 (ix2 r e) = f (ix2 r (col 1 e))) (q2 : ∀ r e, P2 (ix2 r e) = f (ix2 r (col 2 e))) (q3 : ∀ r e, P3 (ix2 r e) = f (ix2 r (col 3 e))) (q4 : ∀ r e, P4 (ix2 r e) = f (ix2 r (col 4 e))) (q5 : ∀ r e, P5 (ix2 r e) = f (ix2 r (col 5 e))) (q6 : ∀ r e, P6 (ix2 r e) = f (ix2 r (col 6 e))) (q7 : ∀ r e, P7 (ix2 r e) = f (ix2 r (col 7 e))) :
    View.canon (Val := Elt Ideal) (s := (⟨2, ![512, 2048]⟩ : Shape)) (e := .bf16) ([⟨Rect.unit (s := (⟨2, ![512, 2048]⟩ : Shape)) ![0, 1792] ![512, 256] i7, P7⟩, ⟨Rect.unit (s := (⟨2, ![512, 2048]⟩ : Shape)) ![0, 1536] ![512, 256] i6, P6⟩, ⟨Rect.unit (s := (⟨2, ![512, 2048]⟩ : Shape)) ![0, 1280] ![512, 256] i5, P5⟩, ⟨Rect.unit (s := (⟨2, ![512, 2048]⟩ : Shape)) ![0, 1024] ![512, 256] i4, P4⟩, ⟨Rect.unit (s := (⟨2, ![512, 2048]⟩ : Shape)) ![0, 768] ![512, 256] i3, P3⟩, ⟨Rect.unit (s := (⟨2, ![512, 2048]⟩ : Shape)) ![0, 512] ![512, 256] i2, P2⟩, ⟨Rect.unit (s := (⟨2, ![512, 2048]⟩ : Shape)) ![0, 256] ![512, 256] i1, P1⟩, ⟨Rect.unit (s := (⟨2, ![512, 2048]⟩ : Shape)) ![0, 0] ![512, 256] i0, P0⟩] : List (View.Piece (Elt Ideal) (⟨2, ![512, 2048]⟩ : Shape) .bf16)) = f := by
  funext j
  obtain ⟨r, k, rfl⟩ : ∃ r k, j = ix2 r k := ⟨_, _, eq_ix2 j⟩
  obtain ⟨h, e, rfl⟩ := exists_col k
  match h with
  | ⟨0, _⟩ =>
    have hk : (col 0 e).val = 0 + e.val := rfl
    exact (cn_miss i7 P7 _ r _ (Or.inl (lt_of_eq_of_lt hk (by omega)))).trans ((cn_miss i6 P6 _ r _ (Or.inl (lt_of_eq_of_lt hk (by omega)))).trans ((cn_miss i5 P5 _ r _ (Or.inl (lt_of_eq_of_lt hk (by omega)))).trans ((cn_miss i4 P4 _ r _ (Or.inl (lt_of_eq_of_lt hk (by omega)))).trans ((cn_miss i3 P3 _ r _ (Or.inl (lt_of_eq_of_lt hk (by omega)))).trans ((cn_miss i2 P2 _ r _ (Or.inl (lt_of_eq_of_lt hk (by omega)))).trans ((cn_miss i1 P1 _ r _ (Or.inl (lt_of_eq_of_lt hk (by omega)))).trans ((cn_hit i0 P0 _ r _ e hk).trans (q0 r e))))))))
  | ⟨1, _⟩ =>
    have hk : (col 1 e).val = 256 + e.val := rfl
    exact (cn_miss i7 P7 _ r _ (Or.inl (lt_of_eq_of_lt hk (by omega)))).trans ((cn_miss i6 P6 _ r _ (Or.inl (lt_of_eq_of_lt hk (by omega)))).trans ((cn_miss i5 P5 _ r _ (Or.inl (lt_of_eq_of_lt hk (by omega)))).trans ((cn_miss i4 P4 _ r _ (Or.inl (lt_of_eq_of_lt hk (by omega)))).trans ((cn_miss i3 P3 _ r _ (Or.inl (lt_of_eq_of_lt hk (by omega)))).trans ((cn_miss i2 P2 _ r _ (Or.inl (lt_of_eq_of_lt hk (by omega)))).trans ((cn_hit i1 P1 _ r _ e hk).trans (q1 r e)))))))
  | ⟨2, _⟩ =>
    have hk : (col 2 e).val = 512 + e.val := rfl
    exact (cn_miss i7 P7 _ r _ (Or.inl (lt_of_eq_of_lt hk (by omega)))).trans ((cn_miss i6 P6 _ r _ (Or.inl (lt_of_eq_of_lt hk (by omega)))).trans ((cn_miss i5 P5 _ r _ (Or.inl (lt_of_eq_of_lt hk (by omega)))).trans ((cn_miss i4 P4 _ r _ (Or.inl (lt_of_eq_of_lt hk (by omega)))).trans ((cn_miss i3 P3 _ r _ (Or.inl (lt_of_eq_of_lt hk (by omega)))).trans ((cn_hit i2 P2 _ r _ e hk).trans (q2 r e))))))
  | ⟨3, _⟩ =>
    have hk : (col 3 e).val = 768 + e.val := rfl
    exact (cn_miss i7 P7 _ r _ (Or.inl (lt_of_eq_of_lt hk (by omega)))).trans ((cn_miss i6 P6 _ r _ (Or.inl (lt_of_eq_of_lt hk (by omega)))).trans ((cn_miss i5 P5 _ r _ (Or.inl (lt_of_eq_of_lt hk (by omega)))).trans ((cn_miss i4 P4 _ r _ (Or.inl (lt_of_eq_of_lt hk (by omega)))).trans ((cn_hit i3 P3 _ r _ e hk).trans (q3 r e)))))
  | ⟨4, _⟩ =>
    have hk : (col 4 e).val = 1024 + e.val := rfl
    exact (cn_miss i7 P7 _ r _ (Or.inl (lt_of_eq_of_lt hk (by omega)))).trans ((cn_miss i6 P6 _ r _ (Or.inl (lt_of_eq_of_lt hk (by omega)))).trans ((cn_miss i5 P5 _ r _ (Or.inl (lt_of_eq_of_lt hk (by omega)))).trans ((cn_hit i4 P4 _ r _ e hk).trans (q4 r e))))
  | ⟨5, _⟩ =>
    have hk : (col 5 e).val = 1280 + e.val := rfl
    exact (cn_miss i7 P7 _ r _ (Or.inl (lt_of_eq_of_lt hk (by omega)))).trans ((cn_miss i6 P6 _ r _ (Or.inl (lt_of_eq_of_lt hk (by omega)))).trans ((cn_hit i5 P5 _ r _ e hk).trans (q5 r e)))
  | ⟨6, _⟩ =>
    have hk : (col 6 e).val = 1536 + e.val := rfl
    exact (cn_miss i7 P7 _ r _ (Or.inl (lt_of_eq_of_lt hk (by omega)))).trans ((cn_hit i6 P6 _ r _ e hk).trans (q6 r e))
  | ⟨7, _⟩ =>
    have hk : (col 7 e).val = 1792 + e.val := rfl
    exact (cn_hit i7 P7 _ r _ e hk).trans (q7 r e)

/-- … and a load of the whole block reads that array. -/
theorem rd_all {sig : RefSig} {κ : Kind} {sp : Space} (vw : View sig κ sp (⟨2, ![512, 2048]⟩ : Shape) .bf16) (i0 : ∀ a, (![0, 0] : Fin 2 → ℕ) a + (![512, 256] : Fin 2 → ℕ) a ≤ (⟨2, ![512, 2048]⟩ : Shape).size a) (i1 : ∀ a, (![0, 256] : Fin 2 → ℕ) a + (![512, 256] : Fin 2 → ℕ) a ≤ (⟨2, ![512, 2048]⟩ : Shape).size a) (i2 : ∀ a, (![0, 512] : Fin 2 → ℕ) a + (![512, 256] : Fin 2 → ℕ) a ≤ (⟨2, ![512, 2048]⟩ : Shape).size a) (i3 : ∀ a, (![0, 768] : Fin 2 → ℕ) a + (![512, 256] : Fin 2 → ℕ) a ≤ (⟨2, ![512, 2048]⟩ : Shape).size a) (i4 : ∀ a, (![0, 1024] : Fin 2 → ℕ) a + (![512, 256] : Fin 2 → ℕ) a ≤ (⟨2, ![512, 2048]⟩ : Shape).size a) (i5 : ∀ a, (![0, 1280] : Fin 2 → ℕ) a + (![512, 256] : Fin 2 → ℕ) a ≤ (⟨2, ![512, 2048]⟩ : Shape).size a) (i6 : ∀ a, (![0, 1536] : Fin 2 → ℕ) a + (![512, 256] : Fin 2 → ℕ) a ≤ (⟨2, ![512, 2048]⟩ : Shape).size a) (i7 : ∀ a, (![0, 1792] : Fin 2 → ℕ) a + (![512, 256] : Fin 2 → ℕ) a ≤ (⟨2, ![512, 2048]⟩ : Shape).size a)
    (P0 P1 P2 P3 P4 P5 P6 P7 : (⟨2, ![512, 256]⟩ : Shape).Idx → EReal) (f : (⟨2, ![512, 2048]⟩ : Shape).Idx → EReal)
    (q0 : ∀ r e, P0 (ix2 r e) = f (ix2 r (col 0 e))) (q1 : ∀ r e, P1 (ix2 r e) = f (ix2 r (col 1 e))) (q2 : ∀ r e, P2 (ix2 r e) = f (ix2 r (col 2 e))) (q3 : ∀ r e, P3 (ix2 r e) = f (ix2 r (col 3 e))) (q4 : ∀ r e, P4 (ix2 r e) = f (ix2 r (col 4 e))) (q5 : ∀ r e, P5 (ix2 r e) = f (ix2 r (col 5 e))) (q6 : ∀ r e, P6 (ix2 r e) = f (ix2 r (col 6 e))) (q7 : ∀ r e, P7 (ix2 r e) = f (ix2 r (col 7 e))) (inb) :
    vw.readCov ([⟨Rect.unit (s := (⟨2, ![512, 2048]⟩ : Shape)) ![0, 1792] ![512, 256] i7, P7⟩, ⟨Rect.unit (s := (⟨2, ![512, 2048]⟩ : Shape)) ![0, 1536] ![512, 256] i6, P6⟩, ⟨Rect.unit (s := (⟨2, ![512, 2048]⟩ : Shape)) ![0, 1280] ![512, 256] i5, P5⟩, ⟨Rect.unit (s := (⟨2, ![512, 2048]⟩ : Shape)) ![0, 1024] ![512, 256] i4, P4⟩, ⟨Rect.unit (s := (⟨2, ![512, 2048]⟩ : Shape)) ![0, 768] ![512, 256] i3, P3⟩, ⟨Rect.unit (s := (⟨2, ![512, 2048]⟩ : Shape)) ![0, 512] ![512, 256] i2, P2⟩, ⟨Rect.unit (s := (⟨2, ![512, 2048]⟩ : Shape)) ![0, 256] ![512, 256] i1, P1⟩, ⟨Rect.unit (s := (⟨2, ![512, 2048]⟩ : Shape)) ![0, 0] ![512, 256] i0, P0⟩] : List (View.Piece (Elt Ideal) (⟨2, ![512, 2048]⟩ : Shape) .bf16)) (Rect.unit (s := (⟨2, ![512, 2048]⟩ : Shape)) ![0, 0] ![512, 2048] inb).toLoadRect = f := by
  have key : ∀ (r : Fin 512) (k : Fin 2048), vw.read (Elt Ideal) (vw.writes (Elt Ideal) vw.junk ([⟨Rect.unit (s := (⟨2, ![512, 2048]⟩ : Shape)) ![0, 1792] ![512, 256] i7, P7⟩, ⟨Rect.unit (s := (⟨2, ![512, 2048]⟩ : Shape)) ![0, 1536] ![512, 256] i6, P6⟩, ⟨Rect.unit (s := (⟨2, ![512, 2048]⟩ : Shape)) ![0, 1280] ![512, 256] i5, P5⟩, ⟨Rect.unit (s := (⟨2, ![512, 2048]⟩ : Shape)) ![0, 1024] ![512, 256] i4, P4⟩, ⟨Rect.unit (s := (⟨2, ![512, 2048]⟩ : Shape)) ![0, 768] ![512, 256] i3, P3⟩, ⟨Rect.unit (s := (⟨2, ![512, 2048]⟩ : Shape)) ![0, 512] ![512, 256] i2, P2⟩, ⟨Rect.unit (s := (⟨2, ![512, 2048]⟩ : Shape)) ![0, 256] ![512, 256] i1, P1⟩, ⟨Rect.unit (s := (⟨2, ![512, 2048]⟩ : Shape)) ![0, 0] ![512, 256] i0, P0⟩] : List (View.Piece (Elt Ideal) (⟨2, ![512, 2048]⟩ : Shape) .bf16))) (ix2 r k) = f (ix2 r k) := by
    intro r k
    obtain ⟨h, e, rfl⟩ := exists_col k
    match h with
  | ⟨0, _⟩ =>
    have hk : (col 0 e).val = 0 + e.val := rfl
    exact (rd_miss vw vw.junk i7 P7 _ r _ (Or.inl (lt_of_eq_of_lt hk (by omega)))).trans ((rd_miss vw vw.junk i6 P6 _ r _ (Or.inl (lt_of_eq_of_lt hk (by omega)))).trans ((rd_miss vw vw.junk i5 P5 _ r _ (Or.inl (lt_of_eq_of_lt hk (by omega)))).trans ((rd_miss vw vw.junk i4 P4 _ r _ (Or.inl (lt_of_eq_of_lt hk (by omega)))).trans ((rd_miss vw vw.junk i3 P3 _ r _ (Or.inl (lt_of_eq_of_lt hk (by omega)))).trans ((rd_miss vw vw.junk i2 P2 _ r _ (Or.inl (lt_of_eq_of_lt hk (by omega)))).trans ((rd_miss vw vw.junk i1 P1 _ r _ (Or.inl (lt_of_eq_of_lt hk (by omega)))).trans ((rd_hit vw vw.junk i0 P0 _ r _ e hk).trans (q0 r e))))))))
  | ⟨1, _⟩ =>
    have hk : (col 1 e).val = 256 + e.val := rfl
    exact (rd_miss vw vw.junk i7 P7 _ r _ (Or.inl (lt_of_eq_of_lt hk (by omega)))).trans ((rd_miss vw vw.junk i6 P6 _ r _ (Or.inl (lt_of_eq_of_lt hk (by omega)))).trans ((rd_miss vw vw.junk i5 P5 _ r _ (Or.inl (lt_of_eq_of_lt hk (by omega)))).trans ((rd_miss vw vw.junk i4 P4 _ r _ (Or.inl (lt_of_eq_of_lt hk (by omega)))).trans ((rd_miss vw vw.junk i3 P3 _ r _ (Or.inl (lt_of_eq_of_lt hk (by omega)))).trans ((rd_miss vw vw.junk i2 P2 _ r _ (Or.inl (lt_of_eq_of_lt hk (by omega)))).trans ((rd_hit vw vw.junk i1 P1 _ r _ e hk).trans (q1 r e)))))))
  | ⟨2, _⟩ =>
    have hk : (col 2 e).val = 512 + e.val := rfl
    exact (rd_miss vw vw.junk i7 P7 _ r _ (Or.inl (lt_of_eq_of_lt hk (by omega)))).trans ((rd_miss vw vw.junk i6 P6 _ r _ (Or.inl (lt_of_eq_of_lt hk (by omega)))).trans ((rd_miss vw vw.junk i5 P5 _ r _ (Or.inl (lt_of_eq_of_lt hk (by omega)))).trans ((rd_miss vw vw.junk i4 P4 _ r _ (Or.inl (lt_of_eq_of_lt hk (by omega)))).trans ((rd_miss vw vw.junk i3 P3 _ r _ (Or.inl (lt_of_eq_of_lt hk (by omega)))).trans ((rd_hit vw vw.junk i2 P2 _ r _ e hk).trans (q2 r e))))))
  | ⟨3, _⟩ =>
    have hk : (col 3 e).val = 768 + e.val := rfl
    exact (rd_miss vw vw.junk i7 P7 _ r _ (Or.inl (lt_of_eq_of_lt hk (by omega)))).trans ((rd_miss vw vw.junk i6 P6 _ r _ (Or.inl (lt_of_eq_of_lt hk (by omega)))).trans ((rd_miss vw vw.junk i5 P5 _ r _ (Or.inl (lt_of_eq_of_lt hk (by omega)))).trans ((rd_miss vw vw.junk i4 P4 _ r _ (Or.inl (lt_of_eq_of_lt hk (by omega)))).trans ((rd_hit vw vw.junk i3 P3 _ r _ e hk).trans (q3 r e)))))
  | ⟨4, _⟩ =>
    have hk : (col 4 e).val = 1024 + e.val := rfl
    exact (rd_miss vw vw.junk i7 P7 _ r _ (Or.inl (lt_of_eq_of_lt hk (by omega)))).trans ((rd_miss vw vw.junk i6 P6 _ r _ (Or.inl (lt_of_eq_of_lt hk (by omega)))).trans ((rd_miss vw vw.junk i5 P5 _ r _ (Or.inl (lt_of_eq_of_lt hk (by omega)))).trans ((rd_hit vw vw.junk i4 P4 _ r _ e hk).trans (q4 r e))))
  | ⟨5, _⟩ =>
    have hk : (col 5 e).val = 1280 + e.val := rfl
    exact (rd_miss vw vw.junk i7 P7 _ r _ (Or.inl (lt_of_eq_of_lt hk (by omega)))).trans ((rd_miss vw vw.junk i6 P6 _ r _ (Or.inl (lt_of_eq_of_lt hk (by omega)))).trans ((rd_hit vw vw.junk i5 P5 _ r _ e hk).trans (q5 r e)))
  | ⟨6, _⟩ =>
    have hk : (col 6 e).val = 1536 + e.val := rfl
    exact (rd_miss vw vw.junk i7 P7 _ r _ (Or.inl (lt_of_eq_of_lt hk (by omega)))).trans ((rd_hit vw vw.junk i6 P6 _ r _ e hk).trans (q6 r e))
  | ⟨7, _⟩ =>
    have hk : (col 7 e).val = 1792 + e.val := rfl
    exact (rd_hit vw vw.junk i7 P7 _ r _ e hk).trans (q7 r e)

  funext j
  obtain ⟨r, k, rfl⟩ : ∃ r k, j = ix2 r k := ⟨_, _, eq_ix2 j⟩
  refine Eq.trans ?_ (key r k)
  show View.ld (vw.read (Elt Ideal) (vw.writes (Elt Ideal) vw.junk ([⟨Rect.unit (s := (⟨2, ![512, 2048]⟩ : Shape)) ![0, 1792] ![512, 256] i7, P7⟩, ⟨Rect.unit (s := (⟨2, ![512, 2048]⟩ : Shape)) ![0, 1536] ![512, 256] i6, P6⟩, ⟨Rect.unit (s := (⟨2, ![512, 2048]⟩ : Shape)) ![0, 1280] ![512, 256] i5, P5⟩, ⟨Rect.unit (s := (⟨2, ![512, 2048]⟩ : Shape)) ![0, 1024] ![512, 256] i4, P4⟩, ⟨Rect.unit (s := (⟨2, ![512, 2048]⟩ : Shape)) ![0, 768] ![512, 256] i3, P3⟩, ⟨Rect.unit (s := (⟨2, ![512, 2048]⟩ : Shape)) ![0, 512] ![512, 256] i2, P2⟩, ⟨Rect.unit (s := (⟨2, ![512, 2048]⟩ : Shape)) ![0, 256] ![512, 256] i1, P1⟩, ⟨Rect.unit (s := (⟨2, ![512, 2048]⟩ : Shape)) ![0, 0] ![512, 256] i0, P0⟩] : List (View.Piece (Elt Ideal) (⟨2, ![512, 2048]⟩ : Shape) .bf16)))) (Rect.unit (s := (⟨2, ![512, 2048]⟩ : Shape)) ![0, 0] ![512, 2048] inb) (ix2 r k) = _
  rw [View.ld_apply]
  refine congrArg _ ?_
  funext a
  match a with
  | ⟨0, _⟩ => exact Fin.ext (by show 0 + 1 * r.val = r.val; omega)
  | ⟨1, _⟩ => exact Fin.ext (by show 0 + 1 * k.val = k.val; omega)

end Cert.FfSpec

end

end
-- ==== Proof.FbChunk.lean ====
/- The stores of the gradients of the gate and of the other factor, chunk by chunk. -/
module

public import proofs.«01_k».proof.Proof.FbPay
public import proofs.«01_k».proof.Proof.FfTile

@[expose] public section

set_option maxRecDepth 16384

noncomputable section

open Idealize.ShloMosaic Idealize.ShloMosaic.TcCoe Idealize.SL.Sem
open Idealize.ShloMosaic.Pipeline (Dat)

namespace Cert.Kernel2Ideal.Fb
open Cert.Kernel2Ideal Cert.Kernel2Ideal.Gen Cert.FfSpec

variable (x0 x2 : Vec Ideal S512x1024 .f32) (x6 : Vec Ideal S1x1024 .f32) (x9 : Vec Ideal S2048x1024 .bf16) (x3 x4 : Vec Ideal S512x2048 .bf16)

/-- The gradient of the activation's product over a tile. -/
def daL (d : S512x1024.Idx → EReal) (w : S2048x1024.Idx → EReal) (r : Fin 512) (k : Fin 2048) : EReal :=
  dotT (row d r) (fun i => w (ix2 k i))

/-- The gradient of the gate over a tile. -/
def gL (d : S512x1024.Idx → EReal) (w : S2048x1024.Idx → EReal) (g u : S512x2048.Idx → EReal) : S512x2048.Idx → EReal :=
  fun j => gateB (daL d w (j 0) (j 1)) (g j) (u j)

/-- The gradient of the other factor over a tile. -/
def uL (d : S512x1024.Idx → EReal) (w : S2048x1024.Idx → EReal) (g : S512x2048.Idx → EReal) : S512x2048.Idx → EReal :=
  fun j => upB (daL d w (j 0) (j 1)) (g j)

theorem g_pay0 (r : Fin 512) (e : Fin 256) :
    k0_pay14 (k0_pay11 x0 x2 x6 (View.ld x9 (Rect.unit ![0, 0] ![256, 1024] inb_S2048x1024_S256x1024_0_0))) (View.ld x3 (Rect.unit ![0, 0] ![512, 256] inb_S512x2048_S512x256_0_0)) (View.ld x4 (Rect.unit ![0, 0] ![512, 256] inb_S512x2048_S512x256_0_0)) (ix2 r e)
      = gL (k0_pay10 x0 x2 x6) x9 x3 x4 (ix2 r (col 0 e)) := by
  unfold gL gateB daL dotT row lit
  pointwise [k0_pay11, k0_pay12, k0_pay13, k0_pay14, k0_pay15]
  have hc : (⟨e.val, by omega⟩ : Fin 2048) = col 0 e := Fin.ext (by simp [col])
  simp only [hc]

theorem u_pay0 (r : Fin 512) (e : Fin 256) :
    k0_pay15 (k0_pay11 x0 x2 x6 (View.ld x9 (Rect.unit ![0, 0] ![256, 1024] inb_S2048x1024_S256x1024_0_0))) (View.ld x3 (Rect.unit ![0, 0] ![512, 256] inb_S512x2048_S512x256_0_0)) (ix2 r e)
      = uL (k0_pay10 x0 x2 x6) x9 x3 (ix2 r (col 0 e)) := by
  unfold uL upB daL dotT row
  pointwise [k0_pay11, k0_pay12, k0_pay13, k0_pay14, k0_pay15]
  have hc : (⟨e.val, by omega⟩ : Fin 2048) = col 0 e := Fin.ext (by simp [col])
  simp only [hc]

theorem g_pay1 (r : Fin 512) (e : Fin 256) :
    k0_pay19 (k0_pay10 x0 x2 x6) (View.ld x9 (Rect.unit ![256, 0] ![256, 1024] inb_S2048x1024_S256x1024_256_0)) (View.ld x3 (Rect.unit ![0, 256] ![512, 256] inb_S512x2048_S512x256_0_256)) (View.ld x4 (Rect.unit ![0, 256] ![512, 256] inb_S512x2048_S512x256_0_256)) (ix2 r e)
      = gL (k0_pay10 x0 x2 x6) x9 x3 x4 (ix2 r (col 1 e)) := by
  unfold gL gateB daL dotT row lit
  pointwise [k0_pay16, k0_pay17, k0_pay18, k0_pay19, k0_pay20]
  rfl

theorem u_pay1 (r : Fin 512) (e : Fin 256) :
    k0_pay20 (k0_pay16 (k0_pay10 x0 x2 x6) (View.ld x9 (Rect.unit ![256, 0] ![256, 1024] inb_S2048x1024_S256x1024_256_0))) (k0_pay17 (View.ld x3 (Rect.unit ![0, 256] ![512, 256] inb_S512x2048_S512x256_0_256))) (k0_pay18 (View.ld x3 (Rect.unit ![0, 256] ![512, 256] inb_S512x2048_S512x256_0_256))) (ix2 r e)
      = uL (k0_pay10 x0 x2 x6) x9 x3 (ix2 r (col 1 e)) := by
  unfold uL upB daL dotT row
  pointwise [k0_pay16, k0_pay17, k0_pay18, k0_pay19, k0_pay20]
  rfl

theorem g_pay2 (r : Fin 512) (e : Fin 256) :
    k0_pay24 (k0_pay10 x0 x2 x6) (View.ld x9 (Rect.unit ![512, 0] ![256, 1024] inb_S2048x1024_S256x1024_512_0)) (View.ld x3 (Rect.unit ![0, 512] ![512, 256] inb_S512x2048_S512x256_0_512)) (View.ld x4 (Rect.unit ![0, 512] ![512, 256] inb_S512x2048_S512x256_0_512)) (ix2 r e)
      = gL (k0_pay10 x0 x2 x6) x9 x3 x4 (ix2 r (col 2 e)) := by
  unfold gL gateB daL dotT row lit
  pointwise [k0_pay21, k0_pay22, k0_pay23, k0_pay24, k0_pay25]
  rfl

theorem u_pay2 (r : Fin 512) (e : Fin 256) :
    k0_pay25 (k0_pay10 x0 x2 x6) (View.ld x9 (Rect.unit ![512, 0] ![256, 1024] inb_S2048x1024_S256x1024_512_0)) (View.ld x3 (Rect.unit ![0, 512] ![512, 256] inb_S512x2048_S512x256_0_512)) (ix2 r e)
      = uL (k0_pay10 x0 x2 x6) x9 x3 (ix2 r (col 2 e)) := by
  unfold uL upB daL dotT row
  pointwise [k0_pay21, k0_pay22, k0_pay23, k0_pay24, k0_pay25]
  rfl

theorem g_pay3 (r : Fin 512) (e : Fin 256) :
    k0_pay30 (k0_pay26 (k0_pay10 x0 x2 x6) (View.ld x9 (Rect.unit ![768, 0] ![256, 1024] inb_S2048x1024_S256x1024_768_0))) (k0_pay27 (View.ld x3 (Rect.unit ![0, 768] ![512, 256] inb_S512x2048_S512x256_0_768))) (View.ld x4 (Rect.unit ![0, 768] ![512, 256] inb_S512x2048_S512x256_0_768)) (ix2 r e)
      = gL (k0_pay10 x0 x2 x6) x9 x3 x4 (ix2 r (col 3 e)) := by
  unfold gL gateB daL dotT row lit
  pointwise [k0_pay26, k0_pay27, k0_pay28, k0_pay29, k0_pay30, k0_pay31]
  rfl

theorem u_pay3 (r : Fin 512) (e : Fin 256) :
    k0_pay31 (k0_pay26 (k0_pay10 x0 x2 x6) (View.ld x9 (Rect.unit ![768, 0] ![256, 1024] inb_S2048x1024_S256x1024_768_0))) (k0_pay27 (View.ld x3 (Rect.unit ![0, 768] ![512, 256] inb_S512x2048_S512x256_0_768))) (ix2 r e)
      = uL (k0_pay10 x0 x2 x6) x9 x3 (ix2 r (col 3 e)) := by
  unfold uL upB daL dotT row
  pointwise [k0_pay26, k0_pay27, k0_pay28, k0_pay29, k0_pay30, k0_pay31]
  rfl

theorem g_pay4 (r : Fin 512) (e : Fin 256) :
    k0_pay35 (k0_pay10 x0 x2 x6) (View.ld x9 (Rect.unit ![1024, 0] ![256, 1024] inb_S2048x1024_S256x1024_1024_0)) (View.ld x3 (Rect.unit ![0, 1024] ![512, 256] inb_S512x2048_S512x256_0_1024)) (View.ld x4 (Rect.unit ![0, 1024] ![512, 256] inb_S512x2048_S512x256_0_1024)) (ix2 r e)
      = gL (k0_pay10 x0 x2 x6) x9 x3 x4 (ix2 r (col 4 e)) := by
  unfold gL gateB daL dotT row lit
  pointwise [k0_pay32, k0_pay33, k0_pay34, k0_pay35, k0_pay36]
  rfl

theorem u_pay4 (r : Fin 512) (e : Fin 256) :
    k0_pay36 (k0_pay32 (k0_pay10 x0 x2 x6) (View.ld x9 (Rect.unit ![1024, 0] ![256, 1024] inb_S2048x1024_S256x1024_1024_0))) (k0_pay33 (View.ld x3 (Rect.unit ![0, 1024] ![512, 256] inb_S512x2048_S512x256_0_1024))) (k0_pay34 (View.ld x3 (Rect.unit ![0, 1024] ![512, 256] inb_S512x2048_S512x256_0_1024))) (ix2 r e)
      = uL (k0_pay10 x0 x2 x6) x9 x3 (ix2 r (col 4 e)) := by
  unfold uL upB daL dotT row
  pointwise [k0_pay32, k0_pay33, k0_pay34, k0_pay35, k0_pay36]
  rfl

theorem g_pay5 (r : Fin 512) (e : Fin 256) :
    k0_pay40 (k0_pay10 x0 x2 x6) (View.ld x9 (Rect.unit ![1280, 0] ![256, 1024] inb_S2048x1024_S256x1024_1280_0)) (View.ld x3 (Rect.unit ![0, 1280] ![512, 256] inb_S512x2048_S512x256_0_1280)) (View.ld x4 (Rect.unit ![0, 1280] ![512, 256] inb_S512x2048_S512x256_0_1280)) (ix2 r e)
      = gL (k0_pay10 x0 x2 x6) x9 x3 x4 (ix2 r (col 5 e)) := by
  unfold gL gateB daL dotT row lit
  pointwise [k0_pay37, k0_pay38, k0_pay39, k0_pay40, k0_pay41]
  rfl

theorem u_pay5 (r : Fin 512) (e : Fin 256) :
    k0_pay41 (k0_pay10 x0 x2 x6) (View.ld x9 (Rect.unit ![1280, 0] ![256, 1024] inb_S2048x1024_S256x1024_1280_0)) (View.ld x3 (Rect.unit ![0, 1280] ![512, 256] inb_S512x2048_S512x256_0_1280)) (ix2 r e)
      = uL (k0_pay10 x0 x2 x6) x9 x3 (ix2 r (col 5 e)) := by
  unfold uL upB daL dotT row
  pointwise [k0_pay37, k0_pay38, k0_pay39, k0_pay40, k0_pay41]
  rfl

theorem g_pay6 (r : Fin 512) (e : Fin 256) :
    k0_pay45 (k0_pay42 (k0_pay10 x0 x2 x6) (View.ld x9 (Rect.unit ![1536, 0] ![256, 1024] inb_S2048x1024_S256x1024_1536_0))) (k0_pay43 (View.ld x3 (Rect.unit ![0, 1536] ![512, 256] inb_S512x2048_S512x256_0_1536))) (View.ld x4 (Rect.unit ![0, 1536] ![512, 256] inb_S512x2048_S512x256_0_1536)) (ix2 r e)
      = gL (k0_pay10 x0 x2 x6) x9 x3 x4 (ix2 r (col 6 e)) := by
  unfold gL gateB daL dotT row lit
  pointwise [k0_pay42, k0_pay43, k0_pay44, k0_pay45, k0_pay46]
  rfl

theorem u_pay6 (r : Fin 512) (e : Fin 256) :
    k0_pay46 (k0_pay42 (k0_pay10 x0 x2 x6) (View.ld x9 (Rect.unit ![1536, 0] ![256, 1024] inb_S2048x1024_S256x1024_1536_0))) (k0_pay43 (View.ld x3 (Rect.unit ![0, 1536] ![512, 256] inb_S512x2048_S512x256_0_1536))) (ix2 r e)
      = uL (k0_pay10 x0 x2 x6) x9 x3 (ix2 r (col 6 e)) := by
  unfold uL upB daL dotT row
  pointwise [k0_pay42, k0_pay43, k0_pay44, k0_pay45, k0_pay46]
  rfl

theorem g_pay7 (r : Fin 512) (e : Fin 256) :
    k0_pay50 (k0_pay10 x0 x2 x6) (View.ld x9 (Rect.unit ![1792, 0] ![256, 1024] inb_S2048x1024_S256x1024_1792_0)) (View.ld x3 (Rect.unit ![0, 1792] ![512, 256] inb_S512x2048_S512x256_0_1792)) (View.ld x4 (Rect.unit ![0, 1792] ![512, 256] inb_S512x2048_S512x256_0_1792)) (ix2 r e)
      = gL (k0_pay10 x0 x2 x6) x9 x3 x4 (ix2 r (col 7 e)) := by
  unfold gL gateB daL dotT row lit
  pointwise [k0_pay47, k0_pay48, k0_pay49, k0_pay50, k0_pay51, k0_pay52]
  rfl

theorem u_pay7 (r : Fin 512) (e : Fin 256) :
    k0_pay52 (k0_pay51 (k0_pay10 x0 x2 x6) (View.ld x9 (Rect.unit ![1792, 0] ![256, 1024] inb_S2048x1024_S256x1024_1792_0)) (View.ld x3 (Rect.unit ![0, 1792] ![512, 256] inb_S512x2048_S512x256_0_1792))) (ix2 r e)
      = uL (k0_pay10 x0 x2 x6) x9 x3 (ix2 r (col 7 e)) := by
  unfold uL upB daL dotT row
  pointwise [k0_pay47, k0_pay48, k0_pay49, k0_pay50, k0_pay51, k0_pay52]
  rfl

theorem g_cn : View.canon (Val := Elt Ideal) (s := S512x2048) (e := .bf16) ([⟨Rect.unit ![0, 1792] ![512, 256] inb_S512x2048_S512x256_0_1792, k0_pay50 (k0_pay10 x0 x2 x6) (View.ld x9 (Rect.unit ![1792, 0] ![256, 1024] inb_S2048x1024_S256x1024_1792_0)) (View.ld x3 (Rect.unit ![0, 1792] ![512, 256] inb_S512x2048_S512x256_0_1792)) (View.ld x4 (Rect.unit ![0, 1792] ![512, 256] inb_S512x2048_S512x256_0_1792))⟩, ⟨Rect.unit ![0, 1536] ![512, 256] inb_S512x2048_S512x256_0_1536, k0_pay45 (k0_pay42 (k0_pay10 x0 x2 x6) (View.ld x9 (Rect.unit ![1536, 0] ![256, 1024] inb_S2048x1024_S256x1024_1536_0))) (k0_pay43 (View.ld x3 (Rect.unit ![0, 1536] ![512, 256] inb_S512x2048_S512x256_0_1536))) (View.ld x4 (Rect.unit ![0, 1536] ![512, 256] inb_S512x2048_S512x256_0_1536))⟩, ⟨Rect.unit ![0, 1280] ![512, 256] inb_S512x2048_S512x256_0_1280, k0_pay40 (k0_pay10 x0 x2 x6) (View.ld x9 (Rect.unit ![1280, 0] ![256, 1024] inb_S2048x1024_S256x1024_1280_0)) (View.ld x3 (Rect.unit ![0, 1280] ![512, 256] inb_S512x2048_S512x256_0_1280)) (View.ld x4 (Rect.unit ![0, 1280] ![512, 256] inb_S512x2048_S512x256_0_1280))⟩, ⟨Rect.unit ![0, 1024] ![512, 256] inb_S512x2048_S512x256_0_1024, k0_pay35 (k0_pay10 x0 x2 x6) (View.ld x9 (Rect.unit ![1024, 0] ![256, 1024] inb_S2048x1024_S256x1024_1024_0)) (View.ld x3 (Rect.unit ![0, 1024] ![512, 256] inb_S512x2048_S512x256_0_1024)) (View.ld x4 (Rect.unit ![0, 1024] ![512, 256] inb_S512x2048_S512x256_0_1024))⟩, ⟨Rect.unit ![0, 768] ![512, 256] inb_S512x2048_S512x256_0_768, k0_pay30 (k0_pay26 (k0_pay10 x0 x2 x6) (View.ld x9 (Rect.unit ![768, 0] ![256, 1024] inb_S2048x1024_S256x1024_768_0))) (k0_pay27 (View.ld x3 (Rect.unit ![0, 768] ![512, 256] inb_S512x2048_S512x256_0_768))) (View.ld x4 (Rect.unit ![0, 768] ![512, 256] inb_S512x2048_S512x256_0_768))⟩, ⟨Rect.unit ![0, 512] ![512, 256] inb_S512x2048_S512x256_0_512, k0_pay24 (k0_pay10 x0 x2 x6) (View.ld x9 (Rect.unit ![512, 0] ![256, 1024] inb_S2048x1024_S256x1024_512_0)) (View.ld x3 (Rect.unit ![0, 512] ![512, 256] inb_S512x2048_S512x256_0_512)) (View.ld x4 (Rect.unit ![0, 512] ![512, 256] inb_S512x2048_S512x256_0_512))⟩, ⟨Rect.unit ![0, 256] ![512, 256] inb_S512x2048_S512x256_0_256, k0_pay19 (k0_pay10 x0 x2 x6) (View.ld x9 (Rect.unit ![256, 0] ![256, 1024] inb_S2048x1024_S256x1024_256_0)) (View.ld x3 (Rect.unit ![0, 256] ![512, 256] inb_S512x2048_S512x256_0_256)) (View.ld x4 (Rect.unit ![0, 256] ![512, 256] inb_S512x2048_S512x256_0_256))⟩, ⟨Rect.unit ![0, 0] ![512, 256] inb_S512x2048_S512x256_0_0, k0_pay14 (k0_pay11 x0 x2 x6 (View.ld x9 (Rect.unit ![0, 0] ![256, 1024] inb_S2048x1024_S256x1024_0_0))) (View.ld x3 (Rect.unit ![0, 0] ![512, 256] inb_S512x2048_S512x256_0_0)) (View.ld x4 (Rect.unit ![0, 0] ![512, 256] inb_S512x2048_S512x256_0_0))⟩] : List (View.Piece (Elt Ideal) S512x2048 .bf16)) = gL (k0_pay10 x0 x2 x6) x9 x3 x4 :=
  cn_all _ _ _ _ _ _ _ _ _ _ _ _ _ _ _ _ _ (g_pay0 x0 x2 x6 x9 x3 x4) (g_pay1 x0 x2 x6 x9 x3 x4) (g_pay2 x0 x2 x6 x9 x3 x4) (g_pay3 x0 x2 x6 x9 x3 x4) (g_pay4 x0 x2 x6 x9 x3 x4) (g_pay5 x0 x2 x6 x9 x3 x4) (g_pay6 x0 x2 x6 x9 x3 x4) (g_pay7 x0 x2 x6 x9 x3 x4)

theorem g_rd {κ : Kind} {sp : Space} (vw : View sig κ sp S512x2048 .bf16) (inb) :
    vw.readCov ([⟨Rect.unit ![0, 1792] ![512, 256] inb_S512x2048_S512x256_0_1792, k0_pay50 (k0_pay10 x0 x2 x6) (View.ld x9 (Rect.unit ![1792, 0] ![256, 1024] inb_S2048x1024_S256x1024_1792_0)) (View.ld x3 (Rect.unit ![0, 1792] ![512, 256] inb_S512x2048_S512x256_0_1792)) (View.ld x4 (Rect.unit ![0, 1792] ![512, 256] inb_S512x2048_S512x256_0_1792))⟩, ⟨Rect.unit ![0, 1536] ![512, 256] inb_S512x2048_S512x256_0_1536, k0_pay45 (k0_pay42 (k0_pay10 x0 x2 x6) (View.ld x9 (Rect.unit ![1536, 0] ![256, 1024] inb_S2048x1024_S256x1024_1536_0))) (k0_pay43 (View.ld x3 (Rect.unit ![0, 1536] ![512, 256] inb_S512x2048_S512x256_0_1536))) (View.ld x4 (Rect.unit ![0, 1536] ![512, 256] inb_S512x2048_S512x256_0_1536))⟩, ⟨Rect.unit ![0, 1280] ![512, 256] inb_S512x2048_S512x256_0_1280, k0_pay40 (k0_pay10 x0 x2 x6) (View.ld x9 (Rect.unit ![1280, 0] ![256, 1024] inb_S2048x1024_S256x1024_1280_0)) (View.ld x3 (Rect.unit ![0, 1280] ![512, 256] inb_S512x2048_S512x256_0_1280)) (View.ld x4 (Rect.unit ![0, 1280] ![512, 256] inb_S512x2048_S512x256_0_1280))⟩, ⟨Rect.unit ![0, 1024] ![512, 256] inb_S512x2048_S512x256_0_1024, k0_pay35 (k0_pay10 x0 x2 x6) (View.ld x9 (Rect.unit ![1024, 0] ![256, 1024] inb_S2048x1024_S256x1024_1024_0)) (View.ld x3 (Rect.unit ![0, 1024] ![512, 256] inb_S512x2048_S512x256_0_1024)) (View.ld x4 (Rect.unit ![0, 1024] ![512, 256] inb_S512x2048_S512x256_0_1024))⟩, ⟨Rect.unit ![0, 768] ![512, 256] inb_S512x2048_S512x256_0_768, k0_pay30 (k0_pay26 (k0_pay10 x0 x2 x6) (View.ld x9 (Rect.unit ![768, 0] ![256, 1024] inb_S2048x1024_S256x1024_768_0))) (k0_pay27 (View.ld x3 (Rect.unit ![0, 768] ![512, 256] inb_S512x2048_S512x256_0_768))) (View.ld x4 (Rect.unit ![0, 768] ![512, 256] inb_S512x2048_S512x256_0_768))⟩, ⟨Rect.unit ![0, 512] ![512, 256] inb_S512x2048_S512x256_0_512, k0_pay24 (k0_pay10 x0 x2 x6) (View.ld x9 (Rect.unit ![512, 0] ![256, 1024] inb_S2048x1024_S256x1024_512_0)) (View.ld x3 (Rect.unit ![0, 512] ![512, 256] inb_S512x2048_S512x256_0_512)) (View.ld x4 (Rect.unit ![0, 512] ![512, 256] inb_S512x2048_S512x256_0_512))⟩, ⟨Rect.unit ![0, 256] ![512, 256] inb_S512x2048_S512x256_0_256, k0_pay19 (k0_pay10 x0 x2 x6) (View.ld x9 (Rect.unit ![256, 0] ![256, 1024] inb_S2048x1024_S256x1024_256_0)) (View.ld x3 (Rect.unit ![0, 256] ![512, 256] inb_S512x2048_S512x256_0_256)) (View.ld x4 (Rect.unit ![0, 256] ![512, 256] inb_S512x2048_S512x256_0_256))⟩, ⟨Rect.unit ![0, 0] ![512, 256] inb_S512x2048_S512x256_0_0, k0_pay14 (k0_pay11 x0 x2 x6 (View.ld x9 (Rect.unit ![0, 0] ![256, 1024] inb_S2048x1024_S256x1024_0_0))) (View.ld x3 (Rect.unit ![0, 0] ![512, 256] inb_S512x2048_S512x256_0_0)) (View.ld x4 (Rect.unit ![0, 0] ![512, 256] inb_S512x2048_S512x256_0_0))⟩] : List (View.Piece (Elt Ideal) S512x2048 .bf16)) (Rect.unit (s := S512x2048) ![0, 0] ![512, 2048] inb).toLoadRect = gL (k0_pay10 x0 x2 x6) x9 x3 x4 :=
  rd_all vw _ _ _ _ _ _ _ _ _ _ _ _ _ _ _ _ _ (g_pay0 x0 x2 x6 x9 x3 x4) (g_pay1 x0 x2 x6 x9 x3 x4) (g_pay2 x0 x2 x6 x9 x3 x4) (g_pay3 x0 x2 x6 x9 x3 x4) (g_pay4 x0 x2 x6 x9 x3 x4) (g_pay5 x0 x2 x6 x9 x3 x4) (g_pay6 x0 x2 x6 x9 x3 x4) (g_pay7 x0 x2 x6 x9 x3 x4) inb

theorem u_cn : View.canon (Val := Elt Ideal) (s := S512x2048) (e := .bf16) ([⟨Rect.unit ![0, 1792] ![512, 256] inb_S512x2048_S512x256_0_1792, k0_pay52 (k0_pay51 (k0_pay10 x0 x2 x6) (View.ld x9 (Rect.unit ![1792, 0] ![256, 1024] inb_S2048x1024_S256x1024_1792_0)) (View.ld x3 (Rect.unit ![0, 1792] ![512, 256] inb_S512x2048_S512x256_0_1792)))⟩, ⟨Rect.unit ![0, 1536] ![512, 256] inb_S512x2048_S512x256_0_1536, k0_pay46 (k0_pay42 (k0_pay10 x0 x2 x6) (View.ld x9 (Rect.unit ![1536, 0] ![256, 1024] inb_S2048x1024_S256x1024_1536_0))) (k0_pay43 (View.ld x3 (Rect.unit ![0, 1536] ![512, 256] inb_S512x2048_S512x256_0_1536)))⟩, ⟨Rect.unit ![0, 1280] ![512, 256] inb_S512x2048_S512x256_0_1280, k0_pay41 (k0_pay10 x0 x2 x6) (View.ld x9 (Rect.unit ![1280, 0] ![256, 1024] inb_S2048x1024_S256x1024_1280_0)) (View.ld x3 (Rect.unit ![0, 1280] ![512, 256] inb_S512x2048_S512x256_0_1280))⟩, ⟨Rect.unit ![0, 1024] ![512, 256] inb_S512x2048_S512x256_0_1024, k0_pay36 (k0_pay32 (k0_pay10 x0 x2 x6) (View.ld x9 (Rect.unit ![1024, 0] ![256, 1024] inb_S2048x1024_S256x1024_1024_0))) (k0_pay33 (View.ld x3 (Rect.unit ![0, 1024] ![512, 256] inb_S512x2048_S512x256_0_1024))) (k0_pay34 (View.ld x3 (Rect.unit ![0, 1024] ![512, 256] inb_S512x2048_S512x256_0_1024)))⟩, ⟨Rect.unit ![0, 768] ![512, 256] inb_S512x2048_S512x256_0_768, k0_pay31 (k0_pay26 (k0_pay10 x0 x2 x6) (View.ld x9 (Rect.unit ![768, 0] ![256, 1024] inb_S2048x1024_S256x1024_768_0))) (k0_pay27 (View.ld x3 (Rect.unit ![0, 768] ![512, 256] inb_S512x2048_S512x256_0_768)))⟩, ⟨Rect.unit ![0, 512] ![512, 256] inb_S512x2048_S512x256_0_512, k0_pay25 (k0_pay10 x0 x2 x6) (View.ld x9 (Rect.unit ![512, 0] ![256, 1024] inb_S2048x1024_S256x1024_512_0)) (View.ld x3 (Rect.unit ![0, 512] ![512, 256] inb_S512x2048_S512x256_0_512))⟩, ⟨Rect.unit ![0, 256] ![512, 256] inb_S512x2048_S512x256_0_256, k0_pay20 (k0_pay16 (k0_pay10 x0 x2 x6) (View.ld x9 (Rect.unit ![256, 0] ![256, 1024] inb_S2048x1024_S256x1024_256_0))) (k0_pay17 (View.ld x3 (Rect.unit ![0, 256] ![512, 256] inb_S512x2048_S512x256_0_256))) (k0_pay18 (View.ld x3 (Rect.unit ![0, 256] ![512, 256] inb_S512x2048_S512x256_0_256)))⟩, ⟨Rect.unit ![0, 0] ![512, 256] inb_S512x2048_S512x256_0_0, k0_pay15 (k0_pay11 x0 x2 x6 (View.ld x9 (Rect.unit ![0, 0] ![256, 1024] inb_S2048x1024_S256x1024_0_0))) (View.ld x3 (Rect.unit ![0, 0] ![512, 256] inb_S512x2048_S512x256_0_0))⟩] : List (View.Piece (Elt Ideal) S512x2048 .bf16)) = uL (k0_pay10 x0 x2 x6) x9 x3 :=
  cn_all _ _ _ _ _ _ _ _ _ _ _ _ _ _ _ _ _ (u_pay0 x0 x2 x6 x9 x3) (u_pay1 x0 x2 x6 x9 x3) (u_pay2 x0 x2 x6 x9 x3) (u_pay3 x0 x2 x6 x9 x3) (u_pay4 x0 x2 x6 x9 x3) (u_pay5 x0 x2 x6 x9 x3) (u_pay6 x0 x2 x6 x9 x3) (u_pay7 x0 x2 x6 x9 x3)

theorem u_rd {κ : Kind} {sp : Space} (vw : View sig κ sp S512x2048 .bf16) (inb) :
    vw.readCov ([⟨Rect.unit ![0, 1792] ![512, 256] inb_S512x2048_S512x256_0_1792, k0_pay52 (k0_pay51 (k0_pay10 x0 x2 x6) (View.ld x9 (Rect.unit ![1792, 0] ![256, 1024] inb_S2048x1024_S256x1024_1792_0)) (View.ld x3 (Rect.unit ![0, 1792] ![512, 256] inb_S512x2048_S512x256_0_1792)))⟩, ⟨Rect.unit ![0, 1536] ![512, 256] inb_S512x2048_S512x256_0_1536, k0_pay46 (k0_pay42 (k0_pay10 x0 x2 x6) (View.ld x9 (Rect.unit ![1536, 0] ![256, 1024] inb_S2048x1024_S256x1024_1536_0))) (k0_pay43 (View.ld x3 (Rect.unit ![0, 1536] ![512, 256] inb_S512x2048_S512x256_0_1536)))⟩, ⟨Rect.unit ![0, 1280] ![512, 256] inb_S512x2048_S512x256_0_1280, k0_pay41 (k0_pay10 x0 x2 x6) (View.ld x9 (Rect.unit ![1280, 0] ![256, 1024] inb_S2048x1024_S256x1024_1280_0)) (View.ld x3 (Rect.unit ![0, 1280] ![512, 256] inb_S512x2048_S512x256_0_1280))⟩, ⟨Rect.unit ![0, 1024] ![512, 256] inb_S512x2048_S512x256_0_1024, k0_pay36 (k0_pay32 (k0_pay10 x0 x2 x6) (View.ld x9 (Rect.unit ![1024, 0] ![256, 1024] inb_S2048x1024_S256x1024_1024_0))) (k0_pay33 (View.ld x3 (Rect.unit ![0, 1024] ![512, 256] inb_S512x2048_S512x256_0_1024))) (k0_pay34 (View.ld x3 (Rect.unit ![0, 1024] ![512, 256] inb_S512x2048_S512x256_0_1024)))⟩, ⟨Rect.unit ![0, 768] ![512, 256] inb_S512x2048_S512x256_0_768, k0_pay31 (k0_pay26 (k0_pay10 x0 x2 x6) (View.ld x9 (Rect.unit ![768, 0] ![256, 1024] inb_S2048x1024_S256x1024_768_0))) (k0_pay27 (View.ld x3 (Rect.unit ![0, 768] ![512, 256] inb_S512x2048_S512x256_0_768)))⟩, ⟨Rect.unit ![0, 512] ![512, 256] inb_S512x2048_S512x256_0_512, k0_pay25 (k0_pay10 x0 x2 x6) (View.ld x9 (Rect.unit ![512, 0] ![256, 1024] inb_S2048x1024_S256x1024_512_0)) (View.ld x3 (Rect.unit ![0, 512] ![512, 256] inb_S512x2048_S512x256_0_512))⟩, ⟨Rect.unit ![0, 256] ![512, 256] inb_S512x2048_S512x256_0_256, k0_pay20 (k0_pay16 (k0_pay10 x0 x2 x6) (View.ld x9 (Rect.unit ![256, 0] ![256, 1024] inb_S2048x1024_S256x1024_256_0))) (k0_pay17 (View.ld x3 (Rect.unit ![0, 256] ![512, 256] inb_S512x2048_S512x256_0_256))) (k0_pay18 (View.ld x3 (Rect.unit ![0, 256] ![512, 256] inb_S512x2048_S512x256_0_256)))⟩, ⟨Rect.unit ![0, 0] ![512, 256] inb_S512x2048_S512x256_0_0, k0_pay15 (k0_pay11 x0 x2 x6 (View.ld x9 (Rect.unit ![0, 0] ![256, 1024] inb_S2048x1024_S256x1024_0_0))) (View.ld x3 (Rect.unit ![0, 0] ![512, 256] inb_S512x2048_S512x256_0_0))⟩] : List (View.Piece (Elt Ideal) S512x2048 .bf16)) (Rect.unit (s := S512x2048) ![0, 0] ![512, 2048] inb).toLoadRect = uL (k0_pay10 x0 x2 x6) x9 x3 :=
  rd_all vw _ _ _ _ _ _ _ _ _ _ _ _ _ _ _ _ _ (u_pay0 x0 x2 x6 x9 x3) (u_pay1 x0 x2 x6 x9 x3) (u_pay2 x0 x2 x6 x9 x3) (u_pay3 x0 x2 x6 x9 x3) (u_pay4 x0 x2 x6 x9 x3) (u_pay5 x0 x2 x6 x9 x3) (u_pay6 x0 x2 x6 x9 x3) (u_pay7 x0 x2 x6 x9 x3) inb

end Cert.Kernel2Ideal.Fb

end

end
-- ==== Proof.FbRows.lean ====
/- The vector operations of the feed-forward gradient kernel after its chunks, row by row. -/
module

public import proofs.«01_k».proof.Proof.FbRow
public import proofs.«01_k».proof.Proof.FbChunk

@[expose] public section

set_option maxRecDepth 16384

noncomputable section

open Idealize.ShloMosaic Idealize.ShloMosaic.TcCoe Idealize.SL.Sem
open Idealize.ShloMosaic.Pipeline (Dat)

namespace Cert.Kernel2Ideal.Fb
open Cert.Kernel2Ideal Cert.Kernel2Ideal.Gen Cert.FfSpec

variable (m : (ℓ : Loc nD τ sig) → Buf (Elt Ideal) ℓ)

section Pay
variable (x0 x1 x2 : Vec Ideal S512x1024 .f32) (x5 x6 : Vec Ideal S1x1024 .f32) (x7 x8 x9 : Vec Ideal S2048x1024 .bf16) (x3 x4 : Vec Ideal S512x2048 .bf16)

theorem pay53 (a : Vec Ideal S512x2048 .bf16) (b : Vec Ideal S512x2048 .bf16) (r : Fin 512) (k : Fin 1024) :
    k0_pay53 a x7 b x8 (ix2 r k) = (∑ j : Fin 2048, a (ix2 r j) * x7 (ix2 j k)) + ∑ j : Fin 2048, b (ix2 r j) * x8 (ix2 j k) := by
  pointwise [k0_pay53]

theorem pay54 (r : Fin 512) : k0_pay54 x1 (ix2 r 0) = rinv (row x1 r) := by
  unfold rinv row; pointwise [k0_pay54]

theorem pay55 (r : Fin 512) (k : Fin 1024) : k0_pay55 x1 (ix2 r k) = x1 (ix2 r k) * rinv (row x1 r) := by
  pointwise [k0_pay55]
  simp only [pay54]

theorem pay56 (a : Vec Ideal S512x2048 .bf16) (b : Vec Ideal S512x2048 .bf16) (r : Fin 512) (k : Fin 1024) :
    k0_pay56 a x7 b x8 x1 x5 (ix2 r k) = rmsB (row x1 r) (one x5) (row (k0_pay53 a x7 b x8) r) k := by
  unfold rmsB
  pointwise [k0_pay56]
  simp only [pay54, pay55]

theorem pay1 (a b : Vec Ideal S512x1024 .f32) (k : Fin 1024) : k0_pay1 (F := Ideal) a b (ix2 0 k) = ∑ r : Fin 512, a (ix2 r k) * b (ix2 r k) := by
  pointwise [k0_pay1]

theorem pay3 (a b : Vec Ideal S512x1024 .f32) (p : Vec Ideal S1x1024 .f32) (k : Fin 1024) :
    k0_pay3 a b p (ix2 0 k) = p (ix2 0 k) + ∑ r : Fin 512, a (ix2 r k) * b (ix2 r k) := by
  rw [← pay1]
  pointwise [k0_pay3]

theorem pay4 (a p : Vec Ideal S1x1024 .f32) (k : Fin 1024) : k0_pay4 a p (ix2 0 k) = p (ix2 0 k) + a (ix2 0 k) := by
  pointwise [k0_pay4]

theorem pay2 (a b : Vec Ideal S512x1024 .f32) (r : Fin 512) (k : Fin 1024) : k0_pay2 a b (ix2 r k) = a (ix2 r k) + b (ix2 r k) := by
  pointwise [k0_pay2]

/-- A matrix by its rows. -/
abbrev rows {n : ℕ} (x : (⟨2, ![n, 1024]⟩ : Shape).Idx → EReal) : Fin n → Fin 1024 → EReal := fun j k => x (ix2 j k)

theorem df_row (r : Fin 512) : row (k0_pay10 x0 x2 x6) r = dfR (row x0 r) (row x2 r) (one x6) :=
  funext fun k => pay10 x0 x2 x6 r k

theorem g_row (r : Fin 512) (j : Fin 2048) :
    gL (k0_pay10 x0 x2 x6) x9 x3 x4 (ix2 r j) = dgR (row x0 r) (row x2 r) (one x6) (rows x9) (row x3 r) (row x4 r) j := by
  show gateB (dotT (row (k0_pay10 x0 x2 x6) r) _) _ _ = _
  rw [df_row]; rfl

theorem u_row (r : Fin 512) (j : Fin 2048) :
    uL (k0_pay10 x0 x2 x6) x9 x3 (ix2 r j) = duR (row x0 r) (row x2 r) (one x6) (rows x9) (row x3 r) j := by
  show upB (dotT (row (k0_pay10 x0 x2 x6) r) _) _ = _
  rw [df_row]; rfl

theorem n_row (r : Fin 512) :
    row (k0_pay53 (gL (k0_pay10 x0 x2 x6) x9 x3 x4) x7 (uL (k0_pay10 x0 x2 x6) x9 x3) x8) r
      = dnR (row x0 r) (row x2 r) (one x6) (rows x9) (rows x7) (rows x8) (row x3 r) (row x4 r) := by
  funext k
  show k0_pay53 _ _ _ _ (ix2 r k) = _
  rw [pay53]
  simp only [g_row, u_row]
  rfl

end Pay

end Cert.Kernel2Ideal.Fb

end

end
-- ==== Proof.FbBlk.lean ====
/- What the blocks of the feed-forward gradient kernel read, and its results over whole arrays. -/
module

public import proofs.«01_k».proof.Proof.FbRows

@[expose] public section

set_option maxRecDepth 16384

noncomputable section

open Idealize.ShloMosaic Idealize.ShloMosaic.TcCoe Idealize.SL.Sem
open Idealize.ShloMosaic.Pipeline (Dat)

namespace Cert.Kernel2Ideal.Fb
open Cert.Kernel2Ideal Cert.Kernel2Ideal.Gen Cert.FfSpec

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![0, 0] ∧ win0_6.index t = ![0, 0] ∧ win0_7.index t = ![0, 0] ∧ win0_8.index t = ![0, 0] ∧ win0_9.index t = ![0, 0] ∧ win0_10.index t = ![t.val, 0] ∧ win0_11.index t = ![t.val, 0] ∧ win0_12.index t = ![t.val, 0] ∧ win0_13.index t = ![t.val, 0] ∧ win0_14.index t = ![0, 0] ∧ win0_15.index t = ![0, 0] ∧ t.val < 16 :=
  (by decide +kernel : ∀ t : Fin grid0.N, _)

theorem idx0 (t : Fin cfg0.N) : win0_0.index t = ![t.val, 0] := (idx t).1
theorem idx1 (t : Fin cfg0.N) : win0_1.index t = ![t.val, 0] := (idx t).2.1
theorem idx2 (t : Fin cfg0.N) : win0_2.index t = ![t.val, 0] := (idx t).2.2.1
theorem idx3 (t : Fin cfg0.N) : win0_3.index t = ![t.val, 0] := (idx t).2.2.2.1
theorem idx4 (t : Fin cfg0.N) : win0_4.index t = ![t.val, 0] := (idx t).2.2.2.2.1
theorem idx5 (t : Fin cfg0.N) : win0_5.index t = ![0, 0] := (idx t).2.2.2.2.2.1
theorem idx6 (t : Fin cfg0.N) : win0_6.index t = ![0, 0] := (idx t).2.2.2.2.2.2.1
theorem idx7 (t : Fin cfg0.N) : win0_7.index t = ![0, 0] := (idx t).2.2.2.2.2.2.2.1
theorem idx8 (t : Fin cfg0.N) : win0_8.index t = ![0, 0] := (idx t).2.2.2.2.2.2.2.2.1
theorem idx9 (t : Fin cfg0.N) : win0_9.index t = ![0, 0] := (idx t).2.2.2.2.2.2.2.2.2.1
theorem idx10 (t : Fin cfg0.N) : win0_10.index t = ![t.val, 0] := (idx t).2.2.2.2.2.2.2.2.2.2.1
theorem idx11 (t : Fin cfg0.N) : win0_11.index t = ![t.val, 0] := (idx t).2.2.2.2.2.2.2.2.2.2.2.1
theorem idx12 (t : Fin cfg0.N) : win0_12.index t = ![t.val, 0] := (idx t).2.2.2.2.2.2.2.2.2.2.2.2.1
theorem idx13 (t : Fin cfg0.N) : win0_13.index t = ![t.val, 0] := (idx t).2.2.2.2.2.2.2.2.2.2.2.2.2.1
theorem idx14 (t : Fin cfg0.N) : win0_14.index t = ![0, 0] := (idx t).2.2.2.2.2.2.2.2.2.2.2.2.2.2.1
theorem idx15 (t : Fin cfg0.N) : win0_15.index t = ![0, 0] := (idx t).2.2.2.2.2.2.2.2.2.2.2.2.2.2.2.1
theorem lt16 (t : Fin cfg0.N) : t.val < 16 := (idx t).2.2.2.2.2.2.2.2.2.2.2.2.2.2.2.2

/-- The row of the whole array that row `r` of the tile of point `t` is. -/
def grow (t : Fin cfg0.N) (r : Fin 512) : Fin 8192 := ⟨t.val * 512 + r.val, by have := lt16 t; omega⟩

theorem blk0 (c : Dev nD) (t : Fin cfg0.N) (r : Fin 512) (k : Fin 1024) : iblk m c 0 t (ix2 r k) = V m c main_arg6 (ix2 (grow t r) k) := by
  unfold grow; blk_ext [iblk, idx0]
theorem brow0 (c : Dev nD) (t : Fin cfg0.N) (r : Fin 512) : row (n := 1024) (iblk m c 0 t) r = fun k => V m c main_arg6 (ix2 (grow t r) k) :=
  funext fun k => blk0 m c t r k
theorem blk1 (c : Dev nD) (t : Fin cfg0.N) (r : Fin 512) (k : Fin 1024) : iblk m c 1 t (ix2 r k) = V m c main_arg0 (ix2 (grow t r) k) := by
  unfold grow; blk_ext [iblk, idx1]
theorem brow1 (c : Dev nD) (t : Fin cfg0.N) (r : Fin 512) : row (n := 1024) (iblk m c 1 t) r = fun k => V m c main_arg0 (ix2 (grow t r) k) :=
  funext fun k => blk1 m c t r k
theorem blk2 (c : Dev nD) (t : Fin cfg0.N) (r : Fin 512) (k : Fin 1024) : iblk m c 2 t (ix2 r k) = V m c main_v17 (ix2 (grow t r) k) := by
  unfold grow; blk_ext [iblk, idx2]
theorem brow2 (c : Dev nD) (t : Fin cfg0.N) (r : Fin 512) : row (n := 1024) (iblk m c 2 t) r = fun k => V m c main_v17 (ix2 (grow t r) k) :=
  funext fun k => blk2 m c t r k
theorem blk3 (c : Dev nD) (t : Fin cfg0.N) (r : Fin 512) (k : Fin 2048) : iblk m c 3 t (ix2 r k) = V m c main_v18 (ix2 (grow t r) k) := by
  unfold grow; blk_ext [iblk, idx3]
theorem brow3 (c : Dev nD) (t : Fin cfg0.N) (r : Fin 512) : row (n := 2048) (iblk m c 3 t) r = fun k => V m c main_v18 (ix2 (grow t r) k) :=
  funext fun k => blk3 m c t r k
theorem blk4 (c : Dev nD) (t : Fin cfg0.N) (r : Fin 512) (k : Fin 2048) : iblk m c 4 t (ix2 r k) = V m c main_v19 (ix2 (grow t r) k) := by
  unfold grow; blk_ext [iblk, idx4]
theorem brow4 (c : Dev nD) (t : Fin cfg0.N) (r : Fin 512) : row (n := 2048) (iblk m c 4 t) r = fun k => V m c main_v19 (ix2 (grow t r) k) :=
  funext fun k => blk4 m c t r k
theorem blk5 (c : Dev nD) (t : Fin cfg0.N) (k : Fin 1024) : iblk m c 5 t (ix2 0 k) = V m c main_v20 (ix2 0 k) := by
  blk_ext [iblk, idx5]
theorem brow5 (c : Dev nD) (t : Fin cfg0.N) : one (iblk m c 5 t) = fun k => V m c main_v20 (ix2 0 k) :=
  funext fun k => blk5 m c t k
theorem blk6 (c : Dev nD) (t : Fin cfg0.N) (k : Fin 1024) : iblk m c 6 t (ix2 0 k) = V m c main_v21 (ix2 0 k) := by
  blk_ext [iblk, idx6]
theorem brow6 (c : Dev nD) (t : Fin cfg0.N) : one (iblk m c 6 t) = fun k => V m c main_v21 (ix2 0 k) :=
  funext fun k => blk6 m c t k
theorem blk7 (c : Dev nD) (t : Fin cfg0.N) (j : Fin 2048) (k : Fin 1024) : iblk m c 7 t (ix2 j k) = V m c main_v23 (ix2 j k) := by
  blk_ext [iblk, idx7]
theorem brow7 (c : Dev nD) (t : Fin cfg0.N) : rows (n := 2048) (iblk m c 7 t) = fun j k => V m c main_v23 (ix2 j k) :=
  funext fun j => funext fun k => blk7 m c t j k
theorem blk8 (c : Dev nD) (t : Fin cfg0.N) (j : Fin 2048) (k : Fin 1024) : iblk m c 8 t (ix2 j k) = V m c main_v25 (ix2 j k) := by
  blk_ext [iblk, idx8]
theorem brow8 (c : Dev nD) (t : Fin cfg0.N) : rows (n := 2048) (iblk m c 8 t) = fun j k => V m c main_v25 (ix2 j k) :=
  funext fun j => funext fun k => blk8 m c t j k
theorem blk9 (c : Dev nD) (t : Fin cfg0.N) (j : Fin 2048) (k : Fin 1024) : iblk m c 9 t (ix2 j k) = V m c main_v26 (ix2 j k) := by
  blk_ext [iblk, idx9]
theorem brow9 (c : Dev nD) (t : Fin cfg0.N) : rows (n := 2048) (iblk m c 9 t) = fun j k => V m c main_v26 (ix2 j k) :=
  funext fun j => funext fun k => blk9 m c t j k

/-- The gradient of the branch before its normalisation. -/
def DF (c : Dev nD) (R : Fin 8192) (k : Fin 1024) : EReal := dfR (fun k => V m c main_arg6 (ix2 R k)) (fun k => V m c main_v17 (ix2 R k)) (fun k => V m c main_v21 (ix2 0 k)) k

/-- The gradient of the gate. -/
def DG (c : Dev nD) (R : Fin 8192) (k : Fin 2048) : EReal := dgR (fun k => V m c main_arg6 (ix2 R k)) (fun k => V m c main_v17 (ix2 R k)) (fun k => V m c main_v21 (ix2 0 k)) (fun j k => V m c main_v26 (ix2 j k)) (fun k => V m c main_v18 (ix2 R k)) (fun k => V m c main_v19 (ix2 R k)) k

/-- The gradient of the other factor. -/
def DU (c : Dev nD) (R : Fin 8192) (k : Fin 2048) : EReal := duR (fun k => V m c main_arg6 (ix2 R k)) (fun k => V m c main_v17 (ix2 R k)) (fun k => V m c main_v21 (ix2 0 k)) (fun j k => V m c main_v26 (ix2 j k)) (fun k => V m c main_v18 (ix2 R k)) k

/-- The gradient of the sublayer's input. -/
def DH (c : Dev nD) (R : Fin 8192) (k : Fin 1024) : EReal := dhR (fun k => V m c main_arg6 (ix2 R k)) (fun k => V m c main_arg0 (ix2 R k)) (fun k => V m c main_v17 (ix2 R k)) (fun k => V m c main_v20 (ix2 0 k)) (fun k => V m c main_v21 (ix2 0 k)) (fun j k => V m c main_v26 (ix2 j k)) (fun j k => V m c main_v23 (ix2 j k)) (fun j k => V m c main_v25 (ix2 j k)) (fun k => V m c main_v18 (ix2 R k)) (fun k => V m c main_v19 (ix2 R k)) k

/-- The gradient of the scale before the sublayer, of one row. -/
def DP (c : Dev nD) (R : Fin 8192) (k : Fin 1024) : EReal := dpR (fun k => V m c main_arg6 (ix2 R k)) (fun k => V m c main_arg0 (ix2 R k)) (fun k => V m c main_v17 (ix2 R k)) (fun k => V m c main_v21 (ix2 0 k)) (fun j k => V m c main_v26 (ix2 j k)) (fun j k => V m c main_v23 (ix2 j k)) (fun j k => V m c main_v25 (ix2 j k)) (fun k => V m c main_v18 (ix2 R k)) (fun k => V m c main_v19 (ix2 R k)) k

/-- The gradient of the scale after the sublayer, of one row. -/
def DQ (c : Dev nD) (R : Fin 8192) (k : Fin 1024) : EReal := dqR (fun k => V m c main_arg6 (ix2 R k)) (fun k => V m c main_v17 (ix2 R k)) k

end Cert.Kernel2Ideal.Fb

end

end
-- ==== Proof.FbOut.lean ====
/- The results of the feed-forward gradient kernel at a grid point. -/
module

public import proofs.«01_k».proof.Proof.FbBlk

@[expose] public section

set_option maxRecDepth 16384

noncomputable section

open Idealize.ShloMosaic Idealize.ShloMosaic.TcCoe Idealize.SL.Sem
open Idealize.ShloMosaic.Pipeline (Dat)

namespace Cert.Kernel2Ideal.Fb
open Cert.Kernel2Ideal Cert.Kernel2Ideal.Gen Cert.FfSpec

variable (m : (ℓ : Loc nD τ sig) → Buf (Elt Ideal) ℓ)

theorem df_A (c : Dev nD) (t : Fin cfg0.N) (h0 : t.val % 16 = 0) (h1 : ¬1 ≤ t.val) (r : Fin 512) (k : Fin 1024) :
    (outsAt0 m c t.val t.isLt).2.1 (ix2 r k) = DF m c (grow t r) k := by
  rw [outsAt0_A m c t h0 h1 h0 h1]
  frame_out
  rw [pay10]; unfold DF dfR; rw [brow2, brow6]; simp only [blk0]

theorem df_B (c : Dev nD) (t : Fin cfg0.N) (h0 : ¬t.val % 16 = 0) (h1 : 1 ≤ t.val) (r : Fin 512) (k : Fin 1024) :
    (outsAt0 m c t.val t.isLt).2.1 (ix2 r k) = DF m c (grow t r) k := by
  rw [outsAt0_B m c t h0 h1 h0 h1]
  frame_out
  rw [pay10]; unfold DF dfR; rw [brow2, brow6]; simp only [blk0]

theorem dg_A (c : Dev nD) (t : Fin cfg0.N) (h0 : t.val % 16 = 0) (h1 : ¬1 ≤ t.val) (r : Fin 512) (j : Fin 2048) :
    (outsAt0 m c t.val t.isLt).2.2.1 (ix2 r j) = DG m c (grow t r) j := by
  rw [outsAt0_A m c t h0 h1 h0 h1]
  frame_out
  rw [g_cn, g_row, brow0, brow2, brow6, brow9, brow3, brow4]; rfl

theorem dg_B (c : Dev nD) (t : Fin cfg0.N) (h0 : ¬t.val % 16 = 0) (h1 : 1 ≤ t.val) (r : Fin 512) (j : Fin 2048) :
    (outsAt0 m c t.val t.isLt).2.2.1 (ix2 r j) = DG m c (grow t r) j := by
  rw [outsAt0_B m c t h0 h1 h0 h1]
  frame_out
  rw [g_cn, g_row, brow0, brow2, brow6, brow9, brow3, brow4]; rfl

theorem du_A (c : Dev nD) (t : Fin cfg0.N) (h0 : t.val % 16 = 0) (h1 : ¬1 ≤ t.val) (r : Fin 512) (j : Fin 2048) :
    (outsAt0 m c t.val t.isLt).2.2.2.1 (ix2 r j) = DU m c (grow t r) j := by
  rw [outsAt0_A m c t h0 h1 h0 h1]
  frame_out
  rw [u_cn, u_row, brow0, brow2, brow6, brow9, brow3]; rfl

theorem du_B (c : Dev nD) (t : Fin cfg0.N) (h0 : ¬t.val % 16 = 0) (h1 : 1 ≤ t.val) (r : Fin 512) (j : Fin 2048) :
    (outsAt0 m c t.val t.isLt).2.2.2.1 (ix2 r j) = DU m c (grow t r) j := by
  rw [outsAt0_B m c t h0 h1 h0 h1]
  frame_out
  rw [u_cn, u_row, brow0, brow2, brow6, brow9, brow3]; rfl

theorem dh_A (c : Dev nD) (t : Fin cfg0.N) (h0 : t.val % 16 = 0) (h1 : ¬1 ≤ t.val) (r : Fin 512) (k : Fin 1024) :
    (outsAt0 m c t.val t.isLt).1 (ix2 r k) = DH m c (grow t r) k := by
  rw [outsAt0_A m c t h0 h1 h0 h1]
  frame_out
  rw [g_rd, u_rd, pay2, pay56, n_row, brow0, brow1, brow2, brow3, brow4, brow5, brow6, brow7, brow8, brow9, blk0]; rfl

theorem dh_B (c : Dev nD) (t : Fin cfg0.N) (h0 : ¬t.val % 16 = 0) (h1 : 1 ≤ t.val) (r : Fin 512) (k : Fin 1024) :
    (outsAt0 m c t.val t.isLt).1 (ix2 r k) = DH m c (grow t r) k := by
  rw [outsAt0_B m c t h0 h1 h0 h1]
  frame_out
  rw [g_rd, u_rd, pay2, pay56, n_row, brow0, brow1, brow2, brow3, brow4, brow5, brow6, brow7, brow8, brow9, blk0]; rfl

theorem dp_A (c : Dev nD) (t : Fin cfg0.N) (h0 : t.val % 16 = 0) (h1 : ¬1 ≤ t.val) (k : Fin 1024) :
    (outsAt0 m c t.val t.isLt).2.2.2.2.1 (ix2 0 k) = 0 + ∑ r : Fin 512, DP m c (grow t r) k := by
  rw [outsAt0_A m c t h0 h1 h0 h1]
  frame_out
  rw [g_rd, u_rd, pay1]
  rw [zero_add]; refine Finset.sum_congr rfl fun r _ => ?_
  rw [pay55, brow1, blk1]
  refine (congrArg (· * _) (congrFun (n_row _ _ _ _ _ _ _ _ r) k)).trans ?_
  rw [brow0, brow2, brow6, brow9, brow7, brow8, brow3, brow4]
  rfl

theorem dp_B (c : Dev nD) (t : Fin cfg0.N) (h0 : ¬t.val % 16 = 0) (h1 : 1 ≤ t.val) (k : Fin 1024) :
    (outsAt0 m c t.val t.isLt).2.2.2.2.1 (ix2 0 k) = (outsAt0 m c (t.val - 1) (Nat.lt_of_le_of_lt (Nat.sub_le _ _) t.isLt)).2.2.2.2.1 (ix2 0 k) + ∑ r : Fin 512, DP m c (grow t r) k := by
  rw [outsAt0_B m c t h0 h1 h0 h1]
  frame_out
  rw [g_rd, u_rd, pay3]
  refine congrArg (_ + ·) ?_; refine Finset.sum_congr rfl fun r _ => ?_
  rw [pay55, brow1, blk1]
  refine (congrArg (· * _) (congrFun (n_row _ _ _ _ _ _ _ _ r) k)).trans ?_
  rw [brow0, brow2, brow6, brow9, brow7, brow8, brow3, brow4]
  rfl

theorem dq_A (c : Dev nD) (t : Fin cfg0.N) (h0 : t.val % 16 = 0) (h1 : ¬1 ≤ t.val) (k : Fin 1024) :
    (outsAt0 m c t.val t.isLt).2.2.2.2.2 (ix2 0 k) = 0 + ∑ r : Fin 512, DQ m c (grow t r) k := by
  rw [outsAt0_A m c t h0 h1 h0 h1]
  frame_out
  rw [pay9]
  rw [zero_add]; refine Finset.sum_congr rfl fun r _ => ?_
  rw [brow2, blk2, blk0]
  rfl

theorem dq_B (c : Dev nD) (t : Fin cfg0.N) (h0 : ¬t.val % 16 = 0) (h1 : 1 ≤ t.val) (k : Fin 1024) :
    (outsAt0 m c t.val t.isLt).2.2.2.2.2 (ix2 0 k) = (outsAt0 m c (t.val - 1) (Nat.lt_of_le_of_lt (Nat.sub_le _ _) t.isLt)).2.2.2.2.2 (ix2 0 k) + ∑ r : Fin 512, DQ m c (grow t r) k := by
  rw [outsAt0_B m c t h0 h1 h0 h1]
  frame_out
  rw [pay4, pay9]
  refine congrArg (_ + ·) ?_; refine Finset.sum_congr rfl fun r _ => ?_
  rw [brow2, blk2, blk0]
  rfl

end Cert.Kernel2Ideal.Fb

end

end
-- ==== Proof.FbArr.lean ====
/- The arrays the feed-forward gradient launch leaves. -/
module

public import proofs.«01_k».proof.Proof.FbOut

@[expose] public section

set_option maxRecDepth 16384

noncomputable section

open Idealize.ShloMosaic Idealize.ShloMosaic.TcCoe Idealize.SL.Sem
open Idealize.ShloMosaic.Pipeline (Dat)

namespace Cert.Kernel2Ideal.Fb
open Cert.Kernel2Ideal Cert.Kernel2Ideal.Gen Cert.FfSpec

variable (m : (ℓ : Loc nD τ sig) → Buf (Elt Ideal) ℓ)

theorem sum_rows (f : Fin 8192 → EReal) : ∑ t : Fin cfg0.N, ∑ r : Fin 512, f (grow t r) = ∑ R : Fin 8192, f R := by
  rw [← Fintype.sum_prod_type' (fun (t : Fin cfg0.N) (r : Fin 512) => f (grow t r))]
  refine Fintype.sum_bijective (fun p : Fin cfg0.N × Fin 512 => grow p.1 p.2) ⟨fun p p' h => ?_, fun R => ?_⟩ _ _ fun _ => rfl
  · have h3 : p.1.val * 512 + p.2.val = p'.1.val * 512 + p'.2.val := congrArg Fin.val h
    exact Prod.ext (Fin.ext (by omega)) (Fin.ext (by omega))
  · have hN : R.val / 512 < cfg0.N := by show R.val / 512 < 16; omega
    exact ⟨(⟨R.val / 512, hN⟩, ⟨R.val % 512, by omega⟩), Fin.ext (by show R.val / 512 * 512 + R.val % 512 = R.val; omega)⟩

theorem dh_at (c : Dev nD) (t : Fin cfg0.N) (r : Fin 512) (k : Fin 1024) : (outsAt0 m c t.val t.isLt).1 (ix2 r k) = DH m c (grow t r) k := by
  have ht := lt16 t
  by_cases h : t.val = 0
  · exact dh_A m c t (by omega) (by omega) r k
  · exact dh_B m c t (by omega) (by omega) r k

theorem arr10 (c : Dev nD) : (dats m 0 c).arrAt 10 cfg0.N = fun j => DH m c (j 0) (j 1) := by
  refine (dats m 0 c).arrAt_eq_of_covers 10 _ (by decide +kernel) fun t hf y => ?_
  blk_simp
  rw [after0_10]
  idx_vars y
  have he : ((View.whole main_v27_0).slice (win0_10.rect t)).emb (ix2 y0 y1) = ix2 (grow t y0) y1 := by
    funext a
    match a with
    | ⟨0, _⟩ => exact Fin.ext (by show win0_10.index t 0 * 512 + 1 * y0.val = t.val * 512 + y0.val; rw [idx10 t]; show t.val * 512 + 1 * y0.val = _; omega)
    | ⟨1, _⟩ => exact Fin.ext (by show win0_10.index t 1 * 1024 + 1 * y1.val = y1.val; rw [idx10 t]; show 0 * 1024 + 1 * y1.val = _; omega)
  rw [he]
  exact dh_at m c t y0 y1

theorem df_at (c : Dev nD) (t : Fin cfg0.N) (r : Fin 512) (k : Fin 1024) : (outsAt0 m c t.val t.isLt).2.1 (ix2 r k) = DF m c (grow t r) k := by
  have ht := lt16 t
  by_cases h : t.val = 0
  · exact df_A m c t (by omega) (by omega) r k
  · exact df_B m c t (by omega) (by omega) r k

theorem arr11 (c : Dev nD) : (dats m 0 c).arrAt 11 cfg0.N = fun j => DF m c (j 0) (j 1) := by
  refine (dats m 0 c).arrAt_eq_of_covers 11 _ (by decide +kernel) fun t hf y => ?_
  blk_simp
  rw [after0_11]
  idx_vars y
  have he : ((View.whole main_v27_1).slice (win0_11.rect t)).emb (ix2 y0 y1) = ix2 (grow t y0) y1 := by
    funext a
    match a with
    | ⟨0, _⟩ => exact Fin.ext (by show win0_11.index t 0 * 512 + 1 * y0.val = t.val * 512 + y0.val; rw [idx11 t]; show t.val * 512 + 1 * y0.val = _; omega)
    | ⟨1, _⟩ => exact Fin.ext (by show win0_11.index t 1 * 1024 + 1 * y1.val = y1.val; rw [idx11 t]; show 0 * 1024 + 1 * y1.val = _; omega)
  rw [he]
  exact df_at m c t y0 y1

theorem dg_at (c : Dev nD) (t : Fin cfg0.N) (r : Fin 512) (k : Fin 2048) : (outsAt0 m c t.val t.isLt).2.2.1 (ix2 r k) = DG m c (grow t r) k := by
  have ht := lt16 t
  by_cases h : t.val = 0
  · exact dg_A m c t (by omega) (by omega) r k
  · exact dg_B m c t (by omega) (by omega) r k

theorem arr12 (c : Dev nD) : (dats m 0 c).arrAt 12 cfg0.N = fun j => DG m c (j 0) (j 1) := by
  refine (dats m 0 c).arrAt_eq_of_covers 12 _ (by decide +kernel) fun t hf y => ?_
  blk_simp
  rw [after0_12]
  idx_vars y
  have he : ((View.whole main_v27_2).slice (win0_12.rect t)).emb (ix2 y0 y1) = ix2 (grow t y0) y1 := by
    funext a
    match a with
    | ⟨0, _⟩ => exact Fin.ext (by show win0_12.index t 0 * 512 + 1 * y0.val = t.val * 512 + y0.val; rw [idx12 t]; show t.val * 512 + 1 * y0.val = _; omega)
    | ⟨1, _⟩ => exact Fin.ext (by show win0_12.index t 1 * 2048 + 1 * y1.val = y1.val; rw [idx12 t]; show 0 * 2048 + 1 * y1.val = _; omega)
  rw [he]
  exact dg_at m c t y0 y1

theorem du_at (c : Dev nD) (t : Fin cfg0.N) (r : Fin 512) (k : Fin 2048) : (outsAt0 m c t.val t.isLt).2.2.2.1 (ix2 r k) = DU m c (grow t r) k := by
  have ht := lt16 t
  by_cases h : t.val = 0
  · exact du_A m c t (by omega) (by omega) r k
  · exact du_B m c t (by omega) (by omega) r k

theorem arr13 (c : Dev nD) : (dats m 0 c).arrAt 13 cfg0.N = fun j => DU m c (j 0) (j 1) := by
  refine (dats m 0 c).arrAt_eq_of_covers 13 _ (by decide +kernel) fun t hf y => ?_
  blk_simp
  rw [after0_13]
  idx_vars y
  have he : ((View.whole main_v27_3).slice (win0_13.rect t)).emb (ix2 y0 y1) = ix2 (grow t y0) y1 := by
    funext a
    match a with
    | ⟨0, _⟩ => exact Fin.ext (by show win0_13.index t 0 * 512 + 1 * y0.val = t.val * 512 + y0.val; rw [idx13 t]; show t.val * 512 + 1 * y0.val = _; omega)
    | ⟨1, _⟩ => exact Fin.ext (by show win0_13.index t 1 * 2048 + 1 * y1.val = y1.val; rw [idx13 t]; show 0 * 2048 + 1 * y1.val = _; omega)
  rw [he]
  exact du_at m c t y0 y1

theorem arr14 (c : Dev nD) : (dats m 0 c).arrAt 14 cfg0.N = fun j => ∑ R : Fin 8192, DP m c R (j 1) := by
  have hrun := Pipeline.eq_sum_fin_of_reset_step_apply_last (fun n h (k : Fin 1024) => (outsAt0 m c n h).2.2.2.2.1 (ix2 0 k)) 16
    (fun _ => (0 : EReal)) (fun t k => ∑ r : Fin 512, DP m c (grow t r) k)
    (fun t h0 k => dp_A m c t h0 (by have := lt16 t; omega) k)
    (fun t h0 k => dp_B m c t h0 (by omega) k)
    (by decide) t0_15 rfl
  refine (dats m 0 c).arrAt_eq_of_after_last 14 t0_15 (by decide +kernel) _ fun j => ?_
  blk_simp
  rw [after0_14]
  idx_vars j
  have h0 : j0 = 0 := Subsingleton.elim _ _
  subst h0
  have h := hrun j1
  rw [zero_add, sum_rows (fun R => DP m c R j1)] at h
  exact h

theorem arr15 (c : Dev nD) : (dats m 0 c).arrAt 15 cfg0.N = fun j => ∑ R : Fin 8192, DQ m c R (j 1) := by
  have hrun := Pipeline.eq_sum_fin_of_reset_step_apply_last (fun n h (k : Fin 1024) => (outsAt0 m c n h).2.2.2.2.2 (ix2 0 k)) 16
    (fun _ => (0 : EReal)) (fun t k => ∑ r : Fin 512, DQ m c (grow t r) k)
    (fun t h0 k => dq_A m c t h0 (by have := lt16 t; omega) k)
    (fun t h0 k => dq_B m c t h0 (by omega) k)
    (by decide) t0_15 rfl
  refine (dats m 0 c).arrAt_eq_of_after_last 15 t0_15 (by decide +kernel) _ fun j => ?_
  blk_simp
  rw [after0_15]
  idx_vars j
  have h0 : j0 = 0 := Subsingleton.elim _ _
  subst h0
  have h := hrun j1
  rw [zero_add, sum_rows (fun R => DQ m c R j1)] at h
  exact h

end Cert.Kernel2Ideal.Fb

end

end
-- ==== Proof.FbHost.lean ====
/- What the host lines hand to the feed-forward gradient launch. -/
module

public import proofs.«01_k».proof.Proof.FbArr

@[expose] public section

set_option maxRecDepth 16384

noncomputable section

open Idealize.ShloMosaic Idealize.ShloMosaic.TcCoe Idealize.SL.Sem
open Idealize.ShloMosaic.Pipeline (Dat)

namespace Cert.Kernel2Ideal.Fb
open Cert.Kernel2Ideal Cert.Kernel2Ideal.Gen Cert.FfSpec

variable (m : (ℓ : Loc nD τ sig) → Buf (Elt Ideal) ℓ)

/-- The arguments of the call. -/
abbrev aH (c : Dev nD) (R : Fin 8192) (k : Fin 1024) : EReal := m ((c : Thread nD τ).loc main_arg0) (ix2 R k)
abbrev aP (c : Dev nD) (k : Fin 1024) : EReal := m ((c : Thread nD τ).loc main_arg1) (ix1 k)
abbrev aQ (c : Dev nD) (k : Fin 1024) : EReal := m ((c : Thread nD τ).loc main_arg2) (ix1 k)
abbrev aG (c : Dev nD) (k : Fin 1024) (j : Fin 2048) : EReal := m ((c : Thread nD τ).loc main_arg3) (ix2 k j)
abbrev aU (c : Dev nD) (k : Fin 1024) (j : Fin 2048) : EReal := m ((c : Thread nD τ).loc main_arg4) (ix2 k j)
abbrev aD (c : Dev nD) (j : Fin 2048) (k : Fin 1024) : EReal := m ((c : Thread nD τ).loc main_arg5) (ix2 j k)
abbrev aC (c : Dev nD) (R : Fin 8192) (k : Fin 1024) : EReal := m ((c : Thread nD τ).loc main_arg6) (ix2 R k)

theorem V_v20 (c : Dev nD) (k : Fin 1024) : V m c main_v20 (ix2 0 k) = aP m c k := by
  unfold V; simp only [hostOps0, hostOps0_1, hostOps0_2, List.flatten_cons, List.flatten_nil, List.cons_append, List.nil_append, List.append_nil]
  after_results
  pointwise

theorem V_v21 (c : Dev nD) (k : Fin 1024) : V m c main_v21 (ix2 0 k) = aQ m c k := by
  unfold V; simp only [hostOps0, hostOps0_1, hostOps0_2, List.flatten_cons, List.flatten_nil, List.cons_append, List.nil_append, List.append_nil]
  after_results
  pointwise

theorem V_v23 (c : Dev nD) (j : Fin 2048) (k : Fin 1024) : V m c main_v23 (ix2 j k) = aG m c k j := by
  unfold V; simp only [hostOps0, hostOps0_1, hostOps0_2, List.flatten_cons, List.flatten_nil, List.cons_append, List.nil_append, List.append_nil]
  after_results
  pointwise

theorem V_v25 (c : Dev nD) (j : Fin 2048) (k : Fin 1024) : V m c main_v25 (ix2 j k) = aU m c k j := by
  unfold V; simp only [hostOps0, hostOps0_1, hostOps0_2, List.flatten_cons, List.flatten_nil, List.cons_append, List.nil_append, List.append_nil]
  after_results
  pointwise

theorem V_v26 (c : Dev nD) (j : Fin 2048) (k : Fin 1024) : V m c main_v26 (ix2 j k) = aD m c j k := by
  unfold V; simp only [hostOps0, hostOps0_1, hostOps0_2, List.flatten_cons, List.flatten_nil, List.cons_append, List.nil_append, List.append_nil]
  after_results
  pointwise

theorem V_arg0 (c : Dev nD) (R : Fin 8192) (k : Fin 1024) : V m c main_arg0 (ix2 R k) = aH m c R k := by
  unfold V; simp only [hostOps0, hostOps0_1, hostOps0_2, List.flatten_cons, List.flatten_nil, List.cons_append, List.nil_append, List.append_nil]
  after_results

theorem V_arg6 (c : Dev nD) (R : Fin 8192) (k : Fin 1024) : V m c main_arg6 (ix2 R k) = aC m c R k := by
  unfold V; simp only [hostOps0, hostOps0_1, hostOps0_2, List.flatten_cons, List.flatten_nil, List.cons_append, List.nil_append, List.append_nil]
  after_results

/-- The gate, the other factor and the branch as the forward lines give them. -/
def fG (c : Dev nD) (R : Fin 8192) (j : Fin 2048) : EReal := ∑ k, rms (aH m c R) (aP m c) k * aG m c k j
def fU (c : Dev nD) (R : Fin 8192) (j : Fin 2048) : EReal := ∑ k, rms (aH m c R) (aP m c) k * aU m c k j
def fF (c : Dev nD) (R : Fin 8192) (k : Fin 1024) : EReal :=
  ∑ j, fG m c R j * Ideal.div (lit 0x3F800000#32) (lit 0x3F800000#32 + Ideal.exp (-fG m c R j)) * fU m c R j * aD m c j k

theorem V_v18 (c : Dev nD) (R : Fin 8192) (j : Fin 2048) : V m c main_v18 (ix2 R j) = fG m c R j := by
  unfold V; simp only [hostOps0, hostOps0_1, hostOps0_2, List.flatten_cons, List.flatten_nil, List.cons_append, List.nil_append, List.append_nil]
  unfold fG rms rinv
  after_results
  pointwise

theorem V_v19 (c : Dev nD) (R : Fin 8192) (j : Fin 2048) : V m c main_v19 (ix2 R j) = fU m c R j := by
  unfold V; simp only [hostOps0, hostOps0_1, hostOps0_2, List.flatten_cons, List.flatten_nil, List.cons_append, List.nil_append, List.append_nil]
  unfold fU rms rinv
  after_results
  pointwise

theorem V_v17 (c : Dev nD) (R : Fin 8192) (k : Fin 1024) : V m c main_v17 (ix2 R k) = fF m c R k := by
  unfold V; simp only [hostOps0, hostOps0_1, hostOps0_2, List.flatten_cons, List.flatten_nil, List.cons_append, List.nil_append, List.append_nil]
  unfold fF fG fU rms rinv
  after_results
  simp -implicitDefEqProofs only [StableHlo.TRef.toBuf, StableHlo.TRef.ofBuf, cast_cast, cast_eq]
  pointwise

end Cert.Kernel2Ideal.Fb

end

end
-- ==== Proof.FbMeet.lean ====
/- The rows of the gradient launch and of the reference are equal at real arguments. -/
module

public import proofs.«01_k».proof.Proof.FbRef
public import proofs.«01_k».proof.Proof.FbHost

@[expose] public section

set_option maxRecDepth 16384

noncomputable section

open Idealize.ShloMosaic Idealize.ShloMosaic.TcCoe Idealize.SL.Sem
open Idealize.ShloMosaic.Pipeline (Dat)

namespace Cert.FbMeet
open Cert.Kernel2Ideal Cert.Kernel2Ideal.Gen Cert.Kernel2Ideal.Fb Cert.FfSpec Cert.FbRef
open Cert.PoolRef (Real' real_mul real_add)
variable (m : (ℓ : Loc nD τ sig) → Buf (Elt Ideal) ℓ)

abbrev xH (c : Dev nD) : S8192x1024.Idx → EReal := m ((c : Thread nD τ).loc main_arg0)
abbrev xP (c : Dev nD) : S1024.Idx → EReal := m ((c : Thread nD τ).loc main_arg1)
abbrev xQ (c : Dev nD) : S1024.Idx → EReal := m ((c : Thread nD τ).loc main_arg2)
abbrev xG (c : Dev nD) : S1024x2048.Idx → EReal := m ((c : Thread nD τ).loc main_arg3)
abbrev xU (c : Dev nD) : S1024x2048.Idx → EReal := m ((c : Thread nD τ).loc main_arg4)
abbrev xD (c : Dev nD) : S2048x1024.Idx → EReal := m ((c : Thread nD τ).loc main_arg5)
abbrev xC (c : Dev nD) : S8192x1024.Idx → EReal := m ((c : Thread nD τ).loc main_arg6)

theorem W17 (c : Dev nD) (R : Fin 8192) : (fun k => V m c main_v17 (ix2 R k)) = fF m c R := funext fun k => V_v17 m c R k
theorem W18 (c : Dev nD) (R : Fin 8192) : (fun k => V m c main_v18 (ix2 R k)) = fG m c R := funext fun k => V_v18 m c R k
theorem W19 (c : Dev nD) (R : Fin 8192) : (fun k => V m c main_v19 (ix2 R k)) = fU m c R := funext fun k => V_v19 m c R k
theorem W6 (c : Dev nD) (R : Fin 8192) : (fun k => V m c main_arg6 (ix2 R k)) = aC m c R := funext fun k => V_arg6 m c R k
theorem W0 (c : Dev nD) (R : Fin 8192) : (fun k => V m c main_arg0 (ix2 R k)) = aH m c R := funext fun k => V_arg0 m c R k
theorem W20 (c : Dev nD) : (fun k => V m c main_v20 (ix2 0 k)) = aP m c := funext fun k => V_v20 m c k
theorem W21 (c : Dev nD) : (fun k => V m c main_v21 (ix2 0 k)) = aQ m c := funext fun k => V_v21 m c k
theorem W23 (c : Dev nD) : (fun j k => V m c main_v23 (ix2 j k)) = fun j k => aG m c k j := funext fun j => funext fun k => V_v23 m c j k
theorem W25 (c : Dev nD) : (fun j k => V m c main_v25 (ix2 j k)) = fun j k => aU m c k j := funext fun j => funext fun k => V_v25 m c j k
theorem W26 (c : Dev nD) : (fun j k => V m c main_v26 (ix2 j k)) = fun j k => aD m c j k := funext fun j => funext fun k => V_v26 m c j k

theorem fF_eq (c : Dev nD) (R : Fin 8192) : fF m c R = rF (xH m c) (xP m c) (xG m c) (xU m c) (xD m c) R := by
  funext k
  unfold fF
  simp only [sig_eq]
  rfl

theorem DQ_eq (c : Dev nD) (R : Fin 8192) (k : Fin 1024) :
    DQ m c R k = rF (xH m c) (xP m c) (xG m c) (xU m c) (xD m c) R k * rinv (rF (xH m c) (xP m c) (xG m c) (xU m c) (xD m c) R) * (lit 0x3F000000#32 * xC m c (ix2 R k)) := by
  unfold DQ dqR
  rw [W17, W6, mul_comm, ← fF_eq]

section Real
variable (c : Dev nD) (hH : ∀ i, Real' (xH m c i)) (hP : ∀ i, Real' (xP m c i)) (hQ : ∀ i, Real' (xQ m c i)) (hG : ∀ i, Real' (xG m c i))
  (hU : ∀ i, Real' (xU m c i)) (hD : ∀ i, Real' (xD m c i)) (hC : ∀ i, Real' (xC m c i))
include hH hP

theorem real_fG (hG : ∀ i, Real' (xG m c i)) (R : Fin 8192) (j : Fin 2048) : Real' (fG m c R j) :=
  real_sum _ _ fun k => real_mul (real_rms _ _ (fun _ => hH _) (fun _ => hP _) k) (hG _)
theorem real_fU (hU : ∀ i, Real' (xU m c i)) (R : Fin 8192) (j : Fin 2048) : Real' (fU m c R j) :=
  real_sum _ _ fun k => real_mul (real_rms _ _ (fun _ => hH _) (fun _ => hP _) k) (hU _)
include hG hU hD
theorem real_fF (R : Fin 8192) (k : Fin 1024) : Real' (fF m c R k) := by
  unfold fF
  simp only [sig_eq]
  have h1 := real_fG m c hH hP hG R
  exact real_sum _ _ fun j => real_mul (real_mul (real_mul (h1 j) (real_logistic (h1 j))) (real_fU m c hH hP hU R j)) (hD _)
include hQ hC

theorem df_eq (R : Fin 8192) : dfR (aC m c R) (fF m c R) (aQ m c) = rD (xH m c) (xP m c) (xQ m c) (xG m c) (xU m c) (xD m c) (xC m c) R := by
  funext k
  unfold dfR
  rw [rmsB_eq _ _ _ (real_fF m c hH hP hG hU hD R) (fun _ => hQ _) (fun _ => real_mul real_half (hC _)), fF_eq]
  rfl

theorem DF_eq (R : Fin 8192) (k : Fin 1024) : DF m c R k = rD (xH m c) (xP m c) (xQ m c) (xG m c) (xU m c) (xD m c) (xC m c) R k := by
  rw [← df_eq m c hH hP hQ hG hU hD hC]
  unfold DF
  rw [W17, W21, W6]

theorem da_eq (R : Fin 8192) (j : Fin 2048) : dotT (dfR (aC m c R) (fF m c R) (aQ m c)) (fun k => aD m c j k) = rA (xH m c) (xP m c) (xQ m c) (xG m c) (xU m c) (xD m c) (xC m c) R j := by
  rw [df_eq m c hH hP hQ hG hU hD hC]
  rfl

theorem real_dA (R : Fin 8192) (j : Fin 2048) : Real' (dotT (dfR (aC m c R) (fF m c R) (aQ m c)) (fun k => aD m c j k)) :=
  real_da _ _ _ (fun j k => aD m c j k) (fG m c R) (fun _ => hC _) (real_fF m c hH hP hG hU hD R) (fun _ => hQ _) (fun _ _ => hD _) (real_fG m c hH hP hG R) j

theorem dg_eq (R : Fin 8192) (j : Fin 2048) : dgR (aC m c R) (fF m c R) (aQ m c) (fun j k => aD m c j k) (fG m c R) (fU m c R) j = rDg (xH m c) (xP m c) (xQ m c) (xG m c) (xU m c) (xD m c) (xC m c) R j := by
  unfold dgR
  rw [gateB_eq _ _ _ (real_dA m c hH hP hQ hG hU hD hC R j) (real_fG m c hH hP hG R j) (real_fU m c hH hP hU R j), da_eq m c hH hP hQ hG hU hD hC]
  rfl

theorem du_eq (R : Fin 8192) (j : Fin 2048) : duR (aC m c R) (fF m c R) (aQ m c) (fun j k => aD m c j k) (fG m c R) j = rDu (xH m c) (xP m c) (xQ m c) (xG m c) (xU m c) (xD m c) (xC m c) R j := by
  unfold duR upB
  rw [da_eq m c hH hP hQ hG hU hD hC, mul_comm]
  rfl

theorem DG_eq (R : Fin 8192) (j : Fin 2048) : DG m c R j = rDg (xH m c) (xP m c) (xQ m c) (xG m c) (xU m c) (xD m c) (xC m c) R j := by
  rw [← dg_eq m c hH hP hQ hG hU hD hC]
  unfold DG
  rw [W17, W21, W6, W26, W18, W19]

theorem DU_eq (R : Fin 8192) (j : Fin 2048) : DU m c R j = rDu (xH m c) (xP m c) (xQ m c) (xG m c) (xU m c) (xD m c) (xC m c) R j := by
  rw [← du_eq m c hH hP hQ hG hU hD hC]
  unfold DU
  rw [W17, W21, W6, W26, W18]

theorem dn_eq (R : Fin 8192) : dnR (aC m c R) (fF m c R) (aQ m c) (fun j k => aD m c j k) (fun j k => aG m c k j) (fun j k => aU m c k j) (fG m c R) (fU m c R) = rN (xH m c) (xP m c) (xQ m c) (xG m c) (xU m c) (xD m c) (xC m c) R := by
  funext k
  unfold dnR rN
  rw [add_comm]
  exact congrArg₂ (· + ·) (Finset.sum_congr rfl fun j _ => congrArg (· * _) (du_eq m c hH hP hQ hG hU hD hC R j)) (Finset.sum_congr rfl fun j _ => congrArg (· * _) (dg_eq m c hH hP hQ hG hU hD hC R j))

theorem real_N (R : Fin 8192) (k : Fin 1024) : Real' (rN (xH m c) (xP m c) (xQ m c) (xG m c) (xU m c) (xD m c) (xC m c) R k) := by
  rw [← dn_eq m c hH hP hQ hG hU hD hC]
  exact real_dn _ _ _ (fun j k => aD m c j k) _ _ _ _ (fun _ => hC _) (real_fF m c hH hP hG hU hD R) (fun _ => hQ _) (fun _ _ => hD _)
    (fun _ _ => hG _) (fun _ _ => hU _) (real_fG m c hH hP hG R) (real_fU m c hH hP hU R) k

theorem DP_eq (R : Fin 8192) (k : Fin 1024) : DP m c R k = xH m c (ix2 R k) * rinv (rw1 (xH m c) R) * rN (xH m c) (xP m c) (xQ m c) (xG m c) (xU m c) (xD m c) (xC m c) R k := by
  rw [← dn_eq m c hH hP hQ hG hU hD hC, mul_comm]
  unfold DP dpR
  rw [W17, W21, W6, W26, W18, W19, W23, W25, W0]

theorem DH_eq (R : Fin 8192) (k : Fin 1024) : DH m c R k = xC m c (ix2 R k) + rN (xH m c) (xP m c) (xQ m c) (xG m c) (xU m c) (xD m c) (xC m c) R k * xP m c (ix1 k) * rinv (rw1 (xH m c) R)
      + xH m c (ix2 R k) * rmsW (rw1 (xH m c) R) (vc (xP m c)) (rN (xH m c) (xP m c) (xQ m c) (xG m c) (xU m c) (xD m c) (xC m c) R) + rmsW (rw1 (xH m c) R) (vc (xP m c)) (rN (xH m c) (xP m c) (xQ m c) (xG m c) (xU m c) (xD m c) (xC m c) R) * xH m c (ix2 R k) := by
  rw [add_assoc, add_assoc, ← add_assoc (rN (xH m c) (xP m c) (xQ m c) (xG m c) (xU m c) (xD m c) (xC m c) R k * xP m c (ix1 k) * rinv (rw1 (xH m c) R))]
  rw [← rmsB_eq (rw1 (xH m c) R) (vc (xP m c)) (rN (xH m c) (xP m c) (xQ m c) (xG m c) (xU m c) (xD m c) (xC m c) R) (fun _ => hH _) (fun _ => hP _) (real_N m c hH hP hQ hG hU hD hC R) k, ← dn_eq m c hH hP hQ hG hU hD hC]
  unfold DH dhR
  rw [W17, W20, W21, W6, W26, W18, W19, W23, W25, W0]

end Real

end Cert.FbMeet

end

end
-- ==== Proof.FbClaim.lean ====
/- The claim about the feed-forward gradient. -/
module

public import proofs.«01_k».proof.Proof.FbMeet
public import proofs.«01_k».proof.Proof.PoolClaim
public import proofs.«01_k».proof.Proof.Gen.Pre_finite2

@[expose] public section

set_option maxRecDepth 16384

noncomputable section

open Idealize.ShloMosaic Idealize.ShloMosaic.TcCoe Idealize.SL.Sem
open Idealize.ShloMosaic.Pipeline (Dat)

namespace Cert.FbClaim
open Idealize.ShloMosaic Idealize.SL.Sem
section Finite
open Cert.Pre_finite2 Cert.Pre_finite2.Facts

/-- What the precondition says: every element of every argument is a real number. -/
theorem real_of_finite [Cert.Pre_finite2.Facts] (h : FVec Ideal S8192x1024 .f32) (p q : FVec Ideal S1024 .f32) (wg wu : FVec Ideal S1024x2048 .f32) (wd : FVec Ideal S2048x1024 .f32)
    (ct : FVec Ideal S8192x1024 .f32) (hp : Cert.Pre_finite2.fn (F := Ideal) h p q wg wu wd ct = fun _ => 1#1) :
    (∀ i, PoolRef.Real' (h i)) ∧ (∀ i, PoolRef.Real' (p i)) ∧ (∀ i, PoolRef.Real' (q i)) ∧ (∀ i, PoolRef.Real' (wg i)) ∧ (∀ i, PoolRef.Real' (wu i)) ∧ (∀ i, PoolRef.Real' (wd i))
      ∧ ∀ i, PoolRef.Real' (ct i) := by
  have hs : Subsingleton S_.Idx := ⟨fun a b => funext fun k => k.elim0⟩
  have e := congrFun hp (fun k => k.elim0)
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  refine ⟨fun i => PoolClaim.real_of_lt ?_, fun i => PoolClaim.real_of_lt ?_, fun i => PoolClaim.real_of_lt ?_, fun i => PoolClaim.real_of_lt ?_, fun i => PoolClaim.real_of_lt ?_,
    fun i => PoolClaim.real_of_lt ?_, fun i => PoolClaim.real_of_lt ?_⟩
  · exact Host.reduce_andi_all _ _ _ _ _ e1 i
  · exact Host.reduce_andi_all _ _ _ _ _ e2 i
  · exact Host.reduce_andi_all _ _ _ _ _ e3 i
  · exact Host.reduce_andi_all _ _ _ _ _ e4 i
  · exact Host.reduce_andi_all _ _ _ _ _ e5 i
  · exact Host.reduce_andi_all _ _ _ _ _ e6 i
  · exact Host.reduce_andi_all _ _ _ _ _ e7 i
end Finite

section Run
open Cert.Reference2Ideal
/-- The reference's run, its results named by the stages of its reading. -/
theorem runR (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v95) = Read.val_main_v95 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v96) = Read.val_main_v96 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v97) = Read.val_main_v97 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v98) = Read.val_main_v98 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v99) = Read.val_main_v99 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v100) = Read.val_main_v100 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (Read.val_main_v95_eq (StableHlo.launchContents m c)),
      (h c).2.1.trans (Read.val_main_v96_eq (StableHlo.launchContents m c)),
      (h c).2.2.1.trans (Read.val_main_v97_eq (StableHlo.launchContents m c)),
      (h c).2.2.2.1.trans (Read.val_main_v98_eq (StableHlo.launchContents m c)),
      (h c).2.2.2.2.1.trans (Read.val_main_v99_eq (StableHlo.launchContents m c)),
      (h c).2.2.2.2.2.1.trans (Read.val_main_v100_eq (StableHlo.launchContents m c)),
      (h c).2.2.2.2.2.2⟩)
    (Value.run (F := Ideal) m ρ)
end Run

/-- The reference ends with its arguments unchanged and every counter at zero. -/
theorem frameR : Cert.quiescent_Reference2Ideal (hReference2Ideal := Cert.Reference2Ideal.Gen.facts) := by
  intro m ρ _
  exact (θ_run Cert.Reference2Ideal.defs _ _).mono (fun r h => ⟨fun c => (h c).2.2.2.2.2.2, sem_eq_zero_of_no_sems (by decide) r.2⟩) (Cert.Reference2Ideal.Value.run (F := Ideal) m ρ)

section Eq
open Cert.Kernel2Ideal Cert.Kernel2Ideal.Gen Cert.Kernel2Ideal.Fb Cert.FbMeet Idealize.ShloMosaic.TcCoe
open Cert.PoolRef (Real')
variable (m : (ℓ : Loc nD τ sig) → Buf (Elt Ideal) ℓ) (c : Dev nD) (hH : ∀ i, Real' (xH m c i)) (hP : ∀ i, Real' (xP m c i)) (hQ : ∀ i, Real' (xQ m c i)) (hG : ∀ i, Real' (xG m c i))
  (hU : ∀ i, Real' (xU m c i)) (hD : ∀ i, Real' (xD m c i)) (hC : ∀ i, Real' (xC m c i))

theorem e5 : (dats m 0 c).arrAt 15 cfg0.N = Cert.Reference2Ideal.Read.val_main_v100 (F := Ideal) (xH m c) (xP m c) (xG m c) (xU m c) (xD m c) (xC m c) := by
  rw [arr15]
  funext j
  obtain ⟨r, k, rfl⟩ : ∃ r k, j = ix2 r k := ⟨_, _, eq_ix2 j⟩
  obtain rfl : r = 0 := Subsingleton.elim _ _
  exact (Finset.sum_congr rfl fun R _ => DQ_eq m c R k).trans (FbRef.v100 _ _ _ _ _ _ k).symm
include hH hP hQ hG hU hD hC

theorem e0 : (dats m 0 c).arrAt 10 cfg0.N = Cert.Reference2Ideal.Read.val_main_v95 (F := Ideal) (xH m c) (xP m c) (xQ m c) (xG m c) (xU m c) (xD m c) (xC m c) := by
  rw [arr10]
  funext j
  obtain ⟨r, k, rfl⟩ : ∃ r k, j = ix2 r k := ⟨_, _, eq_ix2 j⟩
  exact (DH_eq m c hH hP hQ hG hU hD hC r k).trans (FbRef.v95 _ _ _ _ _ _ _ r k).symm

theorem e1 : (dats m 0 c).arrAt 11 cfg0.N = Cert.Reference2Ideal.Read.val_main_v96 (F := Ideal) (xH m c) (xP m c) (xQ m c) (xG m c) (xU m c) (xD m c) (xC m c) := by
  rw [arr11]
  funext j
  obtain ⟨r, k, rfl⟩ : ∃ r k, j = ix2 r k := ⟨_, _, eq_ix2 j⟩
  exact (DF_eq m c hH hP hQ hG hU hD hC r k).trans (FbRef.v96 _ _ _ _ _ _ _ r k).symm

theorem e2 : (dats m 0 c).arrAt 12 cfg0.N = Cert.Reference2Ideal.Read.val_main_v97 (F := Ideal) (xH m c) (xP m c) (xQ m c) (xG m c) (xU m c) (xD m c) (xC m c) := by
  rw [arr12]
  funext j
  obtain ⟨r, k, rfl⟩ : ∃ r k, j = ix2 r k := ⟨_, _, eq_ix2 j⟩
  exact (DG_eq m c hH hP hQ hG hU hD hC r k).trans (FbRef.v97 _ _ _ _ _ _ _ r k).symm

theorem e3 : (dats m 0 c).arrAt 13 cfg0.N = Cert.Reference2Ideal.Read.val_main_v98 (F := Ideal) (xH m c) (xP m c) (xQ m c) (xG m c) (xU m c) (xD m c) (xC m c) := by
  rw [arr13]
  funext j
  obtain ⟨r, k, rfl⟩ : ∃ r k, j = ix2 r k := ⟨_, _, eq_ix2 j⟩
  exact (DU_eq m c hH hP hQ hG hU hD hC r k).trans (FbRef.v98 _ _ _ _ _ _ _ r k).symm

theorem e4 : (dats m 0 c).arrAt 14 cfg0.N = Cert.Reference2Ideal.Read.val_main_v99 (F := Ideal) (xH m c) (xP m c) (xQ m c) (xG m c) (xU m c) (xD m c) (xC m c) := by
  rw [arr14]
  funext j
  obtain ⟨r, k, rfl⟩ : ∃ r k, j = ix2 r k := ⟨_, _, eq_ix2 j⟩
  obtain rfl : r = 0 := Subsingleton.elim _ _
  exact (Finset.sum_congr rfl fun R _ => DP_eq m c hH hP hQ hG hU hD hC R k).trans (FbRef.v99 _ _ _ _ _ _ _ k).symm
end Eq

/-- The launch and the reference, from memories that agree on the arguments. -/
theorem algebraic : Cert.algebraic_Kernel2Ideal_Reference2Ideal_pre_finite2 (hKernel2Ideal := Cert.Kernel2Ideal.Gen.facts) (hReference2Ideal := Cert.Reference2Ideal.Gen.facts) (hPre_finite2 := Cert.Pre_finite2.Gen.facts) := by
  intro m g m' g' hpre hag
  refine ⟨fun c => (Cert.Kernel2Ideal.Gen.dats m 0 c).arrAt 10 Cert.Kernel2Ideal.cfg0.N, fun c => (Cert.Kernel2Ideal.Gen.dats m 0 c).arrAt 11 Cert.Kernel2Ideal.cfg0.N, fun c => (Cert.Kernel2Ideal.Gen.dats m 0 c).arrAt 12 Cert.Kernel2Ideal.cfg0.N, fun c => (Cert.Kernel2Ideal.Gen.dats m 0 c).arrAt 13 Cert.Kernel2Ideal.cfg0.N, fun c => (Cert.Kernel2Ideal.Gen.dats m 0 c).arrAt 14 Cert.Kernel2Ideal.cfg0.N, fun c => (Cert.Kernel2Ideal.Gen.dats m 0 c).arrAt 15 Cert.Kernel2Ideal.cfg0.N,
    Cert.Kernel2Ideal.Value.run_blocks m g, (θ_run Cert.Reference2Ideal.defs _ _).mono (fun r h c => ?_) (runR m' g')⟩
  obtain ⟨hH, hP, hQ, hG, hU, hD, hC⟩ := real_of_finite _ _ _ _ _ _ _ (hpre c)
  obtain ⟨a0, a1, a2, a3, a4, a5, a6⟩ := hag c
  obtain ⟨r0, r1, r2, r3, r4, r5, rest⟩ := h c
  rw [a0, a1, a2, a3, a4, a5, a6] at r0
  rw [a0, a1, a2, a3, a4, a5, a6] at r1
  rw [a0, a1, a2, a3, a4, a5, a6] at r2
  rw [a0, a1, a2, a3, a4, a5, a6] at r3
  rw [a0, a1, a2, a3, a4, a5, a6] at r4
  rw [a0, a1, a3, a4, a5, a6] at r5
  exact ⟨r0.trans (e0 m c hH hP hQ hG hU hD hC).symm,
    r1.trans (e1 m c hH hP hQ hG hU hD hC).symm,
    r2.trans (e2 m c hH hP hQ hG hU hD hC).symm,
    r3.trans (e3 m c hH hP hQ hG hU hD hC).symm,
    r4.trans (e4 m c hH hP hQ hG hU hD hC).symm,
    r5.trans (e5 m c).symm, rest⟩

end Cert.FbClaim

end

end
-- ==== Proof.FwChunk.lean ====
/- The stores of the feed-forward forward launch over a tile, chunk by chunk. -/
module

public import proofs.«01_k».proof.Proof.FfTile
public import proofs.«01_k».proof.Proof.Gen.Kernel3Ideal.Value

@[expose] public section

set_option maxRecDepth 16384

noncomputable section

open Idealize.ShloMosaic Idealize.ShloMosaic.TcCoe Idealize.SL.Sem
open Idealize.ShloMosaic.Pipeline (Dat)

namespace Cert.Kernel3Ideal.Fw
open Cert.Kernel3Ideal Cert.Kernel3Ideal.Gen Cert.FfSpec

/-- Row `r` of a tile. -/
abbrev row {n : ℕ} (x : (⟨2, ![512, n]⟩ : Shape).Idx → EReal) (r : Fin 512) : Fin n → EReal := fun k => x (ix2 r k)
/-- A row held as a one-row matrix. -/
abbrev one (x : S1x1024.Idx → EReal) : Fin 1024 → EReal := fun k => x (ix2 0 k)

variable (x0 : Vec Ideal S512x1024 .f32) (x1 x2 : Vec Ideal S1x1024 .f32) (x3 x4 x5 : Vec Ideal S2048x1024 .bf16)

theorem pay2 (r : Fin 512) (k : Fin 1024) : k0_pay2 x0 x1 (ix2 r k) = rms (row x0 r) (one x1) k := by
  unfold rms rinv row one
  pointwise [k0_pay2]

/-- The product of a tile of normalised rows with a matrix held transposed. -/
def pL (n : S512x1024.Idx → EReal) (w : S2048x1024.Idx → EReal) : S512x2048.Idx → EReal :=
  fun j => dotT (row n (j 0)) (fun i => w (ix2 (j 1) i))

/-- The activation over a tile. -/
def aL (n : S512x1024.Idx → EReal) (w v : S2048x1024.Idx → EReal) : S512x2048.Idx → EReal :=
  fun j => pL n w j * Ideal.logistic (pL n w j) * pL n v j

theorem g_pay0 (r : Fin 512) (e : Fin 256) :
    k0_pay5 x0 x1 (View.ld x3 (Rect.unit ![0, 0] ![256, 1024] inb_S2048x1024_S256x1024_0_0)) (ix2 r e)
      = pL (k0_pay2 x0 x1) x3 (ix2 r (col 0 e)) := by
  unfold pL dotT row
  pointwise [k0_pay3, k0_pay4, k0_pay5, k0_pay6, k0_pay7]
  have hc : (⟨e.val, by omega⟩ : Fin 2048) = col 0 e := Fin.ext (by simp [col])
  simp only [hc]

theorem g_pay1 (r : Fin 512) (e : Fin 256) :
    k0_pay10 (k0_pay2 x0 x1) (View.ld x3 (Rect.unit ![256, 0] ![256, 1024] inb_S2048x1024_S256x1024_256_0)) (ix2 r e)
      = pL (k0_pay2 x0 x1) x3 (ix2 r (col 1 e)) := by
  unfold pL dotT row
  pointwise [k0_pay8, k0_pay9, k0_pay10, k0_pay11, k0_pay12]
  rfl

theorem g_pay2 (r : Fin 512) (e : Fin 256) :
    k0_pay15 (k0_pay2 x0 x1) (View.ld x3 (Rect.unit ![512, 0] ![256, 1024] inb_S2048x1024_S256x1024_512_0)) (ix2 r e)
      = pL (k0_pay2 x0 x1) x3 (ix2 r (col 2 e)) := by
  unfold pL dotT row
  pointwise [k0_pay13, k0_pay14, k0_pay15, k0_pay16, k0_pay17]
  rfl

theorem g_pay3 (r : Fin 512) (e : Fin 256) :
    k0_pay20 (k0_pay2 x0 x1) (View.ld x3 (Rect.unit ![768, 0] ![256, 1024] inb_S2048x1024_S256x1024_768_0)) (ix2 r e)
      = pL (k0_pay2 x0 x1) x3 (ix2 r (col 3 e)) := by
  unfold pL dotT row
  pointwise [k0_pay18, k0_pay19, k0_pay20, k0_pay21, k0_pay22]
  rfl

theorem g_pay4 (r : Fin 512) (e : Fin 256) :
    k0_pay25 (k0_pay2 x0 x1) (View.ld x3 (Rect.unit ![1024, 0] ![256, 1024] inb_S2048x1024_S256x1024_1024_0)) (ix2 r e)
      = pL (k0_pay2 x0 x1) x3 (ix2 r (col 4 e)) := by
  unfold pL dotT row
  pointwise [k0_pay23, k0_pay24, k0_pay25, k0_pay26, k0_pay27]
  rfl

theorem g_pay5 (r : Fin 512) (e : Fin 256) :
    k0_pay30 (k0_pay2 x0 x1) (View.ld x3 (Rect.unit ![1280, 0] ![256, 1024] inb_S2048x1024_S256x1024_1280_0)) (ix2 r e)
      = pL (k0_pay2 x0 x1) x3 (ix2 r (col 5 e)) := by
  unfold pL dotT row
  pointwise [k0_pay28, k0_pay29, k0_pay30, k0_pay31, k0_pay32]
  rfl

theorem g_pay6 (r : Fin 512) (e : Fin 256) :
    k0_pay35 (k0_pay2 x0 x1) (View.ld x3 (Rect.unit ![1536, 0] ![256, 1024] inb_S2048x1024_S256x1024_1536_0)) (ix2 r e)
      = pL (k0_pay2 x0 x1) x3 (ix2 r (col 6 e)) := by
  unfold pL dotT row
  pointwise [k0_pay33, k0_pay34, k0_pay35, k0_pay36, k0_pay37]
  rfl

theorem g_pay7 (r : Fin 512) (e : Fin 256) :
    k0_pay40 (k0_pay2 x0 x1) (View.ld x3 (Rect.unit ![1792, 0] ![256, 1024] inb_S2048x1024_S256x1024_1792_0)) (ix2 r e)
      = pL (k0_pay2 x0 x1) x3 (ix2 r (col 7 e)) := by
  unfold pL dotT row
  pointwise [k0_pay38, k0_pay39, k0_pay40, k0_pay41, k0_pay42]
  rfl

theorem u_pay0 (r : Fin 512) (e : Fin 256) :
    k0_pay6 x0 x1 (View.ld x4 (Rect.unit ![0, 0] ![256, 1024] inb_S2048x1024_S256x1024_0_0)) (ix2 r e)
      = pL (k0_pay2 x0 x1) x4 (ix2 r (col 0 e)) := by
  unfold pL dotT row
  pointwise [k0_pay3, k0_pay4, k0_pay5, k0_pay6, k0_pay7]
  have hc : (⟨e.val, by omega⟩ : Fin 2048) = col 0 e := Fin.ext (by simp [col])
  simp only [hc]

theorem u_pay1 (r : Fin 512) (e : Fin 256) :
    k0_pay11 (k0_pay2 x0 x1) (View.ld x4 (Rect.unit ![256, 0] ![256, 1024] inb_S2048x1024_S256x1024_256_0)) (ix2 r e)
      = pL (k0_pay2 x0 x1) x4 (ix2 r (col 1 e)) := by
  unfold pL dotT row
  pointwise [k0_pay8, k0_pay9, k0_pay10, k0_pay11, k0_pay12]
  rfl

theorem u_pay2 (r : Fin 512) (e : Fin 256) :
    k0_pay16 (k0_pay2 x0 x1) (View.ld x4 (Rect.unit ![512, 0] ![256, 1024] inb_S2048x1024_S256x1024_512_0)) (ix2 r e)
      = pL (k0_pay2 x0 x1) x4 (ix2 r (col 2 e)) := by
  unfold pL dotT row
  pointwise [k0_pay13, k0_pay14, k0_pay15, k0_pay16, k0_pay17]
  rfl

theorem u_pay3 (r : Fin 512) (e : Fin 256) :
    k0_pay21 (k0_pay2 x0 x1) (View.ld x4 (Rect.unit ![768, 0] ![256, 1024] inb_S2048x1024_S256x1024_768_0)) (ix2 r e)
      = pL (k0_pay2 x0 x1) x4 (ix2 r (col 3 e)) := by
  unfold pL dotT row
  pointwise [k0_pay18, k0_pay19, k0_pay20, k0_pay21, k0_pay22]
  rfl

theorem u_pay4 (r : Fin 512) (e : Fin 256) :
    k0_pay26 (k0_pay2 x0 x1) (View.ld x4 (Rect.unit ![1024, 0] ![256, 1024] inb_S2048x1024_S256x1024_1024_0)) (ix2 r e)
      = pL (k0_pay2 x0 x1) x4 (ix2 r (col 4 e)) := by
  unfold pL dotT row
  pointwise [k0_pay23, k0_pay24, k0_pay25, k0_pay26, k0_pay27]
  rfl

theorem u_pay5 (r : Fin 512) (e : Fin 256) :
    k0_pay31 (k0_pay2 x0 x1) (View.ld x4 (Rect.unit ![1280, 0] ![256, 1024] inb_S2048x1024_S256x1024_1280_0)) (ix2 r e)
      = pL (k0_pay2 x0 x1) x4 (ix2 r (col 5 e)) := by
  unfold pL dotT row
  pointwise [k0_pay28, k0_pay29, k0_pay30, k0_pay31, k0_pay32]
  rfl

theorem u_pay6 (r : Fin 512) (e : Fin 256) :
    k0_pay36 (k0_pay2 x0 x1) (View.ld x4 (Rect.unit ![1536, 0] ![256, 1024] inb_S2048x1024_S256x1024_1536_0)) (ix2 r e)
      = pL (k0_pay2 x0 x1) x4 (ix2 r (col 6 e)) := by
  unfold pL dotT row
  pointwise [k0_pay33, k0_pay34, k0_pay35, k0_pay36, k0_pay37]
  rfl

theorem u_pay7 (r : Fin 512) (e : Fin 256) :
    k0_pay41 (k0_pay2 x0 x1) (View.ld x4 (Rect.unit ![1792, 0] ![256, 1024] inb_S2048x1024_S256x1024_1792_0)) (ix2 r e)
      = pL (k0_pay2 x0 x1) x4 (ix2 r (col 7 e)) := by
  unfold pL dotT row
  pointwise [k0_pay38, k0_pay39, k0_pay40, k0_pay41, k0_pay42]
  rfl

theorem a_pay0 (r : Fin 512) (e : Fin 256) :
    k0_pay7 x0 x1 (View.ld x3 (Rect.unit ![0, 0] ![256, 1024] inb_S2048x1024_S256x1024_0_0)) (View.ld x4 (Rect.unit ![0, 0] ![256, 1024] inb_S2048x1024_S256x1024_0_0)) (ix2 r e)
      = aL (k0_pay2 x0 x1) x3 x4 (ix2 r (col 0 e)) := by
  unfold aL pL dotT row
  pointwise [k0_pay3, k0_pay4, k0_pay5, k0_pay6, k0_pay7]
  have hc : (⟨e.val, by omega⟩ : Fin 2048) = col 0 e := Fin.ext (by simp [col])
  simp only [hc]

theorem a_pay1 (r : Fin 512) (e : Fin 256) :
    k0_pay12 (k0_pay2 x0 x1) (View.ld x3 (Rect.unit ![256, 0] ![256, 1024] inb_S2048x1024_S256x1024_256_0)) (View.ld x4 (Rect.unit ![256, 0] ![256, 1024] inb_S2048x1024_S256x1024_256_0)) (ix2 r e)
      = aL (k0_pay2 x0 x1) x3 x4 (ix2 r (col 1 e)) := by
  unfold aL pL dotT row
  pointwise [k0_pay8, k0_pay9, k0_pay10, k0_pay11, k0_pay12]
  rfl

theorem a_pay2 (r : Fin 512) (e : Fin 256) :
    k0_pay17 (k0_pay2 x0 x1) (View.ld x3 (Rect.unit ![512, 0] ![256, 1024] inb_S2048x1024_S256x1024_512_0)) (View.ld x4 (Rect.unit ![512, 0] ![256, 1024] inb_S2048x1024_S256x1024_512_0)) (ix2 r e)
      = aL (k0_pay2 x0 x1) x3 x4 (ix2 r (col 2 e)) := by
  unfold aL pL dotT row
  pointwise [k0_pay13, k0_pay14, k0_pay15, k0_pay16, k0_pay17]
  rfl

theorem a_pay3 (r : Fin 512) (e : Fin 256) :
    k0_pay22 (k0_pay2 x0 x1) (View.ld x3 (Rect.unit ![768, 0] ![256, 1024] inb_S2048x1024_S256x1024_768_0)) (View.ld x4 (Rect.unit ![768, 0] ![256, 1024] inb_S2048x1024_S256x1024_768_0)) (ix2 r e)
      = aL (k0_pay2 x0 x1) x3 x4 (ix2 r (col 3 e)) := by
  unfold aL pL dotT row
  pointwise [k0_pay18, k0_pay19, k0_pay20, k0_pay21, k0_pay22]
  rfl

theorem a_pay4 (r : Fin 512) (e : Fin 256) :
    k0_pay27 (k0_pay2 x0 x1) (View.ld x3 (Rect.unit ![1024, 0] ![256, 1024] inb_S2048x1024_S256x1024_1024_0)) (View.ld x4 (Rect.unit ![1024, 0] ![256, 1024] inb_S2048x1024_S256x1024_1024_0)) (ix2 r e)
      = aL (k0_pay2 x0 x1) x3 x4 (ix2 r (col 4 e)) := by
  unfold aL pL dotT row
  pointwise [k0_pay23, k0_pay24, k0_pay25, k0_pay26, k0_pay27]
  rfl

theorem a_pay5 (r : Fin 512) (e : Fin 256) :
    k0_pay32 (k0_pay2 x0 x1) (View.ld x3 (Rect.unit ![1280, 0] ![256, 1024] inb_S2048x1024_S256x1024_1280_0)) (View.ld x4 (Rect.unit ![1280, 0] ![256, 1024] inb_S2048x1024_S256x1024_1280_0)) (ix2 r e)
      = aL (k0_pay2 x0 x1) x3 x4 (ix2 r (col 5 e)) := by
  unfold aL pL dotT row
  pointwise [k0_pay28, k0_pay29, k0_pay30, k0_pay31, k0_pay32]
  rfl

theorem a_pay6 (r : Fin 512) (e : Fin 256) :
    k0_pay37 (k0_pay2 x0 x1) (View.ld x3 (Rect.unit ![1536, 0] ![256, 1024] inb_S2048x1024_S256x1024_1536_0)) (View.ld x4 (Rect.unit ![1536, 0] ![256, 1024] inb_S2048x1024_S256x1024_1536_0)) (ix2 r e)
      = aL (k0_pay2 x0 x1) x3 x4 (ix2 r (col 6 e)) := by
  unfold aL pL dotT row
  pointwise [k0_pay33, k0_pay34, k0_pay35, k0_pay36, k0_pay37]
  rfl

theorem a_pay7 (r : Fin 512) (e : Fin 256) :
    k0_pay42 (k0_pay2 x0 x1) (View.ld x3 (Rect.unit ![1792, 0] ![256, 1024] inb_S2048x1024_S256x1024_1792_0)) (View.ld x4 (Rect.unit ![1792, 0] ![256, 1024] inb_S2048x1024_S256x1024_1792_0)) (ix2 r e)
      = aL (k0_pay2 x0 x1) x3 x4 (ix2 r (col 7 e)) := by
  unfold aL pL dotT row
  pointwise [k0_pay38, k0_pay39, k0_pay40, k0_pay41, k0_pay42]
  rfl

theorem g_cn : View.canon (Val := Elt Ideal) (s := S512x2048) (e := .bf16) ([⟨Rect.unit ![0, 1792] ![512, 256] inb_S512x2048_S512x256_0_1792, k0_pay40 (k0_pay2 x0 x1) (View.ld x3 (Rect.unit ![1792, 0] ![256, 1024] inb_S2048x1024_S256x1024_1792_0))⟩, ⟨Rect.unit ![0, 1536] ![512, 256] inb_S512x2048_S512x256_0_1536, k0_pay35 (k0_pay2 x0 x1) (View.ld x3 (Rect.unit ![1536, 0] ![256, 1024] inb_S2048x1024_S256x1024_1536_0))⟩, ⟨Rect.unit ![0, 1280] ![512, 256] inb_S512x2048_S512x256_0_1280, k0_pay30 (k0_pay2 x0 x1) (View.ld x3 (Rect.unit ![1280, 0] ![256, 1024] inb_S2048x1024_S256x1024_1280_0))⟩, ⟨Rect.unit ![0, 1024] ![512, 256] inb_S512x2048_S512x256_0_1024, k0_pay25 (k0_pay2 x0 x1) (View.ld x3 (Rect.unit ![1024, 0] ![256, 1024] inb_S2048x1024_S256x1024_1024_0))⟩, ⟨Rect.unit ![0, 768] ![512, 256] inb_S512x2048_S512x256_0_768, k0_pay20 (k0_pay2 x0 x1) (View.ld x3 (Rect.unit ![768, 0] ![256, 1024] inb_S2048x1024_S256x1024_768_0))⟩, ⟨Rect.unit ![0, 512] ![512, 256] inb_S512x2048_S512x256_0_512, k0_pay15 (k0_pay2 x0 x1) (View.ld x3 (Rect.unit ![512, 0] ![256, 1024] inb_S2048x1024_S256x1024_512_0))⟩, ⟨Rect.unit ![0, 256] ![512, 256] inb_S512x2048_S512x256_0_256, k0_pay10 (k0_pay2 x0 x1) (View.ld x3 (Rect.unit ![256, 0] ![256, 1024] inb_S2048x1024_S256x1024_256_0))⟩, ⟨Rect.unit ![0, 0] ![512, 256] inb_S512x2048_S512x256_0_0, k0_pay5 x0 x1 (View.ld x3 (Rect.unit ![0, 0] ![256, 1024] inb_S2048x1024_S256x1024_0_0))⟩] : List (View.Piece (Elt Ideal) S512x2048 .bf16)) = pL (k0_pay2 x0 x1) x3 :=
  cn_all _ _ _ _ _ _ _ _ _ _ _ _ _ _ _ _ _ (g_pay0 x0 x1 x3) (g_pay1 x0 x1 x3) (g_pay2 x0 x1 x3) (g_pay3 x0 x1 x3) (g_pay4 x0 x1 x3) (g_pay5 x0 x1 x3) (g_pay6 x0 x1 x3) (g_pay7 x0 x1 x3)

theorem u_cn : View.canon (Val := Elt Ideal) (s := S512x2048) (e := .bf16) ([⟨Rect.unit ![0, 1792] ![512, 256] inb_S512x2048_S512x256_0_1792, k0_pay41 (k0_pay2 x0 x1) (View.ld x4 (Rect.unit ![1792, 0] ![256, 1024] inb_S2048x1024_S256x1024_1792_0))⟩, ⟨Rect.unit ![0, 1536] ![512, 256] inb_S512x2048_S512x256_0_1536, k0_pay36 (k0_pay2 x0 x1) (View.ld x4 (Rect.unit ![1536, 0] ![256, 1024] inb_S2048x1024_S256x1024_1536_0))⟩, ⟨Rect.unit ![0, 1280] ![512, 256] inb_S512x2048_S512x256_0_1280, k0_pay31 (k0_pay2 x0 x1) (View.ld x4 (Rect.unit ![1280, 0] ![256, 1024] inb_S2048x1024_S256x1024_1280_0))⟩, ⟨Rect.unit ![0, 1024] ![512, 256] inb_S512x2048_S512x256_0_1024, k0_pay26 (k0_pay2 x0 x1) (View.ld x4 (Rect.unit ![1024, 0] ![256, 1024] inb_S2048x1024_S256x1024_1024_0))⟩, ⟨Rect.unit ![0, 768] ![512, 256] inb_S512x2048_S512x256_0_768, k0_pay21 (k0_pay2 x0 x1) (View.ld x4 (Rect.unit ![768, 0] ![256, 1024] inb_S2048x1024_S256x1024_768_0))⟩, ⟨Rect.unit ![0, 512] ![512, 256] inb_S512x2048_S512x256_0_512, k0_pay16 (k0_pay2 x0 x1) (View.ld x4 (Rect.unit ![512, 0] ![256, 1024] inb_S2048x1024_S256x1024_512_0))⟩, ⟨Rect.unit ![0, 256] ![512, 256] inb_S512x2048_S512x256_0_256, k0_pay11 (k0_pay2 x0 x1) (View.ld x4 (Rect.unit ![256, 0] ![256, 1024] inb_S2048x1024_S256x1024_256_0))⟩, ⟨Rect.unit ![0, 0] ![512, 256] inb_S512x2048_S512x256_0_0, k0_pay6 x0 x1 (View.ld x4 (Rect.unit ![0, 0] ![256, 1024] inb_S2048x1024_S256x1024_0_0))⟩] : List (View.Piece (Elt Ideal) S512x2048 .bf16)) = pL (k0_pay2 x0 x1) x4 :=
  cn_all _ _ _ _ _ _ _ _ _ _ _ _ _ _ _ _ _ (u_pay0 x0 x1 x4) (u_pay1 x0 x1 x4) (u_pay2 x0 x1 x4) (u_pay3 x0 x1 x4) (u_pay4 x0 x1 x4) (u_pay5 x0 x1 x4) (u_pay6 x0 x1 x4) (u_pay7 x0 x1 x4)

theorem a_cn : View.canon (Val := Elt Ideal) (s := S512x2048) (e := .bf16) ([⟨Rect.unit ![0, 1792] ![512, 256] inb_S512x2048_S512x256_0_1792, k0_pay42 (k0_pay2 x0 x1) (View.ld x3 (Rect.unit ![1792, 0] ![256, 1024] inb_S2048x1024_S256x1024_1792_0)) (View.ld x4 (Rect.unit ![1792, 0] ![256, 1024] inb_S2048x1024_S256x1024_1792_0))⟩, ⟨Rect.unit ![0, 1536] ![512, 256] inb_S512x2048_S512x256_0_1536, k0_pay37 (k0_pay2 x0 x1) (View.ld x3 (Rect.unit ![1536, 0] ![256, 1024] inb_S2048x1024_S256x1024_1536_0)) (View.ld x4 (Rect.unit ![1536, 0] ![256, 1024] inb_S2048x1024_S256x1024_1536_0))⟩, ⟨Rect.unit ![0, 1280] ![512, 256] inb_S512x2048_S512x256_0_1280, k0_pay32 (k0_pay2 x0 x1) (View.ld x3 (Rect.unit ![1280, 0] ![256, 1024] inb_S2048x1024_S256x1024_1280_0)) (View.ld x4 (Rect.unit ![1280, 0] ![256, 1024] inb_S2048x1024_S256x1024_1280_0))⟩, ⟨Rect.unit ![0, 1024] ![512, 256] inb_S512x2048_S512x256_0_1024, k0_pay27 (k0_pay2 x0 x1) (View.ld x3 (Rect.unit ![1024, 0] ![256, 1024] inb_S2048x1024_S256x1024_1024_0)) (View.ld x4 (Rect.unit ![1024, 0] ![256, 1024] inb_S2048x1024_S256x1024_1024_0))⟩, ⟨Rect.unit ![0, 768] ![512, 256] inb_S512x2048_S512x256_0_768, k0_pay22 (k0_pay2 x0 x1) (View.ld x3 (Rect.unit ![768, 0] ![256, 1024] inb_S2048x1024_S256x1024_768_0)) (View.ld x4 (Rect.unit ![768, 0] ![256, 1024] inb_S2048x1024_S256x1024_768_0))⟩, ⟨Rect.unit ![0, 512] ![512, 256] inb_S512x2048_S512x256_0_512, k0_pay17 (k0_pay2 x0 x1) (View.ld x3 (Rect.unit ![512, 0] ![256, 1024] inb_S2048x1024_S256x1024_512_0)) (View.ld x4 (Rect.unit ![512, 0] ![256, 1024] inb_S2048x1024_S256x1024_512_0))⟩, ⟨Rect.unit ![0, 256] ![512, 256] inb_S512x2048_S512x256_0_256, k0_pay12 (k0_pay2 x0 x1) (View.ld x3 (Rect.unit ![256, 0] ![256, 1024] inb_S2048x1024_S256x1024_256_0)) (View.ld x4 (Rect.unit ![256, 0] ![256, 1024] inb_S2048x1024_S256x1024_256_0))⟩, ⟨Rect.unit ![0, 0] ![512, 256] inb_S512x2048_S512x256_0_0, k0_pay7 x0 x1 (View.ld x3 (Rect.unit ![0, 0] ![256, 1024] inb_S2048x1024_S256x1024_0_0)) (View.ld x4 (Rect.unit ![0, 0] ![256, 1024] inb_S2048x1024_S256x1024_0_0))⟩] : List (View.Piece (Elt Ideal) S512x2048 .bf16)) = aL (k0_pay2 x0 x1) x3 x4 :=
  cn_all _ _ _ _ _ _ _ _ _ _ _ _ _ _ _ _ _ (a_pay0 x0 x1 x3 x4) (a_pay1 x0 x1 x3 x4) (a_pay2 x0 x1 x3 x4) (a_pay3 x0 x1 x3 x4) (a_pay4 x0 x1 x3 x4) (a_pay5 x0 x1 x3 x4) (a_pay6 x0 x1 x3 x4) (a_pay7 x0 x1 x3 x4)

theorem a_rd {κ : Kind} {sp : Space} (vw : View sig κ sp S512x2048 .bf16) (inb) :
    vw.readCov ([⟨Rect.unit ![0, 1792] ![512, 256] inb_S512x2048_S512x256_0_1792, k0_pay42 (k0_pay2 x0 x1) (View.ld x3 (Rect.unit ![1792, 0] ![256, 1024] inb_S2048x1024_S256x1024_1792_0)) (View.ld x4 (Rect.unit ![1792, 0] ![256, 1024] inb_S2048x1024_S256x1024_1792_0))⟩, ⟨Rect.unit ![0, 1536] ![512, 256] inb_S512x2048_S512x256_0_1536, k0_pay37 (k0_pay2 x0 x1) (View.ld x3 (Rect.unit ![1536, 0] ![256, 1024] inb_S2048x1024_S256x1024_1536_0)) (View.ld x4 (Rect.unit ![1536, 0] ![256, 1024] inb_S2048x1024_S256x1024_1536_0))⟩, ⟨Rect.unit ![0, 1280] ![512, 256] inb_S512x2048_S512x256_0_1280, k0_pay32 (k0_pay2 x0 x1) (View.ld x3 (Rect.unit ![1280, 0] ![256, 1024] inb_S2048x1024_S256x1024_1280_0)) (View.ld x4 (Rect.unit ![1280, 0] ![256, 1024] inb_S2048x1024_S256x1024_1280_0))⟩, ⟨Rect.unit ![0, 1024] ![512, 256] inb_S512x2048_S512x256_0_1024, k0_pay27 (k0_pay2 x0 x1) (View.ld x3 (Rect.unit ![1024, 0] ![256, 1024] inb_S2048x1024_S256x1024_1024_0)) (View.ld x4 (Rect.unit ![1024, 0] ![256, 1024] inb_S2048x1024_S256x1024_1024_0))⟩, ⟨Rect.unit ![0, 768] ![512, 256] inb_S512x2048_S512x256_0_768, k0_pay22 (k0_pay2 x0 x1) (View.ld x3 (Rect.unit ![768, 0] ![256, 1024] inb_S2048x1024_S256x1024_768_0)) (View.ld x4 (Rect.unit ![768, 0] ![256, 1024] inb_S2048x1024_S256x1024_768_0))⟩, ⟨Rect.unit ![0, 512] ![512, 256] inb_S512x2048_S512x256_0_512, k0_pay17 (k0_pay2 x0 x1) (View.ld x3 (Rect.unit ![512, 0] ![256, 1024] inb_S2048x1024_S256x1024_512_0)) (View.ld x4 (Rect.unit ![512, 0] ![256, 1024] inb_S2048x1024_S256x1024_512_0))⟩, ⟨Rect.unit ![0, 256] ![512, 256] inb_S512x2048_S512x256_0_256, k0_pay12 (k0_pay2 x0 x1) (View.ld x3 (Rect.unit ![256, 0] ![256, 1024] inb_S2048x1024_S256x1024_256_0)) (View.ld x4 (Rect.unit ![256, 0] ![256, 1024] inb_S2048x1024_S256x1024_256_0))⟩, ⟨Rect.unit ![0, 0] ![512, 256] inb_S512x2048_S512x256_0_0, k0_pay7 x0 x1 (View.ld x3 (Rect.unit ![0, 0] ![256, 1024] inb_S2048x1024_S256x1024_0_0)) (View.ld x4 (Rect.unit ![0, 0] ![256, 1024] inb_S2048x1024_S256x1024_0_0))⟩] : List (View.Piece (Elt Ideal) S512x2048 .bf16)) (Rect.unit (s := S512x2048) ![0, 0] ![512, 2048] inb).toLoadRect = aL (k0_pay2 x0 x1) x3 x4 :=
  rd_all vw _ _ _ _ _ _ _ _ _ _ _ _ _ _ _ _ _ (a_pay0 x0 x1 x3 x4) (a_pay1 x0 x1 x3 x4) (a_pay2 x0 x1 x3 x4) (a_pay3 x0 x1 x3 x4) (a_pay4 x0 x1 x3 x4) (a_pay5 x0 x1 x3 x4) (a_pay6 x0 x1 x3 x4) (a_pay7 x0 x1 x3 x4) inb

theorem pay43 (a : Vec Ideal S512x2048 .bf16) (r : Fin 512) (k : Fin 1024) :
    k0_pay43 a x5 (ix2 r k) = ∑ j : Fin 2048, a (ix2 r j) * x5 (ix2 j k) := by
  pointwise [k0_pay43]

theorem pay44 (a : Vec Ideal S512x2048 .bf16) (r : Fin 512) (k : Fin 1024) :
    k0_pay44 a x5 (ix2 r k) = k0_pay43 a x5 (ix2 r k) * rinv (row (k0_pay43 a x5) r) := by
  unfold rinv row
  pointwise [k0_pay44]

theorem pay1 (a : Vec Ideal S512x2048 .bf16) (r : Fin 512) (k : Fin 1024) :
    k0_pay1 x0 (k0_pay44 a x5) (k0_pay45 x2) (ix2 r k) = x0 (ix2 r k) + lit 0x3F000000#32 * rms (row (k0_pay43 a x5) r) (one x2) k := by
  unfold rms
  rw [← pay44]
  pointwise [k0_pay1, k0_pay45]

end Cert.Kernel3Ideal.Fw

end

end
-- ==== Proof.FwOut.lean ====
/- The arrays the feed-forward forward launch leaves. -/
module

public import proofs.«01_k».proof.Proof.FwChunk

@[expose] public section

set_option maxRecDepth 16384

noncomputable section

open Idealize.ShloMosaic Idealize.ShloMosaic.TcCoe Idealize.SL.Sem
open Idealize.ShloMosaic.Pipeline (Dat)

namespace Cert.Kernel3Ideal.Fw
open Cert.Kernel3Ideal Cert.Kernel3Ideal.Gen Cert.FfSpec

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![t.val, 0] ∧ win0_7.index t = ![t.val, 0] ∧ win0_8.index t = ![t.val, 0] ∧ win0_9.index t = ![t.val, 0] ∧ win0_10.index t = ![t.val, 0] ∧ win0_11.index t = ![t.val, 0] ∧ t.val < 16 :=
  (by decide +kernel : ∀ t : Fin grid0.N, _)

theorem idx0 (t : Fin cfg0.N) : win0_0.index t = ![t.val, 0] := (idx t).1
theorem idx1 (t : Fin cfg0.N) : win0_1.index t = ![0, 0] := (idx t).2.1
theorem idx2 (t : Fin cfg0.N) : win0_2.index t = ![0, 0] := (idx t).2.2.1
theorem idx3 (t : Fin cfg0.N) : win0_3.index t = ![0, 0] := (idx t).2.2.2.1
theorem idx4 (t : Fin cfg0.N) : win0_4.index t = ![0, 0] := (idx t).2.2.2.2.1
theorem idx5 (t : Fin cfg0.N) : win0_5.index t = ![0, 0] := (idx t).2.2.2.2.2.1
theorem idx6 (t : Fin cfg0.N) : win0_6.index t = ![t.val, 0] := (idx t).2.2.2.2.2.2.1
theorem idx7 (t : Fin cfg0.N) : win0_7.index t = ![t.val, 0] := (idx t).2.2.2.2.2.2.2.1
theorem idx8 (t : Fin cfg0.N) : win0_8.index t = ![t.val, 0] := (idx t).2.2.2.2.2.2.2.2.1
theorem idx9 (t : Fin cfg0.N) : win0_9.index t = ![t.val, 0] := (idx t).2.2.2.2.2.2.2.2.2.1
theorem idx10 (t : Fin cfg0.N) : win0_10.index t = ![t.val, 0] := (idx t).2.2.2.2.2.2.2.2.2.2.1
theorem idx11 (t : Fin cfg0.N) : win0_11.index t = ![t.val, 0] := (idx t).2.2.2.2.2.2.2.2.2.2.2.1
theorem lt16 (t : Fin cfg0.N) : t.val < 16 := (idx t).2.2.2.2.2.2.2.2.2.2.2.2

/-- The row of the whole array that row `r` of the tile of point `t` is. -/
def grow (t : Fin cfg0.N) (r : Fin 512) : Fin 8192 := ⟨t.val * 512 + r.val, by have := lt16 t; omega⟩

/-- A matrix by its rows. -/
abbrev rows {n : ℕ} (x : (⟨2, ![n, 1024]⟩ : Shape).Idx → EReal) : Fin n → Fin 1024 → EReal := fun j k => x (ix2 j k)

/-- A row of the two products, of the activation, of the branch and of the sublayer's output. -/
def gR (h p : Fin 1024 → EReal) (W : Fin 2048 → Fin 1024 → EReal) (j : Fin 2048) : EReal := dotT (rms h p) (W j)
def aR (h p : Fin 1024 → EReal) (W V : Fin 2048 → Fin 1024 → EReal) (j : Fin 2048) : EReal :=
  gR h p W j * Ideal.logistic (gR h p W j) * gR h p V j
def fR (h p : Fin 1024 → EReal) (W V D : Fin 2048 → Fin 1024 → EReal) (k : Fin 1024) : EReal := ∑ j, aR h p W V j * D j k
def oR (h p q : Fin 1024 → EReal) (W V D : Fin 2048 → Fin 1024 → EReal) (k : Fin 1024) : EReal :=
  h k + lit 0x3F000000#32 * rms (fR h p W V D) q k

section Tile
variable (x0 : Vec Ideal S512x1024 .f32) (x1 x2 : Vec Ideal S1x1024 .f32) (x3 x4 x5 : Vec Ideal S2048x1024 .bf16)
theorem n_row (r : Fin 512) : row (k0_pay2 x0 x1) r = rms (row x0 r) (one x1) := funext fun k => pay2 x0 x1 r k
theorem g_row (r : Fin 512) (j : Fin 2048) : pL (k0_pay2 x0 x1) x3 (ix2 r j) = gR (row x0 r) (one x1) (rows x3) j := by
  show dotT (row (k0_pay2 x0 x1) r) _ = _
  rw [n_row]; rfl
theorem a_row (r : Fin 512) (j : Fin 2048) : aL (k0_pay2 x0 x1) x3 x4 (ix2 r j) = aR (row x0 r) (one x1) (rows x3) (rows x4) j := by
  unfold aL aR
  rw [g_row, g_row]
theorem f_row (r : Fin 512) : row (k0_pay43 (aL (k0_pay2 x0 x1) x3 x4) x5) r = fR (row x0 r) (one x1) (rows x3) (rows x4) (rows x5) := by
  funext k
  show k0_pay43 _ _ (ix2 r k) = _
  rw [pay43]
  simp only [a_row]
  rfl
end Tile

theorem brow0 (c : Dev nD) (t : Fin cfg0.N) (r : Fin 512) : row (n := 1024) (iblk m c 0 t) r = fun k => V m c main_arg0 (ix2 (grow t r) k) := by
  funext k
  show iblk m c 0 t (ix2 r k) = _
  unfold grow; blk_ext [iblk, idx0]
theorem brow1 (c : Dev nD) (t : Fin cfg0.N) : one (iblk m c 1 t) = fun k => V m c main_v0 (ix2 0 k) := by
  funext k
  show iblk m c 1 t (ix2 0 k) = _
  blk_ext [iblk, idx1]
theorem brow2 (c : Dev nD) (t : Fin cfg0.N) : one (iblk m c 2 t) = fun k => V m c main_v1 (ix2 0 k) := by
  funext k
  show iblk m c 2 t (ix2 0 k) = _
  blk_ext [iblk, idx2]
theorem brow3 (c : Dev nD) (t : Fin cfg0.N) : rows (n := 2048) (iblk m c 3 t) = fun j k => V m c main_v3 (ix2 j k) := by
  funext j k
  show iblk m c 3 t (ix2 j k) = _
  blk_ext [iblk, idx3]
theorem brow4 (c : Dev nD) (t : Fin cfg0.N) : rows (n := 2048) (iblk m c 4 t) = fun j k => V m c main_v5 (ix2 j k) := by
  funext j k
  show iblk m c 4 t (ix2 j k) = _
  blk_ext [iblk, idx4]
theorem brow5 (c : Dev nD) (t : Fin cfg0.N) : rows (n := 2048) (iblk m c 5 t) = fun j k => V m c main_v6 (ix2 j k) := by
  funext j k
  show iblk m c 5 t (ix2 j k) = _
  blk_ext [iblk, idx5]

/-- The output of the sublayer. -/
def vO (c : Dev nD) (R : Fin 8192) (k : Fin 1024) : EReal := oR (fun k => V m c main_arg0 (ix2 R k)) (fun k => V m c main_v0 (ix2 0 k)) (fun k => V m c main_v1 (ix2 0 k)) (fun j k => V m c main_v3 (ix2 j k)) (fun j k => V m c main_v5 (ix2 j k)) (fun j k => V m c main_v6 (ix2 j k)) k

/-- The normalised input. -/
def vN (c : Dev nD) (R : Fin 8192) (k : Fin 1024) : EReal := rms (fun k => V m c main_arg0 (ix2 R k)) (fun k => V m c main_v0 (ix2 0 k)) k

/-- The gate. -/
def vG (c : Dev nD) (R : Fin 8192) (k : Fin 2048) : EReal := gR (fun k => V m c main_arg0 (ix2 R k)) (fun k => V m c main_v0 (ix2 0 k)) (fun j k => V m c main_v3 (ix2 j k)) k

/-- The other factor. -/
def vU (c : Dev nD) (R : Fin 8192) (k : Fin 2048) : EReal := gR (fun k => V m c main_arg0 (ix2 R k)) (fun k => V m c main_v0 (ix2 0 k)) (fun j k => V m c main_v5 (ix2 j k)) k

/-- The activation. -/
def vA (c : Dev nD) (R : Fin 8192) (k : Fin 2048) : EReal := aR (fun k => V m c main_arg0 (ix2 R k)) (fun k => V m c main_v0 (ix2 0 k)) (fun j k => V m c main_v3 (ix2 j k)) (fun j k => V m c main_v5 (ix2 j k)) k

/-- The branch. -/
def vF (c : Dev nD) (R : Fin 8192) (k : Fin 1024) : EReal := fR (fun k => V m c main_arg0 (ix2 R k)) (fun k => V m c main_v0 (ix2 0 k)) (fun j k => V m c main_v3 (ix2 j k)) (fun j k => V m c main_v5 (ix2 j k)) (fun j k => V m c main_v6 (ix2 j k)) k

theorem at_O (c : Dev nD) (t : Fin cfg0.N) (r : Fin 512) (k : Fin 1024) : (outsAt0 m c t).1 (ix2 r k) = vO m c (grow t r) k := by
  unfold outsAt0
  frame_out
  rw [a_rd, pay1, f_row, brow0, brow1, brow2, brow3, brow4, brow5]
  exact congrArg (· + _) (congrFun (brow0 m c t r) k)

theorem arr6 (c : Dev nD) : (dats m 0 c).arrAt 6 cfg0.N = fun j => vO m c (j 0) (j 1) := by
  refine (dats m 0 c).arrAt_eq_of_covers 6 _ (by decide +kernel) fun t hf y => ?_
  blk_simp
  rw [after0_6]
  idx_vars y
  have he : ((View.whole main_v7_0).slice (win0_6.rect t)).emb (ix2 y0 y1) = ix2 (grow t y0) y1 := by
    funext a
    match a with
    | ⟨0, _⟩ => exact Fin.ext (by show win0_6.index t 0 * 512 + 1 * y0.val = t.val * 512 + y0.val; rw [idx6 t]; show t.val * 512 + 1 * y0.val = _; omega)
    | ⟨1, _⟩ => exact Fin.ext (by show win0_6.index t 1 * 1024 + 1 * y1.val = y1.val; rw [idx6 t]; show 0 * 1024 + 1 * y1.val = _; omega)
  rw [he]
  exact at_O m c t y0 y1

theorem at_N (c : Dev nD) (t : Fin cfg0.N) (r : Fin 512) (k : Fin 1024) : (outsAt0 m c t).2.1 (ix2 r k) = vN m c (grow t r) k := by
  unfold outsAt0
  frame_out
  rw [pay2, brow0, brow1]; rfl

theorem arr7 (c : Dev nD) : (dats m 0 c).arrAt 7 cfg0.N = fun j => vN m c (j 0) (j 1) := by
  refine (dats m 0 c).arrAt_eq_of_covers 7 _ (by decide +kernel) fun t hf y => ?_
  blk_simp
  rw [after0_7]
  idx_vars y
  have he : ((View.whole main_v7_1).slice (win0_7.rect t)).emb (ix2 y0 y1) = ix2 (grow t y0) y1 := by
    funext a
    match a with
    | ⟨0, _⟩ => exact Fin.ext (by show win0_7.index t 0 * 512 + 1 * y0.val = t.val * 512 + y0.val; rw [idx7 t]; show t.val * 512 + 1 * y0.val = _; omega)
    | ⟨1, _⟩ => exact Fin.ext (by show win0_7.index t 1 * 1024 + 1 * y1.val = y1.val; rw [idx7 t]; show 0 * 1024 + 1 * y1.val = _; omega)
  rw [he]
  exact at_N m c t y0 y1

theorem at_G (c : Dev nD) (t : Fin cfg0.N) (r : Fin 512) (k : Fin 2048) : (outsAt0 m c t).2.2.1 (ix2 r k) = vG m c (grow t r) k := by
  unfold outsAt0
  frame_out
  rw [g_cn, g_row, brow0, brow1, brow3]; rfl

theorem arr8 (c : Dev nD) : (dats m 0 c).arrAt 8 cfg0.N = fun j => vG m c (j 0) (j 1) := by
  refine (dats m 0 c).arrAt_eq_of_covers 8 _ (by decide +kernel) fun t hf y => ?_
  blk_simp
  rw [after0_8]
  idx_vars y
  have he : ((View.whole main_v7_2).slice (win0_8.rect t)).emb (ix2 y0 y1) = ix2 (grow t y0) y1 := by
    funext a
    match a with
    | ⟨0, _⟩ => exact Fin.ext (by show win0_8.index t 0 * 512 + 1 * y0.val = t.val * 512 + y0.val; rw [idx8 t]; show t.val * 512 + 1 * y0.val = _; omega)
    | ⟨1, _⟩ => exact Fin.ext (by show win0_8.index t 1 * 2048 + 1 * y1.val = y1.val; rw [idx8 t]; show 0 * 2048 + 1 * y1.val = _; omega)
  rw [he]
  exact at_G m c t y0 y1

theorem at_U (c : Dev nD) (t : Fin cfg0.N) (r : Fin 512) (k : Fin 2048) : (outsAt0 m c t).2.2.2.1 (ix2 r k) = vU m c (grow t r) k := by
  unfold outsAt0
  frame_out
  rw [u_cn, g_row, brow0, brow1, brow4]; rfl

theorem arr9 (c : Dev nD) : (dats m 0 c).arrAt 9 cfg0.N = fun j => vU m c (j 0) (j 1) := by
  refine (dats m 0 c).arrAt_eq_of_covers 9 _ (by decide +kernel) fun t hf y => ?_
  blk_simp
  rw [after0_9]
  idx_vars y
  have he : ((View.whole main_v7_3).slice (win0_9.rect t)).emb (ix2 y0 y1) = ix2 (grow t y0) y1 := by
    funext a
    match a with
    | ⟨0, _⟩ => exact Fin.ext (by show win0_9.index t 0 * 512 + 1 * y0.val = t.val * 512 + y0.val; rw [idx9 t]; show t.val * 512 + 1 * y0.val = _; omega)
    | ⟨1, _⟩ => exact Fin.ext (by show win0_9.index t 1 * 2048 + 1 * y1.val = y1.val; rw [idx9 t]; show 0 * 2048 + 1 * y1.val = _; omega)
  rw [he]
  exact at_U m c t y0 y1

theorem at_A (c : Dev nD) (t : Fin cfg0.N) (r : Fin 512) (k : Fin 2048) : (outsAt0 m c t).2.2.2.2.1 (ix2 r k) = vA m c (grow t r) k := by
  unfold outsAt0
  frame_out
  rw [a_cn, a_row, brow0, brow1, brow3, brow4]; rfl

theorem arr10 (c : Dev nD) : (dats m 0 c).arrAt 10 cfg0.N = fun j => vA m c (j 0) (j 1) := by
  refine (dats m 0 c).arrAt_eq_of_covers 10 _ (by decide +kernel) fun t hf y => ?_
  blk_simp
  rw [after0_10]
  idx_vars y
  have he : ((View.whole main_v7_4).slice (win0_10.rect t)).emb (ix2 y0 y1) = ix2 (grow t y0) y1 := by
    funext a
    match a with
    | ⟨0, _⟩ => exact Fin.ext (by show win0_10.index t 0 * 512 + 1 * y0.val = t.val * 512 + y0.val; rw [idx10 t]; show t.val * 512 + 1 * y0.val = _; omega)
    | ⟨1, _⟩ => exact Fin.ext (by show win0_10.index t 1 * 2048 + 1 * y1.val = y1.val; rw [idx10 t]; show 0 * 2048 + 1 * y1.val = _; omega)
  rw [he]
  exact at_A m c t y0 y1

theorem at_F (c : Dev nD) (t : Fin cfg0.N) (r : Fin 512) (k : Fin 1024) : (outsAt0 m c t).2.2.2.2.2 (ix2 r k) = vF m c (grow t r) k := by
  unfold outsAt0
  frame_out
  rw [a_rd]
  refine (congrFun (f_row _ _ _ _ _ r) k).trans ?_
  rw [brow0, brow1, brow3, brow4, brow5]; rfl

theorem arr11 (c : Dev nD) : (dats m 0 c).arrAt 11 cfg0.N = fun j => vF m c (j 0) (j 1) := by
  refine (dats m 0 c).arrAt_eq_of_covers 11 _ (by decide +kernel) fun t hf y => ?_
  blk_simp
  rw [after0_11]
  idx_vars y
  have he : ((View.whole main_v7_5).slice (win0_11.rect t)).emb (ix2 y0 y1) = ix2 (grow t y0) y1 := by
    funext a
    match a with
    | ⟨0, _⟩ => exact Fin.ext (by show win0_11.index t 0 * 512 + 1 * y0.val = t.val * 512 + y0.val; rw [idx11 t]; show t.val * 512 + 1 * y0.val = _; omega)
    | ⟨1, _⟩ => exact Fin.ext (by show win0_11.index t 1 * 1024 + 1 * y1.val = y1.val; rw [idx11 t]; show 0 * 1024 + 1 * y1.val = _; omega)
  rw [he]
  exact at_F m c t y0 y1

end Cert.Kernel3Ideal.Fw

end

end
-- ==== Proof.FwRef.lean ====
/- The stages of the feed-forward sublayer, row by row. -/
module

public import proofs.«01_k».proof.Proof.FbReal
public import proofs.«01_k».proof.Proof.FwOut
public import proofs.«01_k».proof.Proof.Gen.Reference3Ideal.Read

@[expose] public section

set_option maxRecDepth 16384

noncomputable section

open Idealize.ShloMosaic Idealize.ShloMosaic.TcCoe Idealize.SL.Sem
open Idealize.ShloMosaic.Pipeline (Dat)

namespace Cert.FwRef
open Cert.Reference3Ideal Cert.Reference3Ideal.Gen Cert.Reference3Ideal.Read Cert.FfSpec
open Cert.Kernel3Ideal.Fw (gR aR fR oR)
variable (h : S8192x1024.Idx → EReal) (gpre gpost : S1024.Idx → EReal) (wg wu : S1024x2048.Idx → EReal) (wd : S2048x1024.Idx → EReal)

abbrev hr (R : Fin 8192) : Fin 1024 → EReal := fun k => h (ix2 R k)
abbrev vc (x : S1024.Idx → EReal) : Fin 1024 → EReal := fun k => x (ix1 k)
abbrev tr (w : S1024x2048.Idx → EReal) : Fin 2048 → Fin 1024 → EReal := fun j k => w (ix2 k j)
abbrev mt (w : S2048x1024.Idx → EReal) : Fin 2048 → Fin 1024 → EReal := fun j k => w (ix2 j k)

theorem v7 (R : Fin 8192) : val_main_v7 (F := Ideal) h (ix2 R 0) = rinv (hr h R) := by
  unfold rinv
  pointwise [val_main_v7, val_main_v6, val_main_v5, val_main_cst_1, val_main_v4, val_main_v3, val_main_cst_0, val_main_v2, val_main_v1, val_main_cst, val_main_v0]

theorem v12 (R : Fin 8192)(k : Fin 1024) : val_main_v12 (F := Ideal) h gpre (ix2 R k) = rms (hr h R) (vc gpre) k := by
  unfold rms
  pointwise [val_main_v12, val_main_v11, val_main_v10, val_main_v9, val_main_v8]
  rw [v7]

theorem v13 (R : Fin 8192)(j : Fin 2048) : val_main_v13 (F := Ideal) h gpre wg (ix2 R j) = gR (hr h R) (vc gpre) (tr wg) j := by
  unfold gR dotT
  pointwise [val_main_v13]
  simp only [v12]

theorem v14 (R : Fin 8192)(j : Fin 2048) : val_main_v14 (F := Ideal) h gpre wu (ix2 R j) = gR (hr h R) (vc gpre) (tr wu) j := by
  unfold gR dotT
  pointwise [val_main_v14]
  simp only [v12]

theorem v17 (R : Fin 8192)(j : Fin 2048) : val_main_v17 (F := Ideal) h gpre wg (ix2 R j) = gR (hr h R) (vc gpre) (tr wg) j := by
  unfold gR dotT
  pointwise [val_main_v17]
  simp only [v12]

theorem v19 (R : Fin 8192)(j : Fin 2048) : val_main_v19 (F := Ideal) h gpre wu (ix2 R j) = gR (hr h R) (vc gpre) (tr wu) j := by
  unfold gR dotT
  pointwise [val_main_v19]
  simp only [v12]

theorem v16 (R : Fin 8192)(j : Fin 2048) : val_main_v16 (F := Ideal) h gpre wg wu (ix2 R j) = aR (hr h R) (vc gpre) (tr wg) (tr wu) j := by
  unfold aR
  rw [← sig_eq, ← v13 h gpre wg R j, ← v14 h gpre wu R j]
  pointwise [val_main_v16, val_main_v15, val_main_call0_v5, val_main_call0_v4, val_main_call0_cst_0, val_main_call0_v3, val_main_call0_v2, val_main_call0_cst, val_main_call0_v1, val_main_call0_v0]

theorem v20 (R : Fin 8192)(j : Fin 2048) : val_main_v20 (F := Ideal) h gpre wg wu (ix2 R j) = aR (hr h R) (vc gpre) (tr wg) (tr wu) j := by
  unfold aR
  rw [← sig_eq, ← v17 h gpre wg R j, ← v19 h gpre wu R j]
  pointwise [val_main_v20, val_main_v18, val_main_call1_v5, val_main_call1_v4, val_main_call1_cst_0, val_main_call1_v3, val_main_call1_v2, val_main_call1_cst, val_main_call1_v1, val_main_call1_v0]

theorem v21 (R : Fin 8192)(k : Fin 1024) : val_main_v21 (F := Ideal) h gpre wg wu wd (ix2 R k) = (fR (hr h R) (vc gpre) (tr wg) (tr wu) (mt wd)) k := by
  unfold fR
  pointwise [val_main_v21]
  simp only [v20]

theorem v29 (R : Fin 8192) : val_main_v29 (F := Ideal) h gpre wg wu wd (ix2 R 0) = rinv (fR (hr h R) (vc gpre) (tr wg) (tr wu) (mt wd)) := by
  unfold rinv
  pointwise [val_main_v29, val_main_v28, val_main_v27, val_main_cst_4, val_main_v26, val_main_v25, val_main_cst_3, val_main_v24, val_main_v23, val_main_cst_2, val_main_v22]
  simp only [v21]

theorem v34 (R : Fin 8192)(k : Fin 1024) : val_main_v34 (F := Ideal) h gpre gpost wg wu wd (ix2 R k) = rms (fR (hr h R) (vc gpre) (tr wg) (tr wu) (mt wd)) (vc gpost) k := by
  unfold rms
  pointwise [val_main_v34, val_main_v33, val_main_v32, val_main_v31, val_main_v30]
  rw [v29, v21]

theorem v37 (R : Fin 8192)(k : Fin 1024) : val_main_v37 (F := Ideal) h gpre gpost wg wu wd (ix2 R k) = oR (hr h R) (vc gpre) (vc gpost) (tr wg) (tr wu) (mt wd) k := by
  unfold oR
  rw [← v34]
  pointwise [val_main_v37, val_main_v36, val_main_v35, val_main_cst_5]

theorem v38 (R : Fin 8192)(k : Fin 1024) : val_main_v38 (F := Ideal) h gpre (ix2 R k) = rms (hr h R) (vc gpre) k := by
  rw [← v12]
  pointwise [val_main_v38]

theorem v39 (R : Fin 8192)(j : Fin 2048) : val_main_v39 (F := Ideal) h gpre wg (ix2 R j) = gR (hr h R) (vc gpre) (tr wg) j := by
  rw [← v13]
  pointwise [val_main_v39]

theorem v40 (R : Fin 8192)(j : Fin 2048) : val_main_v40 (F := Ideal) h gpre wu (ix2 R j) = gR (hr h R) (vc gpre) (tr wu) j := by
  rw [← v14]
  pointwise [val_main_v40]

theorem v41 (R : Fin 8192)(j : Fin 2048) : val_main_v41 (F := Ideal) h gpre wg wu (ix2 R j) = aR (hr h R) (vc gpre) (tr wg) (tr wu) j := by
  rw [← v16]
  pointwise [val_main_v41]

end Cert.FwRef

end

end
-- ==== Proof.FwHost.lean ====
/- What the host lines hand to the feed-forward forward launch. -/
module

public import proofs.«01_k».proof.Proof.FwOut

@[expose] public section

set_option maxRecDepth 16384

noncomputable section

open Idealize.ShloMosaic Idealize.ShloMosaic.TcCoe Idealize.SL.Sem
open Idealize.ShloMosaic.Pipeline (Dat)

namespace Cert.Kernel3Ideal.Fw
open Cert.Kernel3Ideal Cert.Kernel3Ideal.Gen Cert.FfSpec

variable (m : (ℓ : Loc nD τ sig) → Buf (Elt Ideal) ℓ)

/-- The arguments of the call. -/
abbrev aH (c : Dev nD) : S8192x1024.Idx → EReal := m ((c : Thread nD τ).loc main_arg0)
abbrev aP (c : Dev nD) : S1024.Idx → EReal := m ((c : Thread nD τ).loc main_arg1)
abbrev aQ (c : Dev nD) : S1024.Idx → EReal := m ((c : Thread nD τ).loc main_arg2)
abbrev aG (c : Dev nD) : S1024x2048.Idx → EReal := m ((c : Thread nD τ).loc main_arg3)
abbrev aU (c : Dev nD) : S1024x2048.Idx → EReal := m ((c : Thread nD τ).loc main_arg4)
abbrev aD (c : Dev nD) : S2048x1024.Idx → EReal := m ((c : Thread nD τ).loc main_arg5)

theorem V_arg0 (c : Dev nD) (R : Fin 8192) (k : Fin 1024) : V m c main_arg0 (ix2 R k) = aH m c (ix2 R k) := by
  unfold V; simp only [hostOps0]
  after_results

theorem V_v0 (c : Dev nD) (k : Fin 1024) : V m c main_v0 (ix2 0 k) = aP m c (ix1 k) := by
  unfold V; simp only [hostOps0]
  after_results
  pointwise

theorem V_v1 (c : Dev nD) (k : Fin 1024) : V m c main_v1 (ix2 0 k) = aQ m c (ix1 k) := by
  unfold V; simp only [hostOps0]
  after_results
  pointwise

theorem V_v3 (c : Dev nD) (j : Fin 2048) (k : Fin 1024) : V m c main_v3 (ix2 j k) = aG m c (ix2 k j) := by
  unfold V; simp only [hostOps0]
  after_results
  pointwise

theorem V_v5 (c : Dev nD) (j : Fin 2048) (k : Fin 1024) : V m c main_v5 (ix2 j k) = aU m c (ix2 k j) := by
  unfold V; simp only [hostOps0]
  after_results
  pointwise

theorem V_v6 (c : Dev nD) (j : Fin 2048) (k : Fin 1024) : V m c main_v6 (ix2 j k) = aD m c (ix2 j k) := by
  unfold V; simp only [hostOps0]
  after_results
  pointwise

theorem W0 (c : Dev nD) (R : Fin 8192) : (fun k => V m c main_arg0 (ix2 R k)) = fun k => aH m c (ix2 R k) := funext fun k => V_arg0 m c R k
theorem W1 (c : Dev nD) : (fun k => V m c main_v0 (ix2 0 k)) = fun k => aP m c (ix1 k) := funext fun k => V_v0 m c k
theorem W2 (c : Dev nD) : (fun k => V m c main_v1 (ix2 0 k)) = fun k => aQ m c (ix1 k) := funext fun k => V_v1 m c k
theorem W3 (c : Dev nD) : (fun (j : Fin 2048) (k : Fin 1024) => V m c main_v3 (ix2 j k)) = fun j k => aG m c (ix2 k j) := funext fun j => funext fun k => V_v3 m c j k
theorem W4 (c : Dev nD) : (fun (j : Fin 2048) (k : Fin 1024) => V m c main_v5 (ix2 j k)) = fun j k => aU m c (ix2 k j) := funext fun j => funext fun k => V_v5 m c j k
theorem W5 (c : Dev nD) : (fun (j : Fin 2048) (k : Fin 1024) => V m c main_v6 (ix2 j k)) = fun j k => aD m c (ix2 j k) := funext fun j => funext fun k => V_v6 m c j k

end Cert.Kernel3Ideal.Fw

end

end
-- ==== Proof.FfClaim.lean ====
/- The claim about the feed-forward forward launch. -/
module

public import proofs.«01_k».proof.Proof.FwRef
public import proofs.«01_k».proof.Proof.FwHost
public import proofs.«01_k».proof.Proof.PoolClaim

@[expose] public section

set_option maxRecDepth 16384

noncomputable section

open Idealize.ShloMosaic Idealize.ShloMosaic.TcCoe Idealize.SL.Sem
open Idealize.ShloMosaic.Pipeline (Dat)

namespace Cert.FfClaim
open Idealize.ShloMosaic Idealize.SL.Sem

section Run
open Cert.Reference3Ideal
/-- The reference's run, its results named by the stages of its reading. -/
theorem runR (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v37) = Read.val_main_v37 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v38) = Read.val_main_v38 (F := Ideal) (m ((c.tc : Thread nD τ).loc main_arg0)) (m ((c.tc : Thread nD τ).loc main_arg1))
      ∧ r.2.mem ((c.tc : Thread nD τ).loc main_v39) = Read.val_main_v39 (F := Ideal) (m ((c.tc : Thread nD τ).loc main_arg0)) (m ((c.tc : Thread nD τ).loc main_arg1)) (m ((c.tc : Thread nD τ).loc main_arg3))
      ∧ r.2.mem ((c.tc : Thread nD τ).loc main_v40) = Read.val_main_v40 (F := Ideal) (m ((c.tc : Thread nD τ).loc main_arg0)) (m ((c.tc : Thread nD τ).loc main_arg1)) (m ((c.tc : Thread nD τ).loc main_arg4))
      ∧ r.2.mem ((c.tc : Thread nD τ).loc main_v41) = Read.val_main_v41 (F := Ideal) (m ((c.tc : Thread nD τ).loc main_arg0)) (m ((c.tc : Thread nD τ).loc main_arg1)) (m ((c.tc : Thread nD τ).loc main_arg3)) (m ((c.tc : Thread nD τ).loc main_arg4))
      ∧ r.2.mem ((c.tc : Thread nD τ).loc main_v21) = Read.val_main_v21 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (Read.val_main_v37_eq m c),
      (h c).2.1.trans (Read.val_main_v38_eq _ _ ),
      (h c).2.2.1.trans (Read.val_main_v39_eq _ _ _ ),
      (h c).2.2.2.1.trans (Read.val_main_v40_eq _ _ _ ),
      (h c).2.2.2.2.1.trans (Read.val_main_v41_eq _ _ _ _ ),
      (h c).2.2.2.2.2.1.trans (Read.val_main_v21_eq _ _ _ _ _ ),
      (h c).2.2.2.2.2.2⟩)
    (Value.run (F := Ideal) m ρ)
end Run

/-- The reference ends with its arguments unchanged and every counter at zero. -/
theorem frameR : Cert.quiescent_Reference3Ideal (hReference3Ideal := Cert.Reference3Ideal.Gen.facts) := by
  intro m ρ _
  exact (θ_run Cert.Reference3Ideal.defs _ _).mono (fun r h => ⟨fun c => (h c).2.2.2.2.2.2, sem_eq_zero_of_no_sems (by decide) r.2⟩) (Cert.Reference3Ideal.Value.run (F := Ideal) m ρ)

section Eq
open Cert.Kernel3Ideal Cert.Kernel3Ideal.Gen Cert.Kernel3Ideal.Fw Idealize.ShloMosaic.TcCoe
variable (m : (ℓ : Loc nD τ sig) → Buf (Elt Ideal) ℓ) (c : Dev nD)

theorem e0 : (dats m 0 c).arrAt 6 cfg0.N = Cert.Reference3Ideal.Read.val_main_v37 (F := Ideal) (aH m c) (aP m c) (aQ m c) (aG m c) (aU m c) (aD m c) := by
  rw [arr6]
  funext j
  obtain ⟨r, k, rfl⟩ : ∃ r k, j = ix2 r k := ⟨_, _, eq_ix2 j⟩
  refine Eq.trans ?_ (FwRef.v37 _ _ _ _ _ _ r k).symm
  show vO m c r k = _
  unfold vO
  rw [W0, W1, W2, W3, W4, W5]

theorem e1 : (dats m 0 c).arrAt 7 cfg0.N = Cert.Reference3Ideal.Read.val_main_v38 (F := Ideal) (aH m c) (aP m c) := by
  rw [arr7]
  funext j
  obtain ⟨r, k, rfl⟩ : ∃ r k, j = ix2 r k := ⟨_, _, eq_ix2 j⟩
  refine Eq.trans ?_ (FwRef.v38 _ _ r k).symm
  show vN m c r k = _
  unfold vN
  rw [W0, W1]

theorem e2 : (dats m 0 c).arrAt 8 cfg0.N = Cert.Reference3Ideal.Read.val_main_v39 (F := Ideal) (aH m c) (aP m c) (aG m c) := by
  rw [arr8]
  funext j
  obtain ⟨r, k, rfl⟩ : ∃ r k, j = ix2 r k := ⟨_, _, eq_ix2 j⟩
  refine Eq.trans ?_ (FwRef.v39 _ _ _ r k).symm
  show vG m c r k = _
  unfold vG
  rw [W0, W1, W3]

theorem e3 : (dats m 0 c).arrAt 9 cfg0.N = Cert.Reference3Ideal.Read.val_main_v40 (F := Ideal) (aH m c) (aP m c) (aU m c) := by
  rw [arr9]
  funext j
  obtain ⟨r, k, rfl⟩ : ∃ r k, j = ix2 r k := ⟨_, _, eq_ix2 j⟩
  refine Eq.trans ?_ (FwRef.v40 _ _ _ r k).symm
  show vU m c r k = _
  unfold vU
  rw [W0, W1, W4]

theorem e4 : (dats m 0 c).arrAt 10 cfg0.N = Cert.Reference3Ideal.Read.val_main_v41 (F := Ideal) (aH m c) (aP m c) (aG m c) (aU m c) := by
  rw [arr10]
  funext j
  obtain ⟨r, k, rfl⟩ : ∃ r k, j = ix2 r k := ⟨_, _, eq_ix2 j⟩
  refine Eq.trans ?_ (FwRef.v41 _ _ _ _ r k).symm
  show vA m c r k = _
  unfold vA
  rw [W0, W1, W3, W4]

theorem e5 : (dats m 0 c).arrAt 11 cfg0.N = Cert.Reference3Ideal.Read.val_main_v21 (F := Ideal) (aH m c) (aP m c) (aG m c) (aU m c) (aD m c) := by
  rw [arr11]
  funext j
  obtain ⟨r, k, rfl⟩ : ∃ r k, j = ix2 r k := ⟨_, _, eq_ix2 j⟩
  refine Eq.trans ?_ (FwRef.v21 _ _ _ _ _ r k).symm
  show vF m c r k = _
  unfold vF
  rw [W0, W1, W3, W4, W5]
end Eq

/-- The launch and the reference, from memories that agree on the arguments. -/
theorem algebraic : Cert.algebraic_Kernel3Ideal_Reference3Ideal (hKernel3Ideal := Cert.Kernel3Ideal.Gen.facts) (hReference3Ideal := Cert.Reference3Ideal.Gen.facts) := by
  intro m g m' g' _ hag
  refine ⟨fun c => (Cert.Kernel3Ideal.Gen.dats m 0 c).arrAt 6 Cert.Kernel3Ideal.cfg0.N, fun c => (Cert.Kernel3Ideal.Gen.dats m 0 c).arrAt 7 Cert.Kernel3Ideal.cfg0.N, fun c => (Cert.Kernel3Ideal.Gen.dats m 0 c).arrAt 8 Cert.Kernel3Ideal.cfg0.N, fun c => (Cert.Kernel3Ideal.Gen.dats m 0 c).arrAt 9 Cert.Kernel3Ideal.cfg0.N, fun c => (Cert.Kernel3Ideal.Gen.dats m 0 c).arrAt 10 Cert.Kernel3Ideal.cfg0.N, fun c => (Cert.Kernel3Ideal.Gen.dats m 0 c).arrAt 11 Cert.Kernel3Ideal.cfg0.N,
    Cert.Kernel3Ideal.Value.run_blocks m g, (θ_run Cert.Reference3Ideal.defs _ _).mono (fun r h c => ?_) (runR m' g')⟩
  obtain ⟨a0, a1, a2, a3, a4, a5⟩ := hag c
  obtain ⟨r0, r1, r2, r3, r4, r5, rest⟩ := h c
  rw [a0, a1, a2, a3, a4, a5] at r0
  rw [a0, a1] at r1
  rw [a0, a1, a3] at r2
  rw [a0, a1, a4] at r3
  rw [a0, a1, a3, a4] at r4
  rw [a0, a1, a3, a4, a5] at r5
  exact ⟨r0.trans (e0 m c).symm,
    r1.trans (e1 m c).symm,
    r2.trans (e2 m c).symm,
    r3.trans (e3 m c).symm,
    r4.trans (e4 m c).symm,
    r5.trans (e5 m c).symm, rest⟩

end Cert.FfClaim

end

end
-- ==== Proof.Slices.lean ====
/- Writes of parts of an array, and what a load then sees. -/
module

public import proofs.«01_k».proof.Proof.Gen.Kernel16Ideal.Value
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.WritesUnit
public import Idealize.ShloMosaic.Lib.StableHlo.RunClose

@[expose] public section

set_option maxRecDepth 16384

noncomputable section

open Idealize.ShloMosaic Idealize.ShloMosaic.TcCoe Idealize.SL.Sem
open Idealize.ShloMosaic.Pipeline (Dat)

namespace Cert.Slices
open Idealize.ShloMosaic Idealize.SL.Sem

/-- A load after writes over nothing is a load of what they leave. -/
theorem rc_ld {sig : RefSig} {s : Shape} {e : EltTy} {sp : Space} (v : View sig .tc sp s e) (L : List (View.Piece (Elt Ideal) s e)) (r : Rect s) :
    v.readCov L r.toLoadRect = View.ld (View.canon L) r := View.readCov_eq_canon' v L _

section Two
variable {ty : EltTy} {A B o p a b : ℕ} (inb : ∀ q, (![o, p] : Fin 2 → ℕ) q + (![a, b] : Fin 2 → ℕ) q ≤ (⟨2, ![A, B]⟩ : Shape).size q)

theorem ld_at (Z : (⟨2, ![A, B]⟩ : Shape).Idx → Elt Ideal ty) (i : Fin a) (e : Fin b) (i' : Fin A) (e' : Fin B) (hi : i'.val = o + i.val) (he : e'.val = p + e.val) :
    View.ld (Val := Elt Ideal) (e' := ty) Z (Rect.unit (s := ⟨2, ![A, B]⟩) ![o, p] ![a, b] inb) (ix2 i e) = Z (ix2 i' e') := by
  rw [View.ld_apply]
  refine congrArg _ ?_
  funext q
  match q with
  | ⟨0, _⟩ => exact Fin.ext (by show o + 1 * i.val = i'.val; omega)
  | ⟨1, _⟩ => exact Fin.ext (by show p + 1 * e.val = e'.val; omega)

theorem a_hit (P : (⟨2, ![a, b]⟩ : Shape).Idx → Elt Ideal ty) (L : List (View.Piece (Elt Ideal) (⟨2, ![A, B]⟩ : Shape) ty))
    (i : Fin a) (e : Fin b) (i' : Fin A) (e' : Fin B) (hi : i'.val = o + i.val) (he : e'.val = p + e.val) :
    View.canon (⟨Rect.unit (s := ⟨2, ![A, B]⟩) ![o, p] ![a, b] inb, P⟩ :: L) (ix2 i' e') = P (ix2 i e) := by
  have hx : (ix2 i' e' : (⟨2, ![A, B]⟩ : Shape).Idx) = (Rect.unit (s := ⟨2, ![A, B]⟩) ![o, p] ![a, b] inb).emb (ix2 i e) := by
    funext q
    match q with
    | ⟨0, _⟩ => exact Fin.ext (by show i'.val = o + 1 * i.val; omega)
    | ⟨1, _⟩ => exact Fin.ext (by show e'.val = p + 1 * e.val; omega)
  rw [hx, View.canon_cons_emb]

theorem a_miss (P : (⟨2, ![a, b]⟩ : Shape).Idx → Elt Ideal ty) (L : List (View.Piece (Elt Ideal) (⟨2, ![A, B]⟩ : Shape) ty))
    (i' : Fin A) (e' : Fin B) (h : i'.val < o ∨ o + a ≤ i'.val ∨ e'.val < p ∨ p + b ≤ e'.val) :
    View.canon (⟨Rect.unit (s := ⟨2, ![A, B]⟩) ![o, p] ![a, b] inb, P⟩ :: L) (ix2 i' e') = View.canon L (ix2 i' e') :=
  View.canon_cons_of_not_mem _ _ fun hm => by
    have h1 := (Rect.mem_set_unit (inb := inb)).mp hm (0 : Fin 2)
    have h2 := (Rect.mem_set_unit (inb := inb)).mp hm (1 : Fin 2)
    have h3 : o ≤ i'.val ∧ i'.val < o + a := h1
    have h4 : p ≤ e'.val ∧ e'.val < p + b := h2
    omega

theorem canon_all (inb : ∀ q, (![0, 0] : Fin 2 → ℕ) q + (![A, B] : Fin 2 → ℕ) q ≤ (⟨2, ![A, B]⟩ : Shape).size q) (P : (⟨2, ![A, B]⟩ : Shape).Idx → Elt Ideal ty) :
    View.canon (Val := Elt Ideal) (s := ⟨2, ![A, B]⟩) (e := ty) [⟨Rect.unit (s := ⟨2, ![A, B]⟩) ![0, 0] ![A, B] inb, P⟩] = P := by
  funext y
  obtain ⟨i, j, rfl⟩ : ∃ i j, y = ix2 i j := ⟨_, _, eq_ix2 y⟩
  exact a_hit _ _ _ i j i j (by omega) (by omega)

theorem ld_full (inb : ∀ q, (![0, 0] : Fin 2 → ℕ) q + (![A, B] : Fin 2 → ℕ) q ≤ (⟨2, ![A, B]⟩ : Shape).size q) (P : (⟨2, ![A, B]⟩ : Shape).Idx → Elt Ideal ty) :
    View.ld (Val := Elt Ideal) (e' := ty) P (Rect.unit (s := ⟨2, ![A, B]⟩) ![0, 0] ![A, B] inb) = P := by
  funext y
  obtain ⟨i, j, rfl⟩ : ∃ i j, y = ix2 i j := ⟨_, _, eq_ix2 y⟩
  exact ld_at _ _ i j i j (by omega) (by omega)
end Two

variable {I E : ℕ}

theorem cn_hit {o : ℕ} (inb : ∀ a, (![o, 0, 0] : Fin 3 → ℕ) a + (![1, I, E] : Fin 3 → ℕ) a ≤ (⟨3, ![8, I, E]⟩ : Shape).size a) (P : (⟨3, ![1, I, E]⟩ : Shape).Idx → EReal)
    (L : List (View.Piece (Elt Ideal) (⟨3, ![8, I, E]⟩ : Shape) .bf16)) (d : Fin 8) (i : Fin I) (e : Fin E) (h : d.val = o) :
    View.canon (⟨Rect.unit (s := ⟨3, ![8, I, E]⟩) ![o, 0, 0] ![1, I, E] inb, P⟩ :: L) (ix3 d i e) = P (ix3 0 i e) := by
  have hx : (ix3 d i e : (⟨3, ![8, I, E]⟩ : Shape).Idx) = (Rect.unit (s := ⟨3, ![8, I, E]⟩) ![o, 0, 0] ![1, I, E] inb).emb (ix3 0 i e) := by
    funext a
    match a with
    | ⟨0, _⟩ => exact Fin.ext (by show d.val = o + 1 * 0; omega)
    | ⟨1, _⟩ => exact Fin.ext (by show i.val = 0 + 1 * i.val; omega)
    | ⟨2, _⟩ => exact Fin.ext (by show e.val = 0 + 1 * e.val; omega)
  rw [hx, View.canon_cons_emb]

theorem cn_miss {o : ℕ} (inb : ∀ a, (![o, 0, 0] : Fin 3 → ℕ) a + (![1, I, E] : Fin 3 → ℕ) a ≤ (⟨3, ![8, I, E]⟩ : Shape).size a) (P : (⟨3, ![1, I, E]⟩ : Shape).Idx → EReal)
    (L : List (View.Piece (Elt Ideal) (⟨3, ![8, I, E]⟩ : Shape) .bf16)) (d : Fin 8) (i : Fin I) (e : Fin E) (h : d.val < o) :
    View.canon (⟨Rect.unit (s := ⟨3, ![8, I, E]⟩) ![o, 0, 0] ![1, I, E] inb, P⟩ :: L) (ix3 d i e) = View.canon L (ix3 d i e) :=
  View.canon_cons_of_not_mem _ _ fun hm => by
    have h1 := (Rect.mem_set_unit (inb := inb)).mp hm (0 : Fin 3)
    have h2 : o ≤ d.val ∧ d.val < o + 1 := h1
    omega

/-- Eight stores, one to each leading index, leave the array that holds each. -/
theorem cn_all (i0 : ∀ a, (![0, 0, 0] : Fin 3 → ℕ) a + (![1, I, E] : Fin 3 → ℕ) a ≤ (⟨3, ![8, I, E]⟩ : Shape).size a) (i1 : ∀ a, (![1, 0, 0] : Fin 3 → ℕ) a + (![1, I, E] : Fin 3 → ℕ) a ≤ (⟨3, ![8, I, E]⟩ : Shape).size a) (i2 : ∀ a, (![2, 0, 0] : Fin 3 → ℕ) a + (![1, I, E] : Fin 3 → ℕ) a ≤ (⟨3, ![8, I, E]⟩ : Shape).size a) (i3 : ∀ a, (![3, 0, 0] : Fin 3 → ℕ) a + (![1, I, E] : Fin 3 → ℕ) a ≤ (⟨3, ![8, I, E]⟩ : Shape).size a) (i4 : ∀ a, (![4, 0, 0] : Fin 3 → ℕ) a + (![1, I, E] : Fin 3 → ℕ) a ≤ (⟨3, ![8, I, E]⟩ : Shape).size a) (i5 : ∀ a, (![5, 0, 0] : Fin 3 → ℕ) a + (![1, I, E] : Fin 3 → ℕ) a ≤ (⟨3, ![8, I, E]⟩ : Shape).size a) (i6 : ∀ a, (![6, 0, 0] : Fin 3 → ℕ) a + (![1, I, E] : Fin 3 → ℕ) a ≤ (⟨3, ![8, I, E]⟩ : Shape).size a) (i7 : ∀ a, (![7, 0, 0] : Fin 3 → ℕ) a + (![1, I, E] : Fin 3 → ℕ) a ≤ (⟨3, ![8, I, E]⟩ : Shape).size a)
    (P0 P1 P2 P3 P4 P5 P6 P7 : (⟨3, ![1, I, E]⟩ : Shape).Idx → EReal) (f : Fin 8 → Fin I → Fin E → EReal)
    (q0 : ∀ i e, P0 (ix3 0 i e) = f 0 i e) (q1 : ∀ i e, P1 (ix3 0 i e) = f 1 i e) (q2 : ∀ i e, P2 (ix3 0 i e) = f 2 i e) (q3 : ∀ i e, P3 (ix3 0 i e) = f 3 i e) (q4 : ∀ i e, P4 (ix3 0 i e) = f 4 i e) (q5 : ∀ i e, P5 (ix3 0 i e) = f 5 i e) (q6 : ∀ i e, P6 (ix3 0 i e) = f 6 i e) (q7 : ∀ i e, P7 (ix3 0 i e) = f 7 i e) (d : Fin 8) (i : Fin I) (e : Fin E) :
    View.canon (Val := Elt Ideal) (s := ⟨3, ![8, I, E]⟩) (e := .bf16) [⟨Rect.unit (s := ⟨3, ![8, I, E]⟩) ![7, 0, 0] ![1, I, E] i7, P7⟩, ⟨Rect.unit (s := ⟨3, ![8, I, E]⟩) ![6, 0, 0] ![1, I, E] i6, P6⟩, ⟨Rect.unit (s := ⟨3, ![8, I, E]⟩) ![5, 0, 0] ![1, I, E] i5, P5⟩, ⟨Rect.unit (s := ⟨3, ![8, I, E]⟩) ![4, 0, 0] ![1, I, E] i4, P4⟩, ⟨Rect.unit (s := ⟨3, ![8, I, E]⟩) ![3, 0, 0] ![1, I, E] i3, P3⟩, ⟨Rect.unit (s := ⟨3, ![8, I, E]⟩) ![2, 0, 0] ![1, I, E] i2, P2⟩, ⟨Rect.unit (s := ⟨3, ![8, I, E]⟩) ![1, 0, 0] ![1, I, E] i1, P1⟩, ⟨Rect.unit (s := ⟨3, ![8, I, E]⟩) ![0, 0, 0] ![1, I, E] i0, P0⟩] (ix3 d i e) = f d i e := by
  match d with
  | ⟨0, _⟩ => exact (cn_miss i7 P7 _ _ i e (show 0 < 7 by decide)).trans ((cn_miss i6 P6 _ _ i e (show 0 < 6 by decide)).trans ((cn_miss i5 P5 _ _ i e (show 0 < 5 by decide)).trans ((cn_miss i4 P4 _ _ i e (show 0 < 4 by decide)).trans ((cn_miss i3 P3 _ _ i e (show 0 < 3 by decide)).trans ((cn_miss i2 P2 _ _ i e (show 0 < 2 by decide)).trans ((cn_miss i1 P1 _ _ i e (show 0 < 1 by decide)).trans ((cn_hit i0 P0 _ _ i e rfl).trans (q0 i e))))))))
  | ⟨1, _⟩ => exact (cn_miss i7 P7 _ _ i e (show 1 < 7 by decide)).trans ((cn_miss i6 P6 _ _ i e (show 1 < 6 by decide)).trans ((cn_miss i5 P5 _ _ i e (show 1 < 5 by decide)).trans ((cn_miss i4 P4 _ _ i e (show 1 < 4 by decide)).trans ((cn_miss i3 P3 _ _ i e (show 1 < 3 by decide)).trans ((cn_miss i2 P2 _ _ i e (show 1 < 2 by decide)).trans ((cn_hit i1 P1 _ _ i e rfl).trans (q1 i e)))))))
  | ⟨2, _⟩ => exact (cn_miss i7 P7 _ _ i e (show 2 < 7 by decide)).trans ((cn_miss i6 P6 _ _ i e (show 2 < 6 by decide)).trans ((cn_miss i5 P5 _ _ i e (show 2 < 5 by decide)).trans ((cn_miss i4 P4 _ _ i e (show 2 < 4 by decide)).trans ((cn_miss i3 P3 _ _ i e (show 2 < 3 by decide)).trans ((cn_hit i2 P2 _ _ i e rfl).trans (q2 i e))))))
  | ⟨3, _⟩ => exact (cn_miss i7 P7 _ _ i e (show 3 < 7 by decide)).trans ((cn_miss i6 P6 _ _ i e (show 3 < 6 by decide)).trans ((cn_miss i5 P5 _ _ i e (show 3 < 5 by decide)).trans ((cn_miss i4 P4 _ _ i e (show 3 < 4 by decide)).trans ((cn_hit i3 P3 _ _ i e rfl).trans (q3 i e)))))
  | ⟨4, _⟩ => exact (cn_miss i7 P7 _ _ i e (show 4 < 7 by decide)).trans ((cn_miss i6 P6 _ _ i e (show 4 < 6 by decide)).trans ((cn_miss i5 P5 _ _ i e (show 4 < 5 by decide)).trans ((cn_hit i4 P4 _ _ i e rfl).trans (q4 i e))))
  | ⟨5, _⟩ => exact (cn_miss i7 P7 _ _ i e (show 5 < 7 by decide)).trans ((cn_miss i6 P6 _ _ i e (show 5 < 6 by decide)).trans ((cn_hit i5 P5 _ _ i e rfl).trans (q5 i e)))
  | ⟨6, _⟩ => exact (cn_miss i7 P7 _ _ i e (show 6 < 7 by decide)).trans ((cn_hit i6 P6 _ _ i e rfl).trans (q6 i e))
  | ⟨7, _⟩ => exact (cn_hit i7 P7 _ _ i e rfl).trans (q7 i e)

end Cert.Slices

end

end
-- ==== Proof.WgTile.lean ====
/- The accumulation of a weight gradient over one tile of rows, and its stores. -/
module

public import proofs.«01_k».proof.Proof.FfTile
public import proofs.«01_k».proof.Proof.Gen.Kernel4Ideal.Value
public import proofs.«01_k».proof.Proof.Slices

@[expose] public section

set_option maxRecDepth 16384

noncomputable section

open Idealize.ShloMosaic Idealize.ShloMosaic.TcCoe Idealize.SL.Sem
open Idealize.ShloMosaic.Pipeline (Dat)

namespace Cert.Kernel4Ideal.Wg
open Cert.Kernel4Ideal Cert.Kernel4Ideal.Gen Cert.Slices
open Cert.FfSpec (col exists_col)

variable (m : (ℓ : Loc nD τ sig) → Buf (Elt Ideal) ℓ)

theorem pay1 (i : Fin 1024) (j : Fin 2048) : k0_pay1 (F := Ideal) (ix2 i j) = 0 := by
  pointwise [k0_pay1]

theorem pay2 (a : Vec Ideal S512x1024 .bf16) (p : Vec Ideal S1024x2048 .f32) (b : Vec Ideal S512x2048 .bf16) (i : Fin 1024) (j : Fin 2048) :
    k0_pay2 a p b (ix2 i j) = p (ix2 i j) + ∑ r : Fin 512, a (ix2 r i) * b (ix2 r j) := by
  pointwise [k0_pay2]

theorem acc_A (c : Dev nD) (t : Fin cfg0.N) (h0 : t.val % 16 = 0) (h1 : ¬t.val % 16 = 15) :
    (outsAt0 m c t.val t.isLt).2 = k0_pay2 (iblk m c 0 t) (k0_pay1 (F := Ideal)) (iblk m c 1 t) := by
  rw [outsAt0_A m c t h0 h1]
  frame_out
theorem acc_B (c : Dev nD) (t : Fin cfg0.N) (h0 : ¬t.val % 16 = 0) (h1 : ¬t.val % 16 = 15) :
    (outsAt0 m c t.val t.isLt).2 = k0_pay2 (iblk m c 0 t) (outsAt0 m c (t.val - 1) (by omega)).2 (iblk m c 1 t) := by
  rw [outsAt0_B m c t h0 h1]
  frame_out
  rw [read_unread_whole]
theorem acc_C (c : Dev nD) (t : Fin cfg0.N) (h0 : ¬t.val % 16 = 0) (h1 : t.val % 16 = 15) :
    (outsAt0 m c t.val t.isLt).2 = k0_pay2 (iblk m c 0 t) (outsAt0 m c (t.val - 1) (by omega)).2 (iblk m c 1 t) := by
  rw [outsAt0_C m c t h0 h1]
  frame_out
  rw [read_unread_whole]
theorem acc_step (c : Dev nD) (t : Fin cfg0.N) (h0 : ¬t.val % 16 = 0) :
    (outsAt0 m c t.val t.isLt).2 = k0_pay2 (iblk m c 0 t) (outsAt0 m c (t.val - 1) (by omega)).2 (iblk m c 1 t) := by
  by_cases h1 : t.val % 16 = 15
  · exact acc_C m c t h0 h1
  · exact acc_B m c t h0 h1

section Pieces
variable (Z : Vec Ideal S1024x2048 .f32)

theorem st0 (i : Fin 1024) (e : Fin 256) : (k0_pay6 (View.ld (Val := Elt Ideal) (e' := .f32) Z (Rect.unit (s := (⟨2, ![1024, 2048]⟩ : Shape)) ![0, 0] ![1024, 256] inb_S1024x2048_S1024x256_0_0))) (ix3 0 i e) = Z (ix2 (i) (col 0 e)) := by
  refine Eq.trans ?_ (ld_at inb_S1024x2048_S1024x256_0_0 Z i e (i) (col 0 e) (by omega) rfl)
  generalize (View.ld (Val := Elt Ideal) (e' := .f32) Z (Rect.unit (s := (⟨2, ![1024, 2048]⟩ : Shape)) ![0, 0] ![1024, 256] inb_S1024x2048_S1024x256_0_0)) = Y
  pointwise [k0_pay6]

theorem st1 (i : Fin 1024) (e : Fin 256) : (k0_pay7 (View.ld (Val := Elt Ideal) (e' := .f32) Z (Rect.unit (s := (⟨2, ![1024, 2048]⟩ : Shape)) ![0, 256] ![1024, 256] inb_S1024x2048_S1024x256_0_256))) (ix3 0 i e) = Z (ix2 (i) (col 1 e)) := by
  refine Eq.trans ?_ (ld_at inb_S1024x2048_S1024x256_0_256 Z i e (i) (col 1 e) (by omega) rfl)
  generalize (View.ld (Val := Elt Ideal) (e' := .f32) Z (Rect.unit (s := (⟨2, ![1024, 2048]⟩ : Shape)) ![0, 256] ![1024, 256] inb_S1024x2048_S1024x256_0_256)) = Y
  pointwise [k0_pay7]

theorem st2 (i : Fin 1024) (e : Fin 256) : (k0_pay8 (View.ld (Val := Elt Ideal) (e' := .f32) Z (Rect.unit (s := (⟨2, ![1024, 2048]⟩ : Shape)) ![0, 512] ![1024, 256] inb_S1024x2048_S1024x256_0_512))) (ix3 0 i e) = Z (ix2 (i) (col 2 e)) := by
  refine Eq.trans ?_ (ld_at inb_S1024x2048_S1024x256_0_512 Z i e (i) (col 2 e) (by omega) rfl)
  generalize (View.ld (Val := Elt Ideal) (e' := .f32) Z (Rect.unit (s := (⟨2, ![1024, 2048]⟩ : Shape)) ![0, 512] ![1024, 256] inb_S1024x2048_S1024x256_0_512)) = Y
  pointwise [k0_pay8]

theorem st3 (i : Fin 1024) (e : Fin 256) : (k0_pay9 (View.ld (Val := Elt Ideal) (e' := .f32) Z (Rect.unit (s := (⟨2, ![1024, 2048]⟩ : Shape)) ![0, 768] ![1024, 256] inb_S1024x2048_S1024x256_0_768))) (ix3 0 i e) = Z (ix2 (i) (col 3 e)) := by
  refine Eq.trans ?_ (ld_at inb_S1024x2048_S1024x256_0_768 Z i e (i) (col 3 e) (by omega) rfl)
  generalize (View.ld (Val := Elt Ideal) (e' := .f32) Z (Rect.unit (s := (⟨2, ![1024, 2048]⟩ : Shape)) ![0, 768] ![1024, 256] inb_S1024x2048_S1024x256_0_768)) = Y
  pointwise [k0_pay9]

theorem st4 (i : Fin 1024) (e : Fin 256) : (k0_pay10 (View.ld (Val := Elt Ideal) (e' := .f32) Z (Rect.unit (s := (⟨2, ![1024, 2048]⟩ : Shape)) ![0, 1024] ![1024, 256] inb_S1024x2048_S1024x256_0_1024))) (ix3 0 i e) = Z (ix2 (i) (col 4 e)) := by
  refine Eq.trans ?_ (ld_at inb_S1024x2048_S1024x256_0_1024 Z i e (i) (col 4 e) (by omega) rfl)
  generalize (View.ld (Val := Elt Ideal) (e' := .f32) Z (Rect.unit (s := (⟨2, ![1024, 2048]⟩ : Shape)) ![0, 1024] ![1024, 256] inb_S1024x2048_S1024x256_0_1024)) = Y
  pointwise [k0_pay10]

theorem st5 (i : Fin 1024) (e : Fin 256) : (k0_pay3 (k0_pay11 (View.ld (Val := Elt Ideal) (e' := .f32) Z (Rect.unit (s := (⟨2, ![1024, 2048]⟩ : Shape)) ![0, 1280] ![1024, 256] inb_S1024x2048_S1024x256_0_1280)))) (ix3 0 i e) = Z (ix2 (i) (col 5 e)) := by
  refine Eq.trans ?_ (ld_at inb_S1024x2048_S1024x256_0_1280 Z i e (i) (col 5 e) (by omega) rfl)
  generalize (View.ld (Val := Elt Ideal) (e' := .f32) Z (Rect.unit (s := (⟨2, ![1024, 2048]⟩ : Shape)) ![0, 1280] ![1024, 256] inb_S1024x2048_S1024x256_0_1280)) = Y
  pointwise [k0_pay3, k0_pay11]

theorem st6 (i : Fin 1024) (e : Fin 256) : (k0_pay4 (View.ld (Val := Elt Ideal) (e' := .f32) Z (Rect.unit (s := (⟨2, ![1024, 2048]⟩ : Shape)) ![0, 1536] ![1024, 256] inb_S1024x2048_S1024x256_0_1536))) (ix3 0 i e) = Z (ix2 (i) (col 6 e)) := by
  refine Eq.trans ?_ (ld_at inb_S1024x2048_S1024x256_0_1536 Z i e (i) (col 6 e) (by omega) rfl)
  generalize (View.ld (Val := Elt Ideal) (e' := .f32) Z (Rect.unit (s := (⟨2, ![1024, 2048]⟩ : Shape)) ![0, 1536] ![1024, 256] inb_S1024x2048_S1024x256_0_1536)) = Y
  pointwise [k0_pay4]

theorem st7 (i : Fin 1024) (e : Fin 256) : (k0_pay5 (View.ld (Val := Elt Ideal) (e' := .f32) Z (Rect.unit (s := (⟨2, ![1024, 2048]⟩ : Shape)) ![0, 1792] ![1024, 256] inb_S1024x2048_S1024x256_0_1792))) (ix3 0 i e) = Z (ix2 (i) (col 7 e)) := by
  refine Eq.trans ?_ (ld_at inb_S1024x2048_S1024x256_0_1792 Z i e (i) (col 7 e) (by omega) rfl)
  generalize (View.ld (Val := Elt Ideal) (e' := .f32) Z (Rect.unit (s := (⟨2, ![1024, 2048]⟩ : Shape)) ![0, 1792] ![1024, 256] inb_S1024x2048_S1024x256_0_1792)) = Y
  pointwise [k0_pay5]

/-- The eight stores fill the result's eight slices with the accumulator's. -/
theorem pieces (d : Fin 8) (i : Fin 1024) (e : Fin 256) :
    View.canon (Val := Elt Ideal) (s := (⟨3, ![8, 1024, 256]⟩ : Shape)) (e := .bf16) ([⟨Rect.unit (s := (⟨3, ![8, 1024, 256]⟩ : Shape)) ![7, 0, 0] ![1, 1024, 256] inb_S8x1024x256_S1x1024x256_7_0_0, (k0_pay5 (View.ld (Val := Elt Ideal) (e' := .f32) Z (Rect.unit (s := (⟨2, ![1024, 2048]⟩ : Shape)) ![0, 1792] ![1024, 256] inb_S1024x2048_S1024x256_0_1792)))⟩, ⟨Rect.unit (s := (⟨3, ![8, 1024, 256]⟩ : Shape)) ![6, 0, 0] ![1, 1024, 256] inb_S8x1024x256_S1x1024x256_6_0_0, (k0_pay4 (View.ld (Val := Elt Ideal) (e' := .f32) Z (Rect.unit (s := (⟨2, ![1024, 2048]⟩ : Shape)) ![0, 1536] ![1024, 256] inb_S1024x2048_S1024x256_0_1536)))⟩, ⟨Rect.unit (s := (⟨3, ![8, 1024, 256]⟩ : Shape)) ![5, 0, 0] ![1, 1024, 256] inb_S8x1024x256_S1x1024x256_5_0_0, (k0_pay3 (k0_pay11 (View.ld (Val := Elt Ideal) (e' := .f32) Z (Rect.unit (s := (⟨2, ![1024, 2048]⟩ : Shape)) ![0, 1280] ![1024, 256] inb_S1024x2048_S1024x256_0_1280))))⟩, ⟨Rect.unit (s := (⟨3, ![8, 1024, 256]⟩ : Shape)) ![4, 0, 0] ![1, 1024, 256] inb_S8x1024x256_S1x1024x256_4_0_0, (k0_pay10 (View.ld (Val := Elt Ideal) (e' := .f32) Z (Rect.unit (s := (⟨2, ![1024, 2048]⟩ : Shape)) ![0, 1024] ![1024, 256] inb_S1024x2048_S1024x256_0_1024)))⟩, ⟨Rect.unit (s := (⟨3, ![8, 1024, 256]⟩ : Shape)) ![3, 0, 0] ![1, 1024, 256] inb_S8x1024x256_S1x1024x256_3_0_0, (k0_pay9 (View.ld (Val := Elt Ideal) (e' := .f32) Z (Rect.unit (s := (⟨2, ![1024, 2048]⟩ : Shape)) ![0, 768] ![1024, 256] inb_S1024x2048_S1024x256_0_768)))⟩, ⟨Rect.unit (s := (⟨3, ![8, 1024, 256]⟩ : Shape)) ![2, 0, 0] ![1, 1024, 256] inb_S8x1024x256_S1x1024x256_2_0_0, (k0_pay8 (View.ld (Val := Elt Ideal) (e' := .f32) Z (Rect.unit (s := (⟨2, ![1024, 2048]⟩ : Shape)) ![0, 512] ![1024, 256] inb_S1024x2048_S1024x256_0_512)))⟩, ⟨Rect.unit (s := (⟨3, ![8, 1024, 256]⟩ : Shape)) ![1, 0, 0] ![1, 1024, 256] inb_S8x1024x256_S1x1024x256_1_0_0, (k0_pay7 (View.ld (Val := Elt Ideal) (e' := .f32) Z (Rect.unit (s := (⟨2, ![1024, 2048]⟩ : Shape)) ![0, 256] ![1024, 256] inb_S1024x2048_S1024x256_0_256)))⟩, ⟨Rect.unit (s := (⟨3, ![8, 1024, 256]⟩ : Shape)) ![0, 0, 0] ![1, 1024, 256] inb_S8x1024x256_S1x1024x256_0_0_0, (k0_pay6 (View.ld (Val := Elt Ideal) (e' := .f32) Z (Rect.unit (s := (⟨2, ![1024, 2048]⟩ : Shape)) ![0, 0] ![1024, 256] inb_S1024x2048_S1024x256_0_0)))⟩] : List (View.Piece (Elt Ideal) (⟨3, ![8, 1024, 256]⟩ : Shape) .bf16)) (ix3 d i e) = Z (ix2 (i) (col d e)) :=
  cn_all _ _ _ _ _ _ _ _ _ _ _ _ _ _ _ _ (fun d i e => Z (ix2 (i) (col d e))) (st0 Z) (st1 Z) (st2 Z) (st3 Z) (st4 Z) (st5 Z) (st6 Z) (st7 Z) d i e
end Pieces

theorem out_C (c : Dev nD) (t : Fin cfg0.N) (h0 : ¬t.val % 16 = 0) (h1 : t.val % 16 = 15) (d : Fin 8) (i : Fin 1024) (e : Fin 256) :
    (outsAt0 m c t.val t.isLt).1 (ix3 d i e) = (outsAt0 m c t.val t.isLt).2 (ix2 (i) (col d e)) := by
  rw [acc_C m c t h0 h1, outsAt0_C m c t h0 h1]
  frame_out
  rw [read_unread_whole]
  generalize k0_pay2 (iblk m c 0 t) (outsAt0 m c (t.val - 1) _).2 (iblk m c 1 t) = Z
  rw [View.readCov_fill _ _ _ _ _ (by decide), View.readCov_fill _ _ _ _ _ (by decide), View.readCov_fill _ _ _ _ _ (by decide), View.readCov_fill _ _ _ _ _ (by decide), View.readCov_fill _ _ _ _ _ (by decide), View.readCov_fill _ _ _ _ _ (by decide), View.readCov_fill _ _ _ _ _ (by decide), View.readCov_fill _ _ _ _ _ (by decide)]
  exact pieces Z d i e

end Cert.Kernel4Ideal.Wg

end

end
-- ==== Proof.WgArr.lean ====
/- The array a weight-gradient launch leaves. -/
module

public import proofs.«01_k».proof.Proof.WgTile

@[expose] public section

set_option maxRecDepth 16384

noncomputable section

open Idealize.ShloMosaic Idealize.ShloMosaic.TcCoe Idealize.SL.Sem
open Idealize.ShloMosaic.Pipeline (Dat)

namespace Cert.Kernel4Ideal.Wg
open Cert.Kernel4Ideal Cert.Kernel4Ideal.Gen
open Cert.FfSpec (col exists_col)

variable (m : (ℓ : Loc nD τ sig) → Buf (Elt Ideal) ℓ)

theorem idx : ∀ t : Fin cfg0.N, win0_0.index t = ![t.val, 0] ∧ win0_1.index t = ![t.val, 0] ∧ win0_2.index t = ![0, 0, 0] ∧ t.val < 16 :=
  (by decide +kernel : ∀ t : Fin grid0.N, _)
theorem idx0 (t : Fin cfg0.N) : win0_0.index t = ![t.val, 0] := (idx t).1
theorem idx1 (t : Fin cfg0.N) : win0_1.index t = ![t.val, 0] := (idx t).2.1
theorem idx2 (t : Fin cfg0.N) : win0_2.index t = ![0, 0, 0] := (idx t).2.2.1
theorem lt16 (t : Fin cfg0.N) : t.val < 16 := (idx t).2.2.2

/-- The row of the whole array that row `r` of the tile of point `t` is. -/
def grow (t : Fin cfg0.N) (r : Fin 512) : Fin 8192 := ⟨t.val * 512 + r.val, by have := lt16 t; omega⟩

theorem sum_rows (f : Fin 8192 → EReal) : ∑ t : Fin cfg0.N, ∑ r : Fin 512, f (grow t r) = ∑ R : Fin 8192, f R := by
  rw [← Fintype.sum_prod_type' (fun (t : Fin cfg0.N) (r : Fin 512) => f (grow t r))]
  refine Fintype.sum_bijective (fun p : Fin cfg0.N × Fin 512 => grow p.1 p.2) ⟨fun p p' h => ?_, fun R => ?_⟩ _ _ fun _ => rfl
  · have h3 : p.1.val * 512 + p.2.val = p'.1.val * 512 + p'.2.val := congrArg Fin.val h
    exact Prod.ext (Fin.ext (by omega)) (Fin.ext (by omega))
  · have hN : R.val / 512 < cfg0.N := by show R.val / 512 < 16; omega
    exact ⟨(⟨R.val / 512, hN⟩, ⟨R.val % 512, by omega⟩), Fin.ext (by show R.val / 512 * 512 + R.val % 512 = R.val; omega)⟩

/-- The arguments of the call. -/
abbrev aN (c : Dev nD) : S8192x1024.Idx → EReal := m ((c : Thread nD τ).loc main_arg0)
abbrev aC (c : Dev nD) : S8192x2048.Idx → EReal := m ((c : Thread nD τ).loc main_arg2)

theorem V_v0 (c : Dev nD) (R : Fin 8192) (k : Fin 1024) : V m c main_v0 (ix2 R k) = aN m c (ix2 R k) := by
  unfold V; simp only [hostOps0]
  after_results
  pointwise
theorem V_v1 (c : Dev nD) (R : Fin 8192) (k : Fin 2048) : V m c main_v1 (ix2 R k) = aC m c (ix2 R k) := by
  unfold V; simp only [hostOps0]
  after_results
  pointwise
theorem blk0 (c : Dev nD) (t : Fin cfg0.N) (r : Fin 512) (k : Fin 1024) : iblk m c 0 t (ix2 r k) = aN m c (ix2 (grow t r) k) := by
  rw [← V_v0]
  unfold grow; blk_ext [iblk, idx0]
theorem blk1 (c : Dev nD) (t : Fin cfg0.N) (r : Fin 512) (k : Fin 2048) : iblk m c 1 t (ix2 r k) = aC m c (ix2 (grow t r) k) := by
  rw [← V_v1]
  unfold grow; blk_ext [iblk, idx1]

/-- What one tile of rows adds. -/
def part (c : Dev nD) (t : Fin cfg0.N) (i : Fin 1024) (j : Fin 2048) : EReal := ∑ r : Fin 512, aN m c (ix2 (grow t r) i) * aC m c (ix2 (grow t r) j)

theorem at_A (c : Dev nD) (t : Fin cfg0.N) (h0 : t.val % 16 = 0) (i : Fin 1024) (j : Fin 2048) :
    (outsAt0 m c t.val t.isLt).2 (ix2 i j) = 0 + part m c t i j := by
  rw [acc_A m c t h0 (by omega), pay2, pay1]
  unfold part
  simp only [blk0, blk1]
theorem at_B (c : Dev nD) (t : Fin cfg0.N) (h0 : ¬t.val % 16 = 0) (i : Fin 1024) (j : Fin 2048) :
    (outsAt0 m c t.val t.isLt).2 (ix2 i j) = (outsAt0 m c (t.val - 1) (by omega)).2 (ix2 i j) + part m c t i j := by
  rw [acc_step m c t h0, pay2]
  unfold part
  simp only [blk0, blk1]

/-- The gradient. -/
def G (c : Dev nD) (i : Fin 1024) (j : Fin 2048) : EReal := ∑ R : Fin 8192, aN m c (ix2 R i) * aC m c (ix2 R j)

theorem arr2 (c : Dev nD) : (dats m 0 c).arrAt 2 cfg0.N = fun y => G m c (y 1) (col (y 0) (y 2)) := by
  have hrun := Pipeline.eq_sum_fin_of_reset_step_apply_last (fun n h (p : Fin 1024 × Fin 2048) => (outsAt0 m c n h).2 (ix2 p.1 p.2)) 16
    (fun _ => (0 : EReal)) (fun t p => part m c t p.1 p.2)
    (fun t h0 p => at_A m c t h0 p.1 p.2)
    (fun t h0 p => at_B m c t h0 p.1 p.2)
    (by decide) t0_15 rfl
  refine (dats m 0 c).arrAt_eq_of_after_last 2 t0_15 (by decide +kernel) _ fun y => ?_
  blk_simp
  rw [after0_2]
  obtain ⟨d, i, e, rfl⟩ : ∃ d i e, y = ix3 d i e := ⟨_, _, _, eq_ix3 y⟩
  refine (out_C m c t0_15 (by decide) (by decide) d i e).trans ?_
  have h := hrun (i, col d e)
  refine h.trans ?_
  rw [zero_add]
  exact sum_rows (fun R => aN m c (ix2 R (i)) * aC m c (ix2 R (col d e)))

end Cert.Kernel4Ideal.Wg

end

end
-- ==== Proof.WgClaim.lean ====
/- The claim about a weight-gradient launch. -/
module

public import proofs.«01_k».proof.Proof.WgArr
public import proofs.«01_k».proof.Proof.Gen.Reference4Ideal.Read
public import proofs.«01_k».proof.Proof.PoolClaim

@[expose] public section

set_option maxRecDepth 16384

noncomputable section

open Idealize.ShloMosaic Idealize.ShloMosaic.TcCoe Idealize.SL.Sem
open Idealize.ShloMosaic.Pipeline (Dat)

namespace Cert.WgClaim
open Idealize.ShloMosaic Idealize.SL.Sem

section Run
open Cert.Reference4Ideal
/-- The reference's run, its results named by the stages of its reading. -/
theorem runR (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v5) = Read.val_main_v5 (F := Ideal) (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (Read.val_main_v5_eq _ _ ),
      (h c).2⟩)
    (Value.run (F := Ideal) m ρ)
end Run

/-- The reference ends with its arguments unchanged and every counter at zero. -/
theorem frameR : Cert.quiescent_Reference4Ideal (hReference4Ideal := Cert.Reference4Ideal.Gen.facts) := by
  intro m ρ _
  exact (θ_run Cert.Reference4Ideal.defs _ _).mono (fun r h => ⟨fun c => (h c).2, sem_eq_zero_of_no_sems (by decide) r.2⟩) (Cert.Reference4Ideal.Value.run (F := Ideal) m ρ)

section Eq
open Cert.Kernel4Ideal Cert.Kernel4Ideal.Gen Cert.Kernel4Ideal.Wg Idealize.ShloMosaic.TcCoe
open Cert.FfSpec (col)

theorem ref (n : S8192x1024.Idx → EReal) (ct : S8192x2048.Idx → EReal) (d : Fin 8) (i : Fin 1024) (e : Fin 256) :
    Cert.Reference4Ideal.Read.val_main_v5 (F := Ideal) n ct (ix3 d i e) = ∑ R : Fin 8192, n (ix2 R (i)) * ct (ix2 R (col d e)) := by
  pointwise [Cert.Reference4Ideal.Read.val_main_v5, Cert.Reference4Ideal.Read.val_main_v4, Cert.Reference4Ideal.Read.val_main_v3, Cert.Reference4Ideal.Read.val_main_v2, Cert.Reference4Ideal.Read.val_main_v1]
  have hc : (⟨d.val * 256 + e.val, by omega⟩ : Fin 2048) = col d e := Fin.ext (by simp only [col]; omega)
  exact Finset.sum_congr rfl fun R _ => by rw [hc, mul_comm]

variable (m : (ℓ : Loc nD τ sig) → Buf (Elt Ideal) ℓ) (c : Dev nD)

theorem e0 : (dats m 0 c).arrAt 2 cfg0.N = Cert.Reference4Ideal.Read.val_main_v5 (F := Ideal) (aN m c) (aC m c) := by
  rw [arr2]
  funext y
  obtain ⟨d, i, e, rfl⟩ : ∃ d i e, y = ix3 d i e := ⟨_, _, _, eq_ix3 y⟩
  exact (ref _ _ d i e).symm
end Eq

/-- The launch and the reference, from memories that agree on the arguments. -/
theorem algebraic : Cert.algebraic_Kernel4Ideal_Reference4Ideal (hKernel4Ideal := Cert.Kernel4Ideal.Gen.facts) (hReference4Ideal := Cert.Reference4Ideal.Gen.facts) := by
  intro m g m' g' _ hag
  refine ⟨fun c => (Cert.Kernel4Ideal.Gen.dats m 0 c).arrAt 2 Cert.Kernel4Ideal.cfg0.N,
    Cert.Kernel4Ideal.Value.run_blocks m g, (θ_run Cert.Reference4Ideal.defs _ _).mono (fun r h c => ?_) (runR m' g')⟩
  obtain ⟨a0, a1, a2⟩ := hag c
  obtain ⟨r0, rest⟩ := h c
  rw [a0, a2] at r0
  exact ⟨r0.trans (e0 m c).symm, rest⟩

end Cert.WgClaim

end

end
-- ==== Proof.WrTile.lean ====
/- The accumulation of a weight gradient over one tile of rows, and its stores. -/
module

public import proofs.«01_k».proof.Proof.FfTile
public import proofs.«01_k».proof.Proof.Gen.Kernel5Ideal.Value
public import proofs.«01_k».proof.Proof.Slices

@[expose] public section

set_option maxRecDepth 16384

noncomputable section

open Idealize.ShloMosaic Idealize.ShloMosaic.TcCoe Idealize.SL.Sem
open Idealize.ShloMosaic.Pipeline (Dat)

namespace Cert.Kernel5Ideal.Wr
open Cert.Kernel5Ideal Cert.Kernel5Ideal.Gen Cert.Slices
open Cert.FfSpec (col exists_col)

variable (m : (ℓ : Loc nD τ sig) → Buf (Elt Ideal) ℓ)

theorem pay1 (i : Fin 2048) (j : Fin 1024) : k0_pay1 (F := Ideal) (ix2 i j) = 0 := by
  pointwise [k0_pay1]

theorem pay2 (a : Vec Ideal S512x2048 .bf16) (p : Vec Ideal S2048x1024 .f32) (b : Vec Ideal S512x1024 .bf16) (i : Fin 2048) (j : Fin 1024) :
    k0_pay2 a p b (ix2 i j) = p (ix2 i j) + ∑ r : Fin 512, a (ix2 r i) * b (ix2 r j) := by
  pointwise [k0_pay2]

theorem acc_A (c : Dev nD) (t : Fin cfg0.N) (h0 : t.val % 16 = 0) (h1 : ¬t.val % 16 = 15) :
    (outsAt0 m c t.val t.isLt).2 = k0_pay2 (iblk m c 0 t) (k0_pay1 (F := Ideal)) (iblk m c 1 t) := by
  rw [outsAt0_A m c t h0 h1]
  frame_out
theorem acc_B (c : Dev nD) (t : Fin cfg0.N) (h0 : ¬t.val % 16 = 0) (h1 : ¬t.val % 16 = 15) :
    (outsAt0 m c t.val t.isLt).2 = k0_pay2 (iblk m c 0 t) (outsAt0 m c (t.val - 1) (by omega)).2 (iblk m c 1 t) := by
  rw [outsAt0_B m c t h0 h1]
  frame_out
  rw [read_unread_whole]
theorem acc_C (c : Dev nD) (t : Fin cfg0.N) (h0 : ¬t.val % 16 = 0) (h1 : t.val % 16 = 15) :
    (outsAt0 m c t.val t.isLt).2 = k0_pay2 (iblk m c 0 t) (outsAt0 m c (t.val - 1) (by omega)).2 (iblk m c 1 t) := by
  rw [outsAt0_C m c t h0 h1]
  frame_out
  rw [read_unread_whole]
theorem acc_step (c : Dev nD) (t : Fin cfg0.N) (h0 : ¬t.val % 16 = 0) :
    (outsAt0 m c t.val t.isLt).2 = k0_pay2 (iblk m c 0 t) (outsAt0 m c (t.val - 1) (by omega)).2 (iblk m c 1 t) := by
  by_cases h1 : t.val % 16 = 15
  · exact acc_C m c t h0 h1
  · exact acc_B m c t h0 h1

section Pieces
variable (Z : Vec Ideal S2048x1024 .f32)

theorem st0 (i : Fin 256) (e : Fin 1024) : (k0_pay6 (View.ld (Val := Elt Ideal) (e' := .f32) Z (Rect.unit (s := (⟨2, ![2048, 1024]⟩ : Shape)) ![0, 0] ![256, 1024] inb_S2048x1024_S256x1024_0_0))) (ix3 0 i e) = Z (ix2 (col 0 i) (e)) := by
  refine Eq.trans ?_ (ld_at inb_S2048x1024_S256x1024_0_0 Z i e (col 0 i) (e) rfl (by omega))
  generalize (View.ld (Val := Elt Ideal) (e' := .f32) Z (Rect.unit (s := (⟨2, ![2048, 1024]⟩ : Shape)) ![0, 0] ![256, 1024] inb_S2048x1024_S256x1024_0_0)) = Y
  pointwise [k0_pay6]

theorem st1 (i : Fin 256) (e : Fin 1024) : (k0_pay7 (View.ld (Val := Elt Ideal) (e' := .f32) Z (Rect.unit (s := (⟨2, ![2048, 1024]⟩ : Shape)) ![256, 0] ![256, 1024] inb_S2048x1024_S256x1024_256_0))) (ix3 0 i e) = Z (ix2 (col 1 i) (e)) := by
  refine Eq.trans ?_ (ld_at inb_S2048x1024_S256x1024_256_0 Z i e (col 1 i) (e) rfl (by omega))
  generalize (View.ld (Val := Elt Ideal) (e' := .f32) Z (Rect.unit (s := (⟨2, ![2048, 1024]⟩ : Shape)) ![256, 0] ![256, 1024] inb_S2048x1024_S256x1024_256_0)) = Y
  pointwise [k0_pay7]

theorem st2 (i : Fin 256) (e : Fin 1024) : (k0_pay8 (View.ld (Val := Elt Ideal) (e' := .f32) Z (Rect.unit (s := (⟨2, ![2048, 1024]⟩ : Shape)) ![512, 0] ![256, 1024] inb_S2048x1024_S256x1024_512_0))) (ix3 0 i e) = Z (ix2 (col 2 i) (e)) := by
  refine Eq.trans ?_ (ld_at inb_S2048x1024_S256x1024_512_0 Z i e (col 2 i) (e) rfl (by omega))
  generalize (View.ld (Val := Elt Ideal) (e' := .f32) Z (Rect.unit (s := (⟨2, ![2048, 1024]⟩ : Shape)) ![512, 0] ![256, 1024] inb_S2048x1024_S256x1024_512_0)) = Y
  pointwise [k0_pay8]

theorem st3 (i : Fin 256) (e : Fin 1024) : (k0_pay9 (View.ld (Val := Elt Ideal) (e' := .f32) Z (Rect.unit (s := (⟨2, ![2048, 1024]⟩ : Shape)) ![768, 0] ![256, 1024] inb_S2048x1024_S256x1024_768_0))) (ix3 0 i e) = Z (ix2 (col 3 i) (e)) := by
  refine Eq.trans ?_ (ld_at inb_S2048x1024_S256x1024_768_0 Z i e (col 3 i) (e) rfl (by omega))
  generalize (View.ld (Val := Elt Ideal) (e' := .f32) Z (Rect.unit (s := (⟨2, ![2048, 1024]⟩ : Shape)) ![768, 0] ![256, 1024] inb_S2048x1024_S256x1024_768_0)) = Y
  pointwise [k0_pay9]

theorem st4 (i : Fin 256) (e : Fin 1024) : (k0_pay10 (View.ld (Val := Elt Ideal) (e' := .f32) Z (Rect.unit (s := (⟨2, ![2048, 1024]⟩ : Shape)) ![1024, 0] ![256, 1024] inb_S2048x1024_S256x1024_1024_0))) (ix3 0 i e) = Z (ix2 (col 4 i) (e)) := by
  refine Eq.trans ?_ (ld_at inb_S2048x1024_S256x1024_1024_0 Z i e (col 4 i) (e) rfl (by omega))
  generalize (View.ld (Val := Elt Ideal) (e' := .f32) Z (Rect.unit (s := (⟨2, ![2048, 1024]⟩ : Shape)) ![1024, 0] ![256, 1024] inb_S2048x1024_S256x1024_1024_0)) = Y
  pointwise [k0_pay10]

theorem st5 (i : Fin 256) (e : Fin 1024) : (k0_pay3 (k0_pay11 (View.ld (Val := Elt Ideal) (e' := .f32) Z (Rect.unit (s := (⟨2, ![2048, 1024]⟩ : Shape)) ![1280, 0] ![256, 1024] inb_S2048x1024_S256x1024_1280_0)))) (ix3 0 i e) = Z (ix2 (col 5 i) (e)) := by
  refine Eq.trans ?_ (ld_at inb_S2048x1024_S256x1024_1280_0 Z i e (col 5 i) (e) rfl (by omega))
  generalize (View.ld (Val := Elt Ideal) (e' := .f32) Z (Rect.unit (s := (⟨2, ![2048, 1024]⟩ : Shape)) ![1280, 0] ![256, 1024] inb_S2048x1024_S256x1024_1280_0)) = Y
  pointwise [k0_pay3, k0_pay11]

theorem st6 (i : Fin 256) (e : Fin 1024) : (k0_pay4 (View.ld (Val := Elt Ideal) (e' := .f32) Z (Rect.unit (s := (⟨2, ![2048, 1024]⟩ : Shape)) ![1536, 0] ![256, 1024] inb_S2048x1024_S256x1024_1536_0))) (ix3 0 i e) = Z (ix2 (col 6 i) (e)) := by
  refine Eq.trans ?_ (ld_at inb_S2048x1024_S256x1024_1536_0 Z i e (col 6 i) (e) rfl (by omega))
  generalize (View.ld (Val := Elt Ideal) (e' := .f32) Z (Rect.unit (s := (⟨2, ![2048, 1024]⟩ : Shape)) ![1536, 0] ![256, 1024] inb_S2048x1024_S256x1024_1536_0)) = Y
  pointwise [k0_pay4]

theorem st7 (i : Fin 256) (e : Fin 1024) : (k0_pay5 (View.ld (Val := Elt Ideal) (e' := .f32) Z (Rect.unit (s := (⟨2, ![2048, 1024]⟩ : Shape)) ![1792, 0] ![256, 1024] inb_S2048x1024_S256x1024_1792_0))) (ix3 0 i e) = Z (ix2 (col 7 i) (e)) := by
  refine Eq.trans ?_ (ld_at inb_S2048x1024_S256x1024_1792_0 Z i e (col 7 i) (e) rfl (by omega))
  generalize (View.ld (Val := Elt Ideal) (e' := .f32) Z (Rect.unit (s := (⟨2, ![2048, 1024]⟩ : Shape)) ![1792, 0] ![256, 1024] inb_S2048x1024_S256x1024_1792_0)) = Y
  pointwise [k0_pay5]

/-- The eight stores fill the result's eight slices with the accumulator's. -/
theorem pieces (d : Fin 8) (i : Fin 256) (e : Fin 1024) :
    View.canon (Val := Elt Ideal) (s := (⟨3, ![8, 256, 1024]⟩ : Shape)) (e := .bf16) ([⟨Rect.unit (s := (⟨3, ![8, 256, 1024]⟩ : Shape)) ![7, 0, 0] ![1, 256, 1024] inb_S8x256x1024_S1x256x1024_7_0_0, (k0_pay5 (View.ld (Val := Elt Ideal) (e' := .f32) Z (Rect.unit (s := (⟨2, ![2048, 1024]⟩ : Shape)) ![1792, 0] ![256, 1024] inb_S2048x1024_S256x1024_1792_0)))⟩, ⟨Rect.unit (s := (⟨3, ![8, 256, 1024]⟩ : Shape)) ![6, 0, 0] ![1, 256, 1024] inb_S8x256x1024_S1x256x1024_6_0_0, (k0_pay4 (View.ld (Val := Elt Ideal) (e' := .f32) Z (Rect.unit (s := (⟨2, ![2048, 1024]⟩ : Shape)) ![1536, 0] ![256, 1024] inb_S2048x1024_S256x1024_1536_0)))⟩, ⟨Rect.unit (s := (⟨3, ![8, 256, 1024]⟩ : Shape)) ![5, 0, 0] ![1, 256, 1024] inb_S8x256x1024_S1x256x1024_5_0_0, (k0_pay3 (k0_pay11 (View.ld (Val := Elt Ideal) (e' := .f32) Z (Rect.unit (s := (⟨2, ![2048, 1024]⟩ : Shape)) ![1280, 0] ![256, 1024] inb_S2048x1024_S256x1024_1280_0))))⟩, ⟨Rect.unit (s := (⟨3, ![8, 256, 1024]⟩ : Shape)) ![4, 0, 0] ![1, 256, 1024] inb_S8x256x1024_S1x256x1024_4_0_0, (k0_pay10 (View.ld (Val := Elt Ideal) (e' := .f32) Z (Rect.unit (s := (⟨2, ![2048, 1024]⟩ : Shape)) ![1024, 0] ![256, 1024] inb_S2048x1024_S256x1024_1024_0)))⟩, ⟨Rect.unit (s := (⟨3, ![8, 256, 1024]⟩ : Shape)) ![3, 0, 0] ![1, 256, 1024] inb_S8x256x1024_S1x256x1024_3_0_0, (k0_pay9 (View.ld (Val := Elt Ideal) (e' := .f32) Z (Rect.unit (s := (⟨2, ![2048, 1024]⟩ : Shape)) ![768, 0] ![256, 1024] inb_S2048x1024_S256x1024_768_0)))⟩, ⟨Rect.unit (s := (⟨3, ![8, 256, 1024]⟩ : Shape)) ![2, 0, 0] ![1, 256, 1024] inb_S8x256x1024_S1x256x1024_2_0_0, (k0_pay8 (View.ld (Val := Elt Ideal) (e' := .f32) Z (Rect.unit (s := (⟨2, ![2048, 1024]⟩ : Shape)) ![512, 0] ![256, 1024] inb_S2048x1024_S256x1024_512_0)))⟩, ⟨Rect.unit (s := (⟨3, ![8, 256, 1024]⟩ : Shape)) ![1, 0, 0] ![1, 256, 1024] inb_S8x256x1024_S1x256x1024_1_0_0, (k0_pay7 (View.ld (Val := Elt Ideal) (e' := .f32) Z (Rect.unit (s := (⟨2, ![2048, 1024]⟩ : Shape)) ![256, 0] ![256, 1024] inb_S2048x1024_S256x1024_256_0)))⟩, ⟨Rect.unit (s := (⟨3, ![8, 256, 1024]⟩ : Shape)) ![0, 0, 0] ![1, 256, 1024] inb_S8x256x1024_S1x256x1024_0_0_0, (k0_pay6 (View.ld (Val := Elt Ideal) (e' := .f32) Z (Rect.unit (s := (⟨2, ![2048, 1024]⟩ : Shape)) ![0, 0] ![256, 1024] inb_S2048x1024_S256x1024_0_0)))⟩] : List (View.Piece (Elt Ideal) (⟨3, ![8, 256, 1024]⟩ : Shape) .bf16)) (ix3 d i e) = Z (ix2 (col d i) (e)) :=
  cn_all _ _ _ _ _ _ _ _ _ _ _ _ _ _ _ _ (fun d i e => Z (ix2 (col d i) (e))) (st0 Z) (st1 Z) (st2 Z) (st3 Z) (st4 Z) (st5 Z) (st6 Z) (st7 Z) d i e
end Pieces

theorem out_C (c : Dev nD) (t : Fin cfg0.N) (h0 : ¬t.val % 16 = 0) (h1 : t.val % 16 = 15) (d : Fin 8) (i : Fin 256) (e : Fin 1024) :
    (outsAt0 m c t.val t.isLt).1 (ix3 d i e) = (outsAt0 m c t.val t.isLt).2 (ix2 (col d i) (e)) := by
  rw [acc_C m c t h0 h1, outsAt0_C m c t h0 h1]
  frame_out
  rw [read_unread_whole]
  generalize k0_pay2 (iblk m c 0 t) (outsAt0 m c (t.val - 1) _).2 (iblk m c 1 t) = Z
  rw [View.readCov_fill _ _ _ _ _ (by decide), View.readCov_fill _ _ _ _ _ (by decide), View.readCov_fill _ _ _ _ _ (by decide), View.readCov_fill _ _ _ _ _ (by decide), View.readCov_fill _ _ _ _ _ (by decide), View.readCov_fill _ _ _ _ _ (by decide), View.readCov_fill _ _ _ _ _ (by decide), View.readCov_fill _ _ _ _ _ (by decide)]
  exact pieces Z d i e

end Cert.Kernel5Ideal.Wr

end

end
-- ==== Proof.WrArr.lean ====
/- The array a weight-gradient launch leaves. -/
module

public import proofs.«01_k».proof.Proof.WrTile

@[expose] public section

set_option maxRecDepth 16384

noncomputable section

open Idealize.ShloMosaic Idealize.ShloMosaic.TcCoe Idealize.SL.Sem
open Idealize.ShloMosaic.Pipeline (Dat)

namespace Cert.Kernel5Ideal.Wr
open Cert.Kernel5Ideal Cert.Kernel5Ideal.Gen
open Cert.FfSpec (col exists_col)

variable (m : (ℓ : Loc nD τ sig) → Buf (Elt Ideal) ℓ)

theorem idx : ∀ t : Fin cfg0.N, win0_0.index t = ![t.val, 0] ∧ win0_1.index t = ![t.val, 0] ∧ win0_2.index t = ![0, 0, 0] ∧ t.val < 16 :=
  (by decide +kernel : ∀ t : Fin grid0.N, _)
theorem idx0 (t : Fin cfg0.N) : win0_0.index t = ![t.val, 0] := (idx t).1
theorem idx1 (t : Fin cfg0.N) : win0_1.index t = ![t.val, 0] := (idx t).2.1
theorem idx2 (t : Fin cfg0.N) : win0_2.index t = ![0, 0, 0] := (idx t).2.2.1
theorem lt16 (t : Fin cfg0.N) : t.val < 16 := (idx t).2.2.2

/-- The row of the whole array that row `r` of the tile of point `t` is. -/
def grow (t : Fin cfg0.N) (r : Fin 512) : Fin 8192 := ⟨t.val * 512 + r.val, by have := lt16 t; omega⟩

theorem sum_rows (f : Fin 8192 → EReal) : ∑ t : Fin cfg0.N, ∑ r : Fin 512, f (grow t r) = ∑ R : Fin 8192, f R := by
  rw [← Fintype.sum_prod_type' (fun (t : Fin cfg0.N) (r : Fin 512) => f (grow t r))]
  refine Fintype.sum_bijective (fun p : Fin cfg0.N × Fin 512 => grow p.1 p.2) ⟨fun p p' h => ?_, fun R => ?_⟩ _ _ fun _ => rfl
  · have h3 : p.1.val * 512 + p.2.val = p'.1.val * 512 + p'.2.val := congrArg Fin.val h
    exact Prod.ext (Fin.ext (by omega)) (Fin.ext (by omega))
  · have hN : R.val / 512 < cfg0.N := by show R.val / 512 < 16; omega
    exact ⟨(⟨R.val / 512, hN⟩, ⟨R.val % 512, by omega⟩), Fin.ext (by show R.val / 512 * 512 + R.val % 512 = R.val; omega)⟩

/-- The arguments of the call. -/
abbrev aN (c : Dev nD) : S8192x2048.Idx → EReal := m ((c : Thread nD τ).loc main_arg0)
abbrev aC (c : Dev nD) : S8192x1024.Idx → EReal := m ((c : Thread nD τ).loc main_arg2)

theorem V_v0 (c : Dev nD) (R : Fin 8192) (k : Fin 2048) : V m c main_v0 (ix2 R k) = aN m c (ix2 R k) := by
  unfold V; simp only [hostOps0]
  after_results
  pointwise
theorem V_v1 (c : Dev nD) (R : Fin 8192) (k : Fin 1024) : V m c main_v1 (ix2 R k) = aC m c (ix2 R k) := by
  unfold V; simp only [hostOps0]
  after_results
  pointwise
theorem blk0 (c : Dev nD) (t : Fin cfg0.N) (r : Fin 512) (k : Fin 2048) : iblk m c 0 t (ix2 r k) = aN m c (ix2 (grow t r) k) := by
  rw [← V_v0]
  unfold grow; blk_ext [iblk, idx0]
theorem blk1 (c : Dev nD) (t : Fin cfg0.N) (r : Fin 512) (k : Fin 1024) : iblk m c 1 t (ix2 r k) = aC m c (ix2 (grow t r) k) := by
  rw [← V_v1]
  unfold grow; blk_ext [iblk, idx1]

/-- What one tile of rows adds. -/
def part (c : Dev nD) (t : Fin cfg0.N) (i : Fin 2048) (j : Fin 1024) : EReal := ∑ r : Fin 512, aN m c (ix2 (grow t r) i) * aC m c (ix2 (grow t r) j)

theorem at_A (c : Dev nD) (t : Fin cfg0.N) (h0 : t.val % 16 = 0) (i : Fin 2048) (j : Fin 1024) :
    (outsAt0 m c t.val t.isLt).2 (ix2 i j) = 0 + part m c t i j := by
  rw [acc_A m c t h0 (by omega), pay2, pay1]
  unfold part
  simp only [blk0, blk1]
theorem at_B (c : Dev nD) (t : Fin cfg0.N) (h0 : ¬t.val % 16 = 0) (i : Fin 2048) (j : Fin 1024) :
    (outsAt0 m c t.val t.isLt).2 (ix2 i j) = (outsAt0 m c (t.val - 1) (by omega)).2 (ix2 i j) + part m c t i j := by
  rw [acc_step m c t h0, pay2]
  unfold part
  simp only [blk0, blk1]

/-- The gradient. -/
def G (c : Dev nD) (i : Fin 2048) (j : Fin 1024) : EReal := ∑ R : Fin 8192, aN m c (ix2 R i) * aC m c (ix2 R j)

theorem arr2 (c : Dev nD) : (dats m 0 c).arrAt 2 cfg0.N = fun y => G m c (col (y 0) (y 1)) (y 2) := by
  have hrun := Pipeline.eq_sum_fin_of_reset_step_apply_last (fun n h (p : Fin 2048 × Fin 1024) => (outsAt0 m c n h).2 (ix2 p.1 p.2)) 16
    (fun _ => (0 : EReal)) (fun t p => part m c t p.1 p.2)
    (fun t h0 p => at_A m c t h0 p.1 p.2)
    (fun t h0 p => at_B m c t h0 p.1 p.2)
    (by decide) t0_15 rfl
  refine (dats m 0 c).arrAt_eq_of_after_last 2 t0_15 (by decide +kernel) _ fun y => ?_
  blk_simp
  rw [after0_2]
  obtain ⟨d, i, e, rfl⟩ : ∃ d i e, y = ix3 d i e := ⟨_, _, _, eq_ix3 y⟩
  refine (out_C m c t0_15 (by decide) (by decide) d i e).trans ?_
  have h := hrun (col d i, e)
  refine h.trans ?_
  rw [zero_add]
  exact sum_rows (fun R => aN m c (ix2 R (col d i)) * aC m c (ix2 R (e)))

end Cert.Kernel5Ideal.Wr

end

end
-- ==== Proof.WrClaim.lean ====
/- The claim about a weight-gradient launch. -/
module

public import proofs.«01_k».proof.Proof.WrArr
public import proofs.«01_k».proof.Proof.Gen.Reference5Ideal.Read
public import proofs.«01_k».proof.Proof.PoolClaim

@[expose] public section

set_option maxRecDepth 16384

noncomputable section

open Idealize.ShloMosaic Idealize.ShloMosaic.TcCoe Idealize.SL.Sem
open Idealize.ShloMosaic.Pipeline (Dat)

namespace Cert.WrClaim
open Idealize.ShloMosaic Idealize.SL.Sem

section Run
open Cert.Reference5Ideal
/-- The reference's run, its results named by the stages of its reading. -/
theorem runR (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v4) = Read.val_main_v4 (F := Ideal) (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (Read.val_main_v4_eq _ _ ),
      (h c).2⟩)
    (Value.run (F := Ideal) m ρ)
end Run

/-- The reference ends with its arguments unchanged and every counter at zero. -/
theorem frameR : Cert.quiescent_Reference5Ideal (hReference5Ideal := Cert.Reference5Ideal.Gen.facts) := by
  intro m ρ _
  exact (θ_run Cert.Reference5Ideal.defs _ _).mono (fun r h => ⟨fun c => (h c).2, sem_eq_zero_of_no_sems (by decide) r.2⟩) (Cert.Reference5Ideal.Value.run (F := Ideal) m ρ)

section Eq
open Cert.Kernel5Ideal Cert.Kernel5Ideal.Gen Cert.Kernel5Ideal.Wr Idealize.ShloMosaic.TcCoe
open Cert.FfSpec (col)

theorem ref (n : S8192x2048.Idx → EReal) (ct : S8192x1024.Idx → EReal) (d : Fin 8) (i : Fin 256) (e : Fin 1024) :
    Cert.Reference5Ideal.Read.val_main_v4 (F := Ideal) n ct (ix3 d i e) = ∑ R : Fin 8192, n (ix2 R (col d i)) * ct (ix2 R (e)) := by
  pointwise [Cert.Reference5Ideal.Read.val_main_v4, Cert.Reference5Ideal.Read.val_main_v3, Cert.Reference5Ideal.Read.val_main_v2, Cert.Reference5Ideal.Read.val_main_v1]
  have hc : (⟨d.val * 256 + i.val, by omega⟩ : Fin 2048) = col d i := Fin.ext (by simp only [col]; omega)
  exact Finset.sum_congr rfl fun R _ => by rw [hc, mul_comm]

variable (m : (ℓ : Loc nD τ sig) → Buf (Elt Ideal) ℓ) (c : Dev nD)

theorem e0 : (dats m 0 c).arrAt 2 cfg0.N = Cert.Reference5Ideal.Read.val_main_v4 (F := Ideal) (aN m c) (aC m c) := by
  rw [arr2]
  funext y
  obtain ⟨d, i, e, rfl⟩ : ∃ d i e, y = ix3 d i e := ⟨_, _, _, eq_ix3 y⟩
  exact (ref _ _ d i e).symm
end Eq

/-- The launch and the reference, from memories that agree on the arguments. -/
theorem algebraic : Cert.algebraic_Kernel5Ideal_Reference5Ideal (hKernel5Ideal := Cert.Kernel5Ideal.Gen.facts) (hReference5Ideal := Cert.Reference5Ideal.Gen.facts) := by
  intro m g m' g' _ hag
  refine ⟨fun c => (Cert.Kernel5Ideal.Gen.dats m 0 c).arrAt 2 Cert.Kernel5Ideal.cfg0.N,
    Cert.Kernel5Ideal.Value.run_blocks m g, (θ_run Cert.Reference5Ideal.defs _ _).mono (fun r h c => ?_) (runR m' g')⟩
  obtain ⟨a0, a1, a2⟩ := hag c
  obtain ⟨r0, rest⟩ := h c
  rw [a0, a2] at r0
  exact ⟨r0.trans (e0 m c).symm, rest⟩

end Cert.WrClaim

end

end
-- ==== Proof.Cats.lean ====
/- Parts of a row side by side, and the gradients of a normalised row. -/
module

public import proofs.«01_k».proof.Proof.FfSpec

@[expose] public section

set_option maxRecDepth 16384

noncomputable section

open Idealize.ShloMosaic Idealize.ShloMosaic.TcCoe Idealize.SL.Sem
open Idealize.ShloMosaic.Pipeline (Dat)

namespace Cert.Cats

/-- Parts side by side. -/
def cat2 (p : Fin 512 → EReal) (q : Fin 256 → EReal) (i : Fin 768) : EReal :=
  if h : i.val < 512 then p ⟨i.val, h⟩ else q ⟨i.val - 512, by omega⟩
def cat4 (p q r : Fin 512 → EReal) (s : Fin 256 → EReal) (i : Fin 1792) : EReal :=
  if h : i.val < 512 then p ⟨i.val, h⟩ else if h : i.val - 512 < 512 then q ⟨i.val - 512, h⟩
    else if h : i.val - 512 - 512 < 512 then r ⟨i.val - 512 - 512, h⟩ else s ⟨i.val - 512 - 512 - 512, by omega⟩

theorem sum_cat2 (p : Fin 512 → EReal) (q : Fin 256 → EReal) (w : Fin 768 → EReal) :
    ∑ i, cat2 p q i * w i = (∑ i, p i * w ⟨i.val, by omega⟩) + ∑ i, q i * w ⟨512 + i.val, by omega⟩ := by
  refine (Fin.sum_univ_add (a := 512) (b := 256) (fun i : Fin 768 => cat2 p q i * w i)).trans ?_
  refine congrArg₂ (· + ·) (Finset.sum_congr rfl fun i _ => ?_) (Finset.sum_congr rfl fun i _ => ?_)
  · refine congrArg (· * _) ?_
    unfold cat2
    exact dif_pos i.isLt
  · refine congrArg (· * _) ?_
    unfold cat2
    have h : ¬(Fin.natAdd 512 i).val < 512 := by show ¬512 + i.val < 512; omega
    rw [dif_neg h]
    exact congrArg q (Fin.ext (by show 512 + i.val - 512 = i.val; omega))

/-- Padded parts added are the parts side by side. -/
theorem pad2 (p : Fin 512 → EReal) (q : Fin 256 → EReal) (k : Fin 768) :
    (if h : 512 ≤ k.val ∧ k.val - 512 < 256 then q ⟨k.val - 512, h.2⟩ else 0) + (if h : k.val < 512 then p ⟨k.val, h⟩ else 0) = cat2 p q k := by
  unfold cat2
  by_cases h0 : k.val < 512
  · have a : ¬(512 ≤ k.val ∧ k.val - 512 < 256) := by omega
    simp only [dif_pos h0, dif_neg a, zero_add]
  · have a : 512 ≤ k.val ∧ k.val - 512 < 256 := by omega
    simp only [dif_neg h0, dif_pos a, add_zero]
theorem pad4 (p q r : Fin 512 → EReal) (s : Fin 256 → EReal) (k : Fin 1792) :
    (((if h : 1536 ≤ k.val ∧ k.val - 1536 < 256 then s ⟨k.val - 1536, h.2⟩ else 0) + (if h : 1024 ≤ k.val ∧ k.val - 1024 < 512 then r ⟨k.val - 1024, h.2⟩ else 0)) +
      (if h : 512 ≤ k.val ∧ k.val - 512 < 512 then q ⟨k.val - 512, h.2⟩ else 0)) + (if h : k.val < 512 then p ⟨k.val, h⟩ else 0) = cat4 p q r s k := by
  have e1 : k.val - 512 - 512 = k.val - 1024 := by omega
  have e2 : k.val - 512 - 512 - 512 = k.val - 1536 := by omega
  unfold cat4
  by_cases h0 : k.val < 512
  · have a : ¬(512 ≤ k.val ∧ k.val - 512 < 512) := by omega
    have b : ¬(1024 ≤ k.val ∧ k.val - 1024 < 512) := by omega
    have c : ¬(1536 ≤ k.val ∧ k.val - 1536 < 256) := by omega
    simp only [dif_pos h0, dif_neg a, dif_neg b, dif_neg c, zero_add]
  by_cases h1 : k.val - 512 < 512
  · have a : 512 ≤ k.val ∧ k.val - 512 < 512 := by omega
    have b : ¬(1024 ≤ k.val ∧ k.val - 1024 < 512) := by omega
    have c : ¬(1536 ≤ k.val ∧ k.val - 1536 < 256) := by omega
    simp only [dif_neg h0, dif_pos h1, dif_pos a, dif_neg b, dif_neg c, zero_add, add_zero]
  by_cases h2 : k.val - 512 - 512 < 512
  · have a : ¬(512 ≤ k.val ∧ k.val - 512 < 512) := by omega
    have b : 1024 ≤ k.val ∧ k.val - 1024 < 512 := by omega
    have c : ¬(1536 ≤ k.val ∧ k.val - 1536 < 256) := by omega
    rw [dif_neg a, dif_pos b, dif_neg c, dif_neg h0, dif_neg h0, dif_neg h1, dif_pos h2, zero_add, add_zero, add_zero]
    exact congrArg r (Fin.ext e1.symm)
  · have a : ¬(512 ≤ k.val ∧ k.val - 512 < 512) := by omega
    have b : ¬(1024 ≤ k.val ∧ k.val - 1024 < 512) := by omega
    have c : 1536 ≤ k.val ∧ k.val - 1536 < 256 := by omega
    rw [dif_neg a, dif_neg b, dif_pos c, dif_neg h0, dif_neg h0, dif_neg h1, dif_neg h2, add_zero, add_zero, add_zero]
    exact congrArg s (Fin.ext e2.symm)

open Cert.FfSpec
/-- A row's terms of the two gradients, from the gradient of the normalised row. -/
def rowDh (c h g d : Fin 1024 → EReal) (k : Fin 1024) : EReal := c k + rmsB h g d k
def rowDg (h d : Fin 1024 → EReal) (k : Fin 1024) : EReal := d k * (h k * rinv h)

end Cert.Cats

end

end
-- ==== Proof.MpArr.lean ====
/- The arrays the projection's gradient leaves at a pool layer. -/
module

public import proofs.«01_k».proof.Proof.Gen.Kernel7Ideal.Value
public import proofs.«01_k».proof.Proof.Cats

@[expose] public section

set_option maxRecDepth 16384

noncomputable section

open Idealize.ShloMosaic Idealize.ShloMosaic.TcCoe Idealize.SL.Sem
open Idealize.ShloMosaic.Pipeline (Dat)

namespace Cert.Kernel7Ideal.Mp
open Cert.Kernel7Ideal Cert.Kernel7Ideal.Gen Cert.FfSpec Cert.Cats

section Tile
variable (x0 x1 u v : Vec Ideal S512x1024 .f32) (x2 y : Vec Ideal S1x1024 .f32) (x3 : Vec Ideal S512x512 .bf16) (x4 : Vec Ideal S512x256 .bf16) (x5 : Vec Ideal S1024x768 .bf16)

theorem p_du (r : Fin 512) (k : Fin 1024) : k0_pay2 x3 x4 x5 (ix2 r k) = ∑ e, cat2 (fun e => x3 (ix2 r e)) (fun e => x4 (ix2 r e)) e * x5 (ix2 k e) := by
  rw [sum_cat2]
  pointwise [k0_pay2]
theorem p_ri (r : Fin 512) : k0_pay3 x1 (ix2 r 0) = rinv (fun k => x1 (ix2 r k)) := by
  unfold rinv
  pointwise [k0_pay3]
theorem p_hr (r : Fin 512) (k : Fin 1024) : k0_pay4 x1 (ix2 r k) = x1 (ix2 r k) * rinv (fun k => x1 (ix2 r k)) := by
  pointwise [k0_pay4]
  rw [p_ri]
theorem p_dg (k : Fin 1024) : k0_pay5 x3 x4 x5 x1 (ix2 0 k) = ∑ r : Fin 512, rowDg (fun k => x1 (ix2 r k)) (fun k => ∑ e, cat2 (fun e => x3 (ix2 r e)) (fun e => x4 (ix2 r e)) e * x5 (ix2 k e)) k := by
  unfold rowDg
  simp only [← p_du]
  pointwise [k0_pay5]
  simp only [p_hr]
theorem p_dgB (k : Fin 1024) : k0_pay1 (k0_pay5 x3 x4 x5 x1) y (ix2 0 k) = y (ix2 0 k) + ∑ r : Fin 512, rowDg (fun k => x1 (ix2 r k)) (fun k => ∑ e, cat2 (fun e => x3 (ix2 r e)) (fun e => x4 (ix2 r e)) e * x5 (ix2 k e)) k := by
  rw [← p_dg]
  pointwise [k0_pay1]
theorem p_dh (r : Fin 512) (k : Fin 1024) : k0_pay6 x3 x4 x5 x1 x2 x0 (ix2 r k) = rowDh (fun k => x0 (ix2 r k)) (fun k => x1 (ix2 r k)) (fun k => x2 (ix2 0 k)) (fun k => ∑ e, cat2 (fun e => x3 (ix2 r e)) (fun e => x4 (ix2 r e)) e * x5 (ix2 k e)) k := by
  unfold rowDh rmsB
  simp only [← p_du]
  pointwise [k0_pay6]
  simp only [p_hr, p_ri, lit]
end Tile

variable (m : (ℓ : Loc nD τ sig) → Buf (Elt Ideal) ℓ)

theorem idx : ∀ t : Fin cfg0.N, win0_0.index t = ![t.val, 0] ∧ win0_1.index t = ![t.val, 0] ∧ win0_2.index t = ![0, 0] ∧ win0_3.index t = ![t.val, 0] ∧ win0_4.index t = ![t.val, 0] ∧ win0_5.index t = ![0, 0] ∧ win0_6.index t = ![t.val, 0] ∧ win0_7.index t = ![0, 0] ∧ t.val < 16 :=
  (by decide +kernel : ∀ t : Fin grid0.N, _)
theorem idx0 (t : Fin cfg0.N) : win0_0.index t = ![t.val, 0] := (idx t).1
theorem idx1 (t : Fin cfg0.N) : win0_1.index t = ![t.val, 0] := (idx t).2.1
theorem idx2 (t : Fin cfg0.N) : win0_2.index t = ![0, 0] := (idx t).2.2.1
theorem idx3 (t : Fin cfg0.N) : win0_3.index t = ![t.val, 0] := (idx t).2.2.2.1
theorem idx4 (t : Fin cfg0.N) : win0_4.index t = ![t.val, 0] := (idx t).2.2.2.2.1
theorem idx5 (t : Fin cfg0.N) : win0_5.index t = ![0, 0] := (idx t).2.2.2.2.2.1
theorem idx6 (t : Fin cfg0.N) : win0_6.index t = ![t.val, 0] := (idx t).2.2.2.2.2.2.1
theorem idx7 (t : Fin cfg0.N) : win0_7.index t = ![0, 0] := (idx t).2.2.2.2.2.2.2.1
theorem lt16 (t : Fin cfg0.N) : t.val < 16 := (idx t).2.2.2.2.2.2.2.2

/-- The row of the whole array that row `r` of the tile of point `t` is. -/
def grow (t : Fin cfg0.N) (r : Fin 512) : Fin 8192 := ⟨t.val * 512 + r.val, by have := lt16 t; omega⟩

theorem sum_rows (f : Fin 8192 → EReal) : ∑ t : Fin cfg0.N, ∑ r : Fin 512, f (grow t r) = ∑ R : Fin 8192, f R := by
  rw [← Fintype.sum_prod_type' (fun (t : Fin cfg0.N) (r : Fin 512) => f (grow t r))]
  refine Fintype.sum_bijective (fun p : Fin cfg0.N × Fin 512 => grow p.1 p.2) ⟨fun p p' h => ?_, fun R => ?_⟩ _ _ fun _ => rfl
  · have h3 : p.1.val * 512 + p.2.val = p'.1.val * 512 + p'.2.val := congrArg Fin.val h
    exact Prod.ext (Fin.ext (by omega)) (Fin.ext (by omega))
  · have hN : R.val / 512 < cfg0.N := by show R.val / 512 < 16; omega
    exact ⟨(⟨R.val / 512, hN⟩, ⟨R.val % 512, by omega⟩), Fin.ext (by show R.val / 512 * 512 + R.val % 512 = R.val; omega)⟩

/-- The arguments of the call. -/
abbrev a0 (c : Dev nD) : S8192x1024.Idx → EReal := m ((c : Thread nD τ).loc main_arg0)
abbrev a1 (c : Dev nD) : S1024.Idx → EReal := m ((c : Thread nD τ).loc main_arg1)
abbrev a2 (c : Dev nD) : S1024x768.Idx → EReal := m ((c : Thread nD τ).loc main_arg2)
abbrev a3 (c : Dev nD) : S8192x512.Idx → EReal := m ((c : Thread nD τ).loc main_arg3)
abbrev a4 (c : Dev nD) : S8192x256.Idx → EReal := m ((c : Thread nD τ).loc main_arg4)
abbrev a5 (c : Dev nD) : S8192x1024.Idx → EReal := m ((c : Thread nD τ).loc main_arg5)
theorem V_arg5 (c : Dev nD) (R : Fin 8192) (k : Fin 1024) : V m c main_arg5 (ix2 R k) = a5 m c (ix2 R k) := by
  unfold V; simp only [hostOps0]
  after_results
theorem blk0 (c : Dev nD) (t : Fin cfg0.N) (r : Fin 512) (k : Fin 1024) : iblk m c 0 t (ix2 r k) = a5 m c (ix2 (grow t r) k) := by
  rw [← V_arg5]
  unfold grow; blk_ext [iblk, idx0]
theorem V_arg0 (c : Dev nD) (R : Fin 8192) (k : Fin 1024) : V m c main_arg0 (ix2 R k) = a0 m c (ix2 R k) := by
  unfold V; simp only [hostOps0]
  after_results
theorem blk1 (c : Dev nD) (t : Fin cfg0.N) (r : Fin 512) (k : Fin 1024) : iblk m c 1 t (ix2 r k) = a0 m c (ix2 (grow t r) k) := by
  rw [← V_arg0]
  unfold grow; blk_ext [iblk, idx1]
theorem V_v0 (c : Dev nD) (k : Fin 1024) : V m c main_v0 (ix2 0 k) = a1 m c (ix1 k) := by
  unfold V; simp only [hostOps0]
  after_results
  pointwise
theorem blk2 (c : Dev nD) (t : Fin cfg0.N) (k : Fin 1024) : iblk m c 2 t (ix2 0 k) = a1 m c (ix1 k) := by
  rw [← V_v0]
  blk_ext [iblk, idx2]
theorem V_v1 (c : Dev nD) (R : Fin 8192) (k : Fin 512) : V m c main_v1 (ix2 R k) = a3 m c (ix2 R k) := by
  unfold V; simp only [hostOps0]
  after_results
  pointwise
theorem blk3 (c : Dev nD) (t : Fin cfg0.N) (r : Fin 512) (k : Fin 512) : iblk m c 3 t (ix2 r k) = a3 m c (ix2 (grow t r) k) := by
  rw [← V_v1]
  unfold grow; blk_ext [iblk, idx3]
theorem V_v2 (c : Dev nD) (R : Fin 8192) (k : Fin 256) : V m c main_v2 (ix2 R k) = a4 m c (ix2 R k) := by
  unfold V; simp only [hostOps0]
  after_results
  pointwise
theorem blk4 (c : Dev nD) (t : Fin cfg0.N) (r : Fin 512) (k : Fin 256) : iblk m c 4 t (ix2 r k) = a4 m c (ix2 (grow t r) k) := by
  rw [← V_v2]
  unfold grow; blk_ext [iblk, idx4]
theorem V_v3 (c : Dev nD) (k : Fin 1024) (e : Fin 768) : V m c main_v3 (ix2 k e) = a2 m c (ix2 k e) := by
  unfold V; simp only [hostOps0]
  after_results
  pointwise
theorem blk5 (c : Dev nD) (t : Fin cfg0.N) (k : Fin 1024) (e : Fin 768) : iblk m c 5 t (ix2 k e) = a2 m c (ix2 k e) := by
  rw [← V_v3]
  blk_ext [iblk, idx5]

/-- The gradient of the normalised rows, of the rows, and of the scale. -/
def DU (w : (⟨2, ![1024, 768]⟩ : Shape).Idx → EReal) (b0 : (⟨2, ![8192, 512]⟩ : Shape).Idx → EReal) (b1 : (⟨2, ![8192, 256]⟩ : Shape).Idx → EReal) (R : Fin 8192) (k : Fin 1024) : EReal := ∑ e, cat2 (fun e => b0 (ix2 R e)) (fun e => b1 (ix2 R e)) e * w (ix2 k e)
def DH (h : (⟨2, ![8192, 1024]⟩ : Shape).Idx → EReal) (g : (⟨1, ![1024]⟩ : Shape).Idx → EReal) (w : (⟨2, ![1024, 768]⟩ : Shape).Idx → EReal) (b0 : (⟨2, ![8192, 512]⟩ : Shape).Idx → EReal) (b1 : (⟨2, ![8192, 256]⟩ : Shape).Idx → EReal) (ct : (⟨2, ![8192, 1024]⟩ : Shape).Idx → EReal) (R : Fin 8192) (k : Fin 1024) : EReal :=
  rowDh (fun k => ct (ix2 R k)) (fun k => h (ix2 R k)) (fun k => g (ix1 k)) (DU w b0 b1 R) k
def DG (h : (⟨2, ![8192, 1024]⟩ : Shape).Idx → EReal) (w : (⟨2, ![1024, 768]⟩ : Shape).Idx → EReal) (b0 : (⟨2, ![8192, 512]⟩ : Shape).Idx → EReal) (b1 : (⟨2, ![8192, 256]⟩ : Shape).Idx → EReal) (k : Fin 1024) : EReal := ∑ R : Fin 8192, rowDg (fun k => h (ix2 R k)) (DU w b0 b1 R) k

/-- What one tile of rows adds to the gradient of the scale. -/
def part (c : Dev nD) (t : Fin cfg0.N) (k : Fin 1024) : EReal := ∑ r : Fin 512, rowDg (fun k => a0 m c (ix2 (grow t r) k)) (DU (a2 m c) (a3 m c) (a4 m c) (grow t r)) k

theorem h_A (c : Dev nD) (t : Fin cfg0.N) (h0 : t.val % 16 = 0) (h1 : ¬1 ≤ t.val) (r : Fin 512) (k : Fin 1024) :
    (outsAt0 m c t.val t.isLt).1 (ix2 r k) = DH (a0 m c) (a1 m c) (a2 m c) (a3 m c) (a4 m c) (a5 m c) (grow t r) k := by
  rw [outsAt0_A m c t h0 h1]
  frame_out
  refine (p_dh (iblk m c 0 t) (iblk m c 1 t) (iblk m c 2 t) (iblk m c 3 t) (iblk m c 4 t) (iblk m c 5 t) r k).trans ?_
  unfold DH DU
  simp only [blk0, blk1, blk2, blk3, blk4, blk5]
theorem g_A (c : Dev nD) (t : Fin cfg0.N) (h0 : t.val % 16 = 0) (h1 : ¬1 ≤ t.val) (k : Fin 1024) :
    (outsAt0 m c t.val t.isLt).2 (ix2 0 k) = 0 + part m c t k := by
  rw [outsAt0_A m c t h0 h1]
  frame_out
  refine (p_dg (iblk m c 1 t) (iblk m c 3 t) (iblk m c 4 t) (iblk m c 5 t) k).trans ?_
  unfold part DU
  simp only [blk0, blk1, blk2, blk3, blk4, blk5]
  exact (zero_add _).symm
theorem h_B (c : Dev nD) (t : Fin cfg0.N) (h0 : ¬t.val % 16 = 0) (h1 : 1 ≤ t.val) (r : Fin 512) (k : Fin 1024) :
    (outsAt0 m c t.val t.isLt).1 (ix2 r k) = DH (a0 m c) (a1 m c) (a2 m c) (a3 m c) (a4 m c) (a5 m c) (grow t r) k := by
  rw [outsAt0_B m c t h0 h1]
  frame_out
  refine (p_dh (iblk m c 0 t) (iblk m c 1 t) (iblk m c 2 t) (iblk m c 3 t) (iblk m c 4 t) (iblk m c 5 t) r k).trans ?_
  unfold DH DU
  simp only [blk0, blk1, blk2, blk3, blk4, blk5]
theorem g_B (c : Dev nD) (t : Fin cfg0.N) (h0 : ¬t.val % 16 = 0) (h1 : 1 ≤ t.val) (k : Fin 1024) :
    (outsAt0 m c t.val t.isLt).2 (ix2 0 k) = (outsAt0 m c (t.val - 1) (by omega)).2 (ix2 0 k) + part m c t k := by
  rw [outsAt0_B m c t h0 h1]
  frame_out
  refine (p_dgB (iblk m c 1 t) _ (iblk m c 3 t) (iblk m c 4 t) (iblk m c 5 t) k).trans ?_
  unfold part DU
  simp only [blk0, blk1, blk2, blk3, blk4, blk5]

theorem at_h (c : Dev nD) (t : Fin cfg0.N) (r : Fin 512) (k : Fin 1024) :
    (outsAt0 m c t.val t.isLt).1 (ix2 r k) = DH (a0 m c) (a1 m c) (a2 m c) (a3 m c) (a4 m c) (a5 m c) (grow t r) k := by
  have := lt16 t
  by_cases h0 : t.val % 16 = 0
  · exact h_A m c t h0 (by omega) r k
  · exact h_B m c t h0 (by omega) r k

theorem arr6 (c : Dev nD) : (dats m 0 c).arrAt 6 cfg0.N = fun j => DH (a0 m c) (a1 m c) (a2 m c) (a3 m c) (a4 m c) (a5 m c) (j 0) (j 1) := by
  refine (dats m 0 c).arrAt_eq_of_covers 6 _ (by decide +kernel) fun t hf y => ?_
  blk_simp
  rw [after0_6]
  idx_vars y
  have he : ((View.whole main_v4_0).slice (win0_6.rect t)).emb (ix2 y0 y1) = ix2 (grow t y0) y1 := by
    funext a
    match a with
    | ⟨0, _⟩ => exact Fin.ext (by show win0_6.index t 0 * 512 + 1 * y0.val = t.val * 512 + y0.val; rw [idx6 t]; show t.val * 512 + 1 * y0.val = _; omega)
    | ⟨1, _⟩ => exact Fin.ext (by show win0_6.index t 1 * 1024 + 1 * y1.val = y1.val; rw [idx6 t]; show 0 * 1024 + 1 * y1.val = _; omega)
  rw [he]
  exact at_h m c t y0 y1

theorem arr7 (c : Dev nD) : (dats m 0 c).arrAt 7 cfg0.N = fun j => DG (a0 m c) (a2 m c) (a3 m c) (a4 m c) (j 1) := by
  have hrun := Pipeline.eq_sum_fin_of_reset_step_apply_last (fun n h (k : Fin 1024) => (outsAt0 m c n h).2 (ix2 0 k)) 16
    (fun _ => (0 : EReal)) (fun t k => part m c t k)
    (fun t h0 k => g_A m c t h0 (by have := lt16 t; omega) k)
    (fun t h0 k => g_B m c t h0 (by omega) k)
    (by decide) t0_15 rfl
  refine (dats m 0 c).arrAt_eq_of_after_last 7 t0_15 (by decide +kernel) _ fun y => ?_
  blk_simp
  rw [after0_7]
  obtain ⟨i, k, rfl⟩ : ∃ i k, y = ix2 i k := ⟨_, _, eq_ix2 y⟩
  obtain rfl : i = 0 := Subsingleton.elim _ _
  refine (hrun k).trans ?_
  rw [zero_add]
  exact sum_rows (fun R => rowDg (fun k => a0 m c (ix2 R k)) (DU (a2 m c) (a3 m c) (a4 m c) R) k)

end Cert.Kernel7Ideal.Mp

end

end
-- ==== Proof.RmsAll.lean ====
/- The gradient of a normalised row, for rows that may hold infinities. -/
module

public import proofs.«01_k».proof.Proof.FbReal

@[expose] public section

set_option maxRecDepth 16384

noncomputable section

open Idealize.ShloMosaic Idealize.ShloMosaic.TcCoe Idealize.SL.Sem
open Idealize.ShloMosaic.Pipeline (Dat)

namespace Cert.FbReal
open Cert.FfSpec

theorem sq_nonneg' (x : EReal) : 0 ≤ x * x := by
  induction x using EReal.rec with
  | bot => simp
  | coe a => exact_mod_cast mul_self_nonneg a
  | top => simp

theorem ms_cases (x : Fin 1024 → EReal) : ms x = ⊤ ∨ ∃ v : ℝ, 0 < v ∧ ms x = (v : EReal) := by
  obtain ⟨e, he, hp⟩ := lit_eps
  have h0 : 0 ≤ ∑ k, x k * x k := Finset.sum_nonneg fun k _ => sq_nonneg' _
  unfold ms
  rw [lit_n, Ideal.div_coe (by norm_num), he]
  generalize ∑ k, x k * x k = S at h0
  induction S using EReal.rec with
  | bot => exact absurd h0 (by simp)
  | coe a =>
    have ha : 0 ≤ a := by exact_mod_cast h0
    refine Or.inr ⟨a * (1 / 1024) + e, by positivity, ?_⟩
    rw [EReal.coe_add, EReal.coe_mul]
  | top =>
    left
    rw [EReal.top_mul_coe_of_pos (by norm_num)]
    exact EReal.top_add_coe e

theorem two_mul' (z : EReal) (c : ℝ) (hc : c < 0) : z * (c : EReal) + z * (c : EReal) = z * ((2 * c : ℝ) : EReal) := by
  have h2 : 2 * c < 0 := by linarith
  induction z using EReal.rec with
  | bot => rw [EReal.bot_mul_coe_of_neg hc, EReal.bot_mul_coe_of_neg h2]; rfl
  | coe a => norm_cast; ring
  | top => rw [EReal.top_mul_coe_of_neg hc, EReal.top_mul_coe_of_neg h2]; rfl

theorem mul_distrib' (s : ℝ) (hs : 0 ≤ s) (a b : EReal) : (s : EReal) * (a + b) = s * a + s * b :=
  EReal.left_distrib_of_nonneg_of_ne_top (by exact_mod_cast hs) (EReal.coe_ne_top s) a b

theorem sum_mul' {ι : Type} (s : ℝ) (hs : 0 ≤ s) (t : Finset ι) (f : ι → EReal) : ∑ i ∈ t, (s : EReal) * f i = s * ∑ i ∈ t, f i := by
  classical
  induction t using Finset.induction_on with
  | empty => simp
  | insert a t ha ih => rw [Finset.sum_insert ha, Finset.sum_insert ha, ih, mul_distrib' s hs]

/-- The gradient of a normalised row, factored or as the terms the derivative of the lines adds: equal whatever the entries. -/
theorem rmsB_all (x g dy : Fin 1024 → EReal) (k : Fin 1024) :
    rmsB x g dy k = dy k * g k * rinv x + x k * rmsW x g dy + rmsW x g dy * x k := by
  obtain ⟨h, _, h2, hh⟩ := lit_half
  rcases ms_cases x with hm | ⟨v, hv, hm⟩
  · have hr : rinv x = 0 := by show Ideal.rsqrt (ms x) = 0; rw [hm]; rfl
    have hw : rmsW x g dy = 0 := by
      unfold rmsW
      rw [hr, hm]
      have : Ideal.div 0 ⊤ = 0 := by unfold Ideal.div; rw [if_neg (by simp)]; simp
      rw [this, mul_zero, mul_zero, lit_n, Ideal.div_coe (by norm_num), zero_mul]
    unfold rmsB
    rw [hr, hw]
    simp
  · obtain ⟨s, hs, hsp, hvs⟩ : ∃ s : ℝ, rinv x = (s : EReal) ∧ 0 < s ∧ 1 / v = s * s := by
      refine ⟨(Real.sqrt v)⁻¹, ?_, by positivity, ?_⟩
      · show Ideal.rsqrt (ms x) = _
        rw [hm, Ideal.rsqrt_coe, if_neg (by linarith), if_neg hv.ne']
      · rw [← mul_inv, Real.mul_self_sqrt hv.le, one_div]
    have e1 : (∑ i, g i * dy i * (x i * rinv x)) = (s : EReal) * ∑ i, x i * (dy i * g i) := by
      rw [← sum_mul' s hsp.le]
      refine Finset.sum_congr rfl fun i _ => ?_
      rw [hs, mul_comm (g i), ← mul_assoc, mul_comm _ (s : EReal), mul_comm (dy i * g i)]
    unfold rmsB rmsW
    rw [e1, hs, hm, h2, lit_n, Ideal.div_coe hv.ne', Ideal.div_coe (by norm_num), Ideal.div_coe (by norm_num), hvs, hh]
    generalize ∑ i, x i * (dy i * g i) = S
    have e2 : x k * (S * (((-(1 / 2) : ℝ) : EReal) * ((s : EReal) * ((s * s : ℝ) : EReal))) * ((1 / 1024 : ℝ) : EReal))
        = x k * S * ((-(1 / 2) * (s * (s * s)) * (1 / 1024) : ℝ) : EReal) := by
      simp only [EReal.coe_mul, mul_assoc]
    have e3 : (S * (((-(1 / 2) : ℝ) : EReal) * ((s : EReal) * ((s * s : ℝ) : EReal))) * ((1 / 1024 : ℝ) : EReal)) * x k
        = x k * S * ((-(1 / 2) * (s * (s * s)) * (1 / 1024) : ℝ) : EReal) := by rw [mul_comm, e2]
    have hneg : (-(1 / 2) * (s * (s * s)) * (1 / 1024) : ℝ) < 0 := by
      have : 0 < s * (s * s) := by positivity
      linarith
    rw [e3, e2, add_assoc, two_mul' _ _ hneg, sub_eq_add_neg, mul_distrib' s hsp.le]
    congr 1
    · rw [mul_comm, mul_comm (g k)]
    · have e4 : (s : EReal) * -(x k * (s : EReal) * ((s : EReal) * S * ((1 / 1024 : ℝ) : EReal))) = x k * S * ((-(s * (s * s) * (1 / 1024)) : ℝ) : EReal) := by
        rw [mul_neg, EReal.coe_neg, mul_neg]
        simp only [EReal.coe_mul]
        congr 1
        ac_rfl
      rw [e4]
      congr 2
      ring

end Cert.FbReal

end

end
-- ==== Proof.MipClaim.lean ====
/- The claim about the projection's gradient at a pool layer. -/
module

public import proofs.«01_k».proof.Proof.MpArr
public import proofs.«01_k».proof.Proof.RmsAll
public import proofs.«01_k».proof.Proof.Gen.Reference7Ideal.Read
public import proofs.«01_k».proof.Proof.PoolClaim

@[expose] public section

set_option maxRecDepth 16384

noncomputable section

open Idealize.ShloMosaic Idealize.ShloMosaic.TcCoe Idealize.SL.Sem
open Idealize.ShloMosaic.Pipeline (Dat)

namespace Cert.MipClaim
open Idealize.ShloMosaic Idealize.SL.Sem

section Run
open Cert.Reference7Ideal
/-- The reference's run, its results named by the stages of its reading. -/
theorem runR (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v43) = Read.val_main_v43 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v44) = Read.val_main_v44 (F := Ideal) (m ((c.tc : Thread nD τ).loc main_arg0)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (Read.val_main_v43_eq m c),
      (h c).2.1.trans (Read.val_main_v44_eq _ _ _ _ ),
      (h c).2.2⟩)
    (Value.run (F := Ideal) m ρ)
end Run

/-- The reference ends with its arguments unchanged and every counter at zero. -/
theorem frameR : Cert.quiescent_Reference7Ideal (hReference7Ideal := Cert.Reference7Ideal.Gen.facts) := by
  intro m ρ _
  exact (θ_run Cert.Reference7Ideal.defs _ _).mono (fun r h => ⟨fun c => (h c).2.2, sem_eq_zero_of_no_sems (by decide) r.2⟩) (Cert.Reference7Ideal.Value.run (F := Ideal) m ρ)

section Eq
open Cert.Kernel7Ideal Cert.Kernel7Ideal.Gen Cert.Kernel7Ideal.Mp Idealize.ShloMosaic.TcCoe Cert.FfSpec Cert.FbReal Cert.Cats

section Ref
open Cert.Reference7Ideal.Read
variable (h : S8192x1024.Idx → EReal) (g : S1024.Idx → EReal) (w : S1024x768.Idx → EReal) (b0 : S8192x512.Idx → EReal) (b1 : S8192x256.Idx → EReal) (ct : S8192x1024.Idx → EReal)
theorem r_ms (R : Fin 8192) : val_main_v6 (F := Ideal) h (ix2 R 0) = ms (fun k => h (ix2 R k)) := by
  unfold ms
  pointwise [val_main_v6, val_main_v5, val_main_cst_1, val_main_v4, val_main_v3, val_main_cst_0, val_main_v2, val_main_v1, val_main_cst, val_main_v0]
theorem r_ri (R : Fin 8192) : val_main_v7 (F := Ideal) h (ix2 R 0) = rinv (fun k => h (ix2 R k)) := by
  show _ = Ideal.rsqrt (ms (fun k => h (ix2 R k)))
  rw [← r_ms]
  pointwise [val_main_v7]
theorem r_10 (R : Fin 8192) : val_main_v10 (F := Ideal) h (ix2 R 0) = lit 0xBF000000#32 * Ideal.div (rinv (fun k => h (ix2 R k))) (ms (fun k => h (ix2 R k))) := by
  rw [← r_ms, ← r_ri]
  pointwise [val_main_v10, val_main_v9, val_main_v8, val_main_cst_2]
theorem r_12 (R : Fin 8192) (k : Fin 1024) : val_main_v12 (F := Ideal) h (ix2 R k) = h (ix2 R k) * rinv (fun k => h (ix2 R k)) := by
  rw [← r_ri]
  pointwise [val_main_v12, val_main_v11]
theorem r_22 (R : Fin 8192) (k : Fin 1024) : val_main_v22 (F := Ideal) w b0 b1 (ix2 R k) = DU w b0 b1 R k := by
  unfold DU
  pointwise [val_main_v22, val_main_v21, val_main_v20, val_main_v19, val_main_cst_3, val_main_cst_4]
  refine Finset.sum_congr rfl fun e _ => congrArg (· * _) ?_
  exact pad2 (fun i => b0 (ix2 R i)) (fun i => b1 (ix2 R i)) e
theorem r_27 (R : Fin 8192) (k : Fin 1024) : val_main_v27 (F := Ideal) g w b0 b1 (ix2 R k) = DU w b0 b1 R k * g (ix1 k) := by
  rw [← r_22]
  pointwise [val_main_v27, val_main_v26, val_main_v13]
theorem r_39 (R : Fin 8192) (k : Fin 1024) : val_main_v39 (F := Ideal) h g w b0 b1 (ix2 R k) = rmsW (fun k => h (ix2 R k)) (fun k => g (ix1 k)) (DU w b0 b1 R) := by
  unfold rmsW
  pointwise [val_main_v39, val_main_v38, val_main_cst_9, val_main_v37, val_main_v36, val_main_cst_8, val_main_v35, val_main_v31, val_main_v30, val_main_cst_7, val_main_v29]
  simp only [r_27]
  rw [Fin.sum_univ_one, r_10]
theorem r_43 (R : Fin 8192) (k : Fin 1024) : val_main_v43 (F := Ideal) h g w b0 b1 ct (ix2 R k) = DH h g w b0 b1 ct R k := by
  unfold DH rowDh
  rw [rmsB_all, ← r_39 h g w b0 b1 R k, ← r_27, ← r_ri]
  pointwise [val_main_v43, val_main_v42, val_main_v41, val_main_v40, val_main_v34, val_main_v33, val_main_v32]
  simp only [add_assoc]
theorem r_44 (k : Fin 1024) : val_main_v44 (F := Ideal) h w b0 b1 (ix2 0 k) = DG h w b0 b1 k := by
  unfold DG rowDg
  pointwise [val_main_v44, val_main_v28, val_main_cst_6, val_main_v25, val_main_v24, val_main_cst_5, val_main_v23]
  simp only [r_12, r_22]
  refine (Fin.sum_univ_one _).trans (Finset.sum_congr rfl fun R _ => mul_comm _ _)
end Ref

variable (m : (ℓ : Loc nD τ sig) → Buf (Elt Ideal) ℓ) (c : Dev nD)
theorem e0 : (dats m 0 c).arrAt 6 cfg0.N = Cert.Reference7Ideal.Read.val_main_v43 (F := Ideal) (a0 m c) (a1 m c) (a2 m c) (a3 m c) (a4 m c) (a5 m c) := by
  rw [arr6]
  funext y
  obtain ⟨i, j, rfl⟩ : ∃ i j, y = ix2 i j := ⟨_, _, eq_ix2 y⟩
  exact (r_43 _ _ _ _ _ _ i j).symm
theorem e1 : (dats m 0 c).arrAt 7 cfg0.N = Cert.Reference7Ideal.Read.val_main_v44 (F := Ideal) (a0 m c) (a2 m c) (a3 m c) (a4 m c) := by
  rw [arr7]
  funext y
  obtain ⟨i, j, rfl⟩ : ∃ i j, y = ix2 i j := ⟨_, _, eq_ix2 y⟩
  obtain rfl : i = 0 := Subsingleton.elim _ _
  exact (r_44 _ _ _ _ j).symm
end Eq

/-- The launch and the reference, from memories that agree on the arguments. -/
theorem algebraic : Cert.algebraic_Kernel7Ideal_Reference7Ideal (hKernel7Ideal := Cert.Kernel7Ideal.Gen.facts) (hReference7Ideal := Cert.Reference7Ideal.Gen.facts) := by
  intro m g m' g' _ hag
  refine ⟨fun c => (Cert.Kernel7Ideal.Gen.dats m 0 c).arrAt 6 Cert.Kernel7Ideal.cfg0.N, fun c => (Cert.Kernel7Ideal.Gen.dats m 0 c).arrAt 7 Cert.Kernel7Ideal.cfg0.N,
    Cert.Kernel7Ideal.Value.run_blocks m g, (θ_run Cert.Reference7Ideal.defs _ _).mono (fun r h c => ?_) (runR m' g')⟩
  obtain ⟨a0, a1, a2, a3, a4, a5⟩ := hag c
  obtain ⟨r0, r1, rest⟩ := h c
  rw [a0, a1, a2, a3, a4, a5] at r0
  rw [a0, a2, a3, a4] at r1
  exact ⟨r0.trans (e0 m c).symm,
    r1.trans (e1 m c).symm, rest⟩

end Cert.MipClaim

end

end
-- ==== Proof.MqArr.lean ====
/- The arrays the projection's gradient leaves at a stick-breaking layer. -/
module

public import proofs.«01_k».proof.Proof.Gen.Kernel8Ideal.Value
public import proofs.«01_k».proof.Proof.Cats

@[expose] public section

set_option maxRecDepth 16384

noncomputable section

open Idealize.ShloMosaic Idealize.ShloMosaic.TcCoe Idealize.SL.Sem
open Idealize.ShloMosaic.Pipeline (Dat)

namespace Cert.Kernel8Ideal.Mq
open Cert.Kernel8Ideal Cert.Kernel8Ideal.Gen Cert.FfSpec Cert.Cats

section Tile
variable (x0 x1 u v : Vec Ideal S512x1024 .f32) (x2 y : Vec Ideal S1x1024 .f32) (x3 : Vec Ideal S512x512 .bf16) (x4 : Vec Ideal S512x512 .bf16) (x5 : Vec Ideal S512x512 .bf16) (x6 : Vec Ideal S512x256 .bf16) (x7 : Vec Ideal S1792x1024 .bf16)

theorem p_du (r : Fin 512) (k : Fin 1024) : k0_pay4 x3 x4 x5 x6 x7 (ix2 r k) = ∑ e, cat4 (fun e => x3 (ix2 r e)) (fun e => x4 (ix2 r e)) (fun e => x5 (ix2 r e)) (fun e => x6 (ix2 r e)) e * x7 (ix2 e k) := by
  unfold cat4
  pointwise [k0_pay4]
theorem p_ri (r : Fin 512) : k0_pay5 x1 (ix2 r 0) = rinv (fun k => x1 (ix2 r k)) := by
  unfold rinv
  pointwise [k0_pay5]
theorem p_hr (r : Fin 512) (k : Fin 1024) : k0_pay6 x1 (ix2 r k) = x1 (ix2 r k) * rinv (fun k => x1 (ix2 r k)) := by
  pointwise [k0_pay6]
  rw [p_ri]
theorem p_1 (k : Fin 1024) : k0_pay1 (F := Ideal) u v (ix2 0 k) = ∑ r : Fin 512, u (ix2 r k) * v (ix2 r k) := by
  pointwise [k0_pay1]
theorem p_dg (k : Fin 1024) : k0_pay1 (k0_pay4 x3 x4 x5 x6 x7) (k0_pay6 x1) (ix2 0 k) = ∑ r : Fin 512, rowDg (fun k => x1 (ix2 r k)) (fun k => ∑ e, cat4 (fun e => x3 (ix2 r e)) (fun e => x4 (ix2 r e)) (fun e => x5 (ix2 r e)) (fun e => x6 (ix2 r e)) e * x7 (ix2 e k)) k := by
  unfold rowDg
  simp only [← p_du]
  refine (p_1 _ _ k).trans ?_
  simp only [p_hr]
theorem p_3 (k : Fin 1024) : k0_pay3 (F := Ideal) u v y (ix2 0 k) = y (ix2 0 k) + k0_pay1 u v (ix2 0 k) := by
  pointwise [k0_pay3]
theorem p_dgB (k : Fin 1024) : k0_pay3 (k0_pay4 x3 x4 x5 x6 x7) (k0_pay6 x1) y (ix2 0 k) = y (ix2 0 k) + ∑ r : Fin 512, rowDg (fun k => x1 (ix2 r k)) (fun k => ∑ e, cat4 (fun e => x3 (ix2 r e)) (fun e => x4 (ix2 r e)) (fun e => x5 (ix2 r e)) (fun e => x6 (ix2 r e)) e * x7 (ix2 e k)) k := by
  rw [← p_dg]
  exact p_3 _ _ _ k
theorem p_2 (r : Fin 512) (k : Fin 1024) : k0_pay2 (F := Ideal) u v (ix2 r k) = v (ix2 r k) + u (ix2 r k) := by
  pointwise [k0_pay2]
theorem p_dh (r : Fin 512) (k : Fin 1024) : k0_pay2 (k0_pay7 x3 x4 x5 x6 x7 x1 x2) x0 (ix2 r k) = rowDh (fun k => x0 (ix2 r k)) (fun k => x1 (ix2 r k)) (fun k => x2 (ix2 0 k)) (fun k => ∑ e, cat4 (fun e => x3 (ix2 r e)) (fun e => x4 (ix2 r e)) (fun e => x5 (ix2 r e)) (fun e => x6 (ix2 r e)) e * x7 (ix2 e k)) k := by
  unfold rowDh rmsB
  simp only [← p_du]
  refine (p_2 _ _ r k).trans (congrArg _ ?_)
  pointwise [k0_pay7]
  simp only [p_hr, p_ri, lit]
end Tile

variable (m : (ℓ : Loc nD τ sig) → Buf (Elt Ideal) ℓ)

theorem idx : ∀ t : Fin cfg0.N, win0_0.index t = ![t.val, 0] ∧ win0_1.index t = ![t.val, 0] ∧ win0_2.index t = ![0, 0] ∧ win0_3.index t = ![t.val, 0] ∧ win0_4.index t = ![t.val, 0] ∧ win0_5.index t = ![t.val, 0] ∧ win0_6.index t = ![t.val, 0] ∧ win0_7.index t = ![0, 0] ∧ win0_8.index t = ![t.val, 0] ∧ win0_9.index t = ![0, 0] ∧ t.val < 16 :=
  (by decide +kernel : ∀ t : Fin grid0.N, _)
theorem idx0 (t : Fin cfg0.N) : win0_0.index t = ![t.val, 0] := (idx t).1
theorem idx1 (t : Fin cfg0.N) : win0_1.index t = ![t.val, 0] := (idx t).2.1
theorem idx2 (t : Fin cfg0.N) : win0_2.index t = ![0, 0] := (idx t).2.2.1
theorem idx3 (t : Fin cfg0.N) : win0_3.index t = ![t.val, 0] := (idx t).2.2.2.1
theorem idx4 (t : Fin cfg0.N) : win0_4.index t = ![t.val, 0] := (idx t).2.2.2.2.1
theorem idx5 (t : Fin cfg0.N) : win0_5.index t = ![t.val, 0] := (idx t).2.2.2.2.2.1
theorem idx6 (t : Fin cfg0.N) : win0_6.index t = ![t.val, 0] := (idx t).2.2.2.2.2.2.1
theorem idx7 (t : Fin cfg0.N) : win0_7.index t = ![0, 0] := (idx t).2.2.2.2.2.2.2.1
theorem idx8 (t : Fin cfg0.N) : win0_8.index t = ![t.val, 0] := (idx t).2.2.2.2.2.2.2.2.1
theorem idx9 (t : Fin cfg0.N) : win0_9.index t = ![0, 0] := (idx t).2.2.2.2.2.2.2.2.2.1
theorem lt16 (t : Fin cfg0.N) : t.val < 16 := (idx t).2.2.2.2.2.2.2.2.2.2

/-- The row of the whole array that row `r` of the tile of point `t` is. -/
def grow (t : Fin cfg0.N) (r : Fin 512) : Fin 8192 := ⟨t.val * 512 + r.val, by have := lt16 t; omega⟩

theorem sum_rows (f : Fin 8192 → EReal) : ∑ t : Fin cfg0.N, ∑ r : Fin 512, f (grow t r) = ∑ R : Fin 8192, f R := by
  rw [← Fintype.sum_prod_type' (fun (t : Fin cfg0.N) (r : Fin 512) => f (grow t r))]
  refine Fintype.sum_bijective (fun p : Fin cfg0.N × Fin 512 => grow p.1 p.2) ⟨fun p p' h => ?_, fun R => ?_⟩ _ _ fun _ => rfl
  · have h3 : p.1.val * 512 + p.2.val = p'.1.val * 512 + p'.2.val := congrArg Fin.val h
    exact Prod.ext (Fin.ext (by omega)) (Fin.ext (by omega))
  · have hN : R.val / 512 < cfg0.N := by show R.val / 512 < 16; omega
    exact ⟨(⟨R.val / 512, hN⟩, ⟨R.val % 512, by omega⟩), Fin.ext (by show R.val / 512 * 512 + R.val % 512 = R.val; omega)⟩

/-- The arguments of the call. -/
abbrev a0 (c : Dev nD) : S8192x1024.Idx → EReal := m ((c : Thread nD τ).loc main_arg0)
abbrev a1 (c : Dev nD) : S1024.Idx → EReal := m ((c : Thread nD τ).loc main_arg1)
abbrev a2 (c : Dev nD) : S1024x1792.Idx → EReal := m ((c : Thread nD τ).loc main_arg2)
abbrev a3 (c : Dev nD) : S8192x512.Idx → EReal := m ((c : Thread nD τ).loc main_arg3)
abbrev a4 (c : Dev nD) : S8192x512.Idx → EReal := m ((c : Thread nD τ).loc main_arg4)
abbrev a5 (c : Dev nD) : S8192x512.Idx → EReal := m ((c : Thread nD τ).loc main_arg5)
abbrev a6 (c : Dev nD) : S8192x256.Idx → EReal := m ((c : Thread nD τ).loc main_arg6)
abbrev a7 (c : Dev nD) : S8192x1024.Idx → EReal := m ((c : Thread nD τ).loc main_arg7)
theorem V_arg7 (c : Dev nD) (R : Fin 8192) (k : Fin 1024) : V m c main_arg7 (ix2 R k) = a7 m c (ix2 R k) := by
  unfold V; simp only [hostOps0]
  after_results
theorem blk0 (c : Dev nD) (t : Fin cfg0.N) (r : Fin 512) (k : Fin 1024) : iblk m c 0 t (ix2 r k) = a7 m c (ix2 (grow t r) k) := by
  rw [← V_arg7]
  unfold grow; blk_ext [iblk, idx0]
theorem V_arg0 (c : Dev nD) (R : Fin 8192) (k : Fin 1024) : V m c main_arg0 (ix2 R k) = a0 m c (ix2 R k) := by
  unfold V; simp only [hostOps0]
  after_results
theorem blk1 (c : Dev nD) (t : Fin cfg0.N) (r : Fin 512) (k : Fin 1024) : iblk m c 1 t (ix2 r k) = a0 m c (ix2 (grow t r) k) := by
  rw [← V_arg0]
  unfold grow; blk_ext [iblk, idx1]
theorem V_v0 (c : Dev nD) (k : Fin 1024) : V m c main_v0 (ix2 0 k) = a1 m c (ix1 k) := by
  unfold V; simp only [hostOps0]
  after_results
  pointwise
theorem blk2 (c : Dev nD) (t : Fin cfg0.N) (k : Fin 1024) : iblk m c 2 t (ix2 0 k) = a1 m c (ix1 k) := by
  rw [← V_v0]
  blk_ext [iblk, idx2]
theorem V_v1 (c : Dev nD) (R : Fin 8192) (k : Fin 512) : V m c main_v1 (ix2 R k) = a3 m c (ix2 R k) := by
  unfold V; simp only [hostOps0]
  after_results
  pointwise
theorem blk3 (c : Dev nD) (t : Fin cfg0.N) (r : Fin 512) (k : Fin 512) : iblk m c 3 t (ix2 r k) = a3 m c (ix2 (grow t r) k) := by
  rw [← V_v1]
  unfold grow; blk_ext [iblk, idx3]
theorem V_v2 (c : Dev nD) (R : Fin 8192) (k : Fin 512) : V m c main_v2 (ix2 R k) = a4 m c (ix2 R k) := by
  unfold V; simp only [hostOps0]
  after_results
  pointwise
theorem blk4 (c : Dev nD) (t : Fin cfg0.N) (r : Fin 512) (k : Fin 512) : iblk m c 4 t (ix2 r k) = a4 m c (ix2 (grow t r) k) := by
  rw [← V_v2]
  unfold grow; blk_ext [iblk, idx4]
theorem V_v3 (c : Dev nD) (R : Fin 8192) (k : Fin 512) : V m c main_v3 (ix2 R k) = a5 m c (ix2 R k) := by
  unfold V; simp only [hostOps0]
  after_results
  pointwise
theorem blk5 (c : Dev nD) (t : Fin cfg0.N) (r : Fin 512) (k : Fin 512) : iblk m c 5 t (ix2 r k) = a5 m c (ix2 (grow t r) k) := by
  rw [← V_v3]
  unfold grow; blk_ext [iblk, idx5]
theorem V_v4 (c : Dev nD) (R : Fin 8192) (k : Fin 256) : V m c main_v4 (ix2 R k) = a6 m c (ix2 R k) := by
  unfold V; simp only [hostOps0]
  after_results
  pointwise
theorem blk6 (c : Dev nD) (t : Fin cfg0.N) (r : Fin 512) (k : Fin 256) : iblk m c 6 t (ix2 r k) = a6 m c (ix2 (grow t r) k) := by
  rw [← V_v4]
  unfold grow; blk_ext [iblk, idx6]
theorem V_v6 (c : Dev nD) (k : Fin 1024) (e : Fin 1792) : V m c main_v6 (ix2 e k) = a2 m c (ix2 k e) := by
  unfold V; simp only [hostOps0]
  after_results
  pointwise
theorem blk7 (c : Dev nD) (t : Fin cfg0.N) (k : Fin 1024) (e : Fin 1792) : iblk m c 7 t (ix2 e k) = a2 m c (ix2 k e) := by
  rw [← V_v6]
  blk_ext [iblk, idx7]

/-- The gradient of the normalised rows, of the rows, and of the scale. -/
def DU (w : (⟨2, ![1024, 1792]⟩ : Shape).Idx → EReal) (b0 : (⟨2, ![8192, 512]⟩ : Shape).Idx → EReal) (b1 : (⟨2, ![8192, 512]⟩ : Shape).Idx → EReal) (b2 : (⟨2, ![8192, 512]⟩ : Shape).Idx → EReal) (b3 : (⟨2, ![8192, 256]⟩ : Shape).Idx → EReal) (R : Fin 8192) (k : Fin 1024) : EReal := ∑ e, cat4 (fun e => b0 (ix2 R e)) (fun e => b1 (ix2 R e)) (fun e => b2 (ix2 R e)) (fun e => b3 (ix2 R e)) e * w (ix2 k e)
def DH (h : (⟨2, ![8192, 1024]⟩ : Shape).Idx → EReal) (g : (⟨1, ![1024]⟩ : Shape).Idx → EReal) (w : (⟨2, ![1024, 1792]⟩ : Shape).Idx → EReal) (b0 : (⟨2, ![8192, 512]⟩ : Shape).Idx → EReal) (b1 : (⟨2, ![8192, 512]⟩ : Shape).Idx → EReal) (b2 : (⟨2, ![8192, 512]⟩ : Shape).Idx → EReal) (b3 : (⟨2, ![8192, 256]⟩ : Shape).Idx → EReal) (ct : (⟨2, ![8192, 1024]⟩ : Shape).Idx → EReal) (R : Fin 8192) (k : Fin 1024) : EReal :=
  rowDh (fun k => ct (ix2 R k)) (fun k => h (ix2 R k)) (fun k => g (ix1 k)) (DU w b0 b1 b2 b3 R) k
def DG (h : (⟨2, ![8192, 1024]⟩ : Shape).Idx → EReal) (w : (⟨2, ![1024, 1792]⟩ : Shape).Idx → EReal) (b0 : (⟨2, ![8192, 512]⟩ : Shape).Idx → EReal) (b1 : (⟨2, ![8192, 512]⟩ : Shape).Idx → EReal) (b2 : (⟨2, ![8192, 512]⟩ : Shape).Idx → EReal) (b3 : (⟨2, ![8192, 256]⟩ : Shape).Idx → EReal) (k : Fin 1024) : EReal := ∑ R : Fin 8192, rowDg (fun k => h (ix2 R k)) (DU w b0 b1 b2 b3 R) k

/-- What one tile of rows adds to the gradient of the scale. -/
def part (c : Dev nD) (t : Fin cfg0.N) (k : Fin 1024) : EReal := ∑ r : Fin 512, rowDg (fun k => a0 m c (ix2 (grow t r) k)) (DU (a2 m c) (a3 m c) (a4 m c) (a5 m c) (a6 m c) (grow t r)) k

theorem h_A (c : Dev nD) (t : Fin cfg0.N) (h0 : t.val % 16 = 0) (h1 : ¬1 ≤ t.val) (r : Fin 512) (k : Fin 1024) :
    (outsAt0 m c t.val t.isLt).1 (ix2 r k) = DH (a0 m c) (a1 m c) (a2 m c) (a3 m c) (a4 m c) (a5 m c) (a6 m c) (a7 m c) (grow t r) k := by
  rw [outsAt0_A m c t h0 h1]
  frame_out
  refine (p_dh (iblk m c 0 t) (iblk m c 1 t) (iblk m c 2 t) (iblk m c 3 t) (iblk m c 4 t) (iblk m c 5 t) (iblk m c 6 t) (iblk m c 7 t) r k).trans ?_
  unfold DH DU
  simp only [blk0, blk1, blk2, blk3, blk4, blk5, blk6, blk7]
theorem g_A (c : Dev nD) (t : Fin cfg0.N) (h0 : t.val % 16 = 0) (h1 : ¬1 ≤ t.val) (k : Fin 1024) :
    (outsAt0 m c t.val t.isLt).2 (ix2 0 k) = 0 + part m c t k := by
  rw [outsAt0_A m c t h0 h1]
  frame_out
  refine (p_dg (iblk m c 1 t) (iblk m c 3 t) (iblk m c 4 t) (iblk m c 5 t) (iblk m c 6 t) (iblk m c 7 t) k).trans ?_
  unfold part DU
  simp only [blk0, blk1, blk2, blk3, blk4, blk5, blk6, blk7]
  exact (zero_add _).symm
theorem h_B (c : Dev nD) (t : Fin cfg0.N) (h0 : ¬t.val % 16 = 0) (h1 : 1 ≤ t.val) (r : Fin 512) (k : Fin 1024) :
    (outsAt0 m c t.val t.isLt).1 (ix2 r k) = DH (a0 m c) (a1 m c) (a2 m c) (a3 m c) (a4 m c) (a5 m c) (a6 m c) (a7 m c) (grow t r) k := by
  rw [outsAt0_B m c t h0 h1]
  frame_out
  refine (p_dh (iblk m c 0 t) (iblk m c 1 t) (iblk m c 2 t) (iblk m c 3 t) (iblk m c 4 t) (iblk m c 5 t) (iblk m c 6 t) (iblk m c 7 t) r k).trans ?_
  unfold DH DU
  simp only [blk0, blk1, blk2, blk3, blk4, blk5, blk6, blk7]
theorem g_B (c : Dev nD) (t : Fin cfg0.N) (h0 : ¬t.val % 16 = 0) (h1 : 1 ≤ t.val) (k : Fin 1024) :
    (outsAt0 m c t.val t.isLt).2 (ix2 0 k) = (outsAt0 m c (t.val - 1) (by omega)).2 (ix2 0 k) + part m c t k := by
  rw [outsAt0_B m c t h0 h1]
  frame_out
  refine (p_dgB (iblk m c 1 t) _ (iblk m c 3 t) (iblk m c 4 t) (iblk m c 5 t) (iblk m c 6 t) (iblk m c 7 t) k).trans ?_
  unfold part DU
  simp only [blk0, blk1, blk2, blk3, blk4, blk5, blk6, blk7]

theorem at_h (c : Dev nD) (t : Fin cfg0.N) (r : Fin 512) (k : Fin 1024) :
    (outsAt0 m c t.val t.isLt).1 (ix2 r k) = DH (a0 m c) (a1 m c) (a2 m c) (a3 m c) (a4 m c) (a5 m c) (a6 m c) (a7 m c) (grow t r) k := by
  have := lt16 t
  by_cases h0 : t.val % 16 = 0
  · exact h_A m c t h0 (by omega) r k
  · exact h_B m c t h0 (by omega) r k

theorem arr8 (c : Dev nD) : (dats m 0 c).arrAt 8 cfg0.N = fun j => DH (a0 m c) (a1 m c) (a2 m c) (a3 m c) (a4 m c) (a5 m c) (a6 m c) (a7 m c) (j 0) (j 1) := by
  refine (dats m 0 c).arrAt_eq_of_covers 8 _ (by decide +kernel) fun t hf y => ?_
  blk_simp
  rw [after0_8]
  idx_vars y
  have he : ((View.whole main_v7_0).slice (win0_8.rect t)).emb (ix2 y0 y1) = ix2 (grow t y0) y1 := by
    funext a
    match a with
    | ⟨0, _⟩ => exact Fin.ext (by show win0_8.index t 0 * 512 + 1 * y0.val = t.val * 512 + y0.val; rw [idx8 t]; show t.val * 512 + 1 * y0.val = _; omega)
    | ⟨1, _⟩ => exact Fin.ext (by show win0_8.index t 1 * 1024 + 1 * y1.val = y1.val; rw [idx8 t]; show 0 * 1024 + 1 * y1.val = _; omega)
  rw [he]
  exact at_h m c t y0 y1

theorem arr9 (c : Dev nD) : (dats m 0 c).arrAt 9 cfg0.N = fun j => DG (a0 m c) (a2 m c) (a3 m c) (a4 m c) (a5 m c) (a6 m c) (j 1) := by
  have hrun := Pipeline.eq_sum_fin_of_reset_step_apply_last (fun n h (k : Fin 1024) => (outsAt0 m c n h).2 (ix2 0 k)) 16
    (fun _ => (0 : EReal)) (fun t k => part m c t k)
    (fun t h0 k => g_A m c t h0 (by have := lt16 t; omega) k)
    (fun t h0 k => g_B m c t h0 (by omega) k)
    (by decide) t0_15 rfl
  refine (dats m 0 c).arrAt_eq_of_after_last 9 t0_15 (by decide +kernel) _ fun y => ?_
  blk_simp
  rw [after0_9]
  obtain ⟨i, k, rfl⟩ : ∃ i k, y = ix2 i k := ⟨_, _, eq_ix2 y⟩
  obtain rfl : i = 0 := Subsingleton.elim _ _
  refine (hrun k).trans ?_
  rw [zero_add]
  exact sum_rows (fun R => rowDg (fun k => a0 m c (ix2 R k)) (DU (a2 m c) (a3 m c) (a4 m c) (a5 m c) (a6 m c) R) k)

end Cert.Kernel8Ideal.Mq

end

end
-- ==== Proof.MisClaim.lean ====
/- The claim about the projection's gradient at a stick-breaking layer. -/
module

public import proofs.«01_k».proof.Proof.MqArr
public import proofs.«01_k».proof.Proof.RmsAll
public import proofs.«01_k».proof.Proof.Gen.Reference8Ideal.Read
public import proofs.«01_k».proof.Proof.PoolClaim

@[expose] public section

set_option maxRecDepth 16384

noncomputable section

open Idealize.ShloMosaic Idealize.ShloMosaic.TcCoe Idealize.SL.Sem
open Idealize.ShloMosaic.Pipeline (Dat)

namespace Cert.MisClaim
open Idealize.ShloMosaic Idealize.SL.Sem

section Run
open Cert.Reference8Ideal
/-- The reference's run, its results named by the stages of its reading. -/
theorem runR (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v49) = Read.val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v50) = Read.val_main_v50 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (Read.val_main_v49_eq m c),
      (h c).2.1.trans (Read.val_main_v50_eq _ _ _ _ _ _ ),
      (h c).2.2⟩)
    (Value.run (F := Ideal) m ρ)
end Run

/-- The reference ends with its arguments unchanged and every counter at zero. -/
theorem frameR : Cert.quiescent_Reference8Ideal (hReference8Ideal := Cert.Reference8Ideal.Gen.facts) := by
  intro m ρ _
  exact (θ_run Cert.Reference8Ideal.defs _ _).mono (fun r h => ⟨fun c => (h c).2.2, sem_eq_zero_of_no_sems (by decide) r.2⟩) (Cert.Reference8Ideal.Value.run (F := Ideal) m ρ)

section Eq
open Cert.Kernel8Ideal Cert.Kernel8Ideal.Gen Cert.Kernel8Ideal.Mq Idealize.ShloMosaic.TcCoe Cert.FfSpec Cert.FbReal Cert.Cats

section Ref
open Cert.Reference8Ideal.Read
variable (h : S8192x1024.Idx → EReal) (g : S1024.Idx → EReal) (w : S1024x1792.Idx → EReal) (b0 : S8192x512.Idx → EReal) (b1 : S8192x512.Idx → EReal) (b2 : S8192x512.Idx → EReal) (b3 : S8192x256.Idx → EReal) (ct : S8192x1024.Idx → EReal)
theorem r_ms (R : Fin 8192) : val_main_v6 (F := Ideal) h (ix2 R 0) = ms (fun k => h (ix2 R k)) := by
  unfold ms
  pointwise [val_main_v6, val_main_v5, val_main_cst_1, val_main_v4, val_main_v3, val_main_cst_0, val_main_v2, val_main_v1, val_main_cst, val_main_v0]
theorem r_ri (R : Fin 8192) : val_main_v7 (F := Ideal) h (ix2 R 0) = rinv (fun k => h (ix2 R k)) := by
  show _ = Ideal.rsqrt (ms (fun k => h (ix2 R k)))
  rw [← r_ms]
  pointwise [val_main_v7]
theorem r_10 (R : Fin 8192) : val_main_v10 (F := Ideal) h (ix2 R 0) = lit 0xBF000000#32 * Ideal.div (rinv (fun k => h (ix2 R k))) (ms (fun k => h (ix2 R k))) := by
  rw [← r_ms, ← r_ri]
  pointwise [val_main_v10, val_main_v9, val_main_v8, val_main_cst_2]
theorem r_12 (R : Fin 8192) (k : Fin 1024) : val_main_v12 (F := Ideal) h (ix2 R k) = h (ix2 R k) * rinv (fun k => h (ix2 R k)) := by
  rw [← r_ri]
  pointwise [val_main_v12, val_main_v11]
theorem r_22 (R : Fin 8192) (k : Fin 1024) : val_main_v28 (F := Ideal) w b0 b1 b2 b3 (ix2 R k) = DU w b0 b1 b2 b3 R k := by
  unfold DU
  pointwise [val_main_v28, val_main_v27, val_main_v26, val_main_v25, val_main_v24, val_main_v23, val_main_v22, val_main_v21, val_main_cst_3, val_main_cst_4, val_main_cst_5, val_main_cst_6]
  refine Finset.sum_congr rfl fun e _ => congrArg (· * _) ?_
  exact pad4 (fun i => b0 (ix2 R i)) (fun i => b1 (ix2 R i)) (fun i => b2 (ix2 R i)) (fun i => b3 (ix2 R i)) e
theorem r_27 (R : Fin 8192) (k : Fin 1024) : val_main_v33 (F := Ideal) g w b0 b1 b2 b3 (ix2 R k) = DU w b0 b1 b2 b3 R k * g (ix1 k) := by
  rw [← r_22]
  pointwise [val_main_v33, val_main_v32, val_main_v13]
theorem r_39 (R : Fin 8192) (k : Fin 1024) : val_main_v45 (F := Ideal) h g w b0 b1 b2 b3 (ix2 R k) = rmsW (fun k => h (ix2 R k)) (fun k => g (ix1 k)) (DU w b0 b1 b2 b3 R) := by
  unfold rmsW
  pointwise [val_main_v45, val_main_v44, val_main_cst_11, val_main_v43, val_main_v42, val_main_cst_10, val_main_v41, val_main_v37, val_main_v36, val_main_cst_9, val_main_v35]
  simp only [r_27]
  rw [Fin.sum_univ_one, r_10]
theorem r_43 (R : Fin 8192) (k : Fin 1024) : val_main_v49 (F := Ideal) h g w b0 b1 b2 b3 ct (ix2 R k) = DH h g w b0 b1 b2 b3 ct R k := by
  unfold DH rowDh
  rw [rmsB_all, ← r_39 h g w b0 b1 b2 b3 R k, ← r_27, ← r_ri]
  pointwise [val_main_v49, val_main_v48, val_main_v47, val_main_v46, val_main_v40, val_main_v39, val_main_v38]
  simp only [add_assoc]
theorem r_44 (k : Fin 1024) : val_main_v50 (F := Ideal) h w b0 b1 b2 b3 (ix2 0 k) = DG h w b0 b1 b2 b3 k := by
  unfold DG rowDg
  pointwise [val_main_v50, val_main_v34, val_main_cst_8, val_main_v31, val_main_v30, val_main_cst_7, val_main_v29]
  simp only [r_12, r_22]
  refine (Fin.sum_univ_one _).trans (Finset.sum_congr rfl fun R _ => mul_comm _ _)
end Ref

variable (m : (ℓ : Loc nD τ sig) → Buf (Elt Ideal) ℓ) (c : Dev nD)
theorem e0 : (dats m 0 c).arrAt 8 cfg0.N = Cert.Reference8Ideal.Read.val_main_v49 (F := Ideal) (a0 m c) (a1 m c) (a2 m c) (a3 m c) (a4 m c) (a5 m c) (a6 m c) (a7 m c) := by
  rw [arr8]
  funext y
  obtain ⟨i, j, rfl⟩ : ∃ i j, y = ix2 i j := ⟨_, _, eq_ix2 y⟩
  exact (r_43 _ _ _ _ _ _ _ _ i j).symm
theorem e1 : (dats m 0 c).arrAt 9 cfg0.N = Cert.Reference8Ideal.Read.val_main_v50 (F := Ideal) (a0 m c) (a2 m c) (a3 m c) (a4 m c) (a5 m c) (a6 m c) := by
  rw [arr9]
  funext y
  obtain ⟨i, j, rfl⟩ : ∃ i j, y = ix2 i j := ⟨_, _, eq_ix2 y⟩
  obtain rfl : i = 0 := Subsingleton.elim _ _
  exact (r_44 _ _ _ _ _ _ j).symm
end Eq

/-- The launch and the reference, from memories that agree on the arguments. -/
theorem algebraic : Cert.algebraic_Kernel8Ideal_Reference8Ideal (hKernel8Ideal := Cert.Kernel8Ideal.Gen.facts) (hReference8Ideal := Cert.Reference8Ideal.Gen.facts) := by
  intro m g m' g' _ hag
  refine ⟨fun c => (Cert.Kernel8Ideal.Gen.dats m 0 c).arrAt 8 Cert.Kernel8Ideal.cfg0.N, fun c => (Cert.Kernel8Ideal.Gen.dats m 0 c).arrAt 9 Cert.Kernel8Ideal.cfg0.N,
    Cert.Kernel8Ideal.Value.run_blocks m g, (θ_run Cert.Reference8Ideal.defs _ _).mono (fun r h c => ?_) (runR m' g')⟩
  obtain ⟨a0, a1, a2, a3, a4, a5, a6, a7⟩ := hag c
  obtain ⟨r0, r1, rest⟩ := h c
  rw [a0, a1, a2, a3, a4, a5, a6, a7] at r0
  rw [a0, a2, a3, a4, a5, a6] at r1
  exact ⟨r0.trans (e0 m c).symm,
    r1.trans (e1 m c).symm, rest⟩

end Cert.MisClaim

end

end
-- ==== Proof.MsArr.lean ====
/- The arrays the projection of the mixing sublayer leaves at a stick-breaking layer. -/
module

public import proofs.«01_k».proof.Proof.Gen.Kernel14Ideal.Value
public import proofs.«01_k».proof.Proof.Slices
public import proofs.«01_k».proof.Proof.FfSpec

@[expose] public section

set_option maxRecDepth 16384

noncomputable section

open Idealize.ShloMosaic Idealize.ShloMosaic.TcCoe Idealize.SL.Sem
open Idealize.ShloMosaic.Pipeline (Dat)

namespace Cert.Kernel14Ideal.Ms
open Cert.Kernel14Ideal Cert.Kernel14Ideal.Gen Cert.Slices Cert.FfSpec

theorem payU (h : Vec Ideal S512x1024 .f32) (g : Vec Ideal S1x1024 .f32) (r : Fin 512) (k : Fin 1024) :
    k0_pay5 h g (ix2 r k) = rms (fun k => h (ix2 r k)) (fun k => g (ix2 0 k)) k := by
  unfold rms rinv
  pointwise [k0_pay5]

theorem pay0 (h : Vec Ideal S512x1024 .f32) (g : Vec Ideal S1x1024 .f32) (w : Vec Ideal S256x1024 .bf16) (r : Fin 512) (e : Fin 256) :
    k0_pay6 h g w (ix2 r e) = ∑ k : Fin 1024, rms (fun k => h (ix2 r k)) (fun k => g (ix2 0 k)) k * w (ix2 e k) := by
  have hu := payU h g r
  simp only [← hu]
  pointwise [k0_pay6]

theorem pay1 (h : Vec Ideal S512x1024 .f32) (g : Vec Ideal S1x1024 .f32) (w : Vec Ideal S256x1024 .bf16) (r : Fin 512) (e : Fin 256) :
    k0_pay7 h g w (ix2 r e) = ∑ k : Fin 1024, rms (fun k => h (ix2 r k)) (fun k => g (ix2 0 k)) k * w (ix2 e k) := by
  have hu := payU h g r
  simp only [← hu]
  pointwise [k0_pay7]

theorem pay2 (h : Vec Ideal S512x1024 .f32) (g : Vec Ideal S1x1024 .f32) (w : Vec Ideal S256x1024 .bf16) (r : Fin 512) (e : Fin 256) :
    k0_pay8 h g w (ix2 r e) = ∑ k : Fin 1024, rms (fun k => h (ix2 r k)) (fun k => g (ix2 0 k)) k * w (ix2 e k) := by
  have hu := payU h g r
  simp only [← hu]
  pointwise [k0_pay8]

theorem pay3 (h : Vec Ideal S512x1024 .f32) (g : Vec Ideal S1x1024 .f32) (w : Vec Ideal S256x1024 .bf16) (r : Fin 512) (e : Fin 256) :
    k0_pay1 (k0_pay5 h g) w (ix2 r e) = ∑ k : Fin 1024, rms (fun k => h (ix2 r k)) (fun k => g (ix2 0 k)) k * w (ix2 e k) := by
  have hu := payU h g r
  simp only [← hu]
  generalize k0_pay5 h g = u
  pointwise [k0_pay1]

theorem pay4 (h : Vec Ideal S512x1024 .f32) (g : Vec Ideal S1x1024 .f32) (w : Vec Ideal S256x1024 .bf16) (r : Fin 512) (e : Fin 256) :
    k0_pay2 (k0_pay5 h g) w (ix2 r e) = ∑ k : Fin 1024, rms (fun k => h (ix2 r k)) (fun k => g (ix2 0 k)) k * w (ix2 e k) := by
  have hu := payU h g r
  simp only [← hu]
  generalize k0_pay5 h g = u
  pointwise [k0_pay2]

theorem pay5 (h : Vec Ideal S512x1024 .f32) (g : Vec Ideal S1x1024 .f32) (w : Vec Ideal S256x1024 .bf16) (r : Fin 512) (e : Fin 256) :
    k0_pay3 (k0_pay5 h g) w (ix2 r e) = ∑ k : Fin 1024, rms (fun k => h (ix2 r k)) (fun k => g (ix2 0 k)) k * w (ix2 e k) := by
  have hu := payU h g r
  simp only [← hu]
  generalize k0_pay5 h g = u
  pointwise [k0_pay3]

theorem pay6 (h : Vec Ideal S512x1024 .f32) (g : Vec Ideal S1x1024 .f32) (w : Vec Ideal S256x1024 .bf16) (r : Fin 512) (e : Fin 256) :
    k0_pay4 (k0_pay5 h g) w (ix2 r e) = ∑ k : Fin 1024, rms (fun k => h (ix2 r k)) (fun k => g (ix2 0 k)) k * w (ix2 e k) := by
  have hu := payU h g r
  simp only [← hu]
  generalize k0_pay5 h g = u
  pointwise [k0_pay4]

theorem chunks (e : Fin 1792) : (∃ e' : Fin 256, e.val = 0 + e'.val) ∨ (∃ e' : Fin 256, e.val = 256 + e'.val) ∨ (∃ e' : Fin 256, e.val = 512 + e'.val) ∨ (∃ e' : Fin 256, e.val = 768 + e'.val) ∨ (∃ e' : Fin 256, e.val = 1024 + e'.val) ∨ (∃ e' : Fin 256, e.val = 1280 + e'.val) ∨ (∃ e' : Fin 256, e.val = 1536 + e'.val) := by
  by_cases h0 : e.val < 256
  · exact Or.inl ⟨⟨e.val - 0, by omega⟩, by show e.val = 0 + (e.val - 0); omega⟩
  by_cases h1 : e.val < 512
  · exact Or.inr (Or.inl ⟨⟨e.val - 256, by omega⟩, by show e.val = 256 + (e.val - 256); omega⟩)
  by_cases h2 : e.val < 768
  · exact Or.inr (Or.inr (Or.inl ⟨⟨e.val - 512, by omega⟩, by show e.val = 512 + (e.val - 512); omega⟩))
  by_cases h3 : e.val < 1024
  · exact Or.inr (Or.inr (Or.inr (Or.inl ⟨⟨e.val - 768, by omega⟩, by show e.val = 768 + (e.val - 768); omega⟩)))
  by_cases h4 : e.val < 1280
  · exact Or.inr (Or.inr (Or.inr (Or.inr (Or.inl ⟨⟨e.val - 1024, by omega⟩, by show e.val = 1024 + (e.val - 1024); omega⟩))))
  by_cases h5 : e.val < 1536
  · exact Or.inr (Or.inr (Or.inr (Or.inr (Or.inr (Or.inl ⟨⟨e.val - 1280, by omega⟩, by show e.val = 1280 + (e.val - 1280); omega⟩)))))
  exact Or.inr (Or.inr (Or.inr (Or.inr (Or.inr (Or.inr (⟨⟨e.val - 1536, by omega⟩, by show e.val = 1536 + (e.val - 1536); omega⟩))))))

section Tile
variable (x0 : Vec Ideal S512x1024 .f32) (x1 : Vec Ideal S1x1024 .f32) (x2 : Vec Ideal S1792x1024 .bf16)

theorem out_u (r : Fin 512) (k : Fin 1024) : out0_3 x0 x1 x2 (ix2 r k) = rms (fun k => x0 (ix2 r k)) (fun k => x1 (ix2 0 k)) k := by
  unfold out0_3
  refine (a_hit _ _ _ r k r k (by omega) (by omega)).trans ?_
  rw [payU]
  simp only [ld_at (A := 512) (B := 1024) (a := 512) (b := 1024) (o := 0) (p := 0) _ x0 _ _ _ _ (Nat.zero_add _).symm (Nat.zero_add _).symm, ld_at (A := 1) (B := 1024) (a := 1) (b := 1024) (o := 0) (p := 0) _ x1 _ _ _ _ (Nat.zero_add _).symm (Nat.zero_add _).symm]

theorem out_p (r : Fin 512) (e : Fin 1792) :
    out0_4 x0 x1 x2 (ix2 r e) = ∑ k : Fin 1024, rms (fun k => x0 (ix2 r k)) (fun k => x1 (ix2 0 k)) k * x2 (ix2 e k) := by
  have e0 : View.ld x0 r0_0 = x0 := ld_full _ x0
  have e1 : View.ld x1 r0_1 = x1 := ld_full _ x1
  unfold out0_4 k0_pay9
  rw [e0, e1]
  rcases chunks e with ⟨e', h⟩ | ⟨e', h⟩ | ⟨e', h⟩ | ⟨e', h⟩ | ⟨e', h⟩ | ⟨e', h⟩ | ⟨e', h⟩
  · exact (a_miss _ _ _ r e (Or.inr (Or.inr (Or.inl (by omega))))).trans ((a_miss _ _ _ r e (Or.inr (Or.inr (Or.inl (by omega))))).trans ((a_miss _ _ _ r e (Or.inr (Or.inr (Or.inl (by omega))))).trans ((a_miss _ _ _ r e (Or.inr (Or.inr (Or.inl (by omega))))).trans ((a_miss _ _ _ r e (Or.inr (Or.inr (Or.inl (by omega))))).trans ((a_miss _ _ _ r e (Or.inr (Or.inr (Or.inl (by omega))))).trans ((a_hit _ _ _ r e' r e (by omega) h).trans ((pay0 x0 x1 _ r e').trans (Finset.sum_congr rfl fun k _ => congrArg (_ * ·) (ld_at _ x2 e' k e k h (by omega))))))))))
  · exact (a_miss _ _ _ r e (Or.inr (Or.inr (Or.inl (by omega))))).trans ((a_miss _ _ _ r e (Or.inr (Or.inr (Or.inl (by omega))))).trans ((a_miss _ _ _ r e (Or.inr (Or.inr (Or.inl (by omega))))).trans ((a_miss _ _ _ r e (Or.inr (Or.inr (Or.inl (by omega))))).trans ((a_miss _ _ _ r e (Or.inr (Or.inr (Or.inl (by omega))))).trans ((a_hit _ _ _ r e' r e (by omega) h).trans ((pay1 x0 x1 _ r e').trans (Finset.sum_congr rfl fun k _ => congrArg (_ * ·) (ld_at _ x2 e' k e k h (by omega)))))))))
  · exact (a_miss _ _ _ r e (Or.inr (Or.inr (Or.inl (by omega))))).trans ((a_miss _ _ _ r e (Or.inr (Or.inr (Or.inl (by omega))))).trans ((a_miss _ _ _ r e (Or.inr (Or.inr (Or.inl (by omega))))).trans ((a_miss _ _ _ r e (Or.inr (Or.inr (Or.inl (by omega))))).trans ((a_hit _ _ _ r e' r e (by omega) h).trans ((pay2 x0 x1 _ r e').trans (Finset.sum_congr rfl fun k _ => congrArg (_ * ·) (ld_at _ x2 e' k e k h (by omega))))))))
  · exact (a_miss _ _ _ r e (Or.inr (Or.inr (Or.inl (by omega))))).trans ((a_miss _ _ _ r e (Or.inr (Or.inr (Or.inl (by omega))))).trans ((a_miss _ _ _ r e (Or.inr (Or.inr (Or.inl (by omega))))).trans ((a_hit _ _ _ r e' r e (by omega) h).trans ((pay3 x0 x1 _ r e').trans (Finset.sum_congr rfl fun k _ => congrArg (_ * ·) (ld_at _ x2 e' k e k h (by omega)))))))
  · exact (a_miss _ _ _ r e (Or.inr (Or.inr (Or.inl (by omega))))).trans ((a_miss _ _ _ r e (Or.inr (Or.inr (Or.inl (by omega))))).trans ((a_hit _ _ _ r e' r e (by omega) h).trans ((pay4 x0 x1 _ r e').trans (Finset.sum_congr rfl fun k _ => congrArg (_ * ·) (ld_at _ x2 e' k e k h (by omega))))))
  · exact (a_miss _ _ _ r e (Or.inr (Or.inr (Or.inl (by omega))))).trans ((a_hit _ _ _ r e' r e (by omega) h).trans ((pay5 x0 x1 _ r e').trans (Finset.sum_congr rfl fun k _ => congrArg (_ * ·) (ld_at _ x2 e' k e k h (by omega)))))
  · exact (a_hit _ _ _ r e' r e (by omega) h).trans ((pay6 x0 x1 _ r e').trans (Finset.sum_congr rfl fun k _ => congrArg (_ * ·) (ld_at _ x2 e' k e k h (by omega))))
end Tile

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![t.val, 0] ∧ win0_4.index t = ![t.val, 0] ∧ t.val < 16 :=
  (by decide +kernel : ∀ t : Fin grid0.N, _)
theorem idx0 (t : Fin cfg0.N) : win0_0.index t = ![t.val, 0] := (idx t).1
theorem idx1 (t : Fin cfg0.N) : win0_1.index t = ![0, 0] := (idx t).2.1
theorem idx2 (t : Fin cfg0.N) : win0_2.index t = ![0, 0] := (idx t).2.2.1
theorem idx3 (t : Fin cfg0.N) : win0_3.index t = ![t.val, 0] := (idx t).2.2.2.1
theorem idx4 (t : Fin cfg0.N) : win0_4.index t = ![t.val, 0] := (idx t).2.2.2.2.1
theorem lt16 (t : Fin cfg0.N) : t.val < 16 := (idx t).2.2.2.2.2

/-- The row of the whole array that row `r` of the tile of point `t` is. -/
def grow (t : Fin cfg0.N) (r : Fin 512) : Fin 8192 := ⟨t.val * 512 + r.val, by have := lt16 t; omega⟩

/-- The arguments of the call. -/
abbrev a0 (c : Dev nD) : S8192x1024.Idx → EReal := m ((c : Thread nD τ).loc main_arg0)
abbrev a1 (c : Dev nD) : S1024.Idx → EReal := m ((c : Thread nD τ).loc main_arg1)
abbrev a2 (c : Dev nD) : S1024x1792.Idx → EReal := m ((c : Thread nD τ).loc main_arg2)

theorem V_a0 (c : Dev nD) (R : Fin 8192) (k : Fin 1024) : V m c main_arg0 (ix2 R k) = a0 m c (ix2 R k) := by
  unfold V; simp only [hostOps0]
  after_results
theorem V_v0 (c : Dev nD) (k : Fin 1024) : V m c main_v0 (ix2 0 k) = a1 m c (ix1 k) := by
  unfold V; simp only [hostOps0]
  after_results
  pointwise
theorem V_v2 (c : Dev nD) (e : Fin 1792) (k : Fin 1024) : V m c main_v2 (ix2 e k) = a2 m c (ix2 k e) := by
  unfold V; simp only [hostOps0]
  after_results
  pointwise
theorem blk0 (c : Dev nD) (t : Fin cfg0.N) (r : Fin 512) (k : Fin 1024) : iblk m c 0 t (ix2 r k) = a0 m c (ix2 (grow t r) k) := by
  rw [← V_a0]
  unfold grow; blk_ext [iblk, idx0]
theorem blk1 (c : Dev nD) (t : Fin cfg0.N) (k : Fin 1024) : iblk m c 1 t (ix2 0 k) = a1 m c (ix1 k) := by
  rw [← V_v0]
  blk_ext [iblk, idx1]
theorem blk2 (c : Dev nD) (t : Fin cfg0.N) (e : Fin 1792) (k : Fin 1024) : iblk m c 2 t (ix2 e k) = a2 m c (ix2 k e) := by
  rw [← V_v2]
  blk_ext [iblk, idx2]

/-- The normalised rows, and their projection. -/
def U (h : (⟨2, ![8192, 1024]⟩ : Shape).Idx → EReal) (g : (⟨1, ![1024]⟩ : Shape).Idx → EReal) (R : Fin 8192) (k : Fin 1024) : EReal :=
  rms (fun k => h (ix2 R k)) (fun k => g (ix1 k)) k
def P (h : (⟨2, ![8192, 1024]⟩ : Shape).Idx → EReal) (g : (⟨1, ![1024]⟩ : Shape).Idx → EReal) (w : (⟨2, ![1024, 1792]⟩ : Shape).Idx → EReal)
    (R : Fin 8192) (e : Fin 1792) : EReal := ∑ k, U h g R k * w (ix2 k e)

theorem at_u (c : Dev nD) (t : Fin cfg0.N) (r : Fin 512) (k : Fin 1024) :
    out0_3 (iblk m c 0 t) (iblk m c 1 t) (iblk m c 2 t) (ix2 r k) = U (a0 m c) (a1 m c) (grow t r) k := by
  refine (out_u _ _ _ r k).trans ?_
  unfold U
  simp only [blk0, blk1]

theorem at_p (c : Dev nD) (t : Fin cfg0.N) (r : Fin 512) (e : Fin 1792) :
    out0_4 (iblk m c 0 t) (iblk m c 1 t) (iblk m c 2 t) (ix2 r e) = P (a0 m c) (a1 m c) (a2 m c) (grow t r) e := by
  refine (out_p _ _ _ r e).trans ?_
  unfold P U
  simp only [blk0, blk1, blk2]

theorem arr3 (c : Dev nD) : (dats m 0 c).arrAt 3 cfg0.N = fun j => U (a0 m c) (a1 m c) (j 0) (j 1) := by
  refine (dats m 0 c).arrAt_eq_of_covers 3 _ (by decide +kernel) fun t hf y => ?_
  blk_simp
  rw [after0_3]
  idx_vars y
  have he : ((View.whole main_v3_0).slice (win0_3.rect t)).emb (ix2 y0 y1) = ix2 (grow t y0) y1 := by
    funext a
    match a with
    | ⟨0, _⟩ => exact Fin.ext (by show win0_3.index t 0 * 512 + 1 * y0.val = t.val * 512 + y0.val; rw [idx3 t]; show t.val * 512 + 1 * y0.val = _; omega)
    | ⟨1, _⟩ => exact Fin.ext (by show win0_3.index t 1 * 1024 + 1 * y1.val = y1.val; rw [idx3 t]; show 0 * 1024 + 1 * y1.val = _; omega)
  rw [he]
  exact at_u m c t y0 y1

theorem arr4 (c : Dev nD) : (dats m 0 c).arrAt 4 cfg0.N = fun j => P (a0 m c) (a1 m c) (a2 m c) (j 0) (j 1) := by
  refine (dats m 0 c).arrAt_eq_of_covers 4 _ (by decide +kernel) fun t hf y => ?_
  blk_simp
  rw [after0_4]
  idx_vars y
  have he : ((View.whole main_v3_1).slice (win0_4.rect t)).emb (ix2 y0 y1) = ix2 (grow t y0) y1 := by
    funext a
    match a with
    | ⟨0, _⟩ => exact Fin.ext (by show win0_4.index t 0 * 512 + 1 * y0.val = t.val * 512 + y0.val; rw [idx4 t]; show t.val * 512 + 1 * y0.val = _; omega)
    | ⟨1, _⟩ => exact Fin.ext (by show win0_4.index t 1 * 1792 + 1 * y1.val = y1.val; rw [idx4 t]; show 0 * 1792 + 1 * y1.val = _; omega)
  rw [he]
  exact at_p m c t y0 y1

end Cert.Kernel14Ideal.Ms

end

end
-- ==== Proof.MsfClaim.lean ====
/- The claim about the projection at a stick-breaking layer. -/
module

public import proofs.«01_k».proof.Proof.MsArr
public import proofs.«01_k».proof.Proof.Gen.Reference14Ideal.Read
public import proofs.«01_k».proof.Proof.PoolClaim

@[expose] public section

set_option maxRecDepth 16384

noncomputable section

open Idealize.ShloMosaic Idealize.ShloMosaic.TcCoe Idealize.SL.Sem
open Idealize.ShloMosaic.Pipeline (Dat)

namespace Cert.MsfClaim
open Idealize.ShloMosaic Idealize.SL.Sem

section Run
open Cert.Reference14Ideal
/-- The reference's run, its results named by the stages of its reading. -/
theorem runR (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v13) = Read.val_main_v13 (F := Ideal) (m ((c.tc : Thread nD τ).loc main_arg0)) (m ((c.tc : Thread nD τ).loc main_arg1))
      ∧ r.2.mem ((c.tc : Thread nD τ).loc main_v15) = Read.val_main_v15 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (Read.val_main_v13_eq _ _ ),
      (h c).2.1.trans (Read.val_main_v15_eq _ _ _ ),
      (h c).2.2⟩)
    (Value.run (F := Ideal) m ρ)
end Run

/-- The reference ends with its arguments unchanged and every counter at zero. -/
theorem frameR : Cert.quiescent_Reference14Ideal (hReference14Ideal := Cert.Reference14Ideal.Gen.facts) := by
  intro m ρ _
  exact (θ_run Cert.Reference14Ideal.defs _ _).mono (fun r h => ⟨fun c => (h c).2.2, sem_eq_zero_of_no_sems (by decide) r.2⟩) (Cert.Reference14Ideal.Value.run (F := Ideal) m ρ)

section Eq
open Cert.Kernel14Ideal Cert.Kernel14Ideal.Gen Cert.Kernel14Ideal.Ms Idealize.ShloMosaic.TcCoe Cert.FfSpec

section Ref
open Cert.Reference14Ideal.Read
variable (h : S8192x1024.Idx → EReal) (g : S1024.Idx → EReal) (w : S1024x1792.Idx → EReal)
theorem v7 (R : Fin 8192) : val_main_v7 (F := Ideal) h (ix2 R 0) = rinv (fun k => h (ix2 R k)) := by
  unfold rinv
  pointwise [val_main_v7, val_main_v6, val_main_v5, val_main_cst_1, val_main_v4, val_main_v3, val_main_cst_0, val_main_v2, val_main_v1, val_main_cst, val_main_v0]
theorem v12 (R : Fin 8192) (k : Fin 1024) : val_main_v12 (F := Ideal) h g (ix2 R k) = U h g R k := by
  unfold U rms
  pointwise [val_main_v12, val_main_v11, val_main_v10, val_main_v9, val_main_v8]
  rw [v7]
theorem v13 (R : Fin 8192) (k : Fin 1024) : val_main_v13 (F := Ideal) h g (ix2 R k) = U h g R k := by
  pointwise [val_main_v13]
  rw [v12]
theorem v15 (R : Fin 8192) (e : Fin 1792) : val_main_v15 (F := Ideal) h g w (ix2 R e) = P h g w R e := by
  unfold P
  pointwise [val_main_v15, val_main_v14]
  simp only [v12]
end Ref

variable (m : (ℓ : Loc nD τ sig) → Buf (Elt Ideal) ℓ) (c : Dev nD)
theorem e0 : (dats m 0 c).arrAt 3 cfg0.N = Cert.Reference14Ideal.Read.val_main_v13 (F := Ideal) (a0 m c) (a1 m c) := by
  rw [arr3]
  funext y
  obtain ⟨i, j, rfl⟩ : ∃ i j, y = ix2 i j := ⟨_, _, eq_ix2 y⟩
  exact (v13 _ _ i j).symm
theorem e1 : (dats m 0 c).arrAt 4 cfg0.N = Cert.Reference14Ideal.Read.val_main_v15 (F := Ideal) (a0 m c) (a1 m c) (a2 m c) := by
  rw [arr4]
  funext y
  obtain ⟨i, j, rfl⟩ : ∃ i j, y = ix2 i j := ⟨_, _, eq_ix2 y⟩
  exact (v15 _ _ _ i j).symm
end Eq

/-- The launch and the reference, from memories that agree on the arguments. -/
theorem algebraic : Cert.algebraic_Kernel14Ideal_Reference14Ideal (hKernel14Ideal := Cert.Kernel14Ideal.Gen.facts) (hReference14Ideal := Cert.Reference14Ideal.Gen.facts) := by
  intro m g m' g' _ hag
  refine ⟨fun c => (Cert.Kernel14Ideal.Gen.dats m 0 c).arrAt 3 Cert.Kernel14Ideal.cfg0.N, fun c => (Cert.Kernel14Ideal.Gen.dats m 0 c).arrAt 4 Cert.Kernel14Ideal.cfg0.N,
    Cert.Kernel14Ideal.Value.run_blocks m g, (θ_run Cert.Reference14Ideal.defs _ _).mono (fun r h c => ?_) (runR m' g')⟩
  obtain ⟨a0, a1, a2⟩ := hag c
  obtain ⟨r0, r1, rest⟩ := h c
  rw [a0, a1] at r0
  rw [a0, a1, a2] at r1
  exact ⟨r0.trans (e0 m c).symm,
    r1.trans (e1 m c).symm, rest⟩

end Cert.MsfClaim

end

end
-- ==== Proof.WoTile.lean ====
/- The accumulation of the gradient of the output weight over one tile of rows, and its stores. -/
module

public import proofs.«01_k».proof.Proof.Gen.Kernel16Ideal.Value
public import proofs.«01_k».proof.Proof.Slices

@[expose] public section

set_option maxRecDepth 16384

noncomputable section

open Idealize.ShloMosaic Idealize.ShloMosaic.TcCoe Idealize.SL.Sem
open Idealize.ShloMosaic.Pipeline (Dat)

namespace Cert.Kernel16Ideal.Wo
open Cert.Kernel16Ideal Cert.Kernel16Ideal.Gen Cert.Slices

variable (m : (ℓ : Loc nD τ sig) → Buf (Elt Ideal) ℓ)

def pc (d : Fin 8) (e : Fin 128) : Fin 1024 := ⟨d.val * 128 + e.val, by omega⟩

/-- The parts' rectangles. -/
abbrev r0 := Rect.unit (s := S768x1024) ![0, 0] ![512, 1024] inb_S768x1024_S512x1024_0_0
abbrev r1 := Rect.unit (s := S768x1024) ![512, 0] ![256, 1024] inb_S768x1024_S256x1024_512_0

theorem payF (i : Fin 768) (j : Fin 1024) : k0_pay1 (F := Ideal) (ix2 i j) = 0 := by
  pointwise [k0_pay1]

theorem payP0 (x : Vec Ideal S512x512 .bf16) (y : Vec Ideal S512x1024 .f32) (z : Vec Ideal S512x1024 .bf16) (i : Fin 512) (j : Fin 1024) :
    k0_pay2 x y z (ix2 i j) = y (ix2 i j) + ∑ r : Fin 512, x (ix2 r i) * z (ix2 r j) := by
  pointwise [k0_pay2]

theorem payP1 (x : Vec Ideal S512x256 .bf16) (y : Vec Ideal S256x1024 .f32) (z : Vec Ideal S512x1024 .bf16) (i : Fin 256) (j : Fin 1024) :
    k0_pay3 x y z (ix2 i j) = y (ix2 i j) + ∑ r : Fin 512, x (ix2 r i) * z (ix2 r j) := by
  pointwise [k0_pay3]

theorem step0 (L : List (View.Piece (Elt Ideal) S768x1024 .f32)) (P : S768x1024.Idx → EReal) (x0 : Vec Ideal S512x512 .bf16) (x1 : Vec Ideal S512x256 .bf16) (z : Vec Ideal S512x1024 .bf16) (y0 : Vec Ideal S512x1024 .f32) (y1 : Vec Ideal S256x1024 .f32)
    (h0 : ∀ (i : Fin 512) (j : Fin 1024) (i' : Fin 768), i'.val = 0 + i.val → y0 (ix2 i j) = P (ix2 i' j)) (i : Fin 512) (j : Fin 1024) (i' : Fin 768) (hk : i'.val = 0 + i.val) :
    View.canon (Val := Elt Ideal) (s := S768x1024) (e := .f32) (⟨r1, k0_pay3 x1 y1 z⟩ :: ⟨r0, k0_pay2 x0 y0 z⟩ :: L) (ix2 i' j) = P (ix2 i' j) + ∑ r : Fin 512, x0 (ix2 r i) * z (ix2 r j) :=
  (a_miss _ _ _ i' j (Or.inl (by omega))).trans ((a_hit _ _ _ i j i' j hk (by omega)).trans ((payP0 _ _ _ i j).trans (by rw [h0 i j i' hk])))

theorem step1 (L : List (View.Piece (Elt Ideal) S768x1024 .f32)) (P : S768x1024.Idx → EReal) (x0 : Vec Ideal S512x512 .bf16) (x1 : Vec Ideal S512x256 .bf16) (z : Vec Ideal S512x1024 .bf16) (y0 : Vec Ideal S512x1024 .f32) (y1 : Vec Ideal S256x1024 .f32)
    (h1 : ∀ (i : Fin 256) (j : Fin 1024) (i' : Fin 768), i'.val = 512 + i.val → y1 (ix2 i j) = P (ix2 i' j)) (i : Fin 256) (j : Fin 1024) (i' : Fin 768) (hk : i'.val = 512 + i.val) :
    View.canon (Val := Elt Ideal) (s := S768x1024) (e := .f32) (⟨r1, k0_pay3 x1 y1 z⟩ :: ⟨r0, k0_pay2 x0 y0 z⟩ :: L) (ix2 i' j) = P (ix2 i' j) + ∑ r : Fin 512, x1 (ix2 r i) * z (ix2 r j) :=
  (a_hit _ _ _ i j i' j hk (by omega)).trans ((payP1 _ _ _ i j).trans (by rw [h1 i j i' hk]))

/-- The blocks of a point. -/
abbrev xb0 (c : Dev nD) (t : Fin cfg0.N) : Vec Ideal S512x512 .bf16 := iblk m c 0 t
abbrev xb1 (c : Dev nD) (t : Fin cfg0.N) : Vec Ideal S512x256 .bf16 := iblk m c 1 t
abbrev xb2 (c : Dev nD) (t : Fin cfg0.N) : Vec Ideal S512x1024 .bf16 := iblk m c 2 t

theorem acc_A (c : Dev nD) (t : Fin cfg0.N) (h0 : t.val % 16 = 0) (h1 : ¬t.val % 16 = 15) :
    (outsAt0 m c t.val t.isLt).2 = View.canon (Val := Elt Ideal) (s := S768x1024) (e := .f32) (⟨r1, k0_pay3 (xb1 m c t) (View.ld (Val := Elt Ideal) (e' := .f32) (View.canon (Val := Elt Ideal) (s := S768x1024) (e := .f32) (⟨r0, k0_pay2 (xb0 m c t) (View.ld (Val := Elt Ideal) (e' := .f32) (k0_pay1 (F := Ideal)) r0) (xb2 m c t)⟩ :: ⟨Rect.unit (s := S768x1024) ![0, 0] ![768, 1024] inb_S768x1024_S768x1024_0_0, k0_pay1 (F := Ideal)⟩ :: [])) r1) (xb2 m c t)⟩ :: ⟨r0, k0_pay2 (xb0 m c t) (View.ld (Val := Elt Ideal) (e' := .f32) (k0_pay1 (F := Ideal)) r0) (xb2 m c t)⟩ :: ⟨Rect.unit (s := S768x1024) ![0, 0] ![768, 1024] inb_S768x1024_S768x1024_0_0, k0_pay1 (F := Ideal)⟩ :: []) := by
  rw [outsAt0_A m c t h0 h1]
  frame_out
  simp only [rc_ld, canon_all _ _]

theorem acc_B (c : Dev nD) (t : Fin cfg0.N) (h0 : ¬t.val % 16 = 0) (h1 : ¬t.val % 16 = 15) :
    (outsAt0 m c t.val t.isLt).2 = View.canon (Val := Elt Ideal) (s := S768x1024) (e := .f32) (⟨r1, k0_pay3 (xb1 m c t) (View.ld (Val := Elt Ideal) (e' := .f32) (outsAt0 m c (t.val - 1) (by omega)).2 r1) (xb2 m c t)⟩ :: ⟨r0, k0_pay2 (xb0 m c t) (View.ld (Val := Elt Ideal) (e' := .f32) (outsAt0 m c (t.val - 1) (by omega)).2 r0) (xb2 m c t)⟩ :: []) := by
  rw [outsAt0_B m c t h0 h1]
  frame_out
  rw [read_unread_whole]

theorem acc_C (c : Dev nD) (t : Fin cfg0.N) (h0 : ¬t.val % 16 = 0) (h1 : t.val % 16 = 15) :
    (outsAt0 m c t.val t.isLt).2 = View.canon (Val := Elt Ideal) (s := S768x1024) (e := .f32) (⟨r1, k0_pay3 (xb1 m c t) (View.ld (Val := Elt Ideal) (e' := .f32) (outsAt0 m c (t.val - 1) (by omega)).2 r1) (xb2 m c t)⟩ :: ⟨r0, k0_pay2 (xb0 m c t) (View.ld (Val := Elt Ideal) (e' := .f32) (outsAt0 m c (t.val - 1) (by omega)).2 r0) (xb2 m c t)⟩ :: []) := by
  rw [outsAt0_C m c t h0 h1]
  frame_out
  rw [read_unread_whole]

theorem acc_step (c : Dev nD) (t : Fin cfg0.N) (h0 : ¬t.val % 16 = 0) :
    (outsAt0 m c t.val t.isLt).2 = View.canon (Val := Elt Ideal) (s := S768x1024) (e := .f32) (⟨r1, k0_pay3 (xb1 m c t) (View.ld (Val := Elt Ideal) (e' := .f32) (outsAt0 m c (t.val - 1) (by omega)).2 r1) (xb2 m c t)⟩ :: ⟨r0, k0_pay2 (xb0 m c t) (View.ld (Val := Elt Ideal) (e' := .f32) (outsAt0 m c (t.val - 1) (by omega)).2 r0) (xb2 m c t)⟩ :: []) := by
  by_cases h1 : t.val % 16 = 15
  · exact acc_C m c t h0 h1
  · exact acc_B m c t h0 h1

theorem at_A0 (c : Dev nD) (t : Fin cfg0.N) (h0 : t.val % 16 = 0) (i : Fin 512) (j : Fin 1024) (i' : Fin 768) (hk : i'.val = 0 + i.val) :
    (outsAt0 m c t.val t.isLt).2 (ix2 i' j) = 0 + ∑ r : Fin 512, (xb0 m c t) (ix2 r i) * (xb2 m c t) (ix2 r j) := by
  rw [acc_A m c t h0 (by omega)]
  refine step0 _ (fun _ => 0) _ _ _  _ _  (fun i j i' hi => (ld_at _ _ i j i' j hi (by omega)).trans ?_) i j i' hk
  exact payF i' j

theorem at_B0 (c : Dev nD) (t : Fin cfg0.N) (h0 : ¬t.val % 16 = 0) (i : Fin 512) (j : Fin 1024) (i' : Fin 768) (hk : i'.val = 0 + i.val) :
    (outsAt0 m c t.val t.isLt).2 (ix2 i' j) = (outsAt0 m c (t.val - 1) (by omega)).2 (ix2 i' j) + ∑ r : Fin 512, (xb0 m c t) (ix2 r i) * (xb2 m c t) (ix2 r j) := by
  rw [acc_step m c t h0]
  exact step0 [] (outsAt0 m c (t.val - 1) (by omega)).2 _ _ _  _ _  (fun i j i' hi => (ld_at _ _ i j i' j hi (by omega))) i j i' hk

theorem at_A1 (c : Dev nD) (t : Fin cfg0.N) (h0 : t.val % 16 = 0) (i : Fin 256) (j : Fin 1024) (i' : Fin 768) (hk : i'.val = 512 + i.val) :
    (outsAt0 m c t.val t.isLt).2 (ix2 i' j) = 0 + ∑ r : Fin 512, (xb1 m c t) (ix2 r i) * (xb2 m c t) (ix2 r j) := by
  rw [acc_A m c t h0 (by omega)]
  refine step1 _ (fun _ => 0) _ _ _  _ _  (fun i j i' hi => (ld_at _ _ i j i' j hi (by omega)).trans ?_) i j i' hk
  exact (a_miss _ _ _ i' j (Or.inr (Or.inl (by omega)))).trans ((a_hit _ _ _ i' j i' j (by omega) (by omega)).trans (payF i' j))

theorem at_B1 (c : Dev nD) (t : Fin cfg0.N) (h0 : ¬t.val % 16 = 0) (i : Fin 256) (j : Fin 1024) (i' : Fin 768) (hk : i'.val = 512 + i.val) :
    (outsAt0 m c t.val t.isLt).2 (ix2 i' j) = (outsAt0 m c (t.val - 1) (by omega)).2 (ix2 i' j) + ∑ r : Fin 512, (xb1 m c t) (ix2 r i) * (xb2 m c t) (ix2 r j) := by
  rw [acc_step m c t h0]
  exact step1 [] (outsAt0 m c (t.val - 1) (by omega)).2 _ _ _  _ _  (fun i j i' hi => (ld_at _ _ i j i' j hi (by omega))) i j i' hk

section Pieces
variable (Z : Vec Ideal S768x1024 .f32)

theorem st0 (i : Fin 768) (e : Fin 128) : (k0_pay7 (View.ld (Val := Elt Ideal) (e' := .f32) Z (Rect.unit (s := S768x1024) ![0, 0] ![768, 128] inb_S768x1024_S768x128_0_0))) (ix3 0 i e) = Z (ix2 (i) (pc 0 e)) := by
  refine Eq.trans ?_ (ld_at inb_S768x1024_S768x128_0_0 Z i e (i) (pc 0 e) (by omega) rfl)
  generalize (View.ld (Val := Elt Ideal) (e' := .f32) Z (Rect.unit (s := S768x1024) ![0, 0] ![768, 128] inb_S768x1024_S768x128_0_0)) = Y
  pointwise [k0_pay7]

theorem st1 (i : Fin 768) (e : Fin 128) : (k0_pay8 (View.ld (Val := Elt Ideal) (e' := .f32) Z (Rect.unit (s := S768x1024) ![0, 128] ![768, 128] inb_S768x1024_S768x128_0_128))) (ix3 0 i e) = Z (ix2 (i) (pc 1 e)) := by
  refine Eq.trans ?_ (ld_at inb_S768x1024_S768x128_0_128 Z i e (i) (pc 1 e) (by omega) rfl)
  generalize (View.ld (Val := Elt Ideal) (e' := .f32) Z (Rect.unit (s := S768x1024) ![0, 128] ![768, 128] inb_S768x1024_S768x128_0_128)) = Y
  pointwise [k0_pay8]

theorem st2 (i : Fin 768) (e : Fin 128) : (k0_pay9 (View.ld (Val := Elt Ideal) (e' := .f32) Z (Rect.unit (s := S768x1024) ![0, 256] ![768, 128] inb_S768x1024_S768x128_0_256))) (ix3 0 i e) = Z (ix2 (i) (pc 2 e)) := by
  refine Eq.trans ?_ (ld_at inb_S768x1024_S768x128_0_256 Z i e (i) (pc 2 e) (by omega) rfl)
  generalize (View.ld (Val := Elt Ideal) (e' := .f32) Z (Rect.unit (s := S768x1024) ![0, 256] ![768, 128] inb_S768x1024_S768x128_0_256)) = Y
  pointwise [k0_pay9]

theorem st3 (i : Fin 768) (e : Fin 128) : (k0_pay10 (View.ld (Val := Elt Ideal) (e' := .f32) Z (Rect.unit (s := S768x1024) ![0, 384] ![768, 128] inb_S768x1024_S768x128_0_384))) (ix3 0 i e) = Z (ix2 (i) (pc 3 e)) := by
  refine Eq.trans ?_ (ld_at inb_S768x1024_S768x128_0_384 Z i e (i) (pc 3 e) (by omega) rfl)
  generalize (View.ld (Val := Elt Ideal) (e' := .f32) Z (Rect.unit (s := S768x1024) ![0, 384] ![768, 128] inb_S768x1024_S768x128_0_384)) = Y
  pointwise [k0_pay10]

theorem st4 (i : Fin 768) (e : Fin 128) : (k0_pay11 (View.ld (Val := Elt Ideal) (e' := .f32) Z (Rect.unit (s := S768x1024) ![0, 512] ![768, 128] inb_S768x1024_S768x128_0_512))) (ix3 0 i e) = Z (ix2 (i) (pc 4 e)) := by
  refine Eq.trans ?_ (ld_at inb_S768x1024_S768x128_0_512 Z i e (i) (pc 4 e) (by omega) rfl)
  generalize (View.ld (Val := Elt Ideal) (e' := .f32) Z (Rect.unit (s := S768x1024) ![0, 512] ![768, 128] inb_S768x1024_S768x128_0_512)) = Y
  pointwise [k0_pay11]

theorem st5 (i : Fin 768) (e : Fin 128) : (k0_pay4 (k0_pay12 (View.ld (Val := Elt Ideal) (e' := .f32) Z (Rect.unit (s := S768x1024) ![0, 640] ![768, 128] inb_S768x1024_S768x128_0_640)))) (ix3 0 i e) = Z (ix2 (i) (pc 5 e)) := by
  refine Eq.trans ?_ (ld_at inb_S768x1024_S768x128_0_640 Z i e (i) (pc 5 e) (by omega) rfl)
  generalize (View.ld (Val := Elt Ideal) (e' := .f32) Z (Rect.unit (s := S768x1024) ![0, 640] ![768, 128] inb_S768x1024_S768x128_0_640)) = Y
  pointwise [k0_pay4, k0_pay12]

theorem st6 (i : Fin 768) (e : Fin 128) : (k0_pay5 (View.ld (Val := Elt Ideal) (e' := .f32) Z (Rect.unit (s := S768x1024) ![0, 768] ![768, 128] inb_S768x1024_S768x128_0_768))) (ix3 0 i e) = Z (ix2 (i) (pc 6 e)) := by
  refine Eq.trans ?_ (ld_at inb_S768x1024_S768x128_0_768 Z i e (i) (pc 6 e) (by omega) rfl)
  generalize (View.ld (Val := Elt Ideal) (e' := .f32) Z (Rect.unit (s := S768x1024) ![0, 768] ![768, 128] inb_S768x1024_S768x128_0_768)) = Y
  pointwise [k0_pay5]

theorem st7 (i : Fin 768) (e : Fin 128) : (k0_pay6 (View.ld (Val := Elt Ideal) (e' := .f32) Z (Rect.unit (s := S768x1024) ![0, 896] ![768, 128] inb_S768x1024_S768x128_0_896))) (ix3 0 i e) = Z (ix2 (i) (pc 7 e)) := by
  refine Eq.trans ?_ (ld_at inb_S768x1024_S768x128_0_896 Z i e (i) (pc 7 e) (by omega) rfl)
  generalize (View.ld (Val := Elt Ideal) (e' := .f32) Z (Rect.unit (s := S768x1024) ![0, 896] ![768, 128] inb_S768x1024_S768x128_0_896)) = Y
  pointwise [k0_pay6]

/-- The eight stores fill the result's eight slices with the accumulator's. -/
theorem pieces (d : Fin 8) (i : Fin 768) (e : Fin 128) :
    View.canon (Val := Elt Ideal) (s := S8x768x128) (e := .bf16) ([⟨Rect.unit (s := S8x768x128) ![7, 0, 0] ![1, 768, 128] inb_S8x768x128_S1x768x128_7_0_0, (k0_pay6 (View.ld (Val := Elt Ideal) (e' := .f32) Z (Rect.unit (s := S768x1024) ![0, 896] ![768, 128] inb_S768x1024_S768x128_0_896)))⟩, ⟨Rect.unit (s := S8x768x128) ![6, 0, 0] ![1, 768, 128] inb_S8x768x128_S1x768x128_6_0_0, (k0_pay5 (View.ld (Val := Elt Ideal) (e' := .f32) Z (Rect.unit (s := S768x1024) ![0, 768] ![768, 128] inb_S768x1024_S768x128_0_768)))⟩, ⟨Rect.unit (s := S8x768x128) ![5, 0, 0] ![1, 768, 128] inb_S8x768x128_S1x768x128_5_0_0, (k0_pay4 (k0_pay12 (View.ld (Val := Elt Ideal) (e' := .f32) Z (Rect.unit (s := S768x1024) ![0, 640] ![768, 128] inb_S768x1024_S768x128_0_640))))⟩, ⟨Rect.unit (s := S8x768x128) ![4, 0, 0] ![1, 768, 128] inb_S8x768x128_S1x768x128_4_0_0, (k0_pay11 (View.ld (Val := Elt Ideal) (e' := .f32) Z (Rect.unit (s := S768x1024) ![0, 512] ![768, 128] inb_S768x1024_S768x128_0_512)))⟩, ⟨Rect.unit (s := S8x768x128) ![3, 0, 0] ![1, 768, 128] inb_S8x768x128_S1x768x128_3_0_0, (k0_pay10 (View.ld (Val := Elt Ideal) (e' := .f32) Z (Rect.unit (s := S768x1024) ![0, 384] ![768, 128] inb_S768x1024_S768x128_0_384)))⟩, ⟨Rect.unit (s := S8x768x128) ![2, 0, 0] ![1, 768, 128] inb_S8x768x128_S1x768x128_2_0_0, (k0_pay9 (View.ld (Val := Elt Ideal) (e' := .f32) Z (Rect.unit (s := S768x1024) ![0, 256] ![768, 128] inb_S768x1024_S768x128_0_256)))⟩, ⟨Rect.unit (s := S8x768x128) ![1, 0, 0] ![1, 768, 128] inb_S8x768x128_S1x768x128_1_0_0, (k0_pay8 (View.ld (Val := Elt Ideal) (e' := .f32) Z (Rect.unit (s := S768x1024) ![0, 128] ![768, 128] inb_S768x1024_S768x128_0_128)))⟩, ⟨Rect.unit (s := S8x768x128) ![0, 0, 0] ![1, 768, 128] inb_S8x768x128_S1x768x128_0_0_0, (k0_pay7 (View.ld (Val := Elt Ideal) (e' := .f32) Z (Rect.unit (s := S768x1024) ![0, 0] ![768, 128] inb_S768x1024_S768x128_0_0)))⟩] : List (View.Piece (Elt Ideal) S8x768x128 .bf16)) (ix3 d i e) = Z (ix2 (i) (pc d e)) :=
  cn_all _ _ _ _ _ _ _ _ _ _ _ _ _ _ _ _ (fun d i e => Z (ix2 (i) (pc d e))) (st0 Z) (st1 Z) (st2 Z) (st3 Z) (st4 Z) (st5 Z) (st6 Z) (st7 Z) d i e
end Pieces

theorem out_C (c : Dev nD) (t : Fin cfg0.N) (h0 : ¬t.val % 16 = 0) (h1 : t.val % 16 = 15) (d : Fin 8) (i : Fin 768) (e : Fin 128) :
    (outsAt0 m c t.val t.isLt).1 (ix3 d i e) = (outsAt0 m c t.val t.isLt).2 (ix2 (i) (pc d e)) := by
  rw [acc_C m c t h0 h1, outsAt0_C m c t h0 h1]
  frame_out
  rw [read_unread_whole]
  simp only [rc_ld]
  exact pieces _ d i e

end Cert.Kernel16Ideal.Wo

end

end
-- ==== Proof.WoArr.lean ====
/- The array the launch of the gradient of the output weight leaves. -/
module

public import proofs.«01_k».proof.Proof.WoTile

@[expose] public section

set_option maxRecDepth 16384

noncomputable section

open Idealize.ShloMosaic Idealize.ShloMosaic.TcCoe Idealize.SL.Sem
open Idealize.ShloMosaic.Pipeline (Dat)

namespace Cert.Kernel16Ideal.Wo
open Cert.Kernel16Ideal Cert.Kernel16Ideal.Gen Cert.Slices

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ t.val < 16 :=
  (by decide +kernel : ∀ t : Fin grid0.N, _)
theorem idx0 (t : Fin cfg0.N) : win0_0.index t = ![t.val, 0] := (idx t).1
theorem idx1 (t : Fin cfg0.N) : win0_1.index t = ![t.val, 0] := (idx t).2.1
theorem idx2 (t : Fin cfg0.N) : win0_2.index t = ![t.val, 0] := (idx t).2.2.1
theorem lt16 (t : Fin cfg0.N) : t.val < 16 := (idx t).2.2.2

/-- The row of the whole array that row `r` of the tile of point `t` is. -/
def grow (t : Fin cfg0.N) (r : Fin 512) : Fin 8192 := ⟨t.val * 512 + r.val, by have := lt16 t; omega⟩

theorem sum_rows (f : Fin 8192 → EReal) : ∑ t : Fin cfg0.N, ∑ r : Fin 512, f (grow t r) = ∑ R : Fin 8192, f R := by
  rw [← Fintype.sum_prod_type' (fun (t : Fin cfg0.N) (r : Fin 512) => f (grow t r))]
  refine Fintype.sum_bijective (fun p : Fin cfg0.N × Fin 512 => grow p.1 p.2) ⟨fun p p' h => ?_, fun R => ?_⟩ _ _ fun _ => rfl
  · have h3 : p.1.val * 512 + p.2.val = p'.1.val * 512 + p'.2.val := congrArg Fin.val h
    exact Prod.ext (Fin.ext (by omega)) (Fin.ext (by omega))
  · have hN : R.val / 512 < cfg0.N := by show R.val / 512 < 16; omega
    exact ⟨(⟨R.val / 512, hN⟩, ⟨R.val % 512, by omega⟩), Fin.ext (by show R.val / 512 * 512 + R.val % 512 = R.val; omega)⟩

/-- The arguments of the call. -/
abbrev a0 (c : Dev nD) : S8192x512.Idx → EReal := m ((c : Thread nD τ).loc main_arg0)
abbrev a1 (c : Dev nD) : S8192x256.Idx → EReal := m ((c : Thread nD τ).loc main_arg1)
abbrev a3 (c : Dev nD) : S8192x1024.Idx → EReal := m ((c : Thread nD τ).loc main_arg3)

theorem V_v0 (c : Dev nD) (R : Fin 8192) (k : Fin 512) : V m c main_v0 (ix2 R k) = a0 m c (ix2 R k) := by
  unfold V; simp only [hostOps0]
  after_results
  pointwise
theorem blk0 (c : Dev nD) (t : Fin cfg0.N) (r : Fin 512) (k : Fin 512) : xb0 m c t (ix2 r k) = a0 m c (ix2 (grow t r) k) := by
  show iblk m c 0 t (ix2 r k) = _
  rw [← V_v0]
  unfold grow; blk_ext [iblk, idx0]

theorem V_v1 (c : Dev nD) (R : Fin 8192) (k : Fin 256) : V m c main_v1 (ix2 R k) = a1 m c (ix2 R k) := by
  unfold V; simp only [hostOps0]
  after_results
  pointwise
theorem blk1 (c : Dev nD) (t : Fin cfg0.N) (r : Fin 512) (k : Fin 256) : xb1 m c t (ix2 r k) = a1 m c (ix2 (grow t r) k) := by
  show iblk m c 1 t (ix2 r k) = _
  rw [← V_v1]
  unfold grow; blk_ext [iblk, idx1]

theorem V_v2 (c : Dev nD) (R : Fin 8192) (k : Fin 1024) : V m c main_v2 (ix2 R k) = a3 m c (ix2 R k) := by
  unfold V; simp only [hostOps0]
  after_results
  pointwise
theorem blk2 (c : Dev nD) (t : Fin cfg0.N) (r : Fin 512) (k : Fin 1024) : xb2 m c t (ix2 r k) = a3 m c (ix2 (grow t r) k) := by
  show iblk m c 2 t (ix2 r k) = _
  rw [← V_v2]
  unfold grow; blk_ext [iblk, idx2]

/-- The parts side by side. -/
def cat (b0 : (⟨2, ![8192, 512]⟩ : Shape).Idx → EReal) (b1 : (⟨2, ![8192, 256]⟩ : Shape).Idx → EReal) (R : Fin 8192) (i : Fin 768) : EReal := if h0 : i.val < 512 then b0 (ix2 R ⟨i.val - 0, by omega⟩) else b1 (ix2 R ⟨i.val - 512, by omega⟩)
theorem cat0 (b0 : (⟨2, ![8192, 512]⟩ : Shape).Idx → EReal) (b1 : (⟨2, ![8192, 256]⟩ : Shape).Idx → EReal) (R : Fin 8192) (i : Fin 768) (i' : Fin 512) (h : i.val = 0 + i'.val) : cat b0 b1 R i = b0 (ix2 R i') := by
  unfold cat
  rw [dif_pos (by omega)]
  exact congrArg (fun q => b0 (ix2 R q)) (Fin.ext (by show i.val - 0 = i'.val; omega))
theorem cat1 (b0 : (⟨2, ![8192, 512]⟩ : Shape).Idx → EReal) (b1 : (⟨2, ![8192, 256]⟩ : Shape).Idx → EReal) (R : Fin 8192) (i : Fin 768) (i' : Fin 256) (h : i.val = 512 + i'.val) : cat b0 b1 R i = b1 (ix2 R i') := by
  unfold cat
  rw [dif_neg (by omega)]; skip
  exact congrArg (fun q => b1 (ix2 R q)) (Fin.ext (by show i.val - 512 = i'.val; omega))
theorem parts (i : Fin 768) : (∃ i' : Fin 512, i.val = 0 + i'.val) ∨ (∃ i' : Fin 256, i.val = 512 + i'.val) := by
  by_cases h0 : i.val < 512
  · exact Or.inl ⟨⟨i.val - 0, by omega⟩, by show i.val = 0 + (i.val - 0); omega⟩
  exact Or.inr (⟨⟨i.val - 512, by omega⟩, by show i.val = 512 + (i.val - 512); omega⟩)

/-- What one tile of rows adds. -/
def part (c : Dev nD) (t : Fin cfg0.N) (i : Fin 768) (j : Fin 1024) : EReal := ∑ r : Fin 512, cat (a0 m c) (a1 m c) (grow t r) i * a3 m c (ix2 (grow t r) j)

theorem at_A (c : Dev nD) (t : Fin cfg0.N) (h0 : t.val % 16 = 0) (i : Fin 768) (j : Fin 1024) :
    (outsAt0 m c t.val t.isLt).2 (ix2 i j) = 0 + part m c t i j := by
  unfold part
  rcases parts i with ⟨i', h⟩ | ⟨i', h⟩
  · refine (at_A0 m c t h0 i' j i h).trans (congrArg _ (Finset.sum_congr rfl fun r _ => ?_))
    rw [cat0 _ _ _ i i' h, blk0, blk2]
  · refine (at_A1 m c t h0 i' j i h).trans (congrArg _ (Finset.sum_congr rfl fun r _ => ?_))
    rw [cat1 _ _ _ i i' h, blk1, blk2]
theorem at_B (c : Dev nD) (t : Fin cfg0.N) (h0 : ¬t.val % 16 = 0) (i : Fin 768) (j : Fin 1024) :
    (outsAt0 m c t.val t.isLt).2 (ix2 i j) = (outsAt0 m c (t.val - 1) (by omega)).2 (ix2 i j) + part m c t i j := by
  unfold part
  rcases parts i with ⟨i', h⟩ | ⟨i', h⟩
  · refine (at_B0 m c t h0 i' j i h).trans (congrArg _ (Finset.sum_congr rfl fun r _ => ?_))
    rw [cat0 _ _ _ i i' h, blk0, blk2]
  · refine (at_B1 m c t h0 i' j i h).trans (congrArg _ (Finset.sum_congr rfl fun r _ => ?_))
    rw [cat1 _ _ _ i i' h, blk1, blk2]

/-- The gradient. -/
def G (c : Dev nD) (i : Fin 768) (j : Fin 1024) : EReal := ∑ R : Fin 8192, cat (a0 m c) (a1 m c) R i * a3 m c (ix2 R j)

theorem arr (c : Dev nD) : (dats m 0 c).arrAt 3 cfg0.N = fun y => G m c (y 1) (pc (y 0) (y 2)) := by
  have hrun := Pipeline.eq_sum_fin_of_reset_step_apply_last (fun n h (p : Fin 768 × Fin 1024) => (outsAt0 m c n h).2 (ix2 p.1 p.2)) 16
    (fun _ => (0 : EReal)) (fun t p => part m c t p.1 p.2)
    (fun t h0 p => at_A m c t h0 p.1 p.2)
    (fun t h0 p => at_B m c t h0 p.1 p.2)
    (by decide) t0_15 rfl
  refine (dats m 0 c).arrAt_eq_of_after_last 3 t0_15 (by decide +kernel) _ fun y => ?_
  blk_simp
  rw [after0_3]
  obtain ⟨d, i, e, rfl⟩ : ∃ d i e, y = ix3 d i e := ⟨_, _, _, eq_ix3 y⟩
  refine (out_C m c t0_15 (by decide) (by decide) d i e).trans ?_
  have h := hrun (i, pc d e)
  refine h.trans ?_
  rw [zero_add]
  exact sum_rows (fun R => cat (a0 m c) (a1 m c) R (i) * a3 m c (ix2 R (pc d e)))

end Cert.Kernel16Ideal.Wo

end

end
-- ==== Proof.WwoClaim.lean ====
/- The claim about the gradient of the output weight. -/
module

public import proofs.«01_k».proof.Proof.WoArr
public import proofs.«01_k».proof.Proof.Gen.Reference16Ideal.Read
public import proofs.«01_k».proof.Proof.PoolClaim

@[expose] public section

set_option maxRecDepth 16384

noncomputable section

open Idealize.ShloMosaic Idealize.ShloMosaic.TcCoe Idealize.SL.Sem
open Idealize.ShloMosaic.Pipeline (Dat)

namespace Cert.WwoClaim
open Idealize.ShloMosaic Idealize.SL.Sem

section Run
open Cert.Reference16Ideal
/-- The reference's run, its results named by the stages of its reading. -/
theorem runR (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v6) = Read.val_main_v6 (F := Ideal) (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (Read.val_main_v6_eq _ _ _ ),
      (h c).2⟩)
    (Value.run (F := Ideal) m ρ)
end Run

/-- The reference ends with its arguments unchanged and every counter at zero. -/
theorem frameR : Cert.quiescent_Reference16Ideal (hReference16Ideal := Cert.Reference16Ideal.Gen.facts) := by
  intro m ρ _
  exact (θ_run Cert.Reference16Ideal.defs _ _).mono (fun r h => ⟨fun c => (h c).2, sem_eq_zero_of_no_sems (by decide) r.2⟩) (Cert.Reference16Ideal.Value.run (F := Ideal) m ρ)

section Eq
open Cert.Kernel16Ideal Cert.Kernel16Ideal.Gen Cert.Kernel16Ideal.Wo Idealize.ShloMosaic.TcCoe

theorem ref (x0 : S8192x512.Idx → EReal) (x1 : S8192x256.Idx → EReal) (x3 : S8192x1024.Idx → EReal) (d : Fin 8) (i : Fin 768) (e : Fin 128) :
    Cert.Reference16Ideal.Read.val_main_v6 (F := Ideal) x0 x1 x3 (ix3 d i e) = ∑ R : Fin 8192, cat x0 x1 R (i) * x3 (ix2 R (pc d e)) := by
  pointwise [Cert.Reference16Ideal.Read.val_main_v6, Cert.Reference16Ideal.Read.val_main_v5, Cert.Reference16Ideal.Read.val_main_v4, Cert.Reference16Ideal.Read.val_main_v3, Cert.Reference16Ideal.Read.val_main_v2, Cert.Reference16Ideal.Read.val_main_v1, Cert.Reference16Ideal.Read.val_main_v0]
  have hc : (⟨d.val * 128 + e.val, by omega⟩ : Fin 1024) = pc d e := rfl
  exact Finset.sum_congr rfl fun R _ => mul_comm _ _

variable (m : (ℓ : Loc nD τ sig) → Buf (Elt Ideal) ℓ) (c : Dev nD)

theorem e0 : (dats m 0 c).arrAt 3 cfg0.N = Cert.Reference16Ideal.Read.val_main_v6 (F := Ideal) (a0 m c) (a1 m c) (a3 m c) := by
  rw [arr]
  funext y
  obtain ⟨d, i, e, rfl⟩ : ∃ d i e, y = ix3 d i e := ⟨_, _, _, eq_ix3 y⟩
  exact (ref _ _ _ d i e).symm
end Eq

/-- The launch and the reference, from memories that agree on the arguments. -/
theorem algebraic : Cert.algebraic_Kernel16Ideal_Reference16Ideal (hKernel16Ideal := Cert.Kernel16Ideal.Gen.facts) (hReference16Ideal := Cert.Reference16Ideal.Gen.facts) := by
  intro m g m' g' _ hag
  refine ⟨fun c => (Cert.Kernel16Ideal.Gen.dats m 0 c).arrAt 3 Cert.Kernel16Ideal.cfg0.N,
    Cert.Kernel16Ideal.Value.run_blocks m g, (θ_run Cert.Reference16Ideal.defs _ _).mono (fun r h c => ?_) (runR m' g')⟩
  obtain ⟨a0, a1, a2, a3⟩ := hag c
  obtain ⟨r0, rest⟩ := h c
  rw [a0, a1, a3] at r0
  exact ⟨r0.trans (e0 m c).symm, rest⟩

end Cert.WwoClaim

end

end
-- ==== Proof.WpTile.lean ====
/- The accumulation of the gradient of the input weight at a pool layer over one tile of rows, and its stores. -/
module

public import proofs.«01_k».proof.Proof.Gen.Kernel17Ideal.Value
public import proofs.«01_k».proof.Proof.Slices

@[expose] public section

set_option maxRecDepth 16384

noncomputable section

open Idealize.ShloMosaic Idealize.ShloMosaic.TcCoe Idealize.SL.Sem
open Idealize.ShloMosaic.Pipeline (Dat)

namespace Cert.Kernel17Ideal.Wp
open Cert.Kernel17Ideal Cert.Kernel17Ideal.Gen Cert.Slices

variable (m : (ℓ : Loc nD τ sig) → Buf (Elt Ideal) ℓ)

def pc (d : Fin 8) (e : Fin 128) : Fin 1024 := ⟨d.val * 128 + e.val, by omega⟩

/-- The parts' rectangles. -/
abbrev r0 := Rect.unit (s := S1024x768) ![0, 0] ![1024, 512] inb_S1024x768_S1024x512_0_0
abbrev r1 := Rect.unit (s := S1024x768) ![0, 512] ![1024, 256] inb_S1024x768_S1024x256_0_512

theorem payF (i : Fin 1024) (j : Fin 768) : k0_pay1 (F := Ideal) (ix2 i j) = 0 := by
  pointwise [k0_pay1]

theorem payP0 (x : Vec Ideal S512x512 .bf16) (y : Vec Ideal S1024x512 .f32) (z : Vec Ideal S512x1024 .bf16) (i : Fin 1024) (j : Fin 512) :
    k0_pay3 z y x (ix2 i j) = y (ix2 i j) + ∑ r : Fin 512, z (ix2 r i) * x (ix2 r j) := by
  pointwise [k0_pay3, k0_pay2]

theorem payP1 (x : Vec Ideal S512x256 .bf16) (y : Vec Ideal S1024x256 .f32) (z : Vec Ideal S512x1024 .bf16) (i : Fin 1024) (j : Fin 256) :
    k0_pay4 z y x (ix2 i j) = y (ix2 i j) + ∑ r : Fin 512, z (ix2 r i) * x (ix2 r j) := by
  pointwise [k0_pay4, k0_pay2]

theorem step0 (L : List (View.Piece (Elt Ideal) S1024x768 .f32)) (P : S1024x768.Idx → EReal) (x0 : Vec Ideal S512x512 .bf16) (x1 : Vec Ideal S512x256 .bf16) (z : Vec Ideal S512x1024 .bf16) (y0 : Vec Ideal S1024x512 .f32) (y1 : Vec Ideal S1024x256 .f32)
    (h0 : ∀ (i : Fin 1024) (j : Fin 512) (j' : Fin 768), j'.val = 0 + j.val → y0 (ix2 i j) = P (ix2 i j')) (i : Fin 1024) (j : Fin 512) (j' : Fin 768) (hk : j'.val = 0 + j.val) :
    View.canon (Val := Elt Ideal) (s := S1024x768) (e := .f32) (⟨r1, k0_pay4 z y1 x1⟩ :: ⟨r0, k0_pay3 z y0 x0⟩ :: L) (ix2 i j') = P (ix2 i j') + ∑ r : Fin 512, z (ix2 r i) * x0 (ix2 r j) :=
  (a_miss _ _ _ i j' (Or.inr (Or.inr (Or.inl (by omega))))).trans ((a_hit _ _ _ i j i j' (by omega) hk).trans ((payP0 _ _ _ i j).trans (by rw [h0 i j j' hk])))

theorem step1 (L : List (View.Piece (Elt Ideal) S1024x768 .f32)) (P : S1024x768.Idx → EReal) (x0 : Vec Ideal S512x512 .bf16) (x1 : Vec Ideal S512x256 .bf16) (z : Vec Ideal S512x1024 .bf16) (y0 : Vec Ideal S1024x512 .f32) (y1 : Vec Ideal S1024x256 .f32)
    (h1 : ∀ (i : Fin 1024) (j : Fin 256) (j' : Fin 768), j'.val = 512 + j.val → y1 (ix2 i j) = P (ix2 i j')) (i : Fin 1024) (j : Fin 256) (j' : Fin 768) (hk : j'.val = 512 + j.val) :
    View.canon (Val := Elt Ideal) (s := S1024x768) (e := .f32) (⟨r1, k0_pay4 z y1 x1⟩ :: ⟨r0, k0_pay3 z y0 x0⟩ :: L) (ix2 i j') = P (ix2 i j') + ∑ r : Fin 512, z (ix2 r i) * x1 (ix2 r j) :=
  (a_hit _ _ _ i j i j' (by omega) hk).trans ((payP1 _ _ _ i j).trans (by rw [h1 i j j' hk]))

/-- The blocks of a point. -/
abbrev xb1 (c : Dev nD) (t : Fin cfg0.N) : Vec Ideal S512x512 .bf16 := iblk m c 1 t
abbrev xb2 (c : Dev nD) (t : Fin cfg0.N) : Vec Ideal S512x256 .bf16 := iblk m c 2 t
abbrev xb0 (c : Dev nD) (t : Fin cfg0.N) : Vec Ideal S512x1024 .bf16 := iblk m c 0 t

theorem acc_A (c : Dev nD) (t : Fin cfg0.N) (h0 : t.val % 16 = 0) (h1 : ¬t.val % 16 = 15) :
    (outsAt0 m c t.val t.isLt).2 = View.canon (Val := Elt Ideal) (s := S1024x768) (e := .f32) (⟨r1, k0_pay4 (xb0 m c t) (View.ld (Val := Elt Ideal) (e' := .f32) (View.canon (Val := Elt Ideal) (s := S1024x768) (e := .f32) (⟨r0, k0_pay3 (xb0 m c t) (View.ld (Val := Elt Ideal) (e' := .f32) (k0_pay1 (F := Ideal)) r0) (xb1 m c t)⟩ :: ⟨Rect.unit (s := S1024x768) ![0, 0] ![1024, 768] inb_S1024x768_S1024x768_0_0, k0_pay1 (F := Ideal)⟩ :: [])) r1) (xb2 m c t)⟩ :: ⟨r0, k0_pay3 (xb0 m c t) (View.ld (Val := Elt Ideal) (e' := .f32) (k0_pay1 (F := Ideal)) r0) (xb1 m c t)⟩ :: ⟨Rect.unit (s := S1024x768) ![0, 0] ![1024, 768] inb_S1024x768_S1024x768_0_0, k0_pay1 (F := Ideal)⟩ :: []) := by
  rw [outsAt0_A m c t h0 h1]
  frame_out
  simp only [rc_ld, canon_all _ _]

theorem acc_B (c : Dev nD) (t : Fin cfg0.N) (h0 : ¬t.val % 16 = 0) (h1 : ¬t.val % 16 = 15) :
    (outsAt0 m c t.val t.isLt).2 = View.canon (Val := Elt Ideal) (s := S1024x768) (e := .f32) (⟨r1, k0_pay4 (xb0 m c t) (View.ld (Val := Elt Ideal) (e' := .f32) (outsAt0 m c (t.val - 1) (by omega)).2 r1) (xb2 m c t)⟩ :: ⟨r0, k0_pay3 (xb0 m c t) (View.ld (Val := Elt Ideal) (e' := .f32) (outsAt0 m c (t.val - 1) (by omega)).2 r0) (xb1 m c t)⟩ :: []) := by
  rw [outsAt0_B m c t h0 h1]
  frame_out
  rw [read_unread_whole]

theorem acc_C (c : Dev nD) (t : Fin cfg0.N) (h0 : ¬t.val % 16 = 0) (h1 : t.val % 16 = 15) :
    (outsAt0 m c t.val t.isLt).2 = View.canon (Val := Elt Ideal) (s := S1024x768) (e := .f32) (⟨r1, k0_pay4 (xb0 m c t) (View.ld (Val := Elt Ideal) (e' := .f32) (outsAt0 m c (t.val - 1) (by omega)).2 r1) (xb2 m c t)⟩ :: ⟨r0, k0_pay3 (xb0 m c t) (View.ld (Val := Elt Ideal) (e' := .f32) (outsAt0 m c (t.val - 1) (by omega)).2 r0) (xb1 m c t)⟩ :: []) := by
  rw [outsAt0_C m c t h0 h1]
  frame_out
  rw [read_unread_whole]

theorem acc_step (c : Dev nD) (t : Fin cfg0.N) (h0 : ¬t.val % 16 = 0) :
    (outsAt0 m c t.val t.isLt).2 = View.canon (Val := Elt Ideal) (s := S1024x768) (e := .f32) (⟨r1, k0_pay4 (xb0 m c t) (View.ld (Val := Elt Ideal) (e' := .f32) (outsAt0 m c (t.val - 1) (by omega)).2 r1) (xb2 m c t)⟩ :: ⟨r0, k0_pay3 (xb0 m c t) (View.ld (Val := Elt Ideal) (e' := .f32) (outsAt0 m c (t.val - 1) (by omega)).2 r0) (xb1 m c t)⟩ :: []) := by
  by_cases h1 : t.val % 16 = 15
  · exact acc_C m c t h0 h1
  · exact acc_B m c t h0 h1

theorem at_A0 (c : Dev nD) (t : Fin cfg0.N) (h0 : t.val % 16 = 0) (i : Fin 1024) (j : Fin 512) (j' : Fin 768) (hk : j'.val = 0 + j.val) :
    (outsAt0 m c t.val t.isLt).2 (ix2 i j') = 0 + ∑ r : Fin 512, (xb0 m c t) (ix2 r i) * (xb1 m c t) (ix2 r j) := by
  rw [acc_A m c t h0 (by omega)]
  refine step0 _ (fun _ => 0) _ _ _  _ _  (fun i j j' hi => (ld_at _ _ i j i j' (by omega) hi).trans ?_) i j j' hk
  exact payF i j'

theorem at_B0 (c : Dev nD) (t : Fin cfg0.N) (h0 : ¬t.val % 16 = 0) (i : Fin 1024) (j : Fin 512) (j' : Fin 768) (hk : j'.val = 0 + j.val) :
    (outsAt0 m c t.val t.isLt).2 (ix2 i j') = (outsAt0 m c (t.val - 1) (by omega)).2 (ix2 i j') + ∑ r : Fin 512, (xb0 m c t) (ix2 r i) * (xb1 m c t) (ix2 r j) := by
  rw [acc_step m c t h0]
  exact step0 [] (outsAt0 m c (t.val - 1) (by omega)).2 _ _ _  _ _  (fun i j j' hi => (ld_at _ _ i j i j' (by omega) hi)) i j j' hk

theorem at_A1 (c : Dev nD) (t : Fin cfg0.N) (h0 : t.val % 16 = 0) (i : Fin 1024) (j : Fin 256) (j' : Fin 768) (hk : j'.val = 512 + j.val) :
    (outsAt0 m c t.val t.isLt).2 (ix2 i j') = 0 + ∑ r : Fin 512, (xb0 m c t) (ix2 r i) * (xb2 m c t) (ix2 r j) := by
  rw [acc_A m c t h0 (by omega)]
  refine step1 _ (fun _ => 0) _ _ _  _ _  (fun i j j' hi => (ld_at _ _ i j i j' (by omega) hi).trans ?_) i j j' hk
  exact (a_miss _ _ _ i j' (Or.inr (Or.inr (Or.inr (by omega))))).trans ((a_hit _ _ _ i j' i j' (by omega) (by omega)).trans (payF i j'))

theorem at_B1 (c : Dev nD) (t : Fin cfg0.N) (h0 : ¬t.val % 16 = 0) (i : Fin 1024) (j : Fin 256) (j' : Fin 768) (hk : j'.val = 512 + j.val) :
    (outsAt0 m c t.val t.isLt).2 (ix2 i j') = (outsAt0 m c (t.val - 1) (by omega)).2 (ix2 i j') + ∑ r : Fin 512, (xb0 m c t) (ix2 r i) * (xb2 m c t) (ix2 r j) := by
  rw [acc_step m c t h0]
  exact step1 [] (outsAt0 m c (t.val - 1) (by omega)).2 _ _ _  _ _  (fun i j j' hi => (ld_at _ _ i j i j' (by omega) hi)) i j j' hk

section Pieces
variable (Z : Vec Ideal S1024x768 .f32)

theorem st0 (i : Fin 128) (e : Fin 768) : (k0_pay8 (View.ld (Val := Elt Ideal) (e' := .f32) Z (Rect.unit (s := S1024x768) ![0, 0] ![128, 768] inb_S1024x768_S128x768_0_0))) (ix3 0 i e) = Z (ix2 (pc 0 i) (e)) := by
  refine Eq.trans ?_ (ld_at inb_S1024x768_S128x768_0_0 Z i e (pc 0 i) (e) rfl (by omega))
  generalize (View.ld (Val := Elt Ideal) (e' := .f32) Z (Rect.unit (s := S1024x768) ![0, 0] ![128, 768] inb_S1024x768_S128x768_0_0)) = Y
  pointwise [k0_pay8]

theorem st1 (i : Fin 128) (e : Fin 768) : (k0_pay9 (View.ld (Val := Elt Ideal) (e' := .f32) Z (Rect.unit (s := S1024x768) ![128, 0] ![128, 768] inb_S1024x768_S128x768_128_0))) (ix3 0 i e) = Z (ix2 (pc 1 i) (e)) := by
  refine Eq.trans ?_ (ld_at inb_S1024x768_S128x768_128_0 Z i e (pc 1 i) (e) rfl (by omega))
  generalize (View.ld (Val := Elt Ideal) (e' := .f32) Z (Rect.unit (s := S1024x768) ![128, 0] ![128, 768] inb_S1024x768_S128x768_128_0)) = Y
  pointwise [k0_pay9]

theorem st2 (i : Fin 128) (e : Fin 768) : (k0_pay10 (View.ld (Val := Elt Ideal) (e' := .f32) Z (Rect.unit (s := S1024x768) ![256, 0] ![128, 768] inb_S1024x768_S128x768_256_0))) (ix3 0 i e) = Z (ix2 (pc 2 i) (e)) := by
  refine Eq.trans ?_ (ld_at inb_S1024x768_S128x768_256_0 Z i e (pc 2 i) (e) rfl (by omega))
  generalize (View.ld (Val := Elt Ideal) (e' := .f32) Z (Rect.unit (s := S1024x768) ![256, 0] ![128, 768] inb_S1024x768_S128x768_256_0)) = Y
  pointwise [k0_pay10]

theorem st3 (i : Fin 128) (e : Fin 768) : (k0_pay11 (View.ld (Val := Elt Ideal) (e' := .f32) Z (Rect.unit (s := S1024x768) ![384, 0] ![128, 768] inb_S1024x768_S128x768_384_0))) (ix3 0 i e) = Z (ix2 (pc 3 i) (e)) := by
  refine Eq.trans ?_ (ld_at inb_S1024x768_S128x768_384_0 Z i e (pc 3 i) (e) rfl (by omega))
  generalize (View.ld (Val := Elt Ideal) (e' := .f32) Z (Rect.unit (s := S1024x768) ![384, 0] ![128, 768] inb_S1024x768_S128x768_384_0)) = Y
  pointwise [k0_pay11]

theorem st4 (i : Fin 128) (e : Fin 768) : (k0_pay12 (View.ld (Val := Elt Ideal) (e' := .f32) Z (Rect.unit (s := S1024x768) ![512, 0] ![128, 768] inb_S1024x768_S128x768_512_0))) (ix3 0 i e) = Z (ix2 (pc 4 i) (e)) := by
  refine Eq.trans ?_ (ld_at inb_S1024x768_S128x768_512_0 Z i e (pc 4 i) (e) rfl (by omega))
  generalize (View.ld (Val := Elt Ideal) (e' := .f32) Z (Rect.unit (s := S1024x768) ![512, 0] ![128, 768] inb_S1024x768_S128x768_512_0)) = Y
  pointwise [k0_pay12]

theorem st5 (i : Fin 128) (e : Fin 768) : (k0_pay5 (k0_pay13 (View.ld (Val := Elt Ideal) (e' := .f32) Z (Rect.unit (s := S1024x768) ![640, 0] ![128, 768] inb_S1024x768_S128x768_640_0)))) (ix3 0 i e) = Z (ix2 (pc 5 i) (e)) := by
  refine Eq.trans ?_ (ld_at inb_S1024x768_S128x768_640_0 Z i e (pc 5 i) (e) rfl (by omega))
  generalize (View.ld (Val := Elt Ideal) (e' := .f32) Z (Rect.unit (s := S1024x768) ![640, 0] ![128, 768] inb_S1024x768_S128x768_640_0)) = Y
  pointwise [k0_pay5, k0_pay13]

theorem st6 (i : Fin 128) (e : Fin 768) : (k0_pay6 (View.ld (Val := Elt Ideal) (e' := .f32) Z (Rect.unit (s := S1024x768) ![768, 0] ![128, 768] inb_S1024x768_S128x768_768_0))) (ix3 0 i e) = Z (ix2 (pc 6 i) (e)) := by
  refine Eq.trans ?_ (ld_at inb_S1024x768_S128x768_768_0 Z i e (pc 6 i) (e) rfl (by omega))
  generalize (View.ld (Val := Elt Ideal) (e' := .f32) Z (Rect.unit (s := S1024x768) ![768, 0] ![128, 768] inb_S1024x768_S128x768_768_0)) = Y
  pointwise [k0_pay6]

theorem st7 (i : Fin 128) (e : Fin 768) : (k0_pay7 (View.ld (Val := Elt Ideal) (e' := .f32) Z (Rect.unit (s := S1024x768) ![896, 0] ![128, 768] inb_S1024x768_S128x768_896_0))) (ix3 0 i e) = Z (ix2 (pc 7 i) (e)) := by
  refine Eq.trans ?_ (ld_at inb_S1024x768_S128x768_896_0 Z i e (pc 7 i) (e) rfl (by omega))
  generalize (View.ld (Val := Elt Ideal) (e' := .f32) Z (Rect.unit (s := S1024x768) ![896, 0] ![128, 768] inb_S1024x768_S128x768_896_0)) = Y
  pointwise [k0_pay7]

/-- The eight stores fill the result's eight slices with the accumulator's. -/
theorem pieces (d : Fin 8) (i : Fin 128) (e : Fin 768) :
    View.canon (Val := Elt Ideal) (s := S8x128x768) (e := .bf16) ([⟨Rect.unit (s := S8x128x768) ![7, 0, 0] ![1, 128, 768] inb_S8x128x768_S1x128x768_7_0_0, (k0_pay7 (View.ld (Val := Elt Ideal) (e' := .f32) Z (Rect.unit (s := S1024x768) ![896, 0] ![128, 768] inb_S1024x768_S128x768_896_0)))⟩, ⟨Rect.unit (s := S8x128x768) ![6, 0, 0] ![1, 128, 768] inb_S8x128x768_S1x128x768_6_0_0, (k0_pay6 (View.ld (Val := Elt Ideal) (e' := .f32) Z (Rect.unit (s := S1024x768) ![768, 0] ![128, 768] inb_S1024x768_S128x768_768_0)))⟩, ⟨Rect.unit (s := S8x128x768) ![5, 0, 0] ![1, 128, 768] inb_S8x128x768_S1x128x768_5_0_0, (k0_pay5 (k0_pay13 (View.ld (Val := Elt Ideal) (e' := .f32) Z (Rect.unit (s := S1024x768) ![640, 0] ![128, 768] inb_S1024x768_S128x768_640_0))))⟩, ⟨Rect.unit (s := S8x128x768) ![4, 0, 0] ![1, 128, 768] inb_S8x128x768_S1x128x768_4_0_0, (k0_pay12 (View.ld (Val := Elt Ideal) (e' := .f32) Z (Rect.unit (s := S1024x768) ![512, 0] ![128, 768] inb_S1024x768_S128x768_512_0)))⟩, ⟨Rect.unit (s := S8x128x768) ![3, 0, 0] ![1, 128, 768] inb_S8x128x768_S1x128x768_3_0_0, (k0_pay11 (View.ld (Val := Elt Ideal) (e' := .f32) Z (Rect.unit (s := S1024x768) ![384, 0] ![128, 768] inb_S1024x768_S128x768_384_0)))⟩, ⟨Rect.unit (s := S8x128x768) ![2, 0, 0] ![1, 128, 768] inb_S8x128x768_S1x128x768_2_0_0, (k0_pay10 (View.ld (Val := Elt Ideal) (e' := .f32) Z (Rect.unit (s := S1024x768) ![256, 0] ![128, 768] inb_S1024x768_S128x768_256_0)))⟩, ⟨Rect.unit (s := S8x128x768) ![1, 0, 0] ![1, 128, 768] inb_S8x128x768_S1x128x768_1_0_0, (k0_pay9 (View.ld (Val := Elt Ideal) (e' := .f32) Z (Rect.unit (s := S1024x768) ![128, 0] ![128, 768] inb_S1024x768_S128x768_128_0)))⟩, ⟨Rect.unit (s := S8x128x768) ![0, 0, 0] ![1, 128, 768] inb_S8x128x768_S1x128x768_0_0_0, (k0_pay8 (View.ld (Val := Elt Ideal) (e' := .f32) Z (Rect.unit (s := S1024x768) ![0, 0] ![128, 768] inb_S1024x768_S128x768_0_0)))⟩] : List (View.Piece (Elt Ideal) S8x128x768 .bf16)) (ix3 d i e) = Z (ix2 (pc d i) (e)) :=
  cn_all _ _ _ _ _ _ _ _ _ _ _ _ _ _ _ _ (fun d i e => Z (ix2 (pc d i) (e))) (st0 Z) (st1 Z) (st2 Z) (st3 Z) (st4 Z) (st5 Z) (st6 Z) (st7 Z) d i e
end Pieces

theorem out_C (c : Dev nD) (t : Fin cfg0.N) (h0 : ¬t.val % 16 = 0) (h1 : t.val % 16 = 15) (d : Fin 8) (i : Fin 128) (e : Fin 768) :
    (outsAt0 m c t.val t.isLt).1 (ix3 d i e) = (outsAt0 m c t.val t.isLt).2 (ix2 (pc d i) (e)) := by
  rw [acc_C m c t h0 h1, outsAt0_C m c t h0 h1]
  frame_out
  rw [read_unread_whole]
  simp only [rc_ld]
  exact pieces _ d i e

end Cert.Kernel17Ideal.Wp

end

end
-- ==== Proof.WpArr.lean ====
/- The array the launch of the gradient of the input weight at a pool layer leaves. -/
module

public import proofs.«01_k».proof.Proof.WpTile

@[expose] public section

set_option maxRecDepth 16384

noncomputable section

open Idealize.ShloMosaic Idealize.ShloMosaic.TcCoe Idealize.SL.Sem
open Idealize.ShloMosaic.Pipeline (Dat)

namespace Cert.Kernel17Ideal.Wp
open Cert.Kernel17Ideal Cert.Kernel17Ideal.Gen Cert.Slices

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ t.val < 16 :=
  (by decide +kernel : ∀ t : Fin grid0.N, _)
theorem idx0 (t : Fin cfg0.N) : win0_0.index t = ![t.val, 0] := (idx t).1
theorem idx1 (t : Fin cfg0.N) : win0_1.index t = ![t.val, 0] := (idx t).2.1
theorem idx2 (t : Fin cfg0.N) : win0_2.index t = ![t.val, 0] := (idx t).2.2.1
theorem lt16 (t : Fin cfg0.N) : t.val < 16 := (idx t).2.2.2

/-- The row of the whole array that row `r` of the tile of point `t` is. -/
def grow (t : Fin cfg0.N) (r : Fin 512) : Fin 8192 := ⟨t.val * 512 + r.val, by have := lt16 t; omega⟩

theorem sum_rows (f : Fin 8192 → EReal) : ∑ t : Fin cfg0.N, ∑ r : Fin 512, f (grow t r) = ∑ R : Fin 8192, f R := by
  rw [← Fintype.sum_prod_type' (fun (t : Fin cfg0.N) (r : Fin 512) => f (grow t r))]
  refine Fintype.sum_bijective (fun p : Fin cfg0.N × Fin 512 => grow p.1 p.2) ⟨fun p p' h => ?_, fun R => ?_⟩ _ _ fun _ => rfl
  · have h3 : p.1.val * 512 + p.2.val = p'.1.val * 512 + p'.2.val := congrArg Fin.val h
    exact Prod.ext (Fin.ext (by omega)) (Fin.ext (by omega))
  · have hN : R.val / 512 < cfg0.N := by show R.val / 512 < 16; omega
    exact ⟨(⟨R.val / 512, hN⟩, ⟨R.val % 512, by omega⟩), Fin.ext (by show R.val / 512 * 512 + R.val % 512 = R.val; omega)⟩

/-- The arguments of the call. -/
abbrev a0 (c : Dev nD) : S8192x1024.Idx → EReal := m ((c : Thread nD τ).loc main_arg0)
abbrev a2 (c : Dev nD) : S8192x512.Idx → EReal := m ((c : Thread nD τ).loc main_arg2)
abbrev a3 (c : Dev nD) : S8192x256.Idx → EReal := m ((c : Thread nD τ).loc main_arg3)

theorem V_v0 (c : Dev nD) (R : Fin 8192) (k : Fin 1024) : V m c main_v0 (ix2 R k) = a0 m c (ix2 R k) := by
  unfold V; simp only [hostOps0]
  after_results
  pointwise
theorem blk0 (c : Dev nD) (t : Fin cfg0.N) (r : Fin 512) (k : Fin 1024) : xb0 m c t (ix2 r k) = a0 m c (ix2 (grow t r) k) := by
  show iblk m c 0 t (ix2 r k) = _
  rw [← V_v0]
  unfold grow; blk_ext [iblk, idx0]

theorem V_v1 (c : Dev nD) (R : Fin 8192) (k : Fin 512) : V m c main_v1 (ix2 R k) = a2 m c (ix2 R k) := by
  unfold V; simp only [hostOps0]
  after_results
  pointwise
theorem blk1 (c : Dev nD) (t : Fin cfg0.N) (r : Fin 512) (k : Fin 512) : xb1 m c t (ix2 r k) = a2 m c (ix2 (grow t r) k) := by
  show iblk m c 1 t (ix2 r k) = _
  rw [← V_v1]
  unfold grow; blk_ext [iblk, idx1]

theorem V_v2 (c : Dev nD) (R : Fin 8192) (k : Fin 256) : V m c main_v2 (ix2 R k) = a3 m c (ix2 R k) := by
  unfold V; simp only [hostOps0]
  after_results
  pointwise
theorem blk2 (c : Dev nD) (t : Fin cfg0.N) (r : Fin 512) (k : Fin 256) : xb2 m c t (ix2 r k) = a3 m c (ix2 (grow t r) k) := by
  show iblk m c 2 t (ix2 r k) = _
  rw [← V_v2]
  unfold grow; blk_ext [iblk, idx2]

/-- The parts side by side. -/
def cat (b0 : (⟨2, ![8192, 512]⟩ : Shape).Idx → EReal) (b1 : (⟨2, ![8192, 256]⟩ : Shape).Idx → EReal) (R : Fin 8192) (i : Fin 768) : EReal := if h0 : i.val < 512 then b0 (ix2 R ⟨i.val - 0, by omega⟩) else b1 (ix2 R ⟨i.val - 512, by omega⟩)
theorem cat0 (b0 : (⟨2, ![8192, 512]⟩ : Shape).Idx → EReal) (b1 : (⟨2, ![8192, 256]⟩ : Shape).Idx → EReal) (R : Fin 8192) (i : Fin 768) (i' : Fin 512) (h : i.val = 0 + i'.val) : cat b0 b1 R i = b0 (ix2 R i') := by
  unfold cat
  rw [dif_pos (by omega)]
  exact congrArg (fun q => b0 (ix2 R q)) (Fin.ext (by show i.val - 0 = i'.val; omega))
theorem cat1 (b0 : (⟨2, ![8192, 512]⟩ : Shape).Idx → EReal) (b1 : (⟨2, ![8192, 256]⟩ : Shape).Idx → EReal) (R : Fin 8192) (i : Fin 768) (i' : Fin 256) (h : i.val = 512 + i'.val) : cat b0 b1 R i = b1 (ix2 R i') := by
  unfold cat
  rw [dif_neg (by omega)]; skip
  exact congrArg (fun q => b1 (ix2 R q)) (Fin.ext (by show i.val - 512 = i'.val; omega))
theorem parts (i : Fin 768) : (∃ i' : Fin 512, i.val = 0 + i'.val) ∨ (∃ i' : Fin 256, i.val = 512 + i'.val) := by
  by_cases h0 : i.val < 512
  · exact Or.inl ⟨⟨i.val - 0, by omega⟩, by show i.val = 0 + (i.val - 0); omega⟩
  exact Or.inr (⟨⟨i.val - 512, by omega⟩, by show i.val = 512 + (i.val - 512); omega⟩)

/-- What one tile of rows adds. -/
def part (c : Dev nD) (t : Fin cfg0.N) (i : Fin 1024) (j : Fin 768) : EReal := ∑ r : Fin 512, a0 m c (ix2 (grow t r) i) * cat (a2 m c) (a3 m c) (grow t r) j

theorem at_A (c : Dev nD) (t : Fin cfg0.N) (h0 : t.val % 16 = 0) (i : Fin 1024) (j : Fin 768) :
    (outsAt0 m c t.val t.isLt).2 (ix2 i j) = 0 + part m c t i j := by
  unfold part
  rcases parts j with ⟨i', h⟩ | ⟨i', h⟩
  · refine (at_A0 m c t h0 i i' j h).trans (congrArg _ (Finset.sum_congr rfl fun r _ => ?_))
    rw [cat0 _ _ _ j i' h, blk1, blk0]
  · refine (at_A1 m c t h0 i i' j h).trans (congrArg _ (Finset.sum_congr rfl fun r _ => ?_))
    rw [cat1 _ _ _ j i' h, blk2, blk0]
theorem at_B (c : Dev nD) (t : Fin cfg0.N) (h0 : ¬t.val % 16 = 0) (i : Fin 1024) (j : Fin 768) :
    (outsAt0 m c t.val t.isLt).2 (ix2 i j) = (outsAt0 m c (t.val - 1) (by omega)).2 (ix2 i j) + part m c t i j := by
  unfold part
  rcases parts j with ⟨i', h⟩ | ⟨i', h⟩
  · refine (at_B0 m c t h0 i i' j h).trans (congrArg _ (Finset.sum_congr rfl fun r _ => ?_))
    rw [cat0 _ _ _ j i' h, blk1, blk0]
  · refine (at_B1 m c t h0 i i' j h).trans (congrArg _ (Finset.sum_congr rfl fun r _ => ?_))
    rw [cat1 _ _ _ j i' h, blk2, blk0]

/-- The gradient. -/
def G (c : Dev nD) (i : Fin 1024) (j : Fin 768) : EReal := ∑ R : Fin 8192, a0 m c (ix2 R i) * cat (a2 m c) (a3 m c) R j

theorem arr (c : Dev nD) : (dats m 0 c).arrAt 3 cfg0.N = fun y => G m c (pc (y 0) (y 1)) (y 2) := by
  have hrun := Pipeline.eq_sum_fin_of_reset_step_apply_last (fun n h (p : Fin 1024 × Fin 768) => (outsAt0 m c n h).2 (ix2 p.1 p.2)) 16
    (fun _ => (0 : EReal)) (fun t p => part m c t p.1 p.2)
    (fun t h0 p => at_A m c t h0 p.1 p.2)
    (fun t h0 p => at_B m c t h0 p.1 p.2)
    (by decide) t0_15 rfl
  refine (dats m 0 c).arrAt_eq_of_after_last 3 t0_15 (by decide +kernel) _ fun y => ?_
  blk_simp
  rw [after0_3]
  obtain ⟨d, i, e, rfl⟩ : ∃ d i e, y = ix3 d i e := ⟨_, _, _, eq_ix3 y⟩
  refine (out_C m c t0_15 (by decide) (by decide) d i e).trans ?_
  have h := hrun (pc d i, e)
  refine h.trans ?_
  rw [zero_add]
  exact sum_rows (fun R => a0 m c (ix2 R (pc d i)) * cat (a2 m c) (a3 m c) R (e))

end Cert.Kernel17Ideal.Wp

end

end
-- ==== Proof.WipClaim.lean ====
/- The claim about the gradient of the input weight at a pool layer. -/
module

public import proofs.«01_k».proof.Proof.WpArr
public import proofs.«01_k».proof.Proof.Gen.Reference17Ideal.Read
public import proofs.«01_k».proof.Proof.PoolClaim

@[expose] public section

set_option maxRecDepth 16384

noncomputable section

open Idealize.ShloMosaic Idealize.ShloMosaic.TcCoe Idealize.SL.Sem
open Idealize.ShloMosaic.Pipeline (Dat)

namespace Cert.WipClaim
open Idealize.ShloMosaic Idealize.SL.Sem

section Run
open Cert.Reference17Ideal
/-- The reference's run, its results named by the stages of its reading. -/
theorem runR (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v12) = Read.val_main_v12 (F := Ideal) (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (Read.val_main_v12_eq _ _ _ ),
      (h c).2⟩)
    (Value.run (F := Ideal) m ρ)
end Run

/-- The reference ends with its arguments unchanged and every counter at zero. -/
theorem frameR : Cert.quiescent_Reference17Ideal (hReference17Ideal := Cert.Reference17Ideal.Gen.facts) := by
  intro m ρ _
  exact (θ_run Cert.Reference17Ideal.defs _ _).mono (fun r h => ⟨fun c => (h c).2, sem_eq_zero_of_no_sems (by decide) r.2⟩) (Cert.Reference17Ideal.Value.run (F := Ideal) m ρ)

section Eq
open Cert.Kernel17Ideal Cert.Kernel17Ideal.Gen Cert.Kernel17Ideal.Wp Idealize.ShloMosaic.TcCoe

theorem ref (x0 : S8192x1024.Idx → EReal) (x2 : S8192x512.Idx → EReal) (x3 : S8192x256.Idx → EReal) (d : Fin 8) (i : Fin 128) (e : Fin 768) :
    Cert.Reference17Ideal.Read.val_main_v12 (F := Ideal) x0 x2 x3 (ix3 d i e) = ∑ R : Fin 8192, x0 (ix2 R (pc d i)) * cat x2 x3 R (e) := by
  pointwise [Cert.Reference17Ideal.Read.val_main_v12, Cert.Reference17Ideal.Read.val_main_v11, Cert.Reference17Ideal.Read.val_main_v10, Cert.Reference17Ideal.Read.val_main_v9, Cert.Reference17Ideal.Read.val_main_v8, Cert.Reference17Ideal.Read.val_main_v7, Cert.Reference17Ideal.Read.val_main_v6, Cert.Reference17Ideal.Read.val_main_v5, Cert.Reference17Ideal.Read.val_main_v4, Cert.Reference17Ideal.Read.val_main_cst, Cert.Reference17Ideal.Read.val_main_cst_0]
  have hc : (⟨d.val * 128 + i.val, by omega⟩ : Fin 1024) = pc d i := rfl
  rw [← Finset.sum_add_distrib]
  refine Finset.sum_congr rfl fun R _ => ?_
  unfold cat
  by_cases h : e.val < 512
  · rw [dif_neg (by omega), dif_pos h, dif_pos h, zero_mul, zero_add, mul_comm]; rfl
  · rw [dif_pos ⟨by omega, by omega⟩, dif_neg h, dif_neg h, zero_mul, add_zero, mul_comm]; rfl

variable (m : (ℓ : Loc nD τ sig) → Buf (Elt Ideal) ℓ) (c : Dev nD)

theorem e0 : (dats m 0 c).arrAt 3 cfg0.N = Cert.Reference17Ideal.Read.val_main_v12 (F := Ideal) (a0 m c) (a2 m c) (a3 m c) := by
  rw [arr]
  funext y
  obtain ⟨d, i, e, rfl⟩ : ∃ d i e, y = ix3 d i e := ⟨_, _, _, eq_ix3 y⟩
  exact (ref _ _ _ d i e).symm
end Eq

/-- The launch and the reference, from memories that agree on the arguments. -/
theorem algebraic : Cert.algebraic_Kernel17Ideal_Reference17Ideal (hKernel17Ideal := Cert.Kernel17Ideal.Gen.facts) (hReference17Ideal := Cert.Reference17Ideal.Gen.facts) := by
  intro m g m' g' _ hag
  refine ⟨fun c => (Cert.Kernel17Ideal.Gen.dats m 0 c).arrAt 3 Cert.Kernel17Ideal.cfg0.N,
    Cert.Kernel17Ideal.Value.run_blocks m g, (θ_run Cert.Reference17Ideal.defs _ _).mono (fun r h c => ?_) (runR m' g')⟩
  obtain ⟨a0, a1, a2, a3⟩ := hag c
  obtain ⟨r0, rest⟩ := h c
  rw [a0, a2, a3] at r0
  exact ⟨r0.trans (e0 m c).symm, rest⟩

end Cert.WipClaim

end

end
-- ==== Proof.WsTile.lean ====
/- The accumulation of the gradient of the input weight at a stick-breaking layer over one tile of rows, and its stores. -/
module

public import proofs.«01_k».proof.Proof.Gen.Kernel18Ideal.Value
public import proofs.«01_k».proof.Proof.Slices

@[expose] public section

set_option maxRecDepth 16384

noncomputable section

open Idealize.ShloMosaic Idealize.ShloMosaic.TcCoe Idealize.SL.Sem
open Idealize.ShloMosaic.Pipeline (Dat)

namespace Cert.Kernel18Ideal.Ws
open Cert.Kernel18Ideal Cert.Kernel18Ideal.Gen Cert.Slices

variable (m : (ℓ : Loc nD τ sig) → Buf (Elt Ideal) ℓ)

def pc (d : Fin 8) (e : Fin 224) : Fin 1792 := ⟨d.val * 224 + e.val, by omega⟩

/-- The parts' rectangles. -/
abbrev r0 := Rect.unit (s := S1792x1024) ![0, 0] ![512, 1024] inb_S1792x1024_S512x1024_0_0
abbrev r1 := Rect.unit (s := S1792x1024) ![512, 0] ![512, 1024] inb_S1792x1024_S512x1024_512_0
abbrev r2 := Rect.unit (s := S1792x1024) ![1024, 0] ![512, 1024] inb_S1792x1024_S512x1024_1024_0
abbrev r3 := Rect.unit (s := S1792x1024) ![1536, 0] ![256, 1024] inb_S1792x1024_S256x1024_1536_0

theorem payF (i : Fin 1792) (j : Fin 1024) : k0_pay12 (F := Ideal) (ix2 i j) = 0 := by
  pointwise [k0_pay12]

theorem payP0 (x : Vec Ideal S512x512 .bf16) (y : Vec Ideal S512x1024 .f32) (z : Vec Ideal S512x1024 .bf16) (i : Fin 512) (j : Fin 1024) :
    k0_pay13 x y z (ix2 i j) = y (ix2 i j) + ∑ r : Fin 512, x (ix2 r i) * z (ix2 r j) := by
  pointwise [k0_pay13]

theorem payP1 (x : Vec Ideal S512x512 .bf16) (y : Vec Ideal S512x1024 .f32) (z : Vec Ideal S512x1024 .bf16) (i : Fin 512) (j : Fin 1024) :
    k0_pay14 x y z (ix2 i j) = y (ix2 i j) + ∑ r : Fin 512, x (ix2 r i) * z (ix2 r j) := by
  pointwise [k0_pay14]

theorem payP2 (x : Vec Ideal S512x512 .bf16) (y : Vec Ideal S512x1024 .f32) (z : Vec Ideal S512x1024 .bf16) (i : Fin 512) (j : Fin 1024) :
    k0_pay1 y (k0_pay15 x z) (ix2 i j) = y (ix2 i j) + ∑ r : Fin 512, x (ix2 r i) * z (ix2 r j) := by
  pointwise [k0_pay1, k0_pay15]

theorem payP3 (x : Vec Ideal S512x256 .bf16) (y : Vec Ideal S256x1024 .f32) (z : Vec Ideal S512x1024 .bf16) (i : Fin 256) (j : Fin 1024) :
    k0_pay2 x y z (ix2 i j) = y (ix2 i j) + ∑ r : Fin 512, x (ix2 r i) * z (ix2 r j) := by
  pointwise [k0_pay2]

theorem step0 (L : List (View.Piece (Elt Ideal) S1792x1024 .f32)) (P : S1792x1024.Idx → EReal) (x0 : Vec Ideal S512x512 .bf16) (x1 : Vec Ideal S512x512 .bf16) (x2 : Vec Ideal S512x512 .bf16) (x3 : Vec Ideal S512x256 .bf16) (z : Vec Ideal S512x1024 .bf16) (y0 : Vec Ideal S512x1024 .f32) (y1 : Vec Ideal S512x1024 .f32) (y2 : Vec Ideal S512x1024 .f32) (y3 : Vec Ideal S256x1024 .f32)
    (h0 : ∀ (i : Fin 512) (j : Fin 1024) (i' : Fin 1792), i'.val = 0 + i.val → y0 (ix2 i j) = P (ix2 i' j)) (i : Fin 512) (j : Fin 1024) (i' : Fin 1792) (hk : i'.val = 0 + i.val) :
    View.canon (Val := Elt Ideal) (s := S1792x1024) (e := .f32) (⟨r3, k0_pay2 x3 y3 z⟩ :: ⟨r2, k0_pay1 y2 (k0_pay15 x2 z)⟩ :: ⟨r1, k0_pay14 x1 y1 z⟩ :: ⟨r0, k0_pay13 x0 y0 z⟩ :: L) (ix2 i' j) = P (ix2 i' j) + ∑ r : Fin 512, x0 (ix2 r i) * z (ix2 r j) :=
  (a_miss _ _ _ i' j (Or.inl (by omega))).trans ((a_miss _ _ _ i' j (Or.inl (by omega))).trans ((a_miss _ _ _ i' j (Or.inl (by omega))).trans ((a_hit _ _ _ i j i' j hk (by omega)).trans ((payP0 _ _ _ i j).trans (by rw [h0 i j i' hk])))))

theorem step1 (L : List (View.Piece (Elt Ideal) S1792x1024 .f32)) (P : S1792x1024.Idx → EReal) (x0 : Vec Ideal S512x512 .bf16) (x1 : Vec Ideal S512x512 .bf16) (x2 : Vec Ideal S512x512 .bf16) (x3 : Vec Ideal S512x256 .bf16) (z : Vec Ideal S512x1024 .bf16) (y0 : Vec Ideal S512x1024 .f32) (y1 : Vec Ideal S512x1024 .f32) (y2 : Vec Ideal S512x1024 .f32) (y3 : Vec Ideal S256x1024 .f32)
    (h1 : ∀ (i : Fin 512) (j : Fin 1024) (i' : Fin 1792), i'.val = 512 + i.val → y1 (ix2 i j) = P (ix2 i' j)) (i : Fin 512) (j : Fin 1024) (i' : Fin 1792) (hk : i'.val = 512 + i.val) :
    View.canon (Val := Elt Ideal) (s := S1792x1024) (e := .f32) (⟨r3, k0_pay2 x3 y3 z⟩ :: ⟨r2, k0_pay1 y2 (k0_pay15 x2 z)⟩ :: ⟨r1, k0_pay14 x1 y1 z⟩ :: ⟨r0, k0_pay13 x0 y0 z⟩ :: L) (ix2 i' j) = P (ix2 i' j) + ∑ r : Fin 512, x1 (ix2 r i) * z (ix2 r j) :=
  (a_miss _ _ _ i' j (Or.inl (by omega))).trans ((a_miss _ _ _ i' j (Or.inl (by omega))).trans ((a_hit _ _ _ i j i' j hk (by omega)).trans ((payP1 _ _ _ i j).trans (by rw [h1 i j i' hk]))))

theorem step2 (L : List (View.Piece (Elt Ideal) S1792x1024 .f32)) (P : S1792x1024.Idx → EReal) (x0 : Vec Ideal S512x512 .bf16) (x1 : Vec Ideal S512x512 .bf16) (x2 : Vec Ideal S512x512 .bf16) (x3 : Vec Ideal S512x256 .bf16) (z : Vec Ideal S512x1024 .bf16) (y0 : Vec Ideal S512x1024 .f32) (y1 : Vec Ideal S512x1024 .f32) (y2 : Vec Ideal S512x1024 .f32) (y3 : Vec Ideal S256x1024 .f32)
    (h2 : ∀ (i : Fin 512) (j : Fin 1024) (i' : Fin 1792), i'.val = 1024 + i.val → y2 (ix2 i j) = P (ix2 i' j)) (i : Fin 512) (j : Fin 1024) (i' : Fin 1792) (hk : i'.val = 1024 + i.val) :
    View.canon (Val := Elt Ideal) (s := S1792x1024) (e := .f32) (⟨r3, k0_pay2 x3 y3 z⟩ :: ⟨r2, k0_pay1 y2 (k0_pay15 x2 z)⟩ :: ⟨r1, k0_pay14 x1 y1 z⟩ :: ⟨r0, k0_pay13 x0 y0 z⟩ :: L) (ix2 i' j) = P (ix2 i' j) + ∑ r : Fin 512, x2 (ix2 r i) * z (ix2 r j) :=
  (a_miss _ _ _ i' j (Or.inl (by omega))).trans ((a_hit _ _ _ i j i' j hk (by omega)).trans ((payP2 _ _ _ i j).trans (by rw [h2 i j i' hk])))

theorem step3 (L : List (View.Piece (Elt Ideal) S1792x1024 .f32)) (P : S1792x1024.Idx → EReal) (x0 : Vec Ideal S512x512 .bf16) (x1 : Vec Ideal S512x512 .bf16) (x2 : Vec Ideal S512x512 .bf16) (x3 : Vec Ideal S512x256 .bf16) (z : Vec Ideal S512x1024 .bf16) (y0 : Vec Ideal S512x1024 .f32) (y1 : Vec Ideal S512x1024 .f32) (y2 : Vec Ideal S512x1024 .f32) (y3 : Vec Ideal S256x1024 .f32)
    (h3 : ∀ (i : Fin 256) (j : Fin 1024) (i' : Fin 1792), i'.val = 1536 + i.val → y3 (ix2 i j) = P (ix2 i' j)) (i : Fin 256) (j : Fin 1024) (i' : Fin 1792) (hk : i'.val = 1536 + i.val) :
    View.canon (Val := Elt Ideal) (s := S1792x1024) (e := .f32) (⟨r3, k0_pay2 x3 y3 z⟩ :: ⟨r2, k0_pay1 y2 (k0_pay15 x2 z)⟩ :: ⟨r1, k0_pay14 x1 y1 z⟩ :: ⟨r0, k0_pay13 x0 y0 z⟩ :: L) (ix2 i' j) = P (ix2 i' j) + ∑ r : Fin 512, x3 (ix2 r i) * z (ix2 r j) :=
  (a_hit _ _ _ i j i' j hk (by omega)).trans ((payP3 _ _ _ i j).trans (by rw [h3 i j i' hk]))

/-- The blocks of a point. -/
abbrev xb0 (c : Dev nD) (t : Fin cfg0.N) : Vec Ideal S512x512 .bf16 := iblk m c 0 t
abbrev xb1 (c : Dev nD) (t : Fin cfg0.N) : Vec Ideal S512x512 .bf16 := iblk m c 1 t
abbrev xb2 (c : Dev nD) (t : Fin cfg0.N) : Vec Ideal S512x512 .bf16 := iblk m c 2 t
abbrev xb3 (c : Dev nD) (t : Fin cfg0.N) : Vec Ideal S512x256 .bf16 := iblk m c 3 t
abbrev xb4 (c : Dev nD) (t : Fin cfg0.N) : Vec Ideal S512x1024 .bf16 := iblk m c 4 t

theorem acc_A (c : Dev nD) (t : Fin cfg0.N) (h0 : t.val % 16 = 0) (h1 : ¬t.val % 16 = 15) :
    (outsAt0 m c t.val t.isLt).2 = View.canon (Val := Elt Ideal) (s := S1792x1024) (e := .f32) (⟨r3, k0_pay2 (xb3 m c t) (View.ld (Val := Elt Ideal) (e' := .f32) (View.canon (Val := Elt Ideal) (s := S1792x1024) (e := .f32) (⟨r2, k0_pay1 (View.ld (Val := Elt Ideal) (e' := .f32) (View.canon (Val := Elt Ideal) (s := S1792x1024) (e := .f32) (⟨r1, k0_pay14 (xb1 m c t) (View.ld (Val := Elt Ideal) (e' := .f32) (View.canon (Val := Elt Ideal) (s := S1792x1024) (e := .f32) (⟨r0, k0_pay13 (xb0 m c t) (View.ld (Val := Elt Ideal) (e' := .f32) (k0_pay12 (F := Ideal)) r0) (xb4 m c t)⟩ :: ⟨Rect.unit (s := S1792x1024) ![0, 0] ![1792, 1024] inb_S1792x1024_S1792x1024_0_0, k0_pay12 (F := Ideal)⟩ :: [])) r1) (xb4 m c t)⟩ :: ⟨r0, k0_pay13 (xb0 m c t) (View.ld (Val := Elt Ideal) (e' := .f32) (k0_pay12 (F := Ideal)) r0) (xb4 m c t)⟩ :: ⟨Rect.unit (s := S1792x1024) ![0, 0] ![1792, 1024] inb_S1792x1024_S1792x1024_0_0, k0_pay12 (F := Ideal)⟩ :: [])) r2) (k0_pay15 (xb2 m c t) (xb4 m c t))⟩ :: ⟨r1, k0_pay14 (xb1 m c t) (View.ld (Val := Elt Ideal) (e' := .f32) (View.canon (Val := Elt Ideal) (s := S1792x1024) (e := .f32) (⟨r0, k0_pay13 (xb0 m c t) (View.ld (Val := Elt Ideal) (e' := .f32) (k0_pay12 (F := Ideal)) r0) (xb4 m c t)⟩ :: ⟨Rect.unit (s := S1792x1024) ![0, 0] ![1792, 1024] inb_S1792x1024_S1792x1024_0_0, k0_pay12 (F := Ideal)⟩ :: [])) r1) (xb4 m c t)⟩ :: ⟨r0, k0_pay13 (xb0 m c t) (View.ld (Val := Elt Ideal) (e' := .f32) (k0_pay12 (F := Ideal)) r0) (xb4 m c t)⟩ :: ⟨Rect.unit (s := S1792x1024) ![0, 0] ![1792, 1024] inb_S1792x1024_S1792x1024_0_0, k0_pay12 (F := Ideal)⟩ :: [])) r3) (xb4 m c t)⟩ :: ⟨r2, k0_pay1 (View.ld (Val := Elt Ideal) (e' := .f32) (View.canon (Val := Elt Ideal) (s := S1792x1024) (e := .f32) (⟨r1, k0_pay14 (xb1 m c t) (View.ld (Val := Elt Ideal) (e' := .f32) (View.canon (Val := Elt Ideal) (s := S1792x1024) (e := .f32) (⟨r0, k0_pay13 (xb0 m c t) (View.ld (Val := Elt Ideal) (e' := .f32) (k0_pay12 (F := Ideal)) r0) (xb4 m c t)⟩ :: ⟨Rect.unit (s := S1792x1024) ![0, 0] ![1792, 1024] inb_S1792x1024_S1792x1024_0_0, k0_pay12 (F := Ideal)⟩ :: [])) r1) (xb4 m c t)⟩ :: ⟨r0, k0_pay13 (xb0 m c t) (View.ld (Val := Elt Ideal) (e' := .f32) (k0_pay12 (F := Ideal)) r0) (xb4 m c t)⟩ :: ⟨Rect.unit (s := S1792x1024) ![0, 0] ![1792, 1024] inb_S1792x1024_S1792x1024_0_0, k0_pay12 (F := Ideal)⟩ :: [])) r2) (k0_pay15 (xb2 m c t) (xb4 m c t))⟩ :: ⟨r1, k0_pay14 (xb1 m c t) (View.ld (Val := Elt Ideal) (e' := .f32) (View.canon (Val := Elt Ideal) (s := S1792x1024) (e := .f32) (⟨r0, k0_pay13 (xb0 m c t) (View.ld (Val := Elt Ideal) (e' := .f32) (k0_pay12 (F := Ideal)) r0) (xb4 m c t)⟩ :: ⟨Rect.unit (s := S1792x1024) ![0, 0] ![1792, 1024] inb_S1792x1024_S1792x1024_0_0, k0_pay12 (F := Ideal)⟩ :: [])) r1) (xb4 m c t)⟩ :: ⟨r0, k0_pay13 (xb0 m c t) (View.ld (Val := Elt Ideal) (e' := .f32) (k0_pay12 (F := Ideal)) r0) (xb4 m c t)⟩ :: ⟨Rect.unit (s := S1792x1024) ![0, 0] ![1792, 1024] inb_S1792x1024_S1792x1024_0_0, k0_pay12 (F := Ideal)⟩ :: []) := by
  rw [outsAt0_A m c t h0 h1]
  frame_out
  simp only [rc_ld, canon_all _ _]

theorem acc_B (c : Dev nD) (t : Fin cfg0.N) (h0 : ¬t.val % 16 = 0) (h1 : ¬t.val % 16 = 15) :
    (outsAt0 m c t.val t.isLt).2 = View.canon (Val := Elt Ideal) (s := S1792x1024) (e := .f32) (⟨r3, k0_pay2 (xb3 m c t) (View.ld (Val := Elt Ideal) (e' := .f32) (outsAt0 m c (t.val - 1) (by omega)).2 r3) (xb4 m c t)⟩ :: ⟨r2, k0_pay1 (View.ld (Val := Elt Ideal) (e' := .f32) (outsAt0 m c (t.val - 1) (by omega)).2 r2) (k0_pay15 (xb2 m c t) (xb4 m c t))⟩ :: ⟨r1, k0_pay14 (xb1 m c t) (View.ld (Val := Elt Ideal) (e' := .f32) (outsAt0 m c (t.val - 1) (by omega)).2 r1) (xb4 m c t)⟩ :: ⟨r0, k0_pay13 (xb0 m c t) (View.ld (Val := Elt Ideal) (e' := .f32) (outsAt0 m c (t.val - 1) (by omega)).2 r0) (xb4 m c t)⟩ :: []) := by
  rw [outsAt0_B m c t h0 h1]
  frame_out
  rw [read_unread_whole]

theorem acc_C (c : Dev nD) (t : Fin cfg0.N) (h0 : ¬t.val % 16 = 0) (h1 : t.val % 16 = 15) :
    (outsAt0 m c t.val t.isLt).2 = View.canon (Val := Elt Ideal) (s := S1792x1024) (e := .f32) (⟨r3, k0_pay2 (xb3 m c t) (View.ld (Val := Elt Ideal) (e' := .f32) (outsAt0 m c (t.val - 1) (by omega)).2 r3) (xb4 m c t)⟩ :: ⟨r2, k0_pay1 (View.ld (Val := Elt Ideal) (e' := .f32) (outsAt0 m c (t.val - 1) (by omega)).2 r2) (k0_pay15 (xb2 m c t) (xb4 m c t))⟩ :: ⟨r1, k0_pay14 (xb1 m c t) (View.ld (Val := Elt Ideal) (e' := .f32) (outsAt0 m c (t.val - 1) (by omega)).2 r1) (xb4 m c t)⟩ :: ⟨r0, k0_pay13 (xb0 m c t) (View.ld (Val := Elt Ideal) (e' := .f32) (outsAt0 m c (t.val - 1) (by omega)).2 r0) (xb4 m c t)⟩ :: []) := by
  rw [outsAt0_C m c t h0 h1]
  frame_out
  rw [read_unread_whole]

theorem acc_step (c : Dev nD) (t : Fin cfg0.N) (h0 : ¬t.val % 16 = 0) :
    (outsAt0 m c t.val t.isLt).2 = View.canon (Val := Elt Ideal) (s := S1792x1024) (e := .f32) (⟨r3, k0_pay2 (xb3 m c t) (View.ld (Val := Elt Ideal) (e' := .f32) (outsAt0 m c (t.val - 1) (by omega)).2 r3) (xb4 m c t)⟩ :: ⟨r2, k0_pay1 (View.ld (Val := Elt Ideal) (e' := .f32) (outsAt0 m c (t.val - 1) (by omega)).2 r2) (k0_pay15 (xb2 m c t) (xb4 m c t))⟩ :: ⟨r1, k0_pay14 (xb1 m c t) (View.ld (Val := Elt Ideal) (e' := .f32) (outsAt0 m c (t.val - 1) (by omega)).2 r1) (xb4 m c t)⟩ :: ⟨r0, k0_pay13 (xb0 m c t) (View.ld (Val := Elt Ideal) (e' := .f32) (outsAt0 m c (t.val - 1) (by omega)).2 r0) (xb4 m c t)⟩ :: []) := by
  by_cases h1 : t.val % 16 = 15
  · exact acc_C m c t h0 h1
  · exact acc_B m c t h0 h1

theorem at_A0 (c : Dev nD) (t : Fin cfg0.N) (h0 : t.val % 16 = 0) (i : Fin 512) (j : Fin 1024) (i' : Fin 1792) (hk : i'.val = 0 + i.val) :
    (outsAt0 m c t.val t.isLt).2 (ix2 i' j) = 0 + ∑ r : Fin 512, (xb0 m c t) (ix2 r i) * (xb4 m c t) (ix2 r j) := by
  rw [acc_A m c t h0 (by omega)]
  refine step0 _ (fun _ => 0) _ _ _ _ _  _ _ _ _  (fun i j i' hi => (ld_at _ _ i j i' j hi (by omega)).trans ?_) i j i' hk
  exact payF i' j

theorem at_B0 (c : Dev nD) (t : Fin cfg0.N) (h0 : ¬t.val % 16 = 0) (i : Fin 512) (j : Fin 1024) (i' : Fin 1792) (hk : i'.val = 0 + i.val) :
    (outsAt0 m c t.val t.isLt).2 (ix2 i' j) = (outsAt0 m c (t.val - 1) (by omega)).2 (ix2 i' j) + ∑ r : Fin 512, (xb0 m c t) (ix2 r i) * (xb4 m c t) (ix2 r j) := by
  rw [acc_step m c t h0]
  exact step0 [] (outsAt0 m c (t.val - 1) (by omega)).2 _ _ _ _ _  _ _ _ _  (fun i j i' hi => (ld_at _ _ i j i' j hi (by omega))) i j i' hk

theorem at_A1 (c : Dev nD) (t : Fin cfg0.N) (h0 : t.val % 16 = 0) (i : Fin 512) (j : Fin 1024) (i' : Fin 1792) (hk : i'.val = 512 + i.val) :
    (outsAt0 m c t.val t.isLt).2 (ix2 i' j) = 0 + ∑ r : Fin 512, (xb1 m c t) (ix2 r i) * (xb4 m c t) (ix2 r j) := by
  rw [acc_A m c t h0 (by omega)]
  refine step1 _ (fun _ => 0) _ _ _ _ _  _ _ _ _  (fun i j i' hi => (ld_at _ _ i j i' j hi (by omega)).trans ?_) i j i' hk
  exact (a_miss _ _ _ i' j (Or.inr (Or.inl (by omega)))).trans ((a_hit _ _ _ i' j i' j (by omega) (by omega)).trans (payF i' j))

theorem at_B1 (c : Dev nD) (t : Fin cfg0.N) (h0 : ¬t.val % 16 = 0) (i : Fin 512) (j : Fin 1024) (i' : Fin 1792) (hk : i'.val = 512 + i.val) :
    (outsAt0 m c t.val t.isLt).2 (ix2 i' j) = (outsAt0 m c (t.val - 1) (by omega)).2 (ix2 i' j) + ∑ r : Fin 512, (xb1 m c t) (ix2 r i) * (xb4 m c t) (ix2 r j) := by
  rw [acc_step m c t h0]
  exact step1 [] (outsAt0 m c (t.val - 1) (by omega)).2 _ _ _ _ _  _ _ _ _  (fun i j i' hi => (ld_at _ _ i j i' j hi (by omega))) i j i' hk

theorem at_A2 (c : Dev nD) (t : Fin cfg0.N) (h0 : t.val % 16 = 0) (i : Fin 512) (j : Fin 1024) (i' : Fin 1792) (hk : i'.val = 1024 + i.val) :
    (outsAt0 m c t.val t.isLt).2 (ix2 i' j) = 0 + ∑ r : Fin 512, (xb2 m c t) (ix2 r i) * (xb4 m c t) (ix2 r j) := by
  rw [acc_A m c t h0 (by omega)]
  refine step2 _ (fun _ => 0) _ _ _ _ _  _ _ _ _  (fun i j i' hi => (ld_at _ _ i j i' j hi (by omega)).trans ?_) i j i' hk
  exact (a_miss _ _ _ i' j (Or.inr (Or.inl (by omega)))).trans ((a_miss _ _ _ i' j (Or.inr (Or.inl (by omega)))).trans ((a_hit _ _ _ i' j i' j (by omega) (by omega)).trans (payF i' j)))

theorem at_B2 (c : Dev nD) (t : Fin cfg0.N) (h0 : ¬t.val % 16 = 0) (i : Fin 512) (j : Fin 1024) (i' : Fin 1792) (hk : i'.val = 1024 + i.val) :
    (outsAt0 m c t.val t.isLt).2 (ix2 i' j) = (outsAt0 m c (t.val - 1) (by omega)).2 (ix2 i' j) + ∑ r : Fin 512, (xb2 m c t) (ix2 r i) * (xb4 m c t) (ix2 r j) := by
  rw [acc_step m c t h0]
  exact step2 [] (outsAt0 m c (t.val - 1) (by omega)).2 _ _ _ _ _  _ _ _ _  (fun i j i' hi => (ld_at _ _ i j i' j hi (by omega))) i j i' hk

theorem at_A3 (c : Dev nD) (t : Fin cfg0.N) (h0 : t.val % 16 = 0) (i : Fin 256) (j : Fin 1024) (i' : Fin 1792) (hk : i'.val = 1536 + i.val) :
    (outsAt0 m c t.val t.isLt).2 (ix2 i' j) = 0 + ∑ r : Fin 512, (xb3 m c t) (ix2 r i) * (xb4 m c t) (ix2 r j) := by
  rw [acc_A m c t h0 (by omega)]
  refine step3 _ (fun _ => 0) _ _ _ _ _  _ _ _ _  (fun i j i' hi => (ld_at _ _ i j i' j hi (by omega)).trans ?_) i j i' hk
  exact (a_miss _ _ _ i' j (Or.inr (Or.inl (by omega)))).trans ((a_miss _ _ _ i' j (Or.inr (Or.inl (by omega)))).trans ((a_miss _ _ _ i' j (Or.inr (Or.inl (by omega)))).trans ((a_hit _ _ _ i' j i' j (by omega) (by omega)).trans (payF i' j))))

theorem at_B3 (c : Dev nD) (t : Fin cfg0.N) (h0 : ¬t.val % 16 = 0) (i : Fin 256) (j : Fin 1024) (i' : Fin 1792) (hk : i'.val = 1536 + i.val) :
    (outsAt0 m c t.val t.isLt).2 (ix2 i' j) = (outsAt0 m c (t.val - 1) (by omega)).2 (ix2 i' j) + ∑ r : Fin 512, (xb3 m c t) (ix2 r i) * (xb4 m c t) (ix2 r j) := by
  rw [acc_step m c t h0]
  exact step3 [] (outsAt0 m c (t.val - 1) (by omega)).2 _ _ _ _ _  _ _ _ _  (fun i j i' hi => (ld_at _ _ i j i' j hi (by omega))) i j i' hk

section Pieces
variable (Z : Vec Ideal S1792x1024 .f32)

theorem st0 (i : Fin 224) (e : Fin 1024) : (k0_pay6 (View.ld (Val := Elt Ideal) (e' := .f32) Z (Rect.unit (s := S1792x1024) ![0, 0] ![224, 1024] inb_S1792x1024_S224x1024_0_0))) (ix3 0 i e) = Z (ix2 (pc 0 i) (e)) := by
  refine Eq.trans ?_ (ld_at inb_S1792x1024_S224x1024_0_0 Z i e (pc 0 i) (e) rfl (by omega))
  generalize (View.ld (Val := Elt Ideal) (e' := .f32) Z (Rect.unit (s := S1792x1024) ![0, 0] ![224, 1024] inb_S1792x1024_S224x1024_0_0)) = Y
  pointwise [k0_pay6]

theorem st1 (i : Fin 224) (e : Fin 1024) : (k0_pay7 (View.ld (Val := Elt Ideal) (e' := .f32) Z (Rect.unit (s := S1792x1024) ![224, 0] ![224, 1024] inb_S1792x1024_S224x1024_224_0))) (ix3 0 i e) = Z (ix2 (pc 1 i) (e)) := by
  refine Eq.trans ?_ (ld_at inb_S1792x1024_S224x1024_224_0 Z i e (pc 1 i) (e) rfl (by omega))
  generalize (View.ld (Val := Elt Ideal) (e' := .f32) Z (Rect.unit (s := S1792x1024) ![224, 0] ![224, 1024] inb_S1792x1024_S224x1024_224_0)) = Y
  pointwise [k0_pay7]

theorem st2 (i : Fin 224) (e : Fin 1024) : (k0_pay8 (View.ld (Val := Elt Ideal) (e' := .f32) Z (Rect.unit (s := S1792x1024) ![448, 0] ![224, 1024] inb_S1792x1024_S224x1024_448_0))) (ix3 0 i e) = Z (ix2 (pc 2 i) (e)) := by
  refine Eq.trans ?_ (ld_at inb_S1792x1024_S224x1024_448_0 Z i e (pc 2 i) (e) rfl (by omega))
  generalize (View.ld (Val := Elt Ideal) (e' := .f32) Z (Rect.unit (s := S1792x1024) ![448, 0] ![224, 1024] inb_S1792x1024_S224x1024_448_0)) = Y
  pointwise [k0_pay8]

theorem st3 (i : Fin 224) (e : Fin 1024) : (k0_pay9 (View.ld (Val := Elt Ideal) (e' := .f32) Z (Rect.unit (s := S1792x1024) ![672, 0] ![224, 1024] inb_S1792x1024_S224x1024_672_0))) (ix3 0 i e) = Z (ix2 (pc 3 i) (e)) := by
  refine Eq.trans ?_ (ld_at inb_S1792x1024_S224x1024_672_0 Z i e (pc 3 i) (e) rfl (by omega))
  generalize (View.ld (Val := Elt Ideal) (e' := .f32) Z (Rect.unit (s := S1792x1024) ![672, 0] ![224, 1024] inb_S1792x1024_S224x1024_672_0)) = Y
  pointwise [k0_pay9]

theorem st4 (i : Fin 224) (e : Fin 1024) : (k0_pay10 (View.ld (Val := Elt Ideal) (e' := .f32) Z (Rect.unit (s := S1792x1024) ![896, 0] ![224, 1024] inb_S1792x1024_S224x1024_896_0))) (ix3 0 i e) = Z (ix2 (pc 4 i) (e)) := by
  refine Eq.trans ?_ (ld_at inb_S1792x1024_S224x1024_896_0 Z i e (pc 4 i) (e) rfl (by omega))
  generalize (View.ld (Val := Elt Ideal) (e' := .f32) Z (Rect.unit (s := S1792x1024) ![896, 0] ![224, 1024] inb_S1792x1024_S224x1024_896_0)) = Y
  pointwise [k0_pay10]

theorem st5 (i : Fin 224) (e : Fin 1024) : (k0_pay3 (k0_pay11 (View.ld (Val := Elt Ideal) (e' := .f32) Z (Rect.unit (s := S1792x1024) ![1120, 0] ![224, 1024] inb_S1792x1024_S224x1024_1120_0)))) (ix3 0 i e) = Z (ix2 (pc 5 i) (e)) := by
  refine Eq.trans ?_ (ld_at inb_S1792x1024_S224x1024_1120_0 Z i e (pc 5 i) (e) rfl (by omega))
  generalize (View.ld (Val := Elt Ideal) (e' := .f32) Z (Rect.unit (s := S1792x1024) ![1120, 0] ![224, 1024] inb_S1792x1024_S224x1024_1120_0)) = Y
  pointwise [k0_pay3, k0_pay11]

theorem st6 (i : Fin 224) (e : Fin 1024) : (k0_pay4 (View.ld (Val := Elt Ideal) (e' := .f32) Z (Rect.unit (s := S1792x1024) ![1344, 0] ![224, 1024] inb_S1792x1024_S224x1024_1344_0))) (ix3 0 i e) = Z (ix2 (pc 6 i) (e)) := by
  refine Eq.trans ?_ (ld_at inb_S1792x1024_S224x1024_1344_0 Z i e (pc 6 i) (e) rfl (by omega))
  generalize (View.ld (Val := Elt Ideal) (e' := .f32) Z (Rect.unit (s := S1792x1024) ![1344, 0] ![224, 1024] inb_S1792x1024_S224x1024_1344_0)) = Y
  pointwise [k0_pay4]

theorem st7 (i : Fin 224) (e : Fin 1024) : (k0_pay5 (View.ld (Val := Elt Ideal) (e' := .f32) Z (Rect.unit (s := S1792x1024) ![1568, 0] ![224, 1024] inb_S1792x1024_S224x1024_1568_0))) (ix3 0 i e) = Z (ix2 (pc 7 i) (e)) := by
  refine Eq.trans ?_ (ld_at inb_S1792x1024_S224x1024_1568_0 Z i e (pc 7 i) (e) rfl (by omega))
  generalize (View.ld (Val := Elt Ideal) (e' := .f32) Z (Rect.unit (s := S1792x1024) ![1568, 0] ![224, 1024] inb_S1792x1024_S224x1024_1568_0)) = Y
  pointwise [k0_pay5]

/-- The eight stores fill the result's eight slices with the accumulator's. -/
theorem pieces (d : Fin 8) (i : Fin 224) (e : Fin 1024) :
    View.canon (Val := Elt Ideal) (s := S8x224x1024) (e := .bf16) ([⟨Rect.unit (s := S8x224x1024) ![7, 0, 0] ![1, 224, 1024] inb_S8x224x1024_S1x224x1024_7_0_0, (k0_pay5 (View.ld (Val := Elt Ideal) (e' := .f32) Z (Rect.unit (s := S1792x1024) ![1568, 0] ![224, 1024] inb_S1792x1024_S224x1024_1568_0)))⟩, ⟨Rect.unit (s := S8x224x1024) ![6, 0, 0] ![1, 224, 1024] inb_S8x224x1024_S1x224x1024_6_0_0, (k0_pay4 (View.ld (Val := Elt Ideal) (e' := .f32) Z (Rect.unit (s := S1792x1024) ![1344, 0] ![224, 1024] inb_S1792x1024_S224x1024_1344_0)))⟩, ⟨Rect.unit (s := S8x224x1024) ![5, 0, 0] ![1, 224, 1024] inb_S8x224x1024_S1x224x1024_5_0_0, (k0_pay3 (k0_pay11 (View.ld (Val := Elt Ideal) (e' := .f32) Z (Rect.unit (s := S1792x1024) ![1120, 0] ![224, 1024] inb_S1792x1024_S224x1024_1120_0))))⟩, ⟨Rect.unit (s := S8x224x1024) ![4, 0, 0] ![1, 224, 1024] inb_S8x224x1024_S1x224x1024_4_0_0, (k0_pay10 (View.ld (Val := Elt Ideal) (e' := .f32) Z (Rect.unit (s := S1792x1024) ![896, 0] ![224, 1024] inb_S1792x1024_S224x1024_896_0)))⟩, ⟨Rect.unit (s := S8x224x1024) ![3, 0, 0] ![1, 224, 1024] inb_S8x224x1024_S1x224x1024_3_0_0, (k0_pay9 (View.ld (Val := Elt Ideal) (e' := .f32) Z (Rect.unit (s := S1792x1024) ![672, 0] ![224, 1024] inb_S1792x1024_S224x1024_672_0)))⟩, ⟨Rect.unit (s := S8x224x1024) ![2, 0, 0] ![1, 224, 1024] inb_S8x224x1024_S1x224x1024_2_0_0, (k0_pay8 (View.ld (Val := Elt Ideal) (e' := .f32) Z (Rect.unit (s := S1792x1024) ![448, 0] ![224, 1024] inb_S1792x1024_S224x1024_448_0)))⟩, ⟨Rect.unit (s := S8x224x1024) ![1, 0, 0] ![1, 224, 1024] inb_S8x224x1024_S1x224x1024_1_0_0, (k0_pay7 (View.ld (Val := Elt Ideal) (e' := .f32) Z (Rect.unit (s := S1792x1024) ![224, 0] ![224, 1024] inb_S1792x1024_S224x1024_224_0)))⟩, ⟨Rect.unit (s := S8x224x1024) ![0, 0, 0] ![1, 224, 1024] inb_S8x224x1024_S1x224x1024_0_0_0, (k0_pay6 (View.ld (Val := Elt Ideal) (e' := .f32) Z (Rect.unit (s := S1792x1024) ![0, 0] ![224, 1024] inb_S1792x1024_S224x1024_0_0)))⟩] : List (View.Piece (Elt Ideal) S8x224x1024 .bf16)) (ix3 d i e) = Z (ix2 (pc d i) (e)) :=
  cn_all _ _ _ _ _ _ _ _ _ _ _ _ _ _ _ _ (fun d i e => Z (ix2 (pc d i) (e))) (st0 Z) (st1 Z) (st2 Z) (st3 Z) (st4 Z) (st5 Z) (st6 Z) (st7 Z) d i e
end Pieces

theorem out_C (c : Dev nD) (t : Fin cfg0.N) (h0 : ¬t.val % 16 = 0) (h1 : t.val % 16 = 15) (d : Fin 8) (i : Fin 224) (e : Fin 1024) :
    (outsAt0 m c t.val t.isLt).1 (ix3 d i e) = (outsAt0 m c t.val t.isLt).2 (ix2 (pc d i) (e)) := by
  rw [acc_C m c t h0 h1, outsAt0_C m c t h0 h1]
  frame_out
  rw [read_unread_whole]
  simp only [rc_ld]
  exact pieces _ d i e

end Cert.Kernel18Ideal.Ws

end

end
-- ==== Proof.WsArr.lean ====
/- The array the launch of the gradient of the input weight at a stick-breaking layer leaves. -/
module

public import proofs.«01_k».proof.Proof.WsTile

@[expose] public section

set_option maxRecDepth 16384

noncomputable section

open Idealize.ShloMosaic Idealize.ShloMosaic.TcCoe Idealize.SL.Sem
open Idealize.ShloMosaic.Pipeline (Dat)

namespace Cert.Kernel18Ideal.Ws
open Cert.Kernel18Ideal Cert.Kernel18Ideal.Gen Cert.Slices

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ t.val < 16 :=
  (by decide +kernel : ∀ t : Fin grid0.N, _)
theorem idx0 (t : Fin cfg0.N) : win0_0.index t = ![t.val, 0] := (idx t).1
theorem idx1 (t : Fin cfg0.N) : win0_1.index t = ![t.val, 0] := (idx t).2.1
theorem idx2 (t : Fin cfg0.N) : win0_2.index t = ![t.val, 0] := (idx t).2.2.1
theorem idx3 (t : Fin cfg0.N) : win0_3.index t = ![t.val, 0] := (idx t).2.2.2.1
theorem idx4 (t : Fin cfg0.N) : win0_4.index t = ![t.val, 0] := (idx t).2.2.2.2.1
theorem lt16 (t : Fin cfg0.N) : t.val < 16 := (idx t).2.2.2.2.2

/-- The row of the whole array that row `r` of the tile of point `t` is. -/
def grow (t : Fin cfg0.N) (r : Fin 512) : Fin 8192 := ⟨t.val * 512 + r.val, by have := lt16 t; omega⟩

theorem sum_rows (f : Fin 8192 → EReal) : ∑ t : Fin cfg0.N, ∑ r : Fin 512, f (grow t r) = ∑ R : Fin 8192, f R := by
  rw [← Fintype.sum_prod_type' (fun (t : Fin cfg0.N) (r : Fin 512) => f (grow t r))]
  refine Fintype.sum_bijective (fun p : Fin cfg0.N × Fin 512 => grow p.1 p.2) ⟨fun p p' h => ?_, fun R => ?_⟩ _ _ fun _ => rfl
  · have h3 : p.1.val * 512 + p.2.val = p'.1.val * 512 + p'.2.val := congrArg Fin.val h
    exact Prod.ext (Fin.ext (by omega)) (Fin.ext (by omega))
  · have hN : R.val / 512 < cfg0.N := by show R.val / 512 < 16; omega
    exact ⟨(⟨R.val / 512, hN⟩, ⟨R.val % 512, by omega⟩), Fin.ext (by show R.val / 512 * 512 + R.val % 512 = R.val; omega)⟩

/-- The arguments of the call. -/
abbrev a2 (c : Dev nD) : S8192x512.Idx → EReal := m ((c : Thread nD τ).loc main_arg2)
abbrev a3 (c : Dev nD) : S8192x512.Idx → EReal := m ((c : Thread nD τ).loc main_arg3)
abbrev a4 (c : Dev nD) : S8192x512.Idx → EReal := m ((c : Thread nD τ).loc main_arg4)
abbrev a5 (c : Dev nD) : S8192x256.Idx → EReal := m ((c : Thread nD τ).loc main_arg5)
abbrev a0 (c : Dev nD) : S8192x1024.Idx → EReal := m ((c : Thread nD τ).loc main_arg0)

theorem V_v0 (c : Dev nD) (R : Fin 8192) (k : Fin 512) : V m c main_v0 (ix2 R k) = a2 m c (ix2 R k) := by
  unfold V; simp only [hostOps0]
  after_results
  pointwise
theorem blk0 (c : Dev nD) (t : Fin cfg0.N) (r : Fin 512) (k : Fin 512) : xb0 m c t (ix2 r k) = a2 m c (ix2 (grow t r) k) := by
  show iblk m c 0 t (ix2 r k) = _
  rw [← V_v0]
  unfold grow; blk_ext [iblk, idx0]

theorem V_v1 (c : Dev nD) (R : Fin 8192) (k : Fin 512) : V m c main_v1 (ix2 R k) = a3 m c (ix2 R k) := by
  unfold V; simp only [hostOps0]
  after_results
  pointwise
theorem blk1 (c : Dev nD) (t : Fin cfg0.N) (r : Fin 512) (k : Fin 512) : xb1 m c t (ix2 r k) = a3 m c (ix2 (grow t r) k) := by
  show iblk m c 1 t (ix2 r k) = _
  rw [← V_v1]
  unfold grow; blk_ext [iblk, idx1]

theorem V_v2 (c : Dev nD) (R : Fin 8192) (k : Fin 512) : V m c main_v2 (ix2 R k) = a4 m c (ix2 R k) := by
  unfold V; simp only [hostOps0]
  after_results
  pointwise
theorem blk2 (c : Dev nD) (t : Fin cfg0.N) (r : Fin 512) (k : Fin 512) : xb2 m c t (ix2 r k) = a4 m c (ix2 (grow t r) k) := by
  show iblk m c 2 t (ix2 r k) = _
  rw [← V_v2]
  unfold grow; blk_ext [iblk, idx2]

theorem V_v3 (c : Dev nD) (R : Fin 8192) (k : Fin 256) : V m c main_v3 (ix2 R k) = a5 m c (ix2 R k) := by
  unfold V; simp only [hostOps0]
  after_results
  pointwise
theorem blk3 (c : Dev nD) (t : Fin cfg0.N) (r : Fin 512) (k : Fin 256) : xb3 m c t (ix2 r k) = a5 m c (ix2 (grow t r) k) := by
  show iblk m c 3 t (ix2 r k) = _
  rw [← V_v3]
  unfold grow; blk_ext [iblk, idx3]

theorem V_v4 (c : Dev nD) (R : Fin 8192) (k : Fin 1024) : V m c main_v4 (ix2 R k) = a0 m c (ix2 R k) := by
  unfold V; simp only [hostOps0]
  after_results
  pointwise
theorem blk4 (c : Dev nD) (t : Fin cfg0.N) (r : Fin 512) (k : Fin 1024) : xb4 m c t (ix2 r k) = a0 m c (ix2 (grow t r) k) := by
  show iblk m c 4 t (ix2 r k) = _
  rw [← V_v4]
  unfold grow; blk_ext [iblk, idx4]

/-- The parts side by side. -/
def cat (b0 : (⟨2, ![8192, 512]⟩ : Shape).Idx → EReal) (b1 : (⟨2, ![8192, 512]⟩ : Shape).Idx → EReal) (b2 : (⟨2, ![8192, 512]⟩ : Shape).Idx → EReal) (b3 : (⟨2, ![8192, 256]⟩ : Shape).Idx → EReal) (R : Fin 8192) (i : Fin 1792) : EReal := if h0 : i.val < 512 then b0 (ix2 R ⟨i.val - 0, by omega⟩) else if h1 : i.val < 1024 then b1 (ix2 R ⟨i.val - 512, by omega⟩) else if h2 : i.val < 1536 then b2 (ix2 R ⟨i.val - 1024, by omega⟩) else b3 (ix2 R ⟨i.val - 1536, by omega⟩)
theorem cat0 (b0 : (⟨2, ![8192, 512]⟩ : Shape).Idx → EReal) (b1 : (⟨2, ![8192, 512]⟩ : Shape).Idx → EReal) (b2 : (⟨2, ![8192, 512]⟩ : Shape).Idx → EReal) (b3 : (⟨2, ![8192, 256]⟩ : Shape).Idx → EReal) (R : Fin 8192) (i : Fin 1792) (i' : Fin 512) (h : i.val = 0 + i'.val) : cat b0 b1 b2 b3 R i = b0 (ix2 R i') := by
  unfold cat
  rw [dif_pos (by omega)]
  exact congrArg (fun q => b0 (ix2 R q)) (Fin.ext (by show i.val - 0 = i'.val; omega))
theorem cat1 (b0 : (⟨2, ![8192, 512]⟩ : Shape).Idx → EReal) (b1 : (⟨2, ![8192, 512]⟩ : Shape).Idx → EReal) (b2 : (⟨2, ![8192, 512]⟩ : Shape).Idx → EReal) (b3 : (⟨2, ![8192, 256]⟩ : Shape).Idx → EReal) (R : Fin 8192) (i : Fin 1792) (i' : Fin 512) (h : i.val = 512 + i'.val) : cat b0 b1 b2 b3 R i = b1 (ix2 R i') := by
  unfold cat
  rw [dif_neg (by omega)]; rw [dif_pos (by omega)]
  exact congrArg (fun q => b1 (ix2 R q)) (Fin.ext (by show i.val - 512 = i'.val; omega))
theorem cat2 (b0 : (⟨2, ![8192, 512]⟩ : Shape).Idx → EReal) (b1 : (⟨2, ![8192, 512]⟩ : Shape).Idx → EReal) (b2 : (⟨2, ![8192, 512]⟩ : Shape).Idx → EReal) (b3 : (⟨2, ![8192, 256]⟩ : Shape).Idx → EReal) (R : Fin 8192) (i : Fin 1792) (i' : Fin 512) (h : i.val = 1024 + i'.val) : cat b0 b1 b2 b3 R i = b2 (ix2 R i') := by
  unfold cat
  rw [dif_neg (by omega)]; rw [dif_neg (by omega)]; rw [dif_pos (by omega)]
  exact congrArg (fun q => b2 (ix2 R q)) (Fin.ext (by show i.val - 1024 = i'.val; omega))
theorem cat3 (b0 : (⟨2, ![8192, 512]⟩ : Shape).Idx → EReal) (b1 : (⟨2, ![8192, 512]⟩ : Shape).Idx → EReal) (b2 : (⟨2, ![8192, 512]⟩ : Shape).Idx → EReal) (b3 : (⟨2, ![8192, 256]⟩ : Shape).Idx → EReal) (R : Fin 8192) (i : Fin 1792) (i' : Fin 256) (h : i.val = 1536 + i'.val) : cat b0 b1 b2 b3 R i = b3 (ix2 R i') := by
  unfold cat
  rw [dif_neg (by omega)]; rw [dif_neg (by omega)]; rw [dif_neg (by omega)]; skip
  exact congrArg (fun q => b3 (ix2 R q)) (Fin.ext (by show i.val - 1536 = i'.val; omega))
theorem parts (i : Fin 1792) : (∃ i' : Fin 512, i.val = 0 + i'.val) ∨ (∃ i' : Fin 512, i.val = 512 + i'.val) ∨ (∃ i' : Fin 512, i.val = 1024 + i'.val) ∨ (∃ i' : Fin 256, i.val = 1536 + i'.val) := by
  by_cases h0 : i.val < 512
  · exact Or.inl ⟨⟨i.val - 0, by omega⟩, by show i.val = 0 + (i.val - 0); omega⟩
  by_cases h1 : i.val < 1024
  · exact Or.inr (Or.inl ⟨⟨i.val - 512, by omega⟩, by show i.val = 512 + (i.val - 512); omega⟩)
  by_cases h2 : i.val < 1536
  · exact Or.inr (Or.inr (Or.inl ⟨⟨i.val - 1024, by omega⟩, by show i.val = 1024 + (i.val - 1024); omega⟩))
  exact Or.inr (Or.inr (Or.inr (⟨⟨i.val - 1536, by omega⟩, by show i.val = 1536 + (i.val - 1536); omega⟩)))

/-- What one tile of rows adds. -/
def part (c : Dev nD) (t : Fin cfg0.N) (i : Fin 1792) (j : Fin 1024) : EReal := ∑ r : Fin 512, cat (a2 m c) (a3 m c) (a4 m c) (a5 m c) (grow t r) i * a0 m c (ix2 (grow t r) j)

theorem at_A (c : Dev nD) (t : Fin cfg0.N) (h0 : t.val % 16 = 0) (i : Fin 1792) (j : Fin 1024) :
    (outsAt0 m c t.val t.isLt).2 (ix2 i j) = 0 + part m c t i j := by
  unfold part
  rcases parts i with ⟨i', h⟩ | ⟨i', h⟩ | ⟨i', h⟩ | ⟨i', h⟩
  · refine (at_A0 m c t h0 i' j i h).trans (congrArg _ (Finset.sum_congr rfl fun r _ => ?_))
    rw [cat0 _ _ _ _ _ i i' h, blk0, blk4]
  · refine (at_A1 m c t h0 i' j i h).trans (congrArg _ (Finset.sum_congr rfl fun r _ => ?_))
    rw [cat1 _ _ _ _ _ i i' h, blk1, blk4]
  · refine (at_A2 m c t h0 i' j i h).trans (congrArg _ (Finset.sum_congr rfl fun r _ => ?_))
    rw [cat2 _ _ _ _ _ i i' h, blk2, blk4]
  · refine (at_A3 m c t h0 i' j i h).trans (congrArg _ (Finset.sum_congr rfl fun r _ => ?_))
    rw [cat3 _ _ _ _ _ i i' h, blk3, blk4]
theorem at_B (c : Dev nD) (t : Fin cfg0.N) (h0 : ¬t.val % 16 = 0) (i : Fin 1792) (j : Fin 1024) :
    (outsAt0 m c t.val t.isLt).2 (ix2 i j) = (outsAt0 m c (t.val - 1) (by omega)).2 (ix2 i j) + part m c t i j := by
  unfold part
  rcases parts i with ⟨i', h⟩ | ⟨i', h⟩ | ⟨i', h⟩ | ⟨i', h⟩
  · refine (at_B0 m c t h0 i' j i h).trans (congrArg _ (Finset.sum_congr rfl fun r _ => ?_))
    rw [cat0 _ _ _ _ _ i i' h, blk0, blk4]
  · refine (at_B1 m c t h0 i' j i h).trans (congrArg _ (Finset.sum_congr rfl fun r _ => ?_))
    rw [cat1 _ _ _ _ _ i i' h, blk1, blk4]
  · refine (at_B2 m c t h0 i' j i h).trans (congrArg _ (Finset.sum_congr rfl fun r _ => ?_))
    rw [cat2 _ _ _ _ _ i i' h, blk2, blk4]
  · refine (at_B3 m c t h0 i' j i h).trans (congrArg _ (Finset.sum_congr rfl fun r _ => ?_))
    rw [cat3 _ _ _ _ _ i i' h, blk3, blk4]

/-- The gradient. -/
def G (c : Dev nD) (i : Fin 1792) (j : Fin 1024) : EReal := ∑ R : Fin 8192, cat (a2 m c) (a3 m c) (a4 m c) (a5 m c) R i * a0 m c (ix2 R j)

theorem arr (c : Dev nD) : (dats m 0 c).arrAt 5 cfg0.N = fun y => G m c (pc (y 0) (y 1)) (y 2) := by
  have hrun := Pipeline.eq_sum_fin_of_reset_step_apply_last (fun n h (p : Fin 1792 × Fin 1024) => (outsAt0 m c n h).2 (ix2 p.1 p.2)) 16
    (fun _ => (0 : EReal)) (fun t p => part m c t p.1 p.2)
    (fun t h0 p => at_A m c t h0 p.1 p.2)
    (fun t h0 p => at_B m c t h0 p.1 p.2)
    (by decide) t0_15 rfl
  refine (dats m 0 c).arrAt_eq_of_after_last 5 t0_15 (by decide +kernel) _ fun y => ?_
  blk_simp
  rw [after0_5]
  obtain ⟨d, i, e, rfl⟩ : ∃ d i e, y = ix3 d i e := ⟨_, _, _, eq_ix3 y⟩
  refine (out_C m c t0_15 (by decide) (by decide) d i e).trans ?_
  have h := hrun (pc d i, e)
  refine h.trans ?_
  rw [zero_add]
  exact sum_rows (fun R => cat (a2 m c) (a3 m c) (a4 m c) (a5 m c) R (pc d i) * a0 m c (ix2 R (e)))

end Cert.Kernel18Ideal.Ws

end

end
-- ==== Proof.WisClaim.lean ====
/- The claim about the gradient of the input weight at a stick-breaking layer. -/
module

public import proofs.«01_k».proof.Proof.WsArr
public import proofs.«01_k».proof.Proof.Gen.Reference18Ideal.Read
public import proofs.«01_k».proof.Proof.PoolClaim

@[expose] public section

set_option maxRecDepth 16384

noncomputable section

open Idealize.ShloMosaic Idealize.ShloMosaic.TcCoe Idealize.SL.Sem
open Idealize.ShloMosaic.Pipeline (Dat)

namespace Cert.WisClaim
open Idealize.ShloMosaic Idealize.SL.Sem

section Run
open Cert.Reference18Ideal
/-- The reference's run, its results named by the stages of its reading. -/
theorem runR (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v16) = Read.val_main_v16 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (Read.val_main_v16_eq _ _ _ _ _ ),
      (h c).2⟩)
    (Value.run (F := Ideal) m ρ)
end Run

/-- The reference ends with its arguments unchanged and every counter at zero. -/
theorem frameR : Cert.quiescent_Reference18Ideal (hReference18Ideal := Cert.Reference18Ideal.Gen.facts) := by
  intro m ρ _
  exact (θ_run Cert.Reference18Ideal.defs _ _).mono (fun r h => ⟨fun c => (h c).2, sem_eq_zero_of_no_sems (by decide) r.2⟩) (Cert.Reference18Ideal.Value.run (F := Ideal) m ρ)

section Eq
open Cert.Kernel18Ideal Cert.Kernel18Ideal.Gen Cert.Kernel18Ideal.Ws Idealize.ShloMosaic.TcCoe

/-- Four padded parts added are the parts side by side. -/
theorem four (k : ℕ) (p : k < 512 → EReal) (q : 512 ≤ k ∧ k - 512 < 512 → EReal) (r : 1024 ≤ k ∧ k - 1024 < 512 → EReal)
    (s : 1536 ≤ k ∧ k - 1536 < 256 → EReal) (hk : k < 1792) :
    (((if h : 1536 ≤ k ∧ k - 1536 < 256 then s h else 0) + (if h : 1024 ≤ k ∧ k - 1024 < 512 then r h else 0)) +
      (if h : 512 ≤ k ∧ k - 512 < 512 then q h else 0)) + (if h : k < 512 then p h else 0) =
    if h0 : k < 512 then p h0 else if h1 : k < 1024 then q ⟨by omega, by omega⟩ else
      if h2 : k < 1536 then r ⟨by omega, by omega⟩ else s ⟨by omega, by omega⟩ := by
  by_cases h0 : k < 512
  · have a : ¬(512 ≤ k ∧ k - 512 < 512) := by omega
    have b : ¬(1024 ≤ k ∧ k - 1024 < 512) := by omega
    have c : ¬(1536 ≤ k ∧ k - 1536 < 256) := by omega
    simp only [dif_pos h0, dif_neg a, dif_neg b, dif_neg c, zero_add]
  by_cases h1 : k < 1024
  · have a : 512 ≤ k ∧ k - 512 < 512 := by omega
    have b : ¬(1024 ≤ k ∧ k - 1024 < 512) := by omega
    have c : ¬(1536 ≤ k ∧ k - 1536 < 256) := by omega
    simp only [dif_neg h0, dif_pos h1, dif_pos a, dif_neg b, dif_neg c, zero_add, add_zero]
  by_cases h2 : k < 1536
  · have a : ¬(512 ≤ k ∧ k - 512 < 512) := by omega
    have b : 1024 ≤ k ∧ k - 1024 < 512 := by omega
    have c : ¬(1536 ≤ k ∧ k - 1536 < 256) := by omega
    simp only [dif_neg h0, dif_neg h1, dif_pos h2, dif_neg a, dif_pos b, dif_neg c, zero_add, add_zero]
  · have a : ¬(512 ≤ k ∧ k - 512 < 512) := by omega
    have b : ¬(1024 ≤ k ∧ k - 1024 < 512) := by omega
    have c : 1536 ≤ k ∧ k - 1536 < 256 := by omega
    simp only [dif_neg h0, dif_neg h1, dif_neg h2, dif_neg a, dif_neg b, dif_pos c, add_zero]

theorem ref (x0 : S8192x1024.Idx → EReal) (x2 : S8192x512.Idx → EReal) (x3 : S8192x512.Idx → EReal) (x4 : S8192x512.Idx → EReal) (x5 : S8192x256.Idx → EReal) (d : Fin 8) (i : Fin 224) (e : Fin 1024) :
    Cert.Reference18Ideal.Read.val_main_v16 (F := Ideal) x0 x2 x3 x4 x5 (ix3 d i e) = ∑ R : Fin 8192, cat x2 x3 x4 x5 R (pc d i) * x0 (ix2 R (e)) := by
  pointwise [Cert.Reference18Ideal.Read.val_main_v16, Cert.Reference18Ideal.Read.val_main_v15, Cert.Reference18Ideal.Read.val_main_v14, Cert.Reference18Ideal.Read.val_main_v13, Cert.Reference18Ideal.Read.val_main_v12, Cert.Reference18Ideal.Read.val_main_v11, Cert.Reference18Ideal.Read.val_main_v10, Cert.Reference18Ideal.Read.val_main_v9, Cert.Reference18Ideal.Read.val_main_v8, Cert.Reference18Ideal.Read.val_main_v7, Cert.Reference18Ideal.Read.val_main_v6, Cert.Reference18Ideal.Read.val_main_v5, Cert.Reference18Ideal.Read.val_main_cst, Cert.Reference18Ideal.Read.val_main_cst_0, Cert.Reference18Ideal.Read.val_main_cst_1, Cert.Reference18Ideal.Read.val_main_cst_2]
  have hc : (⟨d.val * 224 + i.val, by omega⟩ : Fin 1792) = pc d i := rfl
  exact Finset.sum_congr rfl fun R _ => congrArg (· * _) (four (d.val * 224 + i.val) (fun h => x2 (ix2 R ⟨_, h⟩))
    (fun h => x3 (ix2 R ⟨_, h.2⟩)) (fun h => x4 (ix2 R ⟨_, h.2⟩)) (fun h => x5 (ix2 R ⟨_, h.2⟩)) (by omega))

variable (m : (ℓ : Loc nD τ sig) → Buf (Elt Ideal) ℓ) (c : Dev nD)

theorem e0 : (dats m 0 c).arrAt 5 cfg0.N = Cert.Reference18Ideal.Read.val_main_v16 (F := Ideal) (a0 m c) (a2 m c) (a3 m c) (a4 m c) (a5 m c) := by
  rw [arr]
  funext y
  obtain ⟨d, i, e, rfl⟩ : ∃ d i e, y = ix3 d i e := ⟨_, _, _, eq_ix3 y⟩
  exact (ref _ _ _ _ _ d i e).symm
end Eq

/-- The launch and the reference, from memories that agree on the arguments. -/
theorem algebraic : Cert.algebraic_Kernel18Ideal_Reference18Ideal (hKernel18Ideal := Cert.Kernel18Ideal.Gen.facts) (hReference18Ideal := Cert.Reference18Ideal.Gen.facts) := by
  intro m g m' g' _ hag
  refine ⟨fun c => (Cert.Kernel18Ideal.Gen.dats m 0 c).arrAt 5 Cert.Kernel18Ideal.cfg0.N,
    Cert.Kernel18Ideal.Value.run_blocks m g, (θ_run Cert.Reference18Ideal.defs _ _).mono (fun r h c => ?_) (runR m' g')⟩
  obtain ⟨a0, a1, a2, a3, a4, a5⟩ := hag c
  obtain ⟨r0, rest⟩ := h c
  rw [a0, a2, a3, a4, a5] at r0
  exact ⟨r0.trans (e0 m c).symm, rest⟩

end Cert.WisClaim

end

end
-- ==== Proof.Att.lean ====
/- Attention over the memory, one row of queries at a time. -/
module

public import proofs.«01_k».proof.Proof.FfSpec

@[expose] public section

set_option maxRecDepth 16384

noncomputable section

open Idealize.ShloMosaic Idealize.ShloMosaic.TcCoe Idealize.SL.Sem
open Idealize.ShloMosaic.Pipeline (Dat)

namespace Cert.Att
open Cert.FfSpec

/-- Lane `d` of head `e`, and the head of a lane. -/
def col (e : Fin 4) (d : Fin 64) : Fin 256 := ⟨e.val * 64 + d.val, by omega⟩
def hd (c : Fin 256) : Fin 4 := ⟨c.val / 64, by omega⟩
/-- The scores of one head, their softmax, and the attention's output at a lane. -/
def sc (q : Fin 256 → EReal) (K : Fin 256 → Fin 256 → EReal) (e : Fin 4) (l : Fin 256) : EReal := (∑ d : Fin 64, q (col e d) * K l (col e d)) * lit 0x3E000000#32
def mx (s : Fin 256 → EReal) : EReal := Finset.fold max (lit 0xFF800000#32) s Finset.univ
def pr (s : Fin 256 → EReal) (l : Fin 256) : EReal := Ideal.div (Ideal.exp (s l - mx s)) (∑ l', Ideal.exp (s l' - mx s))
def att (q : Fin 256 → EReal) (K V : Fin 256 → Fin 256 → EReal) (c : Fin 256) : EReal := ∑ l, pr (sc q K (hd c)) l * V l c

/-- A sum over the lanes of one head. -/
theorem sum_head (e : Fin 4) (f : Fin 256 → EReal) : (∑ c, if hd c = e then f c else 0) = ∑ d : Fin 64, f (col e d) := by
  rw [← Finset.sum_filter]
  refine (Finset.sum_bij' (fun d _ => col e d) (fun c _ => (⟨c.val % 64, by omega⟩ : Fin 64)) ?_ ?_ ?_ ?_ ?_).symm
  · intro d _
    refine Finset.mem_filter.2 ⟨Finset.mem_univ _, Fin.ext ?_⟩
    show (e.val * 64 + d.val) / 64 = e.val
    omega
  · intro c _
    exact Finset.mem_univ _
  · intro d _
    exact Fin.ext (by show (e.val * 64 + d.val) % 64 = d.val; omega)
  · intro c hc
    have h : c.val / 64 = e.val := congrArg Fin.val (Finset.mem_filter.1 hc).2
    exact Fin.ext (by show e.val * 64 + c.val % 64 = c.val; omega)
  · intro d _
    rfl
theorem sum_mask (e : Fin 4) (q k : Fin 256 → EReal) : (∑ c, (if hd c = e then q c else 0) * k c) = ∑ d : Fin 64, q (col e d) * k (col e d) := by
  rw [← sum_head e (fun c => q c * k c)]
  refine Finset.sum_congr rfl fun c _ => ?_
  by_cases h : hd c = e
  · rw [if_pos h, if_pos h]
  · rw [if_neg h, if_neg h, zero_mul]
/-- A mask of one head, and the sum over the heads of what the masks let through. -/
theorem sel {α : Type} (e : Fin 4) (c : Fin 256) (a b : α) : Scalar.select (if hd c = e then 1#1 else 0#1) a b = if hd c = e then a else b := by
  by_cases h : hd c = e
  · rw [if_pos h, if_pos h]; rfl
  · rw [if_neg h, if_neg h]; rfl
theorem own (e : Fin 4) (f : Fin 4 → EReal) :
    (if e = 0 then f 0 else 0) + (if e = 1 then f 1 else 0) + (if e = 2 then f 2 else 0) + (if e = 3 then f 3 else 0) = f e := by
  fin_cases e <;> simp
theorem max_mx (s : Fin 256 → EReal) : max (lit 0xFF800000#32) (mx s) = mx s :=
  max_eq_right ((Finset.le_fold_max (lit 0xFF800000#32)).2 (Or.inl le_rfl))
/-- Four blocks of rows, one under the other. -/
def stk (f : Fin 4 → Fin 512 → EReal) (i : Fin 2048) : EReal :=
  if h : i.val < 512 then f 0 ⟨i.val, h⟩ else if h : i.val - 512 < 512 then f 1 ⟨i.val - 512, h⟩
    else if h : i.val - 512 - 512 < 512 then f 2 ⟨i.val - 512 - 512, h⟩ else f 3 ⟨i.val - 512 - 512 - 512, by omega⟩
theorem stk_at (f : Fin 4 → Fin 512 → EReal) (i : Fin 2048) (e : Fin 4) (r : Fin 512) (hi : i.val = e.val * 512 + r.val) : stk f i = f e r := by
  unfold stk
  match e, hi with
  | 0, hi =>
    have hi : i.val = 0 * 512 + r.val := hi
    rw [dif_pos (by omega)]
    exact congrArg (f 0) (Fin.ext (by show i.val = r.val; omega))
  | 1, hi =>
    have hi : i.val = 1 * 512 + r.val := hi
    rw [dif_neg (by omega), dif_pos (by omega)]
    exact congrArg (f 1) (Fin.ext (by show i.val - 512 = r.val; omega))
  | 2, hi =>
    have hi : i.val = 2 * 512 + r.val := hi
    rw [dif_neg (by omega), dif_neg (by omega), dif_pos (by omega)]
    exact congrArg (f 2) (Fin.ext (by show i.val - 512 - 512 = r.val; omega))
  | 3, hi =>
    have hi : i.val = 3 * 512 + r.val := hi
    rw [dif_neg (by omega), dif_neg (by omega), dif_neg (by omega)]
    exact congrArg (f 3) (Fin.ext (by show i.val - 512 - 512 - 512 = r.val; omega))
/-- The largest element along the last axis. -/
theorem lift4 {a b c n : Nat} (h : (⟨4, ![a, b, c, n]⟩ : Shape).Reduces [3] (⟨3, ![a, b, c]⟩ : Shape)) (i : Fin a) (j : Fin b) (k : Fin c)
    (l : Fin ((⟨4, ![a, b, c, n]⟩ : Shape).size 3)) : h.lift (ix3 i j k) l = ix4 i j k (⟨l.val, l.isLt⟩ : Fin n) := by
  funext x; apply Fin.ext
  fin_cases x <;> rfl
theorem max4 {a b c : Nat} (x : (⟨4, ![a, b, c, 256]⟩ : Shape).Idx → EReal) (z : (⟨0, ![]⟩ : Shape).Idx → EReal) (h' : (⟨4, ![a, b, c, 256]⟩ : Shape).ReducesTo [3] (⟨3, ![a, b, c]⟩ : Shape))
    (h : (⟨4, ![a, b, c, 256]⟩ : Shape).Reduces [3] (⟨3, ![a, b, c]⟩ : Shape)) (hu : 0 < (⟨0, ![]⟩ : Shape).numel) (hz : z (Shape.Idx.first hu) = lit 0xFF800000#32) (i : Fin a) (j : Fin b) (k : Fin c) :
    Host.reduce (FloatOps.maximumf (F := Ideal) (φ := .f32)) x z h' hu (ix3 i j k) = mx fun l => x (ix4 i j k l) := by
  rw [Host.reduce_eq_fold_single (FloatOps.maximumf (F := Ideal) (φ := .f32)) x z h' h hu, hz]
  have hf : (x ∘ h.lift (ix3 i j k)) = fun l : Fin 256 => x (ix4 i j k l) := funext fun l => congrArg x (lift4 h i j k l)
  exact congrArg (fun f => Finset.fold max (lit 0xFF800000#32) f (Finset.univ : Finset (Fin 256))) hf

end Cert.Att

end

end
-- ==== Proof.MoArr.lean ====
/- The arrays the output projection of the mixing sublayer leaves. -/
module

public import proofs.«01_k».proof.Proof.Gen.Kernel12Ideal.Value
public import proofs.«01_k».proof.Proof.Slices
public import proofs.«01_k».proof.Proof.FfSpec
public import proofs.«01_k».proof.Proof.Cats
public import proofs.«01_k».proof.Proof.Att

@[expose] public section

set_option maxRecDepth 16384

noncomputable section

open Idealize.ShloMosaic Idealize.ShloMosaic.TcCoe Idealize.SL.Sem
open Idealize.ShloMosaic.Pipeline (Dat)

namespace Cert.Kernel12Ideal.Mo
open Cert.Kernel12Ideal Cert.Kernel12Ideal.Gen Cert.FfSpec Cert.Cats Cert.Slices Cert.Att

section Tile
variable (x0 : Vec Ideal S512x1024 .f32) (x1 : Vec Ideal S512x512 .bf16) (x2 : Vec Ideal S512x256 .bf16) (x3 x4 : Vec Ideal S256x256 .bf16)
  (x5 : Vec Ideal S1024x768 .bf16) (x6 : Vec Ideal S1x1024 .f32)
theorem mask0 (r : Fin 512) (c : Fin 256) : k0_pay3 (ix2 r c) = if hd c = 0 then 1#1 else 0#1 := by
  pointwise [k0_pay3]
  revert c
  decide +kernel
theorem mask1 (r : Fin 512) (c : Fin 256) : k0_pay4 (ix2 r c) = if hd c = 1 then 1#1 else 0#1 := by
  pointwise [k0_pay4]
  revert c
  decide +kernel
theorem mask2 (r : Fin 512) (c : Fin 256) : k0_pay5 (ix2 r c) = if hd c = 2 then 1#1 else 0#1 := by
  pointwise [k0_pay5]
  revert c
  decide +kernel
theorem mask3 (r : Fin 512) (c : Fin 256) : k0_pay6 (ix2 r c) = if hd c = 3 then 1#1 else 0#1 := by
  pointwise [k0_pay6]
  revert c
  decide +kernel
theorem p_2 : k0_pay2 (F := Ideal) x4 = x4 := by
  funext i
  obtain ⟨l, c, rfl⟩ : ∃ l c, i = ix2 l c := ⟨_, _, eq_ix2 i⟩
  pointwise [k0_pay2]
theorem p_sc (i : Fin 2048) (l : Fin 256) : k0_pay7 (F := Ideal) x2 x3 (ix2 i l) =
    (∑ c, stk (fun e r => if hd c = e then x2 (ix2 r c) else 0) i * x3 (ix2 l c)) * lit 0x3E000000#32 := by
  unfold stk
  pointwise [k0_pay7]
  simp only [mask0, mask1, mask2, mask3, sel, lit]
theorem p_s (i : Fin 2048) (e : Fin 4) (r : Fin 512) (hi : i.val = e.val * 512 + r.val) (l : Fin 256) :
    k0_pay7 (F := Ideal) x2 x3 (ix2 i l) = sc (fun c => x2 (ix2 r c)) (fun l c => x3 (ix2 l c)) e l := by
  unfold sc
  rw [p_sc]
  simp only [stk_at _ i e r hi]
  exact congrArg (· * _) (sum_mask e (fun c => x2 (ix2 r c)) (fun c => x3 (ix2 l c)))
theorem sc0 (r : Fin 512) (l : Fin 256) : k0_pay7 (F := Ideal) x2 x3 (ix2 ⟨r.val, by omega⟩ l) = sc (fun c => x2 (ix2 r c)) (fun l c => x3 (ix2 l c)) 0 l :=
  p_s x2 x3 _ 0 r (by show r.val = 0 * 512 + r.val; omega) l
theorem sc1 (r : Fin 512) (l : Fin 256) : k0_pay7 (F := Ideal) x2 x3 (ix2 ⟨512 + r.val, by omega⟩ l) = sc (fun c => x2 (ix2 r c)) (fun l c => x3 (ix2 l c)) 1 l :=
  p_s x2 x3 _ 1 r (by show 512 + r.val = 1 * 512 + r.val; omega) l
theorem sc2 (r : Fin 512) (l : Fin 256) : k0_pay7 (F := Ideal) x2 x3 (ix2 ⟨1024 + r.val, by omega⟩ l) = sc (fun c => x2 (ix2 r c)) (fun l c => x3 (ix2 l c)) 2 l :=
  p_s x2 x3 _ 2 r (by show 1024 + r.val = 2 * 512 + r.val; omega) l
theorem sc3 (r : Fin 512) (l : Fin 256) : k0_pay7 (F := Ideal) x2 x3 (ix2 ⟨1536 + r.val, by omega⟩ l) = sc (fun c => x2 (ix2 r c)) (fun l c => x3 (ix2 l c)) 3 l :=
  p_s x2 x3 _ 3 r (by show 1536 + r.val = 3 * 512 + r.val; omega) l
theorem p_mo (r : Fin 512) (c : Fin 256) : k0_pay8 (F := Ideal) x4 k0_pay3 k0_pay4 k0_pay5 k0_pay6 (k0_pay7 x2 x3) (ix2 r c) = att (fun c => x2 (ix2 r c)) (fun l c => x3 (ix2 l c)) (fun l c => x4 (ix2 l c)) c := by
  unfold att
  rw [← own (hd c) fun e => ∑ l, pr (sc (fun c => x2 (ix2 r c)) (fun l c => x3 (ix2 l c)) e) l * x4 (ix2 l c)]
  unfold pr mx
  simp only [← sc0, ← sc1, ← sc2, ← sc3]
  generalize hs : k0_pay7 (F := Ideal) x2 x3 = s
  generalize h3 : k0_pay3 = a0
  generalize h4 : k0_pay4 = a1
  generalize h5 : k0_pay5 = a2
  generalize h6 : k0_pay6 = a3
  pointwise [k0_pay8]
  rw [← h3, ← h4, ← h5, ← h6, mask0, mask1, mask2, mask3]
  simp only [sel, lit]
theorem p_mix (r : Fin 512) (k : Fin 1024) : k0_pay9 (F := Ideal) x4 k0_pay3 k0_pay4 k0_pay5 k0_pay6 (k0_pay7 x2 x3) x1 x5 (ix2 r k) =
    ∑ e, cat2 (fun e => x1 (ix2 r e)) (att (fun c => x2 (ix2 r c)) (fun l c => x3 (ix2 l c)) (fun l c => x4 (ix2 l c))) e * x5 (ix2 k e) := by
  unfold cat2
  simp only [← p_mo]
  pointwise [k0_pay9]
theorem p_h (z : Vec Ideal S512x1024 .f32) (r : Fin 512) (k : Fin 1024) : k0_pay1 (F := Ideal) z x0 x6 (ix2 r k) =
    x0 (ix2 r k) + rms (fun k => z (ix2 r k)) (fun k => x6 (ix2 0 k)) k := by
  unfold rms rinv
  pointwise [k0_pay1]
theorem o_mo (r : Fin 512) (c : Fin 256) : out0_8 x0 x1 x2 x3 x4 x5 x6 (ix2 r c) = att (fun c => x2 (ix2 r c)) (fun l c => x3 (ix2 l c)) (fun l c => x4 (ix2 l c)) c := by
  unfold out0_8 k0_pay10 k0_pay11 k0_pay12 k0_pay13 k0_pay14 k0_pay15
  refine (congrFun (canon_all _ _) _).trans ?_
  have e2 : View.ld x2 r0_0 = x2 := ld_full _ x2
  have e3 : View.ld x3 r0_1 = x3 := ld_full _ x3
  have e4 : View.ld x4 r0_1 = x4 := ld_full _ x4
  rw [e2, e3, e4, p_2]
  exact p_mo x2 x3 x4 r c
theorem o_mix (r : Fin 512) (k : Fin 1024) : out0_9 x0 x1 x2 x3 x4 x5 x6 (ix2 r k) =
    ∑ e, cat2 (fun e => x1 (ix2 r e)) (att (fun c => x2 (ix2 r c)) (fun l c => x3 (ix2 l c)) (fun l c => x4 (ix2 l c))) e * x5 (ix2 k e) := by
  unfold out0_9 k0_pay10 k0_pay11 k0_pay12 k0_pay13 k0_pay14 k0_pay15
  refine (congrFun (canon_all _ _) _).trans ?_
  have e1 : View.ld x1 r0_2 = x1 := ld_full _ x1
  have e2 : View.ld x2 r0_0 = x2 := ld_full _ x2
  have e3 : View.ld x3 r0_1 = x3 := ld_full _ x3
  have e4 : View.ld x4 r0_1 = x4 := ld_full _ x4
  have e5 : View.ld x5 r0_3 = x5 := ld_full _ x5
  rw [e1, e2, e3, e4, e5, p_2]
  exact p_mix x1 x2 x3 x4 x5 r k
theorem o_h (r : Fin 512) (k : Fin 1024) : out0_7 x0 x1 x2 x3 x4 x5 x6 (ix2 r k) = x0 (ix2 r k) +
    rms (fun k => ∑ e, cat2 (fun e => x1 (ix2 r e)) (att (fun c => x2 (ix2 r c)) (fun l c => x3 (ix2 l c)) (fun l c => x4 (ix2 l c))) e * x5 (ix2 k e)) (fun k => x6 (ix2 0 k)) k := by
  unfold out0_7 k0_pay10 k0_pay11 k0_pay12 k0_pay13 k0_pay14 k0_pay15
  refine (congrFun (canon_all _ _) _).trans ?_
  have e0 : View.ld x0 r0_4 = x0 := ld_full _ x0
  have e1 : View.ld x1 r0_2 = x1 := ld_full _ x1
  have e2 : View.ld x2 r0_0 = x2 := ld_full _ x2
  have e3 : View.ld x3 r0_1 = x3 := ld_full _ x3
  have e4 : View.ld x4 r0_1 = x4 := ld_full _ x4
  have e5 : View.ld x5 r0_3 = x5 := ld_full _ x5
  have e6 : View.ld x6 r0_5 = x6 := ld_full _ x6
  rw [e0, e1, e2, e3, e4, e5, e6, p_2]
  simp only [← p_mix x1 x2 x3 x4 x5 r]
  exact p_h x0 x6 _ r k
end Tile

variable (m : (ℓ : Loc nD τ sig) → Buf (Elt Ideal) ℓ)

theorem idx : ∀ t : Fin cfg0.N, win0_0.index t = ![t.val, 0] ∧ win0_1.index t = ![t.val, 0] ∧ win0_2.index t = ![t.val, 6] ∧ win0_3.index t = ![0, 0] ∧ win0_4.index t = ![0, 0] ∧ win0_5.index t = ![0, 0] ∧ win0_6.index t = ![0, 0] ∧ win0_7.index t = ![t.val, 0] ∧ win0_8.index t = ![t.val, 0] ∧ win0_9.index t = ![t.val, 0] ∧ t.val < 16 :=
  (by decide +kernel : ∀ t : Fin grid0.N, _)
theorem idx0 (t : Fin cfg0.N) : win0_0.index t = ![t.val, 0] := (idx t).1
theorem idx1 (t : Fin cfg0.N) : win0_1.index t = ![t.val, 0] := (idx t).2.1
theorem idx2 (t : Fin cfg0.N) : win0_2.index t = ![t.val, 6] := (idx t).2.2.1
theorem idx3 (t : Fin cfg0.N) : win0_3.index t = ![0, 0] := (idx t).2.2.2.1
theorem idx4 (t : Fin cfg0.N) : win0_4.index t = ![0, 0] := (idx t).2.2.2.2.1
theorem idx5 (t : Fin cfg0.N) : win0_5.index t = ![0, 0] := (idx t).2.2.2.2.2.1
theorem idx6 (t : Fin cfg0.N) : win0_6.index t = ![0, 0] := (idx t).2.2.2.2.2.2.1
theorem idx7 (t : Fin cfg0.N) : win0_7.index t = ![t.val, 0] := (idx t).2.2.2.2.2.2.2.1
theorem idx8 (t : Fin cfg0.N) : win0_8.index t = ![t.val, 0] := (idx t).2.2.2.2.2.2.2.2.1
theorem idx9 (t : Fin cfg0.N) : win0_9.index t = ![t.val, 0] := (idx t).2.2.2.2.2.2.2.2.2.1
theorem lt16 (t : Fin cfg0.N) : t.val < 16 := (idx t).2.2.2.2.2.2.2.2.2.2

/-- The row of the whole array that row `r` of the tile of point `t` is. -/
def grow (t : Fin cfg0.N) (r : Fin 512) : Fin 8192 := ⟨t.val * 512 + r.val, by have := lt16 t; omega⟩

/-- The arguments of the call. -/
abbrev a0 (c : Dev nD) : S8192x1024.Idx → EReal := m ((c : Thread nD τ).loc main_arg0)
abbrev a1 (c : Dev nD) : S8192x512.Idx → EReal := m ((c : Thread nD τ).loc main_arg1)
abbrev a2 (c : Dev nD) : S8192x1792.Idx → EReal := m ((c : Thread nD τ).loc main_arg2)
abbrev a3 (c : Dev nD) : S256x256.Idx → EReal := m ((c : Thread nD τ).loc main_arg3)
abbrev a4 (c : Dev nD) : S256x256.Idx → EReal := m ((c : Thread nD τ).loc main_arg4)
abbrev a5 (c : Dev nD) : S768x1024.Idx → EReal := m ((c : Thread nD τ).loc main_arg5)
abbrev a6 (c : Dev nD) : S1024.Idx → EReal := m ((c : Thread nD τ).loc main_arg6)
theorem V_arg0 (c : Dev nD) (R : Fin 8192) (k : Fin 1024) : V m c main_arg0 (ix2 R k) = a0 m c (ix2 R k) := by
  unfold V; simp only [hostOps0]
  after_results
theorem blk0 (c : Dev nD) (t : Fin cfg0.N) (r : Fin 512) (k : Fin 1024) : iblk m c 0 t (ix2 r k) = a0 m c (ix2 (grow t r) k) := by
  rw [← V_arg0]
  unfold grow; blk_ext [iblk, idx0]
theorem V_v0 (c : Dev nD) (R : Fin 8192) (k : Fin 512) : V m c main_v0 (ix2 R k) = a1 m c (ix2 R k) := by
  unfold V; simp only [hostOps0]
  after_results
  pointwise
theorem blk1 (c : Dev nD) (t : Fin cfg0.N) (r : Fin 512) (k : Fin 512) : iblk m c 1 t (ix2 r k) = a1 m c (ix2 (grow t r) k) := by
  rw [← V_v0]
  unfold grow; blk_ext [iblk, idx1]
theorem V_v1 (c : Dev nD) (R : Fin 8192) (k : Fin 1792) : V m c main_v1 (ix2 R k) = a2 m c (ix2 R k) := by
  unfold V; simp only [hostOps0]
  after_results
  pointwise
theorem blk2 (c : Dev nD) (t : Fin cfg0.N) (r : Fin 512) (k : Fin 256) : iblk m c 2 t (ix2 r k) = a2 m c (ix2 (grow t r) ⟨1536 + k.val, by omega⟩) := by
  rw [← V_v1]
  unfold grow; blk_ext [iblk, idx2]
theorem V_v2 (c : Dev nD) (l k : Fin 256) : V m c main_v2 (ix2 l k) = a3 m c (ix2 l k) := by
  unfold V; simp only [hostOps0]
  after_results
  pointwise
theorem blk3 (c : Dev nD) (t : Fin cfg0.N) (l k : Fin 256) : iblk m c 3 t (ix2 l k) = a3 m c (ix2 l k) := by
  rw [← V_v2]
  blk_ext [iblk, idx3]
theorem V_v3 (c : Dev nD) (l k : Fin 256) : V m c main_v3 (ix2 l k) = a4 m c (ix2 l k) := by
  unfold V; simp only [hostOps0]
  after_results
  pointwise
theorem blk4 (c : Dev nD) (t : Fin cfg0.N) (l k : Fin 256) : iblk m c 4 t (ix2 l k) = a4 m c (ix2 l k) := by
  rw [← V_v3]
  blk_ext [iblk, idx4]
theorem V_v5 (c : Dev nD) (k : Fin 1024) (e : Fin 768) : V m c main_v5 (ix2 k e) = a5 m c (ix2 e k) := by
  unfold V; simp only [hostOps0]
  after_results
  pointwise
theorem blk5 (c : Dev nD) (t : Fin cfg0.N) (k : Fin 1024) (e : Fin 768) : iblk m c 5 t (ix2 k e) = a5 m c (ix2 e k) := by
  rw [← V_v5]
  blk_ext [iblk, idx5]
theorem V_v6 (c : Dev nD) (k : Fin 1024) : V m c main_v6 (ix2 0 k) = a6 m c (ix1 k) := by
  unfold V; simp only [hostOps0]
  after_results
  pointwise
theorem blk6 (c : Dev nD) (t : Fin cfg0.N) (k : Fin 1024) : iblk m c 6 t (ix2 0 k) = a6 m c (ix1 k) := by
  rw [← V_v6]
  blk_ext [iblk, idx6]

/-- The attention's output, the product with the output weight, and the sublayer's output. -/
def MO (p : (⟨2, ![8192, 1792]⟩ : Shape).Idx → EReal) (K V : (⟨2, ![256, 256]⟩ : Shape).Idx → EReal) (R : Fin 8192) (c : Fin 256) : EReal :=
  att (fun c => p (ix2 R ⟨1536 + c.val, by omega⟩)) (fun l c => K (ix2 l c)) (fun l c => V (ix2 l c)) c
def MX (x : (⟨2, ![8192, 512]⟩ : Shape).Idx → EReal) (p : (⟨2, ![8192, 1792]⟩ : Shape).Idx → EReal) (K V : (⟨2, ![256, 256]⟩ : Shape).Idx → EReal) (w : (⟨2, ![768, 1024]⟩ : Shape).Idx → EReal) (R : Fin 8192) (k : Fin 1024) : EReal := ∑ e, cat2 (fun e => x (ix2 R e)) (MO p K V R) e * w (ix2 e k)
def HN (h : (⟨2, ![8192, 1024]⟩ : Shape).Idx → EReal) (x : (⟨2, ![8192, 512]⟩ : Shape).Idx → EReal) (p : (⟨2, ![8192, 1792]⟩ : Shape).Idx → EReal) (K V : (⟨2, ![256, 256]⟩ : Shape).Idx → EReal) (w : (⟨2, ![768, 1024]⟩ : Shape).Idx → EReal) (g : (⟨1, ![1024]⟩ : Shape).Idx → EReal) (R : Fin 8192) (k : Fin 1024) : EReal :=
  h (ix2 R k) + rms (MX x p K V w R) (fun k => g (ix1 k)) k

theorem at7 (c : Dev nD) (t : Fin cfg0.N) (r : Fin 512) (k : Fin 1024) : out0_7 (iblk m c 0 t) (iblk m c 1 t) (iblk m c 2 t) (iblk m c 3 t) (iblk m c 4 t) (iblk m c 5 t) (iblk m c 6 t) (ix2 r k) = HN (a0 m c) (a1 m c) (a2 m c) (a3 m c) (a4 m c) (a5 m c) (a6 m c) (grow t r) k := by
  refine (o_h (iblk m c 0 t) (iblk m c 1 t) (iblk m c 2 t) (iblk m c 3 t) (iblk m c 4 t) (iblk m c 5 t) (iblk m c 6 t) r k).trans ?_
  unfold HN MX MO
  simp only [blk0, blk1, blk2, blk3, blk4, blk5, blk6]
theorem arr7 (c : Dev nD) : (dats m 0 c).arrAt 7 cfg0.N = fun j => HN (a0 m c) (a1 m c) (a2 m c) (a3 m c) (a4 m c) (a5 m c) (a6 m c) (j 0) (j 1) := by
  refine (dats m 0 c).arrAt_eq_of_covers 7 _ (by decide +kernel) fun t hf y => ?_
  blk_simp
  rw [after0_7]
  idx_vars y
  have he : ((View.whole main_v7_0).slice (win0_7.rect t)).emb (ix2 y0 y1) = ix2 (grow t y0) y1 := by
    funext a
    match a with
    | ⟨0, _⟩ => exact Fin.ext (by show win0_7.index t 0 * 512 + 1 * y0.val = t.val * 512 + y0.val; rw [idx7 t]; show t.val * 512 + 1 * y0.val = _; omega)
    | ⟨1, _⟩ => exact Fin.ext (by show win0_7.index t 1 * 1024 + 1 * y1.val = y1.val; rw [idx7 t]; show 0 * 1024 + 1 * y1.val = _; omega)
  rw [he]
  exact at7 m c t y0 y1

theorem at8 (c : Dev nD) (t : Fin cfg0.N) (r : Fin 512) (k : Fin 256) : out0_8 (iblk m c 0 t) (iblk m c 1 t) (iblk m c 2 t) (iblk m c 3 t) (iblk m c 4 t) (iblk m c 5 t) (iblk m c 6 t) (ix2 r k) = MO (a2 m c) (a3 m c) (a4 m c) (grow t r) k := by
  refine (o_mo (iblk m c 0 t) (iblk m c 1 t) (iblk m c 2 t) (iblk m c 3 t) (iblk m c 4 t) (iblk m c 5 t) (iblk m c 6 t) r k).trans ?_
  unfold MO
  simp only [blk2, blk3, blk4]
theorem arr8 (c : Dev nD) : (dats m 0 c).arrAt 8 cfg0.N = fun j => MO (a2 m c) (a3 m c) (a4 m c) (j 0) (j 1) := by
  refine (dats m 0 c).arrAt_eq_of_covers 8 _ (by decide +kernel) fun t hf y => ?_
  blk_simp
  rw [after0_8]
  idx_vars y
  have he : ((View.whole main_v7_1).slice (win0_8.rect t)).emb (ix2 y0 y1) = ix2 (grow t y0) y1 := by
    funext a
    match a with
    | ⟨0, _⟩ => exact Fin.ext (by show win0_8.index t 0 * 512 + 1 * y0.val = t.val * 512 + y0.val; rw [idx8 t]; show t.val * 512 + 1 * y0.val = _; omega)
    | ⟨1, _⟩ => exact Fin.ext (by show win0_8.index t 1 * 256 + 1 * y1.val = y1.val; rw [idx8 t]; show 0 * 256 + 1 * y1.val = _; omega)
  rw [he]
  exact at8 m c t y0 y1

theorem at9 (c : Dev nD) (t : Fin cfg0.N) (r : Fin 512) (k : Fin 1024) : out0_9 (iblk m c 0 t) (iblk m c 1 t) (iblk m c 2 t) (iblk m c 3 t) (iblk m c 4 t) (iblk m c 5 t) (iblk m c 6 t) (ix2 r k) = MX (a1 m c) (a2 m c) (a3 m c) (a4 m c) (a5 m c) (grow t r) k := by
  refine (o_mix (iblk m c 0 t) (iblk m c 1 t) (iblk m c 2 t) (iblk m c 3 t) (iblk m c 4 t) (iblk m c 5 t) (iblk m c 6 t) r k).trans ?_
  unfold MX MO
  simp only [blk1, blk2, blk3, blk4, blk5]
theorem arr9 (c : Dev nD) : (dats m 0 c).arrAt 9 cfg0.N = fun j => MX (a1 m c) (a2 m c) (a3 m c) (a4 m c) (a5 m c) (j 0) (j 1) := by
  refine (dats m 0 c).arrAt_eq_of_covers 9 _ (by decide +kernel) fun t hf y => ?_
  blk_simp
  rw [after0_9]
  idx_vars y
  have he : ((View.whole main_v7_2).slice (win0_9.rect t)).emb (ix2 y0 y1) = ix2 (grow t y0) y1 := by
    funext a
    match a with
    | ⟨0, _⟩ => exact Fin.ext (by show win0_9.index t 0 * 512 + 1 * y0.val = t.val * 512 + y0.val; rw [idx9 t]; show t.val * 512 + 1 * y0.val = _; omega)
    | ⟨1, _⟩ => exact Fin.ext (by show win0_9.index t 1 * 1024 + 1 * y1.val = y1.val; rw [idx9 t]; show 0 * 1024 + 1 * y1.val = _; omega)
  rw [he]
  exact at9 m c t y0 y1

end Cert.Kernel12Ideal.Mo

end

end
-- ==== Proof.MofClaim.lean ====
/- The claim about the output projection of the mixing sublayer. -/
module

public import proofs.«01_k».proof.Proof.MoArr
public import proofs.«01_k».proof.Proof.Gen.Reference12Ideal.Read
public import proofs.«01_k».proof.Proof.PoolClaim

@[expose] public section

set_option maxRecDepth 16384

noncomputable section

open Idealize.ShloMosaic Idealize.ShloMosaic.TcCoe Idealize.SL.Sem
open Idealize.ShloMosaic.Pipeline (Dat)

namespace Cert.MofClaim
open Idealize.ShloMosaic Idealize.SL.Sem

section Run
open Cert.Reference12Ideal
/-- The reference's run, its results named by the stages of its reading. -/
theorem runR (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v40) = Read.val_main_v40 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v41) = Read.val_main_v41 (F := Ideal) (m ((c.tc : Thread nD τ).loc main_arg2)) (m ((c.tc : Thread nD τ).loc main_arg3)) (m ((c.tc : Thread nD τ).loc main_arg4))
      ∧ r.2.mem ((c.tc : Thread nD τ).loc main_v26) = Read.val_main_v26 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (Read.val_main_v40_eq m c),
      (h c).2.1.trans (Read.val_main_v41_eq _ _ _ ),
      (h c).2.2.1.trans (Read.val_main_v26_eq _ _ _ _ _ ),
      (h c).2.2.2⟩)
    (Value.run (F := Ideal) m ρ)
end Run

/-- The reference ends with its arguments unchanged and every counter at zero. -/
theorem frameR : Cert.quiescent_Reference12Ideal (hReference12Ideal := Cert.Reference12Ideal.Gen.facts) := by
  intro m ρ _
  exact (θ_run Cert.Reference12Ideal.defs _ _).mono (fun r h => ⟨fun c => (h c).2.2.2, sem_eq_zero_of_no_sems (by decide) r.2⟩) (Cert.Reference12Ideal.Value.run (F := Ideal) m ρ)

section Eq
open Cert.Reference12Ideal.Read Cert.Kernel12Ideal Cert.Kernel12Ideal.Gen Cert.Kernel12Ideal.Mo Idealize.ShloMosaic.TcCoe Cert.FfSpec Cert.Cats Cert.Att

section Ref
variable (h : S8192x1024.Idx → EReal) (x : S8192x512.Idx → EReal) (p : S8192x1792.Idx → EReal) (k v : S256x256.Idx → EReal) (w : S768x1024.Idx → EReal) (g : S1024.Idx → EReal)
/-- The scores of a row of queries at one head. -/
abbrev S (R : Fin 8192) (e : Fin 4) : Fin 256 → EReal := sc (fun c => p (ix2 R ⟨1536 + c.val, by omega⟩)) (fun l c => k (ix2 l c)) e
theorem r_9 (R : Fin 8192) (e : Fin 4) (l : Fin 256) : val_main_v9 (F := Ideal) p k (ix4 0 e R l) = S p k R e l := by
  unfold S sc
  pointwise [val_main_v9, val_main_v8, val_main_v7, val_main_v6, val_main_v1, val_main_v0, val_main_v4, val_main_v2, val_main_cst]
  rfl
theorem r_12 (R : Fin 8192) (e : Fin 4) : val_main_v12 (F := Ideal) p k (ix3 0 e R) = mx (S p k R e) := by
  have h10 : val_main_v10 (F := Ideal) p k (ix3 0 e R) = mx (S p k R e) := by
    unfold val_main_v10
    refine (max4 _ _ _ (by decide) _ rfl 0 e R).trans ?_
    simp only [r_9]
  rw [val_main_v12_apply, val_main_v11_apply, h10]
  pointwise [val_main_cst_1]
  exact max_mx _
theorem r_20 (R : Fin 8192) (e : Fin 4) (l : Fin 256) : val_main_v20 (F := Ideal) p k (ix4 0 e R l) = pr (S p k R e) l := by
  unfold pr
  pointwise [val_main_v20, val_main_v19, val_main_v18, val_main_v17, val_main_cst_2, val_main_v16, val_main_v15, val_main_v14, val_main_v13]
  simp only [r_9, r_12]
theorem r_24 (R : Fin 8192) (c : Fin 256) : val_main_v24 (F := Ideal) p k v (ix2 R c) = MO p k v R c := by
  unfold MO att
  pointwise [val_main_v24, val_main_v23, val_main_v22, val_main_v21, val_main_v5, val_main_v3]
  simp only [r_20]
  exact Finset.sum_congr rfl fun l _ => mul_comm _ _
theorem r_41 (R : Fin 8192) (c : Fin 256) : val_main_v41 (F := Ideal) p k v (ix2 R c) = MO p k v R c := by
  rw [← r_24]
  pointwise [val_main_v41]
theorem r_26 (R : Fin 8192) (j : Fin 1024) : val_main_v26 (F := Ideal) x p k v w (ix2 R j) = MX x p k v w R j := by
  unfold MX cat2
  simp only [← r_24]
  pointwise [val_main_v26, val_main_v25]
theorem r_34 (R : Fin 8192) : val_main_v34 (F := Ideal) x p k v w (ix2 R 0) = rinv (MX x p k v w R) := by
  unfold rinv
  simp only [← r_26]
  pointwise [val_main_v34, val_main_v33, val_main_v32, val_main_cst_5, val_main_v31, val_main_v30, val_main_cst_4, val_main_v29, val_main_v28, val_main_cst_3, val_main_v27]
theorem r_40 (R : Fin 8192) (j : Fin 1024) : val_main_v40 (F := Ideal) h x p k v w g (ix2 R j) = HN h x p k v w g R j := by
  unfold HN rms
  rw [← r_34, ← r_26]
  pointwise [val_main_v40, val_main_v39, val_main_v38, val_main_v37, val_main_v36, val_main_v35]
end Ref

variable (m : (ℓ : Loc nD τ sig) → Buf (Elt Ideal) ℓ) (c : Dev nD)
theorem e0 : (dats m 0 c).arrAt 7 cfg0.N = val_main_v40 (F := Ideal) (a0 m c) (a1 m c) (a2 m c) (a3 m c) (a4 m c) (a5 m c) (a6 m c) := by
  rw [arr7]
  funext y
  obtain ⟨i, j, rfl⟩ : ∃ i j, y = ix2 i j := ⟨_, _, eq_ix2 y⟩
  exact (r_40 _ _ _ _ _ _ _ i j).symm
theorem e1 : (dats m 0 c).arrAt 8 cfg0.N = val_main_v41 (F := Ideal) (a2 m c) (a3 m c) (a4 m c) := by
  rw [arr8]
  funext y
  obtain ⟨i, j, rfl⟩ : ∃ i j, y = ix2 i j := ⟨_, _, eq_ix2 y⟩
  exact (r_41 _ _ _ i j).symm
theorem e2 : (dats m 0 c).arrAt 9 cfg0.N = val_main_v26 (F := Ideal) (a1 m c) (a2 m c) (a3 m c) (a4 m c) (a5 m c) := by
  rw [arr9]
  funext y
  obtain ⟨i, j, rfl⟩ : ∃ i j, y = ix2 i j := ⟨_, _, eq_ix2 y⟩
  exact (r_26 _ _ _ _ _ i j).symm
end Eq

/-- The launch and the reference, from memories that agree on the arguments. -/
theorem algebraic : Cert.algebraic_Kernel12Ideal_Reference12Ideal (hKernel12Ideal := Cert.Kernel12Ideal.Gen.facts) (hReference12Ideal := Cert.Reference12Ideal.Gen.facts) := by
  intro m g m' g' _ hag
  refine ⟨fun c => (Cert.Kernel12Ideal.Gen.dats m 0 c).arrAt 7 Cert.Kernel12Ideal.cfg0.N, fun c => (Cert.Kernel12Ideal.Gen.dats m 0 c).arrAt 8 Cert.Kernel12Ideal.cfg0.N, fun c => (Cert.Kernel12Ideal.Gen.dats m 0 c).arrAt 9 Cert.Kernel12Ideal.cfg0.N,
    Cert.Kernel12Ideal.Value.run_blocks m g, (θ_run Cert.Reference12Ideal.defs _ _).mono (fun r h c => ?_) (runR m' g')⟩
  obtain ⟨a0, a1, a2, a3, a4, a5, a6⟩ := hag c
  obtain ⟨r0, r1, r2, rest⟩ := h c
  rw [a0, a1, a2, a3, a4, a5, a6] at r0
  rw [a2, a3, a4] at r1
  rw [a1, a2, a3, a4, a5] at r2
  exact ⟨r0.trans (e0 m c).symm,
    r1.trans (e1 m c).symm,
    r2.trans (e2 m c).symm, rest⟩

end Cert.MofClaim

end

end
-- ==== Proof.MrArr.lean ====
/- The arrays the output projection of the mixing sublayer leaves at the pool layers. -/
module

public import proofs.«01_k».proof.Proof.Gen.Kernel13Ideal.Value
public import proofs.«01_k».proof.Proof.MoArr

@[expose] public section

set_option maxRecDepth 16384

noncomputable section

open Idealize.ShloMosaic Idealize.ShloMosaic.TcCoe Idealize.SL.Sem
open Idealize.ShloMosaic.Pipeline (Dat)

namespace Cert.Kernel13Ideal.Mo
open Cert.Kernel13Ideal Cert.Kernel13Ideal.Gen Cert.FfSpec Cert.Cats Cert.Slices Cert.Att

section Tile
variable (x0 : Vec Ideal S512x1024 .f32) (x1 : Vec Ideal S512x512 .bf16) (x2 : Vec Ideal S512x256 .bf16) (x3 x4 : Vec Ideal S256x256 .bf16)
  (x5 : Vec Ideal S1024x768 .bf16) (x6 : Vec Ideal S1x1024 .f32)
theorem o_mo (r : Fin 512) (c : Fin 256) : out0_8 x0 x1 x2 x3 x4 x5 x6 (ix2 r c) = att (fun c => x2 (ix2 r c)) (fun l c => x3 (ix2 l c)) (fun l c => x4 (ix2 l c)) c :=
  Cert.Kernel12Ideal.Mo.o_mo x0 x1 x2 x3 x4 x5 x6 r c
theorem o_mix (r : Fin 512) (k : Fin 1024) : out0_9 x0 x1 x2 x3 x4 x5 x6 (ix2 r k) =
    ∑ e, cat2 (fun e => x1 (ix2 r e)) (att (fun c => x2 (ix2 r c)) (fun l c => x3 (ix2 l c)) (fun l c => x4 (ix2 l c))) e * x5 (ix2 k e) :=
  Cert.Kernel12Ideal.Mo.o_mix x0 x1 x2 x3 x4 x5 x6 r k
theorem o_h (r : Fin 512) (k : Fin 1024) : out0_7 x0 x1 x2 x3 x4 x5 x6 (ix2 r k) = x0 (ix2 r k) +
    rms (fun k => ∑ e, cat2 (fun e => x1 (ix2 r e)) (att (fun c => x2 (ix2 r c)) (fun l c => x3 (ix2 l c)) (fun l c => x4 (ix2 l c))) e * x5 (ix2 k e)) (fun k => x6 (ix2 0 k)) k :=
  Cert.Kernel12Ideal.Mo.o_h x0 x1 x2 x3 x4 x5 x6 r k
end Tile

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![0, 0] ∧ win0_6.index t = ![0, 0] ∧ win0_7.index t = ![t.val, 0] ∧ win0_8.index t = ![t.val, 0] ∧ win0_9.index t = ![t.val, 0] ∧ t.val < 16 :=
  (by decide +kernel : ∀ t : Fin grid0.N, _)
theorem idx0 (t : Fin cfg0.N) : win0_0.index t = ![t.val, 0] := (idx t).1
theorem idx1 (t : Fin cfg0.N) : win0_1.index t = ![t.val, 0] := (idx t).2.1
theorem idx2 (t : Fin cfg0.N) : win0_2.index t = ![t.val, 0] := (idx t).2.2.1
theorem idx3 (t : Fin cfg0.N) : win0_3.index t = ![0, 0] := (idx t).2.2.2.1
theorem idx4 (t : Fin cfg0.N) : win0_4.index t = ![0, 0] := (idx t).2.2.2.2.1
theorem idx5 (t : Fin cfg0.N) : win0_5.index t = ![0, 0] := (idx t).2.2.2.2.2.1
theorem idx6 (t : Fin cfg0.N) : win0_6.index t = ![0, 0] := (idx t).2.2.2.2.2.2.1
theorem idx7 (t : Fin cfg0.N) : win0_7.index t = ![t.val, 0] := (idx t).2.2.2.2.2.2.2.1
theorem idx8 (t : Fin cfg0.N) : win0_8.index t = ![t.val, 0] := (idx t).2.2.2.2.2.2.2.2.1
theorem idx9 (t : Fin cfg0.N) : win0_9.index t = ![t.val, 0] := (idx t).2.2.2.2.2.2.2.2.2.1
theorem lt16 (t : Fin cfg0.N) : t.val < 16 := (idx t).2.2.2.2.2.2.2.2.2.2

/-- The row of the whole array that row `r` of the tile of point `t` is. -/
def grow (t : Fin cfg0.N) (r : Fin 512) : Fin 8192 := ⟨t.val * 512 + r.val, by have := lt16 t; omega⟩

/-- The arguments of the call. -/
abbrev a0 (c : Dev nD) : S8192x1024.Idx → EReal := m ((c : Thread nD τ).loc main_arg0)
abbrev a1 (c : Dev nD) : S8192x512.Idx → EReal := m ((c : Thread nD τ).loc main_arg1)
abbrev a2 (c : Dev nD) : S8192x256.Idx → EReal := m ((c : Thread nD τ).loc main_arg2)
abbrev a3 (c : Dev nD) : S256x256.Idx → EReal := m ((c : Thread nD τ).loc main_arg3)
abbrev a4 (c : Dev nD) : S256x256.Idx → EReal := m ((c : Thread nD τ).loc main_arg4)
abbrev a5 (c : Dev nD) : S768x1024.Idx → EReal := m ((c : Thread nD τ).loc main_arg5)
abbrev a6 (c : Dev nD) : S1024.Idx → EReal := m ((c : Thread nD τ).loc main_arg6)
theorem V_arg0 (c : Dev nD) (R : Fin 8192) (k : Fin 1024) : V m c main_arg0 (ix2 R k) = a0 m c (ix2 R k) := by
  unfold V; simp only [hostOps0]
  after_results
theorem blk0 (c : Dev nD) (t : Fin cfg0.N) (r : Fin 512) (k : Fin 1024) : iblk m c 0 t (ix2 r k) = a0 m c (ix2 (grow t r) k) := by
  rw [← V_arg0]
  unfold grow; blk_ext [iblk, idx0]
theorem V_v0 (c : Dev nD) (R : Fin 8192) (k : Fin 512) : V m c main_v0 (ix2 R k) = a1 m c (ix2 R k) := by
  unfold V; simp only [hostOps0]
  after_results
  pointwise
theorem blk1 (c : Dev nD) (t : Fin cfg0.N) (r : Fin 512) (k : Fin 512) : iblk m c 1 t (ix2 r k) = a1 m c (ix2 (grow t r) k) := by
  rw [← V_v0]
  unfold grow; blk_ext [iblk, idx1]
theorem V_v1 (c : Dev nD) (R : Fin 8192) (k : Fin 256) : V m c main_v1 (ix2 R k) = a2 m c (ix2 R k) := by
  unfold V; simp only [hostOps0]
  after_results
  pointwise
theorem blk2 (c : Dev nD) (t : Fin cfg0.N) (r : Fin 512) (k : Fin 256) : iblk m c 2 t (ix2 r k) = a2 m c (ix2 (grow t r) k) := by
  rw [← V_v1]
  unfold grow; blk_ext [iblk, idx2]
theorem V_v2 (c : Dev nD) (l k : Fin 256) : V m c main_v2 (ix2 l k) = a3 m c (ix2 l k) := by
  unfold V; simp only [hostOps0]
  after_results
  pointwise
theorem blk3 (c : Dev nD) (t : Fin cfg0.N) (l k : Fin 256) : iblk m c 3 t (ix2 l k) = a3 m c (ix2 l k) := by
  rw [← V_v2]
  blk_ext [iblk, idx3]
theorem V_v3 (c : Dev nD) (l k : Fin 256) : V m c main_v3 (ix2 l k) = a4 m c (ix2 l k) := by
  unfold V; simp only [hostOps0]
  after_results
  pointwise
theorem blk4 (c : Dev nD) (t : Fin cfg0.N) (l k : Fin 256) : iblk m c 4 t (ix2 l k) = a4 m c (ix2 l k) := by
  rw [← V_v3]
  blk_ext [iblk, idx4]
theorem V_v5 (c : Dev nD) (k : Fin 1024) (e : Fin 768) : V m c main_v5 (ix2 k e) = a5 m c (ix2 e k) := by
  unfold V; simp only [hostOps0]
  after_results
  pointwise
theorem blk5 (c : Dev nD) (t : Fin cfg0.N) (k : Fin 1024) (e : Fin 768) : iblk m c 5 t (ix2 k e) = a5 m c (ix2 e k) := by
  rw [← V_v5]
  blk_ext [iblk, idx5]
theorem V_v6 (c : Dev nD) (k : Fin 1024) : V m c main_v6 (ix2 0 k) = a6 m c (ix1 k) := by
  unfold V; simp only [hostOps0]
  after_results
  pointwise
theorem blk6 (c : Dev nD) (t : Fin cfg0.N) (k : Fin 1024) : iblk m c 6 t (ix2 0 k) = a6 m c (ix1 k) := by
  rw [← V_v6]
  blk_ext [iblk, idx6]

/-- The attention's output, the product with the output weight, and the sublayer's output. -/
def MO (p : (⟨2, ![8192, 256]⟩ : Shape).Idx → EReal) (K V : (⟨2, ![256, 256]⟩ : Shape).Idx → EReal) (R : Fin 8192) (c : Fin 256) : EReal :=
  att (fun c => p (ix2 R c)) (fun l c => K (ix2 l c)) (fun l c => V (ix2 l c)) c
def MX (x : (⟨2, ![8192, 512]⟩ : Shape).Idx → EReal) (p : (⟨2, ![8192, 256]⟩ : Shape).Idx → EReal) (K V : (⟨2, ![256, 256]⟩ : Shape).Idx → EReal) (w : (⟨2, ![768, 1024]⟩ : Shape).Idx → EReal) (R : Fin 8192) (k : Fin 1024) : EReal := ∑ e, cat2 (fun e => x (ix2 R e)) (MO p K V R) e * w (ix2 e k)
def HN (h : (⟨2, ![8192, 1024]⟩ : Shape).Idx → EReal) (x : (⟨2, ![8192, 512]⟩ : Shape).Idx → EReal) (p : (⟨2, ![8192, 256]⟩ : Shape).Idx → EReal) (K V : (⟨2, ![256, 256]⟩ : Shape).Idx → EReal) (w : (⟨2, ![768, 1024]⟩ : Shape).Idx → EReal) (g : (⟨1, ![1024]⟩ : Shape).Idx → EReal) (R : Fin 8192) (k : Fin 1024) : EReal :=
  h (ix2 R k) + rms (MX x p K V w R) (fun k => g (ix1 k)) k

theorem at7 (c : Dev nD) (t : Fin cfg0.N) (r : Fin 512) (k : Fin 1024) : out0_7 (iblk m c 0 t) (iblk m c 1 t) (iblk m c 2 t) (iblk m c 3 t) (iblk m c 4 t) (iblk m c 5 t) (iblk m c 6 t) (ix2 r k) = HN (a0 m c) (a1 m c) (a2 m c) (a3 m c) (a4 m c) (a5 m c) (a6 m c) (grow t r) k := by
  refine (o_h (iblk m c 0 t) (iblk m c 1 t) (iblk m c 2 t) (iblk m c 3 t) (iblk m c 4 t) (iblk m c 5 t) (iblk m c 6 t) r k).trans ?_
  unfold HN MX MO
  simp only [blk0, blk1, blk2, blk3, blk4, blk5, blk6]
theorem arr7 (c : Dev nD) : (dats m 0 c).arrAt 7 cfg0.N = fun j => HN (a0 m c) (a1 m c) (a2 m c) (a3 m c) (a4 m c) (a5 m c) (a6 m c) (j 0) (j 1) := by
  refine (dats m 0 c).arrAt_eq_of_covers 7 _ (by decide +kernel) fun t hf y => ?_
  blk_simp
  rw [after0_7]
  idx_vars y
  have he : ((View.whole main_v7_0).slice (win0_7.rect t)).emb (ix2 y0 y1) = ix2 (grow t y0) y1 := by
    funext a
    match a with
    | ⟨0, _⟩ => exact Fin.ext (by show win0_7.index t 0 * 512 + 1 * y0.val = t.val * 512 + y0.val; rw [idx7 t]; show t.val * 512 + 1 * y0.val = _; omega)
    | ⟨1, _⟩ => exact Fin.ext (by show win0_7.index t 1 * 1024 + 1 * y1.val = y1.val; rw [idx7 t]; show 0 * 1024 + 1 * y1.val = _; omega)
  rw [he]
  exact at7 m c t y0 y1

theorem at8 (c : Dev nD) (t : Fin cfg0.N) (r : Fin 512) (k : Fin 256) : out0_8 (iblk m c 0 t) (iblk m c 1 t) (iblk m c 2 t) (iblk m c 3 t) (iblk m c 4 t) (iblk m c 5 t) (iblk m c 6 t) (ix2 r k) = MO (a2 m c) (a3 m c) (a4 m c) (grow t r) k := by
  refine (o_mo (iblk m c 0 t) (iblk m c 1 t) (iblk m c 2 t) (iblk m c 3 t) (iblk m c 4 t) (iblk m c 5 t) (iblk m c 6 t) r k).trans ?_
  unfold MO
  simp only [blk2, blk3, blk4]
theorem arr8 (c : Dev nD) : (dats m 0 c).arrAt 8 cfg0.N = fun j => MO (a2 m c) (a3 m c) (a4 m c) (j 0) (j 1) := by
  refine (dats m 0 c).arrAt_eq_of_covers 8 _ (by decide +kernel) fun t hf y => ?_
  blk_simp
  rw [after0_8]
  idx_vars y
  have he : ((View.whole main_v7_1).slice (win0_8.rect t)).emb (ix2 y0 y1) = ix2 (grow t y0) y1 := by
    funext a
    match a with
    | ⟨0, _⟩ => exact Fin.ext (by show win0_8.index t 0 * 512 + 1 * y0.val = t.val * 512 + y0.val; rw [idx8 t]; show t.val * 512 + 1 * y0.val = _; omega)
    | ⟨1, _⟩ => exact Fin.ext (by show win0_8.index t 1 * 256 + 1 * y1.val = y1.val; rw [idx8 t]; show 0 * 256 + 1 * y1.val = _; omega)
  rw [he]
  exact at8 m c t y0 y1

theorem at9 (c : Dev nD) (t : Fin cfg0.N) (r : Fin 512) (k : Fin 1024) : out0_9 (iblk m c 0 t) (iblk m c 1 t) (iblk m c 2 t) (iblk m c 3 t) (iblk m c 4 t) (iblk m c 5 t) (iblk m c 6 t) (ix2 r k) = MX (a1 m c) (a2 m c) (a3 m c) (a4 m c) (a5 m c) (grow t r) k := by
  refine (o_mix (iblk m c 0 t) (iblk m c 1 t) (iblk m c 2 t) (iblk m c 3 t) (iblk m c 4 t) (iblk m c 5 t) (iblk m c 6 t) r k).trans ?_
  unfold MX MO
  simp only [blk1, blk2, blk3, blk4, blk5]
theorem arr9 (c : Dev nD) : (dats m 0 c).arrAt 9 cfg0.N = fun j => MX (a1 m c) (a2 m c) (a3 m c) (a4 m c) (a5 m c) (j 0) (j 1) := by
  refine (dats m 0 c).arrAt_eq_of_covers 9 _ (by decide +kernel) fun t hf y => ?_
  blk_simp
  rw [after0_9]
  idx_vars y
  have he : ((View.whole main_v7_2).slice (win0_9.rect t)).emb (ix2 y0 y1) = ix2 (grow t y0) y1 := by
    funext a
    match a with
    | ⟨0, _⟩ => exact Fin.ext (by show win0_9.index t 0 * 512 + 1 * y0.val = t.val * 512 + y0.val; rw [idx9 t]; show t.val * 512 + 1 * y0.val = _; omega)
    | ⟨1, _⟩ => exact Fin.ext (by show win0_9.index t 1 * 1024 + 1 * y1.val = y1.val; rw [idx9 t]; show 0 * 1024 + 1 * y1.val = _; omega)
  rw [he]
  exact at9 m c t y0 y1

end Cert.Kernel13Ideal.Mo

end

end
-- ==== Proof.MopClaim.lean ====
/- The claim about the output projection of the mixing sublayer at the pool layers. -/
module

public import proofs.«01_k».proof.Proof.MrArr
public import proofs.«01_k».proof.Proof.Gen.Reference13Ideal.Read
public import proofs.«01_k».proof.Proof.PoolClaim

@[expose] public section

set_option maxRecDepth 16384

noncomputable section

open Idealize.ShloMosaic Idealize.ShloMosaic.TcCoe Idealize.SL.Sem
open Idealize.ShloMosaic.Pipeline (Dat)

namespace Cert.MopClaim
open Idealize.ShloMosaic Idealize.SL.Sem

section Run
open Cert.Reference13Ideal
/-- The reference's run, its results named by the stages of its reading. -/
theorem runR (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v39) = Read.val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v40) = Read.val_main_v40 (F := Ideal) (m ((c.tc : Thread nD τ).loc main_arg2)) (m ((c.tc : Thread nD τ).loc main_arg3)) (m ((c.tc : Thread nD τ).loc main_arg4))
      ∧ r.2.mem ((c.tc : Thread nD τ).loc main_v25) = Read.val_main_v25 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (Read.val_main_v39_eq m c),
      (h c).2.1.trans (Read.val_main_v40_eq _ _ _ ),
      (h c).2.2.1.trans (Read.val_main_v25_eq _ _ _ _ _ ),
      (h c).2.2.2⟩)
    (Value.run (F := Ideal) m ρ)
end Run

/-- The reference ends with its arguments unchanged and every counter at zero. -/
theorem frameR : Cert.quiescent_Reference13Ideal (hReference13Ideal := Cert.Reference13Ideal.Gen.facts) := by
  intro m ρ _
  exact (θ_run Cert.Reference13Ideal.defs _ _).mono (fun r h => ⟨fun c => (h c).2.2.2, sem_eq_zero_of_no_sems (by decide) r.2⟩) (Cert.Reference13Ideal.Value.run (F := Ideal) m ρ)

section Eq
open Cert.Reference13Ideal.Read Cert.Kernel13Ideal Cert.Kernel13Ideal.Gen Cert.Kernel13Ideal.Mo Idealize.ShloMosaic.TcCoe Cert.FfSpec Cert.Cats Cert.Att

section Ref
variable (h : S8192x1024.Idx → EReal) (x : S8192x512.Idx → EReal) (p : S8192x256.Idx → EReal) (k v : S256x256.Idx → EReal) (w : S768x1024.Idx → EReal) (g : S1024.Idx → EReal)
/-- The scores of a row of queries at one head. -/
abbrev S (R : Fin 8192) (e : Fin 4) : Fin 256 → EReal := sc (fun c => p (ix2 R c)) (fun l c => k (ix2 l c)) e
theorem r_9 (R : Fin 8192) (e : Fin 4) (l : Fin 256) : val_main_v8 (F := Ideal) p k (ix4 0 e R l) = S p k R e l := by
  unfold S sc
  pointwise [val_main_v8, val_main_v7, val_main_v6, val_main_v5, val_main_v0, val_main_v3, val_main_v1, val_main_cst]
  rfl
theorem r_12 (R : Fin 8192) (e : Fin 4) : val_main_v11 (F := Ideal) p k (ix3 0 e R) = mx (S p k R e) := by
  have h10 : val_main_v9 (F := Ideal) p k (ix3 0 e R) = mx (S p k R e) := by
    unfold val_main_v9
    refine (max4 _ _ _ (by decide) _ rfl 0 e R).trans ?_
    simp only [r_9]
  rw [val_main_v11_apply, val_main_v10_apply, h10]
  pointwise [val_main_cst_1]
  exact max_mx _
theorem r_20 (R : Fin 8192) (e : Fin 4) (l : Fin 256) : val_main_v19 (F := Ideal) p k (ix4 0 e R l) = pr (S p k R e) l := by
  unfold pr
  pointwise [val_main_v19, val_main_v18, val_main_v17, val_main_v16, val_main_cst_2, val_main_v15, val_main_v14, val_main_v13, val_main_v12]
  simp only [r_9, r_12]
theorem r_24 (R : Fin 8192) (c : Fin 256) : val_main_v23 (F := Ideal) p k v (ix2 R c) = MO p k v R c := by
  unfold MO att
  pointwise [val_main_v23, val_main_v22, val_main_v21, val_main_v20, val_main_v4, val_main_v2]
  simp only [r_20]
  exact Finset.sum_congr rfl fun l _ => mul_comm _ _
theorem r_41 (R : Fin 8192) (c : Fin 256) : val_main_v40 (F := Ideal) p k v (ix2 R c) = MO p k v R c := by
  rw [← r_24]
  pointwise [val_main_v40]
theorem r_26 (R : Fin 8192) (j : Fin 1024) : val_main_v25 (F := Ideal) x p k v w (ix2 R j) = MX x p k v w R j := by
  unfold MX cat2
  simp only [← r_24]
  pointwise [val_main_v25, val_main_v24]
theorem r_34 (R : Fin 8192) : val_main_v33 (F := Ideal) x p k v w (ix2 R 0) = rinv (MX x p k v w R) := by
  unfold rinv
  simp only [← r_26]
  pointwise [val_main_v33, val_main_v32, val_main_v31, val_main_cst_5, val_main_v30, val_main_v29, val_main_cst_4, val_main_v28, val_main_v27, val_main_cst_3, val_main_v26]
theorem r_40 (R : Fin 8192) (j : Fin 1024) : val_main_v39 (F := Ideal) h x p k v w g (ix2 R j) = HN h x p k v w g R j := by
  unfold HN rms
  rw [← r_34, ← r_26]
  pointwise [val_main_v39, val_main_v38, val_main_v37, val_main_v36, val_main_v35, val_main_v34]
end Ref

variable (m : (ℓ : Loc nD τ sig) → Buf (Elt Ideal) ℓ) (c : Dev nD)
theorem e0 : (dats m 0 c).arrAt 7 cfg0.N = val_main_v39 (F := Ideal) (a0 m c) (a1 m c) (a2 m c) (a3 m c) (a4 m c) (a5 m c) (a6 m c) := by
  rw [arr7]
  funext y
  obtain ⟨i, j, rfl⟩ : ∃ i j, y = ix2 i j := ⟨_, _, eq_ix2 y⟩
  exact (r_40 _ _ _ _ _ _ _ i j).symm
theorem e1 : (dats m 0 c).arrAt 8 cfg0.N = val_main_v40 (F := Ideal) (a2 m c) (a3 m c) (a4 m c) := by
  rw [arr8]
  funext y
  obtain ⟨i, j, rfl⟩ : ∃ i j, y = ix2 i j := ⟨_, _, eq_ix2 y⟩
  exact (r_41 _ _ _ i j).symm
theorem e2 : (dats m 0 c).arrAt 9 cfg0.N = val_main_v25 (F := Ideal) (a1 m c) (a2 m c) (a3 m c) (a4 m c) (a5 m c) := by
  rw [arr9]
  funext y
  obtain ⟨i, j, rfl⟩ : ∃ i j, y = ix2 i j := ⟨_, _, eq_ix2 y⟩
  exact (r_26 _ _ _ _ _ i j).symm
end Eq

/-- The launch and the reference, from memories that agree on the arguments. -/
theorem algebraic : Cert.algebraic_Kernel13Ideal_Reference13Ideal (hKernel13Ideal := Cert.Kernel13Ideal.Gen.facts) (hReference13Ideal := Cert.Reference13Ideal.Gen.facts) := by
  intro m g m' g' _ hag
  refine ⟨fun c => (Cert.Kernel13Ideal.Gen.dats m 0 c).arrAt 7 Cert.Kernel13Ideal.cfg0.N, fun c => (Cert.Kernel13Ideal.Gen.dats m 0 c).arrAt 8 Cert.Kernel13Ideal.cfg0.N, fun c => (Cert.Kernel13Ideal.Gen.dats m 0 c).arrAt 9 Cert.Kernel13Ideal.cfg0.N,
    Cert.Kernel13Ideal.Value.run_blocks m g, (θ_run Cert.Reference13Ideal.defs _ _).mono (fun r h c => ?_) (runR m' g')⟩
  obtain ⟨a0, a1, a2, a3, a4, a5, a6⟩ := hag c
  obtain ⟨r0, r1, r2, rest⟩ := h c
  rw [a0, a1, a2, a3, a4, a5, a6] at r0
  rw [a2, a3, a4] at r1
  rw [a1, a2, a3, a4, a5] at r2
  exact ⟨r0.trans (e0 m c).symm,
    r1.trans (e1 m c).symm,
    r2.trans (e2 m c).symm, rest⟩

end Cert.MopClaim

end

end
-- ==== Proof.MkbArr.lean ====
/- The arrays the gradient of the projection of the memory leaves. -/
module

public import proofs.«01_k».proof.Proof.Gen.Kernel11Ideal.Value
public import proofs.«01_k».proof.Proof.Slices
public import proofs.«01_k».proof.Proof.FfSpec

@[expose] public section

set_option maxRecDepth 16384

noncomputable section

open Idealize.ShloMosaic Idealize.ShloMosaic.TcCoe Idealize.SL.Sem
open Idealize.ShloMosaic.Pipeline (Dat)

namespace Cert.Kernel11Ideal.Mb
open Cert.Kernel11Ideal Cert.Kernel11Ideal.Gen Cert.Slices Cert.FfSpec

/-- A row of the whole from its chunk and its row in the chunk. -/
def pc (d : Fin 8) (i : Fin 128) : Fin 1024 := ⟨d.val * 128 + i.val, by omega⟩
/-- Two blocks side by side. -/
def cat (p q : (⟨2, ![256, 256]⟩ : Shape).Idx → EReal) (r : Fin 256) (e : Fin 512) : EReal :=
  if h : e.val < 256 then p (ix2 r ⟨e.val, h⟩) else q (ix2 r ⟨e.val - 256, by omega⟩)

theorem pay2 (a b : Vec Ideal S256x256 .f32) (r : Fin 256) (e : Fin 512) : k0_pay2 a b (ix2 r e) = cat a b r e := by
  unfold cat
  pointwise [k0_pay2]
theorem pay3 (a b : Vec Ideal S256x256 .f32) (x : Vec Ideal S256x1024 .bf16) (k : Fin 1024) (e : Fin 512) :
    k0_pay3 a b x (ix2 k e) = ∑ r : Fin 256, x (ix2 r k) * cat a b r e := by
  simp only [← pay2]
  unfold k0_pay3
  generalize k0_pay2 a b = z
  pointwise
theorem p4 (a b : Vec Ideal S256x256 .f32) (x : Vec Ideal S256x1024 .bf16) (i : Fin 128) (e : Fin 512) : k0_pay4 a b x (ix3 0 i e) = k0_pay3 a b x (ix2 (pc 0 i) e) := by
  unfold k0_pay4
  generalize k0_pay3 a b x = z
  pointwise
  exact congrArg (fun k => z (ix2 k e)) (Fin.ext (by show i.val = 0 * 128 + i.val; omega))
theorem p5 (a b : Vec Ideal S256x256 .f32) (x : Vec Ideal S256x1024 .bf16) (i : Fin 128) (e : Fin 512) : k0_pay5 a b x (ix3 0 i e) = k0_pay3 a b x (ix2 (pc 1 i) e) := by
  unfold k0_pay5
  generalize k0_pay3 a b x = z
  pointwise
  rfl
theorem p6 (a b : Vec Ideal S256x256 .f32) (x : Vec Ideal S256x1024 .bf16) (i : Fin 128) (e : Fin 512) : k0_pay6 a b x (ix3 0 i e) = k0_pay3 a b x (ix2 (pc 2 i) e) := by
  unfold k0_pay6
  generalize k0_pay3 a b x = z
  pointwise
  rfl
theorem p7 (a b : Vec Ideal S256x256 .f32) (x : Vec Ideal S256x1024 .bf16) (i : Fin 128) (e : Fin 512) : k0_pay7 a b x (ix3 0 i e) = k0_pay3 a b x (ix2 (pc 3 i) e) := by
  unfold k0_pay7
  generalize k0_pay3 a b x = z
  pointwise
  rfl
theorem p8 (a b : Vec Ideal S256x256 .f32) (x : Vec Ideal S256x1024 .bf16) (i : Fin 128) (e : Fin 512) : k0_pay8 a b x (ix3 0 i e) = k0_pay3 a b x (ix2 (pc 4 i) e) := by
  unfold k0_pay8
  generalize k0_pay3 a b x = z
  pointwise
  rfl
theorem p9 (z : FVec Ideal S1024x512 .f32) (i : Fin 128) (e : Fin 512) : k0_pay9 z (ix3 0 i e) = z (ix2 (pc 5 i) e) := by
  pointwise [k0_pay9]
  rfl
theorem p10 (z : FVec Ideal S1024x512 .f32) (i : Fin 128) (e : Fin 512) : k0_pay10 z (ix3 0 i e) = z (ix2 (pc 6 i) e) := by
  pointwise [k0_pay10]
  rfl
theorem p11 (z : FVec Ideal S1024x512 .f32) (i : Fin 128) (e : Fin 512) : k0_pay11 z (ix3 0 i e) = z (ix2 (pc 7 i) e) := by
  pointwise [k0_pay11]
  rfl

theorem cat8 (y0 y1 y2 y3 y4 y5 y6 y7 : Vec Ideal S256x128 .f32) (r : Fin 256) (d : Fin 8) (i : Fin 128) :
    concatenate S256x1024 1 [⟨S256x128, y0⟩, ⟨S256x128, y1⟩, ⟨S256x128, y2⟩, ⟨S256x128, y3⟩, ⟨S256x128, y4⟩, ⟨S256x128, y5⟩, ⟨S256x128, y6⟩, ⟨S256x128, y7⟩] concatenates_S256x128_S256x128_S256x128_S256x128_S256x128_S256x128_S256x128_S256x128_S256x1024_d1 (ix2 r (pc d i)) = (![y0, y1, y2, y3, y4, y5, y6, y7] : Fin 8 → Vec Ideal S256x128 .f32) d (ix2 r i) := by
  unfold pc
  pointwise
  match d with
  | ⟨0, _⟩ => rw [dif_pos (by dsimp only; omega)]; exact congrArg (fun z => y0 (ix2 r z)) (Fin.ext (by dsimp only; omega))
  | ⟨1, _⟩ => rw [dif_neg (by dsimp only; omega), dif_pos (by dsimp only; omega)]; exact congrArg (fun z => y1 (ix2 r z)) (Fin.ext (by dsimp only; omega))
  | ⟨2, _⟩ => rw [dif_neg (by dsimp only; omega), dif_neg (by dsimp only; omega), dif_pos (by dsimp only; omega)]; exact congrArg (fun z => y2 (ix2 r z)) (Fin.ext (by dsimp only; omega))
  | ⟨3, _⟩ => rw [dif_neg (by dsimp only; omega), dif_neg (by dsimp only; omega), dif_neg (by dsimp only; omega), dif_pos (by dsimp only; omega)]; exact congrArg (fun z => y3 (ix2 r z)) (Fin.ext (by dsimp only; omega))
  | ⟨4, _⟩ => rw [dif_neg (by dsimp only; omega), dif_neg (by dsimp only; omega), dif_neg (by dsimp only; omega), dif_neg (by dsimp only; omega), dif_pos (by dsimp only; omega)]; exact congrArg (fun z => y4 (ix2 r z)) (Fin.ext (by dsimp only; omega))
  | ⟨5, _⟩ => rw [dif_neg (by dsimp only; omega), dif_neg (by dsimp only; omega), dif_neg (by dsimp only; omega), dif_neg (by dsimp only; omega), dif_neg (by dsimp only; omega), dif_pos (by dsimp only; omega)]; exact congrArg (fun z => y5 (ix2 r z)) (Fin.ext (by dsimp only; omega))
  | ⟨6, _⟩ => rw [dif_neg (by dsimp only; omega), dif_neg (by dsimp only; omega), dif_neg (by dsimp only; omega), dif_neg (by dsimp only; omega), dif_neg (by dsimp only; omega), dif_neg (by dsimp only; omega), dif_pos (by dsimp only; omega)]; exact congrArg (fun z => y6 (ix2 r z)) (Fin.ext (by dsimp only; omega))
  | ⟨7, _⟩ => rw [dif_neg (by dsimp only; omega), dif_neg (by dsimp only; omega), dif_neg (by dsimp only; omega), dif_neg (by dsimp only; omega), dif_neg (by dsimp only; omega), dif_neg (by dsimp only; omega), dif_neg (by dsimp only; omega)]; exact congrArg (fun z => y7 (ix2 r z)) (Fin.ext (by dsimp only; omega))
theorem part (v : FVec Ideal S256x512 .bf16) (w0 w1 w2 w3 w4 w5 w6 w7 : Vec Ideal S1x128x512 .bf16) (x : Vec Ideal S256x1024 .f32) (d : Fin 8) (i : Fin 128) :
    k0_pay1 v (k0_pay12 v w0) (k0_pay13 v w1) (k0_pay14 v w2) (k0_pay15 v w3) (k0_pay16 w4) w5 w6 w7 x (ix2 0 (pc d i))
      = ∑ r : Fin 256, (∑ e : Fin 512, v (ix2 r e) * (![w0, w1, w2, w3, w4, w5, w6, w7] : Fin 8 → Vec Ideal S1x128x512 .bf16) d (ix3 0 i e)) * (x (ix2 r (pc d i)) * rinv (fun k => x (ix2 r k))) := by
  unfold k0_pay1 rinv
  dsimp only
  generalize hz : concatenate _ _ _ _ = z
  have hc : ∀ r, z (ix2 r (pc d i)) = ∑ e : Fin 512, v (ix2 r e) * (![w0, w1, w2, w3, w4, w5, w6, w7] : Fin 8 → Vec Ideal S1x128x512 .bf16) d (ix3 0 i e) := by
    intro r
    rw [← hz, cat8]
    match d with
    | ⟨0, _⟩ => show k0_pay12 v w0 (ix2 r i) = ∑ e : Fin 512, v (ix2 r e) * w0 (ix3 0 i e); pointwise [k0_pay12]
    | ⟨1, _⟩ => show k0_pay13 v w1 (ix2 r i) = ∑ e : Fin 512, v (ix2 r e) * w1 (ix3 0 i e); pointwise [k0_pay13]
    | ⟨2, _⟩ => show k0_pay14 v w2 (ix2 r i) = ∑ e : Fin 512, v (ix2 r e) * w2 (ix3 0 i e); pointwise [k0_pay14]
    | ⟨3, _⟩ => show k0_pay15 v w3 (ix2 r i) = ∑ e : Fin 512, v (ix2 r e) * w3 (ix3 0 i e); pointwise [k0_pay15]
    | ⟨4, _⟩ => show matmul dot_S256x512_S128x512_S256x128_1_1_0_0_n_n none v (k0_pay16 w4) (constant S256x128 .f32 0x00000000#32) (ix2 r i) = ∑ e : Fin 512, v (ix2 r e) * w4 (ix3 0 i e); pointwise [k0_pay16]
    | ⟨5, _⟩ => show matmul dot_S256x512_S128x512_S256x128_1_1_0_0_n_n none v (shapeCast S128x512 w5 shapeCasts_S1x128x512_S128x512) (constant S256x128 .f32 0x00000000#32) (ix2 r i) = ∑ e : Fin 512, v (ix2 r e) * w5 (ix3 0 i e); pointwise
    | ⟨6, _⟩ => show matmul dot_S256x512_S128x512_S256x128_1_1_0_0_n_n none v (shapeCast S128x512 w6 shapeCasts_S1x128x512_S128x512) (constant S256x128 .f32 0x00000000#32) (ix2 r i) = ∑ e : Fin 512, v (ix2 r e) * w6 (ix3 0 i e); pointwise
    | ⟨7, _⟩ => show matmul dot_S256x512_S128x512_S256x128_1_1_0_0_n_n none v (shapeCast S128x512 w7 shapeCasts_S1x128x512_S128x512) (constant S256x128 .f32 0x00000000#32) (ix2 r i) = ∑ e : Fin 512, v (ix2 r e) * w7 (ix3 0 i e); pointwise
  simp only [← hc]
  pointwise

theorem ld3 {o : ℕ} (inb : ∀ a, (![o, 0, 0] : Fin 3 → ℕ) a + (![1, 128, 512] : Fin 3 → ℕ) a ≤ (⟨3, ![8, 128, 512]⟩ : Shape).size a) (Z : (⟨3, ![8, 128, 512]⟩ : Shape).Idx → EReal) (d : Fin 8) (i : Fin 128) (e : Fin 512) (h : d.val = o) :
    View.ld (Val := Elt Ideal) (e' := .bf16) Z (Rect.unit (s := ⟨3, ![8, 128, 512]⟩) ![o, 0, 0] ![1, 128, 512] inb) (ix3 0 i e) = Z (ix3 d i e) := by
  rw [View.ld_apply]
  refine congrArg _ ?_
  funext a
  match a with
  | ⟨0, _⟩ => exact Fin.ext (by show o + 1 * 0 = d.val; omega)
  | ⟨1, _⟩ => exact Fin.ext (by show 0 + 1 * i.val = i.val; omega)
  | ⟨2, _⟩ => exact Fin.ext (by show 0 + 1 * e.val = e.val; omega)

section Tile
variable (x0 x1 : Vec Ideal S256x256 .f32) (x2 : Vec Ideal S256x1024 .f32) (x3 : Vec Ideal S1x1024 .f32) (x4 : Vec Ideal S256x1024 .bf16) (x5 : Vec Ideal S8x128x512 .bf16)
theorem out6 (d : Fin 8) (i : Fin 128) (e : Fin 512) : out0_6 x0 x1 x2 x3 x4 x5 (ix3 d i e) = ∑ r : Fin 256, x4 (ix2 r (pc d i)) * cat x0 x1 r e := by
  have e0 : View.ld x0 r0_0 = x0 := ld_full _ x0
  have e1 : View.ld x1 r0_0 = x1 := ld_full _ x1
  have e4 : View.ld x4 r0_1 = x4 := ld_full _ x4
  unfold out0_6 k0_pay18
  rw [e0, e1, e4, ← pay3]
  exact cn_all _ _ _ _ _ _ _ _ _ _ _ _ _ _ _ _ (fun d i e => k0_pay3 x0 x1 x4 (ix2 (pc d i) e)) (p4 _ _ _) (p5 _ _ _) (p6 _ _ _) (p7 _ _ _) (p8 _ _ _) (p9 _) (p10 _) (p11 _) d i e
theorem out7 (d : Fin 8) (i : Fin 128) : out0_7 x0 x1 x2 x3 x4 x5 (ix2 0 (pc d i)) = ∑ r : Fin 256, (∑ e : Fin 512, cat x0 x1 r e * x5 (ix3 d i e)) * (x2 (ix2 r (pc d i)) * rinv (fun k => x2 (ix2 r k))) := by
  have e0 : View.ld x0 r0_0 = x0 := ld_full _ x0
  have e1 : View.ld x1 r0_0 = x1 := ld_full _ x1
  have e2 : View.ld x2 r0_1 = x2 := ld_full _ x2
  unfold out0_7 k0_pay17
  rw [e0, e1, e2]
  refine (congrFun (canon_all _ _) _).trans ((part _ _ _ _ _ _ _ _ _ _ d i).trans ?_)
  refine Finset.sum_congr rfl fun r _ => congrArg (· * _) (Finset.sum_congr rfl fun e _ => ?_)
  rw [pay2]
  refine congrArg (_ * ·) ?_
  match d with
  | ⟨0, h⟩ => exact ld3 _ x5 ⟨0, h⟩ i e rfl
  | ⟨1, h⟩ => exact ld3 _ x5 ⟨1, h⟩ i e rfl
  | ⟨2, h⟩ => exact ld3 _ x5 ⟨2, h⟩ i e rfl
  | ⟨3, h⟩ => exact ld3 _ x5 ⟨3, h⟩ i e rfl
  | ⟨4, h⟩ => exact ld3 _ x5 ⟨4, h⟩ i e rfl
  | ⟨5, h⟩ => exact ld3 _ x5 ⟨5, h⟩ i e rfl
  | ⟨6, h⟩ => exact ld3 _ x5 ⟨6, h⟩ i e rfl
  | ⟨7, h⟩ => exact ld3 _ x5 ⟨7, h⟩ i e rfl
end Tile

variable (m : (ℓ : Loc nD τ sig) → Buf (Elt Ideal) ℓ)

/-- The arguments of the call. -/
abbrev a0 (c : Dev nD) : S256x1024.Idx → EReal := m ((c : Thread nD τ).loc main_arg0)
abbrev a1 (c : Dev nD) : S1024.Idx → EReal := m ((c : Thread nD τ).loc main_arg1)
abbrev a2 (c : Dev nD) : S1024x512.Idx → EReal := m ((c : Thread nD τ).loc main_arg2)
abbrev a3 (c : Dev nD) : S256x256.Idx → EReal := m ((c : Thread nD τ).loc main_arg3)
abbrev a4 (c : Dev nD) : S256x256.Idx → EReal := m ((c : Thread nD τ).loc main_arg4)

theorem V_0 (c : Dev nD) : V m c main_arg0 = a0 m c := by
  unfold V; simp only [hostOps0]
  after_results
theorem V_3 (c : Dev nD) : V m c main_arg3 = a3 m c := by
  unfold V; simp only [hostOps0]
  after_results
theorem V_4 (c : Dev nD) : V m c main_arg4 = a4 m c := by
  unfold V; simp only [hostOps0]
  after_results
theorem V_v14 (c : Dev nD) (r : Fin 256) (k : Fin 1024) : V m c main_v14 (ix2 r k) = rms (fun k => a0 m c (ix2 r k)) (fun k => a1 m c (ix1 k)) k := by
  unfold V; simp only [hostOps0]
  unfold rms rinv
  after_results
  pointwise
theorem V_v16 (c : Dev nD) (d : Fin 8) (i : Fin 128) (e : Fin 512) : V m c main_v16 (ix3 d i e) = a2 m c (ix2 (pc d i) e) := by
  unfold V; simp only [hostOps0]
  after_results
  pointwise
  rfl

theorem idx : ∀ t : Fin cfg0.N, win0_0.index t = ![0, 0] ∧ win0_1.index t = ![0, 0] ∧ win0_2.index t = ![0, 0] ∧ win0_4.index t = ![0, 0] ∧ win0_5.index t = ![0, 0, 0] ∧ win0_6.index t = ![0, 0, 0] ∧ win0_7.index t = ![0, 0] :=
  (by decide +kernel : ∀ t : Fin grid0.N, _)
theorem i0 (t : Fin cfg0.N) : win0_0.index t = ![0, 0] := (idx t).1
theorem i1 (t : Fin cfg0.N) : win0_1.index t = ![0, 0] := (idx t).2.1
theorem i2 (t : Fin cfg0.N) : win0_2.index t = ![0, 0] := (idx t).2.2.1
theorem i4 (t : Fin cfg0.N) : win0_4.index t = ![0, 0] := (idx t).2.2.2.1
theorem i5 (t : Fin cfg0.N) : win0_5.index t = ![0, 0, 0] := (idx t).2.2.2.2.1
theorem i6 (t : Fin cfg0.N) : win0_6.index t = ![0, 0, 0] := (idx t).2.2.2.2.2.1
theorem i7 (t : Fin cfg0.N) : win0_7.index t = ![0, 0] := (idx t).2.2.2.2.2.2

theorem b0 (c : Dev nD) (t : Fin cfg0.N) (r : Fin 256) (k : Fin 256) : iblk m c 0 t (ix2 r k) = a3 m c (ix2 r k) := by
  rw [← V_3]
  blk_ext [iblk, i0]
theorem b1 (c : Dev nD) (t : Fin cfg0.N) (r : Fin 256) (k : Fin 256) : iblk m c 1 t (ix2 r k) = a4 m c (ix2 r k) := by
  rw [← V_4]
  blk_ext [iblk, i1]
theorem b2 (c : Dev nD) (t : Fin cfg0.N) (r : Fin 256) (k : Fin 1024) : iblk m c 2 t (ix2 r k) = a0 m c (ix2 r k) := by
  rw [← V_0]
  blk_ext [iblk, i2]
theorem b4 (c : Dev nD) (t : Fin cfg0.N) (r : Fin 256) (k : Fin 1024) : iblk m c 4 t (ix2 r k) = rms (fun k => a0 m c (ix2 r k)) (fun k => a1 m c (ix1 k)) k := by
  rw [← V_v14]
  blk_ext [iblk, i4]
theorem b5 (c : Dev nD) (t : Fin cfg0.N) (d : Fin 8) (i : Fin 128) (e : Fin 512) : iblk m c 5 t (ix3 d i e) = a2 m c (ix2 (pc d i) e) := by
  rw [← V_v16]
  blk_ext [iblk, i5]

/-- The gradients of the weight and of the gain. -/
def DW (x : S256x1024.Idx → EReal) (g : S1024.Idx → EReal) (p q : S256x256.Idx → EReal) (k : Fin 1024) (e : Fin 512) : EReal :=
  ∑ r : Fin 256, rms (fun k => x (ix2 r k)) (fun k => g (ix1 k)) k * cat p q r e
def DG (x : S256x1024.Idx → EReal) (w : S1024x512.Idx → EReal) (p q : S256x256.Idx → EReal) (k : Fin 1024) : EReal :=
  ∑ r : Fin 256, (∑ e : Fin 512, cat p q r e * w (ix2 k e)) * (x (ix2 r k) * rinv (fun k => x (ix2 r k)))

theorem arr6 (c : Dev nD) (d : Fin 8) (i : Fin 128) (e : Fin 512) : (dats m 0 c).arrAt 6 cfg0.N (ix3 d i e) = DW (a0 m c) (a1 m c) (a3 m c) (a4 m c) (pc d i) e := by
  suffices h : (dats m 0 c).arrAt 6 cfg0.N = fun j => DW (a0 m c) (a1 m c) (a3 m c) (a4 m c) (pc (j 0) (j 1)) (j 2) from congrFun h _
  refine (dats m 0 c).arrAt_eq_of_covers 6 _ (by decide +kernel) fun t hf y => ?_
  blk_simp
  rw [after0_6]
  idx_vars y
  have he : ((View.whole main_v17_0).slice (win0_6.rect t)).emb (ix3 y0 y1 y2) = ix3 y0 y1 y2 := by
    funext a
    match a with
    | ⟨0, _⟩ => exact Fin.ext (by show win0_6.index t 0 * 8 + 1 * y0.val = y0.val; rw [i6 t]; show 0 * 8 + 1 * y0.val = _; omega)
    | ⟨1, _⟩ => exact Fin.ext (by show win0_6.index t 1 * 128 + 1 * y1.val = y1.val; rw [i6 t]; show 0 * 128 + 1 * y1.val = _; omega)
    | ⟨2, _⟩ => exact Fin.ext (by show win0_6.index t 2 * 512 + 1 * y2.val = y2.val; rw [i6 t]; show 0 * 512 + 1 * y2.val = _; omega)
  rw [he]
  refine (out6 _ _ _ _ _ _ y0 y1 y2).trans ?_
  unfold DW cat
  simp only [b0, b1, b4]
  rfl

theorem arr7 (c : Dev nD) (d : Fin 8) (i : Fin 128) : (dats m 0 c).arrAt 7 cfg0.N (ix2 0 (pc d i)) = DG (a0 m c) (a2 m c) (a3 m c) (a4 m c) (pc d i) := by
  suffices h : (dats m 0 c).arrAt 7 cfg0.N = fun j => DG (a0 m c) (a2 m c) (a3 m c) (a4 m c) (j 1) from congrFun h _
  refine (dats m 0 c).arrAt_eq_of_covers 7 _ (by decide +kernel) fun t hf y => ?_
  blk_simp
  rw [after0_7]
  idx_vars y
  have he : ((View.whole main_v17_1).slice (win0_7.rect t)).emb (ix2 y0 y1) = ix2 y0 y1 := by
    funext a
    match a with
    | ⟨0, _⟩ => exact Fin.ext (by show win0_7.index t 0 * 1 + 1 * y0.val = y0.val; rw [i7 t]; show 0 * 1 + 1 * y0.val = _; omega)
    | ⟨1, _⟩ => exact Fin.ext (by show win0_7.index t 1 * 1024 + 1 * y1.val = y1.val; rw [i7 t]; show 0 * 1024 + 1 * y1.val = _; omega)
  rw [he]
  obtain rfl : y0 = 0 := Subsingleton.elim _ _
  obtain ⟨d, i, rfl⟩ : ∃ d i, y1 = pc d i := ⟨⟨y1.val / 128, by omega⟩, ⟨y1.val % 128, by omega⟩, Fin.ext (by show y1.val = y1.val / 128 * 128 + y1.val % 128; omega)⟩
  refine (out7 _ _ _ _ _ _ d i).trans ?_
  unfold DG cat
  simp only [b0, b1, b2, b5]
  rfl

end Cert.Kernel11Ideal.Mb

end

end
-- ==== Proof.MkbClaim.lean ====
/- The claim about the gradient of the projection of the memory. -/
module

public import proofs.«01_k».proof.Proof.MkbArr
public import proofs.«01_k».proof.Proof.Gen.Reference11Ideal.Read
public import proofs.«01_k».proof.Proof.PoolClaim

@[expose] public section

set_option maxRecDepth 16384

noncomputable section

open Idealize.ShloMosaic Idealize.ShloMosaic.TcCoe Idealize.SL.Sem
open Idealize.ShloMosaic.Pipeline (Dat)

namespace Cert.MkbClaim
open Idealize.ShloMosaic Idealize.SL.Sem

section Run
open Cert.Reference11Ideal
/-- The reference's run, its results named by the stages of its reading. -/
theorem runR (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v27) = Read.val_main_v27 (F := Ideal) (m ((c.tc : Thread nD τ).loc main_arg0)) (m ((c.tc : Thread nD τ).loc main_arg1)) (m ((c.tc : Thread nD τ).loc main_arg3)) (m ((c.tc : Thread nD τ).loc main_arg4))
      ∧ r.2.mem ((c.tc : Thread nD τ).loc main_v28) = Read.val_main_v28 (F := Ideal) (m ((c.tc : Thread nD τ).loc main_arg0)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (Read.val_main_v27_eq _ _ _ _), (h c).2.1.trans (Read.val_main_v28_eq _ _ _ _), (h c).2.2⟩)
    (Value.run (F := Ideal) m ρ)
end Run

/-- The reference ends with its arguments unchanged and every counter at zero. -/
theorem frameR : Cert.quiescent_Reference11Ideal (hReference11Ideal := Cert.Reference11Ideal.Gen.facts) := by
  intro m ρ _
  exact (θ_run Cert.Reference11Ideal.defs _ _).mono (fun r h => ⟨fun c => (h c).2.2, sem_eq_zero_of_no_sems (by decide) r.2⟩) (Cert.Reference11Ideal.Value.run (F := Ideal) m ρ)

section Eq
open Cert.Kernel11Ideal Cert.Kernel11Ideal.Gen Cert.Kernel11Ideal.Mb Idealize.ShloMosaic.TcCoe Cert.FfSpec

section Ref
open Cert.Reference11Ideal.Read
variable (x : S256x1024.Idx → EReal) (g : S1024.Idx → EReal) (w : S1024x512.Idx → EReal) (p q : S256x256.Idx → EReal)
theorem v9 (r : Fin 256) (k : Fin 1024) : val_main_v9 (F := Ideal) x (ix2 r k) = x (ix2 r k) * rinv (fun k => x (ix2 r k)) := by
  unfold rinv
  pointwise [val_main_v9, val_main_v8, val_main_v7, val_main_v6, val_main_v5, val_main_cst_1, val_main_v4, val_main_v3, val_main_cst_0, val_main_v2, val_main_v1, val_main_cst, val_main_v0]
theorem v12 (r : Fin 256) (k : Fin 1024) : val_main_v12 (F := Ideal) x g (ix2 r k) = rms (fun k => x (ix2 r k)) (fun k => g (ix1 k)) k := by
  unfold rms
  rw [← v9]
  pointwise [val_main_v12, val_main_v11, val_main_v10]
theorem v18 (r : Fin 256) (e : Fin 512) : val_main_v18 (F := Ideal) p q (ix2 r e) = cat p q r e := by
  pointwise [val_main_v18, val_main_v17, val_main_v16, val_main_cst_2, val_main_cst_3]
  unfold cat
  by_cases h : e.val < 256
  · rw [dif_neg (by omega), dif_pos h, dif_pos h, zero_add]
  · rw [dif_pos ⟨by omega, by omega⟩, dif_neg h, dif_neg h, add_zero]
theorem v27 (d : Fin 8) (i : Fin 128) (e : Fin 512) : val_main_v27 (F := Ideal) x g p q (ix3 d i e) = DW x g p q (pc d i) e := by
  unfold DW
  simp only [← v12, ← v18]
  pointwise [val_main_v27, val_main_v26, val_main_v20, val_main_v19]
  exact Finset.sum_congr rfl fun r _ => mul_comm _ _
theorem v28 (k : Fin 1024) : val_main_v28 (F := Ideal) x w p q (ix2 0 k) = DG x w p q k := by
  unfold DG
  simp only [← v9, ← v18]
  pointwise [val_main_v28, val_main_v25, val_main_cst_5, val_main_v24, val_main_v23, val_main_cst_4, val_main_v22, val_main_v21]
  exact (Fin.sum_univ_one _).trans (Finset.sum_congr rfl fun r _ => mul_comm _ _)
end Ref

variable (m : (ℓ : Loc nD τ sig) → Buf (Elt Ideal) ℓ) (c : Dev nD)
theorem e0 : (dats m 0 c).arrAt 6 cfg0.N = Cert.Reference11Ideal.Read.val_main_v27 (F := Ideal) (a0 m c) (a1 m c) (a3 m c) (a4 m c) := by
  funext y
  obtain ⟨d, i, e, rfl⟩ : ∃ d i e, y = ix3 d i e := ⟨_, _, _, eq_ix3 y⟩
  exact (arr6 m c d i e).trans (v27 _ _ _ _ d i e).symm
theorem e1 : (dats m 0 c).arrAt 7 cfg0.N = Cert.Reference11Ideal.Read.val_main_v28 (F := Ideal) (a0 m c) (a2 m c) (a3 m c) (a4 m c) := by
  funext y
  obtain ⟨z, k, rfl⟩ : ∃ z k, y = ix2 z k := ⟨_, _, eq_ix2 y⟩
  obtain rfl : z = 0 := Subsingleton.elim _ _
  obtain ⟨d, i, rfl⟩ : ∃ d i, k = pc d i := ⟨⟨k.val / 128, by omega⟩, ⟨k.val % 128, by omega⟩, Fin.ext (by show k.val = k.val / 128 * 128 + k.val % 128; omega)⟩
  exact (arr7 m c d i).trans (v28 _ _ _ _ _).symm
end Eq

/-- The launch and the reference, from memories that agree on the arguments. -/
theorem algebraic : Cert.algebraic_Kernel11Ideal_Reference11Ideal (hKernel11Ideal := Cert.Kernel11Ideal.Gen.facts) (hReference11Ideal := Cert.Reference11Ideal.Gen.facts) := by
  intro m g m' g' _ hag
  refine ⟨fun c => (Cert.Kernel11Ideal.Gen.dats m 0 c).arrAt 6 Cert.Kernel11Ideal.cfg0.N, fun c => (Cert.Kernel11Ideal.Gen.dats m 0 c).arrAt 7 Cert.Kernel11Ideal.cfg0.N,
    Cert.Kernel11Ideal.Value.run_blocks m g, (θ_run Cert.Reference11Ideal.defs _ _).mono (fun r h c => ?_) (runR m' g')⟩
  obtain ⟨a0, a1, a2, a3, a4⟩ := hag c
  obtain ⟨r0, r1, rest⟩ := h c
  rw [a0, a1, a3, a4] at r0
  rw [a0, a2, a3, a4] at r1
  exact ⟨r0.trans (e0 m c).symm, r1.trans (e1 m c).symm, rest⟩

end Cert.MkbClaim

end

end
-- ==== Proof.MkfArr.lean ====
/- The arrays the projection of the memory leaves. -/
module

public import proofs.«01_k».proof.Proof.Gen.Kernel15Ideal.Value
public import proofs.«01_k».proof.Proof.MkbArr

@[expose] public section

set_option maxRecDepth 16384

noncomputable section

open Idealize.ShloMosaic Idealize.ShloMosaic.TcCoe Idealize.SL.Sem
open Idealize.ShloMosaic.Pipeline (Dat)

namespace Cert.Kernel15Ideal.Mf
open Cert.Kernel15Ideal Cert.Kernel15Ideal.Gen Cert.Slices Cert.FfSpec
open Cert.Kernel11Ideal.Mb (pc ld3)

/-- The columns of the keys and of the values. -/
def lo (e : Fin 256) : Fin 512 := ⟨e.val, by omega⟩
def hi (e : Fin 256) : Fin 512 := ⟨256 + e.val, by omega⟩

theorem sum_pc (f : Fin 1024 → EReal) : ∑ k, f k = ∑ d : Fin 8, ∑ i : Fin 128, f (pc d i) := by
  rw [← (finProdFinEquiv (m := 8) (n := 128)).sum_comp, Fintype.sum_prod_type]
  exact Finset.sum_congr rfl fun d _ => Finset.sum_congr rfl fun i _ => congrArg f (Fin.ext (by show i.val + 128 * d.val = d.val * 128 + i.val; omega))

theorem pay4 (h : Vec Ideal S256x1024 .f32) (g : Vec Ideal S1x1024 .f32) (r : Fin 256) (k : Fin 1024) :
    k0_pay4 h g (ix2 r k) = rms (fun k => h (ix2 r k)) (fun k => g (ix2 0 k)) k := by
  unfold rms rinv
  pointwise [k0_pay4]
theorem pay1 (h : Vec Ideal S256x1024 .f32) (g : Vec Ideal S1x1024 .f32) (w0 w1 w2 w3 w4 w5 w6 w7 : Vec Ideal S1x128x512 .bf16) (r : Fin 256) (e : Fin 512) :
    k0_pay1 (k0_pay4 h g) (k0_pay5 h g w0 w1 w2) (k0_pay6 h g) w3 w4 w5 w6 w7 (ix2 r e)
      = ∑ d : Fin 8, ∑ i : Fin 128, k0_pay4 h g (ix2 r (pc d i)) * (![w0, w1, w2, w3, w4, w5, w6, w7] : Fin 8 → Vec Ideal S1x128x512 .bf16) d (ix3 0 i e) := by
  refine Eq.trans ?_ (Fin.sum_univ_eight _).symm
  have h0 : ∀ i : Fin 128, pc 0 i = ⟨i.val, by omega⟩ := fun i => Fin.ext (by show 0 * 128 + i.val = i.val; omega)
  simp only [h0]
  unfold k0_pay5 k0_pay6
  generalize k0_pay4 h g = u
  pointwise [k0_pay1]
  rfl

section Tile
variable (x0 : Vec Ideal S256x1024 .f32) (x1 : Vec Ideal S1x1024 .f32) (x2 : Vec Ideal S8x128x512 .bf16)
theorem out3 (r : Fin 256) (k : Fin 1024) : out0_3 x0 x1 x2 (ix2 r k) = rms (fun k => x0 (ix2 r k)) (fun k => x1 (ix2 0 k)) k := by
  have e0 : View.ld x0 r0_0 = x0 := ld_full _ x0
  have e1 : View.ld x1 r0_1 = x1 := ld_full _ x1
  unfold out0_3
  rw [e0, e1]
  exact (congrFun (canon_all _ _) _).trans (pay4 _ _ r k)
theorem kv (r : Fin 256) (e : Fin 512) :
    k0_pay1 (k0_pay7 x0 x1 x2) (k0_pay8 x0 x1 x2) (k0_pay9 x0 x1 x2) (View.ld x2 r0_5) (View.ld x2 r0_6) (View.ld x2 r0_7) (View.ld x2 r0_8) (View.ld x2 r0_9) (ix2 r e)
      = ∑ d : Fin 8, ∑ i : Fin 128, rms (fun k => x0 (ix2 r k)) (fun k => x1 (ix2 0 k)) (pc d i) * x2 (ix3 d i e) := by
  have e0 : View.ld x0 r0_0 = x0 := ld_full _ x0
  have e1 : View.ld x1 r0_1 = x1 := ld_full _ x1
  unfold k0_pay7 k0_pay8 k0_pay9
  rw [e0, e1, pay1]
  refine Finset.sum_congr rfl fun d _ => Finset.sum_congr rfl fun i _ => ?_
  rw [pay4]
  refine congrArg (fun z : EReal => rms (fun k => x0 (ix2 r k)) (fun k => x1 (ix2 0 k)) (pc d i) * z) ?_
  match d with
  | ⟨0, h⟩ => exact ld3 _ x2 ⟨0, h⟩ i e rfl
  | ⟨1, h⟩ => exact ld3 _ x2 ⟨1, h⟩ i e rfl
  | ⟨2, h⟩ => exact ld3 _ x2 ⟨2, h⟩ i e rfl
  | ⟨3, h⟩ => exact ld3 _ x2 ⟨3, h⟩ i e rfl
  | ⟨4, h⟩ => exact ld3 _ x2 ⟨4, h⟩ i e rfl
  | ⟨5, h⟩ => exact ld3 _ x2 ⟨5, h⟩ i e rfl
  | ⟨6, h⟩ => exact ld3 _ x2 ⟨6, h⟩ i e rfl
  | ⟨7, h⟩ => exact ld3 _ x2 ⟨7, h⟩ i e rfl
theorem out4 (r : Fin 256) (e : Fin 256) : out0_4 x0 x1 x2 (ix2 r e) = ∑ d : Fin 8, ∑ i : Fin 128, rms (fun k => x0 (ix2 r k)) (fun k => x1 (ix2 0 k)) (pc d i) * x2 (ix3 d i (lo e)) := by
  unfold out0_4
  rw [← kv]
  refine (congrFun (canon_all _ _) _).trans ?_
  unfold k0_pay2 lo
  generalize k0_pay1 (F := Ideal) _ _ _ _ _ _ _ _ = z
  pointwise
theorem out5 (r : Fin 256) (e : Fin 256) : out0_5 x0 x1 x2 (ix2 r e) = ∑ d : Fin 8, ∑ i : Fin 128, rms (fun k => x0 (ix2 r k)) (fun k => x1 (ix2 0 k)) (pc d i) * x2 (ix3 d i (hi e)) := by
  unfold out0_5
  rw [← kv]
  refine (congrFun (canon_all _ _) _).trans ?_
  unfold k0_pay3 hi
  generalize k0_pay1 (F := Ideal) _ _ _ _ _ _ _ _ = z
  pointwise
end Tile

variable (m : (ℓ : Loc nD τ sig) → Buf (Elt Ideal) ℓ)

/-- The arguments of the call. -/
abbrev a0 (c : Dev nD) : S256x1024.Idx → EReal := m ((c : Thread nD τ).loc main_arg0)
abbrev a1 (c : Dev nD) : S1024.Idx → EReal := m ((c : Thread nD τ).loc main_arg1)
abbrev a2 (c : Dev nD) : S1024x512.Idx → EReal := m ((c : Thread nD τ).loc main_arg2)

theorem V_0 (c : Dev nD) : V m c main_arg0 = a0 m c := by
  unfold V; simp only [hostOps0]
  after_results
theorem V_v0 (c : Dev nD) (k : Fin 1024) : V m c main_v0 (ix2 0 k) = a1 m c (ix1 k) := by
  unfold V; simp only [hostOps0]
  after_results
  pointwise
theorem V_v2 (c : Dev nD) (d : Fin 8) (i : Fin 128) (e : Fin 512) : V m c main_v2 (ix3 d i e) = a2 m c (ix2 (pc d i) e) := by
  unfold V; simp only [hostOps0]
  after_results
  pointwise
  rfl

theorem idx : ∀ t : Fin cfg0.N, win0_0.index t = ![0, 0] ∧ win0_1.index t = ![0, 0] ∧ win0_2.index t = ![0, 0, 0] ∧ win0_3.index t = ![0, 0] ∧ win0_4.index t = ![0, 0] ∧ win0_5.index t = ![0, 0] :=
  (by decide +kernel : ∀ t : Fin grid0.N, _)
theorem i0 (t : Fin cfg0.N) : win0_0.index t = ![0, 0] := (idx t).1
theorem i1 (t : Fin cfg0.N) : win0_1.index t = ![0, 0] := (idx t).2.1
theorem i2 (t : Fin cfg0.N) : win0_2.index t = ![0, 0, 0] := (idx t).2.2.1
theorem i3 (t : Fin cfg0.N) : win0_3.index t = ![0, 0] := (idx t).2.2.2.1
theorem i4 (t : Fin cfg0.N) : win0_4.index t = ![0, 0] := (idx t).2.2.2.2.1
theorem i5 (t : Fin cfg0.N) : win0_5.index t = ![0, 0] := (idx t).2.2.2.2.2

theorem b0 (c : Dev nD) (t : Fin cfg0.N) (r : Fin 256) (k : Fin 1024) : iblk m c 0 t (ix2 r k) = a0 m c (ix2 r k) := by
  rw [← V_0]
  blk_ext [iblk, i0]
theorem b1 (c : Dev nD) (t : Fin cfg0.N) (k : Fin 1024) : iblk m c 1 t (ix2 0 k) = a1 m c (ix1 k) := by
  rw [← V_v0]
  blk_ext [iblk, i1]
theorem b2 (c : Dev nD) (t : Fin cfg0.N) (d : Fin 8) (i : Fin 128) (e : Fin 512) : iblk m c 2 t (ix3 d i e) = a2 m c (ix2 (pc d i) e) := by
  rw [← V_v2]
  blk_ext [iblk, i2]

/-- The normalised rows, and their projection. -/
def U (h : S256x1024.Idx → EReal) (g : S1024.Idx → EReal) (r : Fin 256) (k : Fin 1024) : EReal := rms (fun k => h (ix2 r k)) (fun k => g (ix1 k)) k
def P (h : S256x1024.Idx → EReal) (g : S1024.Idx → EReal) (w : S1024x512.Idx → EReal) (r : Fin 256) (e : Fin 512) : EReal := ∑ k, U h g r k * w (ix2 k e)

theorem arr3 (c : Dev nD) : (dats m 0 c).arrAt 3 cfg0.N = fun j => U (a0 m c) (a1 m c) (j 0) (j 1) := by
  refine (dats m 0 c).arrAt_eq_of_covers 3 _ (by decide +kernel) fun t hf y => ?_
  blk_simp
  rw [after0_3]
  idx_vars y
  have he : ((View.whole main_v3_0).slice (win0_3.rect t)).emb (ix2 y0 y1) = ix2 y0 y1 := by
    funext a
    match a with
    | ⟨0, _⟩ => exact Fin.ext (by show win0_3.index t 0 * 256 + 1 * y0.val = y0.val; rw [i3 t]; show 0 * 256 + 1 * y0.val = _; omega)
    | ⟨1, _⟩ => exact Fin.ext (by show win0_3.index t 1 * 1024 + 1 * y1.val = y1.val; rw [i3 t]; show 0 * 1024 + 1 * y1.val = _; omega)
  rw [he]
  refine (out3 _ _ _ y0 y1).trans ?_
  unfold U
  simp only [b0, b1]
  rfl

theorem arr4 (c : Dev nD) : (dats m 0 c).arrAt 4 cfg0.N = fun j => P (a0 m c) (a1 m c) (a2 m c) (j 0) (lo (j 1)) := by
  refine (dats m 0 c).arrAt_eq_of_covers 4 _ (by decide +kernel) fun t hf y => ?_
  blk_simp
  rw [after0_4]
  idx_vars y
  have he : ((View.whole main_v3_1).slice (win0_4.rect t)).emb (ix2 y0 y1) = ix2 y0 y1 := by
    funext a
    match a with
    | ⟨0, _⟩ => exact Fin.ext (by show win0_4.index t 0 * 256 + 1 * y0.val = y0.val; rw [i4 t]; show 0 * 256 + 1 * y0.val = _; omega)
    | ⟨1, _⟩ => exact Fin.ext (by show win0_4.index t 1 * 256 + 1 * y1.val = y1.val; rw [i4 t]; show 0 * 256 + 1 * y1.val = _; omega)
  rw [he]
  refine (out4 _ _ _ y0 y1).trans ?_
  unfold P U
  rw [sum_pc]
  simp only [b0, b1, b2]
  rfl

theorem arr5 (c : Dev nD) : (dats m 0 c).arrAt 5 cfg0.N = fun j => P (a0 m c) (a1 m c) (a2 m c) (j 0) (hi (j 1)) := by
  refine (dats m 0 c).arrAt_eq_of_covers 5 _ (by decide +kernel) fun t hf y => ?_
  blk_simp
  rw [after0_5]
  idx_vars y
  have he : ((View.whole main_v3_2).slice (win0_5.rect t)).emb (ix2 y0 y1) = ix2 y0 y1 := by
    funext a
    match a with
    | ⟨0, _⟩ => exact Fin.ext (by show win0_5.index t 0 * 256 + 1 * y0.val = y0.val; rw [i5 t]; show 0 * 256 + 1 * y0.val = _; omega)
    | ⟨1, _⟩ => exact Fin.ext (by show win0_5.index t 1 * 256 + 1 * y1.val = y1.val; rw [i5 t]; show 0 * 256 + 1 * y1.val = _; omega)
  rw [he]
  refine (out5 _ _ _ y0 y1).trans ?_
  unfold P U
  rw [sum_pc]
  simp only [b0, b1, b2]
  rfl

end Cert.Kernel15Ideal.Mf

end

end
-- ==== Proof.MkfClaim.lean ====
/- The claim about the projection of the memory. -/
module

public import proofs.«01_k».proof.Proof.MkfArr
public import proofs.«01_k».proof.Proof.Gen.Reference15Ideal.Read
public import proofs.«01_k».proof.Proof.PoolClaim

@[expose] public section

set_option maxRecDepth 16384

noncomputable section

open Idealize.ShloMosaic Idealize.ShloMosaic.TcCoe Idealize.SL.Sem
open Idealize.ShloMosaic.Pipeline (Dat)

namespace Cert.MkfClaim
open Idealize.ShloMosaic Idealize.SL.Sem

section Run
open Cert.Reference15Ideal
/-- The reference's run, its results named by the stages of its reading. -/
theorem runR (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v14) = Read.val_main_v14 (F := Ideal) (m ((c.tc : Thread nD τ).loc main_arg0)) (m ((c.tc : Thread nD τ).loc main_arg1))
      ∧ r.2.mem ((c.tc : Thread nD τ).loc main_v16) = Read.val_main_v16 (F := Ideal) (m ((c.tc : Thread nD τ).loc main_arg0)) (m ((c.tc : Thread nD τ).loc main_arg1)) (m ((c.tc : Thread nD τ).loc main_arg2))
      ∧ r.2.mem ((c.tc : Thread nD τ).loc main_v18) = Read.val_main_v18 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (Read.val_main_v14_eq _ _), (h c).2.1.trans (Read.val_main_v16_eq _ _ _), (h c).2.2.1.trans (Read.val_main_v18_eq _ _ _), (h c).2.2.2⟩)
    (Value.run (F := Ideal) m ρ)
end Run

/-- The reference ends with its arguments unchanged and every counter at zero. -/
theorem frameR : Cert.quiescent_Reference15Ideal (hReference15Ideal := Cert.Reference15Ideal.Gen.facts) := by
  intro m ρ _
  exact (θ_run Cert.Reference15Ideal.defs _ _).mono (fun r h => ⟨fun c => (h c).2.2.2, sem_eq_zero_of_no_sems (by decide) r.2⟩) (Cert.Reference15Ideal.Value.run (F := Ideal) m ρ)

section Eq
open Cert.Kernel15Ideal Cert.Kernel15Ideal.Gen Cert.Kernel15Ideal.Mf Idealize.ShloMosaic.TcCoe Cert.FfSpec

section Ref
open Cert.Reference15Ideal.Read
variable (x : S256x1024.Idx → EReal) (g : S1024.Idx → EReal) (w : S1024x512.Idx → EReal)
theorem v12 (r : Fin 256) (k : Fin 1024) : val_main_v12 (F := Ideal) x g (ix2 r k) = U x g r k := by
  unfold U rms rinv
  pointwise [val_main_v12, val_main_v11, val_main_v10, val_main_v9, val_main_v8, val_main_v7, val_main_v6, val_main_v5, val_main_cst_1, val_main_v4, val_main_v3, val_main_cst_0, val_main_v2, val_main_v1, val_main_cst, val_main_v0]
theorem v13 (r : Fin 256) (e : Fin 512) : val_main_v13 (F := Ideal) x g w (ix2 r e) = P x g w r e := by
  unfold P
  simp only [← v12]
  pointwise [val_main_v13]
theorem v14 (r : Fin 256) (k : Fin 1024) : val_main_v14 (F := Ideal) x g (ix2 r k) = U x g r k := by
  rw [← v12]
  pointwise [val_main_v14]
theorem v16 (r : Fin 256) (e : Fin 256) : val_main_v16 (F := Ideal) x g w (ix2 r e) = P x g w r (lo e) := by
  rw [← v13]
  unfold lo
  pointwise [val_main_v16, val_main_v15]
theorem v18 (r : Fin 256) (e : Fin 256) : val_main_v18 (F := Ideal) x g w (ix2 r e) = P x g w r (hi e) := by
  rw [← v13]
  unfold hi
  pointwise [val_main_v18, val_main_v17]
end Ref

variable (m : (ℓ : Loc nD τ sig) → Buf (Elt Ideal) ℓ) (c : Dev nD)
theorem e0 : (dats m 0 c).arrAt 3 cfg0.N = Cert.Reference15Ideal.Read.val_main_v14 (F := Ideal) (a0 m c) (a1 m c) := by
  rw [arr3]
  funext y
  obtain ⟨i, j, rfl⟩ : ∃ i j, y = ix2 i j := ⟨_, _, eq_ix2 y⟩
  exact (v14 _ _ i j).symm
theorem e1 : (dats m 0 c).arrAt 4 cfg0.N = Cert.Reference15Ideal.Read.val_main_v16 (F := Ideal) (a0 m c) (a1 m c) (a2 m c) := by
  rw [arr4]
  funext y
  obtain ⟨i, j, rfl⟩ : ∃ i j, y = ix2 i j := ⟨_, _, eq_ix2 y⟩
  exact (v16 _ _ _ i j).symm
theorem e2 : (dats m 0 c).arrAt 5 cfg0.N = Cert.Reference15Ideal.Read.val_main_v18 (F := Ideal) (a0 m c) (a1 m c) (a2 m c) := by
  rw [arr5]
  funext y
  obtain ⟨i, j, rfl⟩ : ∃ i j, y = ix2 i j := ⟨_, _, eq_ix2 y⟩
  exact (v18 _ _ _ i j).symm
end Eq

/-- The launch and the reference, from memories that agree on the arguments. -/
theorem algebraic : Cert.algebraic_Kernel15Ideal_Reference15Ideal (hKernel15Ideal := Cert.Kernel15Ideal.Gen.facts) (hReference15Ideal := Cert.Reference15Ideal.Gen.facts) := by
  intro m g m' g' _ hag
  refine ⟨fun c => (Cert.Kernel15Ideal.Gen.dats m 0 c).arrAt 3 Cert.Kernel15Ideal.cfg0.N, fun c => (Cert.Kernel15Ideal.Gen.dats m 0 c).arrAt 4 Cert.Kernel15Ideal.cfg0.N, fun c => (Cert.Kernel15Ideal.Gen.dats m 0 c).arrAt 5 Cert.Kernel15Ideal.cfg0.N,
    Cert.Kernel15Ideal.Value.run_blocks m g, (θ_run Cert.Reference15Ideal.defs _ _).mono (fun r h c => ?_) (runR m' g')⟩
  obtain ⟨a0, a1, a2⟩ := hag c
  obtain ⟨r0, r1, r2, rest⟩ := h c
  rw [a0, a1] at r0
  rw [a0, a1, a2] at r1 r2
  exact ⟨r0.trans (e0 m c).symm, r1.trans (e1 m c).symm, r2.trans (e2 m c).symm, rest⟩

end Cert.MkfClaim

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Pre_finite2
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel15Ideal.Value
public import proofs.«01_k».proof.Proof.Gen.Reference15Ideal.Run
public import proofs.«01_k».proof.Proof.Gen.Reference15Ideal.Read
public import proofs.«01_k».proof.Proof.PoolClaim
public import proofs.«01_k».proof.Proof.FbClaim
public import proofs.«01_k».proof.Proof.FfClaim
public import proofs.«01_k».proof.Proof.WgClaim
public import proofs.«01_k».proof.Proof.WrClaim
public import proofs.«01_k».proof.Proof.MipClaim
public import proofs.«01_k».proof.Proof.MisClaim
public import proofs.«01_k».proof.Proof.MsfClaim
public import proofs.«01_k».proof.Proof.WwoClaim
public import proofs.«01_k».proof.Proof.WipClaim
public import proofs.«01_k».proof.Proof.WisClaim
public import proofs.«01_k».proof.Proof.MofClaim
public import proofs.«01_k».proof.Proof.MopClaim
public import proofs.«01_k».proof.Proof.MkbClaim
public import proofs.«01_k».proof.Proof.MkfClaim
public import Idealize.ShloMosaic.Adequacy
public import Idealize.ShloMosaic.Init

@[expose] public section

noncomputable section

namespace Cert.Proof

open Idealize.ShloMosaic Idealize.SL.Sem

theorem claim : Cert.Claim := ⟨Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel7.Gen.facts,
  Cert.Kernel7Ideal.Gen.facts,
  Cert.Reference7Ideal.Gen.facts,
  Cert.Kernel8.Gen.facts,
  Cert.Kernel8Ideal.Gen.facts,
  Cert.Reference8Ideal.Gen.facts,
  Cert.Kernel14.Gen.facts,
  Cert.Kernel14Ideal.Gen.facts,
  Cert.Reference14Ideal.Gen.facts,
  Cert.Kernel16.Gen.facts,
  Cert.Kernel16Ideal.Gen.facts,
  Cert.Reference16Ideal.Gen.facts,
  Cert.Kernel17.Gen.facts,
  Cert.Kernel17Ideal.Gen.facts,
  Cert.Reference17Ideal.Gen.facts,
  Cert.Kernel18.Gen.facts,
  Cert.Kernel18Ideal.Gen.facts,
  Cert.Reference18Ideal.Gen.facts,
  Cert.Kernel12.Gen.facts,
  Cert.Kernel12Ideal.Gen.facts,
  Cert.Reference12Ideal.Gen.facts,
  Cert.Kernel13.Gen.facts,
  Cert.Kernel13Ideal.Gen.facts,
  Cert.Reference13Ideal.Gen.facts,
  Cert.Kernel11.Gen.facts,
  Cert.Kernel11Ideal.Gen.facts,
  Cert.Reference11Ideal.Gen.facts,
  Cert.Kernel15.Gen.facts,
  Cert.Kernel15Ideal.Gen.facts,
  Cert.Reference15Ideal.Gen.facts,
  Cert.Pre_finite.Gen.facts,
  Cert.Pre_finite2.Gen.facts,
  fun m ρ _ => Cert.Kernel.Gen.frame m ρ,
  fun m ρ _ => Cert.KernelIdeal.Gen.frame m ρ,
  fun m ρ _ => Cert.KernelIdeal.Gen.frame m ρ,
  PoolClaim.frameR,
  fun m ρ _ => PoolClaim.frameR m ρ trivial,
  fun m ρ _ => Cert.Kernel2.Gen.frame m ρ,
  fun m ρ _ => Cert.Kernel2Ideal.Gen.frame m ρ,
  fun m ρ _ => Cert.Kernel2Ideal.Gen.frame m ρ,
  FbClaim.frameR,
  fun m ρ _ => FbClaim.frameR m ρ trivial,
  fun m ρ _ => Cert.Kernel3.Gen.frame m ρ,
  fun m ρ _ => Cert.Kernel3Ideal.Gen.frame m ρ,
  FfClaim.frameR,
  fun m ρ _ => Cert.Kernel4.Gen.frame m ρ,
  fun m ρ _ => Cert.Kernel4Ideal.Gen.frame m ρ,
  WgClaim.frameR,
  fun m ρ _ => Cert.Kernel5.Gen.frame m ρ,
  fun m ρ _ => Cert.Kernel5Ideal.Gen.frame m ρ,
  WrClaim.frameR,
  fun m ρ _ => Cert.Kernel7.Gen.frame m ρ,
  fun m ρ _ => Cert.Kernel7Ideal.Gen.frame m ρ,
  MipClaim.frameR,
  fun m ρ _ => Cert.Kernel8.Gen.frame m ρ,
  fun m ρ _ => Cert.Kernel8Ideal.Gen.frame m ρ,
  MisClaim.frameR,
  fun m ρ _ => Cert.Kernel14.Gen.frame m ρ,
  fun m ρ _ => Cert.Kernel14Ideal.Gen.frame m ρ,
  MsfClaim.frameR,
  fun m ρ _ => Cert.Kernel16.Gen.frame m ρ,
  fun m ρ _ => Cert.Kernel16Ideal.Gen.frame m ρ,
  WwoClaim.frameR,
  fun m ρ _ => Cert.Kernel17.Gen.frame m ρ,
  fun m ρ _ => Cert.Kernel17Ideal.Gen.frame m ρ,
  WipClaim.frameR,
  fun m ρ _ => Cert.Kernel18.Gen.frame m ρ,
  fun m ρ _ => Cert.Kernel18Ideal.Gen.frame m ρ,
  WisClaim.frameR,
  fun m ρ _ => Cert.Kernel12.Gen.frame m ρ,
  fun m ρ _ => Cert.Kernel12Ideal.Gen.frame m ρ,
  MofClaim.frameR,
  fun m ρ _ => Cert.Kernel13.Gen.frame m ρ,
  fun m ρ _ => Cert.Kernel13Ideal.Gen.frame m ρ,
  MopClaim.frameR,
  fun m ρ _ => Cert.Kernel11.Gen.frame m ρ,
  fun m ρ _ => Cert.Kernel11Ideal.Gen.frame m ρ,
  MkbClaim.frameR,
  fun m ρ _ => Cert.Kernel15.Gen.frame m ρ,
  fun m ρ _ => Cert.Kernel15Ideal.Gen.frame m ρ,
  MkfClaim.frameR,
  trivial,
  PoolClaim.algebraic,
  trivial,
  FbClaim.algebraic,
  trivial,
  FfClaim.algebraic,
  trivial,
  WgClaim.algebraic,
  trivial,
  WrClaim.algebraic,
  trivial,
  MipClaim.algebraic,
  trivial,
  MisClaim.algebraic,
  trivial,
  MsfClaim.algebraic,
  trivial,
  WwoClaim.algebraic,
  trivial,
  WipClaim.algebraic,
  trivial,
  WisClaim.algebraic,
  trivial,
  MofClaim.algebraic,
  trivial,
  MopClaim.algebraic,
  trivial,
  MkbClaim.algebraic,
  trivial,
  MkfClaim.algebraic⟩

end Cert.Proof

end
